-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_in_grad_finite [hPre_in_grad_finite : Cert.Pre_in_grad_finite.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_in_grad_finite.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_in_grad_finite [hPre_in_grad_finite : Cert.Pre_in_grad_finite.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_in_grad_finite.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_out_grad_finite [hPre_out_grad_finite : Cert.Pre_out_grad_finite.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_out_grad_finite.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_out_grad_finite [hPre_out_grad_finite : Cert.Pre_out_grad_finite.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_out_grad_finite.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_mix_grad_finite [hPre_mix_grad_finite : Cert.Pre_mix_grad_finite.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_mix_grad_finite.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg7))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_mix_grad_finite [hPre_mix_grad_finite : Cert.Pre_mix_grad_finite.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_mix_grad_finite.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6)) (m ((c.tc : Thread Cert.Reference11Ideal.nD Cert.Reference11Ideal.τ).loc Cert.Reference11Ideal.main_arg7))) = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Kernel9Ideal_pre_in_grad_finite [hKernel9Ideal : Cert.Kernel9Ideal.Facts] [hPre_in_grad_finite : Cert.Pre_in_grad_finite.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_in_grad_finite m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Reference9Ideal_pre_in_grad_finite [hReference9Ideal : Cert.Reference9Ideal.Facts] [hPre_in_grad_finite : Cert.Pre_in_grad_finite.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_in_grad_finite m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8))
      ∧ r.2.sem = fun _ => 0)

def quiescent_Kernel10Ideal_pre_out_grad_finite [hKernel10Ideal : Cert.Kernel10Ideal.Facts] [hPre_out_grad_finite : Cert.Pre_out_grad_finite.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_out_grad_finite m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8))
      ∧ r.2.sem = fun _ => 0)

def quiescent_Reference10Ideal_pre_out_grad_finite [hReference10Ideal : Cert.Reference10Ideal.Facts] [hPre_out_grad_finite : Cert.Pre_out_grad_finite.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_out_grad_finite m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ r.2.sem = fun _ => 0)

def quiescent_Kernel11Ideal_pre_mix_grad_finite [hKernel11Ideal : Cert.Kernel11Ideal.Facts] [hPre_mix_grad_finite : Cert.Pre_mix_grad_finite.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_mix_grad_finite m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7))
      ∧ r.2.sem = fun _ => 0)

def quiescent_Reference11Ideal_pre_mix_grad_finite [hReference11Ideal : Cert.Reference11Ideal.Facts] [hPre_mix_grad_finite : Cert.Pre_mix_grad_finite.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_mix_grad_finite m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6)
      ∧ r.2.mem ((c.tc : Thread Cert.Kernel13.nD Cert.Kernel13.τ).loc Cert.Kernel13.main_arg7) = m ((c.tc : Thread Cert.Kernel13.nD Cert.Kernel13.τ).loc Cert.Kernel13.main_arg7)
      ∧ r.2.mem ((c.tc : Thread Cert.Kernel13.nD Cert.Kernel13.τ).loc Cert.Kernel13.main_arg8) = m ((c.tc : Thread Cert.Kernel13.nD Cert.Kernel13.τ).loc Cert.Kernel13.main_arg8))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
      ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7)
      ∧ r.2.mem ((c.tc : Thread Cert.Reference13Ideal.nD Cert.Reference13Ideal.τ).loc Cert.Reference13Ideal.main_arg8) = m ((c.tc : Thread Cert.Reference13Ideal.nD Cert.Reference13Ideal.τ).loc Cert.Reference13Ideal.main_arg8))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def preserves_Kernel_KernelIdeal : Prop :=
  IdealRules.named_const.Statement Cert.KernelIdeal.κ "gelu_c" .bf16 0x3F4C#16 ((6693141 / 8388608 : ℝ) : EReal)
  ∧ IdealRules.named_const.Statement Cert.KernelIdeal.κ "gelu_a" .bf16 0x3D37#16 ((12003091 / 268435456 : ℝ) : EReal)
  ∧ IdealRules.named_const.Statement Cert.KernelIdeal.κ "six_gelu_ca" .bf16 0x3E5B#16 ((241015141496493 / 1125899906842624 : ℝ) : EReal)
  ∧ IdealRules.named_const.Statement Cert.KernelIdeal.κ "two_gelu_c" .bf16 0x3FCC#16 ((6693141 / 4194304 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v50_0)) (v1 : (c : Dev Cert.KernelIdeal.nD) → Buf (Elt Ideal) ((c.tc : Thread Cert.KernelIdeal.nD Cert.KernelIdeal.τ).loc Cert.KernelIdeal.main_v50_1)) (v2 : (c : Dev Cert.KernelIdeal.nD) → Buf (Elt Ideal) ((c.tc : Thread Cert.KernelIdeal.nD Cert.KernelIdeal.τ).loc Cert.KernelIdeal.main_v50_2)) (v3 : (c : Dev Cert.KernelIdeal.nD) → Buf (Elt Ideal) ((c.tc : Thread Cert.KernelIdeal.nD Cert.KernelIdeal.τ).loc Cert.KernelIdeal.main_v50_3)) (v4 : (c : Dev Cert.KernelIdeal.nD) → Buf (Elt Ideal) ((c.tc : Thread Cert.KernelIdeal.nD Cert.KernelIdeal.τ).loc Cert.KernelIdeal.main_v50_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50_0) = v0 c
          ∧ r.2.mem ((c.tc : Thread Cert.KernelIdeal.nD Cert.KernelIdeal.τ).loc Cert.KernelIdeal.main_v50_1) = v1 c
          ∧ r.2.mem ((c.tc : Thread Cert.KernelIdeal.nD Cert.KernelIdeal.τ).loc Cert.KernelIdeal.main_v50_2) = v2 c
          ∧ r.2.mem ((c.tc : Thread Cert.KernelIdeal.nD Cert.KernelIdeal.τ).loc Cert.KernelIdeal.main_v50_3) = v3 c
          ∧ r.2.mem ((c.tc : Thread Cert.KernelIdeal.nD Cert.KernelIdeal.τ).loc Cert.KernelIdeal.main_v50_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_v115) = v1 c
          ∧ r.2.mem ((c.tc : Thread Cert.ReferenceIdeal.nD Cert.ReferenceIdeal.τ).loc Cert.ReferenceIdeal.main_v142) = v2 c
          ∧ r.2.mem ((c.tc : Thread Cert.ReferenceIdeal.nD Cert.ReferenceIdeal.τ).loc Cert.ReferenceIdeal.main_v143) = v3 c
          ∧ r.2.mem ((c.tc : Thread Cert.ReferenceIdeal.nD Cert.ReferenceIdeal.τ).loc Cert.ReferenceIdeal.main_v144) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v2) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal_pre_in_grad_finite [hKernel9Ideal : Cert.Kernel9Ideal.Facts] [hReference9Ideal : Cert.Reference9Ideal.Facts] [hPre_in_grad_finite : Cert.Pre_in_grad_finite.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_in_grad_finite m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v39_0)) (v1 : (c : Dev Cert.Kernel9Ideal.nD) → Buf (Elt Ideal) ((c.tc : Thread Cert.Kernel9Ideal.nD Cert.Kernel9Ideal.τ).loc Cert.Kernel9Ideal.main_v39_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v39_0) = v0 c
          ∧ r.2.mem ((c.tc : Thread Cert.Kernel9Ideal.nD Cert.Kernel9Ideal.τ).loc Cert.Kernel9Ideal.main_v39_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v38) = v0 c
          ∧ r.2.mem ((c.tc : Thread Cert.Reference9Ideal.nD Cert.Reference9Ideal.τ).loc Cert.Reference9Ideal.main_v39) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal_pre_out_grad_finite [hKernel10Ideal : Cert.Kernel10Ideal.Facts] [hReference10Ideal : Cert.Reference10Ideal.Facts] [hPre_out_grad_finite : Cert.Pre_out_grad_finite.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_out_grad_finite m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)) →
    ∃ (v0 : (c : Dev Cert.Kernel10Ideal.nD) → Buf (Elt Ideal) ((c.tc : Thread Cert.Kernel10Ideal.nD Cert.Kernel10Ideal.τ).loc Cert.Kernel10Ideal.main_v24_0)) (v1 : (c : Dev Cert.Kernel10Ideal.nD) → Buf (Elt Ideal) ((c.tc : Thread Cert.Kernel10Ideal.nD Cert.Kernel10Ideal.τ).loc Cert.Kernel10Ideal.main_v24_1)) (v2 : (c : Dev Cert.Kernel10Ideal.nD) → Buf (Elt Ideal) ((c.tc : Thread Cert.Kernel10Ideal.nD Cert.Kernel10Ideal.τ).loc Cert.Kernel10Ideal.main_v24_2)) (v3 : (c : Dev Cert.Kernel10Ideal.nD) → Buf (Elt Ideal) ((c.tc : Thread Cert.Kernel10Ideal.nD Cert.Kernel10Ideal.τ).loc Cert.Kernel10Ideal.main_v24_3)) (v4 : (c : Dev Cert.Kernel10Ideal.nD) → Buf (Elt Ideal) ((c.tc : Thread Cert.Kernel10Ideal.nD Cert.Kernel10Ideal.τ).loc Cert.Kernel10Ideal.main_v24_4)) (v5 : (c : Dev Cert.Kernel10Ideal.nD) → Buf (Elt Ideal) ((c.tc : Thread Cert.Kernel10Ideal.nD Cert.Kernel10Ideal.τ).loc Cert.Kernel10Ideal.main_v24_5)) (v6 : (c : Dev Cert.Kernel10Ideal.nD) → Buf (Elt Ideal) ((c.tc : Thread Cert.Kernel10Ideal.nD Cert.Kernel10Ideal.τ).loc Cert.Kernel10Ideal.main_v24_6)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v24_0) = v0 c
          ∧ r.2.mem ((c.tc : Thread Cert.Kernel10Ideal.nD Cert.Kernel10Ideal.τ).loc Cert.Kernel10Ideal.main_v24_1) = v1 c
          ∧ r.2.mem ((c.tc : Thread Cert.Kernel10Ideal.nD Cert.Kernel10Ideal.τ).loc Cert.Kernel10Ideal.main_v24_2) = v2 c
          ∧ r.2.mem ((c.tc : Thread Cert.Kernel10Ideal.nD Cert.Kernel10Ideal.τ).loc Cert.Kernel10Ideal.main_v24_3) = v3 c
          ∧ r.2.mem ((c.tc : Thread Cert.Kernel10Ideal.nD Cert.Kernel10Ideal.τ).loc Cert.Kernel10Ideal.main_v24_4) = v4 c
          ∧ r.2.mem ((c.tc : Thread Cert.Kernel10Ideal.nD Cert.Kernel10Ideal.τ).loc Cert.Kernel10Ideal.main_v24_5) = v5 c
          ∧ r.2.mem ((c.tc : Thread Cert.Kernel10Ideal.nD Cert.Kernel10Ideal.τ).loc Cert.Kernel10Ideal.main_v24_6) = v6 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v68) = v0 c
          ∧ r.2.mem ((c.tc : Thread Cert.Reference10Ideal.nD Cert.Reference10Ideal.τ).loc Cert.Reference10Ideal.main_v107) = v1 c
          ∧ r.2.mem ((c.tc : Thread Cert.Reference10Ideal.nD Cert.Reference10Ideal.τ).loc Cert.Reference10Ideal.main_v108) = v2 c
          ∧ r.2.mem ((c.tc : Thread Cert.Reference10Ideal.nD Cert.Reference10Ideal.τ).loc Cert.Reference10Ideal.main_v109) = v3 c
          ∧ r.2.mem ((c.tc : Thread Cert.Reference10Ideal.nD Cert.Reference10Ideal.τ).loc Cert.Reference10Ideal.main_v110) = v4 c
          ∧ r.2.mem ((c.tc : Thread Cert.Reference10Ideal.nD Cert.Reference10Ideal.τ).loc Cert.Reference10Ideal.main_v111) = v5 c
          ∧ r.2.mem ((c.tc : Thread Cert.Reference10Ideal.nD Cert.Reference10Ideal.τ).loc Cert.Reference10Ideal.main_v112) = v6 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8))

def preserves_Kernel11_Kernel11Ideal : Prop :=
  True

def algebraic_Kernel11Ideal_Reference11Ideal_pre_mix_grad_finite [hKernel11Ideal : Cert.Kernel11Ideal.Facts] [hReference11Ideal : Cert.Reference11Ideal.Facts] [hPre_mix_grad_finite : Cert.Pre_mix_grad_finite.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_mix_grad_finite m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)) →
    ∃ (v0 : (c : Dev Cert.Kernel11Ideal.nD) → Buf (Elt Ideal) ((c.tc : Thread Cert.Kernel11Ideal.nD Cert.Kernel11Ideal.τ).loc Cert.Kernel11Ideal.main_v28_0)) (v1 : (c : Dev Cert.Kernel11Ideal.nD) → Buf (Elt Ideal) ((c.tc : Thread Cert.Kernel11Ideal.nD Cert.Kernel11Ideal.τ).loc Cert.Kernel11Ideal.main_v28_1)) (v2 : (c : Dev Cert.Kernel11Ideal.nD) → Buf (Elt Ideal) ((c.tc : Thread Cert.Kernel11Ideal.nD Cert.Kernel11Ideal.τ).loc Cert.Kernel11Ideal.main_v28_2)) (v3 : (c : Dev Cert.Kernel11Ideal.nD) → Buf (Elt Ideal) ((c.tc : Thread Cert.Kernel11Ideal.nD Cert.Kernel11Ideal.τ).loc Cert.Kernel11Ideal.main_v28_3)) (v4 : (c : Dev Cert.Kernel11Ideal.nD) → Buf (Elt Ideal) ((c.tc : Thread Cert.Kernel11Ideal.nD Cert.Kernel11Ideal.τ).loc Cert.Kernel11Ideal.main_v28_4)) (v5 : (c : Dev Cert.Kernel11Ideal.nD) → Buf (Elt Ideal) ((c.tc : Thread Cert.Kernel11Ideal.nD Cert.Kernel11Ideal.τ).loc Cert.Kernel11Ideal.main_v28_5)) (v6 : (c : Dev Cert.Kernel11Ideal.nD) → Buf (Elt Ideal) ((c.tc : Thread Cert.Kernel11Ideal.nD Cert.Kernel11Ideal.τ).loc Cert.Kernel11Ideal.main_v28_6)) (v7 : (c : Dev Cert.Kernel11Ideal.nD) → Buf (Elt Ideal) ((c.tc : Thread Cert.Kernel11Ideal.nD Cert.Kernel11Ideal.τ).loc Cert.Kernel11Ideal.main_v28_7)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v28_0) = v0 c
          ∧ r.2.mem ((c.tc : Thread Cert.Kernel11Ideal.nD Cert.Kernel11Ideal.τ).loc Cert.Kernel11Ideal.main_v28_1) = v1 c
          ∧ r.2.mem ((c.tc : Thread Cert.Kernel11Ideal.nD Cert.Kernel11Ideal.τ).loc Cert.Kernel11Ideal.main_v28_2) = v2 c
          ∧ r.2.mem ((c.tc : Thread Cert.Kernel11Ideal.nD Cert.Kernel11Ideal.τ).loc Cert.Kernel11Ideal.main_v28_3) = v3 c
          ∧ r.2.mem ((c.tc : Thread Cert.Kernel11Ideal.nD Cert.Kernel11Ideal.τ).loc Cert.Kernel11Ideal.main_v28_4) = v4 c
          ∧ r.2.mem ((c.tc : Thread Cert.Kernel11Ideal.nD Cert.Kernel11Ideal.τ).loc Cert.Kernel11Ideal.main_v28_5) = v5 c
          ∧ r.2.mem ((c.tc : Thread Cert.Kernel11Ideal.nD Cert.Kernel11Ideal.τ).loc Cert.Kernel11Ideal.main_v28_6) = v6 c
          ∧ r.2.mem ((c.tc : Thread Cert.Kernel11Ideal.nD Cert.Kernel11Ideal.τ).loc Cert.Kernel11Ideal.main_v28_7) = v7 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v85) = v0 c
          ∧ r.2.mem ((c.tc : Thread Cert.Reference11Ideal.nD Cert.Reference11Ideal.τ).loc Cert.Reference11Ideal.main_v86) = v1 c
          ∧ r.2.mem ((c.tc : Thread Cert.Reference11Ideal.nD Cert.Reference11Ideal.τ).loc Cert.Reference11Ideal.main_v87) = v2 c
          ∧ r.2.mem ((c.tc : Thread Cert.Reference11Ideal.nD Cert.Reference11Ideal.τ).loc Cert.Reference11Ideal.main_v88) = v3 c
          ∧ r.2.mem ((c.tc : Thread Cert.Reference11Ideal.nD Cert.Reference11Ideal.τ).loc Cert.Reference11Ideal.main_v89) = v4 c
          ∧ r.2.mem ((c.tc : Thread Cert.Reference11Ideal.nD Cert.Reference11Ideal.τ).loc Cert.Reference11Ideal.main_v92) = v5 c
          ∧ r.2.mem ((c.tc : Thread Cert.Reference11Ideal.nD Cert.Reference11Ideal.τ).loc Cert.Reference11Ideal.main_v95) = v6 c
          ∧ r.2.mem ((c.tc : Thread Cert.Reference11Ideal.nD Cert.Reference11Ideal.τ).loc Cert.Reference11Ideal.main_v96) = v7 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)) →
    ∃ (v0 : (c : Dev Cert.Kernel12Ideal.nD) → Buf (Elt Ideal) ((c.tc : Thread Cert.Kernel12Ideal.nD Cert.Kernel12Ideal.τ).loc Cert.Kernel12Ideal.main_v7_0)) (v1 : (c : Dev Cert.Kernel12Ideal.nD) → Buf (Elt Ideal) ((c.tc : Thread Cert.Kernel12Ideal.nD Cert.Kernel12Ideal.τ).loc Cert.Kernel12Ideal.main_v7_1)) (v2 : (c : Dev Cert.Kernel12Ideal.nD) → Buf (Elt Ideal) ((c.tc : Thread Cert.Kernel12Ideal.nD Cert.Kernel12Ideal.τ).loc Cert.Kernel12Ideal.main_v7_2)) (v3 : (c : Dev Cert.Kernel12Ideal.nD) → Buf (Elt Ideal) ((c.tc : Thread Cert.Kernel12Ideal.nD Cert.Kernel12Ideal.τ).loc Cert.Kernel12Ideal.main_v7_3)) (v4 : (c : Dev Cert.Kernel12Ideal.nD) → Buf (Elt Ideal) ((c.tc : Thread Cert.Kernel12Ideal.nD Cert.Kernel12Ideal.τ).loc Cert.Kernel12Ideal.main_v7_4)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v7_0) = v0 c
          ∧ r.2.mem ((c.tc : Thread Cert.Kernel12Ideal.nD Cert.Kernel12Ideal.τ).loc Cert.Kernel12Ideal.main_v7_1) = v1 c
          ∧ r.2.mem ((c.tc : Thread Cert.Kernel12Ideal.nD Cert.Kernel12Ideal.τ).loc Cert.Kernel12Ideal.main_v7_2) = v2 c
          ∧ r.2.mem ((c.tc : Thread Cert.Kernel12Ideal.nD Cert.Kernel12Ideal.τ).loc Cert.Kernel12Ideal.main_v7_3) = v3 c
          ∧ r.2.mem ((c.tc : Thread Cert.Kernel12Ideal.nD Cert.Kernel12Ideal.τ).loc Cert.Kernel12Ideal.main_v7_4) = v4 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v34) = v0 c
          ∧ r.2.mem ((c.tc : Thread Cert.Reference12Ideal.nD Cert.Reference12Ideal.τ).loc Cert.Reference12Ideal.main_v35) = v1 c
          ∧ r.2.mem ((c.tc : Thread Cert.Reference12Ideal.nD Cert.Reference12Ideal.τ).loc Cert.Reference12Ideal.main_v36) = v2 c
          ∧ r.2.mem ((c.tc : Thread Cert.Reference12Ideal.nD Cert.Reference12Ideal.τ).loc Cert.Reference12Ideal.main_v37) = v3 c
          ∧ r.2.mem ((c.tc : Thread Cert.Reference12Ideal.nD Cert.Reference12Ideal.τ).loc Cert.Reference12Ideal.main_v33) = v4 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)
      ∧ m' ((c.tc : Thread Cert.Reference13Ideal.nD Cert.Reference13Ideal.τ).loc Cert.Reference13Ideal.main_arg7) = m ((c.tc : Thread Cert.Kernel13Ideal.nD Cert.Kernel13Ideal.τ).loc Cert.Kernel13Ideal.main_arg7)
      ∧ m' ((c.tc : Thread Cert.Reference13Ideal.nD Cert.Reference13Ideal.τ).loc Cert.Reference13Ideal.main_arg8) = m ((c.tc : Thread Cert.Kernel13Ideal.nD Cert.Kernel13Ideal.τ).loc Cert.Kernel13Ideal.main_arg8)) →
    ∃ (v0 : (c : Dev Cert.Kernel13Ideal.nD) → Buf (Elt Ideal) ((c.tc : Thread Cert.Kernel13Ideal.nD Cert.Kernel13Ideal.τ).loc Cert.Kernel13Ideal.main_v6_0)) (v1 : (c : Dev Cert.Kernel13Ideal.nD) → Buf (Elt Ideal) ((c.tc : Thread Cert.Kernel13Ideal.nD Cert.Kernel13Ideal.τ).loc Cert.Kernel13Ideal.main_v6_1)) (v2 : (c : Dev Cert.Kernel13Ideal.nD) → Buf (Elt Ideal) ((c.tc : Thread Cert.Kernel13Ideal.nD Cert.Kernel13Ideal.τ).loc Cert.Kernel13Ideal.main_v6_2)) (v3 : (c : Dev Cert.Kernel13Ideal.nD) → Buf (Elt Ideal) ((c.tc : Thread Cert.Kernel13Ideal.nD Cert.Kernel13Ideal.τ).loc Cert.Kernel13Ideal.main_v6_3)) (v4 : (c : Dev Cert.Kernel13Ideal.nD) → Buf (Elt Ideal) ((c.tc : Thread Cert.Kernel13Ideal.nD Cert.Kernel13Ideal.τ).loc Cert.Kernel13Ideal.main_v6_4)) (v5 : (c : Dev Cert.Kernel13Ideal.nD) → Buf (Elt Ideal) ((c.tc : Thread Cert.Kernel13Ideal.nD Cert.Kernel13Ideal.τ).loc Cert.Kernel13Ideal.main_v6_5)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v6_0) = v0 c
          ∧ r.2.mem ((c.tc : Thread Cert.Kernel13Ideal.nD Cert.Kernel13Ideal.τ).loc Cert.Kernel13Ideal.main_v6_1) = v1 c
          ∧ r.2.mem ((c.tc : Thread Cert.Kernel13Ideal.nD Cert.Kernel13Ideal.τ).loc Cert.Kernel13Ideal.main_v6_2) = v2 c
          ∧ r.2.mem ((c.tc : Thread Cert.Kernel13Ideal.nD Cert.Kernel13Ideal.τ).loc Cert.Kernel13Ideal.main_v6_3) = v3 c
          ∧ r.2.mem ((c.tc : Thread Cert.Kernel13Ideal.nD Cert.Kernel13Ideal.τ).loc Cert.Kernel13Ideal.main_v6_4) = v4 c
          ∧ r.2.mem ((c.tc : Thread Cert.Kernel13Ideal.nD Cert.Kernel13Ideal.τ).loc Cert.Kernel13Ideal.main_v6_5) = v5 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
          ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
          ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v53) = v0 c
          ∧ r.2.mem ((c.tc : Thread Cert.Reference13Ideal.nD Cert.Reference13Ideal.τ).loc Cert.Reference13Ideal.main_v54) = v1 c
          ∧ r.2.mem ((c.tc : Thread Cert.Reference13Ideal.nD Cert.Reference13Ideal.τ).loc Cert.Reference13Ideal.main_v55) = v2 c
          ∧ r.2.mem ((c.tc : Thread Cert.Reference13Ideal.nD Cert.Reference13Ideal.τ).loc Cert.Reference13Ideal.main_v56) = v3 c
          ∧ r.2.mem ((c.tc : Thread Cert.Reference13Ideal.nD Cert.Reference13Ideal.τ).loc Cert.Reference13Ideal.main_v52) = v4 c
          ∧ r.2.mem ((c.tc : Thread Cert.Reference13Ideal.nD Cert.Reference13Ideal.τ).loc Cert.Reference13Ideal.main_v57) = v5 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6)
          ∧ r.2.mem ((c.tc : Thread Cert.Reference13Ideal.nD Cert.Reference13Ideal.τ).loc Cert.Reference13Ideal.main_arg7) = m' ((c.tc : Thread Cert.Reference13Ideal.nD Cert.Reference13Ideal.τ).loc Cert.Reference13Ideal.main_arg7)
          ∧ r.2.mem ((c.tc : Thread Cert.Reference13Ideal.nD Cert.Reference13Ideal.τ).loc Cert.Reference13Ideal.main_arg8) = m' ((c.tc : Thread Cert.Reference13Ideal.nD Cert.Reference13Ideal.τ).loc Cert.Reference13Ideal.main_arg8))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v21_0)) (v1 : (c : Dev Cert.Kernel14Ideal.nD) → Buf (Elt Ideal) ((c.tc : Thread Cert.Kernel14Ideal.nD Cert.Kernel14Ideal.τ).loc Cert.Kernel14Ideal.main_v21_1)) (v2 : (c : Dev Cert.Kernel14Ideal.nD) → Buf (Elt Ideal) ((c.tc : Thread Cert.Kernel14Ideal.nD Cert.Kernel14Ideal.τ).loc Cert.Kernel14Ideal.main_v21_2)) (v3 : (c : Dev Cert.Kernel14Ideal.nD) → Buf (Elt Ideal) ((c.tc : Thread Cert.Kernel14Ideal.nD Cert.Kernel14Ideal.τ).loc Cert.Kernel14Ideal.main_v21_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v21_0) = v0 c
          ∧ r.2.mem ((c.tc : Thread Cert.Kernel14Ideal.nD Cert.Kernel14Ideal.τ).loc Cert.Kernel14Ideal.main_v21_1) = v1 c
          ∧ r.2.mem ((c.tc : Thread Cert.Kernel14Ideal.nD Cert.Kernel14Ideal.τ).loc Cert.Kernel14Ideal.main_v21_2) = v2 c
          ∧ r.2.mem ((c.tc : Thread Cert.Kernel14Ideal.nD Cert.Kernel14Ideal.τ).loc Cert.Kernel14Ideal.main_v21_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v29) = v0 c
          ∧ r.2.mem ((c.tc : Thread Cert.Reference14Ideal.nD Cert.Reference14Ideal.τ).loc Cert.Reference14Ideal.main_v30) = v1 c
          ∧ r.2.mem ((c.tc : Thread Cert.Reference14Ideal.nD Cert.Reference14Ideal.τ).loc Cert.Reference14Ideal.main_v22) = v2 c
          ∧ r.2.mem ((c.tc : Thread Cert.Reference14Ideal.nD Cert.Reference14Ideal.τ).loc Cert.Reference14Ideal.main_v31) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  IdealRules.named_const.Statement Cert.Kernel16Ideal.κ "gelu_a" .bf16 0x3D37#16 ((12003091 / 268435456 : ℝ) : EReal)
  ∧ IdealRules.named_const.Statement Cert.Kernel16Ideal.κ "gelu_c" .bf16 0x3F4C#16 ((6693141 / 8388608 : ℝ) : EReal)

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v5_0)) (v1 : (c : Dev Cert.Kernel16Ideal.nD) → Buf (Elt Ideal) ((c.tc : Thread Cert.Kernel16Ideal.nD Cert.Kernel16Ideal.τ).loc Cert.Kernel16Ideal.main_v5_1)) (v2 : (c : Dev Cert.Kernel16Ideal.nD) → Buf (Elt Ideal) ((c.tc : Thread Cert.Kernel16Ideal.nD Cert.Kernel16Ideal.τ).loc Cert.Kernel16Ideal.main_v5_2)) (v3 : (c : Dev Cert.Kernel16Ideal.nD) → Buf (Elt Ideal) ((c.tc : Thread Cert.Kernel16Ideal.nD Cert.Kernel16Ideal.τ).loc Cert.Kernel16Ideal.main_v5_3)) (v4 : (c : Dev Cert.Kernel16Ideal.nD) → Buf (Elt Ideal) ((c.tc : Thread Cert.Kernel16Ideal.nD Cert.Kernel16Ideal.τ).loc Cert.Kernel16Ideal.main_v5_4)) (v5 : (c : Dev Cert.Kernel16Ideal.nD) → Buf (Elt Ideal) ((c.tc : Thread Cert.Kernel16Ideal.nD Cert.Kernel16Ideal.τ).loc Cert.Kernel16Ideal.main_v5_5)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v5_0) = v0 c
          ∧ r.2.mem ((c.tc : Thread Cert.Kernel16Ideal.nD Cert.Kernel16Ideal.τ).loc Cert.Kernel16Ideal.main_v5_1) = v1 c
          ∧ r.2.mem ((c.tc : Thread Cert.Kernel16Ideal.nD Cert.Kernel16Ideal.τ).loc Cert.Kernel16Ideal.main_v5_2) = v2 c
          ∧ r.2.mem ((c.tc : Thread Cert.Kernel16Ideal.nD Cert.Kernel16Ideal.τ).loc Cert.Kernel16Ideal.main_v5_3) = v3 c
          ∧ r.2.mem ((c.tc : Thread Cert.Kernel16Ideal.nD Cert.Kernel16Ideal.τ).loc Cert.Kernel16Ideal.main_v5_4) = v4 c
          ∧ r.2.mem ((c.tc : Thread Cert.Kernel16Ideal.nD Cert.Kernel16Ideal.τ).loc Cert.Kernel16Ideal.main_v5_5) = v5 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v57) = v0 c
          ∧ r.2.mem ((c.tc : Thread Cert.Reference16Ideal.nD Cert.Reference16Ideal.τ).loc Cert.Reference16Ideal.main_v58) = v1 c
          ∧ r.2.mem ((c.tc : Thread Cert.Reference16Ideal.nD Cert.Reference16Ideal.τ).loc Cert.Reference16Ideal.main_v59) = v2 c
          ∧ r.2.mem ((c.tc : Thread Cert.Reference16Ideal.nD Cert.Reference16Ideal.τ).loc Cert.Reference16Ideal.main_v60) = v3 c
          ∧ r.2.mem ((c.tc : Thread Cert.Reference16Ideal.nD Cert.Reference16Ideal.τ).loc Cert.Reference16Ideal.main_v61) = v4 c
          ∧ r.2.mem ((c.tc : Thread Cert.Reference16Ideal.nD Cert.Reference16Ideal.τ).loc Cert.Reference16Ideal.main_v62) = v5 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite : Cert.Pre_finite.Facts) (hPre_in_grad_finite : Cert.Pre_in_grad_finite.Facts) (hPre_out_grad_finite : Cert.Pre_out_grad_finite.Facts) (hPre_mix_grad_finite : Cert.Pre_mix_grad_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_in_grad_finite (hKernel9Ideal := hKernel9Ideal) (hPre_in_grad_finite := hPre_in_grad_finite)
    ∧ quiescent_Reference9Ideal (hReference9Ideal := hReference9Ideal)
    ∧ quiescent_Reference9Ideal_pre_in_grad_finite (hReference9Ideal := hReference9Ideal) (hPre_in_grad_finite := hPre_in_grad_finite)
    ∧ quiescent_Kernel10 (hKernel10 := hKernel10)
    ∧ quiescent_Kernel10Ideal (hKernel10Ideal := hKernel10Ideal)
    ∧ quiescent_Kernel10Ideal_pre_out_grad_finite (hKernel10Ideal := hKernel10Ideal) (hPre_out_grad_finite := hPre_out_grad_finite)
    ∧ quiescent_Reference10Ideal (hReference10Ideal := hReference10Ideal)
    ∧ quiescent_Reference10Ideal_pre_out_grad_finite (hReference10Ideal := hReference10Ideal) (hPre_out_grad_finite := hPre_out_grad_finite)
    ∧ quiescent_Kernel11 (hKernel11 := hKernel11)
    ∧ quiescent_Kernel11Ideal (hKernel11Ideal := hKernel11Ideal)
    ∧ quiescent_Kernel11Ideal_pre_mix_grad_finite (hKernel11Ideal := hKernel11Ideal) (hPre_mix_grad_finite := hPre_mix_grad_finite)
    ∧ quiescent_Reference11Ideal (hReference11Ideal := hReference11Ideal)
    ∧ quiescent_Reference11Ideal_pre_mix_grad_finite (hReference11Ideal := hReference11Ideal) (hPre_mix_grad_finite := hPre_mix_grad_finite)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_in_grad_finite (hKernel9Ideal := hKernel9Ideal) (hReference9Ideal := hReference9Ideal) (hPre_in_grad_finite := hPre_in_grad_finite)
    ∧ preserves_Kernel10_Kernel10Ideal
    ∧ algebraic_Kernel10Ideal_Reference10Ideal_pre_out_grad_finite (hKernel10Ideal := hKernel10Ideal) (hReference10Ideal := hReference10Ideal) (hPre_out_grad_finite := hPre_out_grad_finite)
    ∧ preserves_Kernel11_Kernel11Ideal
    ∧ algebraic_Kernel11Ideal_Reference11Ideal_pre_mix_grad_finite (hKernel11Ideal := hKernel11Ideal) (hReference11Ideal := hReference11Ideal) (hPre_mix_grad_finite := hPre_mix_grad_finite)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Pre_finite.lean ====
abbrev S8192x1024 : Shape := ⟨2, ![8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S3x5632 : S_.BroadcastsInDim S3x5632 (![] : Fin 0 → Fin S3x5632.rank)
  reducesTo_S3x5632_S_d0_1 : S3x5632.ReducesTo [0, 1] S_
  bcast_S_S5632 : S_.BroadcastsInDim S5632 (![] : Fin 0 → Fin S5632.rank)
  reducesTo_S5632_S_d0 : S5632.ReducesTo [0] S_
  bcast_S_S8192x2816 : S_.BroadcastsInDim S8192x2816 (![] : Fin 0 → Fin S8192x2816.rank)
  reducesTo_S8192x2816_S_d0_1 : S8192x2816.ReducesTo [0, 1] S_

variable [Facts]

def fn_part1 {F : FTy → Type} [FloatOps F] (main_arg4 : FVec F S5632 .f32) (main_arg6 : FVec F S8192x2816 .f32) (main_v13 : IVec S_ 1) (main_v16 : IVec S3x5632 1) : IVec S_ 1 :=
  let main_c_5 : IVec S_ 1 := constantI S_ 1 1#1
  let main_v17 : IVec S_ 1 := (fun x v => Host.reduce IntOp.andi x v reducesTo_S3x5632_S_d0_1 h_S_) main_v16 main_c_5
  let main_v18 : IVec S_ 1 := andi main_v13 main_v17
  let main_v19 : FVec F S5632 .f32 := Host.absf main_arg4
  let main_cst_6 : FVec F S_ .f32 := constant S_ .f32 0x7F800000#32
  let main_v20 : FVec F S5632 .f32 := broadcastInDim S5632 ![] bcast_S_S5632 main_cst_6
  let main_v21 : IVec S5632 1 := cmpf .olt main_v19 main_v20
  let main_c_7 : IVec S_ 1 := constantI S_ 1 1#1
  let main_v22 : IVec S_ 1 := (fun x v => Host.reduce IntOp.andi x v reducesTo_S5632_S_d0 h_S_) main_v21 main_c_7
  let main_v23 : IVec S_ 1 := andi main_v18 main_v22
  let main_v24 : FVec F S8192x2816 .f32 := Host.absf main_arg6
  let main_cst_8 : FVec F S_ .f32 := constant S_ .f32 0x7F800000#32
  let main_v25 : FVec F S8192x2816 .f32 := broadcastInDim S8192x2816 ![] bcast_S_S8192x2816 main_cst_8
  let main_v26 : IVec S8192x2816 1 := cmpf .olt main_v24 main_v25
  let main_c_9 : IVec S_ 1 := constantI S_ 1 1#1
  let main_v27 : IVec S_ 1 := (fun x v => Host.reduce IntOp.andi x v reducesTo_S8192x2816_S_d0_1 h_S_) main_v26 main_c_9
  let main_v28 : IVec S_ 1 := andi main_v23 main_v27
  main_v28

def fn {F : FTy → Type} [FloatOps F] (main_arg0 : FVec F S8192x1024 .f32) (main_arg1 : FVec F S1024 .f32) (main_arg2 : FVec F S1024x5632 .f32) (main_arg3 : FVec F S3x5632 .f32) (main_arg4 : FVec F S5632 .f32) (main_arg5 : FVec F S8192x1024 .f32) (main_arg6 : FVec F S8192x2816 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x5632 .f32 := Host.absf main_arg2
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  let main_v14 : FVec F S3x5632 .f32 := Host.absf main_arg3
  let main_cst_4 : FVec F S_ .f32 := constant S_ .f32 0x7F800000#32
  let main_v15 : FVec F S3x5632 .f32 := broadcastInDim S3x5632 ![] bcast_S_S3x5632 main_cst_4
  let main_v16 : IVec S3x5632 1 := cmpf .olt main_v14 main_v15
  fn_part1 (F := F) main_arg4 main_arg6 main_v13 main_v16
-- ==== Pre_in_grad_finite.lean ====
abbrev S8192x1024 : Shape := ⟨2, ![8192, 1024]⟩
abbrev S1024 : Shape := ⟨1, ![1024]⟩
abbrev S1024x6160 : Shape := ⟨2, ![1024, 6160]⟩
abbrev S8192x6160 : Shape := ⟨2, ![8192, 6160]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x6160 : S_.BroadcastsInDim S1024x6160 (![] : Fin 0 → Fin S1024x6160.rank)
  reducesTo_S1024x6160_S_d0_1 : S1024x6160.ReducesTo [0, 1] S_
  bcast_S_S8192x6160 : S_.BroadcastsInDim S8192x6160 (![] : Fin 0 → Fin S8192x6160.rank)
  reducesTo_S8192x6160_S_d0_1 : S8192x6160.ReducesTo [0, 1] S_

variable [Facts]

def fn_part1 {F : FTy → Type} [FloatOps F] (main_v13 : IVec S_ 1) (main_v16 : IVec S8192x6160 1) : IVec S_ 1 :=
  let main_c_5 : IVec S_ 1 := constantI S_ 1 1#1
  let main_v17 : IVec S_ 1 := (fun x v => Host.reduce IntOp.andi x v reducesTo_S8192x6160_S_d0_1 h_S_) main_v16 main_c_5
  let main_v18 : IVec S_ 1 := andi main_v13 main_v17
  main_v18

def fn {F : FTy → Type} [FloatOps F] (main_arg0 : FVec F S8192x1024 .f32) (main_arg1 : FVec F S1024 .f32) (main_arg2 : FVec F S1024x6160 .f32) (main_arg3 : FVec F S8192x6160 .f32) (main_arg4 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x6160 .f32 := Host.absf main_arg2
  let main_cst_2 : FVec F S_ .f32 := constant S_ .f32 0x7F800000#32
  let main_v10 : FVec F S1024x6160 .f32 := broadcastInDim S1024x6160 ![] bcast_S_S1024x6160 main_cst_2
  let main_v11 : IVec S1024x6160 1 := cmpf .olt main_v9 main_v10
  let main_c_3 : IVec S_ 1 := constantI S_ 1 1#1
  let main_v12 : IVec S_ 1 := (fun x v => Host.reduce IntOp.andi x v reducesTo_S1024x6160_S_d0_1 h_S_) main_v11 main_c_3
  let main_v13 : IVec S_ 1 := andi main_v8 main_v12
  let main_v14 : FVec F S8192x6160 .f32 := Host.absf main_arg3
  let main_cst_4 : FVec F S_ .f32 := constant S_ .f32 0x7F800000#32
  let main_v15 : FVec F S8192x6160 .f32 := broadcastInDim S8192x6160 ![] bcast_S_S8192x6160 main_cst_4
  let main_v16 : IVec S8192x6160 1 := cmpf .olt main_v14 main_v15
  fn_part1 (F := F) main_v13 main_v16
-- ==== Pre_mix_grad_finite.lean ====
abbrev S8192x512 : Shape := ⟨2, ![8192, 512]⟩
abbrev S8192x1024 : Shape := ⟨2, ![8192, 1024]⟩
abbrev S8192x6144 : Shape := ⟨2, ![8192, 6144]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩

class Facts : Prop where
  slices_S8192x6144_S8192x1024_0_4096 : S8192x6144.Slices ![0, 4096] S8192x1024
  slices_S8192x6144_S8192x1024_0_5120 : S8192x6144.Slices ![0, 5120] S8192x1024
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S512x1024 : S_.BroadcastsInDim S512x1024 (![] : Fin 0 → Fin S512x1024.rank)
  reducesTo_S512x1024_S_d0_1 : S512x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg6 : FVec F S1024 .f32) (main_arg7 : FVec F S8192x1024 .f32) (main_v30 : IVec S_ 1) (main_v33 : IVec S1024x1024 1) (main_c_11 : IVec S_ 1) : IVec S_ 1 :=
  let main_v34 : IVec S_ 1 := (fun x v => Host.reduce IntOp.andi x v reducesTo_S1024x1024_S_d0_1 h_S_) main_v33 main_c_11
  let main_v35 : IVec S_ 1 := andi main_v30 main_v34
  let main_v36 : FVec F S1024 .f32 := Host.absf main_arg6
  let main_cst_12 : FVec F S_ .f32 := constant S_ .f32 0x7F800000#32
  let main_v37 : FVec F S1024 .f32 := broadcastInDim S1024 ![] bcast_S_S1024 main_cst_12
  let main_v38 : IVec S1024 1 := cmpf .olt main_v36 main_v37
  let main_c_13 : IVec S_ 1 := constantI S_ 1 1#1
  let main_v39 : IVec S_ 1 := (fun x v => Host.reduce IntOp.andi x v reducesTo_S1024_S_d0 h_S_) main_v38 main_c_13
  let main_v40 : IVec S_ 1 := andi main_v35 main_v39
  let main_v41 : FVec F S8192x1024 .f32 := Host.absf main_arg7
  let main_cst_14 : FVec F S_ .f32 := constant S_ .f32 0x7F800000#32
  let main_v42 : FVec F S8192x1024 .f32 := broadcastInDim S8192x1024 ![] bcast_S_S8192x1024 main_cst_14
  let main_v43 : IVec S8192x1024 1 := cmpf .olt main_v41 main_v42
  let main_c_15 : IVec S_ 1 := constantI S_ 1 1#1
  let main_v44 : IVec S_ 1 := (fun x v => Host.reduce IntOp.andi x v reducesTo_S8192x1024_S_d0_1 h_S_) main_v43 main_c_15
  let main_v45 : IVec S_ 1 := andi main_v40 main_v44
  main_v45

def fn_part1 {F : FTy → Type} [FloatOps F] (main_arg3 : FVec F S512x1024 .f32) (main_arg4 : FVec F S1024x1024 .f32) (main_arg5 : FVec F S1024x1024 .f32) (main_arg6 : FVec F S1024 .f32) (main_arg7 : FVec F S8192x1024 .f32) (main_v15 : IVec S_ 1) (main_v16 : FVec F S8192x1024 .f32) (main_cst_4 : FVec F S_ .f32) : IVec S_ 1 :=
  let main_v17 : FVec F S8192x1024 .f32 := broadcastInDim S8192x1024 ![] bcast_S_S8192x1024 main_cst_4
  let main_v18 : IVec S8192x1024 1 := cmpf .olt main_v16 main_v17
  let main_c_5 : IVec S_ 1 := constantI S_ 1 1#1
  let main_v19 : IVec S_ 1 := (fun x v => Host.reduce IntOp.andi x v reducesTo_S8192x1024_S_d0_1 h_S_) main_v18 main_c_5
  let main_v20 : IVec S_ 1 := andi main_v15 main_v19
  let main_v21 : FVec F S512x1024 .f32 := Host.absf main_arg3
  let main_cst_6 : FVec F S_ .f32 := constant S_ .f32 0x7F800000#32
  let main_v22 : FVec F S512x1024 .f32 := broadcastInDim S512x1024 ![] bcast_S_S512x1024 main_cst_6
  let main_v23 : IVec S512x1024 1 := cmpf .olt main_v21 main_v22
  let main_c_7 : IVec S_ 1 := constantI S_ 1 1#1
  let main_v24 : IVec S_ 1 := (fun x v => Host.reduce IntOp.andi x v reducesTo_S512x1024_S_d0_1 h_S_) main_v23 main_c_7
  let main_v25 : IVec S_ 1 := andi main_v20 main_v24
  let main_v26 : FVec F S1024x1024 .f32 := Host.absf main_arg4
  let main_cst_8 : FVec F S_ .f32 := constant S_ .f32 0x7F800000#32
  let main_v27 : FVec F S1024x1024 .f32 := broadcastInDim S1024x1024 ![] bcast_S_S1024x1024 main_cst_8
  let main_v28 : IVec S1024x1024 1 := cmpf .olt main_v26 main_v27
  let main_c_9 : IVec S_ 1 := constantI S_ 1 1#1
  let main_v29 : IVec S_ 1 := (fun x v => Host.reduce IntOp.andi x v reducesTo_S1024x1024_S_d0_1 h_S_) main_v28 main_c_9
  let main_v30 : IVec S_ 1 := andi main_v25 main_v29
  let main_v31 : FVec F S1024x1024 .f32 := Host.absf main_arg5
  let main_cst_10 : FVec F S_ .f32 := constant S_ .f32 0x7F800000#32
  let main_v32 : FVec F S1024x1024 .f32 := broadcastInDim S1024x1024 ![] bcast_S_S1024x1024 main_cst_10
  let main_v33 : IVec S1024x1024 1 := cmpf .olt main_v31 main_v32
  let main_c_11 : IVec S_ 1 := constantI S_ 1 1#1
  fn_part2 (F := F) main_arg6 main_arg7 main_v30 main_v33 main_c_11

def fn {F : FTy → Type} [FloatOps F] (main_arg0 : FVec F S8192x512 .f32) (main_arg1 : FVec F S8192x1024 .f32) (main_arg2 : FVec F S8192x6144 .f32) (main_arg3 : FVec F S512x1024 .f32) (main_arg4 : FVec F S1024x1024 .f32) (main_arg5 : FVec F S1024x1024 .f32) (main_arg6 : FVec F S1024 .f32) (main_arg7 : FVec F S8192x1024 .f32) : IVec S_ 1 :=
  let main_v0 : FVec F S8192x1024 .f32 := (extractStridedSlice S8192x1024 ![0, 4096] · slices_S8192x6144_S8192x1024_0_4096) main_arg2
  let main_v1 : FVec F S8192x1024 .f32 := (extractStridedSlice S8192x1024 ![0, 5120] · slices_S8192x6144_S8192x1024_0_5120) main_arg2
  let main_v2 : FVec F S8192x512 .f32 := Host.absf main_arg0
  let main_cst : FVec F S_ .f32 := constant S_ .f32 0x7F800000#32
  let main_v3 : FVec F S8192x512 .f32 := broadcastInDim S8192x512 ![] bcast_S_S8192x512 main_cst
  let main_v4 : IVec S8192x512 1 := cmpf .olt main_v2 main_v3
  let main_c : IVec S_ 1 := constantI S_ 1 1#1
  let main_v5 : IVec S_ 1 := (fun x v => Host.reduce IntOp.andi x v reducesTo_S8192x512_S_d0_1 h_S_) main_v4 main_c
  let main_v6 : FVec F S8192x1024 .f32 := Host.absf main_arg1
  let main_cst_0 : FVec F S_ .f32 := constant S_ .f32 0x7F800000#32
  let main_v7 : FVec F S8192x1024 .f32 := broadcastInDim S8192x1024 ![] bcast_S_S8192x1024 main_cst_0
  let main_v8 : IVec S8192x1024 1 := cmpf .olt main_v6 main_v7
  let main_c_1 : IVec S_ 1 := constantI S_ 1 1#1
  let main_v9 : IVec S_ 1 := (fun x v => Host.reduce IntOp.andi x v reducesTo_S8192x1024_S_d0_1 h_S_) main_v8 main_c_1
  let main_v10 : IVec S_ 1 := andi main_v5 main_v9
  let main_v11 : FVec F S8192x1024 .f32 := Host.absf main_v0
  let main_cst_2 : FVec F S_ .f32 := constant S_ .f32 0x7F800000#32
  let main_v12 : FVec F S8192x1024 .f32 := broadcastInDim S8192x1024 ![] bcast_S_S8192x1024 main_cst_2
  let main_v13 : IVec S8192x1024 1 := cmpf .olt main_v11 main_v12
  let main_c_3 : IVec S_ 1 := constantI S_ 1 1#1
  let main_v14 : IVec S_ 1 := (fun x v => Host.reduce IntOp.andi x v reducesTo_S8192x1024_S_d0_1 h_S_) main_v13 main_c_3
  let main_v15 : IVec S_ 1 := andi main_v10 main_v14
  let main_v16 : FVec F S8192x1024 .f32 := Host.absf main_v1
  let main_cst_4 : FVec F S_ .f32 := constant S_ .f32 0x7F800000#32
  fn_part1 (F := F) main_arg3 main_arg4 main_arg5 main_arg6 main_arg7 main_v15 main_v16 main_cst_4
-- ==== Pre_out_grad_finite.lean ====
abbrev S8192x2816 : Shape := ⟨2, ![8192, 2816]⟩
abbrev S8192x1024 : Shape := ⟨2, ![8192, 1024]⟩
abbrev S8192x256 : Shape := ⟨2, ![8192, 256]⟩
abbrev S2816x1024 : Shape := ⟨2, ![2816, 1024]⟩
abbrev S1024 : Shape := ⟨1, ![1024]⟩
abbrev S256x1024 : Shape := ⟨2, ![256, 1024]⟩
abbrev S1024x1024 : Shape := ⟨2, ![1024, 1024]⟩
abbrev S_ : Shape := ⟨0, ![]⟩

class Facts : Prop where
  bcast_S_S8192x2816 : S_.BroadcastsInDim S8192x2816 (![] : Fin 0 → Fin S8192x2816.rank)
  reducesTo_S8192x2816_S_d0_1 : S8192x2816.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S8192x256 : S_.BroadcastsInDim S8192x256 (![] : Fin 0 → Fin S8192x256.rank)
  reducesTo_S8192x256_S_d0_1 : S8192x256.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1024 : S_.BroadcastsInDim S1024 (![] : Fin 0 → Fin S1024.rank)
  reducesTo_S1024_S_d0 : S1024.ReducesTo [0] S_
  bcast_S_S256x1024 : S_.BroadcastsInDim S256x1024 (![] : Fin 0 → Fin S256x1024.rank)
  reducesTo_S256x1024_S_d0_1 : S256x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg7 : FVec F S1024 .f32) (main_arg8 : FVec F S8192x1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S8192x1024 .f32 := Host.absf main_arg8
  let main_cst_14 : FVec F S_ .f32 := constant S_ .f32 0x7F800000#32
  let main_v40 : FVec F S8192x1024 .f32 := broadcastInDim S8192x1024 ![] bcast_S_S8192x1024 main_cst_14
  let main_v41 : IVec S8192x1024 1 := cmpf .olt main_v39 main_v40
  let main_c_15 : IVec S_ 1 := constantI S_ 1 1#1
  let main_v42 : IVec S_ 1 := (fun x v => Host.reduce IntOp.andi x v reducesTo_S8192x1024_S_d0_1 h_S_) main_v41 main_c_15
  let main_v43 : IVec S_ 1 := andi main_v38 main_v42
  main_v43

def fn_part1 {F : FTy → Type} [FloatOps F] (main_arg4 : FVec F S1024 .f32) (main_arg5 : FVec F S256x1024 .f32) (main_arg6 : FVec F S1024x1024 .f32) (main_arg7 : FVec F S1024 .f32) (main_arg8 : FVec F S8192x1024 .f32) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S256x1024 .f32 := Host.absf main_arg5
  let main_cst_8 : FVec F S_ .f32 := constant S_ .f32 0x7F800000#32
  let main_v25 : FVec F S256x1024 .f32 := broadcastInDim S256x1024 ![] bcast_S_S256x1024 main_cst_8
  let main_v26 : IVec S256x1024 1 := cmpf .olt main_v24 main_v25
  let main_c_9 : IVec S_ 1 := constantI S_ 1 1#1
  let main_v27 : IVec S_ 1 := (fun x v => Host.reduce IntOp.andi x v reducesTo_S256x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_v33

def fn {F : FTy → Type} [FloatOps F] (main_arg0 : FVec F S8192x2816 .f32) (main_arg1 : FVec F S8192x1024 .f32) (main_arg2 : FVec F S8192x256 .f32) (main_arg3 : FVec F S2816x1024 .f32) (main_arg4 : FVec F S1024 .f32) (main_arg5 : FVec F S256x1024 .f32) (main_arg6 : FVec F S1024x1024 .f32) (main_arg7 : FVec F S1024 .f32) (main_arg8 : FVec F S8192x1024 .f32) : IVec S_ 1 :=
  let main_v0 : FVec F S8192x2816 .f32 := Host.absf main_arg0
  let main_cst : FVec F S_ .f32 := constant S_ .f32 0x7F800000#32
  let main_v1 : FVec F S8192x2816 .f32 := broadcastInDim S8192x2816 ![] bcast_S_S8192x2816 main_cst
  let main_v2 : IVec S8192x2816 1 := cmpf .olt main_v0 main_v1
  let main_c : IVec S_ 1 := constantI S_ 1 1#1
  let main_v3 : IVec S_ 1 := (fun x v => Host.reduce IntOp.andi x v reducesTo_S8192x2816_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x256 .f32 := Host.absf main_arg2
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  let main_c_3 : IVec S_ 1 := constantI S_ 1 1#1
  let main_v12 : IVec S_ 1 := (fun x v => Host.reduce IntOp.andi x v reducesTo_S8192x256_S_d0_1 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg4 main_arg5 main_arg6 main_arg7 main_arg8 main_v13 main_v16
-- ==== Kernel.lean ====
abbrev S8192x1024 : Shape := ⟨2, ![8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S2x5632 : Shape := ⟨2, ![2, 5632]⟩
abbrev S8194x5632 : Shape := ⟨2, ![8194, 5632]⟩
abbrev S1x5632 : Shape := ⟨2, ![1, 5632]⟩
abbrev S256x2816 : Shape := ⟨2, ![256, 2816]⟩
abbrev S8x2816 : Shape := ⟨2, ![8, 2816]⟩
abbrev S256x1024 : Shape := ⟨2, ![256, 1024]⟩
abbrev S256x5632 : Shape := ⟨2, ![256, 5632]⟩
abbrev S256x1408 : Shape := ⟨2, ![256, 1408]⟩
abbrev S8x1408 : Shape := ⟨2, ![8, 1408]⟩
abbrev S3x1408 : Shape := ⟨2, ![3, 1408]⟩
abbrev S264x1408 : Shape := ⟨2, ![264, 1408]⟩
abbrev S1x1408 : Shape := ⟨2, ![1, 1408]⟩
abbrev S1408 : Shape := ⟨1, ![1408]⟩
abbrev S256 : Shape := ⟨1, ![256]⟩
abbrev S256x1 : Shape := ⟨2, ![256, 1]⟩

abbrev nBuf : Space → Nat
  | .hbm => 66
  | .vmem => 30
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S8192x1024, .f32⟩
  | .hbm, ⟨6, _⟩ => ⟨S8192x2816, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x5632, .f32⟩
  | .hbm, ⟨24, _⟩ => ⟨S_, .f32⟩
  | .hbm, ⟨25, _⟩ => ⟨S2x5632, .f32⟩
  | .hbm, ⟨26, _⟩ => ⟨S8194x5632, .f32⟩
  | .hbm, ⟨27, _⟩ => ⟨S8192x5632, .f32⟩
  | .hbm, ⟨28, _⟩ => ⟨S1x5632, .f32⟩
  | .hbm, ⟨29, _⟩ => ⟨S5632, .f32⟩
  | .hbm, ⟨30, _⟩ => ⟨S1x5632, .f32⟩
  | .hbm, ⟨31, _⟩ => ⟨S8192x5632, .f32⟩
  | .hbm, ⟨32, _⟩ => ⟨S8192x5632, .f32⟩
  | .hbm, ⟨33, _⟩ => ⟨S1x5632, .f32⟩
  | .hbm, ⟨34, _⟩ => ⟨S8192x5632, .f32⟩
  | .hbm, ⟨35, _⟩ => ⟨S8192x5632, .f32⟩
  | .hbm, ⟨36, _⟩ => ⟨S8192x5632, .f32⟩
  | .hbm, ⟨37, _⟩ => ⟨S1x5632, .f32⟩
  | .hbm, ⟨38, _⟩ => ⟨S5632, .f32⟩
  | .hbm, ⟨39, _⟩ => ⟨S1x5632, .f32⟩
  | .hbm, ⟨40, _⟩ => ⟨S8192x5632, .f32⟩
  | .hbm, ⟨41, _⟩ => ⟨S8192x5632, .f32⟩
  | .hbm, ⟨42, _⟩ => ⟨S8192x5632, .f32⟩
  | .hbm, ⟨43, _⟩ => ⟨S8192x5632, .f32⟩
  | .hbm, ⟨44, _⟩ => ⟨S1x5632, .f32⟩
  | .hbm, ⟨45, _⟩ => ⟨S5632, .f32⟩
  | .hbm, ⟨46, _⟩ => ⟨S1x5632, .f32⟩
  | .hbm, ⟨47, _⟩ => ⟨S8192x5632, .f32⟩
  | .hbm, ⟨48, _⟩ => ⟨S8192x5632, .f32⟩
  | .hbm, ⟨49, _⟩ => ⟨S8192x5632, .f32⟩
  | .hbm, ⟨50, _⟩ => ⟨S8192x2816, .f32⟩
  | .hbm, ⟨51, _⟩ => ⟨S8192x2816, .f32⟩
  | .hbm, ⟨52, _⟩ => ⟨S8192x2816, .f32⟩
  | .hbm, ⟨53, _⟩ => ⟨S8192x2816, .f32⟩
  | .hbm, ⟨54, _⟩ => ⟨S8192x2816, .bf16⟩
  | .hbm, ⟨55, _⟩ => ⟨S8192x2816, .bf16⟩
  | .hbm, ⟨56, _⟩ => ⟨S8192x2816, .bf16⟩
  | .hbm, ⟨57, _⟩ => ⟨S8192x2816, .bf16⟩
  | .hbm, ⟨58, _⟩ => ⟨S8192x2816, .bf16⟩
  | .hbm, ⟨59, _⟩ => ⟨S1024x5632, .bf16⟩
  | .hbm, ⟨60, _⟩ => ⟨S1x1024, .f32⟩
  | .hbm, ⟨61, _⟩ => ⟨S8192x5632, .bf16⟩
  | .hbm, ⟨62, _⟩ => ⟨S3x5632, .f32⟩
  | .hbm, ⟨63, _⟩ => ⟨S1x5632, .f32⟩
  | .hbm, ⟨64, _⟩ => ⟨S8192x1024, .f32⟩
  | .hbm, ⟨65, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S8x2816, .bf16⟩
  | .local _ .vmem, ⟨9, _⟩ => ⟨S8x2816, .bf16⟩
  | .local _ .vmem, ⟨10, _⟩ => ⟨S8x2816, .bf16⟩
  | .local _ .vmem, ⟨11, _⟩ => ⟨S8x2816, .bf16⟩
  | .local _ .vmem, ⟨12, _⟩ => ⟨S256x2816, .bf16⟩
  | .local _ .vmem, ⟨13, _⟩ => ⟨S256x2816, .bf16⟩
  | .local _ .vmem, ⟨14, _⟩ => ⟨S8x2816, .bf16⟩
  | .local _ .vmem, ⟨15, _⟩ => ⟨S8x2816, .bf16⟩
  | .local _ .vmem, ⟨16, _⟩ => ⟨S3x5632, .f32⟩
  | .local _ .vmem, ⟨17, _⟩ => ⟨S1024x5632, .bf16⟩
  | .local _ .vmem, ⟨18, _⟩ => ⟨S256x1024, .f32⟩
  | .local _ .vmem, ⟨19, _⟩ => ⟨S256x1024, .f32⟩
  | .local _ .vmem, ⟨20, _⟩ => ⟨S1x1024, .f32⟩
  | .local _ .vmem, ⟨21, _⟩ => ⟨S256x1024, .f32⟩
  | .local _ .vmem, ⟨22, _⟩ => ⟨S256x1024, .f32⟩
  | .local _ .vmem, ⟨23, _⟩ => ⟨S256x5632, .bf16⟩
  | .local _ .vmem, ⟨24, _⟩ => ⟨S256x5632, .bf16⟩
  | .local _ .vmem, ⟨25, _⟩ => ⟨S3x5632, .f32⟩
  | .local _ .vmem, ⟨26, _⟩ => ⟨S1x5632, .f32⟩
  | .local _ .vmem, ⟨27, _⟩ => ⟨S256x1024, .f32⟩
  | .local _ .vmem, ⟨28, _⟩ => ⟨S256x1024, .f32⟩
  | .local _ .vmem, ⟨29, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50_0 : Ref sig .tc := ⟨.hbm, 61, rfl⟩
abbrev main_v50_1 : Ref sig .tc := ⟨.hbm, 62, rfl⟩
abbrev main_v50_2 : Ref sig .tc := ⟨.hbm, 63, rfl⟩
abbrev main_v50_3 : Ref sig .tc := ⟨.hbm, 64, rfl⟩
abbrev main_v50_4 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem15_0 : DmaSem sig := 26
abbrev cc0_sem16_0 : DmaSem sig := 27
abbrev cc0_sem16_1 : DmaSem sig := 28
abbrev cc0_sem17_0 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x5632 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x5632 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S3x5632 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x5632 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== KernelIdeal.lean ====
variable {F : FTy → Type} [FloatOps F] [Named F]
def κ : String → Option EReal := fun
  | "gelu_a" => some ((12003091 / 268435456 : ℝ) : EReal)
  | "gelu_c" => some ((6693141 / 8388608 : ℝ) : EReal)
  | "six_gelu_ca" => some ((241015141496493 / 1125899906842624 : ℝ) : EReal)
  | "two_gelu_c" => some ((6693141 / 4194304 : ℝ) : EReal)
  | _ => none
-- ==== ReferenceIdeal.lean ====
abbrev S8192x1024 : Shape := ⟨2, ![8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S2x5632 : Shape := ⟨2, ![2, 5632]⟩
abbrev S8194x5632 : Shape := ⟨2, ![8194, 5632]⟩
abbrev S1x5632 : Shape := ⟨2, ![1, 5632]⟩

abbrev nBuf : Space → Nat
  | .hbm => 189
  | .vmem => 0
  | .smem => 0
  | _ => 0

abbrev hbmTy0_0 (i : Nat) : BufTy := match i % 128 with
  | 0 => ⟨S8192x1024, .f32⟩
  | 1 => ⟨S1024, .f32⟩
  | 2 => ⟨S1024x5632, .f32⟩
  | 3 => ⟨S3x5632, .f32⟩
  | 4 => ⟨S5632, .f32⟩
  | 5 => ⟨S8192x1024, .f32⟩
  | 6 => ⟨S8192x2816, .f32⟩
  | 7 => ⟨S8192x1024, .f32⟩
  | 8 => ⟨S_, .f32⟩
  | 9 => ⟨S8192, .f32⟩
  | 10 => ⟨S8192x1, .f32⟩
  | 11 => ⟨S_, .f32⟩
  | 12 => ⟨S8192x1, .f32⟩
  | 13 => ⟨S8192x1, .f32⟩
  | 14 => ⟨S_, .f32⟩
  | 15 => ⟨S8192x1, .f32⟩
  | 16 => ⟨S8192x1, .f32⟩
  | 17 => ⟨S8192x1, .f32⟩
  | 18 => ⟨S8192x1, .f32⟩
  | 19 => ⟨S_, .f32⟩
  | 20 => ⟨S8192x1, .f32⟩
  | 21 => ⟨S8192x1, .f32⟩
  | 22 => ⟨S8192x1024, .f32⟩
  | 23 => ⟨S8192x1024, .f32⟩
  | 24 => ⟨S1x1024, .f32⟩
  | 25 => ⟨S8192x1024, .f32⟩
  | 26 => ⟨S8192x1024, .f32⟩
  | 27 => ⟨S8192x5632, .f32⟩
  | 28 => ⟨S_, .f32⟩
  | 29 => ⟨S2x5632, .f32⟩
  | 30 => ⟨S8194x5632, .f32⟩
  | 31 => ⟨S_, .f32⟩
  | 32 => ⟨S2x5632, .f32⟩
  | 33 => ⟨S8192x5632, .f32⟩
  | 34 => ⟨S1x5632, .f32⟩
  | 35 => ⟨S5632, .f32⟩
  | 36 => ⟨S1x5632, .f32⟩
  | 37 => ⟨S8192x5632, .f32⟩
  | 38 => ⟨S8192x5632, .f32⟩
  | 39 => ⟨S1x5632, .f32⟩
  | 40 => ⟨S8192x5632, .f32⟩
  | 41 => ⟨S8192x5632, .f32⟩
  | 42 => ⟨S8192x5632, .f32⟩
  | 43 => ⟨S1x5632, .f32⟩
  | 44 => ⟨S5632, .f32⟩
  | 45 => ⟨S1x5632, .f32⟩
  | 46 => ⟨S8192x5632, .f32⟩
  | 47 => ⟨S8192x5632, .f32⟩
  | 48 => ⟨S8192x5632, .f32⟩
  | 49 => ⟨S8192x5632, .f32⟩
  | 50 => ⟨S1x5632, .f32⟩
  | 51 => ⟨S5632, .f32⟩
  | 52 => ⟨S1x5632, .f32⟩
  | 53 => ⟨S8192x5632, .f32⟩
  | 54 => ⟨S8192x5632, .f32⟩
  | 55 => ⟨S8192x5632, .f32⟩
  | 56 => ⟨S8192x2816, .f32⟩
  | 57 => ⟨S8192x2816, .f32⟩
  | 58 => ⟨S8192x2816, .f32⟩
  | 59 => ⟨S8192x2816, .f32⟩
  | 60 => ⟨S8192x2816, .f32⟩
  | 61 => ⟨S_, .f32⟩
  | 62 => ⟨S8192x2816, .f32⟩
  | 63 => ⟨S8192x2816, .f32⟩
  | 64 => ⟨S_, .f32⟩
  | 65 => ⟨S8192x2816, .f32⟩
  | 66 => ⟨S8192x2816, .f32⟩
  | 67 => ⟨S8192x2816, .f32⟩
  | 68 => ⟨S_, .f32⟩
  | 69 => ⟨S8192x2816, .f32⟩
  | 70 => ⟨S8192x2816, .f32⟩
  | 71 => ⟨S8192x2816, .f32⟩
  | 72 => ⟨S_, .f32⟩
  | 73 => ⟨S8192x2816, .f32⟩
  | 74 => ⟨S8192x2816, .f32⟩
  | 75 => ⟨S_, .f32⟩
  | 76 => ⟨S8192x2816, .f32⟩
  | 77 => ⟨S8192x2816, .f32⟩
  | 78 => ⟨S8192x2816, .f32⟩
  | 79 => ⟨S_, .f32⟩
  | 80 => ⟨S8192x2816, .f32⟩
  | 81 => ⟨S8192x2816, .f32⟩
  | 82 => ⟨S_, .f32⟩
  | 83 => ⟨S8192x2816, .f32⟩
  | 84 => ⟨S8192x2816, .f32⟩
  | 85 => ⟨S8192x2816, .f32⟩
  | 86 => ⟨S8192x2816, .f32⟩
  | 87 => ⟨S8192x2816, .f32⟩
  | 88 => ⟨S8192x2816, .f32⟩
  | 89 => ⟨S8192x2816, .f32⟩
  | 90 => ⟨S8192x2816, .f32⟩
  | 91 => ⟨S_, .f32⟩
  | 92 => ⟨S8192x2816, .f32⟩
  | 93 => ⟨S8192x2816, .f32⟩
  | 94 => ⟨S8192x2816, .f32⟩
  | 95 => ⟨S_, .f32⟩
  | 96 => ⟨S8192x2816, .f32⟩
  | 97 => ⟨S8192x2816, .f32⟩
  | 98 => ⟨S8192x2816, .f32⟩
  | 99 => ⟨S_, .f32⟩
  | 100 => ⟨S8192x2816, .f32⟩
  | 101 => ⟨S8192x2816, .f32⟩
  | 102 => ⟨S8192x2816, .f32⟩
  | 103 => ⟨S8192x2816, .f32⟩
  | 104 => ⟨S_, .f32⟩
  | 105 => ⟨S8192x5632, .f32⟩
  | 106 => ⟨S_, .f32⟩
  | 107 => ⟨S8192x5632, .f32⟩
  | 108 => ⟨S8192x5632, .f32⟩
  | 109 => ⟨S8192x5632, .f32⟩
  | 110 => ⟨S_, .f32⟩
  | 111 => ⟨S5632, .f32⟩
  | 112 => ⟨S1x5632, .f32⟩
  | 113 => ⟨S8192x5632, .f32⟩
  | 114 => ⟨S8192x5632, .f32⟩
  | 115 => ⟨S_, .f32⟩
  | 116 => ⟨S5632, .f32⟩
  | 117 => ⟨S1x5632, .f32⟩
  | 118 => ⟨S_, .f32⟩
  | 119 => ⟨S3x5632, .f32⟩
  | 120 => ⟨S_, .f32⟩
  | 121 => ⟨S8194x5632, .f32⟩
  | 122 => ⟨S8192x5632, .f32⟩
  | 123 => ⟨S_, .f32⟩
  | 124 => ⟨S5632, .f32⟩
  | 125 => ⟨S1x5632, .f32⟩
  | 126 => ⟨S8192x5632, .f32⟩
  | 127 => ⟨S8192x5632, .f32⟩
  | _ => ⟨S8192x1024, .f32⟩

abbrev hbmTy0_1 (i : Nat) : BufTy := match i % 128 with
  | 0 => ⟨S_, .f32⟩
  | 1 => ⟨S5632, .f32⟩
  | 2 => ⟨S1x5632, .f32⟩
  | 3 => ⟨S_, .f32⟩
  | 4 => ⟨S3x5632, .f32⟩
  | 5 => ⟨S3x5632, .f32⟩
  | 6 => ⟨S_, .f32⟩
  | 7 => ⟨S8194x5632, .f32⟩
  | 8 => ⟨S8194x5632, .f32⟩
  | 9 => ⟨S_, .f32⟩
  | 10 => ⟨S5632, .f32⟩
  | 11 => ⟨S1x5632, .f32⟩
  | 12 => ⟨S_, .f32⟩
  | 13 => ⟨S5632, .f32⟩
  | 14 => ⟨S8192x5632, .f32⟩
  | 15 => ⟨S_, .f32⟩
  | 16 => ⟨S5632, .f32⟩
  | 17 => ⟨S1x5632, .f32⟩
  | 18 => ⟨S8192x5632, .f32⟩
  | 19 => ⟨S8192x5632, .f32⟩
  | 20 => ⟨S_, .f32⟩
  | 21 => ⟨S5632, .f32⟩
  | 22 => ⟨S1x5632, .f32⟩
  | 23 => ⟨S_, .f32⟩
  | 24 => ⟨S3x5632, .f32⟩
  | 25 => ⟨S3x5632, .f32⟩
  | 26 => ⟨S_, .f32⟩
  | 27 => ⟨S8194x5632, .f32⟩
  | 28 => ⟨S8194x5632, .f32⟩
  | 29 => ⟨S2x5632, .f32⟩
  | 30 => ⟨S8192x5632, .f32⟩
  | 31 => ⟨S8192x1024, .f32⟩
  | 32 => ⟨S8192x1024, .f32⟩
  | 33 => ⟨S_, .f32⟩
  | 34 => ⟨S1024, .f32⟩
  | 35 => ⟨S1x1024, .f32⟩
  | 36 => ⟨S8192x1024, .f32⟩
  | 37 => ⟨S8192x1024, .f32⟩
  | 38 => ⟨S_, .f32⟩
  | 39 => ⟨S1024, .f32⟩
  | 40 => ⟨S8192x1024, .f32⟩
  | 41 => ⟨S_, .f32⟩
  | 42 => ⟨S8192, .f32⟩
  | 43 => ⟨S8192x1, .f32⟩
  | 44 => ⟨S8192x1024, .f32⟩
  | 45 => ⟨S8192x1024, .f32⟩
  | 46 => ⟨S8192x1, .f32⟩
  | 47 => ⟨S_, .f32⟩
  | 48 => ⟨S8192x1, .f32⟩
  | 49 => ⟨S8192x1, .f32⟩
  | 50 => ⟨S_, .f32⟩
  | 51 => ⟨S8192, .f32⟩
  | 52 => ⟨S8192x1024, .f32⟩
  | 53 => ⟨S8192x1024, .f32⟩
  | 54 => ⟨S8192x1024, .f32⟩
  | 55 => ⟨S8192x1024, .f32⟩
  | 56 => ⟨S8192x1024, .f32⟩
  | 57 => ⟨S8192x5632, .bf16⟩
  | 58 => ⟨S1x5632, .f32⟩
  | 59 => ⟨S8192x1024, .f32⟩
  | 60 => ⟨S1x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_5 : Ref sig .tc := ⟨.hbm, 61, rfl⟩
abbrev main_v48 : Ref sig .tc := ⟨.hbm, 62, rfl⟩
abbrev main_v49 : Ref sig .tc := ⟨.hbm, 63, rfl⟩
abbrev main_cst_6 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_7 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_8 : Ref sig .tc := ⟨.hbm, 72, rfl⟩
abbrev main_v56 : Ref sig .tc := ⟨.hbm, 73, rfl⟩
abbrev main_v57 : Ref sig .tc := ⟨.hbm, 74, rfl⟩
abbrev main_cst_9 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_10 : Ref sig .tc := ⟨.hbm, 79, rfl⟩
abbrev main_v61 : Ref sig .tc := ⟨.hbm, 80, rfl⟩
abbrev main_v62 : Ref sig .tc := ⟨.hbm, 81, rfl⟩
abbrev main_cst_11 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_12 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_13 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_14 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_cst_15 : Ref sig .tc := ⟨.hbm, 104, rfl⟩
abbrev main_v81 : Ref sig .tc := ⟨.hbm, 105, rfl⟩
abbrev main_cst_16 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_cst_17 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_cst_18 : Ref sig .tc := ⟨.hbm, 115, rfl⟩
abbrev main_v89 : Ref sig .tc := ⟨.hbm, 116, rfl⟩
abbrev main_v90 : Ref sig .tc := ⟨.hbm, 117, rfl⟩
abbrev main_cst_19 : Ref sig .tc := ⟨.hbm, 118, rfl⟩
abbrev main_v91 : Ref sig .tc := ⟨.hbm, 119, rfl⟩
abbrev main_cst_20 : Ref sig .tc := ⟨.hbm, 120, rfl⟩
abbrev main_v92 : Ref sig .tc := ⟨.hbm, 121, rfl⟩
abbrev main_v93 : Ref sig .tc := ⟨.hbm, 122, rfl⟩
abbrev main_cst_21 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_cst_22 : Ref sig .tc := ⟨.hbm, 128, rfl⟩
abbrev main_v98 : Ref sig .tc := ⟨.hbm, 129, rfl⟩
abbrev main_v99 : Ref sig .tc := ⟨.hbm, 130, rfl⟩
abbrev main_cst_23 : Ref sig .tc := ⟨.hbm, 131, rfl⟩
abbrev main_v100 : Ref sig .tc := ⟨.hbm, 132, rfl⟩
abbrev main_v101 : Ref sig .tc := ⟨.hbm, 133, rfl⟩
abbrev main_cst_24 : Ref sig .tc := ⟨.hbm, 134, rfl⟩
abbrev main_v102 : Ref sig .tc := ⟨.hbm, 135, rfl⟩
abbrev main_v103 : Ref sig .tc := ⟨.hbm, 136, rfl⟩
abbrev main_cst_25 : Ref sig .tc := ⟨.hbm, 137, rfl⟩
abbrev main_v104 : Ref sig .tc := ⟨.hbm, 138, rfl⟩
abbrev main_v105 : Ref sig .tc := ⟨.hbm, 139, rfl⟩
abbrev main_cst_26 : Ref sig .tc := ⟨.hbm, 140, rfl⟩
abbrev main_v106 : Ref sig .tc := ⟨.hbm, 141, rfl⟩
abbrev main_v107 : Ref sig .tc := ⟨.hbm, 142, rfl⟩
abbrev main_cst_27 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_cst_28 : Ref sig .tc := ⟨.hbm, 148, rfl⟩
abbrev main_v112 : Ref sig .tc := ⟨.hbm, 149, rfl⟩
abbrev main_v113 : Ref sig .tc := ⟨.hbm, 150, rfl⟩
abbrev main_cst_29 : Ref sig .tc := ⟨.hbm, 151, rfl⟩
abbrev main_v114 : Ref sig .tc := ⟨.hbm, 152, rfl⟩
abbrev main_v115 : Ref sig .tc := ⟨.hbm, 153, rfl⟩
abbrev main_cst_30 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_cst_31 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_cst_32 : Ref sig .tc := ⟨.hbm, 166, rfl⟩
abbrev main_v126 : Ref sig .tc := ⟨.hbm, 167, rfl⟩
abbrev main_v127 : Ref sig .tc := ⟨.hbm, 168, rfl⟩
abbrev main_cst_33 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_cst_34 : Ref sig .tc := ⟨.hbm, 175, rfl⟩
abbrev main_v133 : Ref sig .tc := ⟨.hbm, 176, rfl⟩
abbrev main_v134 : Ref sig .tc := ⟨.hbm, 177, rfl⟩
abbrev main_cst_35 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩

abbrev nD : Nat := 1
abbrev τ : Topo := Topo.v7x

variable {F : FTy → Type} [FloatOps F]
-- ==== Kernel2.lean ====
abbrev S8192x1024 : Shape := ⟨2, ![8192, 1024]⟩
abbrev S8192x5632 : Shape := ⟨2, ![8192, 5632]⟩
abbrev S1024x5632 : Shape := ⟨2, ![1024, 5632]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S8192x1024, .bf16⟩
  | .hbm, ⟨3, _⟩ => ⟨S8192x5632, .bf16⟩
  | .hbm, ⟨4, _⟩ => ⟨S1024x5632, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S8192x1024 : Shape := ⟨2, ![8192, 1024]⟩
abbrev S8192x5632 : Shape := ⟨2, ![8192, 5632]⟩
abbrev S1024x8192 : Shape := ⟨2, ![1024, 8192]⟩
abbrev S1024x5632 : Shape := ⟨2, ![1024, 5632]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S1024x8192, .f32⟩
  | .hbm, ⟨3, _⟩ => ⟨S1024x5632, .f32⟩
  | .hbm, ⟨4, _⟩ => ⟨S1024x5632, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel3.lean ====
abbrev S8192x2816 : Shape := ⟨2, ![8192, 2816]⟩
abbrev S8192x1024 : Shape := ⟨2, ![8192, 1024]⟩
abbrev S2816x1024 : Shape := ⟨2, ![2816, 1024]⟩
abbrev S2048x2816 : Shape := ⟨2, ![2048, 2816]⟩
abbrev S2048x512 : Shape := ⟨2, ![2048, 512]⟩
abbrev S2816x512 : Shape := ⟨2, ![2816, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S8192x1024, .bf16⟩
  | .hbm, ⟨4, _⟩ => ⟨S2816x1024, .bf16⟩
  | .local _ .vmem, ⟨0, _⟩ => ⟨S2048x2816, .bf16⟩
  | .local _ .vmem, ⟨1, _⟩ => ⟨S2048x2816, .bf16⟩
  | .local _ .vmem, ⟨2, _⟩ => ⟨S2048x512, .bf16⟩
  | .local _ .vmem, ⟨3, _⟩ => ⟨S2048x512, .bf16⟩
  | .local _ .vmem, ⟨4, _⟩ => ⟨S2816x512, .bf16⟩
  | .local _ .vmem, ⟨5, _⟩ => ⟨S2816x512, .bf16⟩
  | .local _ .vmem, ⟨6, _⟩ => ⟨S2816x512, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2816x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S8192x2816 : Shape := ⟨2, ![8192, 2816]⟩
abbrev S8192x1024 : Shape := ⟨2, ![8192, 1024]⟩
abbrev S2816x8192 : Shape := ⟨2, ![2816, 8192]⟩
abbrev S2816x1024 : Shape := ⟨2, ![2816, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S2816x8192, .f32⟩
  | .hbm, ⟨3, _⟩ => ⟨S2816x1024, .f32⟩
  | .hbm, ⟨4, _⟩ => ⟨S2816x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel4.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference4Ideal.lean ====
abbrev S8192x1024 : Shape := ⟨2, ![8192, 1024]⟩
abbrev S1024x8192 : Shape := ⟨2, ![1024, 8192]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x8192, .f32⟩
  | .hbm, ⟨3, _⟩ => ⟨S1024x1024, .f32⟩
  | .hbm, ⟨4, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel5.lean ====
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S8192x512, .bf16⟩
  | .hbm, ⟨3, _⟩ => ⟨S8192x1024, .bf16⟩
  | .hbm, ⟨4, _⟩ => ⟨S512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference5Ideal.lean ====
abbrev S8192x512 : Shape := ⟨2, ![8192, 512]⟩
abbrev S8192x1024 : Shape := ⟨2, ![8192, 1024]⟩
abbrev S512x8192 : Shape := ⟨2, ![512, 8192]⟩
abbrev S512x1024 : Shape := ⟨2, ![512, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S512x8192, .f32⟩
  | .hbm, ⟨3, _⟩ => ⟨S512x1024, .f32⟩
  | .hbm, ⟨4, _⟩ => ⟨S512x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel6.lean ====
abbrev S8192x256 : Shape := ⟨2, ![8192, 256]⟩
abbrev S8192x1024 : Shape := ⟨2, ![8192, 1024]⟩
abbrev S256x1024 : Shape := ⟨2, ![256, 1024]⟩
abbrev S2048x256 : Shape := ⟨2, ![2048, 256]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x1024, .f32⟩
  | .hbm, ⟨2, _⟩ => ⟨S8192x1024, .bf16⟩
  | .hbm, ⟨3, _⟩ => ⟨S256x1024, .bf16⟩
  | .local _ .vmem, ⟨0, _⟩ => ⟨S2048x256, .f32⟩
  | .local _ .vmem, ⟨1, _⟩ => ⟨S2048x256, .f32⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference6Ideal.lean ====
abbrev S8192x256 : Shape := ⟨2, ![8192, 256]⟩
abbrev S8192x1024 : Shape := ⟨2, ![8192, 1024]⟩
abbrev S256x8192 : Shape := ⟨2, ![256, 8192]⟩
abbrev S256x1024 : Shape := ⟨2, ![256, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x1024, .f32⟩
  | .hbm, ⟨2, _⟩ => ⟨S256x8192, .f32⟩
  | .hbm, ⟨3, _⟩ => ⟨S256x1024, .f32⟩
  | .hbm, ⟨4, _⟩ => ⟨S256x1024, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel7.lean ====
abbrev S8192x128 : Shape := ⟨2, ![8192, 128]⟩
abbrev S8192x512 : Shape := ⟨2, ![8192, 512]⟩
abbrev S128x512 : Shape := ⟨2, ![128, 512]⟩
abbrev S2048x128 : Shape := ⟨2, ![2048, 128]⟩
abbrev S2048x512 : Shape := ⟨2, ![2048, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x128, .f32⟩
  | .hbm, ⟨1, _⟩ => ⟨S8192x512, .f32⟩
  | .hbm, ⟨2, _⟩ => ⟨S8192x128, .bf16⟩
  | .hbm, ⟨3, _⟩ => ⟨S8192x512, .bf16⟩
  | .hbm, ⟨4, _⟩ => ⟨S128x512, .bf16⟩
  | .local _ .vmem, ⟨0, _⟩ => ⟨S2048x128, .bf16⟩
  | .local _ .vmem, ⟨1, _⟩ => ⟨S2048x128, .bf16⟩
  | .local _ .vmem, ⟨2, _⟩ => ⟨S2048x512, .bf16⟩
  | .local _ .vmem, ⟨3, _⟩ => ⟨S2048x512, .bf16⟩
  | .local _ .vmem, ⟨4, _⟩ => ⟨S128x512, .bf16⟩
  | .local _ .vmem, ⟨5, _⟩ => ⟨S128x512, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference7Ideal.lean ====
abbrev S8192x128 : Shape := ⟨2, ![8192, 128]⟩
abbrev S8192x512 : Shape := ⟨2, ![8192, 512]⟩
abbrev S128x8192 : Shape := ⟨2, ![128, 8192]⟩
abbrev S128x512 : Shape := ⟨2, ![128, 512]⟩

abbrev nBuf : Space → Nat
  | .hbm => 5
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x512, .f32⟩
  | .hbm, ⟨2, _⟩ => ⟨S128x8192, .f32⟩
  | .hbm, ⟨3, _⟩ => ⟨S128x512, .f32⟩
  | .hbm, ⟨4, _⟩ => ⟨S128x512, .bf16⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel8.lean ====
abbrev S8192x128 : Shape := ⟨2, ![8192, 128]⟩
abbrev S8192x1024 : Shape := ⟨2, ![8192, 1024]⟩
abbrev S128x1024 : Shape := ⟨2, ![128, 1024]⟩
abbrev S2048x128 : Shape := ⟨2, ![2048, 128]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x128, .f32⟩
  | .hbm, ⟨1, _⟩ => ⟨S8192x1024, .f32⟩
  | .hbm, ⟨2, _⟩ => ⟨S8192x128, .bf16⟩
  | .hbm, ⟨3, _⟩ => ⟨S8192x1024, .bf16⟩
  | .hbm, ⟨4, _⟩ => ⟨S128x1024, .bf16⟩
  | .local _ .vmem, ⟨0, _⟩ => ⟨S2048x128, .bf16⟩
  | .local _ .vmem, ⟨1, _⟩ => ⟨S2048x128, .bf16⟩
  | .local _ .vmem, ⟨2, _⟩ => ⟨S2048x1024, .bf16⟩
  | .local _ .vmem, ⟨3, _⟩ => ⟨S2048x1024, .bf16⟩
  | .local _ .vmem, ⟨4, _⟩ => ⟨S128x1024, .bf16⟩
  | .local _ .vmem, ⟨5, _⟩ => ⟨S128x1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference8Ideal.lean ====
abbrev S8192x128 : Shape := ⟨2, ![8192, 128]⟩
abbrev S8192x1024 : Shape := ⟨2, ![8192, 1024]⟩
abbrev S128x8192 : Shape := ⟨2, ![128, 8192]⟩
abbrev S128x1024 : Shape := ⟨2, ![128, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x1024, .f32⟩
  | .hbm, ⟨2, _⟩ => ⟨S128x8192, .f32⟩
  | .hbm, ⟨3, _⟩ => ⟨S128x1024, .f32⟩
  | .hbm, ⟨4, _⟩ => ⟨S128x1024, .bf16⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S8192x1024 : Shape := ⟨2, ![8192, 1024]⟩
abbrev S1024 : Shape := ⟨1, ![1024]⟩
abbrev S1024x6160 : Shape := ⟨2, ![1024, 6160]⟩
abbrev S8192x6160 : Shape := ⟨2, ![8192, 6160]⟩
abbrev S6160x1024 : Shape := ⟨2, ![6160, 1024]⟩
abbrev S128x1024 : Shape := ⟨2, ![128, 1024]⟩
abbrev S1024x1024 : Shape := ⟨2, ![1024, 1024]⟩
abbrev S16x1024 : Shape := ⟨2, ![16, 1024]⟩
abbrev S_ : Shape := ⟨0, ![]⟩
abbrev S112x1024 : Shape := ⟨2, ![112, 1024]⟩
abbrev S6272x1024 : Shape := ⟨2, ![6272, 1024]⟩
abbrev S8192x128 : Shape := ⟨2, ![8192, 128]⟩
abbrev S8192x16 : Shape := ⟨2, ![8192, 16]⟩
abbrev S8192x112 : Shape := ⟨2, ![8192, 112]⟩
abbrev S1x1024 : Shape := ⟨2, ![1, 1024]⟩
abbrev S512x1024 : Shape := ⟨2, ![512, 1024]⟩
abbrev S512x128 : Shape := ⟨2, ![512, 128]⟩
abbrev S512x6272 : Shape := ⟨2, ![512, 6272]⟩
abbrev S512 : Shape := ⟨1, ![512]⟩
abbrev S512x1 : Shape := ⟨2, ![512, 1]⟩

abbrev nBuf : Space → Nat
  | .hbm => 48
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x6160, .f32⟩
  | .hbm, ⟨3, _⟩ => ⟨S8192x6160, .f32⟩
  | .hbm, ⟨4, _⟩ => ⟨S8192x1024, .f32⟩
  | .hbm, ⟨5, _⟩ => ⟨S6160x1024, .f32⟩
  | .hbm, ⟨6, _⟩ => ⟨S6160x1024, .bf16⟩
  | .hbm, ⟨7, _⟩ => ⟨S128x1024, .bf16⟩
  | .hbm, ⟨8, _⟩ => ⟨S128x1024, .bf16⟩
  | .hbm, ⟨9, _⟩ => ⟨S128x1024, .bf16⟩
  | .hbm, ⟨10, _⟩ => ⟨S128x1024, .bf16⟩
  | .hbm, ⟨11, _⟩ => ⟨S128x1024, .bf16⟩
  | .hbm, ⟨12, _⟩ => ⟨S128x1024, .bf16⟩
  | .hbm, ⟨13, _⟩ => ⟨S128x1024, .bf16⟩
  | .hbm, ⟨14, _⟩ => ⟨S128x1024, .bf16⟩
  | .hbm, ⟨15, _⟩ => ⟨S1024x1024, .bf16⟩
  | .hbm, ⟨16, _⟩ => ⟨S1024x1024, .bf16⟩
  | .hbm, ⟨17, _⟩ => ⟨S1024x1024, .bf16⟩
  | .hbm, ⟨18, _⟩ => ⟨S1024x1024, .bf16⟩
  | .hbm, ⟨19, _⟩ => ⟨S1024x1024, .bf16⟩
  | .hbm, ⟨20, _⟩ => ⟨S1024x1024, .bf16⟩
  | .hbm, ⟨21, _⟩ => ⟨S16x1024, .bf16⟩
  | .hbm, ⟨22, _⟩ => ⟨S_, .bf16⟩
  | .hbm, ⟨23, _⟩ => ⟨S112x1024, .bf16⟩
  | .hbm, ⟨24, _⟩ => ⟨S128x1024, .bf16⟩
  | .hbm, ⟨25, _⟩ => ⟨S6272x1024, .bf16⟩
  | .hbm, ⟨26, _⟩ => ⟨S8192x6160, .bf16⟩
  | .hbm, ⟨27, _⟩ => ⟨S8192x128, .bf16⟩
  | .hbm, ⟨28, _⟩ => ⟨S8192x128, .bf16⟩
  | .hbm, ⟨29, _⟩ => ⟨S8192x128, .bf16⟩
  | .hbm, ⟨30, _⟩ => ⟨S8192x128, .bf16⟩
  | .hbm, ⟨31, _⟩ => ⟨S8192x128, .bf16⟩
  | .hbm, ⟨32, _⟩ => ⟨S8192x128, .bf16⟩
  | .hbm, ⟨33, _⟩ => ⟨S8192x128, .bf16⟩
  | .hbm, ⟨34, _⟩ => ⟨S8192x128, .bf16⟩
  | .hbm, ⟨35, _⟩ => ⟨S8192x1024, .bf16⟩
  | .hbm, ⟨36, _⟩ => ⟨S8192x1024, .bf16⟩
  | .hbm, ⟨37, _⟩ => ⟨S8192x1024, .bf16⟩
  | .hbm, ⟨38, _⟩ => ⟨S8192x1024, .bf16⟩
  | .hbm, ⟨39, _⟩ => ⟨S8192x1024, .bf16⟩
  | .hbm, ⟨40, _⟩ => ⟨S8192x1024, .bf16⟩
  | .hbm, ⟨41, _⟩ => ⟨S8192x16, .bf16⟩
  | .hbm, ⟨42, _⟩ => ⟨S_, .bf16⟩
  | .hbm, ⟨43, _⟩ => ⟨S8192x112, .bf16⟩
  | .hbm, ⟨44, _⟩ => ⟨S8192x128, .bf16⟩
  | .hbm, ⟨45, _⟩ => ⟨S1x1024, .f32⟩
  | .hbm, ⟨46, _⟩ => ⟨S8192x1024, .f32⟩
  | .hbm, ⟨47, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x128, .bf16⟩
  | .local _ .vmem, ⟨13, _⟩ => ⟨S512x128, .bf16⟩
  | .local _ .vmem, ⟨14, _⟩ => ⟨S6272x1024, .bf16⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_0 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39_0 : Ref sig .tc := ⟨.hbm, 46, rfl⟩
abbrev main_v39_1 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S6272x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference9Ideal.lean ====
abbrev S8192x1024 : Shape := ⟨2, ![8192, 1024]⟩
abbrev S1024 : Shape := ⟨1, ![1024]⟩
abbrev S1024x6160 : Shape := ⟨2, ![1024, 6160]⟩
abbrev S8192x6160 : Shape := ⟨2, ![8192, 6160]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x6160, .f32⟩
  | .hbm, ⟨3, _⟩ => ⟨S8192x6160, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x6160, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel10.lean ====
abbrev S8192x2816 : Shape := ⟨2, ![8192, 2816]⟩
abbrev S8192x1024 : Shape := ⟨2, ![8192, 1024]⟩
abbrev S8192x256 : Shape := ⟨2, ![8192, 256]⟩
abbrev S2816x1024 : Shape := ⟨2, ![2816, 1024]⟩
abbrev S1024 : Shape := ⟨1, ![1024]⟩
abbrev S256x1024 : Shape := ⟨2, ![256, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩

abbrev nBuf : Space → Nat
  | .hbm => 43
  | .vmem => 24
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x256, .f32⟩
  | .hbm, ⟨3, _⟩ => ⟨S2816x1024, .f32⟩
  | .hbm, ⟨4, _⟩ => ⟨S1024, .f32⟩
  | .hbm, ⟨5, _⟩ => ⟨S256x1024, .f32⟩
  | .hbm, ⟨6, _⟩ => ⟨S1024x1024, .f32⟩
  | .hbm, ⟨7, _⟩ => ⟨S1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .bf16⟩
  | .hbm, ⟨30, _⟩ => ⟨S8192x1024, .bf16⟩
  | .hbm, ⟨31, _⟩ => ⟨S8192x1024, .bf16⟩
  | .hbm, ⟨32, _⟩ => ⟨S1x1024, .f32⟩
  | .hbm, ⟨33, _⟩ => ⟨S1x1024, .f32⟩
  | .hbm, ⟨34, _⟩ => ⟨S1024x1024, .bf16⟩
  | .hbm, ⟨35, _⟩ => ⟨S2816x1024, .bf16⟩
  | .hbm, ⟨36, _⟩ => ⟨S8192x1024, .f32⟩
  | .hbm, ⟨37, _⟩ => ⟨S8192x1024, .bf16⟩
  | .hbm, ⟨38, _⟩ => ⟨S8192x1024, .bf16⟩
  | .hbm, ⟨39, _⟩ => ⟨S8192x1024, .bf16⟩
  | .hbm, ⟨40, _⟩ => ⟨S8192x2816, .bf16⟩
  | .hbm, ⟨41, _⟩ => ⟨S1x1024, .f32⟩
  | .hbm, ⟨42, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S2816x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x2816, .bf16⟩
  | .local _ .vmem, ⟨21, _⟩ => ⟨S512x2816, .bf16⟩
  | .local _ .vmem, ⟨22, _⟩ => ⟨S1x1024, .f32⟩
  | .local _ .vmem, ⟨23, _⟩ => ⟨S1x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24_0 : Ref sig .tc := ⟨.hbm, 36, rfl⟩
abbrev main_v24_1 : Ref sig .tc := ⟨.hbm, 37, rfl⟩
abbrev main_v24_2 : Ref sig .tc := ⟨.hbm, 38, rfl⟩
abbrev main_v24_3 : Ref sig .tc := ⟨.hbm, 39, rfl⟩
abbrev main_v24_4 : Ref sig .tc := ⟨.hbm, 40, rfl⟩
abbrev main_v24_5 : Ref sig .tc := ⟨.hbm, 41, rfl⟩
abbrev main_v24_6 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg14_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem14_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference10Ideal.lean ====
abbrev S8192x2816 : Shape := ⟨2, ![8192, 2816]⟩
abbrev S8192x1024 : Shape := ⟨2, ![8192, 1024]⟩
abbrev S8192x256 : Shape := ⟨2, ![8192, 256]⟩
abbrev S2816x1024 : Shape := ⟨2, ![2816, 1024]⟩
abbrev S1024 : Shape := ⟨1, ![1024]⟩
abbrev S256x1024 : Shape := ⟨2, ![256, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x2816 : Shape := ⟨2, ![1024, 2816]⟩

abbrev nBuf : Space → Nat
  | .hbm => 146
  | .vmem => 0
  | .smem => 0
  | _ => 0

abbrev hbmTy0_0 (i : Nat) : BufTy := match i % 128 with
  | 0 => ⟨S8192x2816, .f32⟩
  | 1 => ⟨S8192x1024, .f32⟩
  | 2 => ⟨S8192x256, .f32⟩
  | 3 => ⟨S2816x1024, .f32⟩
  | 4 => ⟨S1024, .f32⟩
  | 5 => ⟨S256x1024, .f32⟩
  | 6 => ⟨S1024x1024, .f32⟩
  | 7 => ⟨S1024, .f32⟩
  | 8 => ⟨S8192x1024, .f32⟩
  | 9 => ⟨S8192x1024, .f32⟩
  | 10 => ⟨S8192x1024, .f32⟩
  | 11 => ⟨S_, .f32⟩
  | 12 => ⟨S8192, .f32⟩
  | 13 => ⟨S8192x1, .f32⟩
  | 14 => ⟨S_, .f32⟩
  | 15 => ⟨S8192x1, .f32⟩
  | 16 => ⟨S8192x1, .f32⟩
  | 17 => ⟨S_, .f32⟩
  | 18 => ⟨S8192x1, .f32⟩
  | 19 => ⟨S8192x1, .f32⟩
  | 20 => ⟨S8192x1, .f32⟩
  | 21 => ⟨S8192x1024, .f32⟩
  | 22 => ⟨S8192x1024, .f32⟩
  | 23 => ⟨S1x1024, .f32⟩
  | 24 => ⟨S8192x1024, .f32⟩
  | 25 => ⟨S8192x1024, .f32⟩
  | 26 => ⟨S8192x1024, .f32⟩
  | 27 => ⟨S8192x1024, .f32⟩
  | 28 => ⟨S8192x1024, .f32⟩
  | 29 => ⟨S8192x1024, .f32⟩
  | 30 => ⟨S8192x1024, .f32⟩
  | 31 => ⟨S_, .f32⟩
  | 32 => ⟨S8192x1024, .f32⟩
  | 33 => ⟨S8192x1024, .f32⟩
  | 34 => ⟨S_, .f32⟩
  | 35 => ⟨S8192x1024, .f32⟩
  | 36 => ⟨S8192x1024, .f32⟩
  | 37 => ⟨S_, .f32⟩
  | 38 => ⟨S8192x1024, .f32⟩
  | 39 => ⟨S8192x1024, .f32⟩
  | 40 => ⟨S8192x1024, .f32⟩
  | 41 => ⟨S8192x1024, .f32⟩
  | 42 => ⟨S8192x1024, .f32⟩
  | 43 => ⟨S_, .f32⟩
  | 44 => ⟨S8192, .f32⟩
  | 45 => ⟨S8192x1, .f32⟩
  | 46 => ⟨S_, .f32⟩
  | 47 => ⟨S8192x1, .f32⟩
  | 48 => ⟨S8192x1, .f32⟩
  | 49 => ⟨S_, .f32⟩
  | 50 => ⟨S8192x1, .f32⟩
  | 51 => ⟨S8192x1, .f32⟩
  | 52 => ⟨S8192x1, .f32⟩
  | 53 => ⟨S8192x1, .f32⟩
  | 54 => ⟨S_, .f32⟩
  | 55 => ⟨S8192x1, .f32⟩
  | 56 => ⟨S8192x1, .f32⟩
  | 57 => ⟨S8192x1024, .f32⟩
  | 58 => ⟨S8192x1024, .f32⟩
  | 59 => ⟨S1x1024, .f32⟩
  | 60 => ⟨S8192x1024, .f32⟩
  | 61 => ⟨S8192x1024, .f32⟩
  | 62 => ⟨S8192x1024, .f32⟩
  | 63 => ⟨S_, .f32⟩
  | 64 => ⟨S1024, .f32⟩
  | 65 => ⟨S1x1024, .f32⟩
  | 66 => ⟨S8192x1024, .f32⟩
  | 67 => ⟨S8192x1024, .f32⟩
  | 68 => ⟨S_, .f32⟩
  | 69 => ⟨S1024, .f32⟩
  | 70 => ⟨S8192x1024, .f32⟩
  | 71 => ⟨S_, .f32⟩
  | 72 => ⟨S8192, .f32⟩
  | 73 => ⟨S8192x1, .f32⟩
  | 74 => ⟨S8192x1024, .f32⟩
  | 75 => ⟨S8192x1024, .f32⟩
  | 76 => ⟨S8192x1, .f32⟩
  | 77 => ⟨S_, .f32⟩
  | 78 => ⟨S8192x1, .f32⟩
  | 79 => ⟨S8192x1, .f32⟩
  | 80 => ⟨S_, .f32⟩
  | 81 => ⟨S8192, .f32⟩
  | 82 => ⟨S8192x1024, .f32⟩
  | 83 => ⟨S8192x1024, .f32⟩
  | 84 => ⟨S8192x1024, .f32⟩
  | 85 => ⟨S8192x1024, .f32⟩
  | 86 => ⟨S8192x1024, .f32⟩
  | 87 => ⟨S8192x1024, .f32⟩
  | 88 => ⟨S8192x1024, .f32⟩
  | 89 => ⟨S8192x1024, .f32⟩
  | 90 => ⟨S1024x1024, .f32⟩
  | 91 => ⟨S8192x1024, .f32⟩
  | 92 => ⟨S8192x1024, .f32⟩
  | 93 => ⟨S8192x1024, .f32⟩
  | 94 => ⟨S_, .f32⟩
  | 95 => ⟨S8192, .f32⟩
  | 96 => ⟨S8192x1, .f32⟩
  | 97 => ⟨S_, .f32⟩
  | 98 => ⟨S8192x1, .f32⟩
  | 99 => ⟨S8192x1, .f32⟩
  | 100 => ⟨S_, .f32⟩
  | 101 => ⟨S8192x1, .f32⟩
  | 102 => ⟨S8192x1, .f32⟩
  | 103 => ⟨S8192x1, .f32⟩
  | 104 => ⟨S8192x1, .f32⟩
  | 105 => ⟨S_, .f32⟩
  | 106 => ⟨S8192x1, .f32⟩
  | 107 => ⟨S8192x1, .f32⟩
  | 108 => ⟨S8192x1024, .f32⟩
  | 109 => ⟨S8192x1024, .f32⟩
  | 110 => ⟨S1x1024, .f32⟩
  | 111 => ⟨S8192x1024, .f32⟩
  | 112 => ⟨S8192x1024, .f32⟩
  | 113 => ⟨S8192x1024, .f32⟩
  | 114 => ⟨S_, .f32⟩
  | 115 => ⟨S1024, .f32⟩
  | 116 => ⟨S1x1024, .f32⟩
  | 117 => ⟨S8192x1024, .f32⟩
  | 118 => ⟨S8192x1024, .f32⟩
  | 119 => ⟨S_, .f32⟩
  | 120 => ⟨S1024, .f32⟩
  | 121 => ⟨S8192x1024, .f32⟩
  | 122 => ⟨S_, .f32⟩
  | 123 => ⟨S8192, .f32⟩
  | 124 => ⟨S8192x1, .f32⟩
  | 125 => ⟨S8192x1024, .f32⟩
  | 126 => ⟨S8192x1024, .f32⟩
  | 127 => ⟨S8192x1, .f32⟩
  | _ => ⟨S8192x2816, .f32⟩

abbrev hbmTy0_1 (i : Nat) : BufTy := match i % 128 with
  | 0 => ⟨S_, .f32⟩
  | 1 => ⟨S8192x1, .f32⟩
  | 2 => ⟨S8192x1, .f32⟩
  | 3 => ⟨S_, .f32⟩
  | 4 => ⟨S8192, .f32⟩
  | 5 => ⟨S8192x1024, .f32⟩
  | 6 => ⟨S8192x1024, .f32⟩
  | 7 => ⟨S8192x1024, .f32⟩
  | 8 => ⟨S8192x1024, .f32⟩
  | 9 => ⟨S8192x1024, .f32⟩
  | 10 => ⟨S1024x2816, .f32⟩
  | 11 => ⟨S8192x2816, .f32⟩
  | 12 => ⟨S8192x1024, .bf16⟩
  | 13 => ⟨S8192x1024, .bf16⟩
  | 14 => ⟨S8192x1024, .bf16⟩
  | 15 => ⟨S8192x2816, .bf16⟩
  | 16 => ⟨S1x1024, .f32⟩
  | 17 => ⟨S1x1024, .f32⟩
  | _ => ⟨S8192x2816, .f32⟩

abbrev hbmTy (i : Nat) : BufTy := match i / 128 with
  | 0 => hbmTy0_0 i
  | 1 => hbmTy0_1 i
  | _ => ⟨S8192x2816, .f32⟩

abbrev bufTy : (tb : Table) → Fin (tcTables nBuf tb) → BufTy
  | .hbm, ⟨i, _⟩ => hbmTy i
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_10 : Ref sig .tc := ⟨.hbm, 68, rfl⟩
abbrev main_v48 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_cst_13 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_14 : Ref sig .tc := ⟨.hbm, 94, rfl⟩
abbrev main_v70 : Ref sig .tc := ⟨.hbm, 95, rfl⟩
abbrev main_v71 : Ref sig .tc := ⟨.hbm, 96, rfl⟩
abbrev main_cst_15 : Ref sig .tc := ⟨.hbm, 97, rfl⟩
abbrev main_v72 : Ref sig .tc := ⟨.hbm, 98, rfl⟩
abbrev main_v73 : Ref sig .tc := ⟨.hbm, 99, rfl⟩
abbrev main_cst_16 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_17 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_18 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_cst_19 : Ref sig .tc := ⟨.hbm, 119, rfl⟩
abbrev main_v90 : Ref sig .tc := ⟨.hbm, 120, rfl⟩
abbrev main_v91 : Ref sig .tc := ⟨.hbm, 121, rfl⟩
abbrev main_cst_20 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_cst_21 : Ref sig .tc := ⟨.hbm, 128, rfl⟩
abbrev main_v97 : Ref sig .tc := ⟨.hbm, 129, rfl⟩
abbrev main_v98 : Ref sig .tc := ⟨.hbm, 130, rfl⟩
abbrev main_cst_22 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩

abbrev nD : Nat := 1
abbrev τ : Topo := Topo.v7x

variable {F : FTy → Type} [FloatOps F]
-- ==== Kernel11.lean ====
abbrev S8192x512 : Shape := ⟨2, ![8192, 512]⟩
abbrev S8192x1024 : Shape := ⟨2, ![8192, 1024]⟩
abbrev S8192x6144 : Shape := ⟨2, ![8192, 6144]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 48
  | .vmem => 31
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S8192x6144, .f32⟩
  | .hbm, ⟨3, _⟩ => ⟨S512x1024, .f32⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .bf16⟩
  | .hbm, ⟨33, _⟩ => ⟨S8192x6144, .bf16⟩
  | .hbm, ⟨34, _⟩ => ⟨S8192x1024, .bf16⟩
  | .hbm, ⟨35, _⟩ => ⟨S8192x1024, .bf16⟩
  | .hbm, ⟨36, _⟩ => ⟨S1x1024, .f32⟩
  | .hbm, ⟨37, _⟩ => ⟨S1024x1024, .bf16⟩
  | .hbm, ⟨38, _⟩ => ⟨S512x1024, .bf16⟩
  | .hbm, ⟨39, _⟩ => ⟨S1024x1024, .bf16⟩
  | .hbm, ⟨40, _⟩ => ⟨S8192x1024, .bf16⟩
  | .hbm, ⟨41, _⟩ => ⟨S8192x1024, .bf16⟩
  | .hbm, ⟨42, _⟩ => ⟨S8192x1024, .bf16⟩
  | .hbm, ⟨43, _⟩ => ⟨S8192x1024, .bf16⟩
  | .hbm, ⟨44, _⟩ => ⟨S8192x1024, .bf16⟩
  | .hbm, ⟨45, _⟩ => ⟨S8192x512, .bf16⟩
  | .hbm, ⟨46, _⟩ => ⟨S8192x1024, .bf16⟩
  | .hbm, ⟨47, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1024x1024, .bf16⟩
  | .local _ .vmem, ⟨14, _⟩ => ⟨S512x1024, .bf16⟩
  | .local _ .vmem, ⟨15, _⟩ => ⟨S1024x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x512, .bf16⟩
  | .local _ .vmem, ⟨27, _⟩ => ⟨S512x512, .bf16⟩
  | .local _ .vmem, ⟨28, _⟩ => ⟨S512x1024, .bf16⟩
  | .local _ .vmem, ⟨29, _⟩ => ⟨S512x1024, .bf16⟩
  | .local _ .vmem, ⟨30, _⟩ => ⟨S1x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28_0 : Ref sig .tc := ⟨.hbm, 40, rfl⟩
abbrev main_v28_1 : Ref sig .tc := ⟨.hbm, 41, rfl⟩
abbrev main_v28_2 : Ref sig .tc := ⟨.hbm, 42, rfl⟩
abbrev main_v28_3 : Ref sig .tc := ⟨.hbm, 43, rfl⟩
abbrev main_v28_4 : Ref sig .tc := ⟨.hbm, 44, rfl⟩
abbrev main_v28_5 : Ref sig .tc := ⟨.hbm, 45, rfl⟩
abbrev main_v28_6 : Ref sig .tc := ⟨.hbm, 46, rfl⟩
abbrev main_v28_7 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Reference11Ideal.lean ====
abbrev S8192x512 : Shape := ⟨2, ![8192, 512]⟩
abbrev S8192x1024 : Shape := ⟨2, ![8192, 1024]⟩
abbrev S8192x6144 : Shape := ⟨2, ![8192, 6144]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x512 : Shape := ⟨2, ![1024, 512]⟩

abbrev nBuf : Space → Nat
  | .hbm => 124
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S8192x6144, .f32⟩
  | .hbm, ⟨3, _⟩ => ⟨S512x1024, .f32⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S8192x1024, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S_, .f32⟩
  | .hbm, ⟨80, _⟩ => ⟨S8192x1024, .f32⟩
  | .hbm, ⟨81, _⟩ => ⟨S8192x1024, .f32⟩
  | .hbm, ⟨82, _⟩ => ⟨S_, .f32⟩
  | .hbm, ⟨83, _⟩ => ⟨S8192x1024, .f32⟩
  | .hbm, ⟨84, _⟩ => ⟨S8192x1024, .f32⟩
  | .hbm, ⟨85, _⟩ => ⟨S_, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S_, .f32⟩
  | .hbm, ⟨93, _⟩ => ⟨S8192x1024, .f32⟩
  | .hbm, ⟨94, _⟩ => ⟨S8192x1024, .f32⟩
  | .hbm, ⟨95, _⟩ => ⟨S_, .f32⟩
  | .hbm, ⟨96, _⟩ => ⟨S8192x1024, .f32⟩
  | .hbm, ⟨97, _⟩ => ⟨S8192x1024, .f32⟩
  | .hbm, ⟨98, _⟩ => ⟨S_, .f32⟩
  | .hbm, ⟨99, _⟩ => ⟨S8192x1024, .f32⟩
  | .hbm, ⟨100, _⟩ => ⟨S8192x1024, .f32⟩
  | .hbm, ⟨101, _⟩ => ⟨S8192x1024, .f32⟩
  | .hbm, ⟨102, _⟩ => ⟨S8192x1024, .f32⟩
  | .hbm, ⟨103, _⟩ => ⟨S8192x1024, .f32⟩
  | .hbm, ⟨104, _⟩ => ⟨S1024x1024, .f32⟩
  | .hbm, ⟨105, _⟩ => ⟨S8192x1024, .f32⟩
  | .hbm, ⟨106, _⟩ => ⟨S8192x1024, .f32⟩
  | .hbm, ⟨107, _⟩ => ⟨S8192x1024, .f32⟩
  | .hbm, ⟨108, _⟩ => ⟨S8192x1024, .f32⟩
  | .hbm, ⟨109, _⟩ => ⟨S8192x1024, .f32⟩
  | .hbm, ⟨110, _⟩ => ⟨S8192x1024, .f32⟩
  | .hbm, ⟨111, _⟩ => ⟨S8192x1024, .f32⟩
  | .hbm, ⟨112, _⟩ => ⟨S8192x1024, .bf16⟩
  | .hbm, ⟨113, _⟩ => ⟨S8192x1024, .bf16⟩
  | .hbm, ⟨114, _⟩ => ⟨S8192x1024, .bf16⟩
  | .hbm, ⟨115, _⟩ => ⟨S8192x1024, .bf16⟩
  | .hbm, ⟨116, _⟩ => ⟨S8192x1024, .bf16⟩
  | .hbm, ⟨117, _⟩ => ⟨S1024x512, .f32⟩
  | .hbm, ⟨118, _⟩ => ⟨S8192x512, .f32⟩
  | .hbm, ⟨119, _⟩ => ⟨S8192x512, .bf16⟩
  | .hbm, ⟨120, _⟩ => ⟨S1024x1024, .f32⟩
  | .hbm, ⟨121, _⟩ => ⟨S8192x1024, .f32⟩
  | .hbm, ⟨122, _⟩ => ⟨S8192x1024, .bf16⟩
  | .hbm, ⟨123, _⟩ => ⟨S1x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_10 : Ref sig .tc := ⟨.hbm, 67, rfl⟩
abbrev main_v48 : Ref sig .tc := ⟨.hbm, 68, rfl⟩
abbrev main_v49 : Ref sig .tc := ⟨.hbm, 69, rfl⟩
abbrev main_cst_11 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_12 : Ref sig .tc := ⟨.hbm, 79, rfl⟩
abbrev main_v58 : Ref sig .tc := ⟨.hbm, 80, rfl⟩
abbrev main_v59 : Ref sig .tc := ⟨.hbm, 81, rfl⟩
abbrev main_cst_13 : Ref sig .tc := ⟨.hbm, 82, rfl⟩
abbrev main_v60 : Ref sig .tc := ⟨.hbm, 83, rfl⟩
abbrev main_v61 : Ref sig .tc := ⟨.hbm, 84, rfl⟩
abbrev main_cst_14 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_15 : Ref sig .tc := ⟨.hbm, 92, rfl⟩
abbrev main_v68 : Ref sig .tc := ⟨.hbm, 93, rfl⟩
abbrev main_v69 : Ref sig .tc := ⟨.hbm, 94, rfl⟩
abbrev main_cst_16 : Ref sig .tc := ⟨.hbm, 95, rfl⟩
abbrev main_v70 : Ref sig .tc := ⟨.hbm, 96, rfl⟩
abbrev main_v71 : Ref sig .tc := ⟨.hbm, 97, rfl⟩
abbrev main_cst_17 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩

abbrev nD : Nat := 1
abbrev τ : Topo := Topo.v7x

variable {F : FTy → Type} [FloatOps F]
-- ==== Kernel12.lean ====
abbrev S8192x512 : Shape := ⟨2, ![8192, 512]⟩
abbrev S8192x1024 : Shape := ⟨2, ![8192, 1024]⟩
abbrev S8192x6144 : Shape := ⟨2, ![8192, 6144]⟩
abbrev S512x1024 : Shape := ⟨2, ![512, 1024]⟩
abbrev S1024x1024 : Shape := ⟨2, ![1024, 1024]⟩
abbrev S1024 : Shape := ⟨1, ![1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 20
  | .vmem => 24
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S8192x6144, .f32⟩
  | .hbm, ⟨3, _⟩ => ⟨S8192x1024, .f32⟩
  | .hbm, ⟨4, _⟩ => ⟨S512x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S8192x512, .bf16⟩
  | .hbm, ⟨9, _⟩ => ⟨S8192x1024, .bf16⟩
  | .hbm, ⟨10, _⟩ => ⟨S8192x6144, .bf16⟩
  | .hbm, ⟨11, _⟩ => ⟨S512x1024, .bf16⟩
  | .hbm, ⟨12, _⟩ => ⟨S1024x1024, .bf16⟩
  | .hbm, ⟨13, _⟩ => ⟨S1024x1024, .bf16⟩
  | .hbm, ⟨14, _⟩ => ⟨S1x1024, .f32⟩
  | .hbm, ⟨15, _⟩ => ⟨S8192x1024, .bf16⟩
  | .hbm, ⟨16, _⟩ => ⟨S8192x1024, .bf16⟩
  | .hbm, ⟨17, _⟩ => ⟨S8192x1024, .bf16⟩
  | .hbm, ⟨18, _⟩ => ⟨S8192x1024, .bf16⟩
  | .hbm, ⟨19, _⟩ => ⟨S8192x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .f32⟩
  | .local _ .vmem, ⟨23, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference12Ideal.lean ====
abbrev S8192x512 : Shape := ⟨2, ![8192, 512]⟩
abbrev S8192x1024 : Shape := ⟨2, ![8192, 1024]⟩
abbrev S8192x6144 : Shape := ⟨2, ![8192, 6144]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S8192x6144, .f32⟩
  | .hbm, ⟨3, _⟩ => ⟨S8192x1024, .f32⟩
  | .hbm, ⟨4, _⟩ => ⟨S512x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S1x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .bf16⟩
  | .hbm, ⟨50, _⟩ => ⟨S8192x1024, .bf16⟩
  | .hbm, ⟨51, _⟩ => ⟨S8192x1024, .bf16⟩
  | .hbm, ⟨52, _⟩ => ⟨S8192x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]
-- ==== Kernel13.lean ====
abbrev S8192x2816 : Shape := ⟨2, ![8192, 2816]⟩
abbrev S8192x1024 : Shape := ⟨2, ![8192, 1024]⟩
abbrev S8192x256 : Shape := ⟨2, ![8192, 256]⟩
abbrev S2816x1024 : Shape := ⟨2, ![2816, 1024]⟩
abbrev S1024x1024 : Shape := ⟨2, ![1024, 1024]⟩
abbrev S256x1024 : Shape := ⟨2, ![256, 1024]⟩
abbrev S1024 : Shape := ⟨1, ![1024]⟩
abbrev S1x1024 : Shape := ⟨2, ![1, 1024]⟩
abbrev S1x1 : Shape := ⟨2, ![1, 1]⟩
abbrev S512x2816 : Shape := ⟨2, ![512, 2816]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 21
  | .vmem => 24
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x256, .f32⟩
  | .hbm, ⟨3, _⟩ => ⟨S8192x1024, .f32⟩
  | .hbm, ⟨4, _⟩ => ⟨S2816x1024, .f32⟩
  | .hbm, ⟨5, _⟩ => ⟨S1024x1024, .f32⟩
  | .hbm, ⟨6, _⟩ => ⟨S256x1024, .f32⟩
  | .hbm, ⟨7, _⟩ => ⟨S1024, .f32⟩
  | .hbm, ⟨8, _⟩ => ⟨S1024, .f32⟩
  | .hbm, ⟨9, _⟩ => ⟨S8192x2816, .bf16⟩
  | .hbm, ⟨10, _⟩ => ⟨S2816x1024, .bf16⟩
  | .hbm, ⟨11, _⟩ => ⟨S1024x1024, .bf16⟩
  | .hbm, ⟨12, _⟩ => ⟨S256x1024, .bf16⟩
  | .hbm, ⟨13, _⟩ => ⟨S1x1024, .f32⟩
  | .hbm, ⟨14, _⟩ => ⟨S1x1024, .f32⟩
  | .hbm, ⟨15, _⟩ => ⟨S8192x1024, .bf16⟩
  | .hbm, ⟨16, _⟩ => ⟨S8192x1024, .bf16⟩
  | .hbm, ⟨17, _⟩ => ⟨S8192x1024, .bf16⟩
  | .hbm, ⟨18, _⟩ => ⟨S8192x1024, .bf16⟩
  | .hbm, ⟨19, _⟩ => ⟨S8192x1024, .f32⟩
  | .hbm, ⟨20, _⟩ => ⟨S1x1, .f32⟩
  | .local _ .vmem, ⟨0, _⟩ => ⟨S512x2816, .bf16⟩
  | .local _ .vmem, ⟨1, _⟩ => ⟨S512x2816, .bf16⟩
  | .local _ .vmem, ⟨2, _⟩ => ⟨S512x1024, .f32⟩
  | .local _ .vmem, ⟨3, _⟩ => ⟨S512x1024, .f32⟩
  | .local _ .vmem, ⟨4, _⟩ => ⟨S512x256, .f32⟩
  | .local _ .vmem, ⟨5, _⟩ => ⟨S512x256, .f32⟩
  | .local _ .vmem, ⟨6, _⟩ => ⟨S512x1024, .f32⟩
  | .local _ .vmem, ⟨7, _⟩ => ⟨S512x1024, .f32⟩
  | .local _ .vmem, ⟨8, _⟩ => ⟨S2816x1024, .bf16⟩
  | .local _ .vmem, ⟨9, _⟩ => ⟨S1024x1024, .bf16⟩
  | .local _ .vmem, ⟨10, _⟩ => ⟨S256x1024, .bf16⟩
  | .local _ .vmem, ⟨11, _⟩ => ⟨S1x1024, .f32⟩
  | .local _ .vmem, ⟨12, _⟩ => ⟨S1x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .f32⟩
  | .local _ .vmem, ⟨22, _⟩ => ⟨S512x1024, .f32⟩
  | .local _ .vmem, ⟨23, _⟩ => ⟨S1x1, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v6_3 : Ref sig .tc := ⟨.hbm, 18, rfl⟩
abbrev main_v6_4 : Ref sig .tc := ⟨.hbm, 19, rfl⟩
abbrev main_v6_5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference13Ideal.lean ====
abbrev S8192x2816 : Shape := ⟨2, ![8192, 2816]⟩
abbrev S8192x1024 : Shape := ⟨2, ![8192, 1024]⟩
abbrev S8192x256 : Shape := ⟨2, ![8192, 256]⟩
abbrev S2816x1024 : Shape := ⟨2, ![2816, 1024]⟩
abbrev S1024x1024 : Shape := ⟨2, ![1024, 1024]⟩
abbrev S256x1024 : Shape := ⟨2, ![256, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x1 : Shape := ⟨2, ![1, 1]⟩

abbrev nBuf : Space → Nat
  | .hbm => 83
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x256, .f32⟩
  | .hbm, ⟨3, _⟩ => ⟨S8192x1024, .f32⟩
  | .hbm, ⟨4, _⟩ => ⟨S2816x1024, .f32⟩
  | .hbm, ⟨5, _⟩ => ⟨S1024x1024, .f32⟩
  | .hbm, ⟨6, _⟩ => ⟨S256x1024, .f32⟩
  | .hbm, ⟨7, _⟩ => ⟨S1024, .f32⟩
  | .hbm, ⟨8, _⟩ => ⟨S1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S8192x1, .f32⟩
  | .hbm, ⟨49, _⟩ => ⟨S8192x1024, .f32⟩
  | .hbm, ⟨50, _⟩ => ⟨S8192x1024, .f32⟩
  | .hbm, ⟨51, _⟩ => ⟨S1x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S8192, .f32⟩
  | .hbm, ⟨62, _⟩ => ⟨S_, .f32⟩
  | .hbm, ⟨63, _⟩ => ⟨S8192, .f32⟩
  | .hbm, ⟨64, _⟩ => ⟨S8192, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S8192, .f32⟩
  | .hbm, ⟨73, _⟩ => ⟨S_, .f32⟩
  | .hbm, ⟨74, _⟩ => ⟨S8192, .f32⟩
  | .hbm, ⟨75, _⟩ => ⟨S8192, .f32⟩
  | .hbm, ⟨76, _⟩ => ⟨S8192x1024, .f32⟩
  | .hbm, ⟨77, _⟩ => ⟨S8192x1024, .f32⟩
  | .hbm, ⟨78, _⟩ => ⟨S8192x1024, .bf16⟩
  | .hbm, ⟨79, _⟩ => ⟨S8192x1024, .bf16⟩
  | .hbm, ⟨80, _⟩ => ⟨S8192x1024, .bf16⟩
  | .hbm, ⟨81, _⟩ => ⟨S8192x1024, .bf16⟩
  | .hbm, ⟨82, _⟩ => ⟨S1x1, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_cst_11 : Ref sig .tc := ⟨.hbm, 67, rfl⟩
abbrev main_v46 : Ref sig .tc := ⟨.hbm, 68, rfl⟩
abbrev main_cst_12 : Ref sig .tc := ⟨.hbm, 69, rfl⟩
abbrev main_cst_13 : Ref sig .tc := ⟨.hbm, 70, rfl⟩
abbrev main_v47 : Ref sig .tc := ⟨.hbm, 71, rfl⟩
abbrev main_v48 : Ref sig .tc := ⟨.hbm, 72, rfl⟩
abbrev main_cst_14 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩

abbrev nD : Nat := 1
abbrev τ : Topo := Topo.v7x

variable {F : FTy → Type} [FloatOps F]
-- ==== Kernel14.lean ====
abbrev S8192x1024 : Shape := ⟨2, ![8192, 1024]⟩
abbrev S1024 : Shape := ⟨1, ![1024]⟩
abbrev S1024x6160 : Shape := ⟨2, ![1024, 6160]⟩
abbrev S6160x1024 : Shape := ⟨2, ![6160, 1024]⟩
abbrev S128x1024 : Shape := ⟨2, ![128, 1024]⟩
abbrev S1024x1024 : Shape := ⟨2, ![1024, 1024]⟩
abbrev S16x1024 : Shape := ⟨2, ![16, 1024]⟩
abbrev S_ : Shape := ⟨0, ![]⟩
abbrev S112x1024 : Shape := ⟨2, ![112, 1024]⟩
abbrev S6272x1024 : Shape := ⟨2, ![6272, 1024]⟩
abbrev S1x1024 : Shape := ⟨2, ![1, 1024]⟩
abbrev S8192x6144 : Shape := ⟨2, ![8192, 6144]⟩
abbrev S8192x128 : Shape := ⟨2, ![8192, 128]⟩
abbrev S1024x128 : Shape := ⟨2, ![1024, 128]⟩
abbrev S1024x1 : Shape := ⟨2, ![1024, 1]⟩

abbrev nBuf : Space → Nat
  | .hbm => 29
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x6160, .f32⟩
  | .hbm, ⟨3, _⟩ => ⟨S6160x1024, .f32⟩
  | .hbm, ⟨4, _⟩ => ⟨S6160x1024, .bf16⟩
  | .hbm, ⟨5, _⟩ => ⟨S128x1024, .bf16⟩
  | .hbm, ⟨6, _⟩ => ⟨S128x1024, .bf16⟩
  | .hbm, ⟨7, _⟩ => ⟨S128x1024, .bf16⟩
  | .hbm, ⟨8, _⟩ => ⟨S128x1024, .bf16⟩
  | .hbm, ⟨9, _⟩ => ⟨S128x1024, .bf16⟩
  | .hbm, ⟨10, _⟩ => ⟨S128x1024, .bf16⟩
  | .hbm, ⟨11, _⟩ => ⟨S128x1024, .bf16⟩
  | .hbm, ⟨12, _⟩ => ⟨S128x1024, .bf16⟩
  | .hbm, ⟨13, _⟩ => ⟨S1024x1024, .bf16⟩
  | .hbm, ⟨14, _⟩ => ⟨S1024x1024, .bf16⟩
  | .hbm, ⟨15, _⟩ => ⟨S1024x1024, .bf16⟩
  | .hbm, ⟨16, _⟩ => ⟨S1024x1024, .bf16⟩
  | .hbm, ⟨17, _⟩ => ⟨S1024x1024, .bf16⟩
  | .hbm, ⟨18, _⟩ => ⟨S1024x1024, .bf16⟩
  | .hbm, ⟨19, _⟩ => ⟨S16x1024, .bf16⟩
  | .hbm, ⟨20, _⟩ => ⟨S_, .bf16⟩
  | .hbm, ⟨21, _⟩ => ⟨S112x1024, .bf16⟩
  | .hbm, ⟨22, _⟩ => ⟨S128x1024, .bf16⟩
  | .hbm, ⟨23, _⟩ => ⟨S6272x1024, .bf16⟩
  | .hbm, ⟨24, _⟩ => ⟨S1x1024, .f32⟩
  | .hbm, ⟨25, _⟩ => ⟨S8192x1024, .bf16⟩
  | .hbm, ⟨26, _⟩ => ⟨S8192x6144, .bf16⟩
  | .hbm, ⟨27, _⟩ => ⟨S8192x1024, .f32⟩
  | .hbm, ⟨28, _⟩ => ⟨S8192x128, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S128x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x128, .bf16⟩
  | .local _ .vmem, ⟨13, _⟩ => ⟨S1024x128, .bf16⟩
  | .local _ .vmem, ⟨14, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21_0 : Ref sig .tc := ⟨.hbm, 25, rfl⟩
abbrev main_v21_1 : Ref sig .tc := ⟨.hbm, 26, rfl⟩
abbrev main_v21_2 : Ref sig .tc := ⟨.hbm, 27, rfl⟩
abbrev main_v21_3 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v9 : BitVec 1 := Scalar.cmpi .eq arg1 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c48_i32 : BitVec 32 := 48#32
  let c0_i32 : BitVec 32 := 0#32
  let c0_i32_0 : BitVec 32 := 0#32
  ![c48_i32.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference14Ideal.lean ====
abbrev S8192x1024 : Shape := ⟨2, ![8192, 1024]⟩
abbrev S1024 : Shape := ⟨1, ![1024]⟩
abbrev S1024x6160 : Shape := ⟨2, ![1024, 6160]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x6160 : Shape := ⟨2, ![8192, 6160]⟩
abbrev S8192x128 : Shape := ⟨2, ![8192, 128]⟩
abbrev S8192x2048 : Shape := ⟨2, ![8192, 2048]⟩
abbrev S8192x6144 : Shape := ⟨2, ![8192, 6144]⟩
abbrev S8192x16 : Shape := ⟨2, ![8192, 16]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x6160, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x6160, .f32⟩
  | .hbm, ⟨20, _⟩ => ⟨S8192x128, .f32⟩
  | .hbm, ⟨21, _⟩ => ⟨S8192x128, .f32⟩
  | .hbm, ⟨22, _⟩ => ⟨S8192x128, .f32⟩
  | .hbm, ⟨23, _⟩ => ⟨S8192x128, .f32⟩
  | .hbm, ⟨24, _⟩ => ⟨S8192x128, .f32⟩
  | .hbm, ⟨25, _⟩ => ⟨S8192x128, .f32⟩
  | .hbm, ⟨26, _⟩ => ⟨S8192x128, .f32⟩
  | .hbm, ⟨27, _⟩ => ⟨S8192x128, .f32⟩
  | .hbm, ⟨28, _⟩ => ⟨S8192x1024, .f32⟩
  | .hbm, ⟨29, _⟩ => ⟨S8192x1024, .f32⟩
  | .hbm, ⟨30, _⟩ => ⟨S8192x2048, .f32⟩
  | .hbm, ⟨31, _⟩ => ⟨S8192x2048, .f32⟩
  | .hbm, ⟨32, _⟩ => ⟨S8192x6144, .f32⟩
  | .hbm, ⟨33, _⟩ => ⟨S8192x16, .f32⟩
  | .hbm, ⟨34, _⟩ => ⟨S_, .i32⟩
  | .hbm, ⟨35, _⟩ => ⟨S_, .f32⟩
  | .hbm, ⟨36, _⟩ => ⟨S8192x128, .f32⟩
  | .hbm, ⟨37, _⟩ => ⟨S8192x1024, .bf16⟩
  | .hbm, ⟨38, _⟩ => ⟨S8192x6144, .bf16⟩
  | .hbm, ⟨39, _⟩ => ⟨S8192x128, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_c : Ref sig .tc := ⟨.hbm, 34, rfl⟩
abbrev main_call0_v0 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]
-- ==== Kernel15.lean ====
abbrev S1184x128 : Shape := ⟨2, ![1184, 128]⟩

abbrev nBuf : Space → Nat
  | .hbm => 7
  | .vmem => 7
  | .smem => 0
  | _ => 0

abbrev bufTy : (tb : Table) → Fin (tcTables nBuf tb) → BufTy
  | .hbm, ⟨0, _⟩ => ⟨S1184x128, .f32⟩
  | .hbm, ⟨1, _⟩ => ⟨S1184x128, .f32⟩
  | .hbm, ⟨2, _⟩ => ⟨S1184x128, .f32⟩
  | .hbm, ⟨3, _⟩ => ⟨S1184x128, .f32⟩
  | .hbm, ⟨4, _⟩ => ⟨S1184x128, .f32⟩
  | .hbm, ⟨5, _⟩ => ⟨S1184x128, .f32⟩
  | .hbm, ⟨6, _⟩ => ⟨S1184x128, .f32⟩
  | .local _ .vmem, ⟨0, _⟩ => ⟨S1184x128, .f32⟩
  | .local _ .vmem, ⟨1, _⟩ => ⟨S1184x128, .f32⟩
  | .local _ .vmem, ⟨2, _⟩ => ⟨S1184x128, .f32⟩
  | .local _ .vmem, ⟨3, _⟩ => ⟨S1184x128, .f32⟩
  | .local _ .vmem, ⟨4, _⟩ => ⟨S1184x128, .f32⟩
  | .local _ .vmem, ⟨5, _⟩ => ⟨S1184x128, .f32⟩
  | .local _ .vmem, ⟨6, _⟩ => ⟨S1184x128, .f32⟩
  | _, _ => ⟨S1184x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1184x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1184x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1184x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1184x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1184x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1184x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1184x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference15Ideal.lean ====
abbrev S1184x128 : Shape := ⟨2, ![1184, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1184x128, .f32⟩
  | .hbm, ⟨1, _⟩ => ⟨S1184x128, .f32⟩
  | .hbm, ⟨2, _⟩ => ⟨S1184x128, .f32⟩
  | .hbm, ⟨3, _⟩ => ⟨S1184x128, .f32⟩
  | .hbm, ⟨4, _⟩ => ⟨S_, .f32⟩
  | .hbm, ⟨5, _⟩ => ⟨S1184x128, .f32⟩
  | .hbm, ⟨6, _⟩ => ⟨S1184x128, .f32⟩
  | .hbm, ⟨7, _⟩ => ⟨S_, .f32⟩
  | .hbm, ⟨8, _⟩ => ⟨S1184x128, .f32⟩
  | .hbm, ⟨9, _⟩ => ⟨S1184x128, .f32⟩
  | .hbm, ⟨10, _⟩ => ⟨S1184x128, .f32⟩
  | .hbm, ⟨11, _⟩ => ⟨S_, .f32⟩
  | .hbm, ⟨12, _⟩ => ⟨S1184x128, .f32⟩
  | .hbm, ⟨13, _⟩ => ⟨S1184x128, .f32⟩
  | .hbm, ⟨14, _⟩ => ⟨S1184x128, .f32⟩
  | .hbm, ⟨15, _⟩ => ⟨S_, .f32⟩
  | .hbm, ⟨16, _⟩ => ⟨S1184x128, .f32⟩
  | .hbm, ⟨17, _⟩ => ⟨S1184x128, .f32⟩
  | .hbm, ⟨18, _⟩ => ⟨S1184x128, .f32⟩
  | .hbm, ⟨19, _⟩ => ⟨S_, .f32⟩
  | .hbm, ⟨20, _⟩ => ⟨S1184x128, .f32⟩
  | .hbm, ⟨21, _⟩ => ⟨S1184x128, .f32⟩
  | .hbm, ⟨22, _⟩ => ⟨S_, .f32⟩
  | .hbm, ⟨23, _⟩ => ⟨S1184x128, .f32⟩
  | .hbm, ⟨24, _⟩ => ⟨S1184x128, .f32⟩
  | .hbm, ⟨25, _⟩ => ⟨S1184x128, .f32⟩
  | .hbm, ⟨26, _⟩ => ⟨S_, .f32⟩
  | .hbm, ⟨27, _⟩ => ⟨S1184x128, .f32⟩
  | .hbm, ⟨28, _⟩ => ⟨S1184x128, .f32⟩
  | .hbm, ⟨29, _⟩ => ⟨S1184x128, .f32⟩
  | .hbm, ⟨30, _⟩ => ⟨S_, .f32⟩
  | .hbm, ⟨31, _⟩ => ⟨S1184x128, .f32⟩
  | .hbm, ⟨32, _⟩ => ⟨S1184x128, .f32⟩
  | .hbm, ⟨33, _⟩ => ⟨S1184x128, .f32⟩
  | .hbm, ⟨34, _⟩ => ⟨S_, .f32⟩
  | .hbm, ⟨35, _⟩ => ⟨S1184x128, .f32⟩
  | .hbm, ⟨36, _⟩ => ⟨S1184x128, .f32⟩
  | _, _ => ⟨S1184x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S8192x1024 : Shape := ⟨2, ![8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S1024x4x1408 : Shape := ⟨3, ![1024, 4, 1408]⟩
abbrev S4x1024x1408 : Shape := ⟨3, ![4, 1024, 1408]⟩
abbrev S1x1024 : Shape := ⟨2, ![1, 1024]⟩
abbrev S1x5632 : Shape := ⟨2, ![1, 5632]⟩
abbrev S8192x2816 : Shape := ⟨2, ![8192, 2816]⟩
abbrev S512x1024 : Shape := ⟨2, ![512, 1024]⟩
abbrev S1x1024x1408 : Shape := ⟨3, ![1, 1024, 1408]⟩
abbrev S3x1408 : Shape := ⟨2, ![3, 1408]⟩
abbrev S1x1408 : Shape := ⟨2, ![1, 1408]⟩
abbrev S512x1408 : Shape := ⟨2, ![512, 1408]⟩
abbrev S2x2x8x1408 : Shape := ⟨4, ![2, 2, 8, 1408]⟩
abbrev S512 : Shape := ⟨1, ![512]⟩
abbrev S512x1 : Shape := ⟨2, ![512, 1]⟩
abbrev S2x8x1408 : Shape := ⟨3, ![2, 8, 1408]⟩
abbrev S1x2x8x1408 : Shape := ⟨4, ![1, 2, 8, 1408]⟩
abbrev S1024x1408 : Shape := ⟨2, ![1024, 1408]⟩
abbrev S1x1x8x1408 : Shape := ⟨4, ![1, 1, 8, 1408]⟩
abbrev S8x1408 : Shape := ⟨2, ![8, 1408]⟩
abbrev S520x1408 : Shape := ⟨2, ![520, 1408]⟩

abbrev nBuf : Space → Nat
  | .hbm => 16
  | .vmem => 29
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S1024x5632, .bf16⟩
  | .hbm, ⟨6, _⟩ => ⟨S1024x4x1408, .bf16⟩
  | .hbm, ⟨7, _⟩ => ⟨S4x1024x1408, .bf16⟩
  | .hbm, ⟨8, _⟩ => ⟨S1x1024, .f32⟩
  | .hbm, ⟨9, _⟩ => ⟨S1x5632, .f32⟩
  | .hbm, ⟨10, _⟩ => ⟨S8192x1024, .bf16⟩
  | .hbm, ⟨11, _⟩ => ⟨S8192x2816, .bf16⟩
  | .hbm, ⟨12, _⟩ => ⟨S8192x2816, .bf16⟩
  | .hbm, ⟨13, _⟩ => ⟨S8192x2816, .bf16⟩
  | .hbm, ⟨14, _⟩ => ⟨S8192x2816, .bf16⟩
  | .hbm, ⟨15, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1024x1408, .bf16⟩
  | .local _ .vmem, ⟨7, _⟩ => ⟨S3x1408, .f32⟩
  | .local _ .vmem, ⟨8, _⟩ => ⟨S3x1408, .f32⟩
  | .local _ .vmem, ⟨9, _⟩ => ⟨S3x1408, .f32⟩
  | .local _ .vmem, ⟨10, _⟩ => ⟨S3x1408, .f32⟩
  | .local _ .vmem, ⟨11, _⟩ => ⟨S1x1408, .f32⟩
  | .local _ .vmem, ⟨12, _⟩ => ⟨S1x1408, .f32⟩
  | .local _ .vmem, ⟨13, _⟩ => ⟨S1x1408, .f32⟩
  | .local _ .vmem, ⟨14, _⟩ => ⟨S1x1408, .f32⟩
  | .local _ .vmem, ⟨15, _⟩ => ⟨S512x1024, .bf16⟩
  | .local _ .vmem, ⟨16, _⟩ => ⟨S512x1024, .bf16⟩
  | .local _ .vmem, ⟨17, _⟩ => ⟨S512x1408, .bf16⟩
  | .local _ .vmem, ⟨18, _⟩ => ⟨S512x1408, .bf16⟩
  | .local _ .vmem, ⟨19, _⟩ => ⟨S512x1408, .bf16⟩
  | .local _ .vmem, ⟨20, _⟩ => ⟨S512x1408, .bf16⟩
  | .local _ .vmem, ⟨21, _⟩ => ⟨S512x1408, .bf16⟩
  | .local _ .vmem, ⟨22, _⟩ => ⟨S512x1408, .bf16⟩
  | .local _ .vmem, ⟨23, _⟩ => ⟨S512x1408, .bf16⟩
  | .local _ .vmem, ⟨24, _⟩ => ⟨S512x1408, .bf16⟩
  | .local _ .vmem, ⟨25, _⟩ => ⟨S512x1408, .bf16⟩
  | .local _ .vmem, ⟨26, _⟩ => ⟨S512x1408, .bf16⟩
  | .local _ .vmem, ⟨27, _⟩ => ⟨S512x1024, .bf16⟩
  | .local _ .vmem, ⟨28, _⟩ => ⟨S2x2x8x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v5_4 : Ref sig .tc := ⟨.hbm, 14, rfl⟩
abbrev main_v5_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_scratch0 : Ref sig .tc := ⟨.vmem, 27, rfl⟩
abbrev cc0_scratch1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

def k0_off1 (i : grid0.Coords) : Fin 4 → Nat :=
  let arg1 : BitVec 32 := BitVec.ofNat 32 (i 1).val
  let v96 : Index := Scalar.indexCast arg1
  let c0_49 : Index := 0#32
  let c0_50 : Index := 0#32
  let c0_51 : Index := 0#32
  ![v96.toNat, 0, 0, 0]
def k0_off2 (i : grid0.Coords) : Fin 4 → Nat :=
  let arg1 : BitVec 32 := BitVec.ofNat 32 (i 1).val
  let v13 : Index := Scalar.indexCast arg1
  let c0_9 : Index := 0#32
  let c0_10 : Index := 0#32
  let c0_11 : Index := 0#32
  ![v13.toNat, 0, 0, 0]
def k0_off3 (i : grid0.Coords) : Fin 4 → Nat :=
  let arg1 : BitVec 32 := BitVec.ofNat 32 (i 1).val
  let v63 : Index := Scalar.indexCast arg1
  let c1 : Index := 1#32
  let c0_33 : Index := 0#32
  let c0_34 : Index := 0#32
  ![v63.toNat, 1, 0, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1408 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1408 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x1408 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x1408 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Kernel16Ideal.lean ====
variable {F : FTy → Type} [FloatOps F] [Named F]
def κ : String → Option EReal := fun
  | "gelu_a" => some ((12003091 / 268435456 : ℝ) : EReal)
  | "gelu_c" => some ((6693141 / 8388608 : ℝ) : EReal)
  | "six_gelu_ca" => some ((241015141496493 / 1125899906842624 : ℝ) : EReal)
  | "two_gelu_c" => some ((6693141 / 4194304 : ℝ) : EReal)
  | _ => none
-- ==== Reference16Ideal.lean ====
abbrev S8192x1024 : Shape := ⟨2, ![8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S2x5632 : Shape := ⟨2, ![2, 5632]⟩
abbrev S8194x5632 : Shape := ⟨2, ![8194, 5632]⟩
abbrev S1x5632 : Shape := ⟨2, ![1, 5632]⟩
abbrev S8192x2816 : Shape := ⟨2, ![8192, 2816]⟩

abbrev nBuf : Space → Nat
  | .hbm => 76
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x5632, .f32⟩
  | .hbm, ⟨22, _⟩ => ⟨S_, .f32⟩
  | .hbm, ⟨23, _⟩ => ⟨S2x5632, .f32⟩
  | .hbm, ⟨24, _⟩ => ⟨S8194x5632, .f32⟩
  | .hbm, ⟨25, _⟩ => ⟨S8192x5632, .f32⟩
  | .hbm, ⟨26, _⟩ => ⟨S1x5632, .f32⟩
  | .hbm, ⟨27, _⟩ => ⟨S5632, .f32⟩
  | .hbm, ⟨28, _⟩ => ⟨S1x5632, .f32⟩
  | .hbm, ⟨29, _⟩ => ⟨S8192x5632, .f32⟩
  | .hbm, ⟨30, _⟩ => ⟨S8192x5632, .f32⟩
  | .hbm, ⟨31, _⟩ => ⟨S1x5632, .f32⟩
  | .hbm, ⟨32, _⟩ => ⟨S8192x5632, .f32⟩
  | .hbm, ⟨33, _⟩ => ⟨S8192x5632, .f32⟩
  | .hbm, ⟨34, _⟩ => ⟨S8192x5632, .f32⟩
  | .hbm, ⟨35, _⟩ => ⟨S1x5632, .f32⟩
  | .hbm, ⟨36, _⟩ => ⟨S5632, .f32⟩
  | .hbm, ⟨37, _⟩ => ⟨S1x5632, .f32⟩
  | .hbm, ⟨38, _⟩ => ⟨S8192x5632, .f32⟩
  | .hbm, ⟨39, _⟩ => ⟨S8192x5632, .f32⟩
  | .hbm, ⟨40, _⟩ => ⟨S8192x5632, .f32⟩
  | .hbm, ⟨41, _⟩ => ⟨S8192x5632, .f32⟩
  | .hbm, ⟨42, _⟩ => ⟨S1x5632, .f32⟩
  | .hbm, ⟨43, _⟩ => ⟨S5632, .f32⟩
  | .hbm, ⟨44, _⟩ => ⟨S1x5632, .f32⟩
  | .hbm, ⟨45, _⟩ => ⟨S8192x5632, .f32⟩
  | .hbm, ⟨46, _⟩ => ⟨S8192x5632, .f32⟩
  | .hbm, ⟨47, _⟩ => ⟨S8192x5632, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S_, .f32⟩
  | .hbm, ⟨53, _⟩ => ⟨S8192x2816, .f32⟩
  | .hbm, ⟨54, _⟩ => ⟨S8192x2816, .f32⟩
  | .hbm, ⟨55, _⟩ => ⟨S8192x2816, .f32⟩
  | .hbm, ⟨56, _⟩ => ⟨S_, .f32⟩
  | .hbm, ⟨57, _⟩ => ⟨S8192x2816, .f32⟩
  | .hbm, ⟨58, _⟩ => ⟨S8192x2816, .f32⟩
  | .hbm, ⟨59, _⟩ => ⟨S8192x2816, .f32⟩
  | .hbm, ⟨60, _⟩ => ⟨S_, .f32⟩
  | .hbm, ⟨61, _⟩ => ⟨S8192x2816, .f32⟩
  | .hbm, ⟨62, _⟩ => ⟨S8192x2816, .f32⟩
  | .hbm, ⟨63, _⟩ => ⟨S_, .f32⟩
  | .hbm, ⟨64, _⟩ => ⟨S8192x2816, .f32⟩
  | .hbm, ⟨65, _⟩ => ⟨S8192x2816, .f32⟩
  | .hbm, ⟨66, _⟩ => ⟨S8192x2816, .f32⟩
  | .hbm, ⟨67, _⟩ => ⟨S8192x2816, .f32⟩
  | .hbm, ⟨68, _⟩ => ⟨S8192x2816, .f32⟩
  | .hbm, ⟨69, _⟩ => ⟨S8192x2816, .f32⟩
  | .hbm, ⟨70, _⟩ => ⟨S8192x1024, .bf16⟩
  | .hbm, ⟨71, _⟩ => ⟨S8192x2816, .bf16⟩
  | .hbm, ⟨72, _⟩ => ⟨S8192x2816, .bf16⟩
  | .hbm, ⟨73, _⟩ => ⟨S8192x2816, .bf16⟩
  | .hbm, ⟨74, _⟩ => ⟨S8192x2816, .bf16⟩
  | .hbm, ⟨75, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_3 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_4 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_5 : Ref sig .tc := ⟨.hbm, 60, rfl⟩
abbrev main_v49 : Ref sig .tc := ⟨.hbm, 61, rfl⟩
abbrev main_v50 : Ref sig .tc := ⟨.hbm, 62, rfl⟩
abbrev main_cst_6 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩

abbrev nD : Nat := 1
abbrev τ : Topo := Topo.v7x

variable {F : FTy → Type} [FloatOps F]
-- ==== Proof.Spec.lean ====
/- The gradient that both programs compute, over the real numbers: the backward pass of a feed-forward block's
   root-mean-square norm, up projection, causal depthwise convolution of three taps and gated GELU. -/
module

public import Idealize.ShloMosaic.Lib.Pointwise
public import Idealize.ShloMosaic.PureOps.Ideal.Laws

@[expose] public section

noncomputable section

namespace Cert.Spec

open Idealize.ShloMosaic

/-- The arrays, as tables of real numbers: rows of `x` and `d` are positions of the sequence, `g` is the norm's
    gain, `W` the up projection, `w` and `b` the taps and bias of the convolution, `d` the incoming gradient of the
    gated product. -/
structure Tab where
  x : ℕ → ℕ → ℝ
  g : ℕ → ℝ
  W : ℕ → ℕ → ℝ
  w : ℕ → ℕ → ℝ
  b : ℕ → ℝ
  d : ℕ → ℕ → ℝ

/-- The norm's small constant, the real number that the f32 word of 1e-6 stands for. -/
def eps : ℝ := (8796093 : ℝ) * (2 : ℝ) ^ (-43 : ℤ)

/-- GELU's constants, the real numbers that the f32 words of √(2/π) and of 0.044715 stand for. -/
def gC : ℝ := 6693141 / 8388608
def gA : ℝ := 12003091 / 268435456

/-- GELU in its tanh form is `y * sg y`. -/
def th (y : ℝ) : ℝ := Real.tanh (gC * (y + gA * (y * y * y)))
def sg (y : ℝ) : ℝ := 1 / 2 * (1 + th y)
def gelu (y : ℝ) : ℝ := y * sg y
/-- GELU's derivative. -/
def dgelu (y : ℝ) : ℝ := sg y + 1 / 2 * y * ((1 + th y) * (1 - th y)) * (gC + 3 * gA * gC * (y * y))

namespace Tab
variable (D : Tab)

def ms (r : ℕ) : ℝ := (∑ i : Fin 1024, D.x r i * D.x r i) / 1024 + eps
/-- The reciprocal root mean square of row `r`. -/
def rs (r : ℕ) : ℝ := (Real.sqrt (D.ms r))⁻¹
/-- The up projection of the normed row. -/
def u (r J : ℕ) : ℝ := ∑ i : Fin 1024, (D.x r i * D.rs r * D.g i) * D.W i J
/-- The same with two rows of zeros before the first. -/
def uz (r J : ℕ) : ℝ := if r < 2 then 0 else D.u (r - 2) J
/-- The convolution. -/
def c (r J : ℕ) : ℝ := D.b J + D.uz r J * D.w 0 J + D.uz (r + 1) J * D.w 1 J + D.uz (r + 2) J * D.w 2 J
/-- The gradient of the convolution's output: left half through the gate's derivative, right half through its value;
    zero past the last row. -/
def dc (r J : ℕ) : ℝ :=
  if r < 8192 then
    if J < 2816 then D.d r J * D.c r (J + 2816) * dgelu (D.c r J)
    else D.d r (J - 2816) * gelu (D.c r (J - 2816))
  else 0
/-- The gradient of the up projection's output. -/
def du (r J : ℕ) : ℝ := D.w 2 J * D.dc r J + D.w 1 J * D.dc (r + 1) J + D.w 0 J * D.dc (r + 2) J
/-- The gradients of the taps and of the bias. -/
def gw (k J : ℕ) : ℝ := ∑ r : Fin 8192, D.dc (r + (2 - k)) J * D.u r J
def gb (J : ℕ) : ℝ := ∑ r : Fin 8192, D.dc r J
/-- The gradient of the normed row. -/
def acc (r i : ℕ) : ℝ := ∑ J : Fin 5632, D.du r J * D.W i J
/-- The gradients of the row before the norm, and of the gain. -/
def dx (r i : ℕ) : ℝ :=
  D.rs r * (D.acc r i * D.g i - D.x r i * D.rs r * ((∑ j : Fin 1024, D.acc r j * D.g j * (D.x r j * D.rs r)) / 1024))
def gg (i : ℕ) : ℝ := ∑ r : Fin 8192, D.acc r i * (D.x r i * D.rs r)

theorem eps_pos : 0 < eps := by unfold eps; positivity
theorem ms_pos (r : ℕ) : 0 < D.ms r := by
  have h : 0 ≤ ∑ i : Fin 1024, D.x r i * D.x r i := Finset.sum_nonneg fun i _ => mul_self_nonneg _
  unfold ms
  have := eps_pos
  positivity

theorem rs_cube (r : ℕ) : D.rs r / D.ms r = D.rs r * D.rs r * D.rs r := by
  have h := D.ms_pos r
  have hs : Real.sqrt (D.ms r) * Real.sqrt (D.ms r) = D.ms r := Real.mul_self_sqrt h.le
  have h0 : Real.sqrt (D.ms r) ≠ 0 := (Real.sqrt_pos.2 h).ne'
  have e : D.rs r = (Real.sqrt (D.ms r))⁻¹ := rfl
  generalize Real.sqrt (D.ms r) = q at *
  rw [e, ← hs]
  field_simp

/-- The taps' gradient as a sum over the convolution's output rows. -/
theorem gw_eq (k J : ℕ) (hk : k < 3) : D.gw k J = ∑ r : Fin 8192, D.uz (r + k) J * D.dc r J := by
  have e1 : D.gw k J = ∑ r ∈ Finset.range (8192 + (2 - k)), D.uz (r + k) J * D.dc r J := by
    unfold gw
    rw [← Finset.sum_range (fun r => D.dc (r + (2 - k)) J * D.u r J), add_comm 8192, Finset.sum_range_add]
    rw [Finset.sum_eq_zero (s := Finset.range (2 - k)), zero_add]
    · refine Finset.sum_congr rfl fun r _ => ?_
      have h1 : ¬ (2 - k + r + k < 2) := by omega
      have h2 : 2 - k + r + k - 2 = r := by omega
      rw [uz, if_neg h1, h2, add_comm r, mul_comm]
    · intro r hr
      have h1 : r + k < 2 := by have := Finset.mem_range.1 hr; omega
      rw [uz, if_pos h1, zero_mul]
  rw [e1, Finset.sum_range_add, ← Finset.sum_range (fun r => D.uz (r + k) J * D.dc r J)]
  rw [Finset.sum_eq_zero (s := Finset.range (2 - k)), add_zero]
  intro r _
  have h1 : ¬ (8192 + r < 8192) := by omega
  rw [dc, if_neg h1, mul_zero]

/-- A sum over the 8192 rows is the sum over the 32 tiles of the sums over each tile's 256 rows. -/
theorem sum_tiles (f : ℕ → ℝ) (n : ℕ) :
    ∑ t ∈ Finset.range n, ∑ i : Fin 256, f (256 * t + i) = ∑ r ∈ Finset.range (256 * n), f r := by
  induction n with
  | zero => simp
  | succ n ih =>
    rw [Finset.sum_range_succ, ih, Nat.mul_succ, Finset.sum_range_add, ← Finset.sum_range (fun i => f (256 * n + i))]

end Tab

/-- A finite sum of real numbers, taken in the extended reals. -/
theorem coe_sum {n : ℕ} (f : Fin n → ℝ) : ((∑ i, f i : ℝ) : EReal) = ∑ i, (f i : EReal) := by
  induction n with
  | zero => simp
  | succ n ih => rw [Fin.sum_univ_succ, Fin.sum_univ_succ, EReal.coe_add, ih]

theorem coe_sum_range (f : ℕ → ℝ) (n : ℕ) : ((∑ k ∈ Finset.range n, f k : ℝ) : EReal) = ∑ k ∈ Finset.range n, (f k : EReal) := by
  induction n with
  | zero => simp
  | succ n ih => rw [Finset.sum_range_succ, Finset.sum_range_succ, EReal.coe_add, ih]

/-- The division of the idealized model between real numbers. -/
theorem div_real (a b : ℝ) (h : b ≠ 0) : Ideal.div (a : EReal) (b : EReal) = ((a / b : ℝ) : EReal) := by
  rw [Ideal.div_coe h, ← EReal.coe_mul]; congr 1; ring

theorem rsqrt_real (a : ℝ) (h : 0 < a) : Ideal.rsqrt (a : EReal) = (((Real.sqrt a)⁻¹ : ℝ) : EReal) := by
  rw [Ideal.rsqrt_coe, if_neg (not_lt.2 h.le), if_neg h.ne']

end Cert.Spec
-- ==== Proof.Consts.lean ====
/- The f32 words of the two programs' constants, as real numbers. -/
module

public import Idealize.ShloMosaic.Lib.Pointwise
public import Idealize.ShloMosaic.PureOps.Ideal.Laws
public import proofs.«01_k».proof.Proof.Spec

@[expose] public section

noncomputable section

namespace Cert.Consts

open Idealize.ShloMosaic

theorem c_1024 : Ideal.ofBits .f32 0x44800000#32 = ((1024 : ℝ) : EReal) := by
  simp [Ideal.ofBits, Ideal.ieee, -EReal.coe_mul]; norm_num
theorem c_eps : Ideal.ofBits .f32 0x358637BD#32 = ((Spec.eps : ℝ) : EReal) := by
  simp [Ideal.ofBits, Ideal.ieee, -EReal.coe_mul, Spec.eps]
theorem c_neg_half : Ideal.ofBits .f32 0xBF000000#32 = ((-(1 / 2) : ℝ) : EReal) := by
  simp [Ideal.ofBits, Ideal.ieee, -EReal.coe_mul]; norm_num
theorem c_three : Ideal.ofBits .f32 0x40400000#32 = ((3 : ℝ) : EReal) := by
  simp [Ideal.ofBits, Ideal.ieee, -EReal.coe_mul]; norm_num
theorem c_half : Ideal.ofBits .f32 0x3F000000#32 = ((1 / 2 : ℝ) : EReal) := by
  simp [Ideal.ofBits, Ideal.ieee, -EReal.coe_mul]; norm_num
theorem c_gA : Ideal.ofBits .f32 0x3D372713#32 = ((Spec.gA : ℝ) : EReal) := by
  simp [Ideal.ofBits, Ideal.ieee, -EReal.coe_mul, Spec.gA]; norm_num
theorem c_gC : Ideal.ofBits .f32 0x3F4C422A#32 = ((Spec.gC : ℝ) : EReal) := by
  simp [Ideal.ofBits, Ideal.ieee, -EReal.coe_mul, Spec.gC]; norm_num
theorem c_half_bf16 : Ideal.ofBits .bf16 0x3F00#16 = ((1 / 2 : ℝ) : EReal) := by
  simp [Ideal.ofBits, Ideal.ieee, -EReal.coe_mul]; norm_num
theorem c_one : (1 : EReal) = ((1 : ℝ) : EReal) := rfl
theorem c_inf : Ideal.ofBits .f32 0x7F800000#32 = ⊤ := by
  simp [Ideal.ofBits, Ideal.ieee]

end Cert.Consts
-- ==== Proof.RefValue.lean ====
/- The reference, read at an index: every value it computes from finite arrays is the real number of Spec.lean. -/
module

public import proofs.«01_k».proof.Proof.Gen.ReferenceIdeal.Read
public import proofs.«01_k».proof.Proof.Consts

@[expose] public section

set_option maxRecDepth 16384

noncomputable section

namespace Cert.RefValue

open Cert.ReferenceIdeal Cert.ReferenceIdeal.Read Idealize.ShloMosaic Cert.Spec

/-- The arrays hold the tables' real numbers. -/
structure Holds (D : Tab) (X0 : FVec Ideal S8192x1024 .f32) (X1 : FVec Ideal S1024 .f32) (X2 : FVec Ideal S1024x5632 .f32)
    (X3 : FVec Ideal S3x5632 .f32) (X4 : FVec Ideal S5632 .f32) (X6 : FVec Ideal S8192x2816 .f32) : Prop where
  x : ∀ (r : Fin 8192) (i : Fin 1024), X0 (ix2 r i) = (D.x r i : EReal)
  g : ∀ i : Fin 1024, X1 (ix1 i) = (D.g i : EReal)
  W : ∀ (i : Fin 1024) (J : Fin 5632), X2 (ix2 i J) = (D.W i J : EReal)
  w : ∀ (k : Fin 3) (J : Fin 5632), X3 (ix2 k J) = (D.w k J : EReal)
  b : ∀ J : Fin 5632, X4 (ix1 J) = (D.b J : EReal)
  d : ∀ (r : Fin 8192) (j : Fin 2816), X6 (ix2 r j) = (D.d r j : EReal)

variable {D : Tab} {X0 : FVec Ideal S8192x1024 .f32} {X1 : FVec Ideal S1024 .f32} {X2 : FVec Ideal S1024x5632 .f32}
  {X3 : FVec Ideal S3x5632 .f32} {X4 : FVec Ideal S5632 .f32} {X6 : FVec Ideal S8192x2816 .f32}

theorem v6 (H : Holds D X0 X1 X2 X3 X4 X6) (r : Fin 8192) (z : Fin 1) : val_main_v6 (F := Ideal) X0 (ix2 r z) = (D.ms r : EReal) := by
  pointwise [val_main_v6, val_main_v5, val_main_v4, val_main_v3, val_main_v2, val_main_v1, val_main_v0, val_main_cst, val_main_cst_0, val_main_cst_1]
  rw [Consts.c_1024, Consts.c_eps]
  simp only [H.x, ← EReal.coe_mul, ← coe_sum]
  rw [div_real _ _ (by norm_num), ← EReal.coe_add]
  rfl

theorem v7 (H : Holds D X0 X1 X2 X3 X4 X6) (r : Fin 8192) (z : Fin 1) : val_main_v7 (F := Ideal) X0 (ix2 r z) = (D.rs r : EReal) := by
  pointwise [val_main_v7]
  rw [v6 H, rsqrt_real _ (D.ms_pos r)]
  rfl

theorem v10 (H : Holds D X0 X1 X2 X3 X4 X6) (r : Fin 8192) (z : Fin 1) :
    val_main_v10 (F := Ideal) X0 (ix2 r z) = ((-(1 / 2) * (D.rs r / D.ms r) : ℝ) : EReal) := by
  pointwise [val_main_v10, val_main_v9, val_main_cst_2, val_main_v8]
  rw [v6 H, v7 H, Consts.c_neg_half, div_real _ _ (D.ms_pos r).ne', ← EReal.coe_mul]

theorem v12 (H : Holds D X0 X1 X2 X3 X4 X6) (r : Fin 8192) (i : Fin 1024) :
    val_main_v12 (F := Ideal) X0 (ix2 r i) = ((D.x r i * D.rs r : ℝ) : EReal) := by
  pointwise [val_main_v12, val_main_v11]
  rw [v7 H, H.x, ← EReal.coe_mul]

theorem v16 (H : Holds D X0 X1 X2 X3 X4 X6) (r : Fin 8192) (J : Fin 5632) :
    val_main_v16 (F := Ideal) X0 X1 X2 (ix2 r J) = (D.u r J : EReal) := by
  pointwise [val_main_v16, val_main_v15, val_main_v14, val_main_v13]
  simp only [v12 H, H.g, H.W, ← EReal.coe_mul, ← coe_sum]
  rfl

theorem v18 (H : Holds D X0 X1 X2 X3 X4 X6) (r : Fin 8194) (J : Fin 5632) :
    val_main_v18 (F := Ideal) X0 X1 X2 (ix2 r J) = (D.uz r J : EReal) := by
  pointwise [val_main_v18, val_main_v17, val_main_cst_3]
  simp only [v16 H]
  unfold Tab.uz
  split <;> simp_all

theorem v42 (H : Holds D X0 X1 X2 X3 X4 X6) (r : Fin 8192) (J : Fin 5632) :
    val_main_v42 (F := Ideal) X0 X1 X2 X3 X4 (ix2 r J) = (D.c r J : EReal) := by
  pointwise [val_main_v42, val_main_v41, val_main_v40, val_main_v39, val_main_v38, val_main_v37, val_main_v36, val_main_v35,
    val_main_v34, val_main_v33, val_main_v32, val_main_v31, val_main_v30, val_main_v29, val_main_v28, val_main_v27,
    val_main_v26, val_main_v25, val_main_v24, val_main_v23, val_main_v22, val_main_v21, val_main_v20]
  simp only [v18 H, H.w, H.b, ← EReal.coe_mul, ← EReal.coe_add]
  simp only [Tab.c, Nat.add_comm 1, Nat.add_comm 2]
  rfl

theorem v43 (H : Holds D X0 X1 X2 X3 X4 X6) (r : Fin 8192) (j : Fin 2816) :
    val_main_v43 (F := Ideal) X0 X1 X2 X3 X4 (ix2 r j) = (D.c r j : EReal) := by
  pointwise [val_main_v43]
  rw [v42 H]

theorem v44 (H : Holds D X0 X1 X2 X3 X4 X6) (r : Fin 8192) (j : Fin 2816) :
    val_main_v44 (F := Ideal) X0 X1 X2 X3 X4 (ix2 r j) = (D.c r (j + 2816) : EReal) := by
  pointwise [val_main_v44]
  rw [v42 H]
  exact congrArg (fun n => (D.c r n : EReal)) (Nat.add_comm _ _)

theorem v55 (H : Holds D X0 X1 X2 X3 X4 X6) (r : Fin 8192) (j : Fin 2816) :
    val_main_v55 (F := Ideal) X0 X1 X2 X3 X4 (ix2 r j) = (th (D.c r j) : EReal) := by
  pointwise [val_main_v55, val_main_v54, val_main_v53, val_main_v52, val_main_v51, val_main_v50, val_main_v46, val_main_v45,
    val_main_cst_6, val_main_cst_7]
  rw [v43 H, Consts.c_gA, Consts.c_gC]
  simp only [← EReal.coe_mul, ← EReal.coe_add, Ideal.tanh_coe]
  rfl

theorem v64 (H : Holds D X0 X1 X2 X3 X4 X6) (r : Fin 8192) (j : Fin 2816) :
    val_main_v64 (F := Ideal) X0 X1 X2 X3 X4 (ix2 r j) = (sg (D.c r j) : EReal) := by
  pointwise [val_main_v64, val_main_v63, val_main_v62, val_main_v61, val_main_cst_10, val_main_cst_11]
  rw [v55 H, Consts.c_half, Consts.c_one, ← EReal.coe_add, ← EReal.coe_mul]
  rfl

theorem v67 (H : Holds D X0 X1 X2 X3 X4 X6) (r : Fin 8192) (j : Fin 2816) :
    val_main_v67 (F := Ideal) X0 X1 X2 X3 X4 X6 (ix2 r j) = ((D.d r j * gelu (D.c r j) : ℝ) : EReal) := by
  pointwise [val_main_v67, val_main_v65]
  rw [v64 H, v43 H, H.d, ← EReal.coe_mul, ← EReal.coe_mul, mul_comm]
  rfl

theorem v80 (H : Holds D X0 X1 X2 X3 X4 X6) (r : Fin 8192) (j : Fin 2816) :
    val_main_v80 (F := Ideal) X0 X1 X2 X3 X4 X6 (ix2 r j) = ((D.d r j * D.c r (j + 2816) * dgelu (D.c r j) : ℝ) : EReal) := by
  pointwise [val_main_v80, val_main_v79, val_main_v78, val_main_v77, val_main_v76, val_main_v75, val_main_v74, val_main_v73,
    val_main_v72, val_main_v71, val_main_v70, val_main_v69, val_main_v68, val_main_v60, val_main_v59, val_main_v58, val_main_v57,
    val_main_v56, val_main_v49, val_main_v48, val_main_v47, val_main_cst_5, val_main_cst_8, val_main_cst_9, val_main_cst_12,
    val_main_cst_13, val_main_cst_14]
  rw [v64 H, v55 H, v43 H, v44 H, H.d, Consts.c_half, Consts.c_gA, Consts.c_gC, Consts.c_three, Consts.c_one]
  simp only [← EReal.coe_mul, ← EReal.coe_add, ← EReal.coe_sub]
  congr 1
  unfold dgelu
  ring

theorem v83 (H : Holds D X0 X1 X2 X3 X4 X6) (r : Fin 8192) (J : Fin 5632) :
    val_main_v83 (F := Ideal) X0 X1 X2 X3 X4 X6 (ix2 r J) = (D.dc r J : EReal) := by
  pointwise [val_main_v83, val_main_v82, val_main_v81, val_main_cst_15, val_main_cst_16]
  have hr : (r : ℕ) < 8192 := r.isLt
  have hJ : (J : ℕ) < 5632 := J.isLt
  by_cases h : (J : ℕ) < 2816
  · rw [dif_neg (by omega), dif_pos h, v80 H, zero_add]
    simp only [Tab.dc, if_pos hr, if_pos h]
  · rw [dif_pos (by omega), dif_neg h, v67 H, add_zero]
    simp only [Tab.dc, if_pos hr, if_neg h]

theorem v85 (H : Holds D X0 X1 X2 X3 X4 X6) (J : Fin 5632) :
    val_main_v89 (F := Ideal) X0 X1 X2 X3 X4 X6 (ix1 J) = (D.gw 2 J : EReal) := by
  pointwise [val_main_v89, val_main_v86, val_main_v85, val_main_v84, val_main_v36, val_main_cst_17, val_main_cst_18]
  simp only [Finset.univ_unique, Finset.sum_singleton]
  simp only [v18 H, v83 H, ← EReal.coe_mul, ← coe_sum]
  rw [D.gw_eq 2 J (by norm_num)]
  simp only [Nat.add_comm 2]

theorem v98 (H : Holds D X0 X1 X2 X3 X4 X6) (J : Fin 5632) :
    val_main_v98 (F := Ideal) X0 X1 X2 X3 X4 X6 (ix1 J) = (D.gw 1 J : EReal) := by
  pointwise [val_main_v98, val_main_v95, val_main_v94, val_main_v93, val_main_v29, val_main_cst_21, val_main_cst_22]
  simp only [Finset.univ_unique, Finset.sum_singleton]
  simp only [v18 H, v83 H, ← EReal.coe_mul, ← coe_sum]
  rw [D.gw_eq 1 J (by norm_num)]
  simp only [Nat.add_comm 1]

theorem v112 (H : Holds D X0 X1 X2 X3 X4 X6) (J : Fin 5632) :
    val_main_v112 (F := Ideal) X0 X1 X2 X3 X4 X6 (ix1 J) = (D.gw 0 J : EReal) := by
  pointwise [val_main_v112, val_main_v109, val_main_v108, val_main_v107, val_main_v20, val_main_cst_27, val_main_cst_28]
  simp only [Finset.univ_unique, Finset.sum_singleton]
  simp only [v18 H, v83 H, ← EReal.coe_mul, ← coe_sum]
  rw [D.gw_eq 0 J (by norm_num)]
  simp only [Nat.add_zero]

/-- The gradient of the taps. -/
theorem v115 (H : Holds D X0 X1 X2 X3 X4 X6) (k : Fin 3) (J : Fin 5632) :
    val_main_v115 (F := Ideal) X0 X1 X2 X3 X4 X6 (ix2 k J) = (D.gw k J : EReal) := by
  pointwise [val_main_v115, val_main_v114, val_main_v113, val_main_v101, val_main_v100, val_main_v99, val_main_v91, val_main_v90,
    val_main_cst_19, val_main_cst_23, val_main_cst_29]
  simp only [v85 H, v98 H, v112 H]
  fin_vals k with hk <;> simp [hk]

/-- The gradient of the bias. -/
theorem v142 (H : Holds D X0 X1 X2 X3 X4 X6) (z : Fin 1) (J : Fin 5632) :
    val_main_v142 (F := Ideal) X0 X1 X2 X3 X4 X6 (ix2 z J) = (D.gb J : EReal) := by
  pointwise [val_main_v142, val_main_v106, val_main_v105, val_main_v104, val_main_cst_25, val_main_cst_26]
  simp only [Finset.univ_unique, Finset.sum_singleton]
  simp only [v83 H, ← EReal.coe_mul, ← coe_sum]
  rfl

/-- The gradient of the up projection's output. -/
theorem v119 (H : Holds D X0 X1 X2 X3 X4 X6) (r : Fin 8192) (J : Fin 5632) :
    val_main_v119 (F := Ideal) X0 X1 X2 X3 X4 X6 (ix2 r J) = (D.du r J : EReal) := by
  pointwise [val_main_v119, val_main_v117, val_main_v116, val_main_v111, val_main_v110, val_main_v103, val_main_v102, val_main_v97,
    val_main_v96, val_main_v92, val_main_v88, val_main_v87, val_main_v39, val_main_v38, val_main_v37, val_main_v32, val_main_v31,
    val_main_v30, val_main_v23, val_main_v22, val_main_v21,
    val_main_cst_20, val_main_cst_24, val_main_cst_30]
  have hr : (r : ℕ) < 8192 := r.isLt
  have e1 : (if h : 1 ≤ 2 + (r : ℕ) ∧ 2 + (r : ℕ) - 1 < 8192 then
        val_main_v83 (F := Ideal) X0 X1 X2 X3 X4 X6 (ix2 ⟨2 + (r : ℕ) - 1, h.2⟩ J) * X3 (ix2 1 J) else (0 : EReal))
      = ((D.w 1 J * D.dc (r + 1) J : ℝ) : EReal) := by
    split
    · rw [v83 H, H.w, ← EReal.coe_mul, mul_comm]
      simp only [show 2 + (r : ℕ) - 1 = r + 1 by omega]
      rfl
    · rename_i h
      rw [Tab.dc, if_neg (by omega), mul_zero]; rfl
  have e2 : (if h : 2 + (r : ℕ) < 8192 then
        val_main_v83 (F := Ideal) X0 X1 X2 X3 X4 X6 (ix2 ⟨2 + (r : ℕ), h⟩ J) * X3 (ix2 0 J) else (0 : EReal))
      = ((D.w 0 J * D.dc (r + 2) J : ℝ) : EReal) := by
    split
    · rw [v83 H, H.w, ← EReal.coe_mul, mul_comm]
      simp only [show 2 + (r : ℕ) = r + 2 by omega]
      rfl
    · rename_i h
      rw [Tab.dc, if_neg (by omega), mul_zero]; rfl
  refine (congrArg₂ (· + ·) (congrArg₂ (· + ·) rfl e1) e2).trans ?_
  rw [v83 H, H.w, ← EReal.coe_mul, mul_comm, ← EReal.coe_add, ← EReal.coe_add]
  rfl

theorem v141 (H : Holds D X0 X1 X2 X3 X4 X6) (r : Fin 8192) (J : Fin 5632) :
    val_main_v141 (F := Ideal) X0 X1 X2 X3 X4 X6 (ix2 r J) = (D.du r J : EReal) := by
  pointwise [val_main_v141]
  rw [v119 H]

theorem v120 (H : Holds D X0 X1 X2 X3 X4 X6) (r : Fin 8192) (i : Fin 1024) :
    val_main_v120 (F := Ideal) X0 X1 X2 X3 X4 X6 (ix2 r i) = (D.acc r i : EReal) := by
  pointwise [val_main_v120]
  simp only [v119 H, H.W, ← EReal.coe_mul, ← coe_sum]
  rfl

/-- The gradient of the gain. -/
theorem v144 (H : Holds D X0 X1 X2 X3 X4 X6) (z : Fin 1) (i : Fin 1024) :
    val_main_v144 (F := Ideal) X0 X1 X2 X3 X4 X6 (ix2 z i) = (D.gg i : EReal) := by
  pointwise [val_main_v144, val_main_v126, val_main_v123, val_main_v122, val_main_v121, val_main_cst_31, val_main_cst_32]
  simp only [Finset.univ_unique, Finset.sum_singleton]
  simp only [v12 H, v120 H, ← EReal.coe_mul, ← coe_sum]
  simp only [Tab.gg, mul_comm]

theorem v125 (H : Holds D X0 X1 X2 X3 X4 X6) (r : Fin 8192) (i : Fin 1024) :
    val_main_v125 (F := Ideal) X0 X1 X2 X3 X4 X6 (ix2 r i) = ((D.acc r i * D.g i : ℝ) : EReal) := by
  pointwise [val_main_v125, val_main_v124, val_main_v13]
  rw [v120 H, H.g, ← EReal.coe_mul]

theorem v136 (H : Holds D X0 X1 X2 X3 X4 X6) (r : Fin 8192) (i : Fin 1024) :
    val_main_v136 (F := Ideal) X0 X1 X2 X3 X4 X6 (ix2 r i)
      = (((∑ j : Fin 1024, D.x r j * (D.acc r j * D.g j)) * (-(1 / 2) * (D.rs r / D.ms r)) / 1024 : ℝ) : EReal) := by
  pointwise [val_main_v136, val_main_v135, val_main_v134, val_main_v133, val_main_v132, val_main_v129, val_main_v128, val_main_v127,
    val_main_cst_33, val_main_cst_34, val_main_cst_35]
  simp only [Finset.univ_unique, Finset.sum_singleton]
  rw [v10 H, Consts.c_1024]
  simp only [v125 H, H.x, ← EReal.coe_mul, ← coe_sum]
  rw [div_real _ _ (by norm_num)]

/-- The gradient of the row before the norm. -/
theorem v140 (H : Holds D X0 X1 X2 X3 X4 X6) (r : Fin 8192) (i : Fin 1024) :
    val_main_v140 (F := Ideal) X0 X1 X2 X3 X4 X6 (ix2 r i) = (D.dx r i : EReal) := by
  pointwise [val_main_v140, val_main_v139, val_main_v138, val_main_v137, val_main_v131, val_main_v130]
  rw [v136 H, v125 H, v7 H, H.x]
  simp only [← EReal.coe_mul, ← EReal.coe_add]
  congr 1
  rw [D.rs_cube]
  unfold Tab.dx
  have e : ∑ j : Fin 1024, D.acc r j * D.g j * (D.x r j * D.rs r) = D.rs r * ∑ j : Fin 1024, D.x r j * (D.acc r j * D.g j) := by
    rw [Finset.mul_sum]; exact Finset.sum_congr rfl fun j _ => by ring
  rw [e]
  ring

theorem v143 (H : Holds D X0 X1 X2 X3 X4 X6) (X5 : FVec Ideal S8192x1024 .f32) (r : Fin 8192) (i : Fin 1024) :
    val_main_v143 (F := Ideal) X0 X1 X2 X3 X4 X5 X6 (ix2 r i) = X5 (ix2 r i) + (D.dx r i : EReal) := by
  pointwise [val_main_v143]
  rw [v140 H]

end Cert.RefValue
-- ==== Proof.Host.lean ====
/- What the kernel's call receives: the arrays that the host code before the call prepares, read at an index. The norm,
   the up projection and the convolution are the same text as the reference's first part, so its lemmas read them. -/
module

public import proofs.«01_k».proof.Proof.RefValue
public import proofs.«01_k».proof.Proof.Gen.KernelIdeal.Frame.Runs
public import Idealize.ShloMosaic.Lib.StableHlo.RunRead
public import Idealize.ShloMosaic.Lib.Pipeline.ValueKit

@[expose] public section

set_option maxRecDepth 16384

noncomputable section

namespace Cert.Host

open Cert.KernelIdeal Cert.KernelIdeal.Gen Idealize.ShloMosaic Idealize.ShloMosaic.TcCoe Idealize.ShloMosaic.StableHlo Cert.Spec
open Cert.ReferenceIdeal.Read

variable (m : (ℓ : Loc nD τ sig) → Buf (Elt Ideal) ℓ) (c : Dev nD)

/-- Core `c`'s arguments hold the tables' real numbers. -/
abbrev HoldsAt (D : Tab) : Prop :=
  RefValue.Holds D (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg6))

theorem V_v45 : V m c main_v45 = (val_main_v43 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) : S8192x2816.Idx → EReal) := by
  unfold_abbrev_sides
  after_reads_simp
  rfl

theorem V_v46 : V m c main_v46 = (val_main_v44 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) : S8192x2816.Idx → EReal) := by
  unfold_abbrev_sides
  after_reads_simp
  rfl

variable {m} {c} {D : Tab}

theorem ug (H : HoldsAt m c D) (r : Fin 8192) (j : Fin 2816) : (V m c main_v43 : S8192x2816.Idx → EReal) (ix2 r j) = (D.u r j : EReal) := by
  have e : V m c main_v43 = (fun x => val_main_v16 (F := Ideal) (m ((c : Thread nD τ).loc main_arg0)) (m ((c : Thread nD τ).loc main_arg1)) (m ((c : Thread nD τ).loc main_arg2))
      (ix2 (x 0) ⟨(x 1).val, Nat.lt_trans (x 1).isLt (by decide)⟩) : S8192x2816.Idx → EReal) := by
    unfold_abbrev_sides
    after_reads_simp
    funext x
    pointwise [val_main_v16, val_main_v15, val_main_v14, val_main_v13, val_main_v12, val_main_v11, val_main_v7, val_main_v6, val_main_v5, val_main_v4, val_main_v3, val_main_v2, val_main_v1, val_main_v0, val_main_cst, val_main_cst_0, val_main_cst_1]
  rw [e]
  exact RefValue.v16 H r ⟨j.val, _⟩

theorem uv (H : HoldsAt m c D) (r : Fin 8192) (j : Fin 2816) : (V m c main_v44 : S8192x2816.Idx → EReal) (ix2 r j) = (D.u r (j + 2816) : EReal) := by
  have e : V m c main_v44 = (fun x => val_main_v16 (F := Ideal) (m ((c : Thread nD τ).loc main_arg0)) (m ((c : Thread nD τ).loc main_arg1)) (m ((c : Thread nD τ).loc main_arg2))
      (ix2 (x 0) ⟨2816 + (x 1).val, Nat.add_lt_add_left (x 1).isLt 2816⟩) : S8192x2816.Idx → EReal) := by
    unfold_abbrev_sides
    after_reads_simp
    funext x
    pointwise [val_main_v16, val_main_v15, val_main_v14, val_main_v13, val_main_v12, val_main_v11, val_main_v7, val_main_v6, val_main_v5, val_main_v4, val_main_v3, val_main_v2, val_main_v1, val_main_v0, val_main_cst, val_main_cst_0, val_main_cst_1]
  rw [e]
  refine (RefValue.v16 H r ⟨2816 + j.val, _⟩).trans ?_
  exact congrArg (fun n => (D.u r n : EReal)) (Nat.add_comm _ _)

theorem cg (H : HoldsAt m c D) (r : Fin 8192) (j : Fin 2816) : (V m c main_v45 : S8192x2816.Idx → EReal) (ix2 r j) = (D.c r j : EReal) := by
  rw [V_v45]; exact RefValue.v43 H r j

theorem cv (H : HoldsAt m c D) (r : Fin 8192) (j : Fin 2816) : (V m c main_v46 : S8192x2816.Idx → EReal) (ix2 r j) = (D.c r (j + 2816) : EReal) := by
  rw [V_v46]; exact RefValue.v44 H r j

theorem dff (H : HoldsAt m c D) (r : Fin 8192) (j : Fin 2816) : (V m c main_v47 : S8192x2816.Idx → EReal) (ix2 r j) = (D.d r j : EReal) := by
  have e : V m c main_v47 = (m ((c : Thread nD τ).loc main_arg6) : S8192x2816.Idx → EReal) := by
    unfold_abbrev_sides
    after_reads_simp
    rfl
  rw [e]; exact H.d r j

theorem wup (H : HoldsAt m c D) (i : Fin 1024) (J : Fin 5632) : (V m c main_v48 : S1024x5632.Idx → EReal) (ix2 i J) = (D.W i J : EReal) := by
  have e : V m c main_v48 = (m ((c : Thread nD τ).loc main_arg2) : S1024x5632.Idx → EReal) := by
    unfold_abbrev_sides
    after_reads_simp
    rfl
  rw [e]; exact H.W i J

theorem gain (H : HoldsAt m c D) (z : Fin 1) (i : Fin 1024) : (V m c main_v49 : S1x1024.Idx → EReal) (ix2 z i) = (D.g i : EReal) := by
  have e : V m c main_v49 = (fun x => (m ((c : Thread nD τ).loc main_arg1) : S1024.Idx → EReal) (ix1 (x 1)) : S1x1024.Idx → EReal) := by
    unfold_abbrev_sides
    after_reads_simp
    funext x
    pointwise
  rw [e]; exact H.g i

end Cert.Host
-- ==== Proof.Finite.lean ====
/- The precondition read back: where every element of the arguments is below infinity in absolute value, they hold the
   tables of real numbers that their elements are. -/
module

public import proofs.«01_k».proof.Defs
public import proofs.«01_k».proof.Proof.Gen.Pre_finite
public import proofs.«01_k».proof.Proof.Host
public import Idealize.ShloMosaic.Lib.ReduceAll

@[expose] public section

set_option maxRecDepth 16384

noncomputable section

namespace Cert.Finite

open Idealize.ShloMosaic Cert.Spec

/-- A number below infinity in absolute value is real. -/
theorem real_of_abs_lt {a : EReal} (h : max a (-a) < ⊤) : ((a.toReal : ℝ) : EReal) = a := by
  refine EReal.coe_toReal (fun e => ?_) (fun e => ?_)
  · rw [e] at h; simp at h
  · rw [e] at h; simp at h

/-- An array of which all elements are below infinity in absolute value is an array of real numbers. -/
theorem real_of_all {s u v : Shape} {axes : List (Fin s.rank)} [Subsingleton v.Idx] (X : FVec Ideal s .f32) (hb : (⟨0, ![]⟩ : Shape).BroadcastsInDim s ![])
    (hr : s.ReducesTo axes v) (hu : 0 < u.numel) (j : v.Idx)
    (e : Host.reduce IntOp.andi (cmpf .olt (Host.absf X) (broadcastInDim s ![] hb (constant ⟨0, ![]⟩ .f32 0x7F800000#32)))
      (constantI u 1 1#1) hr hu j = 1#1) (i : s.Idx) : ((EReal.toReal (X i) : ℝ) : EReal) = X i := by
  have h := Host.reduce_andi_all _ _ _ _ j e i
  have hi : (constant (F := Ideal) ⟨0, ![]⟩ .f32 0x7F800000#32 : (⟨0, ![]⟩ : Shape).Idx → EReal) = fun _ => ⊤ := by
    funext k
    show Ideal.ofBits .f32 0x7F800000#32 = ⊤
    simp [Ideal.ofBits, Ideal.ieee]
  rw [hi] at h
  refine real_of_abs_lt (a := X i) ?_
  by_contra hn
  have h' : BitVec.ofBool (decide (max (X i : EReal) (-(X i : EReal)) < ⊤)) = 1#1 := h
  rw [decide_eq_false hn] at h'
  exact absurd h' (by decide)

variable (X0 : FVec Ideal ⟨2, ![8192, 1024]⟩ .f32) (X1 : FVec Ideal ⟨1, ![1024]⟩ .f32) (X2 : FVec Ideal ⟨2, ![1024, 5632]⟩ .f32)
  (X3 : FVec Ideal ⟨2, ![3, 5632]⟩ .f32) (X4 : FVec Ideal ⟨1, ![5632]⟩ .f32) (X6 : FVec Ideal ⟨2, ![8192, 2816]⟩ .f32)

/-- The table of an array's real numbers, zero outside the array. -/
def tab2 {m n : ℕ} (X : FVec Ideal ⟨2, ![m, n]⟩ .f32) (r i : ℕ) : ℝ :=
  if h : r < m ∧ i < n then EReal.toReal (X (ix2 (⟨r, h.1⟩ : Fin m) (⟨i, h.2⟩ : Fin n))) else 0
def tab1 {n : ℕ} (X : FVec Ideal ⟨1, ![n]⟩ .f32) (i : ℕ) : ℝ :=
  if h : i < n then EReal.toReal (X (ix1 (⟨i, h⟩ : Fin n))) else 0

theorem tab2_eq {m n : ℕ} {X : FVec Ideal ⟨2, ![m, n]⟩ .f32} (h : ∀ i, ((EReal.toReal (X i) : ℝ) : EReal) = X i) (r : Fin m) (i : Fin n) :
    X (ix2 r i) = (tab2 X r i : EReal) := by
  rw [tab2, dif_pos ⟨r.isLt, i.isLt⟩]; exact (h _).symm
theorem tab1_eq {n : ℕ} {X : FVec Ideal ⟨1, ![n]⟩ .f32} (h : ∀ i, ((EReal.toReal (X i) : ℝ) : EReal) = X i) (i : Fin n) :
    X (ix1 i) = (tab1 X i : EReal) := by
  rw [tab1, dif_pos i.isLt]; exact (h _).symm

/-- The tables of the arguments. -/
def tab : Tab where
  x := tab2 X0
  g := tab1 X1
  W := tab2 X2
  w := tab2 X3
  b := tab1 X4
  d := tab2 X6

variable {X0 X1 X2 X3 X4 X6}

theorem holds (X5 : FVec Ideal ⟨2, ![8192, 1024]⟩ .f32) (e : Cert.Pre_finite.fn (F := Ideal) X0 X1 X2 X3 X4 X5 X6 = fun _ => 1#1) :
    RefValue.Holds (tab X0 X1 X2 X3 X4 X6) X0 X1 X2 X3 X4 X6 := by
  have e0 := congrFun e ix0
  obtain ⟨e1, h6⟩ := IntOp.andi_eq_one.1 e0
  obtain ⟨e2, h4⟩ := IntOp.andi_eq_one.1 e1
  obtain ⟨e3, h3⟩ := IntOp.andi_eq_one.1 e2
  obtain ⟨e4, h2⟩ := IntOp.andi_eq_one.1 e3
  obtain ⟨h0, h1⟩ := IntOp.andi_eq_one.1 e4
  exact
    { x := tab2_eq (real_of_all _ _ _ _ _ h0)
      g := tab1_eq (real_of_all _ _ _ _ _ h1)
      W := tab2_eq (real_of_all _ _ _ _ _ h2)
      w := tab2_eq (real_of_all _ _ _ _ _ h3)
      b := tab1_eq (real_of_all _ _ _ _ _ h4)
      d := tab2_eq (real_of_all _ _ _ _ _ h6) }

end Cert.Finite
-- ==== Proof.Payloads.lean ====
/- The kernel's arithmetic, read at an index. Each expression of the body is stated once, for arrays that hold real
   numbers; the second half of the columns is the same arithmetic as the first. -/
module

public import proofs.«01_k».proof.Proof.Gen.KernelIdeal.Skeleton
public import proofs.«01_k».proof.Proof.Consts

@[expose] public section

set_option maxRecDepth 16384

noncomputable section

namespace Cert.Payloads

open Cert.KernelIdeal Cert.KernelIdeal.Gen Idealize.ShloMosaic Cert.Spec

theorem n_gC (b : BitVec (FTy.bits .bf16)) : Named.named (F := Ideal) κ "gelu_c" b = ((gC : ℝ) : EReal) := by
  rw [IdealRules.named_const.ideal_named_scalar κ "gelu_c" b ((6693141 / 8388608 : ℝ) : EReal) rfl, gC]
theorem n_gA (b : BitVec (FTy.bits .bf16)) : Named.named (F := Ideal) κ "gelu_a" b = ((gA : ℝ) : EReal) := by
  rw [IdealRules.named_const.ideal_named_scalar κ "gelu_a" b ((12003091 / 268435456 : ℝ) : EReal) rfl, gA]
theorem n_6 (b : BitVec (FTy.bits .bf16)) : Named.named (F := Ideal) κ "six_gelu_ca" b = ((6 * gC * gA : ℝ) : EReal) := by
  rw [IdealRules.named_const.ideal_named_scalar κ "six_gelu_ca" b ((241015141496493 / 1125899906842624 : ℝ) : EReal) rfl, gC, gA]
  congr 1; norm_num
theorem n_2 (b : BitVec (FTy.bits .bf16)) : Named.named (F := Ideal) κ "two_gelu_c" b = ((2 * gC : ℝ) : EReal) := by
  rw [IdealRules.named_const.ideal_named_scalar κ "two_gelu_c" b ((6693141 / 4194304 : ℝ) : EReal) rfl, gC]
  congr 1; norm_num

section Gate

variable {X V E : Vec Ideal S256x1408 .bf16} {a : Fin 256} {j : Fin 1408} {x v e : ℝ}

theorem sig (hx : X (ix2 a j) = (x : EReal)) : k0_pay8 (F := Ideal) X (ix2 a j) = (sg x : EReal) := by
  pointwise [k0_pay8, k0_pay7, k0_pay5]
  rw [hx, n_gC, n_gA, Consts.c_half_bf16, Consts.c_one]
  simp only [← EReal.coe_mul, ← EReal.coe_add, Ideal.tanh_coe]
  congr 1
  unfold sg th
  rw [show gC * x * (1 + gA * (x * x)) = gC * (x + gA * (x * x * x)) by ring]
  ring

/-- The gate's half of the gradient, a row of the tile. -/
theorem gate_g (hx : X (ix2 a j) = (x : EReal)) (hv : V (ix2 a j) = (v : EReal)) (he : E (ix2 a j) = (e : EReal)) :
    k0_pay10 (F := Ideal) X V E (ix2 a j) = ((e * v * dgelu x : ℝ) : EReal) := by
  pointwise [k0_pay10, k0_pay9, k0_pay7, k0_pay6, k0_pay5]
  rw [sig hx, hx, hv, he, n_6, n_2, Consts.c_one]
  simp only [← EReal.coe_mul, ← EReal.coe_add, ← EReal.coe_sub]
  congr 1
  unfold dgelu sg
  ring

/-- The value's half of the gradient, a row of the tile. -/
theorem gate_v (hx : X (ix2 a j) = (x : EReal)) (he : E (ix2 a j) = (e : EReal)) :
    k0_pay11 (F := Ideal) X E (ix2 a j) = ((e * gelu x : ℝ) : EReal) := by
  pointwise [k0_pay11, k0_pay9, k0_pay6, k0_pay5]
  rw [sig hx, hx, he]
  simp only [← EReal.coe_mul]
  rfl

end Gate

section Next

variable {X V E : Vec Ideal S8x1408 .bf16} {a : Fin 8} {j : Fin 1408} {x v e q : ℝ} {k : Elt Ideal .bf16}

/-- The gate's half of the gradient, the eight rows after the tile. -/
def next_g (k : Elt Ideal .bf16) (X V E : Vec Ideal S8x1408 .bf16) : FVec Ideal S8x1408 .f32 :=
  extf .f32 (mulf (mulf (k0_pay13 k E) (shapeCast S8x1408 V shapeCasts_S8x1408_S8x1408))
    (addf (k0_pay15 X) (mulf (mulf (k0_pay16 X) (subf (broadcast S8x1408 (Scalar.ofBits .bf16 0x3F80#16)) (k0_pay15 X)))
      (addf (mulf (broadcast S8x1408 (Named.named κ "six_gelu_ca" 0x3E5B#16)) (k0_pay14 X))
        (broadcast S8x1408 (Named.named κ "two_gelu_c" 0x3FCC#16)))))) bitsLt_bf16_f32

theorem sig_next (hx : X (ix2 a j) = (x : EReal)) : k0_pay15 (F := Ideal) X (ix2 a j) = (sg x : EReal) := by
  pointwise [k0_pay15, k0_pay14, k0_pay12]
  rw [hx, n_gC, n_gA, Consts.c_half_bf16, Consts.c_one]
  simp only [← EReal.coe_mul, ← EReal.coe_add, Ideal.tanh_coe]
  congr 1
  unfold sg th
  rw [show gC * x * (1 + gA * (x * x)) = gC * (x + gA * (x * x * x)) by ring]
  ring

theorem gate_g_next (hx : X (ix2 a j) = (x : EReal)) (hv : V (ix2 a j) = (v : EReal)) (he : E (ix2 a j) = (e : EReal))
    (hk : k = (q : EReal)) : next_g k X V E (ix2 a j) = ((e * q * v * dgelu x : ℝ) : EReal) := by
  pointwise [next_g, k0_pay16, k0_pay14, k0_pay13, k0_pay12]
  rw [sig_next hx, hx, hv, he, hk, n_6, n_2, Consts.c_one]
  simp only [← EReal.coe_mul, ← EReal.coe_add, ← EReal.coe_sub]
  congr 1
  unfold dgelu sg
  ring

theorem gate_v_next (hx : X (ix2 a j) = (x : EReal)) (he : E (ix2 a j) = (e : EReal)) (hk : k = (q : EReal)) :
    k0_pay17 (F := Ideal) k X E (ix2 a j) = ((e * q * gelu x : ℝ) : EReal) := by
  pointwise [k0_pay17, k0_pay16, k0_pay13, k0_pay12]
  rw [sig_next hx, hx, he, hk]
  simp only [← EReal.coe_mul]
  rfl

end Next

section Conv

variable {A : FVec Ideal S256x1408 .f32} {B : FVec Ideal S8x1408 .f32} {w : Vec Ideal S3x1408 .f32}
  {U : Vec Ideal S256x1408 .bf16} {o : Vec Ideal S1x1408 .f32} {j : Fin 1408} {f u : ℕ → ℝ} {w0 w1 w2 : ℝ}

/-- A column's gradient on the tile's 256 rows and the eight after them. -/
structure Col (A : FVec Ideal S256x1408 .f32) (B : FVec Ideal S8x1408 .f32) (j : Fin 1408) (f : ℕ → ℝ) : Prop where
  here : ∀ a : Fin 256, A (ix2 a j) = (f a : EReal)
  next : ∀ a : Fin 8, B (ix2 a j) = (f (256 + a) : EReal)

theorem roll1 (h : Col A B j f) (a : Fin 256) : k0_pay28 (F := Ideal) A B (ix2 a j) = (f (a + 1) : EReal) := by
  pointwise [k0_pay28, k0_pay27]
  have ha : (a : ℕ) < 256 := a.isLt
  by_cases hlt : (a : ℕ) + 1 < 256
  · have e : ((a : ℕ) + 264 - 263) % 264 = a + 1 := by omega
    rw [dif_pos (by omega)]
    simp only [e, h.here ⟨(a : ℕ) + 1, hlt⟩]
  · have e : ((a : ℕ) + 264 - 263) % 264 - 256 = a + 1 - 256 := by omega
    rw [dif_neg (by omega)]
    simp only [e, h.next ⟨(a : ℕ) + 1 - 256, by omega⟩]
    congr 2; omega

theorem roll2 (h : Col A B j f) (a : Fin 256) : k0_pay29 (F := Ideal) A B (ix2 a j) = (f (a + 2) : EReal) := by
  pointwise [k0_pay29, k0_pay27]
  have ha : (a : ℕ) < 256 := a.isLt
  by_cases hlt : (a : ℕ) + 2 < 256
  · have e : ((a : ℕ) + 264 - 262) % 264 = a + 2 := by omega
    rw [dif_pos (by omega)]
    simp only [e, h.here ⟨(a : ℕ) + 2, hlt⟩]
  · have e : ((a : ℕ) + 264 - 262) % 264 - 256 = a + 2 - 256 := by omega
    rw [dif_neg (by omega)]
    simp only [e, h.next ⟨(a : ℕ) + 2 - 256, by omega⟩]
    congr 2; omega

theorem du (h : Col A B j f) (h0 : w (ix2 0 j) = (w0 : EReal)) (h1 : w (ix2 1 j) = (w1 : EReal)) (h2 : w (ix2 2 j) = (w2 : EReal))
    (a : Fin 256) : k0_pay30 (F := Ideal) A B w (ix2 a j) = ((w2 * f a + w1 * f (a + 1) + w0 * f (a + 2) : ℝ) : EReal) := by
  pointwise [k0_pay30]
  simp only [roll1 h, roll2 h, h.here, h0, h1, h2, ← EReal.coe_mul, ← EReal.coe_add]

theorem tap0 (h : Col A B j f) (hu : ∀ a : Fin 256, U (ix2 a j) = (u a : EReal)) (z : Fin 1) :
    k0_pay32 (F := Ideal) A B U o (ix2 z j) = o (ix2 z j) + ((∑ a : Fin 256, f (a + 2) * u a : ℝ) : EReal) := by
  pointwise [k0_pay32, k0_pay31]
  simp only [roll2 h, hu, ← EReal.coe_mul, ← coe_sum]

theorem tap1 (h : Col A B j f) (hu : ∀ a : Fin 256, U (ix2 a j) = (u a : EReal)) (z : Fin 1) :
    k0_pay34 (F := Ideal) (k0_pay28 A B) (k0_pay31 U) (k0_pay33 o) (ix2 z j)
      = o (ix2 z j) + ((∑ a : Fin 256, f (a + 1) * u a : ℝ) : EReal) := by
  pointwise [k0_pay34, k0_pay33, k0_pay31]
  simp only [roll1 h, hu, ← EReal.coe_mul, ← coe_sum]

theorem tap2 (h : Col A B j f) (hu : ∀ a : Fin 256, U (ix2 a j) = (u a : EReal)) (z : Fin 1) :
    k0_pay35 (F := Ideal) A (k0_pay31 U) o (ix2 z j) = o (ix2 z j) + ((∑ a : Fin 256, f a * u a : ℝ) : EReal) := by
  pointwise [k0_pay35, k0_pay31]
  simp only [h.here, hu, ← EReal.coe_mul, ← coe_sum]

theorem bias (h : Col A B j f) (z : Fin 1) :
    k0_pay36 (F := Ideal) A o (ix2 z j) = o (ix2 z j) + ((∑ a : Fin 256, f a : ℝ) : EReal) := by
  pointwise [k0_pay36]
  simp only [h.here, ← coe_sum]

end Conv

section Forms

variable (k : Elt Ideal .bf16) (A : FVec Ideal S256x1408 .f32) (B : FVec Ideal S8x1408 .f32) (X V E U : Vec Ideal S256x1408 .bf16)
  (X' V' E' : Vec Ideal S8x1408 .bf16) (w : Vec Ideal S3x1408 .f32) (o : Vec Ideal S1x1408 .f32)

/-- The columns of the gate, first half: the same expressions as the value's columns. -/
theorem g_du : k0_pay21 A w (k0_pay19 k A X' V' E') (k0_pay20 k A X' V' E') = k0_pay30 (F := Ideal) A (next_g k X' V' E') w := rfl
theorem g_tap0 : k0_pay23 (k0_pay20 k A X' V' E') U o = k0_pay32 (F := Ideal) A (next_g k X' V' E') U o := rfl
theorem g_tap1 : k0_pay24 (k0_pay19 k A X' V' E') U o
    = k0_pay34 (F := Ideal) (k0_pay28 A (next_g k X' V' E')) (k0_pay31 U) (k0_pay33 o) := rfl
theorem g_tap2 : k0_pay25 A U o = k0_pay35 (F := Ideal) A (k0_pay31 U) o := rfl
theorem g_bias : k0_pay26 A o = k0_pay36 (F := Ideal) A o := rfl

/-- The second half of the columns: the same expressions as the first half. -/
theorem s_gate_g : k0_pay45 (k0_pay37 X) (k0_pay38 V) (k0_pay39 E) (k0_pay40 X) (k0_pay41 X) k0_pay42 = k0_pay10 (F := Ideal) X V E := rfl
theorem s_gate_v : k0_pay46 (k0_pay37 X) (k0_pay39 E) (k0_pay41 X) k0_pay42 = k0_pay11 (F := Ideal) X E := rfl
theorem s_next_v : k0_pay54 (k0_pay49 k E') (k0_pay52 X') = k0_pay17 (F := Ideal) k X' E' := rfl
theorem sg_du : k0_pay58 A (k0_pay48 V') (k0_pay49 k E') (k0_pay50 X') (k0_pay51 X') (k0_pay53 X') (Named.named κ "six_gelu_ca" 0x3E5B#16) w
    = k0_pay30 (F := Ideal) A (next_g k X' V' E') w := rfl
theorem sg_tap0 : k0_pay60 A (k0_pay48 V') (k0_pay49 k E') (k0_pay50 X') (k0_pay51 X') (k0_pay53 X') (Named.named κ "six_gelu_ca" 0x3E5B#16) U o
    = k0_pay32 (F := Ideal) A (next_g k X' V' E') U o := rfl
theorem sg_tap1 : k0_pay62 (k0_pay56 A (k0_pay48 V') (k0_pay49 k E') (k0_pay50 X') (k0_pay51 X') (k0_pay53 X') (Named.named κ "six_gelu_ca" 0x3E5B#16))
      (k0_pay59 U) (k0_pay61 o)
    = k0_pay34 (F := Ideal) (k0_pay28 A (next_g k X' V' E')) (k0_pay31 U) (k0_pay33 o) := rfl
theorem sg_tap2 : k0_pay63 A (k0_pay59 U) o = k0_pay35 (F := Ideal) A (k0_pay31 U) o := rfl
theorem sg_bias : k0_pay64 A o = k0_pay36 (F := Ideal) A o := rfl
theorem sv_du : k0_pay68 A B w = k0_pay30 (F := Ideal) A B w := rfl
theorem sv_tap0 : k0_pay70 (k0_pay67 A B) U o = k0_pay32 (F := Ideal) A B U o := rfl
theorem sv_tap1 : k0_pay71 (k0_pay66 A B) U o = k0_pay34 (F := Ideal) (k0_pay28 A B) (k0_pay31 U) (k0_pay33 o) := rfl
theorem sv_tap2 : k0_pay72 A U o = k0_pay35 (F := Ideal) A (k0_pay31 U) o := rfl
theorem sv_bias : k0_pay73 A o = k0_pay36 (F := Ideal) A o := rfl

end Forms

section Norm

variable {D : Tab} {R : ℕ} {U : Vec Ideal S256x5632 .bf16} {W : Vec Ideal S1024x5632 .bf16} {X h : Vec Ideal S256x1024 .f32}
  {g o : Vec Ideal S1x1024 .f32}

theorem prod (hU : ∀ (a : Fin 256) (J : Fin 5632), U (ix2 a J) = (D.du (R + a) J : EReal))
    (hW : ∀ (i : Fin 1024) (J : Fin 5632), W (ix2 i J) = (D.W i J : EReal)) (a : Fin 256) (i : Fin 1024) :
    k0_pay75 (F := Ideal) (k0_pay74 U) W (ix2 a i) = (D.acc (R + a) i : EReal) := by
  pointwise [k0_pay75, k0_pay74]
  simp only [hU, hW, ← EReal.coe_mul, ← coe_sum]
  rfl

theorem root (hX : ∀ (a : Fin 256) (i : Fin 1024), X (ix2 a i) = (D.x (R + a) i : EReal)) (a : Fin 256) (z : Fin 1) :
    k0_pay76 (F := Ideal) X (ix2 a z) = (D.rs (R + a) : EReal) := by
  pointwise [k0_pay76]
  rw [Consts.c_1024, Consts.c_eps]
  simp only [hX, ← EReal.coe_mul, ← coe_sum]
  rw [div_real _ _ (by norm_num), ← EReal.coe_add]
  exact rsqrt_real _ (D.ms_pos (R + a))

theorem normed (hX : ∀ (a : Fin 256) (i : Fin 1024), X (ix2 a i) = (D.x (R + a) i : EReal)) (a : Fin 256) (i : Fin 1024) :
    k0_pay77 (F := Ideal) X (ix2 a i) = ((D.x (R + a) i * D.rs (R + a) : ℝ) : EReal) := by
  pointwise [k0_pay77]
  rw [root hX, hX, ← EReal.coe_mul]

theorem dx (hU : ∀ (a : Fin 256) (J : Fin 5632), U (ix2 a J) = (D.du (R + a) J : EReal))
    (hW : ∀ (i : Fin 1024) (J : Fin 5632), W (ix2 i J) = (D.W i J : EReal))
    (hX : ∀ (a : Fin 256) (i : Fin 1024), X (ix2 a i) = (D.x (R + a) i : EReal))
    (hg : ∀ (z : Fin 1) (i : Fin 1024), g (ix2 z i) = (D.g i : EReal)) (a : Fin 256) (i : Fin 1024) :
    k0_pay78 (F := Ideal) (k0_pay74 U) W X g h (ix2 a i) = h (ix2 a i) + (D.dx (R + a) i : EReal) := by
  pointwise [k0_pay78]
  simp only [root hX, normed hX, prod hU hW, hg, Consts.c_1024, ← EReal.coe_mul, ← coe_sum]
  rw [div_real _ _ (by norm_num), ← EReal.coe_mul, ← EReal.coe_sub, ← EReal.coe_mul]
  rfl

theorem gain (hU : ∀ (a : Fin 256) (J : Fin 5632), U (ix2 a J) = (D.du (R + a) J : EReal))
    (hW : ∀ (i : Fin 1024) (J : Fin 5632), W (ix2 i J) = (D.W i J : EReal))
    (hX : ∀ (a : Fin 256) (i : Fin 1024), X (ix2 a i) = (D.x (R + a) i : EReal)) (z : Fin 1) (i : Fin 1024) :
    k0_pay79 (F := Ideal) (k0_pay74 U) W X o (ix2 z i)
      = o (ix2 z i) + ((∑ a : Fin 256, D.acc (R + a) i * (D.x (R + a) i * D.rs (R + a)) : ℝ) : EReal) := by
  pointwise [k0_pay79]
  simp only [normed hX, prod hU hW, ← EReal.coe_mul, ← coe_sum]

end Norm

theorem more_word (n : Fin 32) :
    BitVec.toInt (Scalar.extui (Scalar.cmpi .slt (BitVec.ofNat 32 n.val) 31#32) : BitVec 32) = if n.val < 31 then 1 else 0 := by
  revert n
  decide +kernel

/-- The factor of the rows after the tile: one, or zero on the last tile. -/
theorem more (i : grid0.Coords) : k0_pay4 (F := Ideal) i = ((if (i 0).val < 31 then 1 else 0 : ℝ) : EReal) := by
  have h := more_word (i 0)
  unfold k0_pay4
  simp only [Ideal.scalar_sitofp_def]
  rw [h]
  show (((if (i 0).val < 31 then (1 : ℤ) else 0 : ℤ) : ℝ) : EReal) = _
  split <;> simp

end Cert.Payloads
-- ==== Proof.KernelPoint.lean ====
/- What one grid point leaves in each output, from the blocks that it reads: the tile's rows of the gradient, and what the
   tile adds to the sums over all rows. -/
module

public import proofs.«01_k».proof.Proof.Gen.KernelIdeal.Frame
public import proofs.«01_k».proof.Proof.Payloads
public import Idealize.ShloMosaic.Lib.Pipeline.ValueKit
public import Idealize.ShloMosaic.Lib.Pipeline.ReadBack

@[expose] public section

set_option maxRecDepth 16384

noncomputable section

namespace Cert.KernelPoint

open Cert.KernelIdeal Cert.KernelIdeal.Gen Idealize.ShloMosaic Idealize.ShloMosaic.TcCoe Cert.Spec

/-- The first row of the tile, and of the block of eight rows that the kernel reads after it. -/
abbrev row (i : grid0.Coords) : ℕ := 256 * (i 0).val
abbrev aft (i : grid0.Coords) : ℕ := 8 * min (((i 0).val + 1) * 32) 1023

/-- The blocks that a grid point reads hold the tables' real numbers. -/
structure Blocks (D : Tab) (i : grid0.Coords) (x0 x1 x2 x3 : Vec Ideal S256x2816 .bf16) (x4 x5 : Vec Ideal S8x2816 .bf16)
    (x6 : Vec Ideal S256x2816 .bf16) (x7 : Vec Ideal S8x2816 .bf16) (x8 : Vec Ideal S3x5632 .f32) (x9 : Vec Ideal S1024x5632 .bf16)
    (x10 : Vec Ideal S256x1024 .f32) (x11 : Vec Ideal S1x1024 .f32) : Prop where
  ug : ∀ (a : Fin 256) (j : Fin 2816), x0 (ix2 a j) = (D.u (row i + a) j : EReal)
  uv : ∀ (a : Fin 256) (j : Fin 2816), x1 (ix2 a j) = (D.u (row i + a) (j + 2816) : EReal)
  cg : ∀ (a : Fin 256) (j : Fin 2816), x2 (ix2 a j) = (D.c (row i + a) j : EReal)
  cv : ∀ (a : Fin 256) (j : Fin 2816), x3 (ix2 a j) = (D.c (row i + a) (j + 2816) : EReal)
  cg' : ∀ (a : Fin 8) (j : Fin 2816), x4 (ix2 a j) = (D.c (aft i + a) j : EReal)
  cv' : ∀ (a : Fin 8) (j : Fin 2816), x5 (ix2 a j) = (D.c (aft i + a) (j + 2816) : EReal)
  d : ∀ (a : Fin 256) (j : Fin 2816), x6 (ix2 a j) = (D.d (row i + a) j : EReal)
  d' : ∀ (a : Fin 8) (j : Fin 2816), x7 (ix2 a j) = (D.d (aft i + a) j : EReal)
  w : ∀ (k : Fin 3) (J : Fin 5632), x8 (ix2 k J) = (D.w k J : EReal)
  W : ∀ (i : Fin 1024) (J : Fin 5632), x9 (ix2 i J) = (D.W i J : EReal)
  x : ∀ (a : Fin 256) (j : Fin 1024), x10 (ix2 a j) = (D.x (row i + a) j : EReal)
  g : ∀ (z : Fin 1) (j : Fin 1024), x11 (ix2 z j) = (D.g j : EReal)

theorem row_lt (i : grid0.Coords) (a : Fin 256) : row i + a < 8192 := by
  have h : (i 0).val < 32 := (i 0).isLt
  have := a.isLt
  show 256 * (i 0).val + (a : ℕ) < 8192
  omega

/-- The factor of the rows after the tile, times what is read there, is the gradient after the tile's last row. -/
theorem after_eq (D : Tab) (i : grid0.Coords) (a : Fin 8) (J : ℕ) (f : ℕ → ℝ)
    (hf : ∀ r < 8192, D.dc r J = f r) :
    (if (i 0).val < 31 then (1 : ℝ) else 0) * f (aft i + a) = D.dc (row i + (256 + a)) J := by
  have ha := a.isLt
  have hi : (i 0).val < 32 := (i 0).isLt
  by_cases h : (i 0).val < 31
  · have e : aft i + a = row i + (256 + a) := by
      show 8 * min (((i 0).val + 1) * 32) 1023 + (a : ℕ) = 256 * (i 0).val + (256 + a)
      omega
    have hr : row i + (256 + (a : ℕ)) < 8192 := by
      show 256 * (i 0).val + (256 + (a : ℕ)) < 8192
      omega
    rw [if_pos h, one_mul, e, hf _ hr]
  · have hr : ¬ row i + (256 + (a : ℕ)) < 8192 := by
      show ¬ 256 * (i 0).val + (256 + (a : ℕ)) < 8192
      omega
    rw [if_neg h, zero_mul, Tab.dc, if_neg hr]

section

variable {D : Tab} {i : grid0.Coords} {x0 x1 x2 x3 : Vec Ideal S256x2816 .bf16} {x4 x5 : Vec Ideal S8x2816 .bf16}
    {x6 : Vec Ideal S256x2816 .bf16} {x7 : Vec Ideal S8x2816 .bf16} {x8 : Vec Ideal S3x5632 .f32} {x9 : Vec Ideal S1024x5632 .bf16}
    {x10 : Vec Ideal S256x1024 .f32} {x11 : Vec Ideal S1x1024 .f32}

/-- A column of the gate's half: the columns of the blocks from `o` on, or of the value's half. -/
theorem col_g (H : Blocks D i x0 x1 x2 x3 x4 x5 x6 x7 x8 x9 x10 x11) (o : ℕ) (ho : o + 1408 ≤ 2816)
    {X V E : Vec Ideal S256x1408 .bf16} {X' V' E' : Vec Ideal S8x1408 .bf16} (j : Fin 1408)
    (hX : ∀ a : Fin 256, X (ix2 a j) = x2 (ix2 a ⟨o + j, by omega⟩)) (hV : ∀ a : Fin 256, V (ix2 a j) = x3 (ix2 a ⟨o + j, by omega⟩))
    (hE : ∀ a : Fin 256, E (ix2 a j) = x6 (ix2 a ⟨o + j, by omega⟩)) (hX' : ∀ a : Fin 8, X' (ix2 a j) = x4 (ix2 a ⟨o + j, by omega⟩))
    (hV' : ∀ a : Fin 8, V' (ix2 a j) = x5 (ix2 a ⟨o + j, by omega⟩)) (hE' : ∀ a : Fin 8, E' (ix2 a j) = x7 (ix2 a ⟨o + j, by omega⟩)) :
    Payloads.Col (k0_pay10 X V E) (Payloads.next_g (k0_pay4 (F := Ideal) i) X' V' E') j (fun a => D.dc (row i + a) (o + j)) where
  here a := by
    have hj : o + (j : ℕ) < 2816 := by omega
    rw [Payloads.gate_g ((hX a).trans (H.cg a _)) ((hV a).trans (H.cv a _)) ((hE a).trans (H.d a _))]
    simp only [Tab.dc, if_pos (row_lt i a), if_pos hj]
  next a := by
    have hj : o + (j : ℕ) < 2816 := by omega
    rw [Payloads.gate_g_next ((hX' a).trans (H.cg' a _)) ((hV' a).trans (H.cv' a _)) ((hE' a).trans (H.d' a _)) (Payloads.more i)]
    rw [← after_eq D i a (o + j) (fun r => D.d r (o + j) * D.c r (o + j + 2816) * dgelu (D.c r (o + j)))
      (fun r hr => by simp only [Tab.dc, if_pos hr, if_pos hj])]
    congr 1; ring

theorem col_v (H : Blocks D i x0 x1 x2 x3 x4 x5 x6 x7 x8 x9 x10 x11) (o : ℕ) (ho : o + 1408 ≤ 2816)
    {X E : Vec Ideal S256x1408 .bf16} {X' E' : Vec Ideal S8x1408 .bf16} (j : Fin 1408)
    (hX : ∀ a : Fin 256, X (ix2 a j) = x2 (ix2 a ⟨o + j, by omega⟩))
    (hE : ∀ a : Fin 256, E (ix2 a j) = x6 (ix2 a ⟨o + j, by omega⟩)) (hX' : ∀ a : Fin 8, X' (ix2 a j) = x4 (ix2 a ⟨o + j, by omega⟩))
    (hE' : ∀ a : Fin 8, E' (ix2 a j) = x7 (ix2 a ⟨o + j, by omega⟩)) :
    Payloads.Col (k0_pay11 X E) (k0_pay17 (k0_pay4 (F := Ideal) i) X' E') j (fun a => D.dc (row i + a) (2816 + (o + j))) where
  here a := by
    have hj : ¬ 2816 + (o + (j : ℕ)) < 2816 := by omega
    rw [Payloads.gate_v ((hX a).trans (H.cg a _)) ((hE a).trans (H.d a _))]
    simp only [Tab.dc, if_pos (row_lt i a), if_neg hj, Nat.add_sub_cancel_left]
  next a := by
    have hj : ¬ 2816 + (o + (j : ℕ)) < 2816 := by omega
    rw [Payloads.gate_v_next ((hX' a).trans (H.cg' a _)) ((hE' a).trans (H.d' a _)) (Payloads.more i)]
    rw [← after_eq D i a (2816 + (o + j)) (fun r => D.d r (o + j) * gelu (D.c r (o + j)))
      (fun r hr => by simp only [Tab.dc, if_pos hr, if_neg hj, Nat.add_sub_cancel_left])]
    congr 1; ring

end

section

variable {D : Tab} {i : grid0.Coords}

/-- A half's columns from `off` on: its gradient on the tile's rows and on the eight after them. -/
abbrev Half (D : Tab) (i : grid0.Coords) (A : FVec Ideal S256x1408 .f32) (B : FVec Ideal S8x1408 .f32) (off : ℕ) : Prop :=
  ∀ j : Fin 1408, Payloads.Col A B j fun a => D.dc (row i + a) (off + j)

/-- What a tile adds to the gradients of the taps, of the bias and of the gain. -/
abbrev taps (D : Tab) (n k J : ℕ) : ℝ := ∑ a : Fin 256, D.dc (256 * n + a + (2 - k)) J * D.u (256 * n + a) J
abbrev bias (D : Tab) (n J : ℕ) : ℝ := ∑ a : Fin 256, D.dc (256 * n + a) J
abbrev gain (D : Tab) (n i : ℕ) : ℝ := ∑ a : Fin 256, D.acc (256 * n + a) i * (D.x (256 * n + a) i * D.rs (256 * n + a))

variable {A : FVec Ideal S256x1408 .f32} {B : FVec Ideal S8x1408 .f32} {off : ℕ} {w : Vec Ideal S3x1408 .f32}
  {U : Vec Ideal S256x1408 .bf16} {o : Vec Ideal S1x1408 .f32} {e : EReal}

theorem du_piece (C : Half D i A B off) (hw : ∀ (k : Fin 3) (j : Fin 1408), w (ix2 k j) = (D.w k (off + j) : EReal))
    (y : S256x1408.Idx) {a : Fin 256} {J : Fin 5632} (ha : (a : ℕ) = (y 0).val) (hJ : (J : ℕ) = off + (y 1).val) :
    k0_pay30 (F := Ideal) A B w y = (D.du (row i + a) J : EReal) := by
  have hy : y = ix2 (y 0) (y 1) := ValueIdx.eq_ix2 y
  rw [hy]
  refine (Payloads.du (C (y 1)) (hw 0 (y 1)) (hw 1 (y 1)) (hw 2 (y 1)) (y 0)).trans ?_
  rw [Tab.du, hJ, ha]
  rfl

theorem tap0_piece (C : Half D i A B off) (hU : ∀ (a : Fin 256) (j : Fin 1408), U (ix2 a j) = (D.u (row i + a) (off + j) : EReal))
    (y : S1x1408.Idx) {k : Fin 3} {J : Fin 5632} (ho : o y = e) (hk : (k : ℕ) = (y 0).val) (hJ : (J : ℕ) = off + (y 1).val) :
    k0_pay32 (F := Ideal) A B U o y = e + (taps D (i 0).val k J : EReal) := by
  obtain ⟨z, j, rfl⟩ : ∃ (z : Fin 1) (j : Fin 1408), y = ix2 z j := ⟨y 0, y 1, ValueIdx.eq_ix2 y⟩
  replace hJ : (J : ℕ) = off + (j : ℕ) := hJ
  replace hk : (k : ℕ) = 0 := hk.trans (Fin.val_eq_zero z)
  refine (Payloads.tap0 (u := fun a => D.u (row i + a) (off + (j : ℕ))) (C j) (fun a => hU a j) z).trans ?_
  rw [ho, hk, hJ]
  rfl

theorem tap1_piece (C : Half D i A B off) (hU : ∀ (a : Fin 256) (j : Fin 1408), U (ix2 a j) = (D.u (row i + a) (off + j) : EReal))
    (y : S1x1408.Idx) {k : Fin 3} {J : Fin 5632} (ho : o y = e) (hk : (k : ℕ) = 1 + (y 0).val) (hJ : (J : ℕ) = off + (y 1).val) :
    k0_pay34 (F := Ideal) (k0_pay28 A B) (k0_pay31 U) (k0_pay33 o) y = e + (taps D (i 0).val k J : EReal) := by
  obtain ⟨z, j, rfl⟩ : ∃ (z : Fin 1) (j : Fin 1408), y = ix2 z j := ⟨y 0, y 1, ValueIdx.eq_ix2 y⟩
  replace hJ : (J : ℕ) = off + (j : ℕ) := hJ
  replace hk : (k : ℕ) = 1 := hk.trans (congrArg (1 + ·) (Fin.val_eq_zero z))
  refine (Payloads.tap1 (u := fun a => D.u (row i + a) (off + (j : ℕ))) (C j) (fun a => hU a j) z).trans ?_
  rw [ho, hk, hJ]
  rfl

theorem tap2_piece (C : Half D i A B off) (hU : ∀ (a : Fin 256) (j : Fin 1408), U (ix2 a j) = (D.u (row i + a) (off + j) : EReal))
    (y : S1x1408.Idx) {k : Fin 3} {J : Fin 5632} (ho : o y = e) (hk : (k : ℕ) = 2 + (y 0).val) (hJ : (J : ℕ) = off + (y 1).val) :
    k0_pay35 (F := Ideal) A (k0_pay31 U) o y = e + (taps D (i 0).val k J : EReal) := by
  obtain ⟨z, j, rfl⟩ : ∃ (z : Fin 1) (j : Fin 1408), y = ix2 z j := ⟨y 0, y 1, ValueIdx.eq_ix2 y⟩
  replace hJ : (J : ℕ) = off + (j : ℕ) := hJ
  replace hk : (k : ℕ) = 2 := hk.trans (congrArg (2 + ·) (Fin.val_eq_zero z))
  refine (Payloads.tap2 (u := fun a => D.u (row i + a) (off + (j : ℕ))) (C j) (fun a => hU a j) z).trans ?_
  rw [ho, hk, hJ]
  rfl

theorem bias_piece (C : Half D i A B off) (y : S1x1408.Idx) {J : Fin 5632} (ho : o y = e) (hJ : (J : ℕ) = off + (y 1).val) :
    k0_pay36 (F := Ideal) A o y = e + (bias D (i 0).val J : EReal) := by
  obtain ⟨z, j, rfl⟩ : ∃ (z : Fin 1) (j : Fin 1408), y = ix2 z j := ⟨y 0, y 1, ValueIdx.eq_ix2 y⟩
  replace hJ : (J : ℕ) = off + (j : ℕ) := hJ
  refine (Payloads.bias (C j) z).trans ?_
  rw [ho, hJ]

variable {x0 x1 x2 x3 : Vec Ideal S256x2816 .bf16} {x4 x5 : Vec Ideal S8x2816 .bf16}
    {x6 : Vec Ideal S256x2816 .bf16} {x7 : Vec Ideal S8x2816 .bf16} {x8 : Vec Ideal S3x5632 .f32} {x9 : Vec Ideal S1024x5632 .bf16}
    {x10 : Vec Ideal S256x1024 .f32} {x11 : Vec Ideal S1x1024 .f32}

theorem half_g0 (H : Blocks D i x0 x1 x2 x3 x4 x5 x6 x7 x8 x9 x10 x11) :
    Half D i (k0_pay10 (View.ld x2 (Rect.unit ![0, 0] ![256, 1408] inb_S256x2816_S256x1408_0_0)) (View.ld x3 (Rect.unit ![0, 0] ![256, 1408] inb_S256x2816_S256x1408_0_0)) (View.ld x6 (Rect.unit ![0, 0] ![256, 1408] inb_S256x2816_S256x1408_0_0)))
      (Payloads.next_g (k0_pay4 (F := Ideal) i) (View.ld x4 (Rect.unit ![0, 0] ![8, 1408] inb_S8x2816_S8x1408_0_0)) (View.ld x5 (Rect.unit ![0, 0] ![8, 1408] inb_S8x2816_S8x1408_0_0)) (View.ld x7 (Rect.unit ![0, 0] ![8, 1408] inb_S8x2816_S8x1408_0_0))) 0 :=
  fun j => col_g H 0 (by norm_num) j (fun a => by pointwise []) (fun a => by pointwise []) (fun a => by pointwise []) (fun a => by pointwise []) (fun a => by pointwise []) (fun a => by pointwise [])

theorem half_v0 (H : Blocks D i x0 x1 x2 x3 x4 x5 x6 x7 x8 x9 x10 x11) :
    Half D i (k0_pay11 (View.ld x2 (Rect.unit ![0, 0] ![256, 1408] inb_S256x2816_S256x1408_0_0)) (View.ld x6 (Rect.unit ![0, 0] ![256, 1408] inb_S256x2816_S256x1408_0_0)))
      (k0_pay17 (k0_pay4 (F := Ideal) i) (View.ld x4 (Rect.unit ![0, 0] ![8, 1408] inb_S8x2816_S8x1408_0_0)) (View.ld x7 (Rect.unit ![0, 0] ![8, 1408] inb_S8x2816_S8x1408_0_0))) 2816 := fun j => by
  have h := col_v H 0 (by norm_num) j (X := (View.ld x2 (Rect.unit ![0, 0] ![256, 1408] inb_S256x2816_S256x1408_0_0))) (E := (View.ld x6 (Rect.unit ![0, 0] ![256, 1408] inb_S256x2816_S256x1408_0_0))) (X' := (View.ld x4 (Rect.unit ![0, 0] ![8, 1408] inb_S8x2816_S8x1408_0_0))) (E' := (View.ld x7 (Rect.unit ![0, 0] ![8, 1408] inb_S8x2816_S8x1408_0_0))) (fun a => by pointwise []) (fun a => by pointwise []) (fun a => by pointwise []) (fun a => by pointwise [])
  have e : 2816 + (j : ℕ) = 2816 + (0 + j) := by omega
  rw [e]
  exact h

theorem u_g0 (H : Blocks D i x0 x1 x2 x3 x4 x5 x6 x7 x8 x9 x10 x11) (a : Fin 256) (j : Fin 1408) :
    (View.ld x0 (Rect.unit ![0, 0] ![256, 1408] inb_S256x2816_S256x1408_0_0)) (ix2 a j) = (D.u (row i + a) (0 + j) : EReal) := by
  pointwise []
  exact H.ug a _

theorem u_v0 (H : Blocks D i x0 x1 x2 x3 x4 x5 x6 x7 x8 x9 x10 x11) (a : Fin 256) (j : Fin 1408) :
    (View.ld x1 (Rect.unit ![0, 0] ![256, 1408] inb_S256x2816_S256x1408_0_0)) (ix2 a j) = (D.u (row i + a) (2816 + j) : EReal) := by
  pointwise []
  refine (H.uv a _).trans (congrArg (fun n => (D.u (row i + a) n : EReal)) ?_)
  exact Nat.add_comm _ _

theorem half_g1408 (H : Blocks D i x0 x1 x2 x3 x4 x5 x6 x7 x8 x9 x10 x11) :
    Half D i (k0_pay10 (View.ld x2 (Rect.unit ![0, 1408] ![256, 1408] inb_S256x2816_S256x1408_0_1408)) (View.ld x3 (Rect.unit ![0, 1408] ![256, 1408] inb_S256x2816_S256x1408_0_1408)) (View.ld x6 (Rect.unit ![0, 1408] ![256, 1408] inb_S256x2816_S256x1408_0_1408)))
      (Payloads.next_g (k0_pay4 (F := Ideal) i) (View.ld x4 (Rect.unit ![0, 1408] ![8, 1408] inb_S8x2816_S8x1408_0_1408)) (View.ld x5 (Rect.unit ![0, 1408] ![8, 1408] inb_S8x2816_S8x1408_0_1408)) (View.ld x7 (Rect.unit ![0, 1408] ![8, 1408] inb_S8x2816_S8x1408_0_1408))) 1408 :=
  fun j => col_g H 1408 (by norm_num) j (fun a => by pointwise []) (fun a => by pointwise []) (fun a => by pointwise []) (fun a => by pointwise []) (fun a => by pointwise []) (fun a => by pointwise [])

theorem half_v1408 (H : Blocks D i x0 x1 x2 x3 x4 x5 x6 x7 x8 x9 x10 x11) :
    Half D i (k0_pay11 (View.ld x2 (Rect.unit ![0, 1408] ![256, 1408] inb_S256x2816_S256x1408_0_1408)) (View.ld x6 (Rect.unit ![0, 1408] ![256, 1408] inb_S256x2816_S256x1408_0_1408)))
      (k0_pay17 (k0_pay4 (F := Ideal) i) (View.ld x4 (Rect.unit ![0, 1408] ![8, 1408] inb_S8x2816_S8x1408_0_1408)) (View.ld x7 (Rect.unit ![0, 1408] ![8, 1408] inb_S8x2816_S8x1408_0_1408))) 4224 := fun j => by
  have h := col_v H 1408 (by norm_num) j (X := (View.ld x2 (Rect.unit ![0, 1408] ![256, 1408] inb_S256x2816_S256x1408_0_1408))) (E := (View.ld x6 (Rect.unit ![0, 1408] ![256, 1408] inb_S256x2816_S256x1408_0_1408))) (X' := (View.ld x4 (Rect.unit ![0, 1408] ![8, 1408] inb_S8x2816_S8x1408_0_1408))) (E' := (View.ld x7 (Rect.unit ![0, 1408] ![8, 1408] inb_S8x2816_S8x1408_0_1408))) (fun a => by pointwise []) (fun a => by pointwise []) (fun a => by pointwise []) (fun a => by pointwise [])
  have e : 4224 + (j : ℕ) = 2816 + (1408 + j) := by omega
  rw [e]
  exact h

theorem u_g1408 (H : Blocks D i x0 x1 x2 x3 x4 x5 x6 x7 x8 x9 x10 x11) (a : Fin 256) (j : Fin 1408) :
    (View.ld x0 (Rect.unit ![0, 1408] ![256, 1408] inb_S256x2816_S256x1408_0_1408)) (ix2 a j) = (D.u (row i + a) (1408 + j) : EReal) := by
  pointwise []
  exact H.ug a _

theorem u_v1408 (H : Blocks D i x0 x1 x2 x3 x4 x5 x6 x7 x8 x9 x10 x11) (a : Fin 256) (j : Fin 1408) :
    (View.ld x1 (Rect.unit ![0, 1408] ![256, 1408] inb_S256x2816_S256x1408_0_1408)) (ix2 a j) = (D.u (row i + a) (4224 + j) : EReal) := by
  pointwise []
  refine (H.uv a _).trans (congrArg (fun n => (D.u (row i + a) n : EReal)) ?_)
  show 1408 + (j : ℕ) + 2816 = 4224 + j; omega

theorem w_0 (H : Blocks D i x0 x1 x2 x3 x4 x5 x6 x7 x8 x9 x10 x11) (k : Fin 3) (j : Fin 1408) :
    (View.ld x8 (Rect.unit ![0, 0] ![3, 1408] inb_S3x5632_S3x1408_0_0)) (ix2 k j) = (D.w k (0 + j) : EReal) := by
  pointwise []
  exact H.w k _

theorem w_1408 (H : Blocks D i x0 x1 x2 x3 x4 x5 x6 x7 x8 x9 x10 x11) (k : Fin 3) (j : Fin 1408) :
    (View.ld x8 (Rect.unit ![0, 1408] ![3, 1408] inb_S3x5632_S3x1408_0_1408)) (ix2 k j) = (D.w k (1408 + j) : EReal) := by
  pointwise []
  exact H.w k _

theorem w_2816 (H : Blocks D i x0 x1 x2 x3 x4 x5 x6 x7 x8 x9 x10 x11) (k : Fin 3) (j : Fin 1408) :
    (View.ld x8 (Rect.unit ![0, 2816] ![3, 1408] inb_S3x5632_S3x1408_0_2816)) (ix2 k j) = (D.w k (2816 + j) : EReal) := by
  pointwise []
  exact H.w k _

theorem w_4224 (H : Blocks D i x0 x1 x2 x3 x4 x5 x6 x7 x8 x9 x10 x11) (k : Fin 3) (j : Fin 1408) :
    (View.ld x8 (Rect.unit ![0, 4224] ![3, 1408] inb_S3x5632_S3x1408_0_4224)) (ix2 k j) = (D.w k (4224 + j) : EReal) := by
  pointwise []
  exact H.w k _

theorem du_list (H : Blocks D i x0 x1 x2 x3 x4 x5 x6 x7 x8 x9 x10 x11) (a : Fin 256) (J : Fin 5632) :
    View.canon (Val := Elt Ideal) (s := S256x5632) (e := .bf16)
  [⟨Rect.unit (s := S256x5632) ![0, 4224] ![256, 1408] inb_S256x5632_S256x1408_0_4224, k0_pay30 (k0_pay11 (View.ld x2 (Rect.unit ![0, 1408] ![256, 1408] inb_S256x2816_S256x1408_0_1408)) (View.ld x6 (Rect.unit ![0, 1408] ![256, 1408] inb_S256x2816_S256x1408_0_1408))) (k0_pay17 (k0_pay4 (F := Ideal) i) (View.ld x4 (Rect.unit ![0, 1408] ![8, 1408] inb_S8x2816_S8x1408_0_1408)) (View.ld x7 (Rect.unit ![0, 1408] ![8, 1408] inb_S8x2816_S8x1408_0_1408))) (View.ld x8 (Rect.unit ![0, 4224] ![3, 1408] inb_S3x5632_S3x1408_0_4224))⟩,
   ⟨Rect.unit (s := S256x5632) ![0, 1408] ![256, 1408] inb_S256x5632_S256x1408_0_1408, k0_pay30 (k0_pay10 (View.ld x2 (Rect.unit ![0, 1408] ![256, 1408] inb_S256x2816_S256x1408_0_1408)) (View.ld x3 (Rect.unit ![0, 1408] ![256, 1408] inb_S256x2816_S256x1408_0_1408)) (View.ld x6 (Rect.unit ![0, 1408] ![256, 1408] inb_S256x2816_S256x1408_0_1408))) (Payloads.next_g (k0_pay4 (F := Ideal) i) (View.ld x4 (Rect.unit ![0, 1408] ![8, 1408] inb_S8x2816_S8x1408_0_1408)) (View.ld x5 (Rect.unit ![0, 1408] ![8, 1408] inb_S8x2816_S8x1408_0_1408)) (View.ld x7 (Rect.unit ![0, 1408] ![8, 1408] inb_S8x2816_S8x1408_0_1408))) (View.ld x8 (Rect.unit ![0, 1408] ![3, 1408] inb_S3x5632_S3x1408_0_1408))⟩,
   ⟨Rect.unit (s := S256x5632) ![0, 2816] ![256, 1408] inb_S256x5632_S256x1408_0_2816, k0_pay30 (k0_pay11 (View.ld x2 (Rect.unit ![0, 0] ![256, 1408] inb_S256x2816_S256x1408_0_0)) (View.ld x6 (Rect.unit ![0, 0] ![256, 1408] inb_S256x2816_S256x1408_0_0))) (k0_pay17 (k0_pay4 (F := Ideal) i) (View.ld x4 (Rect.unit ![0, 0] ![8, 1408] inb_S8x2816_S8x1408_0_0)) (View.ld x7 (Rect.unit ![0, 0] ![8, 1408] inb_S8x2816_S8x1408_0_0))) (View.ld x8 (Rect.unit ![0, 2816] ![3, 1408] inb_S3x5632_S3x1408_0_2816))⟩,
   ⟨Rect.unit (s := S256x5632) ![0, 0] ![256, 1408] inb_S256x5632_S256x1408_0_0, k0_pay30 (k0_pay10 (View.ld x2 (Rect.unit ![0, 0] ![256, 1408] inb_S256x2816_S256x1408_0_0)) (View.ld x3 (Rect.unit ![0, 0] ![256, 1408] inb_S256x2816_S256x1408_0_0)) (View.ld x6 (Rect.unit ![0, 0] ![256, 1408] inb_S256x2816_S256x1408_0_0))) (Payloads.next_g (k0_pay4 (F := Ideal) i) (View.ld x4 (Rect.unit ![0, 0] ![8, 1408] inb_S8x2816_S8x1408_0_0)) (View.ld x5 (Rect.unit ![0, 0] ![8, 1408] inb_S8x2816_S8x1408_0_0)) (View.ld x7 (Rect.unit ![0, 0] ![8, 1408] inb_S8x2816_S8x1408_0_0))) (View.ld x8 (Rect.unit ![0, 0] ![3, 1408] inb_S3x5632_S3x1408_0_0))⟩] (ix2 a J) = (D.du (row i + a) J : EReal) := by
  canon_tiles y h
  · exact du_piece (half_v1408 H) (w_4224 H) y h0 h1
  · exact du_piece (half_g1408 H) (w_1408 H) y h0 h1
  · exact du_piece (half_v0 H) (w_2816 H) y h0 h1
  · exact du_piece (half_g0 H) (w_0 H) y h0 (h1.trans (Nat.zero_add _).symm)

theorem rd3 (x : Vec Ideal S3x5632 .f32) (r off : ℕ) (inb) (y : S1x1408.Idx) {k : Fin 3} {J : Fin 5632} (h0 : (k : ℕ) = r + (y 0).val)
    (h1 : (J : ℕ) = off + (y 1).val) : View.ld x (Rect.unit (s := S3x5632) ![r, off] ![1, 1408] inb) y = x (ix2 k J) :=
  View.ld_unit_apply_of x _ _ _ y (ix2 k J) fun d => match d with
    | ⟨0, _⟩ => h0
    | ⟨1, _⟩ => h1

theorem rd1 (x : Vec Ideal S1x5632 .f32) (off : ℕ) (inb) (y : S1x1408.Idx) {z : Fin 1} {J : Fin 5632}
    (h1 : (J : ℕ) = off + (y 1).val) : View.ld x (Rect.unit (s := S1x5632) ![0, off] ![1, 1408] inb) y = x (ix2 z J) :=
  View.ld_unit_apply_of x _ _ _ y (ix2 z J) fun d => match d with
    | ⟨0, _⟩ => by
      have h : (y 0).val < 1 := (y 0).isLt
      have hz := z.isLt
      show (z : ℕ) = 0 + (y 0).val
      omega
    | ⟨1, _⟩ => h1

/-- Earlier stores do not matter where a later one covers. -/
theorem canon_later {S : Shape} {e : EltTy} (L' : List (View.Piece (Elt Ideal) S e)) : ∀ (L : List (View.Piece (Elt Ideal) S e)) (y : S.Idx)
    (_ : ∃ p ∈ L, y ∈ p.1.set), View.canon (L ++ L') y = View.canon L y
  | [], _, hy => by obtain ⟨p, hp, _⟩ := hy; simp at hp
  | p :: L, y, hy => by
    by_cases hm : y ∈ p.1.set
    · obtain ⟨x, rfl⟩ := p.1.exists_idx_of_mem hm
      exact (View.canon_cons_emb p.1 p.2 (L ++ L') x).trans (View.canon_cons_emb p.1 p.2 L x).symm
    · rw [List.cons_append, View.canon_cons_of_not_mem _ _ hm, View.canon_cons_of_not_mem _ _ hm]
      obtain ⟨q, hq, hyq⟩ := hy
      rcases List.mem_cons.mp hq with rfl | hq'
      · exact absurd hyq hm
      · exact canon_later L' L y ⟨q, hq', hyq⟩

theorem zero3 (k : Fin 3) (J : Fin 5632) : k0_pay1 (F := Ideal) (ix2 k J) = (0 : EReal) := by pointwise [k0_pay1]
theorem zero1 (z : Fin 1) (J : Fin 5632) : k0_pay2 (F := Ideal) (ix2 z J) = (0 : EReal) := by pointwise [k0_pay2]
theorem zeroG (z : Fin 1) (i : Fin 1024) : k0_pay3 (F := Ideal) (ix2 z i) = (0 : EReal) := by pointwise [k0_pay3]

end

section

variable {D : Tab} (c : Dev nD) (i : grid0.Coords) (arg1 : Memref sig .tc .vmem S256x2816 .bf16) (harg1 : arg1.IsWhole) (arg2 : Memref sig .tc .vmem S256x2816 .bf16) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S8x2816 .bf16) (harg5 : arg5.IsWhole) (arg6 : Memref sig .tc .vmem S8x2816 .bf16) (harg6 : arg6.IsWhole) (arg7 : Memref sig .tc .vmem S256x2816 .bf16) (harg7 : arg7.IsWhole) (arg8 : Memref sig .tc .vmem S8x2816 .bf16) (harg8 : arg8.IsWhole) (arg9 : Memref sig .tc .vmem S3x5632 .f32) (harg9 : arg9.IsWhole) (arg10 : Memref sig .tc .vmem S1024x5632 .bf16) (harg10 : arg10.IsWhole) (arg11 : Memref sig .tc .vmem S256x1024 .f32) (harg11 : arg11.IsWhole) (arg12 : Memref sig .tc .vmem S1x1024 .f32) (harg12 : arg12.IsWhole) (arg13 : Memref sig .tc .vmem S256x1024 .f32) (harg13 : arg13.IsWhole) (arg14 : Memref sig .tc .vmem S256x5632 .bf16) (harg14 : arg14.IsWhole) (arg15 : Memref sig .tc .vmem S3x5632 .f32) (harg15 : arg15.IsWhole) (arg16 : Memref sig .tc .vmem S1x5632 .f32) (harg16 : arg16.IsWhole) (arg17 : Memref sig .tc .vmem S256x1024 .f32) (harg17 : arg17.IsWhole) (arg18 : Memref sig .tc .vmem S1x1024 .f32) (harg18 : arg18.IsWhole)
    (x0 : Vec Ideal S256x2816 .bf16) (x1 : Vec Ideal S256x2816 .bf16) (x2 : Vec Ideal S256x2816 .bf16) (x3 : Vec Ideal S256x2816 .bf16) (x4 : Vec Ideal S8x2816 .bf16) (x5 : Vec Ideal S8x2816 .bf16) (x6 : Vec Ideal S256x2816 .bf16) (x7 : Vec Ideal S8x2816 .bf16) (x8 : Vec Ideal S3x5632 .f32) (x9 : Vec Ideal S1024x5632 .bf16) (x10 : Vec Ideal S256x1024 .f32) (x11 : Vec Ideal S1x1024 .f32) (x12 : Vec Ideal S256x1024 .f32) (xo14 : Vec Ideal S3x5632 .f32) (xo15 : Vec Ideal S1x5632 .f32) (xo17 : Vec Ideal S1x1024 .f32)

theorem A13 (hc0 : cond0_0 i) (H : Blocks D i x0 x1 x2 x3 x4 x5 x6 x7 x8 x9 x10 x11) (a : Fin 256) (J : Fin 5632) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 (ix2 a J) = (D.du (row i + a) J : EReal) := by
  frame_open
  simp (disch := decide) only [↓ View.readCov_skip, ↓ View.readCov_cons_toLoadRect, ↓ View.readCov_fill]
  frame_out
  simp only [Payloads.s_gate_g, Payloads.s_gate_v, Payloads.s_next_v, Payloads.g_du, Payloads.sg_du, Payloads.sv_du]
  exact du_list H a J

theorem A14 (hc0 : cond0_0 i) (H : Blocks D i x0 x1 x2 x3 x4 x5 x6 x7 x8 x9 x10 x11) (k : Fin 3) (J : Fin 5632) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 (ix2 k J) = (taps D (i 0).val k J : EReal) := by
  rw [← zero_add ((taps D (i 0).val k J : ℝ) : EReal)]
  frame_open
  simp (disch := decide) only [↓ View.readCov_skip, ↓ View.readCov_cons_toLoadRect, ↓ View.readCov_fill]
  frame_out
  simp only [Payloads.s_gate_g, Payloads.s_gate_v, Payloads.s_next_v, Payloads.g_tap0, Payloads.g_tap1, Payloads.g_tap2,
    Payloads.sg_tap0, Payloads.sg_tap1, Payloads.sg_tap2, Payloads.sv_tap0, Payloads.sv_tap1, Payloads.sv_tap2]
  refine (canon_later _ [_, _, _, _, _, _, _, _, _, _, _, _] _ (View.cover_of_tiled_head _ _ _ (by rfl) _)).trans ?_
  canon_tiles y h
  · exact tap2_piece (half_v1408 H) (u_v1408 H) y ((rd3 _ 2 4224 _ y h0 h1).trans (zero3 k J)) h0 h1
  · exact tap1_piece (half_v1408 H) (u_v1408 H) y ((rd3 _ 1 4224 _ y h0 h1).trans (zero3 k J)) h0 h1
  · exact tap0_piece (half_v1408 H) (u_v1408 H) y ((rd3 _ 0 4224 _ y (h0.trans (Nat.zero_add _).symm) h1).trans (zero3 k J)) h0 h1
  · exact tap2_piece (half_g1408 H) (u_g1408 H) y ((rd3 _ 2 1408 _ y h0 h1).trans (zero3 k J)) h0 h1
  · exact tap1_piece (half_g1408 H) (u_g1408 H) y ((rd3 _ 1 1408 _ y h0 h1).trans (zero3 k J)) h0 h1
  · exact tap0_piece (half_g1408 H) (u_g1408 H) y ((rd3 _ 0 1408 _ y (h0.trans (Nat.zero_add _).symm) h1).trans (zero3 k J)) h0 h1
  · exact tap2_piece (half_v0 H) (u_v0 H) y ((rd3 _ 2 2816 _ y h0 h1).trans (zero3 k J)) h0 h1
  · exact tap1_piece (half_v0 H) (u_v0 H) y ((rd3 _ 1 2816 _ y h0 h1).trans (zero3 k J)) h0 h1
  · exact tap0_piece (half_v0 H) (u_v0 H) y ((rd3 _ 0 2816 _ y (h0.trans (Nat.zero_add _).symm) h1).trans (zero3 k J)) h0 h1
  · exact tap2_piece (half_g0 H) (u_g0 H) y ((rd3 _ 2 0 _ y h0 (h1.trans (Nat.zero_add _).symm)).trans (zero3 k J)) h0 (h1.trans (Nat.zero_add _).symm)
  · exact tap1_piece (half_g0 H) (u_g0 H) y ((rd3 _ 1 0 _ y h0 (h1.trans (Nat.zero_add _).symm)).trans (zero3 k J)) h0 (h1.trans (Nat.zero_add _).symm)
  · exact tap0_piece (half_g0 H) (u_g0 H) y ((rd3 _ 0 0 _ y (h0.trans (Nat.zero_add _).symm) (h1.trans (Nat.zero_add _).symm)).trans (zero3 k J)) h0 (h1.trans (Nat.zero_add _).symm)

theorem A15 (hc0 : cond0_0 i) (H : Blocks D i x0 x1 x2 x3 x4 x5 x6 x7 x8 x9 x10 x11) (z : Fin 1) (J : Fin 5632) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 (ix2 z J) = (bias D (i 0).val J : EReal) := by
  rw [← zero_add ((bias D (i 0).val J : ℝ) : EReal)]
  frame_open
  simp (disch := decide) only [↓ View.readCov_skip, ↓ View.readCov_cons_toLoadRect, ↓ View.readCov_fill]
  frame_out
  simp only [Payloads.s_gate_g, Payloads.s_gate_v, Payloads.s_next_v, Payloads.g_bias, Payloads.sg_bias, Payloads.sv_bias]
  refine (canon_later _ [_, _, _, _] _ (View.cover_of_tiled_head _ _ _ (by rfl) _)).trans ?_
  canon_tiles y h
  · exact bias_piece (half_v1408 H) y ((rd1 _ 4224 _ y h1).trans (zero1 z J)) h1
  · exact bias_piece (half_g1408 H) y ((rd1 _ 1408 _ y h1).trans (zero1 z J)) h1
  · exact bias_piece (half_v0 H) y ((rd1 _ 2816 _ y h1).trans (zero1 z J)) h1
  · exact bias_piece (half_g0 H) y ((rd1 _ 0 _ y (h1.trans (Nat.zero_add _).symm)).trans (zero1 z J)) (h1.trans (Nat.zero_add _).symm)

theorem A16 (hc0 : cond0_0 i) (H : Blocks D i x0 x1 x2 x3 x4 x5 x6 x7 x8 x9 x10 x11) (a : Fin 256) (j : Fin 1024) :
    out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 (ix2 a j) = x12 (ix2 a j) + (D.dx (row i + a) j : EReal) := by
  frame_open
  simp (disch := decide) only [↓ View.readCov_skip, ↓ View.readCov_cons_toLoadRect, ↓ View.readCov_fill]
  frame_out
  simp only [Payloads.s_gate_g, Payloads.s_gate_v, Payloads.s_next_v, Payloads.g_du, Payloads.sg_du, Payloads.sv_du]
  refine Payloads.dx (R := row i) (fun a J => ?_) H.W H.x H.g a j
  rw [View.readCov_eq_canon']
  refine (congrArg _ (?_ : _ = ix2 a J)).trans (du_list H a J)
  funext d
  refine Fin.ext ?_
  match d with
  | ⟨0, _⟩ => exact (Rect.idx_unit_val ..).trans (Nat.zero_add _)
  | ⟨1, _⟩ => exact (Rect.idx_unit_val ..).trans (Nat.zero_add _)

theorem A17 (hc0 : cond0_0 i) (H : Blocks D i x0 x1 x2 x3 x4 x5 x6 x7 x8 x9 x10 x11) (z : Fin 1) (j : Fin 1024) :
    out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 (ix2 z j) = (gain D (i 0).val j : EReal) := by
  frame_open
  simp (disch := decide) only [↓ View.readCov_skip, ↓ View.readCov_cons_toLoadRect, ↓ View.readCov_fill]
  frame_out
  simp only [Payloads.s_gate_g, Payloads.s_gate_v, Payloads.s_next_v, Payloads.g_du, Payloads.sg_du, Payloads.sv_du]
  refine (Payloads.gain (R := row i) (fun a J => ?_) H.W H.x z j).trans ?_
  rotate_left; rw [zeroG, zero_add]
  rw [View.readCov_eq_canon']
  refine (congrArg _ (?_ : _ = ix2 a J)).trans (du_list H a J)
  funext d
  refine Fin.ext ?_
  match d with
  | ⟨0, _⟩ => exact (Rect.idx_unit_val ..).trans (Nat.zero_add _)
  | ⟨1, _⟩ => exact (Rect.idx_unit_val ..).trans (Nat.zero_add _)

theorem B13 (hc0 : ¬cond0_0 i) (H : Blocks D i x0 x1 x2 x3 x4 x5 x6 x7 x8 x9 x10 x11) (a : Fin 256) (J : Fin 5632) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xo14 xo15 xo17 (ix2 a J) = (D.du (row i + a) J : EReal) := by
  frame_open
  simp (disch := decide) only [↓ View.readCov_skip, ↓ View.readCov_cons_toLoadRect, ↓ View.readCov_fill]
  frame_out
  simp only [Payloads.s_gate_g, Payloads.s_gate_v, Payloads.s_next_v, Payloads.g_du, Payloads.sg_du, Payloads.sv_du]
  exact du_list H a J

theorem B14 (hc0 : ¬cond0_0 i) (H : Blocks D i x0 x1 x2 x3 x4 x5 x6 x7 x8 x9 x10 x11) (k : Fin 3) (J : Fin 5632) :
    out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xo14 xo15 xo17 (ix2 k J) = xo14 (ix2 k J) + (taps D (i 0).val k J : EReal) := by
  frame_open
  simp (disch := decide) only [↓ View.readCov_skip, ↓ View.readCov_cons_toLoadRect, ↓ View.readCov_fill]
  frame_out
  simp only [Payloads.s_gate_g, Payloads.s_gate_v, Payloads.s_next_v, Payloads.g_tap0, Payloads.g_tap1, Payloads.g_tap2,
    Payloads.sg_tap0, Payloads.sg_tap1, Payloads.sg_tap2, Payloads.sv_tap0, Payloads.sv_tap1, Payloads.sv_tap2]
  canon_tiles y h
  · exact tap2_piece (half_v1408 H) (u_v1408 H) y (rd3 _ 2 4224 _ y h0 h1) h0 h1
  · exact tap1_piece (half_v1408 H) (u_v1408 H) y (rd3 _ 1 4224 _ y h0 h1) h0 h1
  · exact tap0_piece (half_v1408 H) (u_v1408 H) y (rd3 _ 0 4224 _ y (h0.trans (Nat.zero_add _).symm) h1) h0 h1
  · exact tap2_piece (half_g1408 H) (u_g1408 H) y (rd3 _ 2 1408 _ y h0 h1) h0 h1
  · exact tap1_piece (half_g1408 H) (u_g1408 H) y (rd3 _ 1 1408 _ y h0 h1) h0 h1
  · exact tap0_piece (half_g1408 H) (u_g1408 H) y (rd3 _ 0 1408 _ y (h0.trans (Nat.zero_add _).symm) h1) h0 h1
  · exact tap2_piece (half_v0 H) (u_v0 H) y (rd3 _ 2 2816 _ y h0 h1) h0 h1
  · exact tap1_piece (half_v0 H) (u_v0 H) y (rd3 _ 1 2816 _ y h0 h1) h0 h1
  · exact tap0_piece (half_v0 H) (u_v0 H) y (rd3 _ 0 2816 _ y (h0.trans (Nat.zero_add _).symm) h1) h0 h1
  · exact tap2_piece (half_g0 H) (u_g0 H) y (rd3 _ 2 0 _ y h0 (h1.trans (Nat.zero_add _).symm)) h0 (h1.trans (Nat.zero_add _).symm)
  · exact tap1_piece (half_g0 H) (u_g0 H) y (rd3 _ 1 0 _ y h0 (h1.trans (Nat.zero_add _).symm)) h0 (h1.trans (Nat.zero_add _).symm)
  · exact tap0_piece (half_g0 H) (u_g0 H) y (rd3 _ 0 0 _ y (h0.trans (Nat.zero_add _).symm) (h1.trans (Nat.zero_add _).symm)) h0 (h1.trans (Nat.zero_add _).symm)

theorem B15 (hc0 : ¬cond0_0 i) (H : Blocks D i x0 x1 x2 x3 x4 x5 x6 x7 x8 x9 x10 x11) (z : Fin 1) (J : Fin 5632) :
    out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xo14 xo15 xo17 (ix2 z J) = xo15 (ix2 z J) + (bias D (i 0).val J : EReal) := by
  frame_open
  simp (disch := decide) only [↓ View.readCov_skip, ↓ View.readCov_cons_toLoadRect, ↓ View.readCov_fill]
  frame_out
  simp only [Payloads.s_gate_g, Payloads.s_gate_v, Payloads.s_next_v, Payloads.g_bias, Payloads.sg_bias, Payloads.sv_bias]
  canon_tiles y h
  · exact bias_piece (half_v1408 H) y (rd1 _ 4224 _ y h1) h1
  · exact bias_piece (half_g1408 H) y (rd1 _ 1408 _ y h1) h1
  · exact bias_piece (half_v0 H) y (rd1 _ 2816 _ y h1) h1
  · exact bias_piece (half_g0 H) y (rd1 _ 0 _ y (h1.trans (Nat.zero_add _).symm)) (h1.trans (Nat.zero_add _).symm)

theorem B16 (hc0 : ¬cond0_0 i) (H : Blocks D i x0 x1 x2 x3 x4 x5 x6 x7 x8 x9 x10 x11) (a : Fin 256) (j : Fin 1024) :
    out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xo14 xo15 xo17 (ix2 a j) = x12 (ix2 a j) + (D.dx (row i + a) j : EReal) := by
  frame_open
  simp (disch := decide) only [↓ View.readCov_skip, ↓ View.readCov_cons_toLoadRect, ↓ View.readCov_fill]
  frame_out
  simp only [Payloads.s_gate_g, Payloads.s_gate_v, Payloads.s_next_v, Payloads.g_du, Payloads.sg_du, Payloads.sv_du]
  refine Payloads.dx (R := row i) (fun a J => ?_) H.W H.x H.g a j
  rw [View.readCov_eq_canon']
  refine (congrArg _ (?_ : _ = ix2 a J)).trans (du_list H a J)
  funext d
  refine Fin.ext ?_
  match d with
  | ⟨0, _⟩ => exact (Rect.idx_unit_val ..).trans (Nat.zero_add _)
  | ⟨1, _⟩ => exact (Rect.idx_unit_val ..).trans (Nat.zero_add _)

theorem B17 (hc0 : ¬cond0_0 i) (H : Blocks D i x0 x1 x2 x3 x4 x5 x6 x7 x8 x9 x10 x11) (z : Fin 1) (j : Fin 1024) :
    out0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xo14 xo15 xo17 (ix2 z j) = xo17 (ix2 z j) + (gain D (i 0).val j : EReal) := by
  frame_open
  simp (disch := decide) only [↓ View.readCov_skip, ↓ View.readCov_cons_toLoadRect, ↓ View.readCov_fill]
  frame_out
  simp only [Payloads.s_gate_g, Payloads.s_gate_v, Payloads.s_next_v, Payloads.g_du, Payloads.sg_du, Payloads.sv_du]
  refine (Payloads.gain (R := row i) (fun a J => ?_) H.W H.x z j)

  rw [View.readCov_eq_canon']
  refine (congrArg _ (?_ : _ = ix2 a J)).trans (du_list H a J)
  funext d
  refine Fin.ext ?_
  match d with
  | ⟨0, _⟩ => exact (Rect.idx_unit_val ..).trans (Nat.zero_add _)
  | ⟨1, _⟩ => exact (Rect.idx_unit_val ..).trans (Nat.zero_add _)

end

end Cert.KernelPoint
-- ==== Proof.KernelValue.lean ====
/- What the kernel leaves in its five outputs: the gradients of the specification. -/
module

public import proofs.«01_k».proof.Proof.KernelPoint
public import proofs.«01_k».proof.Proof.Host
public import Idealize.ShloMosaic.Lib.Pipeline.ValueKit

@[expose] public section

set_option maxRecDepth 16384

noncomputable section

namespace Cert.KernelValue

open Cert.KernelIdeal Cert.KernelIdeal.Gen Idealize.ShloMosaic Idealize.ShloMosaic.TcCoe Idealize.SL.Sem Cert.Spec
open Idealize.ShloMosaic.Pipeline (Dat)
open Cert.KernelPoint (Blocks row aft taps bias gain)

variable {m : (ℓ : Loc nD τ sig) → Buf (Elt Ideal) ℓ} {c : Dev nD} {D : Tab}

theorem coord (t : Fin cfg0.N) : ((grid0.coords t) 0).val = t.val := by
  revert t; decide +kernel

theorem index_tile : ∀ t : Fin cfg0.N, win0_0.index t = ![t.val, 0] ∧ win0_1.index t = ![t.val, 0] ∧ win0_2.index t = ![t.val, 0]
    ∧ win0_3.index t = ![t.val, 0] ∧ win0_6.index t = ![t.val, 0] ∧ win0_10.index t = ![t.val, 0] ∧ win0_12.index t = ![t.val, 0]
    ∧ win0_13.index t = ![t.val, 0] ∧ win0_16.index t = ![t.val, 0] := by decide +kernel

theorem index_after : ∀ t : Fin cfg0.N, win0_4.index t = ![min ((t.val + 1) * 32) 1023, 0] ∧ win0_5.index t = ![min ((t.val + 1) * 32) 1023, 0]
    ∧ win0_7.index t = ![min ((t.val + 1) * 32) 1023, 0] := by decide +kernel

theorem index_whole : ∀ t : Fin cfg0.N, win0_8.index t = ![0, 0] ∧ win0_9.index t = ![0, 0] ∧ win0_11.index t = ![0, 0] := by decide +kernel

theorem b_ug (H : Host.HoldsAt m c D) (t : Fin cfg0.N) (a : Fin 256) (j : Fin 2816) :
    (iblk m c 0 t : S256x2816.Idx → EReal) (ix2 a j) = (D.u (row (grid0.coords t) + a) j : EReal) := by
  have ht : t.val < 32 := t.isLt
  have e : iblk m c 0 t (ix2 a j) = V m c main_v43 (ix2 (⟨256 * t.val + a, by omega⟩ : Fin 8192) j) := by
    blk_ext [iblk, index_tile t]
  refine e.trans ((Host.ug H _ _).trans ?_)
  rw [row, coord]

theorem b_uv (H : Host.HoldsAt m c D) (t : Fin cfg0.N) (a : Fin 256) (j : Fin 2816) :
    (iblk m c 1 t : S256x2816.Idx → EReal) (ix2 a j) = (D.u (row (grid0.coords t) + a) (j + 2816) : EReal) := by
  have ht : t.val < 32 := t.isLt
  have e : iblk m c 1 t (ix2 a j) = V m c main_v44 (ix2 (⟨256 * t.val + a, by omega⟩ : Fin 8192) j) := by
    blk_ext [iblk, index_tile t]
  refine e.trans ((Host.uv H _ _).trans ?_)
  rw [row, coord]

theorem b_cg (H : Host.HoldsAt m c D) (t : Fin cfg0.N) (a : Fin 256) (j : Fin 2816) :
    (iblk m c 2 t : S256x2816.Idx → EReal) (ix2 a j) = (D.c (row (grid0.coords t) + a) j : EReal) := by
  have ht : t.val < 32 := t.isLt
  have e : iblk m c 2 t (ix2 a j) = V m c main_v45 (ix2 (⟨256 * t.val + a, by omega⟩ : Fin 8192) j) := by
    blk_ext [iblk, index_tile t]
  refine e.trans ((Host.cg H _ _).trans ?_)
  rw [row, coord]

theorem b_cv (H : Host.HoldsAt m c D) (t : Fin cfg0.N) (a : Fin 256) (j : Fin 2816) :
    (iblk m c 3 t : S256x2816.Idx → EReal) (ix2 a j) = (D.c (row (grid0.coords t) + a) (j + 2816) : EReal) := by
  have ht : t.val < 32 := t.isLt
  have e : iblk m c 3 t (ix2 a j) = V m c main_v46 (ix2 (⟨256 * t.val + a, by omega⟩ : Fin 8192) j) := by
    blk_ext [iblk, index_tile t]
  refine e.trans ((Host.cv H _ _).trans ?_)
  rw [row, coord]

theorem b_cg' (H : Host.HoldsAt m c D) (t : Fin cfg0.N) (a : Fin 8) (j : Fin 2816) :
    (iblk m c 4 t : S8x2816.Idx → EReal) (ix2 a j) = (D.c (aft (grid0.coords t) + a) j : EReal) := by
  have ht : t.val < 32 := t.isLt
  have e : iblk m c 4 t (ix2 a j) = V m c main_v45 (ix2 (⟨8 * min ((t.val + 1) * 32) 1023 + a, by omega⟩ : Fin 8192) j) := by
    blk_ext [iblk, index_after t]
  refine e.trans ((Host.cg H _ _).trans ?_)
  rw [aft, coord]

theorem b_cv' (H : Host.HoldsAt m c D) (t : Fin cfg0.N) (a : Fin 8) (j : Fin 2816) :
    (iblk m c 5 t : S8x2816.Idx → EReal) (ix2 a j) = (D.c (aft (grid0.coords t) + a) (j + 2816) : EReal) := by
  have ht : t.val < 32 := t.isLt
  have e : iblk m c 5 t (ix2 a j) = V m c main_v46 (ix2 (⟨8 * min ((t.val + 1) * 32) 1023 + a, by omega⟩ : Fin 8192) j) := by
    blk_ext [iblk, index_after t]
  refine e.trans ((Host.cv H _ _).trans ?_)
  rw [aft, coord]

theorem b_d (H : Host.HoldsAt m c D) (t : Fin cfg0.N) (a : Fin 256) (j : Fin 2816) :
    (iblk m c 6 t : S256x2816.Idx → EReal) (ix2 a j) = (D.d (row (grid0.coords t) + a) j : EReal) := by
  have ht : t.val < 32 := t.isLt
  have e : iblk m c 6 t (ix2 a j) = V m c main_v47 (ix2 (⟨256 * t.val + a, by omega⟩ : Fin 8192) j) := by
    blk_ext [iblk, index_tile t]
  refine e.trans ((Host.dff H _ _).trans ?_)
  rw [row, coord]

theorem b_d' (H : Host.HoldsAt m c D) (t : Fin cfg0.N) (a : Fin 8) (j : Fin 2816) :
    (iblk m c 7 t : S8x2816.Idx → EReal) (ix2 a j) = (D.d (aft (grid0.coords t) + a) j : EReal) := by
  have ht : t.val < 32 := t.isLt
  have e : iblk m c 7 t (ix2 a j) = V m c main_v47 (ix2 (⟨8 * min ((t.val + 1) * 32) 1023 + a, by omega⟩ : Fin 8192) j) := by
    blk_ext [iblk, index_after t]
  refine e.trans ((Host.dff H _ _).trans ?_)
  rw [aft, coord]

theorem b_w (H : Host.HoldsAt m c D) (t : Fin cfg0.N) (k : Fin 3) (J : Fin 5632) :
    (iblk m c 8 t : S3x5632.Idx → EReal) (ix2 k J) = (D.w k J : EReal) := by
  have e : iblk m c 8 t (ix2 k J) = V m c main_arg3 (ix2 k J) := by
    blk_ext [iblk, index_whole t]
  rw [e, V_main_arg3]
  exact H.w k J

theorem b_W (H : Host.HoldsAt m c D) (t : Fin cfg0.N) (i : Fin 1024) (J : Fin 5632) :
    (iblk m c 9 t : S1024x5632.Idx → EReal) (ix2 i J) = (D.W i J : EReal) := by
  have e : iblk m c 9 t (ix2 i J) = V m c main_v48 (ix2 i J) := by
    blk_ext [iblk, index_whole t]
  exact e.trans (Host.wup H i J)

theorem b_x (H : Host.HoldsAt m c D) (t : Fin cfg0.N) (a : Fin 256) (j : Fin 1024) :
    (iblk m c 10 t : S256x1024.Idx → EReal) (ix2 a j) = (D.x (row (grid0.coords t) + a) j : EReal) := by
  have ht : t.val < 32 := t.isLt
  have e : iblk m c 10 t (ix2 a j) = V m c main_arg0 (ix2 (⟨256 * t.val + a, by omega⟩ : Fin 8192) j) := by
    blk_ext [iblk, index_tile t]
  rw [e, V_main_arg0]
  refine (H.x _ _).trans ?_
  rw [row, coord]

theorem b_g (H : Host.HoldsAt m c D) (t : Fin cfg0.N) (z : Fin 1) (j : Fin 1024) :
    (iblk m c 11 t : S1x1024.Idx → EReal) (ix2 z j) = (D.g j : EReal) := by
  have e : iblk m c 11 t (ix2 z j) = V m c main_v49 (ix2 z j) := by
    blk_ext [iblk, index_whole t]
  exact e.trans (Host.gain H z j)

theorem blocks (H : Host.HoldsAt m c D) (t : Fin cfg0.N) :
    Blocks D (grid0.coords t) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) where
  ug := b_ug H t
  uv := b_uv H t
  cg := b_cg H t
  cv := b_cv H t
  cg' := b_cg' H t
  cv' := b_cv' H t
  d := b_d H t
  d' := b_d' H t
  w := b_w H t
  W := b_W H t
  x := b_x H t
  g := b_g H t

theorem point13 (H : Host.HoldsAt m c D) (t : Fin cfg0.N) (a : Fin 256) (j : Fin 5632) :
    (outsAt0 m c t.val t.isLt).1 (ix2 a j) = (D.du (256 * t.val + a) j : EReal) := by
  by_cases h0 : t.val % 32 = 0
  · rw [outsAt0_A m c t h0]
    have h := KernelPoint.A13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((hcond0_0 t).mpr h0) (blocks H t) a j
    rw [row, coord] at h
    dsimp only
    exact h
  · rw [outsAt0_B m c t h0]
    have h := KernelPoint.B13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.2 (fun hc => h0 ((hcond0_0 t).mp hc)) (blocks H t) a j
    rw [row, coord] at h
    dsimp only
    exact h

theorem out13 (H : Host.HoldsAt m c D) (r : Fin 8192) (j : Fin 5632) :
    ((dats m 0 c).arrAt 13 cfg0.N : S8192x5632.Idx → EReal) (ix2 r j) = (D.du r.val j.val : EReal) := by
  have e : (dats m 0 c).arrAt 13 cfg0.N = (fun x => (D.du (x 0).val (x 1).val : EReal) : S8192x5632.Idx → EReal) := by
    refine (dats m 0 c).arrAt_eq_of_covers 13 _ (by decide +kernel) fun t hf y => ?_
    blk_simp
    rw [after0_13]
    have ht : t.val < 32 := t.isLt
    obtain ⟨a, j, rfl⟩ : ∃ (a : Fin 256) (j : Fin 5632), y = ix2 a j := ⟨y 0, y 1, ValueIdx.eq_ix2 y⟩
    refine (point13 H t a j).trans ?_
    have e0 : (cfg0.win 13).index t 0 = t.val := by rw [(index_tile t).2.2.2.2.2.2.2.1]; rfl
    have e1 : (cfg0.win 13).index t 1 = 0 := by rw [(index_tile t).2.2.2.2.2.2.2.1]; rfl
    exact congrArg₂ (fun r j => (D.du r j : EReal)) (by rw [e0]; show _ = t.val * 256 + (a : ℕ); omega) (by rw [e1]; show _ = 0 * 5632 + (j : ℕ); omega)
  exact congrFun e (ix2 r j)

/-- The gradient that the kernel adds to, and its block at a point. -/
abbrev dh2 (m : (ℓ : Loc nD τ sig) → Buf (Elt Ideal) ℓ) (c : Dev nD) : S8192x1024.Idx → EReal := m ((c : Thread nD τ).loc main_arg5)
abbrev blkDh2 (m : (ℓ : Loc nD τ sig) → Buf (Elt Ideal) ℓ) (c : Dev nD) (t : Fin cfg0.N) : S256x1024.Idx → EReal := iblk m c 12 t

theorem b_dh2 (t : Fin cfg0.N) (a : Fin 256) (j : Fin 1024) (h : 256 * t.val + a < 8192) :
    blkDh2 m c t (ix2 a j) = dh2 m c (ix2 (⟨256 * t.val + a, h⟩ : Fin 8192) j) := by
  have e : iblk m c 12 t (ix2 a j) = V m c main_arg5 (ix2 (⟨256 * t.val + a, h⟩ : Fin 8192) j) := by
    blk_ext [iblk, index_tile t]
  exact e.trans (congrFun (V_main_arg5 m c) _)

theorem point16 (H : Host.HoldsAt m c D) (t : Fin cfg0.N) (a : Fin 256) (j : Fin 1024) :
    (outsAt0 m c t.val t.isLt).2.2.2.1 (ix2 a j) = blkDh2 m c t (ix2 a j) + (D.dx (256 * t.val + a) j : EReal) := by
  by_cases h0 : t.val % 32 = 0
  · rw [outsAt0_A m c t h0]
    have h := KernelPoint.A16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((hcond0_0 t).mpr h0) (blocks H t) a j
    rw [row, coord] at h
    dsimp only
    exact h
  · rw [outsAt0_B m c t h0]
    have h := KernelPoint.B16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.2 (fun hc => h0 ((hcond0_0 t).mp hc)) (blocks H t) a j
    rw [row, coord] at h
    dsimp only
    exact h

theorem out16 (H : Host.HoldsAt m c D) (r : Fin 8192) (j : Fin 1024) :
    ((dats m 0 c).arrAt 16 cfg0.N : S8192x1024.Idx → EReal) (ix2 r j) = dh2 m c (ix2 r j) + (D.dx r.val j.val : EReal) := by
  have e : (dats m 0 c).arrAt 16 cfg0.N = (fun x => dh2 m c x + (D.dx (x 0).val (x 1).val : EReal) : S8192x1024.Idx → EReal) := by
    refine (dats m 0 c).arrAt_eq_of_covers 16 _ (by decide +kernel) fun t hf y => ?_
    blk_simp
    rw [after0_16]
    have ht : t.val < 32 := t.isLt
    obtain ⟨a, j, rfl⟩ : ∃ (a : Fin 256) (j : Fin 1024), y = ix2 a j := ⟨y 0, y 1, ValueIdx.eq_ix2 y⟩
    refine (point16 H t a j).trans ?_
    have h : 256 * t.val + (a : ℕ) < 8192 := by omega
    have e0 : (cfg0.win 16).index t 0 = t.val := by rw [(index_tile t).2.2.2.2.2.2.2.2]; rfl
    have e1 : (cfg0.win 16).index t 1 = 0 := by rw [(index_tile t).2.2.2.2.2.2.2.2]; rfl
    have e2 : ((cfg0.win 16).blk t).view.read (Elt Ideal) (dh2 m c) (ix2 a j) = dh2 m c (ix2 (⟨256 * t.val + a, h⟩ : Fin 8192) j) := by
      blk_ext [index_tile t]
    refine congrArg₂ (fun x y : EReal => x + y) ((b_dh2 t a j h).trans e2.symm) ?_
    exact congrArg₂ (fun r j => (D.dx r j : EReal)) (by rw [e0]; show _ = t.val * 256 + (a : ℕ); omega) (by rw [e1]; show _ = 0 * 1024 + (j : ℕ); omega)
  exact congrFun e (ix2 r j)

/-- The last point of the grid. -/
def last : Fin cfg0.N := ⟨31, by decide⟩

/-- After point `t`, output 14 holds the sum over the tiles up to `t`'s. -/
theorem sum14 (H : Host.HoldsAt m c D) (t : Fin cfg0.N) (j : S3x5632.Idx) :
    (outsAt0 m c t.val t.isLt).2.1 j = ((∑ n ∈ Finset.range (t.val + 1), taps D n (j 0).val (j 1).val : ℝ) : EReal) := by
  refine (Pipeline.eq_sum_of_reset_step_apply_single (fun n h => ((outsAt0 m c n h).2.1 : S3x5632.Idx → EReal)) 32 (fun _ => 0)
    (fun n j => ((taps D n (j 0).val (j 1).val : ℝ) : EReal)) (fun t h0 j => ?_) (fun t h0 j => ?_) (by decide) t j).trans ?_
  · obtain ⟨k, J, rfl⟩ : ∃ (k : Fin 3) (J : Fin 5632), j = ix2 k J := ⟨j 0, j 1, ValueIdx.eq_ix2 j⟩
    show (outsAt0 m c t.val t.isLt).2.1 (ix2 k J) = _
    rw [outsAt0_A m c t h0]
    have h := KernelPoint.A14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((hcond0_0 t).mpr h0) (blocks H t) k J
    rw [coord] at h
    refine Eq.trans ?_ (zero_add _).symm
    dsimp only
    exact h
  · obtain ⟨k, J, rfl⟩ : ∃ (k : Fin 3) (J : Fin 5632), j = ix2 k J := ⟨j 0, j 1, ValueIdx.eq_ix2 j⟩
    show (outsAt0 m c t.val t.isLt).2.1 (ix2 k J) = _
    rw [outsAt0_B m c t h0]
    have h := KernelPoint.B14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.2 (fun hc => h0 ((hcond0_0 t).mp hc)) (blocks H t) k J
    rw [coord] at h
    dsimp only
    exact h
  · rw [zero_add, Cert.Spec.coe_sum_range]

theorem out14 (H : Host.HoldsAt m c D) (k : Fin 3) (J : Fin 5632) :
    ((dats m 0 c).arrAt 14 cfg0.N : S3x5632.Idx → EReal) (ix2 k J) = (D.gw k J : EReal) := by
  have e : (dats m 0 c).arrAt 14 cfg0.N = (outsAt0 m c last.val last.isLt).2.1 := by
    refine (dats m 0 c).arrAt_eq_of_after_last 14 last (by decide +kernel) _ fun j => ?_
    blk_simp
    rw [after0_14]
  rw [e]
  refine (sum14 H last (ix2 k J)).trans (congrArg _ ?_)
  refine (Cert.Spec.Tab.sum_tiles (fun r => D.dc (r + (2 - k)) J * D.u r J) 32).trans ?_
  exact Finset.sum_range (fun r => D.dc (r + (2 - k)) J * D.u r J)

/-- After point `t`, output 15 holds the sum over the tiles up to `t`'s. -/
theorem sum15 (H : Host.HoldsAt m c D) (t : Fin cfg0.N) (j : S1x5632.Idx) :
    (outsAt0 m c t.val t.isLt).2.2.1 j = ((∑ n ∈ Finset.range (t.val + 1), bias D n (j 1).val : ℝ) : EReal) := by
  refine (Pipeline.eq_sum_of_reset_step_apply_single (fun n h => ((outsAt0 m c n h).2.2.1 : S1x5632.Idx → EReal)) 32 (fun _ => 0)
    (fun n j => ((bias D n (j 1).val : ℝ) : EReal)) (fun t h0 j => ?_) (fun t h0 j => ?_) (by decide) t j).trans ?_
  · obtain ⟨z, J, rfl⟩ : ∃ (z : Fin 1) (J : Fin 5632), j = ix2 z J := ⟨j 0, j 1, ValueIdx.eq_ix2 j⟩
    show (outsAt0 m c t.val t.isLt).2.2.1 (ix2 z J) = _
    rw [outsAt0_A m c t h0]
    have h := KernelPoint.A15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((hcond0_0 t).mpr h0) (blocks H t) z J
    rw [coord] at h
    refine Eq.trans ?_ (zero_add _).symm
    dsimp only
    exact h
  · obtain ⟨z, J, rfl⟩ : ∃ (z : Fin 1) (J : Fin 5632), j = ix2 z J := ⟨j 0, j 1, ValueIdx.eq_ix2 j⟩
    show (outsAt0 m c t.val t.isLt).2.2.1 (ix2 z J) = _
    rw [outsAt0_B m c t h0]
    have h := KernelPoint.B15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.2 (fun hc => h0 ((hcond0_0 t).mp hc)) (blocks H t) z J
    rw [coord] at h
    dsimp only
    exact h
  · rw [zero_add, Cert.Spec.coe_sum_range]

theorem out15 (H : Host.HoldsAt m c D) (z : Fin 1) (J : Fin 5632) :
    ((dats m 0 c).arrAt 15 cfg0.N : S1x5632.Idx → EReal) (ix2 z J) = (D.gb J : EReal) := by
  have e : (dats m 0 c).arrAt 15 cfg0.N = (outsAt0 m c last.val last.isLt).2.2.1 := by
    refine (dats m 0 c).arrAt_eq_of_after_last 15 last (by decide +kernel) _ fun j => ?_
    blk_simp
    rw [after0_15]
  rw [e]
  refine (sum15 H last (ix2 z J)).trans (congrArg _ ?_)
  refine (Cert.Spec.Tab.sum_tiles (fun r => D.dc r J) 32).trans ?_
  exact Finset.sum_range (fun r => D.dc r J)

/-- After point `t`, output 17 holds the sum over the tiles up to `t`'s. -/
theorem sum17 (H : Host.HoldsAt m c D) (t : Fin cfg0.N) (j : S1x1024.Idx) :
    (outsAt0 m c t.val t.isLt).2.2.2.2 j = ((∑ n ∈ Finset.range (t.val + 1), gain D n (j 1).val : ℝ) : EReal) := by
  refine (Pipeline.eq_sum_of_reset_step_apply_single (fun n h => ((outsAt0 m c n h).2.2.2.2 : S1x1024.Idx → EReal)) 32 (fun _ => 0)
    (fun n j => ((gain D n (j 1).val : ℝ) : EReal)) (fun t h0 j => ?_) (fun t h0 j => ?_) (by decide) t j).trans ?_
  · obtain ⟨z, i, rfl⟩ : ∃ (z : Fin 1) (i : Fin 1024), j = ix2 z i := ⟨j 0, j 1, ValueIdx.eq_ix2 j⟩
    show (outsAt0 m c t.val t.isLt).2.2.2.2 (ix2 z i) = _
    rw [outsAt0_A m c t h0]
    have h := KernelPoint.A17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((hcond0_0 t).mpr h0) (blocks H t) z i
    rw [coord] at h
    refine Eq.trans ?_ (zero_add _).symm
    dsimp only
    exact h
  · obtain ⟨z, i, rfl⟩ : ∃ (z : Fin 1) (i : Fin 1024), j = ix2 z i := ⟨j 0, j 1, ValueIdx.eq_ix2 j⟩
    show (outsAt0 m c t.val t.isLt).2.2.2.2 (ix2 z i) = _
    rw [outsAt0_B m c t h0]
    have h := KernelPoint.B17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.2 (fun hc => h0 ((hcond0_0 t).mp hc)) (blocks H t) z i
    rw [coord] at h
    dsimp only
    exact h
  · rw [zero_add, Cert.Spec.coe_sum_range]

theorem out17 (H : Host.HoldsAt m c D) (z : Fin 1) (i : Fin 1024) :
    ((dats m 0 c).arrAt 17 cfg0.N : S1x1024.Idx → EReal) (ix2 z i) = (D.gg i : EReal) := by
  have e : (dats m 0 c).arrAt 17 cfg0.N = (outsAt0 m c last.val last.isLt).2.2.2.2 := by
    refine (dats m 0 c).arrAt_eq_of_after_last 17 last (by decide +kernel) _ fun j => ?_
    blk_simp
    rw [after0_17]
  rw [e]
  refine (sum17 H last (ix2 z i)).trans (congrArg _ ?_)
  refine (Cert.Spec.Tab.sum_tiles (fun r => D.acc r i * (D.x r i * D.rs r)) 32).trans ?_
  exact Finset.sum_range (fun r => D.acc r i * (D.x r i * D.rs r))

end Cert.KernelValue
-- ==== Proof.UpWeight.lean ====
/- The gradient of the up projection: the kernel adds the products of four blocks of 2048 rows,
   one block of columns at a time, and leaves the sum over all rows. -/
module

public import proofs.«01_k».proof.Proof.Gen.Kernel2Ideal.Value
public import Idealize.ShloMosaic.Lib.Pipeline.ValueKit
public import Idealize.ShloMosaic.Lib.Pipeline.ReadBack
public import Idealize.ShloMosaic.Lib.StableHlo.RunRead
public import Idealize.ShloMosaic.Adequacy
public import Idealize.ShloMosaic.Init
public import proofs.«01_k».proof.Defs
public import proofs.«01_k».proof.Proof.Gen.Kernel2Ideal
public import proofs.«01_k».proof.Proof.Gen.Reference2Ideal
public import proofs.«01_k».proof.Proof.Gen.Reference2Ideal.Read

@[expose] public section

set_option maxRecDepth 16384

noncomputable section

namespace Cert.UpWeight

open Cert.Kernel2Ideal Cert.Kernel2Ideal.Gen Idealize.ShloMosaic Idealize.ShloMosaic.TcCoe Idealize.SL.Sem

/-- One block's contribution, added to what the blocks before it left. -/
theorem step (v : Vec Ideal S1024x1408 .f32) (x0 : Vec Ideal S2048x1024 .bf16) (x1 : Vec Ideal S2048x1408 .bf16) (i : Fin 1024) (j : Fin 1408) :
    k0_pay2 (F := Ideal) v x0 x1 (ix2 i j) = v (ix2 i j) + ∑ r : Fin 2048, x0 (ix2 r i) * x1 (ix2 r j) := by
  pointwise [k0_pay2]

section Point

variable (c : Dev nD) (i : grid0.Coords) (arg2 : Memref sig .tc .vmem S2048x1024 .bf16) (harg2 : arg2.IsWhole) (arg3 : Memref sig .tc .vmem S2048x1408 .bf16) (harg3 : arg3.IsWhole) (arg4 : Memref sig .tc .vmem S1024x1408 .bf16) (harg4 : arg4.IsWhole)
    (arg5 : Memref sig .tc .vmem S1024x1408 .f32) (harg5 : arg5.IsWhole)
  (x0 : Vec Ideal S2048x1024 .bf16) (x1 : Vec Ideal S2048x1408 .bf16) (xs : Vec Ideal S1024x1408 .f32) (a : Fin 1024) (j : Fin 1408)

theorem first (hc0 : cond0_0 i) (hc1 : ¬cond0_1 i) :
    sout0_A_0 c i arg2 harg2 arg3 harg3 arg4 harg4 arg5 harg5 hc0 hc1 x0 x1 (ix2 a j) = 0 + ∑ r : Fin 2048, x0 (ix2 r a) * x1 (ix2 r j) := by
  frame_open
  simp (disch := decide) only [↓ View.readCov_skip, ↓ View.readCov_cons_toLoadRect, ↓ View.readCov_fill]
  frame_out
  rw [step]
  congr 1
  pointwise [k0_pay1]

theorem next (hc0 : ¬cond0_0 i) (hc1 : ¬cond0_1 i) :
    sout0_B_0 c i arg2 harg2 arg3 harg3 arg4 harg4 arg5 harg5 hc0 hc1 x0 x1 xs (ix2 a j) = xs (ix2 a j) + ∑ r : Fin 2048, x0 (ix2 r a) * x1 (ix2 r j) := by
  frame_open
  frame_out
  rw [step]

theorem last (hc0 : ¬cond0_0 i) (hc1 : cond0_1 i) :
    sout0_C_0 c i arg2 harg2 arg3 harg3 arg4 harg4 arg5 harg5 hc0 hc1 x0 x1 xs (ix2 a j) = xs (ix2 a j) + ∑ r : Fin 2048, x0 (ix2 r a) * x1 (ix2 r j) := by
  frame_open
  frame_out
  rw [step]

theorem written (hc0 : ¬cond0_0 i) (hc1 : cond0_1 i) :
    out0_C_2 c i arg2 harg2 arg3 harg3 arg4 harg4 arg5 harg5 hc0 hc1 x0 x1 xs (ix2 a j) = xs (ix2 a j) + ∑ r : Fin 2048, x0 (ix2 r a) * x1 (ix2 r j) := by
  frame_open
  simp (disch := decide) only [↓ View.readCov_skip, ↓ View.readCov_cons_toLoadRect, ↓ View.readCov_fill]
  frame_out
  pointwise [k0_pay3]
  rw [step]

end Point

variable (m : (ℓ : Loc nD τ sig) → Buf (Elt Ideal) ℓ) (c : Dev nD)

/-- The two matrices, and the blocks of them that a point reads. -/
abbrev X : S8192x1024.Idx → EReal := m ((c : Thread nD τ).loc main_arg0)
abbrev Y : S8192x5632.Idx → EReal := m ((c : Thread nD τ).loc main_arg1)
abbrev blkX (t : Fin cfg0.N) : S2048x1024.Idx → EReal := iblk m c 0 t
abbrev blkY (t : Fin cfg0.N) : S2048x1408.Idx → EReal := iblk m c 1 t
abbrev term (t : Fin cfg0.N) (y : S1024x1408.Idx) : EReal := ∑ r : Fin 2048, blkX m c t (ix2 r (y 0)) * blkY m c t (ix2 r (y 1))

theorem index_at : ∀ t : Fin cfg0.N, win0_0.index t = ![t.val % 4, 0] ∧ win0_1.index t = ![t.val % 4, t.val / 4]
    ∧ win0_2.index t = ![0, t.val / 4] := by decide +kernel

/-- What the scratch holds after a point, from what it held before. -/
theorem scratch_first (t : Fin cfg0.N) (h0 : t.val % 4 = 0) (a : Fin 1024) (j : Fin 1408) :
    (outsAt0 m c t.val t.isLt).2 (ix2 a j) = 0 + term m c t (ix2 a j) := by
  have h1 : ¬t.val % 4 = 3 := by omega
  have h := first c (grid0.coords t) (ms0_0 t) (hs0_0 t) (ms0_1 t) (hs0_1 t) (ms0_2 t) (hs0_2 t) scM0_0 (Memref.isWhole_whole _) (iblk m c 0 t) (iblk m c 1 t) a j ((hcond0_0 t).mpr h0) (fun h => h1 ((hcond0_1 t).mp h))
  rw [outsAt0_A m c t h0 h1]
  dsimp only
  exact h

theorem scratch_next (t : Fin cfg0.N) (h0 : ¬t.val % 4 = 0) (a : Fin 1024) (j : Fin 1408) :
    (outsAt0 m c t.val t.isLt).2 (ix2 a j)
      = (outsAt0 m c (t.val - 1) (Nat.lt_of_le_of_lt (Nat.sub_le _ _) t.isLt)).2 (ix2 a j) + term m c t (ix2 a j) := by
  by_cases h1 : t.val % 4 = 3
  · have h := last c (grid0.coords t) (ms0_0 t) (hs0_0 t) (ms0_1 t) (hs0_1 t) (ms0_2 t) (hs0_2 t) scM0_0 (Memref.isWhole_whole _) (iblk m c 0 t) (iblk m c 1 t) (outsAt0 m c (t.val - 1) (Nat.lt_of_le_of_lt (Nat.sub_le _ _) t.isLt)).2 a j (fun h => h0 ((hcond0_0 t).mp h)) ((hcond0_1 t).mpr h1)
    rw [outsAt0_C m c t h0 h1]
    dsimp only
    exact h
  · have h := next c (grid0.coords t) (ms0_0 t) (hs0_0 t) (ms0_1 t) (hs0_1 t) (ms0_2 t) (hs0_2 t) scM0_0 (Memref.isWhole_whole _) (iblk m c 0 t) (iblk m c 1 t) (outsAt0 m c (t.val - 1) (Nat.lt_of_le_of_lt (Nat.sub_le _ _) t.isLt)).2 a j (fun h => h0 ((hcond0_0 t).mp h)) (fun h => h1 ((hcond0_1 t).mp h))
    rw [outsAt0_B m c t h0 h1]
    dsimp only
    exact h

/-- After the last block of rows, the scratch holds the sum of the four contributions. -/
theorem sum_of_blocks (t : Fin cfg0.N) (h : t.val % 4 = 4 - 1) (y : S1024x1408.Idx) :
    (outsAt0 m c t.val t.isLt).2 y = 0 + ∑ s : Fin 4, term m c ⟨4 * (t.val / 4) + s.val, Pipeline.run_point_lt_of_flush t h s⟩ y := by
  refine Pipeline.eq_sum_fin_of_reset_step_apply_of_flush (fun n h => ((outsAt0 m c n h).2 : S1024x1408.Idx → EReal)) 4 (fun _ => 0)
    (term m c) (fun t h0 y => ?_) (fun t h0 y => ?_) t h y
  · rw [ValueIdx.eq_ix2 y]
    exact scratch_first m c t h0 (y 0) (y 1)
  · rw [ValueIdx.eq_ix2 y]
    exact scratch_next m c t h0 (y 0) (y 1)

/-- What is written back is what the scratch holds. -/
theorem written_eq (t : Fin cfg0.N) (h : t.val % 4 = 3) (a : Fin 1024) (j : Fin 1408) :
    (outsAt0 m c t.val t.isLt).1 (ix2 a j) = (outsAt0 m c t.val t.isLt).2 (ix2 a j) := by
  have h0 : ¬t.val % 4 = 0 := by omega
  have e := written c (grid0.coords t) (ms0_0 t) (hs0_0 t) (ms0_1 t) (hs0_1 t) (ms0_2 t) (hs0_2 t) scM0_0 (Memref.isWhole_whole _) (iblk m c 0 t) (iblk m c 1 t) (outsAt0 m c (t.val - 1) (Nat.lt_of_le_of_lt (Nat.sub_le _ _) t.isLt)).2 a j (fun h => h0 ((hcond0_0 t).mp h)) ((hcond0_1 t).mpr h)
  refine Eq.trans ?_ (scratch_next m c t h0 a j).symm
  rw [outsAt0_C m c t h0 h]
  dsimp only
  exact e

theorem at_X (t : Fin cfg0.N) (r : Fin 2048) (i : Fin 1024) (h : t.val % 4 * 2048 + r.val < 8192) :
    blkX m c t (ix2 r i) = X m c (ix2 (⟨t.val % 4 * 2048 + r.val, h⟩ : Fin 8192) i) := by
  have e : iblk m c 0 t (ix2 r i) = V m c main_v0 (ix2 (⟨t.val % 4 * 2048 + r.val, h⟩ : Fin 8192) i) := by
    blk_ext [iblk, index_at t]
  have e' : V m c main_v0 = X m c := by
    unfold_abbrev_sides
    after_reads_simp
    rfl
  exact e.trans (congrFun e' _)

theorem at_Y (t : Fin cfg0.N) (r : Fin 2048) (j : Fin 1408) (h : t.val % 4 * 2048 + r.val < 8192) (h' : t.val / 4 * 1408 + j.val < 5632) :
    blkY m c t (ix2 r j) = Y m c (ix2 (⟨t.val % 4 * 2048 + r.val, h⟩ : Fin 8192) (⟨t.val / 4 * 1408 + j.val, h'⟩ : Fin 5632)) := by
  have e : iblk m c 1 t (ix2 r j) = V m c main_v1 (ix2 (⟨t.val % 4 * 2048 + r.val, h⟩ : Fin 8192) (⟨t.val / 4 * 1408 + j.val, h'⟩ : Fin 5632)) := by
    blk_ext [iblk, index_at t]
  have e' : V m c main_v1 = Y m c := by
    unfold_abbrev_sides
    after_reads_simp
    rfl
  exact e.trans (congrFun e' _)

/-- The four contributions are the product summed over all the rows. -/
theorem blocks_are_rows (t : Fin cfg0.N) (h : t.val % 4 = 4 - 1) (a : Fin 1024) (j : Fin 1408) (h' : t.val / 4 * 1408 + j.val < 5632) :
    ∑ s : Fin 4, term m c ⟨4 * (t.val / 4) + s.val, Pipeline.run_point_lt_of_flush t h s⟩ (ix2 a j)
      = ∑ r : Fin 8192, X m c (ix2 r a) * Y m c (ix2 r (⟨t.val / 4 * 1408 + j.val, h'⟩ : Fin 5632)) := by
  refine Eq.trans (Finset.sum_congr rfl fun s _ => Finset.sum_congr rfl fun r _ => ?_)
    (Fin.sum_mul_add_fin 4 2048 (fun r : Fin 8192 => X m c (ix2 r a) * Y m c (ix2 r (⟨t.val / 4 * 1408 + j.val, h'⟩ : Fin 5632))) rfl)
  have hs := s.isLt
  have hm : (4 * (t.val / 4) + s.val) % 4 = s.val := by omega
  have hd : (4 * (t.val / 4) + s.val) / 4 = t.val / 4 := by omega
  have hr := r.isLt
  refine congrArg₂ (fun x y : EReal => x * y) ?_ ?_
  · refine (at_X m c _ r a (by dsimp only; omega)).trans (congrArg (fun q => X m c (ix2 q a)) (Fin.ext ?_))
    dsimp only
    rw [hm]
  · refine (at_Y m c _ r j (by dsimp only; omega) (by dsimp only; omega)).trans (congrArg₂ (fun q p => Y m c (ix2 q p)) (Fin.ext ?_) (Fin.ext ?_))
    · dsimp only
      rw [hm]
    · dsimp only
      rw [hd]

/-- The whole result: every entry is the product summed over all the rows. -/
theorem result (i : Fin 1024) (j : Fin 5632) :
    ((dats m 0 c).arrAt 2 cfg0.N : S1024x5632.Idx → EReal) (ix2 i j) = ∑ r : Fin 8192, X m c (ix2 r i) * Y m c (ix2 r j) := by
  have e : (dats m 0 c).arrAt 2 cfg0.N = (fun x => ∑ r : Fin 8192, X m c (ix2 r (x 0)) * Y m c (ix2 r (x 1)) : S1024x5632.Idx → EReal) := by
    refine (dats m 0 c).arrAt_eq_of_covers 2 _ (by decide +kernel) fun t hf y => ?_
    blk_simp
    rw [after0_2]
    have ht : t.val < 16 := t.isLt
    have h3 : t.val % 4 = 3 := (flush0_2 t).mp hf
    obtain ⟨a, j, rfl⟩ : ∃ (a : Fin 1024) (j : Fin 1408), y = ix2 a j := ⟨y 0, y 1, ValueIdx.eq_ix2 y⟩
    refine (written_eq m c t h3 a j).trans ((sum_of_blocks m c t h3 (ix2 a j)).trans ((zero_add _).trans ((blocks_are_rows m c t h3 a j (by have := j.isLt; omega)).trans ?_)))
    have e0 : win0_2.index t 0 = 0 := by rw [(index_at t).2.2]; rfl
    have e1 : win0_2.index t 1 = t.val / 4 := by rw [(index_at t).2.2]; rfl
    refine Finset.sum_congr rfl fun r _ => congrArg₂ (fun x y : EReal => x * y) (congrArg (fun q => X m c (ix2 r q)) (Fin.ext ?_))
      (congrArg (fun q => Y m c (ix2 r q)) (Fin.ext ?_))
    · show (a : ℕ) = win0_2.index t 0 * 1024 + 1 * (a : ℕ); rw [e0]; omega
    · show t.val / 4 * 1408 + (j : ℕ) = win0_2.index t 1 * 1408 + 1 * (j : ℕ); rw [e1]; omega
  exact congrFun e (ix2 i j)

/-- An entry of the reference's product. -/
theorem reference_at (x : S8192x1024.Idx → EReal) (y : S8192x5632.Idx → EReal) (i : Fin 1024) (j : Fin 5632) :
    Cert.Reference2Ideal.Read.val_main_v2 (F := Ideal) x y (ix2 i j) = ∑ r : Fin 8192, x (ix2 r i) * y (ix2 r j) := by
  rw [Cert.Reference2Ideal.Read.val_main_v2_apply]
  refine (Cert.Reference2Ideal.Read.val_main_v1_apply x y (ix2 i j)).trans (Finset.sum_congr rfl fun r _ => congrArg₂ (fun a b : EReal => a * b) ?_ ?_)
  · rw [Cert.Reference2Ideal.Read.val_main_v0_apply]
    exact congrArg x (ValueIdx.eq_ix2 _)
  · exact congrArg y (ValueIdx.eq_ix2 _)

theorem reference : Cert.quiescent_Reference2Ideal (hReference2Ideal := Cert.Reference2Ideal.Gen.facts) := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

/-- The kernel and the reference compute the same matrix. -/
theorem algebraic : Cert.algebraic_Kernel2Ideal_Reference2Ideal (hKernel2Ideal := Cert.Kernel2Ideal.Gen.facts) (hReference2Ideal := Cert.Reference2Ideal.Gen.facts) := by
  pair_intro
  · run_from Cert.Kernel2Ideal.Value.run_blocks m g
  · refine (θ_run Cert.Reference2Ideal.defs _ _).mono (fun r h c => ?_) (Cert.Reference2Ideal.Value.run (F := Ideal) m' g')
    obtain ⟨h0, hk⟩ := h c
    obtain ⟨e0, e1⟩ := hagree c
    refine ⟨(h0.trans (Cert.Reference2Ideal.Read.val_main_v2_eq _ _)).trans ?_, hk⟩
    funext j
    obtain ⟨i, j, rfl⟩ : ∃ (i : Fin 1024) (J : Fin 5632), j = ix2 i J := ⟨j 0, j 1, ValueIdx.eq_ix2 j⟩
    refine Eq.trans ?_ (result m c i j).symm
    exact (reference_at _ _ i j).trans (Finset.sum_congr rfl fun r _ =>
      congrArg₂ (fun a b : EReal => a * b) (congrFun e0 (ix2 r i)) (congrFun e1 (ix2 r j)))

end Cert.UpWeight
-- ==== Proof.DownWeight.lean ====
/- The gradient of the down projection: the kernel adds the products of four blocks of 2048 rows,
   one block of columns at a time, and leaves the sum over all rows. -/
module

public import proofs.«01_k».proof.Proof.Gen.Kernel3Ideal.Value
public import Idealize.ShloMosaic.Lib.Pipeline.ValueKit
public import Idealize.ShloMosaic.Lib.Pipeline.ReadBack
public import Idealize.ShloMosaic.Lib.StableHlo.RunRead
public import Idealize.ShloMosaic.Adequacy
public import Idealize.ShloMosaic.Init
public import proofs.«01_k».proof.Defs
public import proofs.«01_k».proof.Proof.Gen.Kernel3Ideal
public import proofs.«01_k».proof.Proof.Gen.Reference3Ideal
public import proofs.«01_k».proof.Proof.Gen.Reference3Ideal.Read

@[expose] public section

set_option maxRecDepth 16384

noncomputable section

namespace Cert.DownWeight

open Cert.Kernel3Ideal Cert.Kernel3Ideal.Gen Idealize.ShloMosaic Idealize.ShloMosaic.TcCoe Idealize.SL.Sem

/-- One block's contribution, added to what the blocks before it left. -/
theorem step (v : Vec Ideal S2816x512 .f32) (x0 : Vec Ideal S2048x2816 .bf16) (x1 : Vec Ideal S2048x512 .bf16) (i : Fin 2816) (j : Fin 512) :
    k0_pay2 (F := Ideal) v x0 x1 (ix2 i j) = v (ix2 i j) + ∑ r : Fin 2048, x0 (ix2 r i) * x1 (ix2 r j) := by
  pointwise [k0_pay2]

section Point

variable (c : Dev nD) (i : grid0.Coords) (arg2 : Memref sig .tc .vmem S2048x2816 .bf16) (harg2 : arg2.IsWhole) (arg3 : Memref sig .tc .vmem S2048x512 .bf16) (harg3 : arg3.IsWhole) (arg4 : Memref sig .tc .vmem S2816x512 .bf16) (harg4 : arg4.IsWhole)
    (arg5 : Memref sig .tc .vmem S2816x512 .f32) (harg5 : arg5.IsWhole)
  (x0 : Vec Ideal S2048x2816 .bf16) (x1 : Vec Ideal S2048x512 .bf16) (xs : Vec Ideal S2816x512 .f32) (a : Fin 2816) (j : Fin 512)

theorem first (hc0 : cond0_0 i) (hc1 : ¬cond0_1 i) :
    sout0_A_0 c i arg2 harg2 arg3 harg3 arg4 harg4 arg5 harg5 hc0 hc1 x0 x1 (ix2 a j) = 0 + ∑ r : Fin 2048, x0 (ix2 r a) * x1 (ix2 r j) := by
  frame_open
  simp (disch := decide) only [↓ View.readCov_skip, ↓ View.readCov_cons_toLoadRect, ↓ View.readCov_fill]
  frame_out
  rw [step]
  congr 1
  pointwise [k0_pay1]

theorem next (hc0 : ¬cond0_0 i) (hc1 : ¬cond0_1 i) :
    sout0_B_0 c i arg2 harg2 arg3 harg3 arg4 harg4 arg5 harg5 hc0 hc1 x0 x1 xs (ix2 a j) = xs (ix2 a j) + ∑ r : Fin 2048, x0 (ix2 r a) * x1 (ix2 r j) := by
  frame_open
  frame_out
  rw [step]

theorem last (hc0 : ¬cond0_0 i) (hc1 : cond0_1 i) :
    sout0_C_0 c i arg2 harg2 arg3 harg3 arg4 harg4 arg5 harg5 hc0 hc1 x0 x1 xs (ix2 a j) = xs (ix2 a j) + ∑ r : Fin 2048, x0 (ix2 r a) * x1 (ix2 r j) := by
  frame_open
  frame_out
  rw [step]

theorem written (hc0 : ¬cond0_0 i) (hc1 : cond0_1 i) :
    out0_C_2 c i arg2 harg2 arg3 harg3 arg4 harg4 arg5 harg5 hc0 hc1 x0 x1 xs (ix2 a j) = xs (ix2 a j) + ∑ r : Fin 2048, x0 (ix2 r a) * x1 (ix2 r j) := by
  frame_open
  simp (disch := decide) only [↓ View.readCov_skip, ↓ View.readCov_cons_toLoadRect, ↓ View.readCov_fill]
  frame_out
  pointwise [k0_pay3]
  rw [step]

end Point

variable (m : (ℓ : Loc nD τ sig) → Buf (Elt Ideal) ℓ) (c : Dev nD)

/-- The two matrices, and the blocks of them that a point reads. -/
abbrev X : S8192x2816.Idx → EReal := m ((c : Thread nD τ).loc main_arg0)
abbrev Y : S8192x1024.Idx → EReal := m ((c : Thread nD τ).loc main_arg1)
abbrev blkX (t : Fin cfg0.N) : S2048x2816.Idx → EReal := iblk m c 0 t
abbrev blkY (t : Fin cfg0.N) : S2048x512.Idx → EReal := iblk m c 1 t
abbrev term (t : Fin cfg0.N) (y : S2816x512.Idx) : EReal := ∑ r : Fin 2048, blkX m c t (ix2 r (y 0)) * blkY m c t (ix2 r (y 1))

theorem index_at : ∀ t : Fin cfg0.N, win0_0.index t = ![t.val % 4, 0] ∧ win0_1.index t = ![t.val % 4, t.val / 4]
    ∧ win0_2.index t = ![0, t.val / 4] := by decide +kernel

/-- What the scratch holds after a point, from what it held before. -/
theorem scratch_first (t : Fin cfg0.N) (h0 : t.val % 4 = 0) (a : Fin 2816) (j : Fin 512) :
    (outsAt0 m c t.val t.isLt).2 (ix2 a j) = 0 + term m c t (ix2 a j) := by
  have h1 : ¬t.val % 4 = 3 := by omega
  have h := first c (grid0.coords t) (ms0_0 t) (hs0_0 t) (ms0_1 t) (hs0_1 t) (ms0_2 t) (hs0_2 t) scM0_0 (Memref.isWhole_whole _) (iblk m c 0 t) (iblk m c 1 t) a j ((hcond0_0 t).mpr h0) (fun h => h1 ((hcond0_1 t).mp h))
  rw [outsAt0_A m c t h0 h1]
  dsimp only
  exact h

theorem scratch_next (t : Fin cfg0.N) (h0 : ¬t.val % 4 = 0) (a : Fin 2816) (j : Fin 512) :
    (outsAt0 m c t.val t.isLt).2 (ix2 a j)
      = (outsAt0 m c (t.val - 1) (Nat.lt_of_le_of_lt (Nat.sub_le _ _) t.isLt)).2 (ix2 a j) + term m c t (ix2 a j) := by
  by_cases h1 : t.val % 4 = 3
  · have h := last c (grid0.coords t) (ms0_0 t) (hs0_0 t) (ms0_1 t) (hs0_1 t) (ms0_2 t) (hs0_2 t) scM0_0 (Memref.isWhole_whole _) (iblk m c 0 t) (iblk m c 1 t) (outsAt0 m c (t.val - 1) (Nat.lt_of_le_of_lt (Nat.sub_le _ _) t.isLt)).2 a j (fun h => h0 ((hcond0_0 t).mp h)) ((hcond0_1 t).mpr h1)
    rw [outsAt0_C m c t h0 h1]
    dsimp only
    exact h
  · have h := next c (grid0.coords t) (ms0_0 t) (hs0_0 t) (ms0_1 t) (hs0_1 t) (ms0_2 t) (hs0_2 t) scM0_0 (Memref.isWhole_whole _) (iblk m c 0 t) (iblk m c 1 t) (outsAt0 m c (t.val - 1) (Nat.lt_of_le_of_lt (Nat.sub_le _ _) t.isLt)).2 a j (fun h => h0 ((hcond0_0 t).mp h)) (fun h => h1 ((hcond0_1 t).mp h))
    rw [outsAt0_B m c t h0 h1]
    dsimp only
    exact h

/-- After the last block of rows, the scratch holds the sum of the four contributions. -/
theorem sum_of_blocks (t : Fin cfg0.N) (h : t.val % 4 = 4 - 1) (y : S2816x512.Idx) :
    (outsAt0 m c t.val t.isLt).2 y = 0 + ∑ s : Fin 4, term m c ⟨4 * (t.val / 4) + s.val, Pipeline.run_point_lt_of_flush t h s⟩ y := by
  refine Pipeline.eq_sum_fin_of_reset_step_apply_of_flush (fun n h => ((outsAt0 m c n h).2 : S2816x512.Idx → EReal)) 4 (fun _ => 0)
    (term m c) (fun t h0 y => ?_) (fun t h0 y => ?_) t h y
  · rw [ValueIdx.eq_ix2 y]
    exact scratch_first m c t h0 (y 0) (y 1)
  · rw [ValueIdx.eq_ix2 y]
    exact scratch_next m c t h0 (y 0) (y 1)

/-- What is written back is what the scratch holds. -/
theorem written_eq (t : Fin cfg0.N) (h : t.val % 4 = 3) (a : Fin 2816) (j : Fin 512) :
    (outsAt0 m c t.val t.isLt).1 (ix2 a j) = (outsAt0 m c t.val t.isLt).2 (ix2 a j) := by
  have h0 : ¬t.val % 4 = 0 := by omega
  have e := written c (grid0.coords t) (ms0_0 t) (hs0_0 t) (ms0_1 t) (hs0_1 t) (ms0_2 t) (hs0_2 t) scM0_0 (Memref.isWhole_whole _) (iblk m c 0 t) (iblk m c 1 t) (outsAt0 m c (t.val - 1) (Nat.lt_of_le_of_lt (Nat.sub_le _ _) t.isLt)).2 a j (fun h => h0 ((hcond0_0 t).mp h)) ((hcond0_1 t).mpr h)
  refine Eq.trans ?_ (scratch_next m c t h0 a j).symm
  rw [outsAt0_C m c t h0 h]
  dsimp only
  exact e

theorem at_X (t : Fin cfg0.N) (r : Fin 2048) (i : Fin 2816) (h : t.val % 4 * 2048 + r.val < 8192) :
    blkX m c t (ix2 r i) = X m c (ix2 (⟨t.val % 4 * 2048 + r.val, h⟩ : Fin 8192) i) := by
  have e : iblk m c 0 t (ix2 r i) = V m c main_v0 (ix2 (⟨t.val % 4 * 2048 + r.val, h⟩ : Fin 8192) i) := by
    blk_ext [iblk, index_at t]
  have e' : V m c main_v0 = X m c := by
    unfold_abbrev_sides
    after_reads_simp
    rfl
  exact e.trans (congrFun e' _)

theorem at_Y (t : Fin cfg0.N) (r : Fin 2048) (j : Fin 512) (h : t.val % 4 * 2048 + r.val < 8192) (h' : t.val / 4 * 512 + j.val < 1024) :
    blkY m c t (ix2 r j) = Y m c (ix2 (⟨t.val % 4 * 2048 + r.val, h⟩ : Fin 8192) (⟨t.val / 4 * 512 + j.val, h'⟩ : Fin 1024)) := by
  have e : iblk m c 1 t (ix2 r j) = V m c main_v1 (ix2 (⟨t.val % 4 * 2048 + r.val, h⟩ : Fin 8192) (⟨t.val / 4 * 512 + j.val, h'⟩ : Fin 1024)) := by
    blk_ext [iblk, index_at t]
  have e' : V m c main_v1 = Y m c := by
    unfold_abbrev_sides
    after_reads_simp
    rfl
  exact e.trans (congrFun e' _)

/-- The four contributions are the product summed over all the rows. -/
theorem blocks_are_rows (t : Fin cfg0.N) (h : t.val % 4 = 4 - 1) (a : Fin 2816) (j : Fin 512) (h' : t.val / 4 * 512 + j.val < 1024) :
    ∑ s : Fin 4, term m c ⟨4 * (t.val / 4) + s.val, Pipeline.run_point_lt_of_flush t h s⟩ (ix2 a j)
      = ∑ r : Fin 8192, X m c (ix2 r a) * Y m c (ix2 r (⟨t.val / 4 * 512 + j.val, h'⟩ : Fin 1024)) := by
  refine Eq.trans (Finset.sum_congr rfl fun s _ => Finset.sum_congr rfl fun r _ => ?_)
    (Fin.sum_mul_add_fin 4 2048 (fun r : Fin 8192 => X m c (ix2 r a) * Y m c (ix2 r (⟨t.val / 4 * 512 + j.val, h'⟩ : Fin 1024))) rfl)
  have hs := s.isLt
  have hm : (4 * (t.val / 4) + s.val) % 4 = s.val := by omega
  have hd : (4 * (t.val / 4) + s.val) / 4 = t.val / 4 := by omega
  have hr := r.isLt
  refine congrArg₂ (fun x y : EReal => x * y) ?_ ?_
  · refine (at_X m c _ r a (by dsimp only; omega)).trans (congrArg (fun q => X m c (ix2 q a)) (Fin.ext ?_))
    dsimp only
    rw [hm]
  · refine (at_Y m c _ r j (by dsimp only; omega) (by dsimp only; omega)).trans (congrArg₂ (fun q p => Y m c (ix2 q p)) (Fin.ext ?_) (Fin.ext ?_))
    · dsimp only
      rw [hm]
    · dsimp only
      rw [hd]

/-- The whole result: every entry is the product summed over all the rows. -/
theorem result (i : Fin 2816) (j : Fin 1024) :
    ((dats m 0 c).arrAt 2 cfg0.N : S2816x1024.Idx → EReal) (ix2 i j) = ∑ r : Fin 8192, X m c (ix2 r i) * Y m c (ix2 r j) := by
  have e : (dats m 0 c).arrAt 2 cfg0.N = (fun x => ∑ r : Fin 8192, X m c (ix2 r (x 0)) * Y m c (ix2 r (x 1)) : S2816x1024.Idx → EReal) := by
    refine (dats m 0 c).arrAt_eq_of_covers 2 _ (by decide +kernel) fun t hf y => ?_
    blk_simp
    rw [after0_2]
    have ht : t.val < 8 := t.isLt
    have h3 : t.val % 4 = 3 := (flush0_2 t).mp hf
    obtain ⟨a, j, rfl⟩ : ∃ (a : Fin 2816) (j : Fin 512), y = ix2 a j := ⟨y 0, y 1, ValueIdx.eq_ix2 y⟩
    refine (written_eq m c t h3 a j).trans ((sum_of_blocks m c t h3 (ix2 a j)).trans ((zero_add _).trans ((blocks_are_rows m c t h3 a j (by have := j.isLt; omega)).trans ?_)))
    have e0 : win0_2.index t 0 = 0 := by rw [(index_at t).2.2]; rfl
    have e1 : win0_2.index t 1 = t.val / 4 := by rw [(index_at t).2.2]; rfl
    refine Finset.sum_congr rfl fun r _ => congrArg₂ (fun x y : EReal => x * y) (congrArg (fun q => X m c (ix2 r q)) (Fin.ext ?_))
      (congrArg (fun q => Y m c (ix2 r q)) (Fin.ext ?_))
    · show (a : ℕ) = win0_2.index t 0 * 2816 + 1 * (a : ℕ); rw [e0]; omega
    · show t.val / 4 * 512 + (j : ℕ) = win0_2.index t 1 * 512 + 1 * (j : ℕ); rw [e1]; omega
  exact congrFun e (ix2 i j)

/-- An entry of the reference's product. -/
theorem reference_at (x : S8192x2816.Idx → EReal) (y : S8192x1024.Idx → EReal) (i : Fin 2816) (j : Fin 1024) :
    Cert.Reference3Ideal.Read.val_main_v2 (F := Ideal) x y (ix2 i j) = ∑ r : Fin 8192, x (ix2 r i) * y (ix2 r j) := by
  rw [Cert.Reference3Ideal.Read.val_main_v2_apply]
  refine (Cert.Reference3Ideal.Read.val_main_v1_apply x y (ix2 i j)).trans (Finset.sum_congr rfl fun r _ => congrArg₂ (fun a b : EReal => a * b) ?_ ?_)
  · rw [Cert.Reference3Ideal.Read.val_main_v0_apply]
    exact congrArg x (ValueIdx.eq_ix2 _)
  · exact congrArg y (ValueIdx.eq_ix2 _)

theorem reference : Cert.quiescent_Reference3Ideal (hReference3Ideal := Cert.Reference3Ideal.Gen.facts) := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

/-- The kernel and the reference compute the same matrix. -/
theorem algebraic : Cert.algebraic_Kernel3Ideal_Reference3Ideal (hKernel3Ideal := Cert.Kernel3Ideal.Gen.facts) (hReference3Ideal := Cert.Reference3Ideal.Gen.facts) := by
  pair_intro
  · run_from Cert.Kernel3Ideal.Value.run_blocks m g
  · refine (θ_run Cert.Reference3Ideal.defs _ _).mono (fun r h c => ?_) (Cert.Reference3Ideal.Value.run (F := Ideal) m' g')
    obtain ⟨h0, hk⟩ := h c
    obtain ⟨e0, e1⟩ := hagree c
    refine ⟨(h0.trans (Cert.Reference3Ideal.Read.val_main_v2_eq _ _)).trans ?_, hk⟩
    funext j
    obtain ⟨i, j, rfl⟩ : ∃ (i : Fin 2816) (J : Fin 1024), j = ix2 i J := ⟨j 0, j 1, ValueIdx.eq_ix2 j⟩
    refine Eq.trans ?_ (result m c i j).symm
    exact (reference_at _ _ i j).trans (Finset.sum_congr rfl fun r _ =>
      congrArg₂ (fun a b : EReal => a * b) (congrFun e0 (ix2 r i)) (congrFun e1 (ix2 r j)))

end Cert.DownWeight
-- ==== Proof.MixWeight.lean ====
/- The gradient of the mixing projection: the kernel adds the products of four blocks of 2048 rows,
   one block of columns at a time, and leaves the sum over all rows. -/
module

public import proofs.«01_k».proof.Proof.Gen.Kernel4Ideal.Value
public import Idealize.ShloMosaic.Lib.Pipeline.ValueKit
public import Idealize.ShloMosaic.Lib.Pipeline.ReadBack
public import Idealize.ShloMosaic.Lib.StableHlo.RunRead
public import Idealize.ShloMosaic.Adequacy
public import Idealize.ShloMosaic.Init
public import proofs.«01_k».proof.Defs
public import proofs.«01_k».proof.Proof.Gen.Kernel4Ideal
public import proofs.«01_k».proof.Proof.Gen.Reference4Ideal
public import proofs.«01_k».proof.Proof.Gen.Reference4Ideal.Read

@[expose] public section

set_option maxRecDepth 16384

noncomputable section

namespace Cert.MixWeight

open Cert.Kernel4Ideal Cert.Kernel4Ideal.Gen Idealize.ShloMosaic Idealize.ShloMosaic.TcCoe Idealize.SL.Sem

/-- One block's contribution, added to what the blocks before it left. -/
theorem step (v : Vec Ideal S1024x1024 .f32) (x0 : Vec Ideal S2048x1024 .bf16) (x1 : Vec Ideal S2048x1024 .bf16) (i : Fin 1024) (j : Fin 1024) :
    k0_pay2 (F := Ideal) v x0 x1 (ix2 i j) = v (ix2 i j) + ∑ r : Fin 2048, x0 (ix2 r i) * x1 (ix2 r j) := by
  pointwise [k0_pay2]

section Point

variable (c : Dev nD) (i : grid0.Coords) (arg2 : Memref sig .tc .vmem S2048x1024 .bf16) (harg2 : arg2.IsWhole) (arg3 : Memref sig .tc .vmem S2048x1024 .bf16) (harg3 : arg3.IsWhole) (arg4 : Memref sig .tc .vmem S1024x1024 .bf16) (harg4 : arg4.IsWhole)
    (arg5 : Memref sig .tc .vmem S1024x1024 .f32) (harg5 : arg5.IsWhole)
  (x0 : Vec Ideal S2048x1024 .bf16) (x1 : Vec Ideal S2048x1024 .bf16) (xs : Vec Ideal S1024x1024 .f32) (a : Fin 1024) (j : Fin 1024)

theorem first (hc0 : cond0_0 i) (hc1 : ¬cond0_1 i) :
    sout0_A_0 c i arg2 harg2 arg3 harg3 arg4 harg4 arg5 harg5 hc0 hc1 x0 x1 (ix2 a j) = 0 + ∑ r : Fin 2048, x0 (ix2 r a) * x1 (ix2 r j) := by
  frame_open
  simp (disch := decide) only [↓ View.readCov_skip, ↓ View.readCov_cons_toLoadRect, ↓ View.readCov_fill]
  frame_out
  rw [step]
  congr 1
  pointwise [k0_pay1]

theorem next (hc0 : ¬cond0_0 i) (hc1 : ¬cond0_1 i) :
    sout0_B_0 c i arg2 harg2 arg3 harg3 arg4 harg4 arg5 harg5 hc0 hc1 x0 x1 xs (ix2 a j) = xs (ix2 a j) + ∑ r : Fin 2048, x0 (ix2 r a) * x1 (ix2 r j) := by
  frame_open
  frame_out
  rw [step]

theorem last (hc0 : ¬cond0_0 i) (hc1 : cond0_1 i) :
    sout0_C_0 c i arg2 harg2 arg3 harg3 arg4 harg4 arg5 harg5 hc0 hc1 x0 x1 xs (ix2 a j) = xs (ix2 a j) + ∑ r : Fin 2048, x0 (ix2 r a) * x1 (ix2 r j) := by
  frame_open
  frame_out
  rw [step]

theorem written (hc0 : ¬cond0_0 i) (hc1 : cond0_1 i) :
    out0_C_2 c i arg2 harg2 arg3 harg3 arg4 harg4 arg5 harg5 hc0 hc1 x0 x1 xs (ix2 a j) = xs (ix2 a j) + ∑ r : Fin 2048, x0 (ix2 r a) * x1 (ix2 r j) := by
  frame_open
  simp (disch := decide) only [↓ View.readCov_skip, ↓ View.readCov_cons_toLoadRect, ↓ View.readCov_fill]
  frame_out
  pointwise [k0_pay3]
  rw [step]

end Point

variable (m : (ℓ : Loc nD τ sig) → Buf (Elt Ideal) ℓ) (c : Dev nD)

/-- The two matrices, and the blocks of them that a point reads. -/
abbrev X : S8192x1024.Idx → EReal := m ((c : Thread nD τ).loc main_arg0)
abbrev Y : S8192x1024.Idx → EReal := m ((c : Thread nD τ).loc main_arg1)
abbrev blkX (t : Fin cfg0.N) : S2048x1024.Idx → EReal := iblk m c 0 t
abbrev blkY (t : Fin cfg0.N) : S2048x1024.Idx → EReal := iblk m c 1 t
abbrev term (t : Fin cfg0.N) (y : S1024x1024.Idx) : EReal := ∑ r : Fin 2048, blkX m c t (ix2 r (y 0)) * blkY m c t (ix2 r (y 1))

theorem index_at : ∀ t : Fin cfg0.N, win0_0.index t = ![t.val % 4, 0] ∧ win0_1.index t = ![t.val % 4, t.val / 4]
    ∧ win0_2.index t = ![0, t.val / 4] := by decide +kernel

/-- What the scratch holds after a point, from what it held before. -/
theorem scratch_first (t : Fin cfg0.N) (h0 : t.val % 4 = 0) (a : Fin 1024) (j : Fin 1024) :
    (outsAt0 m c t.val t.isLt).2 (ix2 a j) = 0 + term m c t (ix2 a j) := by
  have h1 : ¬t.val % 4 = 3 := by omega
  have h := first c (grid0.coords t) (ms0_0 t) (hs0_0 t) (ms0_1 t) (hs0_1 t) (ms0_2 t) (hs0_2 t) scM0_0 (Memref.isWhole_whole _) (iblk m c 0 t) (iblk m c 1 t) a j ((hcond0_0 t).mpr h0) (fun h => h1 ((hcond0_1 t).mp h))
  rw [outsAt0_A m c t h0 h1]
  dsimp only
  exact h

theorem scratch_next (t : Fin cfg0.N) (h0 : ¬t.val % 4 = 0) (a : Fin 1024) (j : Fin 1024) :
    (outsAt0 m c t.val t.isLt).2 (ix2 a j)
      = (outsAt0 m c (t.val - 1) (Nat.lt_of_le_of_lt (Nat.sub_le _ _) t.isLt)).2 (ix2 a j) + term m c t (ix2 a j) := by
  by_cases h1 : t.val % 4 = 3
  · have h := last c (grid0.coords t) (ms0_0 t) (hs0_0 t) (ms0_1 t) (hs0_1 t) (ms0_2 t) (hs0_2 t) scM0_0 (Memref.isWhole_whole _) (iblk m c 0 t) (iblk m c 1 t) (outsAt0 m c (t.val - 1) (Nat.lt_of_le_of_lt (Nat.sub_le _ _) t.isLt)).2 a j (fun h => h0 ((hcond0_0 t).mp h)) ((hcond0_1 t).mpr h1)
    rw [outsAt0_C m c t h0 h1]
    dsimp only
    exact h
  · have h := next c (grid0.coords t) (ms0_0 t) (hs0_0 t) (ms0_1 t) (hs0_1 t) (ms0_2 t) (hs0_2 t) scM0_0 (Memref.isWhole_whole _) (iblk m c 0 t) (iblk m c 1 t) (outsAt0 m c (t.val - 1) (Nat.lt_of_le_of_lt (Nat.sub_le _ _) t.isLt)).2 a j (fun h => h0 ((hcond0_0 t).mp h)) (fun h => h1 ((hcond0_1 t).mp h))
    rw [outsAt0_B m c t h0 h1]
    dsimp only
    exact h

/-- After the last block of rows, the scratch holds the sum of the four contributions. -/
theorem sum_of_blocks (t : Fin cfg0.N) (h : t.val % 4 = 4 - 1) (y : S1024x1024.Idx) :
    (outsAt0 m c t.val t.isLt).2 y = 0 + ∑ s : Fin 4, term m c ⟨4 * (t.val / 4) + s.val, Pipeline.run_point_lt_of_flush t h s⟩ y := by
  refine Pipeline.eq_sum_fin_of_reset_step_apply_of_flush (fun n h => ((outsAt0 m c n h).2 : S1024x1024.Idx → EReal)) 4 (fun _ => 0)
    (term m c) (fun t h0 y => ?_) (fun t h0 y => ?_) t h y
  · rw [ValueIdx.eq_ix2 y]
    exact scratch_first m c t h0 (y 0) (y 1)
  · rw [ValueIdx.eq_ix2 y]
    exact scratch_next m c t h0 (y 0) (y 1)

/-- What is written back is what the scratch holds. -/
theorem written_eq (t : Fin cfg0.N) (h : t.val % 4 = 3) (a : Fin 1024) (j : Fin 1024) :
    (outsAt0 m c t.val t.isLt).1 (ix2 a j) = (outsAt0 m c t.val t.isLt).2 (ix2 a j) := by
  have h0 : ¬t.val % 4 = 0 := by omega
  have e := written c (grid0.coords t) (ms0_0 t) (hs0_0 t) (ms0_1 t) (hs0_1 t) (ms0_2 t) (hs0_2 t) scM0_0 (Memref.isWhole_whole _) (iblk m c 0 t) (iblk m c 1 t) (outsAt0 m c (t.val - 1) (Nat.lt_of_le_of_lt (Nat.sub_le _ _) t.isLt)).2 a j (fun h => h0 ((hcond0_0 t).mp h)) ((hcond0_1 t).mpr h)
  refine Eq.trans ?_ (scratch_next m c t h0 a j).symm
  rw [outsAt0_C m c t h0 h]
  dsimp only
  exact e

theorem at_X (t : Fin cfg0.N) (r : Fin 2048) (i : Fin 1024) (h : t.val % 4 * 2048 + r.val < 8192) :
    blkX m c t (ix2 r i) = X m c (ix2 (⟨t.val % 4 * 2048 + r.val, h⟩ : Fin 8192) i) := by
  have e : iblk m c 0 t (ix2 r i) = V m c main_v0 (ix2 (⟨t.val % 4 * 2048 + r.val, h⟩ : Fin 8192) i) := by
    blk_ext [iblk, index_at t]
  have e' : V m c main_v0 = X m c := by
    unfold_abbrev_sides
    after_reads_simp
    rfl
  exact e.trans (congrFun e' _)

theorem at_Y (t : Fin cfg0.N) (r : Fin 2048) (j : Fin 1024) (h : t.val % 4 * 2048 + r.val < 8192) (h' : t.val / 4 * 1024 + j.val < 1024) :
    blkY m c t (ix2 r j) = Y m c (ix2 (⟨t.val % 4 * 2048 + r.val, h⟩ : Fin 8192) (⟨t.val / 4 * 1024 + j.val, h'⟩ : Fin 1024)) := by
  have e : iblk m c 1 t (ix2 r j) = V m c main_v1 (ix2 (⟨t.val % 4 * 2048 + r.val, h⟩ : Fin 8192) (⟨t.val / 4 * 1024 + j.val, h'⟩ : Fin 1024)) := by
    blk_ext [iblk, index_at t]
  have e' : V m c main_v1 = Y m c := by
    unfold_abbrev_sides
    after_reads_simp
    rfl
  exact e.trans (congrFun e' _)

/-- The four contributions are the product summed over all the rows. -/
theorem blocks_are_rows (t : Fin cfg0.N) (h : t.val % 4 = 4 - 1) (a : Fin 1024) (j : Fin 1024) (h' : t.val / 4 * 1024 + j.val < 1024) :
    ∑ s : Fin 4, term m c ⟨4 * (t.val / 4) + s.val, Pipeline.run_point_lt_of_flush t h s⟩ (ix2 a j)
      = ∑ r : Fin 8192, X m c (ix2 r a) * Y m c (ix2 r (⟨t.val / 4 * 1024 + j.val, h'⟩ : Fin 1024)) := by
  refine Eq.trans (Finset.sum_congr rfl fun s _ => Finset.sum_congr rfl fun r _ => ?_)
    (Fin.sum_mul_add_fin 4 2048 (fun r : Fin 8192 => X m c (ix2 r a) * Y m c (ix2 r (⟨t.val / 4 * 1024 + j.val, h'⟩ : Fin 1024))) rfl)
  have hs := s.isLt
  have hm : (4 * (t.val / 4) + s.val) % 4 = s.val := by omega
  have hd : (4 * (t.val / 4) + s.val) / 4 = t.val / 4 := by omega
  have hr := r.isLt
  refine congrArg₂ (fun x y : EReal => x * y) ?_ ?_
  · refine (at_X m c _ r a (by dsimp only; omega)).trans (congrArg (fun q => X m c (ix2 q a)) (Fin.ext ?_))
    dsimp only
    rw [hm]
  · refine (at_Y m c _ r j (by dsimp only; omega) (by dsimp only; omega)).trans (congrArg₂ (fun q p => Y m c (ix2 q p)) (Fin.ext ?_) (Fin.ext ?_))
    · dsimp only
      rw [hm]
    · dsimp only
      rw [hd]

/-- The whole result: every entry is the product summed over all the rows. -/
theorem result (i : Fin 1024) (j : Fin 1024) :
    ((dats m 0 c).arrAt 2 cfg0.N : S1024x1024.Idx → EReal) (ix2 i j) = ∑ r : Fin 8192, X m c (ix2 r i) * Y m c (ix2 r j) := by
  have e : (dats m 0 c).arrAt 2 cfg0.N = (fun x => ∑ r : Fin 8192, X m c (ix2 r (x 0)) * Y m c (ix2 r (x 1)) : S1024x1024.Idx → EReal) := by
    refine (dats m 0 c).arrAt_eq_of_covers 2 _ (by decide +kernel) fun t hf y => ?_
    blk_simp
    rw [after0_2]
    have ht : t.val < 4 := t.isLt
    have h3 : t.val % 4 = 3 := (flush0_2 t).mp hf
    obtain ⟨a, j, rfl⟩ : ∃ (a : Fin 1024) (j : Fin 1024), y = ix2 a j := ⟨y 0, y 1, ValueIdx.eq_ix2 y⟩
    refine (written_eq m c t h3 a j).trans ((sum_of_blocks m c t h3 (ix2 a j)).trans ((zero_add _).trans ((blocks_are_rows m c t h3 a j (by have := j.isLt; omega)).trans ?_)))
    have e0 : win0_2.index t 0 = 0 := by rw [(index_at t).2.2]; rfl
    have e1 : win0_2.index t 1 = t.val / 4 := by rw [(index_at t).2.2]; rfl
    refine Finset.sum_congr rfl fun r _ => congrArg₂ (fun x y : EReal => x * y) (congrArg (fun q => X m c (ix2 r q)) (Fin.ext ?_))
      (congrArg (fun q => Y m c (ix2 r q)) (Fin.ext ?_))
    · show (a : ℕ) = win0_2.index t 0 * 1024 + 1 * (a : ℕ); rw [e0]; omega
    · show t.val / 4 * 1024 + (j : ℕ) = win0_2.index t 1 * 1024 + 1 * (j : ℕ); rw [e1]; omega
  exact congrFun e (ix2 i j)

/-- An entry of the reference's product. -/
theorem reference_at (x : S8192x1024.Idx → EReal) (y : S8192x1024.Idx → EReal) (i : Fin 1024) (j : Fin 1024) :
    Cert.Reference4Ideal.Read.val_main_v2 (F := Ideal) x y (ix2 i j) = ∑ r : Fin 8192, x (ix2 r i) * y (ix2 r j) := by
  rw [Cert.Reference4Ideal.Read.val_main_v2_apply]
  refine (Cert.Reference4Ideal.Read.val_main_v1_apply x y (ix2 i j)).trans (Finset.sum_congr rfl fun r _ => congrArg₂ (fun a b : EReal => a * b) ?_ ?_)
  · rw [Cert.Reference4Ideal.Read.val_main_v0_apply]
    exact congrArg x (ValueIdx.eq_ix2 _)
  · exact congrArg y (ValueIdx.eq_ix2 _)

theorem reference : Cert.quiescent_Reference4Ideal (hReference4Ideal := Cert.Reference4Ideal.Gen.facts) := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

/-- The kernel and the reference compute the same matrix. -/
theorem algebraic : Cert.algebraic_Kernel4Ideal_Reference4Ideal (hKernel4Ideal := Cert.Kernel4Ideal.Gen.facts) (hReference4Ideal := Cert.Reference4Ideal.Gen.facts) := by
  pair_intro
  · run_from Cert.Kernel4Ideal.Value.run_blocks m g
  · refine (θ_run Cert.Reference4Ideal.defs _ _).mono (fun r h c => ?_) (Cert.Reference4Ideal.Value.run (F := Ideal) m' g')
    obtain ⟨h0, hk⟩ := h c
    obtain ⟨e0, e1⟩ := hagree c
    refine ⟨(h0.trans (Cert.Reference4Ideal.Read.val_main_v2_eq _ _)).trans ?_, hk⟩
    funext j
    obtain ⟨i, j, rfl⟩ : ∃ (i : Fin 1024) (J : Fin 1024), j = ix2 i J := ⟨j 0, j 1, ValueIdx.eq_ix2 j⟩
    refine Eq.trans ?_ (result m c i j).symm
    exact (reference_at _ _ i j).trans (Finset.sum_congr rfl fun r _ =>
      congrArg₂ (fun a b : EReal => a * b) (congrFun e0 (ix2 r i)) (congrFun e1 (ix2 r j)))

end Cert.MixWeight
-- ==== Proof.AOutWeight.lean ====
/- The gradient of the first branch's output projection: the kernel adds the products of four blocks of 2048 rows,
   one block of columns at a time, and leaves the sum over all rows. -/
module

public import proofs.«01_k».proof.Proof.Gen.Kernel5Ideal.Value
public import Idealize.ShloMosaic.Lib.Pipeline.ValueKit
public import Idealize.ShloMosaic.Lib.Pipeline.ReadBack
public import Idealize.ShloMosaic.Lib.StableHlo.RunRead
public import Idealize.ShloMosaic.Adequacy
public import Idealize.ShloMosaic.Init
public import proofs.«01_k».proof.Defs
public import proofs.«01_k».proof.Proof.Gen.Kernel5Ideal
public import proofs.«01_k».proof.Proof.Gen.Reference5Ideal
public import proofs.«01_k».proof.Proof.Gen.Reference5Ideal.Read

@[expose] public section

set_option maxRecDepth 16384

noncomputable section

namespace Cert.AOutWeight

open Cert.Kernel5Ideal Cert.Kernel5Ideal.Gen Idealize.ShloMosaic Idealize.ShloMosaic.TcCoe Idealize.SL.Sem

/-- One block's contribution, added to what the blocks before it left. -/
theorem step (v : Vec Ideal S512x1024 .f32) (x0 : Vec Ideal S2048x512 .bf16) (x1 : Vec Ideal S2048x1024 .bf16) (i : Fin 512) (j : Fin 1024) :
    k0_pay2 (F := Ideal) v x0 x1 (ix2 i j) = v (ix2 i j) + ∑ r : Fin 2048, x0 (ix2 r i) * x1 (ix2 r j) := by
  pointwise [k0_pay2]

section Point

variable (c : Dev nD) (i : grid0.Coords) (arg2 : Memref sig .tc .vmem S2048x512 .bf16) (harg2 : arg2.IsWhole) (arg3 : Memref sig .tc .vmem S2048x1024 .bf16) (harg3 : arg3.IsWhole) (arg4 : Memref sig .tc .vmem S512x1024 .bf16) (harg4 : arg4.IsWhole)
    (arg5 : Memref sig .tc .vmem S512x1024 .f32) (harg5 : arg5.IsWhole)
  (x0 : Vec Ideal S2048x512 .bf16) (x1 : Vec Ideal S2048x1024 .bf16) (xs : Vec Ideal S512x1024 .f32) (a : Fin 512) (j : Fin 1024)

theorem first (hc0 : cond0_0 i) (hc1 : ¬cond0_1 i) :
    sout0_A_0 c i arg2 harg2 arg3 harg3 arg4 harg4 arg5 harg5 hc0 hc1 x0 x1 (ix2 a j) = 0 + ∑ r : Fin 2048, x0 (ix2 r a) * x1 (ix2 r j) := by
  frame_open
  simp (disch := decide) only [↓ View.readCov_skip, ↓ View.readCov_cons_toLoadRect, ↓ View.readCov_fill]
  frame_out
  rw [step]
  congr 1
  pointwise [k0_pay1]

theorem next (hc0 : ¬cond0_0 i) (hc1 : ¬cond0_1 i) :
    sout0_B_0 c i arg2 harg2 arg3 harg3 arg4 harg4 arg5 harg5 hc0 hc1 x0 x1 xs (ix2 a j) = xs (ix2 a j) + ∑ r : Fin 2048, x0 (ix2 r a) * x1 (ix2 r j) := by
  frame_open
  frame_out
  rw [step]

theorem last (hc0 : ¬cond0_0 i) (hc1 : cond0_1 i) :
    sout0_C_0 c i arg2 harg2 arg3 harg3 arg4 harg4 arg5 harg5 hc0 hc1 x0 x1 xs (ix2 a j) = xs (ix2 a j) + ∑ r : Fin 2048, x0 (ix2 r a) * x1 (ix2 r j) := by
  frame_open
  frame_out
  rw [step]

theorem written (hc0 : ¬cond0_0 i) (hc1 : cond0_1 i) :
    out0_C_2 c i arg2 harg2 arg3 harg3 arg4 harg4 arg5 harg5 hc0 hc1 x0 x1 xs (ix2 a j) = xs (ix2 a j) + ∑ r : Fin 2048, x0 (ix2 r a) * x1 (ix2 r j) := by
  frame_open
  simp (disch := decide) only [↓ View.readCov_skip, ↓ View.readCov_cons_toLoadRect, ↓ View.readCov_fill]
  frame_out
  pointwise [k0_pay3]
  rw [step]

end Point

variable (m : (ℓ : Loc nD τ sig) → Buf (Elt Ideal) ℓ) (c : Dev nD)

/-- The two matrices, and the blocks of them that a point reads. -/
abbrev X : S8192x512.Idx → EReal := m ((c : Thread nD τ).loc main_arg0)
abbrev Y : S8192x1024.Idx → EReal := m ((c : Thread nD τ).loc main_arg1)
abbrev blkX (t : Fin cfg0.N) : S2048x512.Idx → EReal := iblk m c 0 t
abbrev blkY (t : Fin cfg0.N) : S2048x1024.Idx → EReal := iblk m c 1 t
abbrev term (t : Fin cfg0.N) (y : S512x1024.Idx) : EReal := ∑ r : Fin 2048, blkX m c t (ix2 r (y 0)) * blkY m c t (ix2 r (y 1))

theorem index_at : ∀ t : Fin cfg0.N, win0_0.index t = ![t.val % 4, 0] ∧ win0_1.index t = ![t.val % 4, t.val / 4]
    ∧ win0_2.index t = ![0, t.val / 4] := by decide +kernel

/-- What the scratch holds after a point, from what it held before. -/
theorem scratch_first (t : Fin cfg0.N) (h0 : t.val % 4 = 0) (a : Fin 512) (j : Fin 1024) :
    (outsAt0 m c t.val t.isLt).2 (ix2 a j) = 0 + term m c t (ix2 a j) := by
  have h1 : ¬t.val % 4 = 3 := by omega
  have h := first c (grid0.coords t) (ms0_0 t) (hs0_0 t) (ms0_1 t) (hs0_1 t) (ms0_2 t) (hs0_2 t) scM0_0 (Memref.isWhole_whole _) (iblk m c 0 t) (iblk m c 1 t) a j ((hcond0_0 t).mpr h0) (fun h => h1 ((hcond0_1 t).mp h))
  rw [outsAt0_A m c t h0 h1]
  dsimp only
  exact h

theorem scratch_next (t : Fin cfg0.N) (h0 : ¬t.val % 4 = 0) (a : Fin 512) (j : Fin 1024) :
    (outsAt0 m c t.val t.isLt).2 (ix2 a j)
      = (outsAt0 m c (t.val - 1) (Nat.lt_of_le_of_lt (Nat.sub_le _ _) t.isLt)).2 (ix2 a j) + term m c t (ix2 a j) := by
  by_cases h1 : t.val % 4 = 3
  · have h := last c (grid0.coords t) (ms0_0 t) (hs0_0 t) (ms0_1 t) (hs0_1 t) (ms0_2 t) (hs0_2 t) scM0_0 (Memref.isWhole_whole _) (iblk m c 0 t) (iblk m c 1 t) (outsAt0 m c (t.val - 1) (Nat.lt_of_le_of_lt (Nat.sub_le _ _) t.isLt)).2 a j (fun h => h0 ((hcond0_0 t).mp h)) ((hcond0_1 t).mpr h1)
    rw [outsAt0_C m c t h0 h1]
    dsimp only
    exact h
  · have h := next c (grid0.coords t) (ms0_0 t) (hs0_0 t) (ms0_1 t) (hs0_1 t) (ms0_2 t) (hs0_2 t) scM0_0 (Memref.isWhole_whole _) (iblk m c 0 t) (iblk m c 1 t) (outsAt0 m c (t.val - 1) (Nat.lt_of_le_of_lt (Nat.sub_le _ _) t.isLt)).2 a j (fun h => h0 ((hcond0_0 t).mp h)) (fun h => h1 ((hcond0_1 t).mp h))
    rw [outsAt0_B m c t h0 h1]
    dsimp only
    exact h

/-- After the last block of rows, the scratch holds the sum of the four contributions. -/
theorem sum_of_blocks (t : Fin cfg0.N) (h : t.val % 4 = 4 - 1) (y : S512x1024.Idx) :
    (outsAt0 m c t.val t.isLt).2 y = 0 + ∑ s : Fin 4, term m c ⟨4 * (t.val / 4) + s.val, Pipeline.run_point_lt_of_flush t h s⟩ y := by
  refine Pipeline.eq_sum_fin_of_reset_step_apply_of_flush (fun n h => ((outsAt0 m c n h).2 : S512x1024.Idx → EReal)) 4 (fun _ => 0)
    (term m c) (fun t h0 y => ?_) (fun t h0 y => ?_) t h y
  · rw [ValueIdx.eq_ix2 y]
    exact scratch_first m c t h0 (y 0) (y 1)
  · rw [ValueIdx.eq_ix2 y]
    exact scratch_next m c t h0 (y 0) (y 1)

/-- What is written back is what the scratch holds. -/
theorem written_eq (t : Fin cfg0.N) (h : t.val % 4 = 3) (a : Fin 512) (j : Fin 1024) :
    (outsAt0 m c t.val t.isLt).1 (ix2 a j) = (outsAt0 m c t.val t.isLt).2 (ix2 a j) := by
  have h0 : ¬t.val % 4 = 0 := by omega
  have e := written c (grid0.coords t) (ms0_0 t) (hs0_0 t) (ms0_1 t) (hs0_1 t) (ms0_2 t) (hs0_2 t) scM0_0 (Memref.isWhole_whole _) (iblk m c 0 t) (iblk m c 1 t) (outsAt0 m c (t.val - 1) (Nat.lt_of_le_of_lt (Nat.sub_le _ _) t.isLt)).2 a j (fun h => h0 ((hcond0_0 t).mp h)) ((hcond0_1 t).mpr h)
  refine Eq.trans ?_ (scratch_next m c t h0 a j).symm
  rw [outsAt0_C m c t h0 h]
  dsimp only
  exact e

theorem at_X (t : Fin cfg0.N) (r : Fin 2048) (i : Fin 512) (h : t.val % 4 * 2048 + r.val < 8192) :
    blkX m c t (ix2 r i) = X m c (ix2 (⟨t.val % 4 * 2048 + r.val, h⟩ : Fin 8192) i) := by
  have e : iblk m c 0 t (ix2 r i) = V m c main_v0 (ix2 (⟨t.val % 4 * 2048 + r.val, h⟩ : Fin 8192) i) := by
    blk_ext [iblk, index_at t]
  have e' : V m c main_v0 = X m c := by
    unfold_abbrev_sides
    after_reads_simp
    rfl
  exact e.trans (congrFun e' _)

theorem at_Y (t : Fin cfg0.N) (r : Fin 2048) (j : Fin 1024) (h : t.val % 4 * 2048 + r.val < 8192) (h' : t.val / 4 * 1024 + j.val < 1024) :
    blkY m c t (ix2 r j) = Y m c (ix2 (⟨t.val % 4 * 2048 + r.val, h⟩ : Fin 8192) (⟨t.val / 4 * 1024 + j.val, h'⟩ : Fin 1024)) := by
  have e : iblk m c 1 t (ix2 r j) = V m c main_v1 (ix2 (⟨t.val % 4 * 2048 + r.val, h⟩ : Fin 8192) (⟨t.val / 4 * 1024 + j.val, h'⟩ : Fin 1024)) := by
    blk_ext [iblk, index_at t]
  have e' : V m c main_v1 = Y m c := by
    unfold_abbrev_sides
    after_reads_simp
    rfl
  exact e.trans (congrFun e' _)

/-- The four contributions are the product summed over all the rows. -/
theorem blocks_are_rows (t : Fin cfg0.N) (h : t.val % 4 = 4 - 1) (a : Fin 512) (j : Fin 1024) (h' : t.val / 4 * 1024 + j.val < 1024) :
    ∑ s : Fin 4, term m c ⟨4 * (t.val / 4) + s.val, Pipeline.run_point_lt_of_flush t h s⟩ (ix2 a j)
      = ∑ r : Fin 8192, X m c (ix2 r a) * Y m c (ix2 r (⟨t.val / 4 * 1024 + j.val, h'⟩ : Fin 1024)) := by
  refine Eq.trans (Finset.sum_congr rfl fun s _ => Finset.sum_congr rfl fun r _ => ?_)
    (Fin.sum_mul_add_fin 4 2048 (fun r : Fin 8192 => X m c (ix2 r a) * Y m c (ix2 r (⟨t.val / 4 * 1024 + j.val, h'⟩ : Fin 1024))) rfl)
  have hs := s.isLt
  have hm : (4 * (t.val / 4) + s.val) % 4 = s.val := by omega
  have hd : (4 * (t.val / 4) + s.val) / 4 = t.val / 4 := by omega
  have hr := r.isLt
  refine congrArg₂ (fun x y : EReal => x * y) ?_ ?_
  · refine (at_X m c _ r a (by dsimp only; omega)).trans (congrArg (fun q => X m c (ix2 q a)) (Fin.ext ?_))
    dsimp only
    rw [hm]
  · refine (at_Y m c _ r j (by dsimp only; omega) (by dsimp only; omega)).trans (congrArg₂ (fun q p => Y m c (ix2 q p)) (Fin.ext ?_) (Fin.ext ?_))
    · dsimp only
      rw [hm]
    · dsimp only
      rw [hd]

/-- The whole result: every entry is the product summed over all the rows. -/
theorem result (i : Fin 512) (j : Fin 1024) :
    ((dats m 0 c).arrAt 2 cfg0.N : S512x1024.Idx → EReal) (ix2 i j) = ∑ r : Fin 8192, X m c (ix2 r i) * Y m c (ix2 r j) := by
  have e : (dats m 0 c).arrAt 2 cfg0.N = (fun x => ∑ r : Fin 8192, X m c (ix2 r (x 0)) * Y m c (ix2 r (x 1)) : S512x1024.Idx → EReal) := by
    refine (dats m 0 c).arrAt_eq_of_covers 2 _ (by decide +kernel) fun t hf y => ?_
    blk_simp
    rw [after0_2]
    have ht : t.val < 4 := t.isLt
    have h3 : t.val % 4 = 3 := (flush0_2 t).mp hf
    obtain ⟨a, j, rfl⟩ : ∃ (a : Fin 512) (j : Fin 1024), y = ix2 a j := ⟨y 0, y 1, ValueIdx.eq_ix2 y⟩
    refine (written_eq m c t h3 a j).trans ((sum_of_blocks m c t h3 (ix2 a j)).trans ((zero_add _).trans ((blocks_are_rows m c t h3 a j (by have := j.isLt; omega)).trans ?_)))
    have e0 : win0_2.index t 0 = 0 := by rw [(index_at t).2.2]; rfl
    have e1 : win0_2.index t 1 = t.val / 4 := by rw [(index_at t).2.2]; rfl
    refine Finset.sum_congr rfl fun r _ => congrArg₂ (fun x y : EReal => x * y) (congrArg (fun q => X m c (ix2 r q)) (Fin.ext ?_))
      (congrArg (fun q => Y m c (ix2 r q)) (Fin.ext ?_))
    · show (a : ℕ) = win0_2.index t 0 * 512 + 1 * (a : ℕ); rw [e0]; omega
    · show t.val / 4 * 1024 + (j : ℕ) = win0_2.index t 1 * 1024 + 1 * (j : ℕ); rw [e1]; omega
  exact congrFun e (ix2 i j)

/-- An entry of the reference's product. -/
theorem reference_at (x : S8192x512.Idx → EReal) (y : S8192x1024.Idx → EReal) (i : Fin 512) (j : Fin 1024) :
    Cert.Reference5Ideal.Read.val_main_v2 (F := Ideal) x y (ix2 i j) = ∑ r : Fin 8192, x (ix2 r i) * y (ix2 r j) := by
  rw [Cert.Reference5Ideal.Read.val_main_v2_apply]
  refine (Cert.Reference5Ideal.Read.val_main_v1_apply x y (ix2 i j)).trans (Finset.sum_congr rfl fun r _ => congrArg₂ (fun a b : EReal => a * b) ?_ ?_)
  · rw [Cert.Reference5Ideal.Read.val_main_v0_apply]
    exact congrArg x (ValueIdx.eq_ix2 _)
  · exact congrArg y (ValueIdx.eq_ix2 _)

theorem reference : Cert.quiescent_Reference5Ideal (hReference5Ideal := Cert.Reference5Ideal.Gen.facts) := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

/-- The kernel and the reference compute the same matrix. -/
theorem algebraic : Cert.algebraic_Kernel5Ideal_Reference5Ideal (hKernel5Ideal := Cert.Kernel5Ideal.Gen.facts) (hReference5Ideal := Cert.Reference5Ideal.Gen.facts) := by
  pair_intro
  · run_from Cert.Kernel5Ideal.Value.run_blocks m g
  · refine (θ_run Cert.Reference5Ideal.defs _ _).mono (fun r h c => ?_) (Cert.Reference5Ideal.Value.run (F := Ideal) m' g')
    obtain ⟨h0, hk⟩ := h c
    obtain ⟨e0, e1⟩ := hagree c
    refine ⟨(h0.trans (Cert.Reference5Ideal.Read.val_main_v2_eq _ _)).trans ?_, hk⟩
    funext j
    obtain ⟨i, j, rfl⟩ : ∃ (i : Fin 512) (J : Fin 1024), j = ix2 i J := ⟨j 0, j 1, ValueIdx.eq_ix2 j⟩
    refine Eq.trans ?_ (result m c i j).symm
    exact (reference_at _ _ i j).trans (Finset.sum_congr rfl fun r _ =>
      congrArg₂ (fun a b : EReal => a * b) (congrFun e0 (ix2 r i)) (congrFun e1 (ix2 r j)))

end Cert.AOutWeight
-- ==== Proof.PleWeight.lean ====
/- The gradient of the per-layer embedding projection: the kernel adds the products of four blocks of 2048 rows,
   one block of columns at a time, and leaves the sum over all rows. -/
module

public import proofs.«01_k».proof.Proof.Gen.Kernel6Ideal.Value
public import Idealize.ShloMosaic.Lib.Pipeline.ValueKit
public import Idealize.ShloMosaic.Lib.Pipeline.ReadBack
public import Idealize.ShloMosaic.Lib.StableHlo.RunRead
public import Idealize.ShloMosaic.Adequacy
public import Idealize.ShloMosaic.Init
public import proofs.«01_k».proof.Defs
public import proofs.«01_k».proof.Proof.Gen.Kernel6Ideal
public import proofs.«01_k».proof.Proof.Gen.Reference6Ideal
public import proofs.«01_k».proof.Proof.Gen.Reference6Ideal.Read

@[expose] public section

set_option maxRecDepth 16384

noncomputable section

namespace Cert.PleWeight

open Cert.Kernel6Ideal Cert.Kernel6Ideal.Gen Idealize.ShloMosaic Idealize.ShloMosaic.TcCoe Idealize.SL.Sem

/-- One block's contribution, added to what the blocks before it left. -/
theorem step (v : Vec Ideal S256x1024 .f32) (x0 : Vec Ideal S2048x256 .f32) (x1 : Vec Ideal S2048x1024 .bf16) (i : Fin 256) (j : Fin 1024) :
    k0_pay2 (F := Ideal) v x0 x1 (ix2 i j) = v (ix2 i j) + ∑ r : Fin 2048, x0 (ix2 r i) * x1 (ix2 r j) := by
  pointwise [k0_pay2]

section Point

variable (c : Dev nD) (i : grid0.Coords) (arg2 : Memref sig .tc .vmem S2048x256 .f32) (harg2 : arg2.IsWhole) (arg3 : Memref sig .tc .vmem S2048x1024 .bf16) (harg3 : arg3.IsWhole) (arg4 : Memref sig .tc .vmem S256x1024 .bf16) (harg4 : arg4.IsWhole)
    (arg5 : Memref sig .tc .vmem S256x1024 .f32) (harg5 : arg5.IsWhole)
  (x0 : Vec Ideal S2048x256 .f32) (x1 : Vec Ideal S2048x1024 .bf16) (xs : Vec Ideal S256x1024 .f32) (a : Fin 256) (j : Fin 1024)

theorem first (hc0 : cond0_0 i) (hc1 : ¬cond0_1 i) :
    sout0_A_0 c i arg2 harg2 arg3 harg3 arg4 harg4 arg5 harg5 hc0 hc1 x0 x1 (ix2 a j) = 0 + ∑ r : Fin 2048, x0 (ix2 r a) * x1 (ix2 r j) := by
  frame_open
  simp (disch := decide) only [↓ View.readCov_skip, ↓ View.readCov_cons_toLoadRect, ↓ View.readCov_fill]
  frame_out
  rw [step]
  congr 1
  pointwise [k0_pay1]

theorem next (hc0 : ¬cond0_0 i) (hc1 : ¬cond0_1 i) :
    sout0_B_0 c i arg2 harg2 arg3 harg3 arg4 harg4 arg5 harg5 hc0 hc1 x0 x1 xs (ix2 a j) = xs (ix2 a j) + ∑ r : Fin 2048, x0 (ix2 r a) * x1 (ix2 r j) := by
  frame_open
  frame_out
  rw [step]

theorem last (hc0 : ¬cond0_0 i) (hc1 : cond0_1 i) :
    sout0_C_0 c i arg2 harg2 arg3 harg3 arg4 harg4 arg5 harg5 hc0 hc1 x0 x1 xs (ix2 a j) = xs (ix2 a j) + ∑ r : Fin 2048, x0 (ix2 r a) * x1 (ix2 r j) := by
  frame_open
  frame_out
  rw [step]

theorem written (hc0 : ¬cond0_0 i) (hc1 : cond0_1 i) :
    out0_C_2 c i arg2 harg2 arg3 harg3 arg4 harg4 arg5 harg5 hc0 hc1 x0 x1 xs (ix2 a j) = xs (ix2 a j) + ∑ r : Fin 2048, x0 (ix2 r a) * x1 (ix2 r j) := by
  frame_open
  simp (disch := decide) only [↓ View.readCov_skip, ↓ View.readCov_cons_toLoadRect, ↓ View.readCov_fill]
  frame_out
  pointwise [k0_pay3]
  rw [step]

end Point

variable (m : (ℓ : Loc nD τ sig) → Buf (Elt Ideal) ℓ) (c : Dev nD)

/-- The two matrices, and the blocks of them that a point reads. -/
abbrev X : S8192x256.Idx → EReal := m ((c : Thread nD τ).loc main_arg0)
abbrev Y : S8192x1024.Idx → EReal := m ((c : Thread nD τ).loc main_arg1)
abbrev blkX (t : Fin cfg0.N) : S2048x256.Idx → EReal := iblk m c 0 t
abbrev blkY (t : Fin cfg0.N) : S2048x1024.Idx → EReal := iblk m c 1 t
abbrev term (t : Fin cfg0.N) (y : S256x1024.Idx) : EReal := ∑ r : Fin 2048, blkX m c t (ix2 r (y 0)) * blkY m c t (ix2 r (y 1))

theorem index_at : ∀ t : Fin cfg0.N, win0_0.index t = ![t.val % 4, 0] ∧ win0_1.index t = ![t.val % 4, t.val / 4]
    ∧ win0_2.index t = ![0, t.val / 4] := by decide +kernel

/-- What the scratch holds after a point, from what it held before. -/
theorem scratch_first (t : Fin cfg0.N) (h0 : t.val % 4 = 0) (a : Fin 256) (j : Fin 1024) :
    (outsAt0 m c t.val t.isLt).2 (ix2 a j) = 0 + term m c t (ix2 a j) := by
  have h1 : ¬t.val % 4 = 3 := by omega
  have h := first c (grid0.coords t) (ms0_0 t) (hs0_0 t) (ms0_1 t) (hs0_1 t) (ms0_2 t) (hs0_2 t) scM0_0 (Memref.isWhole_whole _) (iblk m c 0 t) (iblk m c 1 t) a j ((hcond0_0 t).mpr h0) (fun h => h1 ((hcond0_1 t).mp h))
  rw [outsAt0_A m c t h0 h1]
  dsimp only
  exact h

theorem scratch_next (t : Fin cfg0.N) (h0 : ¬t.val % 4 = 0) (a : Fin 256) (j : Fin 1024) :
    (outsAt0 m c t.val t.isLt).2 (ix2 a j)
      = (outsAt0 m c (t.val - 1) (Nat.lt_of_le_of_lt (Nat.sub_le _ _) t.isLt)).2 (ix2 a j) + term m c t (ix2 a j) := by
  by_cases h1 : t.val % 4 = 3
  · have h := last c (grid0.coords t) (ms0_0 t) (hs0_0 t) (ms0_1 t) (hs0_1 t) (ms0_2 t) (hs0_2 t) scM0_0 (Memref.isWhole_whole _) (iblk m c 0 t) (iblk m c 1 t) (outsAt0 m c (t.val - 1) (Nat.lt_of_le_of_lt (Nat.sub_le _ _) t.isLt)).2 a j (fun h => h0 ((hcond0_0 t).mp h)) ((hcond0_1 t).mpr h1)
    rw [outsAt0_C m c t h0 h1]
    dsimp only
    exact h
  · have h := next c (grid0.coords t) (ms0_0 t) (hs0_0 t) (ms0_1 t) (hs0_1 t) (ms0_2 t) (hs0_2 t) scM0_0 (Memref.isWhole_whole _) (iblk m c 0 t) (iblk m c 1 t) (outsAt0 m c (t.val - 1) (Nat.lt_of_le_of_lt (Nat.sub_le _ _) t.isLt)).2 a j (fun h => h0 ((hcond0_0 t).mp h)) (fun h => h1 ((hcond0_1 t).mp h))
    rw [outsAt0_B m c t h0 h1]
    dsimp only
    exact h

/-- After the last block of rows, the scratch holds the sum of the four contributions. -/
theorem sum_of_blocks (t : Fin cfg0.N) (h : t.val % 4 = 4 - 1) (y : S256x1024.Idx) :
    (outsAt0 m c t.val t.isLt).2 y = 0 + ∑ s : Fin 4, term m c ⟨4 * (t.val / 4) + s.val, Pipeline.run_point_lt_of_flush t h s⟩ y := by
  refine Pipeline.eq_sum_fin_of_reset_step_apply_of_flush (fun n h => ((outsAt0 m c n h).2 : S256x1024.Idx → EReal)) 4 (fun _ => 0)
    (term m c) (fun t h0 y => ?_) (fun t h0 y => ?_) t h y
  · rw [ValueIdx.eq_ix2 y]
    exact scratch_first m c t h0 (y 0) (y 1)
  · rw [ValueIdx.eq_ix2 y]
    exact scratch_next m c t h0 (y 0) (y 1)

/-- What is written back is what the scratch holds. -/
theorem written_eq (t : Fin cfg0.N) (h : t.val % 4 = 3) (a : Fin 256) (j : Fin 1024) :
    (outsAt0 m c t.val t.isLt).1 (ix2 a j) = (outsAt0 m c t.val t.isLt).2 (ix2 a j) := by
  have h0 : ¬t.val % 4 = 0 := by omega
  have e := written c (grid0.coords t) (ms0_0 t) (hs0_0 t) (ms0_1 t) (hs0_1 t) (ms0_2 t) (hs0_2 t) scM0_0 (Memref.isWhole_whole _) (iblk m c 0 t) (iblk m c 1 t) (outsAt0 m c (t.val - 1) (Nat.lt_of_le_of_lt (Nat.sub_le _ _) t.isLt)).2 a j (fun h => h0 ((hcond0_0 t).mp h)) ((hcond0_1 t).mpr h)
  refine Eq.trans ?_ (scratch_next m c t h0 a j).symm
  rw [outsAt0_C m c t h0 h]
  dsimp only
  exact e

theorem at_X (t : Fin cfg0.N) (r : Fin 2048) (i : Fin 256) (h : t.val % 4 * 2048 + r.val < 8192) :
    blkX m c t (ix2 r i) = X m c (ix2 (⟨t.val % 4 * 2048 + r.val, h⟩ : Fin 8192) i) := by
  have e : iblk m c 0 t (ix2 r i) = V m c main_arg0 (ix2 (⟨t.val % 4 * 2048 + r.val, h⟩ : Fin 8192) i) := by
    blk_ext [iblk, index_at t]
  have e' : V m c main_arg0 = X m c := by
    exact V_main_arg0 m c
  exact e.trans (congrFun e' _)

theorem at_Y (t : Fin cfg0.N) (r : Fin 2048) (j : Fin 1024) (h : t.val % 4 * 2048 + r.val < 8192) (h' : t.val / 4 * 1024 + j.val < 1024) :
    blkY m c t (ix2 r j) = Y m c (ix2 (⟨t.val % 4 * 2048 + r.val, h⟩ : Fin 8192) (⟨t.val / 4 * 1024 + j.val, h'⟩ : Fin 1024)) := by
  have e : iblk m c 1 t (ix2 r j) = V m c main_v0 (ix2 (⟨t.val % 4 * 2048 + r.val, h⟩ : Fin 8192) (⟨t.val / 4 * 1024 + j.val, h'⟩ : Fin 1024)) := by
    blk_ext [iblk, index_at t]
  have e' : V m c main_v0 = Y m c := by
    unfold_abbrev_sides
    after_reads_simp
    rfl
  exact e.trans (congrFun e' _)

/-- The four contributions are the product summed over all the rows. -/
theorem blocks_are_rows (t : Fin cfg0.N) (h : t.val % 4 = 4 - 1) (a : Fin 256) (j : Fin 1024) (h' : t.val / 4 * 1024 + j.val < 1024) :
    ∑ s : Fin 4, term m c ⟨4 * (t.val / 4) + s.val, Pipeline.run_point_lt_of_flush t h s⟩ (ix2 a j)
      = ∑ r : Fin 8192, X m c (ix2 r a) * Y m c (ix2 r (⟨t.val / 4 * 1024 + j.val, h'⟩ : Fin 1024)) := by
  refine Eq.trans (Finset.sum_congr rfl fun s _ => Finset.sum_congr rfl fun r _ => ?_)
    (Fin.sum_mul_add_fin 4 2048 (fun r : Fin 8192 => X m c (ix2 r a) * Y m c (ix2 r (⟨t.val / 4 * 1024 + j.val, h'⟩ : Fin 1024))) rfl)
  have hs := s.isLt
  have hm : (4 * (t.val / 4) + s.val) % 4 = s.val := by omega
  have hd : (4 * (t.val / 4) + s.val) / 4 = t.val / 4 := by omega
  have hr := r.isLt
  refine congrArg₂ (fun x y : EReal => x * y) ?_ ?_
  · refine (at_X m c _ r a (by dsimp only; omega)).trans (congrArg (fun q => X m c (ix2 q a)) (Fin.ext ?_))
    dsimp only
    rw [hm]
  · refine (at_Y m c _ r j (by dsimp only; omega) (by dsimp only; omega)).trans (congrArg₂ (fun q p => Y m c (ix2 q p)) (Fin.ext ?_) (Fin.ext ?_))
    · dsimp only
      rw [hm]
    · dsimp only
      rw [hd]

/-- The whole result: every entry is the product summed over all the rows. -/
theorem result (i : Fin 256) (j : Fin 1024) :
    ((dats m 0 c).arrAt 2 cfg0.N : S256x1024.Idx → EReal) (ix2 i j) = ∑ r : Fin 8192, X m c (ix2 r i) * Y m c (ix2 r j) := by
  have e : (dats m 0 c).arrAt 2 cfg0.N = (fun x => ∑ r : Fin 8192, X m c (ix2 r (x 0)) * Y m c (ix2 r (x 1)) : S256x1024.Idx → EReal) := by
    refine (dats m 0 c).arrAt_eq_of_covers 2 _ (by decide +kernel) fun t hf y => ?_
    blk_simp
    rw [after0_2]
    have ht : t.val < 4 := t.isLt
    have h3 : t.val % 4 = 3 := (flush0_2 t).mp hf
    obtain ⟨a, j, rfl⟩ : ∃ (a : Fin 256) (j : Fin 1024), y = ix2 a j := ⟨y 0, y 1, ValueIdx.eq_ix2 y⟩
    refine (written_eq m c t h3 a j).trans ((sum_of_blocks m c t h3 (ix2 a j)).trans ((zero_add _).trans ((blocks_are_rows m c t h3 a j (by have := j.isLt; omega)).trans ?_)))
    have e0 : win0_2.index t 0 = 0 := by rw [(index_at t).2.2]; rfl
    have e1 : win0_2.index t 1 = t.val / 4 := by rw [(index_at t).2.2]; rfl
    refine Finset.sum_congr rfl fun r _ => congrArg₂ (fun x y : EReal => x * y) (congrArg (fun q => X m c (ix2 r q)) (Fin.ext ?_))
      (congrArg (fun q => Y m c (ix2 r q)) (Fin.ext ?_))
    · show (a : ℕ) = win0_2.index t 0 * 256 + 1 * (a : ℕ); rw [e0]; omega
    · show t.val / 4 * 1024 + (j : ℕ) = win0_2.index t 1 * 1024 + 1 * (j : ℕ); rw [e1]; omega
  exact congrFun e (ix2 i j)

/-- An entry of the reference's product. -/
theorem reference_at (x : S8192x256.Idx → EReal) (y : S8192x1024.Idx → EReal) (i : Fin 256) (j : Fin 1024) :
    Cert.Reference6Ideal.Read.val_main_v2 (F := Ideal) x y (ix2 i j) = ∑ r : Fin 8192, x (ix2 r i) * y (ix2 r j) := by
  rw [Cert.Reference6Ideal.Read.val_main_v2_apply]
  refine (Cert.Reference6Ideal.Read.val_main_v1_apply x y (ix2 i j)).trans (Finset.sum_congr rfl fun r _ => congrArg₂ (fun a b : EReal => a * b) ?_ ?_)
  · rw [Cert.Reference6Ideal.Read.val_main_v0_apply]
    exact congrArg x (ValueIdx.eq_ix2 _)
  · exact congrArg y (ValueIdx.eq_ix2 _)

theorem reference : Cert.quiescent_Reference6Ideal (hReference6Ideal := Cert.Reference6Ideal.Gen.facts) := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

/-- The kernel and the reference compute the same matrix. -/
theorem algebraic : Cert.algebraic_Kernel6Ideal_Reference6Ideal (hKernel6Ideal := Cert.Kernel6Ideal.Gen.facts) (hReference6Ideal := Cert.Reference6Ideal.Gen.facts) := by
  pair_intro
  · run_from Cert.Kernel6Ideal.Value.run_blocks m g
  · refine (θ_run Cert.Reference6Ideal.defs _ _).mono (fun r h c => ?_) (Cert.Reference6Ideal.Value.run (F := Ideal) m' g')
    obtain ⟨h0, hk⟩ := h c
    obtain ⟨e0, e1⟩ := hagree c
    refine ⟨(h0.trans (Cert.Reference6Ideal.Read.val_main_v2_eq _ _)).trans ?_, hk⟩
    funext j
    obtain ⟨i, j, rfl⟩ : ∃ (i : Fin 256) (J : Fin 1024), j = ix2 i J := ⟨j 0, j 1, ValueIdx.eq_ix2 j⟩
    refine Eq.trans ?_ (result m c i j).symm
    exact (reference_at _ _ i j).trans (Finset.sum_congr rfl fun r _ =>
      congrArg₂ (fun a b : EReal => a * b) (congrFun e0 (ix2 r i)) (congrFun e1 (ix2 r j)))

end Cert.PleWeight
-- ==== Proof.GkWeight.lean ====
/- The gradient of the forget gate's projection: the kernel adds the products of four blocks of 2048 rows,
   one block of columns at a time, and leaves the sum over all rows. -/
module

public import proofs.«01_k».proof.Proof.Gen.Kernel7Ideal.Value
public import Idealize.ShloMosaic.Lib.Pipeline.ValueKit
public import Idealize.ShloMosaic.Lib.Pipeline.ReadBack
public import Idealize.ShloMosaic.Lib.StableHlo.RunRead
public import Idealize.ShloMosaic.Adequacy
public import Idealize.ShloMosaic.Init
public import proofs.«01_k».proof.Defs
public import proofs.«01_k».proof.Proof.Gen.Kernel7Ideal
public import proofs.«01_k».proof.Proof.Gen.Reference7Ideal
public import proofs.«01_k».proof.Proof.Gen.Reference7Ideal.Read

@[expose] public section

set_option maxRecDepth 16384

noncomputable section

namespace Cert.GkWeight

open Cert.Kernel7Ideal Cert.Kernel7Ideal.Gen Idealize.ShloMosaic Idealize.ShloMosaic.TcCoe Idealize.SL.Sem

/-- One block's contribution, added to what the blocks before it left. -/
theorem step (v : Vec Ideal S128x512 .f32) (x0 : Vec Ideal S2048x128 .bf16) (x1 : Vec Ideal S2048x512 .bf16) (i : Fin 128) (j : Fin 512) :
    k0_pay2 (F := Ideal) v x0 x1 (ix2 i j) = v (ix2 i j) + ∑ r : Fin 2048, x0 (ix2 r i) * x1 (ix2 r j) := by
  pointwise [k0_pay2]

section Point

variable (c : Dev nD) (i : grid0.Coords) (arg2 : Memref sig .tc .vmem S2048x128 .bf16) (harg2 : arg2.IsWhole) (arg3 : Memref sig .tc .vmem S2048x512 .bf16) (harg3 : arg3.IsWhole) (arg4 : Memref sig .tc .vmem S128x512 .bf16) (harg4 : arg4.IsWhole)
    (arg5 : Memref sig .tc .vmem S128x512 .f32) (harg5 : arg5.IsWhole)
  (x0 : Vec Ideal S2048x128 .bf16) (x1 : Vec Ideal S2048x512 .bf16) (xs : Vec Ideal S128x512 .f32) (a : Fin 128) (j : Fin 512)

theorem first (hc0 : cond0_0 i) (hc1 : ¬cond0_1 i) :
    sout0_A_0 c i arg2 harg2 arg3 harg3 arg4 harg4 arg5 harg5 hc0 hc1 x0 x1 (ix2 a j) = 0 + ∑ r : Fin 2048, x0 (ix2 r a) * x1 (ix2 r j) := by
  frame_open
  simp (disch := decide) only [↓ View.readCov_skip, ↓ View.readCov_cons_toLoadRect, ↓ View.readCov_fill]
  frame_out
  rw [step]
  congr 1
  pointwise [k0_pay1]

theorem next (hc0 : ¬cond0_0 i) (hc1 : ¬cond0_1 i) :
    sout0_B_0 c i arg2 harg2 arg3 harg3 arg4 harg4 arg5 harg5 hc0 hc1 x0 x1 xs (ix2 a j) = xs (ix2 a j) + ∑ r : Fin 2048, x0 (ix2 r a) * x1 (ix2 r j) := by
  frame_open
  frame_out
  rw [step]

theorem last (hc0 : ¬cond0_0 i) (hc1 : cond0_1 i) :
    sout0_C_0 c i arg2 harg2 arg3 harg3 arg4 harg4 arg5 harg5 hc0 hc1 x0 x1 xs (ix2 a j) = xs (ix2 a j) + ∑ r : Fin 2048, x0 (ix2 r a) * x1 (ix2 r j) := by
  frame_open
  frame_out
  rw [step]

theorem written (hc0 : ¬cond0_0 i) (hc1 : cond0_1 i) :
    out0_C_2 c i arg2 harg2 arg3 harg3 arg4 harg4 arg5 harg5 hc0 hc1 x0 x1 xs (ix2 a j) = xs (ix2 a j) + ∑ r : Fin 2048, x0 (ix2 r a) * x1 (ix2 r j) := by
  frame_open
  simp (disch := decide) only [↓ View.readCov_skip, ↓ View.readCov_cons_toLoadRect, ↓ View.readCov_fill]
  frame_out
  pointwise [k0_pay3]
  rw [step]

end Point

variable (m : (ℓ : Loc nD τ sig) → Buf (Elt Ideal) ℓ) (c : Dev nD)

/-- The two matrices, and the blocks of them that a point reads. -/
abbrev X : S8192x128.Idx → EReal := m ((c : Thread nD τ).loc main_arg0)
abbrev Y : S8192x512.Idx → EReal := m ((c : Thread nD τ).loc main_arg1)
abbrev blkX (t : Fin cfg0.N) : S2048x128.Idx → EReal := iblk m c 0 t
abbrev blkY (t : Fin cfg0.N) : S2048x512.Idx → EReal := iblk m c 1 t
abbrev term (t : Fin cfg0.N) (y : S128x512.Idx) : EReal := ∑ r : Fin 2048, blkX m c t (ix2 r (y 0)) * blkY m c t (ix2 r (y 1))

theorem index_at : ∀ t : Fin cfg0.N, win0_0.index t = ![t.val % 4, 0] ∧ win0_1.index t = ![t.val % 4, t.val / 4]
    ∧ win0_2.index t = ![0, t.val / 4] := by decide +kernel

/-- What the scratch holds after a point, from what it held before. -/
theorem scratch_first (t : Fin cfg0.N) (h0 : t.val % 4 = 0) (a : Fin 128) (j : Fin 512) :
    (outsAt0 m c t.val t.isLt).2 (ix2 a j) = 0 + term m c t (ix2 a j) := by
  have h1 : ¬t.val % 4 = 3 := by omega
  have h := first c (grid0.coords t) (ms0_0 t) (hs0_0 t) (ms0_1 t) (hs0_1 t) (ms0_2 t) (hs0_2 t) scM0_0 (Memref.isWhole_whole _) (iblk m c 0 t) (iblk m c 1 t) a j ((hcond0_0 t).mpr h0) (fun h => h1 ((hcond0_1 t).mp h))
  rw [outsAt0_A m c t h0 h1]
  dsimp only
  exact h

theorem scratch_next (t : Fin cfg0.N) (h0 : ¬t.val % 4 = 0) (a : Fin 128) (j : Fin 512) :
    (outsAt0 m c t.val t.isLt).2 (ix2 a j)
      = (outsAt0 m c (t.val - 1) (Nat.lt_of_le_of_lt (Nat.sub_le _ _) t.isLt)).2 (ix2 a j) + term m c t (ix2 a j) := by
  by_cases h1 : t.val % 4 = 3
  · have h := last c (grid0.coords t) (ms0_0 t) (hs0_0 t) (ms0_1 t) (hs0_1 t) (ms0_2 t) (hs0_2 t) scM0_0 (Memref.isWhole_whole _) (iblk m c 0 t) (iblk m c 1 t) (outsAt0 m c (t.val - 1) (Nat.lt_of_le_of_lt (Nat.sub_le _ _) t.isLt)).2 a j (fun h => h0 ((hcond0_0 t).mp h)) ((hcond0_1 t).mpr h1)
    rw [outsAt0_C m c t h0 h1]
    dsimp only
    exact h
  · have h := next c (grid0.coords t) (ms0_0 t) (hs0_0 t) (ms0_1 t) (hs0_1 t) (ms0_2 t) (hs0_2 t) scM0_0 (Memref.isWhole_whole _) (iblk m c 0 t) (iblk m c 1 t) (outsAt0 m c (t.val - 1) (Nat.lt_of_le_of_lt (Nat.sub_le _ _) t.isLt)).2 a j (fun h => h0 ((hcond0_0 t).mp h)) (fun h => h1 ((hcond0_1 t).mp h))
    rw [outsAt0_B m c t h0 h1]
    dsimp only
    exact h

/-- After the last block of rows, the scratch holds the sum of the four contributions. -/
theorem sum_of_blocks (t : Fin cfg0.N) (h : t.val % 4 = 4 - 1) (y : S128x512.Idx) :
    (outsAt0 m c t.val t.isLt).2 y = 0 + ∑ s : Fin 4, term m c ⟨4 * (t.val / 4) + s.val, Pipeline.run_point_lt_of_flush t h s⟩ y := by
  refine Pipeline.eq_sum_fin_of_reset_step_apply_of_flush (fun n h => ((outsAt0 m c n h).2 : S128x512.Idx → EReal)) 4 (fun _ => 0)
    (term m c) (fun t h0 y => ?_) (fun t h0 y => ?_) t h y
  · rw [ValueIdx.eq_ix2 y]
    exact scratch_first m c t h0 (y 0) (y 1)
  · rw [ValueIdx.eq_ix2 y]
    exact scratch_next m c t h0 (y 0) (y 1)

/-- What is written back is what the scratch holds. -/
theorem written_eq (t : Fin cfg0.N) (h : t.val % 4 = 3) (a : Fin 128) (j : Fin 512) :
    (outsAt0 m c t.val t.isLt).1 (ix2 a j) = (outsAt0 m c t.val t.isLt).2 (ix2 a j) := by
  have h0 : ¬t.val % 4 = 0 := by omega
  have e := written c (grid0.coords t) (ms0_0 t) (hs0_0 t) (ms0_1 t) (hs0_1 t) (ms0_2 t) (hs0_2 t) scM0_0 (Memref.isWhole_whole _) (iblk m c 0 t) (iblk m c 1 t) (outsAt0 m c (t.val - 1) (Nat.lt_of_le_of_lt (Nat.sub_le _ _) t.isLt)).2 a j (fun h => h0 ((hcond0_0 t).mp h)) ((hcond0_1 t).mpr h)
  refine Eq.trans ?_ (scratch_next m c t h0 a j).symm
  rw [outsAt0_C m c t h0 h]
  dsimp only
  exact e

theorem at_X (t : Fin cfg0.N) (r : Fin 2048) (i : Fin 128) (h : t.val % 4 * 2048 + r.val < 8192) :
    blkX m c t (ix2 r i) = X m c (ix2 (⟨t.val % 4 * 2048 + r.val, h⟩ : Fin 8192) i) := by
  have e : iblk m c 0 t (ix2 r i) = V m c main_v0 (ix2 (⟨t.val % 4 * 2048 + r.val, h⟩ : Fin 8192) i) := by
    blk_ext [iblk, index_at t]
  have e' : V m c main_v0 = X m c := by
    unfold_abbrev_sides
    after_reads_simp
    rfl
  exact e.trans (congrFun e' _)

theorem at_Y (t : Fin cfg0.N) (r : Fin 2048) (j : Fin 512) (h : t.val % 4 * 2048 + r.val < 8192) (h' : t.val / 4 * 512 + j.val < 512) :
    blkY m c t (ix2 r j) = Y m c (ix2 (⟨t.val % 4 * 2048 + r.val, h⟩ : Fin 8192) (⟨t.val / 4 * 512 + j.val, h'⟩ : Fin 512)) := by
  have e : iblk m c 1 t (ix2 r j) = V m c main_v1 (ix2 (⟨t.val % 4 * 2048 + r.val, h⟩ : Fin 8192) (⟨t.val / 4 * 512 + j.val, h'⟩ : Fin 512)) := by
    blk_ext [iblk, index_at t]
  have e' : V m c main_v1 = Y m c := by
    unfold_abbrev_sides
    after_reads_simp
    rfl
  exact e.trans (congrFun e' _)

/-- The four contributions are the product summed over all the rows. -/
theorem blocks_are_rows (t : Fin cfg0.N) (h : t.val % 4 = 4 - 1) (a : Fin 128) (j : Fin 512) (h' : t.val / 4 * 512 + j.val < 512) :
    ∑ s : Fin 4, term m c ⟨4 * (t.val / 4) + s.val, Pipeline.run_point_lt_of_flush t h s⟩ (ix2 a j)
      = ∑ r : Fin 8192, X m c (ix2 r a) * Y m c (ix2 r (⟨t.val / 4 * 512 + j.val, h'⟩ : Fin 512)) := by
  refine Eq.trans (Finset.sum_congr rfl fun s _ => Finset.sum_congr rfl fun r _ => ?_)
    (Fin.sum_mul_add_fin 4 2048 (fun r : Fin 8192 => X m c (ix2 r a) * Y m c (ix2 r (⟨t.val / 4 * 512 + j.val, h'⟩ : Fin 512))) rfl)
  have hs := s.isLt
  have hm : (4 * (t.val / 4) + s.val) % 4 = s.val := by omega
  have hd : (4 * (t.val / 4) + s.val) / 4 = t.val / 4 := by omega
  have hr := r.isLt
  refine congrArg₂ (fun x y : EReal => x * y) ?_ ?_
  · refine (at_X m c _ r a (by dsimp only; omega)).trans (congrArg (fun q => X m c (ix2 q a)) (Fin.ext ?_))
    dsimp only
    rw [hm]
  · refine (at_Y m c _ r j (by dsimp only; omega) (by dsimp only; omega)).trans (congrArg₂ (fun q p => Y m c (ix2 q p)) (Fin.ext ?_) (Fin.ext ?_))
    · dsimp only
      rw [hm]
    · dsimp only
      rw [hd]

/-- The whole result: every entry is the product summed over all the rows. -/
theorem result (i : Fin 128) (j : Fin 512) :
    ((dats m 0 c).arrAt 2 cfg0.N : S128x512.Idx → EReal) (ix2 i j) = ∑ r : Fin 8192, X m c (ix2 r i) * Y m c (ix2 r j) := by
  have e : (dats m 0 c).arrAt 2 cfg0.N = (fun x => ∑ r : Fin 8192, X m c (ix2 r (x 0)) * Y m c (ix2 r (x 1)) : S128x512.Idx → EReal) := by
    refine (dats m 0 c).arrAt_eq_of_covers 2 _ (by decide +kernel) fun t hf y => ?_
    blk_simp
    rw [after0_2]
    have ht : t.val < 4 := t.isLt
    have h3 : t.val % 4 = 3 := (flush0_2 t).mp hf
    obtain ⟨a, j, rfl⟩ : ∃ (a : Fin 128) (j : Fin 512), y = ix2 a j := ⟨y 0, y 1, ValueIdx.eq_ix2 y⟩
    refine (written_eq m c t h3 a j).trans ((sum_of_blocks m c t h3 (ix2 a j)).trans ((zero_add _).trans ((blocks_are_rows m c t h3 a j (by have := j.isLt; omega)).trans ?_)))
    have e0 : win0_2.index t 0 = 0 := by rw [(index_at t).2.2]; rfl
    have e1 : win0_2.index t 1 = t.val / 4 := by rw [(index_at t).2.2]; rfl
    refine Finset.sum_congr rfl fun r _ => congrArg₂ (fun x y : EReal => x * y) (congrArg (fun q => X m c (ix2 r q)) (Fin.ext ?_))
      (congrArg (fun q => Y m c (ix2 r q)) (Fin.ext ?_))
    · show (a : ℕ) = win0_2.index t 0 * 128 + 1 * (a : ℕ); rw [e0]; omega
    · show t.val / 4 * 512 + (j : ℕ) = win0_2.index t 1 * 512 + 1 * (j : ℕ); rw [e1]; omega
  exact congrFun e (ix2 i j)

/-- An entry of the reference's product. -/
theorem reference_at (x : S8192x128.Idx → EReal) (y : S8192x512.Idx → EReal) (i : Fin 128) (j : Fin 512) :
    Cert.Reference7Ideal.Read.val_main_v2 (F := Ideal) x y (ix2 i j) = ∑ r : Fin 8192, x (ix2 r i) * y (ix2 r j) := by
  rw [Cert.Reference7Ideal.Read.val_main_v2_apply]
  refine (Cert.Reference7Ideal.Read.val_main_v1_apply x y (ix2 i j)).trans (Finset.sum_congr rfl fun r _ => congrArg₂ (fun a b : EReal => a * b) ?_ ?_)
  · rw [Cert.Reference7Ideal.Read.val_main_v0_apply]
    exact congrArg x (ValueIdx.eq_ix2 _)
  · exact congrArg y (ValueIdx.eq_ix2 _)

theorem reference : Cert.quiescent_Reference7Ideal (hReference7Ideal := Cert.Reference7Ideal.Gen.facts) := fun m ρ _ =>
  (θ_run Cert.Reference7Ideal.defs _ _).mono (fun r h => ⟨fun c => (h c).2, Idealize.ShloMosaic.sem_eq_zero_of_no_sems (by decide) r.2⟩)
    (Cert.Reference7Ideal.Value.run (F := Ideal) m ρ)

/-- The kernel and the reference compute the same matrix. -/
theorem algebraic : Cert.algebraic_Kernel7Ideal_Reference7Ideal (hKernel7Ideal := Cert.Kernel7Ideal.Gen.facts) (hReference7Ideal := Cert.Reference7Ideal.Gen.facts) := by
  pair_intro
  · run_from Cert.Kernel7Ideal.Value.run_blocks m g
  · refine (θ_run Cert.Reference7Ideal.defs _ _).mono (fun r h c => ?_) (Cert.Reference7Ideal.Value.run (F := Ideal) m' g')
    obtain ⟨h0, hk⟩ := h c
    obtain ⟨e0, e1⟩ := hagree c
    refine ⟨(h0.trans (Cert.Reference7Ideal.Read.val_main_v2_eq _ _)).trans ?_, hk⟩
    funext j
    obtain ⟨i, j, rfl⟩ : ∃ (i : Fin 128) (J : Fin 512), j = ix2 i J := ⟨j 0, j 1, ValueIdx.eq_ix2 j⟩
    refine Eq.trans ?_ (result m c i j).symm
    exact (reference_at _ _ i j).trans (Finset.sum_congr rfl fun r _ =>
      congrArg₂ (fun a b : EReal => a * b) (congrFun e0 (ix2 r i)) (congrFun e1 (ix2 r j)))

end Cert.GkWeight
-- ==== Proof.LrWeight.lean ====
/- The rows of the input projection's gradient for the forget gate's low-rank input: the kernel adds the products of four blocks of 2048 rows,
   one block of columns at a time, and leaves the sum over all rows. -/
module

public import proofs.«01_k».proof.Proof.Gen.Kernel8Ideal.Value
public import Idealize.ShloMosaic.Lib.Pipeline.ValueKit
public import Idealize.ShloMosaic.Lib.Pipeline.ReadBack
public import Idealize.ShloMosaic.Lib.StableHlo.RunRead
public import Idealize.ShloMosaic.Adequacy
public import Idealize.ShloMosaic.Init
public import proofs.«01_k».proof.Defs
public import proofs.«01_k».proof.Proof.Gen.Kernel8Ideal
public import proofs.«01_k».proof.Proof.Gen.Reference8Ideal
public import proofs.«01_k».proof.Proof.Gen.Reference8Ideal.Read

@[expose] public section

set_option maxRecDepth 16384

noncomputable section

namespace Cert.LrWeight

open Cert.Kernel8Ideal Cert.Kernel8Ideal.Gen Idealize.ShloMosaic Idealize.ShloMosaic.TcCoe Idealize.SL.Sem

/-- One block's contribution, added to what the blocks before it left. -/
theorem step (v : Vec Ideal S128x1024 .f32) (x0 : Vec Ideal S2048x128 .bf16) (x1 : Vec Ideal S2048x1024 .bf16) (i : Fin 128) (j : Fin 1024) :
    k0_pay2 (F := Ideal) v x0 x1 (ix2 i j) = v (ix2 i j) + ∑ r : Fin 2048, x0 (ix2 r i) * x1 (ix2 r j) := by
  pointwise [k0_pay2]

section Point

variable (c : Dev nD) (i : grid0.Coords) (arg2 : Memref sig .tc .vmem S2048x128 .bf16) (harg2 : arg2.IsWhole) (arg3 : Memref sig .tc .vmem S2048x1024 .bf16) (harg3 : arg3.IsWhole) (arg4 : Memref sig .tc .vmem S128x1024 .bf16) (harg4 : arg4.IsWhole)
    (arg5 : Memref sig .tc .vmem S128x1024 .f32) (harg5 : arg5.IsWhole)
  (x0 : Vec Ideal S2048x128 .bf16) (x1 : Vec Ideal S2048x1024 .bf16) (xs : Vec Ideal S128x1024 .f32) (a : Fin 128) (j : Fin 1024)

theorem first (hc0 : cond0_0 i) (hc1 : ¬cond0_1 i) :
    sout0_A_0 c i arg2 harg2 arg3 harg3 arg4 harg4 arg5 harg5 hc0 hc1 x0 x1 (ix2 a j) = 0 + ∑ r : Fin 2048, x0 (ix2 r a) * x1 (ix2 r j) := by
  frame_open
  simp (disch := decide) only [↓ View.readCov_skip, ↓ View.readCov_cons_toLoadRect, ↓ View.readCov_fill]
  frame_out
  rw [step]
  congr 1
  pointwise [k0_pay1]

theorem next (hc0 : ¬cond0_0 i) (hc1 : ¬cond0_1 i) :
    sout0_B_0 c i arg2 harg2 arg3 harg3 arg4 harg4 arg5 harg5 hc0 hc1 x0 x1 xs (ix2 a j) = xs (ix2 a j) + ∑ r : Fin 2048, x0 (ix2 r a) * x1 (ix2 r j) := by
  frame_open
  frame_out
  rw [step]

theorem last (hc0 : ¬cond0_0 i) (hc1 : cond0_1 i) :
    sout0_C_0 c i arg2 harg2 arg3 harg3 arg4 harg4 arg5 harg5 hc0 hc1 x0 x1 xs (ix2 a j) = xs (ix2 a j) + ∑ r : Fin 2048, x0 (ix2 r a) * x1 (ix2 r j) := by
  frame_open
  frame_out
  rw [step]

theorem written (hc0 : ¬cond0_0 i) (hc1 : cond0_1 i) :
    out0_C_2 c i arg2 harg2 arg3 harg3 arg4 harg4 arg5 harg5 hc0 hc1 x0 x1 xs (ix2 a j) = xs (ix2 a j) + ∑ r : Fin 2048, x0 (ix2 r a) * x1 (ix2 r j) := by
  frame_open
  simp (disch := decide) only [↓ View.readCov_skip, ↓ View.readCov_cons_toLoadRect, ↓ View.readCov_fill]
  frame_out
  pointwise [k0_pay3]
  rw [step]

end Point

variable (m : (ℓ : Loc nD τ sig) → Buf (Elt Ideal) ℓ) (c : Dev nD)

/-- The two matrices, and the blocks of them that a point reads. -/
abbrev X : S8192x128.Idx → EReal := m ((c : Thread nD τ).loc main_arg0)
abbrev Y : S8192x1024.Idx → EReal := m ((c : Thread nD τ).loc main_arg1)
abbrev blkX (t : Fin cfg0.N) : S2048x128.Idx → EReal := iblk m c 0 t
abbrev blkY (t : Fin cfg0.N) : S2048x1024.Idx → EReal := iblk m c 1 t
abbrev term (t : Fin cfg0.N) (y : S128x1024.Idx) : EReal := ∑ r : Fin 2048, blkX m c t (ix2 r (y 0)) * blkY m c t (ix2 r (y 1))

theorem index_at : ∀ t : Fin cfg0.N, win0_0.index t = ![t.val % 4, 0] ∧ win0_1.index t = ![t.val % 4, t.val / 4]
    ∧ win0_2.index t = ![0, t.val / 4] := by decide +kernel

/-- What the scratch holds after a point, from what it held before. -/
theorem scratch_first (t : Fin cfg0.N) (h0 : t.val % 4 = 0) (a : Fin 128) (j : Fin 1024) :
    (outsAt0 m c t.val t.isLt).2 (ix2 a j) = 0 + term m c t (ix2 a j) := by
  have h1 : ¬t.val % 4 = 3 := by omega
  have h := first c (grid0.coords t) (ms0_0 t) (hs0_0 t) (ms0_1 t) (hs0_1 t) (ms0_2 t) (hs0_2 t) scM0_0 (Memref.isWhole_whole _) (iblk m c 0 t) (iblk m c 1 t) a j ((hcond0_0 t).mpr h0) (fun h => h1 ((hcond0_1 t).mp h))
  rw [outsAt0_A m c t h0 h1]
  dsimp only
  exact h

theorem scratch_next (t : Fin cfg0.N) (h0 : ¬t.val % 4 = 0) (a : Fin 128) (j : Fin 1024) :
    (outsAt0 m c t.val t.isLt).2 (ix2 a j)
      = (outsAt0 m c (t.val - 1) (Nat.lt_of_le_of_lt (Nat.sub_le _ _) t.isLt)).2 (ix2 a j) + term m c t (ix2 a j) := by
  by_cases h1 : t.val % 4 = 3
  · have h := last c (grid0.coords t) (ms0_0 t) (hs0_0 t) (ms0_1 t) (hs0_1 t) (ms0_2 t) (hs0_2 t) scM0_0 (Memref.isWhole_whole _) (iblk m c 0 t) (iblk m c 1 t) (outsAt0 m c (t.val - 1) (Nat.lt_of_le_of_lt (Nat.sub_le _ _) t.isLt)).2 a j (fun h => h0 ((hcond0_0 t).mp h)) ((hcond0_1 t).mpr h1)
    rw [outsAt0_C m c t h0 h1]
    dsimp only
    exact h
  · have h := next c (grid0.coords t) (ms0_0 t) (hs0_0 t) (ms0_1 t) (hs0_1 t) (ms0_2 t) (hs0_2 t) scM0_0 (Memref.isWhole_whole _) (iblk m c 0 t) (iblk m c 1 t) (outsAt0 m c (t.val - 1) (Nat.lt_of_le_of_lt (Nat.sub_le _ _) t.isLt)).2 a j (fun h => h0 ((hcond0_0 t).mp h)) (fun h => h1 ((hcond0_1 t).mp h))
    rw [outsAt0_B m c t h0 h1]
    dsimp only
    exact h

/-- After the last block of rows, the scratch holds the sum of the four contributions. -/
theorem sum_of_blocks (t : Fin cfg0.N) (h : t.val % 4 = 4 - 1) (y : S128x1024.Idx) :
    (outsAt0 m c t.val t.isLt).2 y = 0 + ∑ s : Fin 4, term m c ⟨4 * (t.val / 4) + s.val, Pipeline.run_point_lt_of_flush t h s⟩ y := by
  refine Pipeline.eq_sum_fin_of_reset_step_apply_of_flush (fun n h => ((outsAt0 m c n h).2 : S128x1024.Idx → EReal)) 4 (fun _ => 0)
    (term m c) (fun t h0 y => ?_) (fun t h0 y => ?_) t h y
  · rw [ValueIdx.eq_ix2 y]
    exact scratch_first m c t h0 (y 0) (y 1)
  · rw [ValueIdx.eq_ix2 y]
    exact scratch_next m c t h0 (y 0) (y 1)

/-- What is written back is what the scratch holds. -/
theorem written_eq (t : Fin cfg0.N) (h : t.val % 4 = 3) (a : Fin 128) (j : Fin 1024) :
    (outsAt0 m c t.val t.isLt).1 (ix2 a j) = (outsAt0 m c t.val t.isLt).2 (ix2 a j) := by
  have h0 : ¬t.val % 4 = 0 := by omega
  have e := written c (grid0.coords t) (ms0_0 t) (hs0_0 t) (ms0_1 t) (hs0_1 t) (ms0_2 t) (hs0_2 t) scM0_0 (Memref.isWhole_whole _) (iblk m c 0 t) (iblk m c 1 t) (outsAt0 m c (t.val - 1) (Nat.lt_of_le_of_lt (Nat.sub_le _ _) t.isLt)).2 a j (fun h => h0 ((hcond0_0 t).mp h)) ((hcond0_1 t).mpr h)
  refine Eq.trans ?_ (scratch_next m c t h0 a j).symm
  rw [outsAt0_C m c t h0 h]
  dsimp only
  exact e

theorem at_X (t : Fin cfg0.N) (r : Fin 2048) (i : Fin 128) (h : t.val % 4 * 2048 + r.val < 8192) :
    blkX m c t (ix2 r i) = X m c (ix2 (⟨t.val % 4 * 2048 + r.val, h⟩ : Fin 8192) i) := by
  have e : iblk m c 0 t (ix2 r i) = V m c main_v0 (ix2 (⟨t.val % 4 * 2048 + r.val, h⟩ : Fin 8192) i) := by
    blk_ext [iblk, index_at t]
  have e' : V m c main_v0 = X m c := by
    unfold_abbrev_sides
    after_reads_simp
    rfl
  exact e.trans (congrFun e' _)

theorem at_Y (t : Fin cfg0.N) (r : Fin 2048) (j : Fin 1024) (h : t.val % 4 * 2048 + r.val < 8192) (h' : t.val / 4 * 1024 + j.val < 1024) :
    blkY m c t (ix2 r j) = Y m c (ix2 (⟨t.val % 4 * 2048 + r.val, h⟩ : Fin 8192) (⟨t.val / 4 * 1024 + j.val, h'⟩ : Fin 1024)) := by
  have e : iblk m c 1 t (ix2 r j) = V m c main_v1 (ix2 (⟨t.val % 4 * 2048 + r.val, h⟩ : Fin 8192) (⟨t.val / 4 * 1024 + j.val, h'⟩ : Fin 1024)) := by
    blk_ext [iblk, index_at t]
  have e' : V m c main_v1 = Y m c := by
    unfold_abbrev_sides
    after_reads_simp
    rfl
  exact e.trans (congrFun e' _)

/-- The four contributions are the product summed over all the rows. -/
theorem blocks_are_rows (t : Fin cfg0.N) (h : t.val % 4 = 4 - 1) (a : Fin 128) (j : Fin 1024) (h' : t.val / 4 * 1024 + j.val < 1024) :
    ∑ s : Fin 4, term m c ⟨4 * (t.val / 4) + s.val, Pipeline.run_point_lt_of_flush t h s⟩ (ix2 a j)
      = ∑ r : Fin 8192, X m c (ix2 r a) * Y m c (ix2 r (⟨t.val / 4 * 1024 + j.val, h'⟩ : Fin 1024)) := by
  refine Eq.trans (Finset.sum_congr rfl fun s _ => Finset.sum_congr rfl fun r _ => ?_)
    (Fin.sum_mul_add_fin 4 2048 (fun r : Fin 8192 => X m c (ix2 r a) * Y m c (ix2 r (⟨t.val / 4 * 1024 + j.val, h'⟩ : Fin 1024))) rfl)
  have hs := s.isLt
  have hm : (4 * (t.val / 4) + s.val) % 4 = s.val := by omega
  have hd : (4 * (t.val / 4) + s.val) / 4 = t.val / 4 := by omega
  have hr := r.isLt
  refine congrArg₂ (fun x y : EReal => x * y) ?_ ?_
  · refine (at_X m c _ r a (by dsimp only; omega)).trans (congrArg (fun q => X m c (ix2 q a)) (Fin.ext ?_))
    dsimp only
    rw [hm]
  · refine (at_Y m c _ r j (by dsimp only; omega) (by dsimp only; omega)).trans (congrArg₂ (fun q p => Y m c (ix2 q p)) (Fin.ext ?_) (Fin.ext ?_))
    · dsimp only
      rw [hm]
    · dsimp only
      rw [hd]

/-- The whole result: every entry is the product summed over all the rows. -/
theorem result (i : Fin 128) (j : Fin 1024) :
    ((dats m 0 c).arrAt 2 cfg0.N : S128x1024.Idx → EReal) (ix2 i j) = ∑ r : Fin 8192, X m c (ix2 r i) * Y m c (ix2 r j) := by
  have e : (dats m 0 c).arrAt 2 cfg0.N = (fun x => ∑ r : Fin 8192, X m c (ix2 r (x 0)) * Y m c (ix2 r (x 1)) : S128x1024.Idx → EReal) := by
    refine (dats m 0 c).arrAt_eq_of_covers 2 _ (by decide +kernel) fun t hf y => ?_
    blk_simp
    rw [after0_2]
    have ht : t.val < 4 := t.isLt
    have h3 : t.val % 4 = 3 := (flush0_2 t).mp hf
    obtain ⟨a, j, rfl⟩ : ∃ (a : Fin 128) (j : Fin 1024), y = ix2 a j := ⟨y 0, y 1, ValueIdx.eq_ix2 y⟩
    refine (written_eq m c t h3 a j).trans ((sum_of_blocks m c t h3 (ix2 a j)).trans ((zero_add _).trans ((blocks_are_rows m c t h3 a j (by have := j.isLt; omega)).trans ?_)))
    have e0 : win0_2.index t 0 = 0 := by rw [(index_at t).2.2]; rfl
    have e1 : win0_2.index t 1 = t.val / 4 := by rw [(index_at t).2.2]; rfl
    refine Finset.sum_congr rfl fun r _ => congrArg₂ (fun x y : EReal => x * y) (congrArg (fun q => X m c (ix2 r q)) (Fin.ext ?_))
      (congrArg (fun q => Y m c (ix2 r q)) (Fin.ext ?_))
    · show (a : ℕ) = win0_2.index t 0 * 128 + 1 * (a : ℕ); rw [e0]; omega
    · show t.val / 4 * 1024 + (j : ℕ) = win0_2.index t 1 * 1024 + 1 * (j : ℕ); rw [e1]; omega
  exact congrFun e (ix2 i j)

/-- An entry of the reference's product. -/
theorem reference_at (x : S8192x128.Idx → EReal) (y : S8192x1024.Idx → EReal) (i : Fin 128) (j : Fin 1024) :
    Cert.Reference8Ideal.Read.val_main_v2 (F := Ideal) x y (ix2 i j) = ∑ r : Fin 8192, x (ix2 r i) * y (ix2 r j) := by
  rw [Cert.Reference8Ideal.Read.val_main_v2_apply]
  refine (Cert.Reference8Ideal.Read.val_main_v1_apply x y (ix2 i j)).trans (Finset.sum_congr rfl fun r _ => congrArg₂ (fun a b : EReal => a * b) ?_ ?_)
  · rw [Cert.Reference8Ideal.Read.val_main_v0_apply]
    exact congrArg x (ValueIdx.eq_ix2 _)
  · exact congrArg y (ValueIdx.eq_ix2 _)

theorem reference : Cert.quiescent_Reference8Ideal (hReference8Ideal := Cert.Reference8Ideal.Gen.facts) := fun m ρ _ =>
  (θ_run Cert.Reference8Ideal.defs _ _).mono (fun r h => ⟨fun c => (h c).2, Idealize.ShloMosaic.sem_eq_zero_of_no_sems (by decide) r.2⟩)
    (Cert.Reference8Ideal.Value.run (F := Ideal) m ρ)

/-- The kernel and the reference compute the same matrix. -/
theorem algebraic : Cert.algebraic_Kernel8Ideal_Reference8Ideal (hKernel8Ideal := Cert.Kernel8Ideal.Gen.facts) (hReference8Ideal := Cert.Reference8Ideal.Gen.facts) := by
  pair_intro
  · run_from Cert.Kernel8Ideal.Value.run_blocks m g
  · refine (θ_run Cert.Reference8Ideal.defs _ _).mono (fun r h c => ?_) (Cert.Reference8Ideal.Value.run (F := Ideal) m' g')
    obtain ⟨h0, hk⟩ := h c
    obtain ⟨e0, e1⟩ := hagree c
    refine ⟨(h0.trans (Cert.Reference8Ideal.Read.val_main_v2_eq _ _)).trans ?_, hk⟩
    funext j
    obtain ⟨i, j, rfl⟩ : ∃ (i : Fin 128) (J : Fin 1024), j = ix2 i J := ⟨j 0, j 1, ValueIdx.eq_ix2 j⟩
    refine Eq.trans ?_ (result m c i j).symm
    exact (reference_at _ _ i j).trans (Finset.sum_congr rfl fun r _ =>
      congrArg₂ (fun a b : EReal => a * b) (congrFun e0 (ix2 r i)) (congrFun e1 (ix2 r j)))

end Cert.LrWeight
-- ==== Proof.RmsSpec.lean ====
/- The backward pass of a root-mean-square norm of rows of 1024 numbers, over the real numbers: `x` the rows before the
   norm, `g` its gain, `y` the gradient of the normed rows. -/
module

public import proofs.«01_k».proof.Proof.Spec

@[expose] public section

noncomputable section

namespace Cert.Rms

open Idealize.ShloMosaic Cert.Spec

section Root
variable (x : ℕ → ℕ → ℝ)

def ms (r : ℕ) : ℝ := (∑ i : Fin 1024, x r i * x r i) / 1024 + eps
/-- The reciprocal root mean square of row `r`. -/
def rs (r : ℕ) : ℝ := (Real.sqrt (ms x r))⁻¹

theorem ms_pos (r : ℕ) : 0 < ms x r := by
  have h : 0 ≤ ∑ i : Fin 1024, x r i * x r i := Finset.sum_nonneg fun i _ => mul_self_nonneg _
  unfold ms
  have := Spec.Tab.eps_pos
  positivity

theorem rs_cube (r : ℕ) : rs x r / ms x r = rs x r * rs x r * rs x r := by
  have h := ms_pos x r
  have hs : Real.sqrt (ms x r) * Real.sqrt (ms x r) = ms x r := Real.mul_self_sqrt h.le
  have h0 : Real.sqrt (ms x r) ≠ 0 := (Real.sqrt_pos.2 h).ne'
  have e : rs x r = (Real.sqrt (ms x r))⁻¹ := rfl
  generalize Real.sqrt (ms x r) = q at *
  rw [e, ← hs]
  field_simp

/-- The same root, of the sum divided in the extended reals. -/
theorem root_real (r : ℕ) : Ideal.rsqrt (Ideal.div ((∑ i : Fin 1024, x r i * x r i : ℝ) : EReal) ((1024 : ℝ) : EReal) + ((eps : ℝ) : EReal))
    = (rs x r : EReal) := by
  rw [div_real _ _ (by norm_num), ← EReal.coe_add]
  exact rsqrt_real _ (ms_pos x r)

end Root

variable (x : ℕ → ℕ → ℝ) (g : ℕ → ℝ) (y : ℕ → ℕ → ℝ)

/-- The gradients of the row before the norm, and of the gain. -/
def dx (r i : ℕ) : ℝ :=
  rs x r * (y r i * g i - x r i * rs x r * ((∑ j : Fin 1024, y r j * g j * (x r j * rs x r)) / 1024))
def gg (i : ℕ) : ℝ := ∑ r : Fin 8192, y r i * (x r i * rs x r)

/-- The gradient of the row in the form that differentiating the norm gives. -/
theorem dx_eq (r i : ℕ) : y r i * g i * rs x r
      + x r i * ((∑ j : Fin 1024, x r j * (y r j * g j)) * (-(1 / 2) * (rs x r / ms x r)) / 1024)
      + x r i * ((∑ j : Fin 1024, x r j * (y r j * g j)) * (-(1 / 2) * (rs x r / ms x r)) / 1024) = dx x g y r i := by
  have e : ∑ j : Fin 1024, y r j * g j * (x r j * rs x r) = rs x r * ∑ j : Fin 1024, x r j * (y r j * g j) := by
    rw [Finset.mul_sum]; exact Finset.sum_congr rfl fun j _ => by ring
  rw [rs_cube, dx, e]
  ring

/-- A sum over the rows of the first tiles, of 512 rows each. -/
theorem sum_tiles (f : ℕ → ℝ) (n : ℕ) :
    ∑ t ∈ Finset.range n, ∑ i : Fin 512, f (512 * t + i) = ∑ r ∈ Finset.range (512 * n), f r := by
  induction n with
  | zero => simp
  | succ n ih =>
    rw [Finset.sum_range_succ, ih, Nat.mul_succ, Finset.sum_range_add, ← Finset.sum_range (fun i => f (512 * n + i))]

end Cert.Rms
-- ==== Proof.InSpec.lean ====
/- The input projection's backward pass over the real numbers, and the order in which the columns of the projection are
   taken: six blocks of 1024 and one of 128, of which the last 112 columns are zeros. -/
module

public import proofs.«01_k».proof.Proof.RmsSpec

@[expose] public section

noncomputable section

namespace Cert.In

open Idealize.ShloMosaic Cert.Spec

/-- The arrays, as tables of real numbers: `x` and `d` are indexed by the position of the sequence, `g` is the norm's
    gain, `W` the projection, `d` the gradient of the projection's output. -/
structure Tab where
  x : ℕ → ℕ → ℝ
  g : ℕ → ℝ
  W : ℕ → ℕ → ℝ
  d : ℕ → ℕ → ℝ

/-- The gradient of the normed row. -/
def Tab.acc (D : Tab) (r i : ℕ) : ℝ := ∑ J : Fin 6160, D.d r J * D.W i J

/-- Where a column comes from, and where it goes: the queries' and the keys' four heads are interleaved, and the sixteen
    columns at 4096 are put last. -/
def src (k : ℕ) : ℕ :=
  if k < 1024 then k
  else if k < 2048 then 1024 + (k - 1024) % 256 / 128 * 512 + (k - 1024) / 256 * 128 + k % 128
  else if k < 4096 then k
  else if k < 6144 then k + 16
  else k - 2048
def dst (J : ℕ) : ℕ :=
  if J < 1024 then J
  else if J < 2048 then 1024 + (J - 1024) % 512 / 128 * 256 + (J - 1024) / 512 * 128 + J % 128
  else if J < 4096 then J
  else if J < 4112 then J + 2048
  else J - 16

/-- A row of 6160 numbers in that order, zeros after it. -/
def padded (f : ℕ → ℝ) (k : ℕ) : ℝ := if k < 6160 then f (src k) else 0

theorem src_lt (k : ℕ) (h : k < 6160) : src k < 6160 := by unfold src; split_ifs <;> omega
theorem dst_lt (J : ℕ) (h : J < 6160) : dst J < 6160 := by unfold dst; split_ifs <;> omega
theorem dst_src (k : ℕ) (h : k < 6160) : dst (src k) = k := by unfold src; split_ifs <;> unfold dst <;> split_ifs <;> omega
theorem src_dst (J : ℕ) (h : J < 6160) : src (dst J) = J := by unfold dst; split_ifs <;> unfold src <;> split_ifs <;> omega

/-- The product of two rows does not depend on the order of the columns. -/
theorem sum_padded (f h : ℕ → ℝ) : ∑ k : Fin 6272, padded f k * padded h k = ∑ J : Fin 6160, f J * h J := by
  rw [← Finset.sum_range (fun k => padded f k * padded h k), show 6272 = 6160 + 112 from rfl, Finset.sum_range_add,
    Finset.sum_eq_zero (s := Finset.range 112), add_zero, ← Finset.sum_range (fun J => f J * h J)]
  · refine Finset.sum_nbij' src dst (fun k hk => ?_) (fun k hk => ?_) (fun k hk => ?_) (fun k hk => ?_) (fun k hk => ?_)
    · exact Finset.mem_range.2 (src_lt k (Finset.mem_range.1 hk))
    · exact Finset.mem_range.2 (dst_lt k (Finset.mem_range.1 hk))
    · exact dst_src k (Finset.mem_range.1 hk)
    · exact src_dst k (Finset.mem_range.1 hk)
    · rw [padded, padded, if_pos (Finset.mem_range.1 hk), if_pos (Finset.mem_range.1 hk)]
  · intro k _
    rw [padded, if_neg (by omega), zero_mul]

end Cert.In
-- ==== Proof.InGrad.lean ====
/- The input projection's backward pass: the kernel multiplies the projection's gradient, its columns in six blocks and
   a padded one, with the projection, and takes the product back through the norm. -/
module

public import proofs.«01_k».proof.Proof.InSpec
public import proofs.«01_k».proof.Proof.Consts
public import proofs.«01_k».proof.Proof.Finite
public import Idealize.ShloMosaic.Lib.Pipeline.ValueKit
public import Idealize.ShloMosaic.Lib.Pipeline.ReadBack
public import Idealize.ShloMosaic.Lib.StableHlo.RunRead
public import Idealize.ShloMosaic.Adequacy
public import Idealize.ShloMosaic.Init
public import proofs.«01_k».proof.Defs
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Read
public import proofs.«01_k».proof.Proof.Gen.Pre_in_grad_finite

@[expose] public section

set_option maxRecDepth 16384

noncomputable section

namespace Cert.InGrad

open Cert.Kernel9Ideal Cert.Kernel9Ideal.Gen Idealize.ShloMosaic Idealize.ShloMosaic.TcCoe Idealize.SL.Sem Cert.Rms Cert.In
open Cert.Spec hiding Tab
open Cert.Reference9Ideal.Read

/-- Arrays that hold the tables' real numbers. -/
structure Holds (D : Tab) (X0 : S8192x1024.Idx → EReal) (X1 : S1024.Idx → EReal) (X2 : S1024x6160.Idx → EReal) (X3 : S8192x6160.Idx → EReal) : Prop where
  x : ∀ (r : Fin 8192) (i : Fin 1024), X0 (ix2 r i) = (D.x r i : EReal)
  g : ∀ i : Fin 1024, X1 (ix1 i) = (D.g i : EReal)
  W : ∀ (i : Fin 1024) (J : Fin 6160), X2 (ix2 i J) = (D.W i J : EReal)
  d : ∀ (r : Fin 8192) (J : Fin 6160), X3 (ix2 r J) = (D.d r J : EReal)

section Reference

variable {D : Tab} {X0 : FVec Ideal S8192x1024 .f32} {X1 : FVec Ideal S1024 .f32} {X2 : FVec Ideal S1024x6160 .f32} {X3 : FVec Ideal S8192x6160 .f32}

theorem v6 (H : Holds D X0 X1 X2 X3) (r : Fin 8192) (z : Fin 1) : val_main_v6 (F := Ideal) X0 (ix2 r z) = (ms D.x r : EReal) := by
  pointwise [val_main_v6, val_main_v5, val_main_v4, val_main_v3, val_main_v2, val_main_v1, val_main_v0, val_main_cst, val_main_cst_0, val_main_cst_1]
  rw [Consts.c_1024, Consts.c_eps]
  simp only [H.x, ← EReal.coe_mul, ← coe_sum]
  rw [div_real _ _ (by norm_num), ← EReal.coe_add]
  rfl

theorem v7 (H : Holds D X0 X1 X2 X3) (r : Fin 8192) (z : Fin 1) : val_main_v7 (F := Ideal) X0 (ix2 r z) = (rs D.x r : EReal) := by
  pointwise [val_main_v7]
  rw [v6 H, rsqrt_real _ (ms_pos D.x r)]
  rfl

theorem v10 (H : Holds D X0 X1 X2 X3) (r : Fin 8192) (z : Fin 1) :
    val_main_v10 (F := Ideal) X0 (ix2 r z) = ((-(1 / 2) * (rs D.x r / ms D.x r) : ℝ) : EReal) := by
  pointwise [val_main_v10, val_main_v9, val_main_cst_2, val_main_v8]
  rw [v6 H, v7 H, Consts.c_neg_half, div_real _ _ (ms_pos D.x r).ne', ← EReal.coe_mul]

theorem v12 (H : Holds D X0 X1 X2 X3) (r : Fin 8192) (i : Fin 1024) :
    val_main_v12 (F := Ideal) X0 (ix2 r i) = ((D.x r i * rs D.x r : ℝ) : EReal) := by
  pointwise [val_main_v12, val_main_v11]
  rw [v7 H, H.x, ← EReal.coe_mul]

/-- The gradient of the normed row. -/
theorem v17 (H : Holds D X0 X1 X2 X3) (r : Fin 8192) (i : Fin 1024) : val_main_v17 (F := Ideal) X2 X3 (ix2 r i) = (D.acc r i : EReal) := by
  pointwise [val_main_v17]
  simp only [H.d, H.W, ← EReal.coe_mul, ← coe_sum]
  rfl

/-- The gradient of the gain. -/
theorem v39 (H : Holds D X0 X1 X2 X3) (z : Fin 1) (i : Fin 1024) :
    val_main_v39 (F := Ideal) X0 X2 X3 (ix2 z i) = (gg D.x D.acc i : EReal) := by
  pointwise [val_main_v39, val_main_v23, val_main_v20, val_main_v19, val_main_v18, val_main_cst_3, val_main_cst_4]
  simp only [Finset.univ_unique, Finset.sum_singleton]
  simp only [v12 H, v17 H, ← EReal.coe_mul, ← coe_sum]
  simp only [gg, mul_comm]

theorem v22 (H : Holds D X0 X1 X2 X3) (r : Fin 8192) (i : Fin 1024) :
    val_main_v22 (F := Ideal) X1 X2 X3 (ix2 r i) = ((D.acc r i * D.g i : ℝ) : EReal) := by
  pointwise [val_main_v22, val_main_v21, val_main_v13]
  rw [v17 H, H.g, ← EReal.coe_mul]

theorem v33 (H : Holds D X0 X1 X2 X3) (r : Fin 8192) (i : Fin 1024) :
    val_main_v33 (F := Ideal) X0 X1 X2 X3 (ix2 r i)
      = (((∑ j : Fin 1024, D.x r j * (D.acc r j * D.g j)) * (-(1 / 2) * (rs D.x r / ms D.x r)) / 1024 : ℝ) : EReal) := by
  pointwise [val_main_v33, val_main_v32, val_main_v31, val_main_v30, val_main_v29, val_main_v26, val_main_v25, val_main_v24,
    val_main_cst_5, val_main_cst_6, val_main_cst_7]
  simp only [Finset.univ_unique, Finset.sum_singleton]
  rw [v10 H, Consts.c_1024]
  simp only [v22 H, H.x, ← EReal.coe_mul, ← coe_sum]
  rw [div_real _ _ (by norm_num)]

/-- The gradient of the row before the norm, added to the gradient that reaches it otherwise. -/
theorem v38 (H : Holds D X0 X1 X2 X3) (X4 : FVec Ideal S8192x1024 .f32) (r : Fin 8192) (i : Fin 1024) :
    val_main_v38 (F := Ideal) X0 X1 X2 X3 X4 (ix2 r i) = X4 (ix2 r i) + (dx D.x D.g D.acc r i : EReal) := by
  pointwise [val_main_v38, val_main_v37, val_main_v36, val_main_v35, val_main_v34, val_main_v28, val_main_v27]
  rw [v33 H, v22 H, v7 H, H.x]
  simp only [← EReal.coe_mul, ← EReal.coe_add]
  rw [← dx_eq]
  refine congrArg (fun q : ℝ => X4 (ix2 r i) + (q : EReal)) ?_
  ring

end Reference

section Body

variable {D : Tab} {T : ℕ} {x0 : Vec Ideal S512x1024 .bf16} {x1 : Vec Ideal S512x1024 .bf16} {x2 : Vec Ideal S512x1024 .bf16} {x3 : Vec Ideal S512x1024 .bf16} {x4 : Vec Ideal S512x1024 .bf16} {x5 : Vec Ideal S512x1024 .bf16} {x6 : Vec Ideal S512x128 .bf16} {x7 : Vec Ideal S6272x1024 .bf16} {x8 : Vec Ideal S512x1024 .f32} {x9 : Vec Ideal S1x1024 .f32} {x10 : Vec Ideal S512x1024 .f32} {o : Vec Ideal S1x1024 .f32}

/-- The blocks that point `T` reads. -/
structure Blocks (D : Tab) (T : ℕ) (x0 : Vec Ideal S512x1024 .bf16) (x1 : Vec Ideal S512x1024 .bf16) (x2 : Vec Ideal S512x1024 .bf16) (x3 : Vec Ideal S512x1024 .bf16) (x4 : Vec Ideal S512x1024 .bf16) (x5 : Vec Ideal S512x1024 .bf16) (x6 : Vec Ideal S512x128 .bf16) (x7 : Vec Ideal S6272x1024 .bf16) (x8 : Vec Ideal S512x1024 .f32) (x9 : Vec Ideal S1x1024 .f32) : Prop where
  d0 : ∀ (a : Fin 512) (j : Fin 1024), x0 (ix2 a j) = (padded (D.d (512 * T + a)) (0 + j) : EReal)
  d1 : ∀ (a : Fin 512) (j : Fin 1024), x1 (ix2 a j) = (padded (D.d (512 * T + a)) (1024 + j) : EReal)
  d2 : ∀ (a : Fin 512) (j : Fin 1024), x2 (ix2 a j) = (padded (D.d (512 * T + a)) (2048 + j) : EReal)
  d3 : ∀ (a : Fin 512) (j : Fin 1024), x3 (ix2 a j) = (padded (D.d (512 * T + a)) (3072 + j) : EReal)
  d4 : ∀ (a : Fin 512) (j : Fin 1024), x4 (ix2 a j) = (padded (D.d (512 * T + a)) (4096 + j) : EReal)
  d5 : ∀ (a : Fin 512) (j : Fin 1024), x5 (ix2 a j) = (padded (D.d (512 * T + a)) (5120 + j) : EReal)
  d6 : ∀ (a : Fin 512) (j : Fin 128), x6 (ix2 a j) = (padded (D.d (512 * T + a)) (6144 + j) : EReal)
  W : ∀ (k : Fin 6272) (i : Fin 1024), x7 (ix2 k i) = (padded (D.W i) k : EReal)
  x : ∀ (a : Fin 512) (i : Fin 1024), x8 (ix2 a i) = (D.x (512 * T + a) i : EReal)
  g : ∀ (z : Fin 1) (i : Fin 1024), x9 (ix2 z i) = (D.g i : EReal)

theorem prod (H : Blocks D T x0 x1 x2 x3 x4 x5 x6 x7 x8 x9) (a : Fin 512) (i : Fin 1024) :
    k0_pay5 (F := Ideal) x0 x1 x2 x3 x4 x5 x6 x7 (ix2 a i) = (D.acc (512 * T + a) i : EReal) := by
  have e : ∀ k : Fin 6272, (concatenate S512x6272 1 [⟨S512x1024, x0⟩, ⟨S512x1024, x1⟩, ⟨S512x1024, x2⟩, ⟨S512x1024, x3⟩, ⟨S512x1024, x4⟩, ⟨S512x1024, x5⟩, ⟨S512x128, x6⟩]
      concatenates_S512x1024_S512x1024_S512x1024_S512x1024_S512x1024_S512x1024_S512x128_S512x6272_d1 : S512x6272.Idx → EReal) (ix2 a k) = (padded (D.d (512 * T + a)) k : EReal) := fun k => by
    have hk := k.isLt
    pointwise
    split_ifs
    any_goals (rename_i hz; exact absurd rfl hz)
    · exact (H.d0 a ⟨_, by omega⟩).trans (congrArg (fun q => ((padded (D.d (512 * T + a)) q : ℝ) : EReal)) (by first | omega | (dsimp only; omega) | dsimp only))
    · exact (H.d1 a ⟨_, by omega⟩).trans (congrArg (fun q => ((padded (D.d (512 * T + a)) q : ℝ) : EReal)) (by first | omega | (dsimp only; omega) | dsimp only))
    · exact (H.d2 a ⟨_, by omega⟩).trans (congrArg (fun q => ((padded (D.d (512 * T + a)) q : ℝ) : EReal)) (by first | omega | (dsimp only; omega) | dsimp only))
    · exact (H.d3 a ⟨_, by omega⟩).trans (congrArg (fun q => ((padded (D.d (512 * T + a)) q : ℝ) : EReal)) (by first | omega | (dsimp only; omega) | dsimp only))
    · exact (H.d4 a ⟨_, by omega⟩).trans (congrArg (fun q => ((padded (D.d (512 * T + a)) q : ℝ) : EReal)) (by first | omega | (dsimp only; omega) | dsimp only))
    · exact (H.d5 a ⟨_, by omega⟩).trans (congrArg (fun q => ((padded (D.d (512 * T + a)) q : ℝ) : EReal)) (by first | omega | (dsimp only; omega) | dsimp only))
    · exact (H.d6 a ⟨_, by omega⟩).trans (congrArg (fun q => ((padded (D.d (512 * T + a)) q : ℝ) : EReal)) (by first | omega | (dsimp only; omega) | dsimp only))
  have s : k0_pay5 (F := Ideal) x0 x1 x2 x3 x4 x5 x6 x7 (ix2 a i) = ∑ k : Fin 6272, (concatenate S512x6272 1 [⟨S512x1024, x0⟩, ⟨S512x1024, x1⟩, ⟨S512x1024, x2⟩, ⟨S512x1024, x3⟩, ⟨S512x1024, x4⟩, ⟨S512x1024, x5⟩, ⟨S512x128, x6⟩]
      concatenates_S512x1024_S512x1024_S512x1024_S512x1024_S512x1024_S512x1024_S512x128_S512x6272_d1 : S512x6272.Idx → EReal) (ix2 a k) * x7 (ix2 k i) := by
    pointwise [k0_pay5]
  rw [s]
  simp only [e, H.W, ← EReal.coe_mul, ← coe_sum]
  exact congrArg _ (sum_padded _ _)

theorem root (H : Blocks D T x0 x1 x2 x3 x4 x5 x6 x7 x8 x9) (a : Fin 512) (z : Fin 1) : k0_pay7 (F := Ideal) x8 (ix2 a z) = (rs D.x (512 * T + a) : EReal) := by
  pointwise [k0_pay7]
  rw [Consts.c_1024, Consts.c_eps]
  simp only [H.x, ← EReal.coe_mul, ← coe_sum]
  exact root_real D.x (512 * T + a)

theorem normed (H : Blocks D T x0 x1 x2 x3 x4 x5 x6 x7 x8 x9) (a : Fin 512) (i : Fin 1024) :
    k0_pay1 (F := Ideal) x8 (k0_pay7 x8) (ix2 a i) = ((D.x (512 * T + a) i * rs D.x (512 * T + a) : ℝ) : EReal) := by
  pointwise [k0_pay1]
  rw [root H, H.x, ← EReal.coe_mul]

theorem row (H : Blocks D T x0 x1 x2 x3 x4 x5 x6 x7 x8 x9) (a : Fin 512) (i : Fin 1024) :
    k0_pay2 (F := Ideal) (k0_pay5 x0 x1 x2 x3 x4 x5 x6 x7) x8 (k0_pay6 x9) (k0_pay7 x8) x10 (ix2 a i) = x10 (ix2 a i) + (dx D.x D.g D.acc (512 * T + a) i : EReal) := by
  pointwise [k0_pay2, k0_pay6]
  simp only [root H, normed H, prod H, H.g, Consts.c_1024, ← EReal.coe_mul, ← coe_sum]
  rw [div_real _ _ (by norm_num), ← EReal.coe_mul, ← EReal.coe_sub, ← EReal.coe_mul]
  rfl

/-- Tile `T`'s part of the gain's gradient. -/
def part (D : Tab) (T i : ℕ) : ℝ := ∑ a : Fin 512, D.acc (512 * T + a) i * (D.x (512 * T + a) i * rs D.x (512 * T + a))

theorem gain (H : Blocks D T x0 x1 x2 x3 x4 x5 x6 x7 x8 x9) (z : Fin 1) (i : Fin 1024) :
    k0_pay3 (F := Ideal) (k0_pay5 x0 x1 x2 x3 x4 x5 x6 x7) x8 (k0_pay7 x8) o (ix2 z i) = o (ix2 z i) + (part D T i : EReal) := by
  pointwise [k0_pay3]
  simp only [normed H, prod H, ← EReal.coe_mul, ← coe_sum]
  rfl

end Body

section Point

variable {D : Tab} {T : ℕ} (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x128 .bf16) (harg7 : arg7.IsWhole) (arg8 : Memref sig .tc .vmem S6272x1024 .bf16) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S1x1024 .f32) (harg13 : arg13.IsWhole)
  (x0 : Vec Ideal S512x1024 .bf16) (x1 : Vec Ideal S512x1024 .bf16) (x2 : Vec Ideal S512x1024 .bf16) (x3 : Vec Ideal S512x1024 .bf16) (x4 : Vec Ideal S512x1024 .bf16) (x5 : Vec Ideal S512x1024 .bf16) (x6 : Vec Ideal S512x128 .bf16) (x7 : Vec Ideal S6272x1024 .bf16) (x8 : Vec Ideal S512x1024 .f32) (x9 : Vec Ideal S1x1024 .f32) (x10 : Vec Ideal S512x1024 .f32) (o : Vec Ideal S1x1024 .f32)

theorem A11 (hc0 : cond0_0 i) (H : Blocks D T x0 x1 x2 x3 x4 x5 x6 x7 x8 x9) (a : Fin 512) (j : Fin 1024) :
    out0_A_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 x10 (ix2 a j) = x10 (ix2 a j) + (dx D.x D.g D.acc (512 * T + a) j : EReal) := by
  frame_open
  simp (disch := decide) only [↓ View.readCov_skip, ↓ View.readCov_cons_toLoadRect, ↓ View.readCov_fill]
  frame_out
  exact row H a j

theorem B11 (hc0 : ¬cond0_0 i) (H : Blocks D T x0 x1 x2 x3 x4 x5 x6 x7 x8 x9) (a : Fin 512) (j : Fin 1024) :
    out0_B_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 x10 o (ix2 a j) = x10 (ix2 a j) + (dx D.x D.g D.acc (512 * T + a) j : EReal) := by
  frame_open
  simp (disch := decide) only [↓ View.readCov_skip, ↓ View.readCov_cons_toLoadRect, ↓ View.readCov_fill]
  frame_out
  exact row H a j

theorem A12 (hc0 : cond0_0 i) (H : Blocks D T x0 x1 x2 x3 x4 x5 x6 x7 x8 x9) (z : Fin 1) (j : Fin 1024) :
    out0_A_12 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 x10 (ix2 z j) = (part D T j : EReal) := by
  frame_open
  simp (disch := decide) only [↓ View.readCov_skip, ↓ View.readCov_cons_toLoadRect, ↓ View.readCov_fill]
  frame_out
  refine (gain H z j).trans ?_
  pointwise [k0_pay4]

theorem B12 (hc0 : ¬cond0_0 i) (H : Blocks D T x0 x1 x2 x3 x4 x5 x6 x7 x8 x9) (z : Fin 1) (j : Fin 1024) :
    out0_B_12 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 x10 o (ix2 z j) = o (ix2 z j) + (part D T j : EReal) := by
  frame_open
  simp (disch := decide) only [↓ View.readCov_skip, ↓ View.readCov_cons_toLoadRect, ↓ View.readCov_fill]
  frame_out
  exact gain H z j

end Point

variable {m : (ℓ : Loc nD τ sig) → Buf (Elt Ideal) ℓ} {c : Dev nD} {D : Tab}

/-- Core `c`'s arguments hold the tables' real numbers. -/
abbrev HoldsAt (m : (ℓ : Loc nD τ sig) → Buf (Elt Ideal) ℓ) (c : Dev nD) (D : Tab) : Prop :=
  Holds D (m ((c : Thread nD τ).loc main_arg0)) (m ((c : Thread nD τ).loc main_arg1)) (m ((c : Thread nD τ).loc main_arg2)) (m ((c : Thread nD τ).loc main_arg3))

theorem padded_eq (f : ℕ → ℝ) (k J : ℕ) (h : k < 6160) (e : src k = J) : padded f k = f J := by
  rw [padded, if_pos h, e]

/-- The arrays on the host before its operation number `n`. -/
abbrev before (m : (ℓ : Loc nD τ sig) → Buf (Elt Ideal) ℓ) (c : Dev nD) (n : ℕ) : Valuation τ sig (Elt Ideal) :=
  StableHlo.upto hostOps0 (fun b => m (c, b)) n

/-- Eight pieces joined along the rows. -/
theorem join_rows {g : ℕ → ℕ → ℝ} {a0 : Vec Ideal S128x1024 .bf16} {a1 : Vec Ideal S128x1024 .bf16} {a2 : Vec Ideal S128x1024 .bf16} {a3 : Vec Ideal S128x1024 .bf16} {a4 : Vec Ideal S128x1024 .bf16} {a5 : Vec Ideal S128x1024 .bf16} {a6 : Vec Ideal S128x1024 .bf16} {a7 : Vec Ideal S128x1024 .bf16} (hc : Shape.Concatenates [S128x1024, S128x1024, S128x1024, S128x1024, S128x1024, S128x1024, S128x1024, S128x1024] S1024x1024 0)
    (h0 : ∀ (z : Fin 128) (i : Fin 1024), a0 (ix2 z i) = (padded (g i) (1024 + z) : EReal))
    (h1 : ∀ (z : Fin 128) (i : Fin 1024), a1 (ix2 z i) = (padded (g i) (1152 + z) : EReal))
    (h2 : ∀ (z : Fin 128) (i : Fin 1024), a2 (ix2 z i) = (padded (g i) (1280 + z) : EReal))
    (h3 : ∀ (z : Fin 128) (i : Fin 1024), a3 (ix2 z i) = (padded (g i) (1408 + z) : EReal))
    (h4 : ∀ (z : Fin 128) (i : Fin 1024), a4 (ix2 z i) = (padded (g i) (1536 + z) : EReal))
    (h5 : ∀ (z : Fin 128) (i : Fin 1024), a5 (ix2 z i) = (padded (g i) (1664 + z) : EReal))
    (h6 : ∀ (z : Fin 128) (i : Fin 1024), a6 (ix2 z i) = (padded (g i) (1792 + z) : EReal))
    (h7 : ∀ (z : Fin 128) (i : Fin 1024), a7 (ix2 z i) = (padded (g i) (1920 + z) : EReal))
    (k : Fin 1024) (i : Fin 1024) : concatenate S1024x1024 0 [⟨S128x1024, a0⟩, ⟨S128x1024, a1⟩, ⟨S128x1024, a2⟩, ⟨S128x1024, a3⟩, ⟨S128x1024, a4⟩, ⟨S128x1024, a5⟩, ⟨S128x1024, a6⟩, ⟨S128x1024, a7⟩] hc (ix2 k i) = (padded (g i) (1024 + k) : EReal) := by
  have hk := k.isLt
  pointwise
  split_ifs
  any_goals (rename_i hz; exact absurd rfl hz)
  · exact (h0 ⟨_, by omega⟩ i).trans (congrArg (fun q : ℕ => ((padded (g i) q : ℝ) : EReal)) (by first | omega | (dsimp only; omega) | dsimp only))
  · exact (h1 ⟨_, by omega⟩ i).trans (congrArg (fun q : ℕ => ((padded (g i) q : ℝ) : EReal)) (by first | omega | (dsimp only; omega) | dsimp only))
  · exact (h2 ⟨_, by omega⟩ i).trans (congrArg (fun q : ℕ => ((padded (g i) q : ℝ) : EReal)) (by first | omega | (dsimp only; omega) | dsimp only))
  · exact (h3 ⟨_, by omega⟩ i).trans (congrArg (fun q : ℕ => ((padded (g i) q : ℝ) : EReal)) (by first | omega | (dsimp only; omega) | dsimp only))
  · exact (h4 ⟨_, by omega⟩ i).trans (congrArg (fun q : ℕ => ((padded (g i) q : ℝ) : EReal)) (by first | omega | (dsimp only; omega) | dsimp only))
  · exact (h5 ⟨_, by omega⟩ i).trans (congrArg (fun q : ℕ => ((padded (g i) q : ℝ) : EReal)) (by first | omega | (dsimp only; omega) | dsimp only))
  · exact (h6 ⟨_, by omega⟩ i).trans (congrArg (fun q : ℕ => ((padded (g i) q : ℝ) : EReal)) (by first | omega | (dsimp only; omega) | dsimp only))
  · exact (h7 ⟨_, by omega⟩ i).trans (congrArg (fun q : ℕ => ((padded (g i) q : ℝ) : EReal)) (by first | omega | (dsimp only; omega) | dsimp only))

/-- Eight pieces joined along the columns. -/
theorem join_columns {g : ℕ → ℕ → ℝ} {a0 : Vec Ideal S8192x128 .bf16} {a1 : Vec Ideal S8192x128 .bf16} {a2 : Vec Ideal S8192x128 .bf16} {a3 : Vec Ideal S8192x128 .bf16} {a4 : Vec Ideal S8192x128 .bf16} {a5 : Vec Ideal S8192x128 .bf16} {a6 : Vec Ideal S8192x128 .bf16} {a7 : Vec Ideal S8192x128 .bf16} (hc : Shape.Concatenates [S8192x128, S8192x128, S8192x128, S8192x128, S8192x128, S8192x128, S8192x128, S8192x128] S8192x1024 1)
    (h0 : ∀ (r : Fin 8192) (z : Fin 128), a0 (ix2 r z) = (padded (g r) (1024 + z) : EReal))
    (h1 : ∀ (r : Fin 8192) (z : Fin 128), a1 (ix2 r z) = (padded (g r) (1152 + z) : EReal))
    (h2 : ∀ (r : Fin 8192) (z : Fin 128), a2 (ix2 r z) = (padded (g r) (1280 + z) : EReal))
    (h3 : ∀ (r : Fin 8192) (z : Fin 128), a3 (ix2 r z) = (padded (g r) (1408 + z) : EReal))
    (h4 : ∀ (r : Fin 8192) (z : Fin 128), a4 (ix2 r z) = (padded (g r) (1536 + z) : EReal))
    (h5 : ∀ (r : Fin 8192) (z : Fin 128), a5 (ix2 r z) = (padded (g r) (1664 + z) : EReal))
    (h6 : ∀ (r : Fin 8192) (z : Fin 128), a6 (ix2 r z) = (padded (g r) (1792 + z) : EReal))
    (h7 : ∀ (r : Fin 8192) (z : Fin 128), a7 (ix2 r z) = (padded (g r) (1920 + z) : EReal))
    (r : Fin 8192) (k : Fin 1024) : concatenate S8192x1024 1 [⟨S8192x128, a0⟩, ⟨S8192x128, a1⟩, ⟨S8192x128, a2⟩, ⟨S8192x128, a3⟩, ⟨S8192x128, a4⟩, ⟨S8192x128, a5⟩, ⟨S8192x128, a6⟩, ⟨S8192x128, a7⟩] hc (ix2 r k) = (padded (g r) (1024 + k) : EReal) := by
  have hk := k.isLt
  pointwise
  split_ifs
  any_goals (rename_i hz; exact absurd rfl hz)
  · exact (h0 r ⟨_, by omega⟩).trans (congrArg (fun q : ℕ => ((padded (g r) q : ℝ) : EReal)) (by first | omega | (dsimp only; omega) | dsimp only))
  · exact (h1 r ⟨_, by omega⟩).trans (congrArg (fun q : ℕ => ((padded (g r) q : ℝ) : EReal)) (by first | omega | (dsimp only; omega) | dsimp only))
  · exact (h2 r ⟨_, by omega⟩).trans (congrArg (fun q : ℕ => ((padded (g r) q : ℝ) : EReal)) (by first | omega | (dsimp only; omega) | dsimp only))
  · exact (h3 r ⟨_, by omega⟩).trans (congrArg (fun q : ℕ => ((padded (g r) q : ℝ) : EReal)) (by first | omega | (dsimp only; omega) | dsimp only))
  · exact (h4 r ⟨_, by omega⟩).trans (congrArg (fun q : ℕ => ((padded (g r) q : ℝ) : EReal)) (by first | omega | (dsimp only; omega) | dsimp only))
  · exact (h5 r ⟨_, by omega⟩).trans (congrArg (fun q : ℕ => ((padded (g r) q : ℝ) : EReal)) (by first | omega | (dsimp only; omega) | dsimp only))
  · exact (h6 r ⟨_, by omega⟩).trans (congrArg (fun q : ℕ => ((padded (g r) q : ℝ) : EReal)) (by first | omega | (dsimp only; omega) | dsimp only))
  · exact (h7 r ⟨_, by omega⟩).trans (congrArg (fun q : ℕ => ((padded (g r) q : ℝ) : EReal)) (by first | omega | (dsimp only; omega) | dsimp only))

/-- The seven pieces of the weight. -/
theorem join_weight {g : ℕ → ℕ → ℝ} {a0 : Vec Ideal S1024x1024 .bf16} {a1 : Vec Ideal S1024x1024 .bf16} {a2 : Vec Ideal S1024x1024 .bf16} {a3 : Vec Ideal S1024x1024 .bf16} {a4 : Vec Ideal S1024x1024 .bf16} {a5 : Vec Ideal S1024x1024 .bf16} {a6 : Vec Ideal S128x1024 .bf16} (hc : Shape.Concatenates [S1024x1024, S1024x1024, S1024x1024, S1024x1024, S1024x1024, S1024x1024, S128x1024] S6272x1024 0)
    (h0 : ∀ (z : Fin 1024) (i : Fin 1024), a0 (ix2 z i) = (padded (g i) (0 + z) : EReal))
    (h1 : ∀ (z : Fin 1024) (i : Fin 1024), a1 (ix2 z i) = (padded (g i) (1024 + z) : EReal))
    (h2 : ∀ (z : Fin 1024) (i : Fin 1024), a2 (ix2 z i) = (padded (g i) (2048 + z) : EReal))
    (h3 : ∀ (z : Fin 1024) (i : Fin 1024), a3 (ix2 z i) = (padded (g i) (3072 + z) : EReal))
    (h4 : ∀ (z : Fin 1024) (i : Fin 1024), a4 (ix2 z i) = (padded (g i) (4096 + z) : EReal))
    (h5 : ∀ (z : Fin 1024) (i : Fin 1024), a5 (ix2 z i) = (padded (g i) (5120 + z) : EReal))
    (h6 : ∀ (z : Fin 128) (i : Fin 1024), a6 (ix2 z i) = (padded (g i) (6144 + z) : EReal))
    (k : Fin 6272) (i : Fin 1024) : concatenate S6272x1024 0 [⟨S1024x1024, a0⟩, ⟨S1024x1024, a1⟩, ⟨S1024x1024, a2⟩, ⟨S1024x1024, a3⟩, ⟨S1024x1024, a4⟩, ⟨S1024x1024, a5⟩, ⟨S128x1024, a6⟩] hc (ix2 k i) = (padded (g i) k : EReal) := by
  have hk := k.isLt
  pointwise
  split_ifs
  any_goals (rename_i hz; exact absurd rfl hz)
  · exact (h0 ⟨_, by omega⟩ i).trans (congrArg (fun q : ℕ => ((padded (g i) q : ℝ) : EReal)) (by first | omega | (dsimp only; omega) | dsimp only))
  · exact (h1 ⟨_, by omega⟩ i).trans (congrArg (fun q : ℕ => ((padded (g i) q : ℝ) : EReal)) (by first | omega | (dsimp only; omega) | dsimp only))
  · exact (h2 ⟨_, by omega⟩ i).trans (congrArg (fun q : ℕ => ((padded (g i) q : ℝ) : EReal)) (by first | omega | (dsimp only; omega) | dsimp only))
  · exact (h3 ⟨_, by omega⟩ i).trans (congrArg (fun q : ℕ => ((padded (g i) q : ℝ) : EReal)) (by first | omega | (dsimp only; omega) | dsimp only))
  · exact (h4 ⟨_, by omega⟩ i).trans (congrArg (fun q : ℕ => ((padded (g i) q : ℝ) : EReal)) (by first | omega | (dsimp only; omega) | dsimp only))
  · exact (h5 ⟨_, by omega⟩ i).trans (congrArg (fun q : ℕ => ((padded (g i) q : ℝ) : EReal)) (by first | omega | (dsimp only; omega) | dsimp only))
  · exact (h6 ⟨_, by omega⟩ i).trans (congrArg (fun q : ℕ => ((padded (g i) q : ℝ) : EReal)) (by first | omega | (dsimp only; omega) | dsimp only))

theorem w1_0 (H : HoldsAt m c D) (z : Fin 128) (i : Fin 1024) : (before m c 11 (Proc.tc.devRef main_v2) : S128x1024.Idx → EReal) (ix2 z i) = (padded (D.W i) (1024 + z) : EReal) := by
  unfold_abbrev_sides
  after_reads_simp
  pointwise
  try split_ifs
  all_goals first
    | (rw [H.W]; exact congrArg _ (padded_eq _ _ _ (by omega) (by unfold src; (try dsimp only); split_ifs <;> omega)).symm)
    | (rw [padded, if_neg (by omega)]; rfl)

theorem w1_1 (H : HoldsAt m c D) (z : Fin 128) (i : Fin 1024) : (before m c 11 (Proc.tc.devRef main_v3) : S128x1024.Idx → EReal) (ix2 z i) = (padded (D.W i) (1152 + z) : EReal) := by
  unfold_abbrev_sides
  after_reads_simp
  pointwise
  try split_ifs
  all_goals first
    | (rw [H.W]; exact congrArg _ (padded_eq _ _ _ (by omega) (by unfold src; (try dsimp only); split_ifs <;> omega)).symm)
    | (rw [padded, if_neg (by omega)]; rfl)

theorem w1_2 (H : HoldsAt m c D) (z : Fin 128) (i : Fin 1024) : (before m c 11 (Proc.tc.devRef main_v4) : S128x1024.Idx → EReal) (ix2 z i) = (padded (D.W i) (1280 + z) : EReal) := by
  unfold_abbrev_sides
  after_reads_simp
  pointwise
  try split_ifs
  all_goals first
    | (rw [H.W]; exact congrArg _ (padded_eq _ _ _ (by omega) (by unfold src; (try dsimp only); split_ifs <;> omega)).symm)
    | (rw [padded, if_neg (by omega)]; rfl)

theorem w1_3 (H : HoldsAt m c D) (z : Fin 128) (i : Fin 1024) : (before m c 11 (Proc.tc.devRef main_v5) : S128x1024.Idx → EReal) (ix2 z i) = (padded (D.W i) (1408 + z) : EReal) := by
  unfold_abbrev_sides
  after_reads_simp
  pointwise
  try split_ifs
  all_goals first
    | (rw [H.W]; exact congrArg _ (padded_eq _ _ _ (by omega) (by unfold src; (try dsimp only); split_ifs <;> omega)).symm)
    | (rw [padded, if_neg (by omega)]; rfl)

theorem w1_4 (H : HoldsAt m c D) (z : Fin 128) (i : Fin 1024) : (before m c 11 (Proc.tc.devRef main_v6) : S128x1024.Idx → EReal) (ix2 z i) = (padded (D.W i) (1536 + z) : EReal) := by
  unfold_abbrev_sides
  after_reads_simp
  pointwise
  try split_ifs
  all_goals first
    | (rw [H.W]; exact congrArg _ (padded_eq _ _ _ (by omega) (by unfold src; (try dsimp only); split_ifs <;> omega)).symm)
    | (rw [padded, if_neg (by omega)]; rfl)

theorem w1_5 (H : HoldsAt m c D) (z : Fin 128) (i : Fin 1024) : (before m c 11 (Proc.tc.devRef main_v7) : S128x1024.Idx → EReal) (ix2 z i) = (padded (D.W i) (1664 + z) : EReal) := by
  unfold_abbrev_sides
  after_reads_simp
  pointwise
  try split_ifs
  all_goals first
    | (rw [H.W]; exact congrArg _ (padded_eq _ _ _ (by omega) (by unfold src; (try dsimp only); split_ifs <;> omega)).symm)
    | (rw [padded, if_neg (by omega)]; rfl)

theorem w1_6 (H : HoldsAt m c D) (z : Fin 128) (i : Fin 1024) : (before m c 11 (Proc.tc.devRef main_v8) : S128x1024.Idx → EReal) (ix2 z i) = (padded (D.W i) (1792 + z) : EReal) := by
  unfold_abbrev_sides
  after_reads_simp
  pointwise
  try split_ifs
  all_goals first
    | (rw [H.W]; exact congrArg _ (padded_eq _ _ _ (by omega) (by unfold src; (try dsimp only); split_ifs <;> omega)).symm)
    | (rw [padded, if_neg (by omega)]; rfl)

theorem w1_7 (H : HoldsAt m c D) (z : Fin 128) (i : Fin 1024) : (before m c 11 (Proc.tc.devRef main_v9) : S128x1024.Idx → EReal) (ix2 z i) = (padded (D.W i) (1920 + z) : EReal) := by
  unfold_abbrev_sides
  after_reads_simp
  pointwise
  try split_ifs
  all_goals first
    | (rw [H.W]; exact congrArg _ (padded_eq _ _ _ (by omega) (by unfold src; (try dsimp only); split_ifs <;> omega)).symm)
    | (rw [padded, if_neg (by omega)]; rfl)

theorem d1_0 (H : HoldsAt m c D) (r : Fin 8192) (z : Fin 128) : (before m c 31 (Proc.tc.devRef main_v21) : S8192x128.Idx → EReal) (ix2 r z) = (padded (D.d r) (1024 + z) : EReal) := by
  unfold_abbrev_sides
  after_reads_simp
  pointwise
  try split_ifs
  all_goals first
    | (rw [H.d]; exact congrArg _ (padded_eq _ _ _ (by omega) (by unfold src; (try dsimp only); split_ifs <;> omega)).symm)
    | (rw [padded, if_neg (by omega)]; rfl)

theorem d1_1 (H : HoldsAt m c D) (r : Fin 8192) (z : Fin 128) : (before m c 31 (Proc.tc.devRef main_v22) : S8192x128.Idx → EReal) (ix2 r z) = (padded (D.d r) (1152 + z) : EReal) := by
  unfold_abbrev_sides
  after_reads_simp
  pointwise
  try split_ifs
  all_goals first
    | (rw [H.d]; exact congrArg _ (padded_eq _ _ _ (by omega) (by unfold src; (try dsimp only); split_ifs <;> omega)).symm)
    | (rw [padded, if_neg (by omega)]; rfl)

theorem d1_2 (H : HoldsAt m c D) (r : Fin 8192) (z : Fin 128) : (before m c 31 (Proc.tc.devRef main_v23) : S8192x128.Idx → EReal) (ix2 r z) = (padded (D.d r) (1280 + z) : EReal) := by
  unfold_abbrev_sides
  after_reads_simp
  pointwise
  try split_ifs
  all_goals first
    | (rw [H.d]; exact congrArg _ (padded_eq _ _ _ (by omega) (by unfold src; (try dsimp only); split_ifs <;> omega)).symm)
    | (rw [padded, if_neg (by omega)]; rfl)

theorem d1_3 (H : HoldsAt m c D) (r : Fin 8192) (z : Fin 128) : (before m c 31 (Proc.tc.devRef main_v24) : S8192x128.Idx → EReal) (ix2 r z) = (padded (D.d r) (1408 + z) : EReal) := by
  unfold_abbrev_sides
  after_reads_simp
  pointwise
  try split_ifs
  all_goals first
    | (rw [H.d]; exact congrArg _ (padded_eq _ _ _ (by omega) (by unfold src; (try dsimp only); split_ifs <;> omega)).symm)
    | (rw [padded, if_neg (by omega)]; rfl)

theorem d1_4 (H : HoldsAt m c D) (r : Fin 8192) (z : Fin 128) : (before m c 31 (Proc.tc.devRef main_v25) : S8192x128.Idx → EReal) (ix2 r z) = (padded (D.d r) (1536 + z) : EReal) := by
  unfold_abbrev_sides
  after_reads_simp
  pointwise
  try split_ifs
  all_goals first
    | (rw [H.d]; exact congrArg _ (padded_eq _ _ _ (by omega) (by unfold src; (try dsimp only); split_ifs <;> omega)).symm)
    | (rw [padded, if_neg (by omega)]; rfl)

theorem d1_5 (H : HoldsAt m c D) (r : Fin 8192) (z : Fin 128) : (before m c 31 (Proc.tc.devRef main_v26) : S8192x128.Idx → EReal) (ix2 r z) = (padded (D.d r) (1664 + z) : EReal) := by
  unfold_abbrev_sides
  after_reads_simp
  pointwise
  try split_ifs
  all_goals first
    | (rw [H.d]; exact congrArg _ (padded_eq _ _ _ (by omega) (by unfold src; (try dsimp only); split_ifs <;> omega)).symm)
    | (rw [padded, if_neg (by omega)]; rfl)

theorem d1_6 (H : HoldsAt m c D) (r : Fin 8192) (z : Fin 128) : (before m c 31 (Proc.tc.devRef main_v27) : S8192x128.Idx → EReal) (ix2 r z) = (padded (D.d r) (1792 + z) : EReal) := by
  unfold_abbrev_sides
  after_reads_simp
  pointwise
  try split_ifs
  all_goals first
    | (rw [H.d]; exact congrArg _ (padded_eq _ _ _ (by omega) (by unfold src; (try dsimp only); split_ifs <;> omega)).symm)
    | (rw [padded, if_neg (by omega)]; rfl)

theorem d1_7 (H : HoldsAt m c D) (r : Fin 8192) (z : Fin 128) : (before m c 31 (Proc.tc.devRef main_v28) : S8192x128.Idx → EReal) (ix2 r z) = (padded (D.d r) (1920 + z) : EReal) := by
  unfold_abbrev_sides
  after_reads_simp
  pointwise
  try split_ifs
  all_goals first
    | (rw [H.d]; exact congrArg _ (padded_eq _ _ _ (by omega) (by unfold src; (try dsimp only); split_ifs <;> omega)).symm)
    | (rw [padded, if_neg (by omega)]; rfl)

theorem w1 (H : HoldsAt m c D) (k : Fin 1024) (i : Fin 1024) : (before m c 20 (Proc.tc.devRef main_v11) : S1024x1024.Idx → EReal) (ix2 k i) = (padded (D.W i) (1024 + k) : EReal) := by
  unfold before
  simp only [StableHlo.readUpto]
  rw [StableHlo.nary_result']
  exact join_rows _ (w1_0 H) (w1_1 H) (w1_2 H) (w1_3 H) (w1_4 H) (w1_5 H) (w1_6 H) (w1_7 H) k i

theorem w0 (H : HoldsAt m c D) (z : Fin 1024) (i : Fin 1024) : (before m c 20 (Proc.tc.devRef main_v10) : S1024x1024.Idx → EReal) (ix2 z i) = (padded (D.W i) (0 + z) : EReal) := by
  unfold_abbrev_sides
  after_reads_simp
  pointwise
  try split_ifs
  all_goals first
    | (rw [H.W]; exact congrArg _ (padded_eq _ _ _ (by omega) (by unfold src; (try dsimp only); split_ifs <;> omega)).symm)
    | (rw [padded, if_neg (by omega)]; rfl)

theorem w2 (H : HoldsAt m c D) (z : Fin 1024) (i : Fin 1024) : (before m c 20 (Proc.tc.devRef main_v12) : S1024x1024.Idx → EReal) (ix2 z i) = (padded (D.W i) (2048 + z) : EReal) := by
  unfold_abbrev_sides
  after_reads_simp
  pointwise
  try split_ifs
  all_goals first
    | (rw [H.W]; exact congrArg _ (padded_eq _ _ _ (by omega) (by unfold src; (try dsimp only); split_ifs <;> omega)).symm)
    | (rw [padded, if_neg (by omega)]; rfl)

theorem w3 (H : HoldsAt m c D) (z : Fin 1024) (i : Fin 1024) : (before m c 20 (Proc.tc.devRef main_v13) : S1024x1024.Idx → EReal) (ix2 z i) = (padded (D.W i) (3072 + z) : EReal) := by
  unfold_abbrev_sides
  after_reads_simp
  pointwise
  try split_ifs
  all_goals first
    | (rw [H.W]; exact congrArg _ (padded_eq _ _ _ (by omega) (by unfold src; (try dsimp only); split_ifs <;> omega)).symm)
    | (rw [padded, if_neg (by omega)]; rfl)

theorem w4 (H : HoldsAt m c D) (z : Fin 1024) (i : Fin 1024) : (before m c 20 (Proc.tc.devRef main_v14) : S1024x1024.Idx → EReal) (ix2 z i) = (padded (D.W i) (4096 + z) : EReal) := by
  unfold_abbrev_sides
  after_reads_simp
  pointwise
  try split_ifs
  all_goals first
    | (rw [H.W]; exact congrArg _ (padded_eq _ _ _ (by omega) (by unfold src; (try dsimp only); split_ifs <;> omega)).symm)
    | (rw [padded, if_neg (by omega)]; rfl)

theorem w5 (H : HoldsAt m c D) (z : Fin 1024) (i : Fin 1024) : (before m c 20 (Proc.tc.devRef main_v15) : S1024x1024.Idx → EReal) (ix2 z i) = (padded (D.W i) (5120 + z) : EReal) := by
  unfold_abbrev_sides
  after_reads_simp
  pointwise
  try split_ifs
  all_goals first
    | (rw [H.W]; exact congrArg _ (padded_eq _ _ _ (by omega) (by unfold src; (try dsimp only); split_ifs <;> omega)).symm)
    | (rw [padded, if_neg (by omega)]; rfl)

theorem w6 (H : HoldsAt m c D) (z : Fin 128) (i : Fin 1024) : (before m c 20 (Proc.tc.devRef main_v18) : S128x1024.Idx → EReal) (ix2 z i) = (padded (D.W i) (6144 + z) : EReal) := by
  unfold_abbrev_sides
  after_reads_simp
  pointwise
  try split_ifs
  all_goals first
    | (rw [H.W]; exact congrArg _ (padded_eq _ _ _ (by omega) (by unfold src; (try dsimp only); split_ifs <;> omega)).symm)
    | (rw [padded, if_neg (by omega)]; rfl)

theorem w (H : HoldsAt m c D) (k : Fin 6272) (i : Fin 1024) : (V m c main_v19 : S6272x1024.Idx → EReal) (ix2 k i) = (padded (D.W i) k : EReal) := by
  unfold_abbrev_sides
  simp only [StableHlo.readAfter]
  rw [StableHlo.nary_result']
  exact join_weight _ (w0 H) (w1 H) (w2 H) (w3 H) (w4 H) (w5 H) (w6 H) k i

theorem d0 (H : HoldsAt m c D) (r : Fin 8192) (z : Fin 1024) : (V m c main_v29 : S8192x1024.Idx → EReal) (ix2 r z) = (padded (D.d r) (0 + z) : EReal) := by
  unfold_abbrev_sides
  after_reads_simp
  pointwise
  try split_ifs
  all_goals first
    | (rw [H.d]; exact congrArg _ (padded_eq _ _ _ (by omega) (by unfold src; (try dsimp only); split_ifs <;> omega)).symm)
    | (rw [padded, if_neg (by omega)]; rfl)

theorem d2 (H : HoldsAt m c D) (r : Fin 8192) (z : Fin 1024) : (V m c main_v31 : S8192x1024.Idx → EReal) (ix2 r z) = (padded (D.d r) (2048 + z) : EReal) := by
  unfold_abbrev_sides
  after_reads_simp
  pointwise
  try split_ifs
  all_goals first
    | (rw [H.d]; exact congrArg _ (padded_eq _ _ _ (by omega) (by unfold src; (try dsimp only); split_ifs <;> omega)).symm)
    | (rw [padded, if_neg (by omega)]; rfl)

theorem d3 (H : HoldsAt m c D) (r : Fin 8192) (z : Fin 1024) : (V m c main_v32 : S8192x1024.Idx → EReal) (ix2 r z) = (padded (D.d r) (3072 + z) : EReal) := by
  unfold_abbrev_sides
  after_reads_simp
  pointwise
  try split_ifs
  all_goals first
    | (rw [H.d]; exact congrArg _ (padded_eq _ _ _ (by omega) (by unfold src; (try dsimp only); split_ifs <;> omega)).symm)
    | (rw [padded, if_neg (by omega)]; rfl)

theorem d4 (H : HoldsAt m c D) (r : Fin 8192) (z : Fin 1024) : (V m c main_v33 : S8192x1024.Idx → EReal) (ix2 r z) = (padded (D.d r) (4096 + z) : EReal) := by
  unfold_abbrev_sides
  after_reads_simp
  pointwise
  try split_ifs
  all_goals first
    | (rw [H.d]; exact congrArg _ (padded_eq _ _ _ (by omega) (by unfold src; (try dsimp only); split_ifs <;> omega)).symm)
    | (rw [padded, if_neg (by omega)]; rfl)

theorem d5 (H : HoldsAt m c D) (r : Fin 8192) (z : Fin 1024) : (V m c main_v34 : S8192x1024.Idx → EReal) (ix2 r z) = (padded (D.d r) (5120 + z) : EReal) := by
  unfold_abbrev_sides
  after_reads_simp
  pointwise
  try split_ifs
  all_goals first
    | (rw [H.d]; exact congrArg _ (padded_eq _ _ _ (by omega) (by unfold src; (try dsimp only); split_ifs <;> omega)).symm)
    | (rw [padded, if_neg (by omega)]; rfl)

theorem d6 (H : HoldsAt m c D) (r : Fin 8192) (z : Fin 128) : (V m c main_v37 : S8192x128.Idx → EReal) (ix2 r z) = (padded (D.d r) (6144 + z) : EReal) := by
  unfold_abbrev_sides
  after_reads_simp
  pointwise
  try split_ifs
  all_goals first
    | (rw [H.d]; exact congrArg _ (padded_eq _ _ _ (by omega) (by unfold src; (try dsimp only); split_ifs <;> omega)).symm)
    | (rw [padded, if_neg (by omega)]; rfl)

theorem d1 (H : HoldsAt m c D) (r : Fin 8192) (k : Fin 1024) : (V m c main_v30 : S8192x1024.Idx → EReal) (ix2 r k) = (padded (D.d r) (1024 + k) : EReal) := by
  unfold_abbrev_sides
  simp only [StableHlo.readAfter]
  rw [StableHlo.nary_result']
  exact join_columns _ (d1_0 H) (d1_1 H) (d1_2 H) (d1_3 H) (d1_4 H) (d1_5 H) (d1_6 H) (d1_7 H) r k

theorem gainrow (H : HoldsAt m c D) (z : Fin 1) (i : Fin 1024) : (V m c main_v38 : S1x1024.Idx → EReal) (ix2 z i) = (D.g i : EReal) := by
  unfold_abbrev_sides
  after_reads_simp
  pointwise
  exact H.g i

theorem index_tile : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_8.index t = ![t.val, 0] ∧ win0_10.index t = ![t.val, 0] ∧ win0_11.index t = ![t.val, 0] := by decide +kernel
theorem index_whole : ∀ t : Fin cfg0.N, win0_7.index t = ![0, 0] ∧ win0_9.index t = ![0, 0] := by decide +kernel

theorem b_d0 (H : HoldsAt m c D) (t : Fin cfg0.N) (a : Fin 512) (j : Fin 1024) :
    (iblk m c 0 t : S512x1024.Idx → EReal) (ix2 a j) = (padded (D.d (512 * t.val + a)) (0 + j) : EReal) := by
  have ht : t.val < 16 := t.isLt
  have e : iblk m c 0 t (ix2 a j) = V m c main_v29 (ix2 (⟨512 * t.val + a, by omega⟩ : Fin 8192) j) := by
    blk_ext [iblk, index_tile t]
  exact e.trans (d0 H _ _)

theorem b_d1 (H : HoldsAt m c D) (t : Fin cfg0.N) (a : Fin 512) (j : Fin 1024) :
    (iblk m c 1 t : S512x1024.Idx → EReal) (ix2 a j) = (padded (D.d (512 * t.val + a)) (1024 + j) : EReal) := by
  have ht : t.val < 16 := t.isLt
  have e : iblk m c 1 t (ix2 a j) = V m c main_v30 (ix2 (⟨512 * t.val + a, by omega⟩ : Fin 8192) j) := by
    blk_ext [iblk, index_tile t]
  exact e.trans (d1 H _ _)

theorem b_d2 (H : HoldsAt m c D) (t : Fin cfg0.N) (a : Fin 512) (j : Fin 1024) :
    (iblk m c 2 t : S512x1024.Idx → EReal) (ix2 a j) = (padded (D.d (512 * t.val + a)) (2048 + j) : EReal) := by
  have ht : t.val < 16 := t.isLt
  have e : iblk m c 2 t (ix2 a j) = V m c main_v31 (ix2 (⟨512 * t.val + a, by omega⟩ : Fin 8192) j) := by
    blk_ext [iblk, index_tile t]
  exact e.trans (d2 H _ _)

theorem b_d3 (H : HoldsAt m c D) (t : Fin cfg0.N) (a : Fin 512) (j : Fin 1024) :
    (iblk m c 3 t : S512x1024.Idx → EReal) (ix2 a j) = (padded (D.d (512 * t.val + a)) (3072 + j) : EReal) := by
  have ht : t.val < 16 := t.isLt
  have e : iblk m c 3 t (ix2 a j) = V m c main_v32 (ix2 (⟨512 * t.val + a, by omega⟩ : Fin 8192) j) := by
    blk_ext [iblk, index_tile t]
  exact e.trans (d3 H _ _)

theorem b_d4 (H : HoldsAt m c D) (t : Fin cfg0.N) (a : Fin 512) (j : Fin 1024) :
    (iblk m c 4 t : S512x1024.Idx → EReal) (ix2 a j) = (padded (D.d (512 * t.val + a)) (4096 + j) : EReal) := by
  have ht : t.val < 16 := t.isLt
  have e : iblk m c 4 t (ix2 a j) = V m c main_v33 (ix2 (⟨512 * t.val + a, by omega⟩ : Fin 8192) j) := by
    blk_ext [iblk, index_tile t]
  exact e.trans (d4 H _ _)

theorem b_d5 (H : HoldsAt m c D) (t : Fin cfg0.N) (a : Fin 512) (j : Fin 1024) :
    (iblk m c 5 t : S512x1024.Idx → EReal) (ix2 a j) = (padded (D.d (512 * t.val + a)) (5120 + j) : EReal) := by
  have ht : t.val < 16 := t.isLt
  have e : iblk m c 5 t (ix2 a j) = V m c main_v34 (ix2 (⟨512 * t.val + a, by omega⟩ : Fin 8192) j) := by
    blk_ext [iblk, index_tile t]
  exact e.trans (d5 H _ _)

theorem b_d6 (H : HoldsAt m c D) (t : Fin cfg0.N) (a : Fin 512) (j : Fin 128) :
    (iblk m c 6 t : S512x128.Idx → EReal) (ix2 a j) = (padded (D.d (512 * t.val + a)) (6144 + j) : EReal) := by
  have ht : t.val < 16 := t.isLt
  have e : iblk m c 6 t (ix2 a j) = V m c main_v37 (ix2 (⟨512 * t.val + a, by omega⟩ : Fin 8192) j) := by
    blk_ext [iblk, index_tile t]
  exact e.trans (d6 H _ _)

theorem b_w (H : HoldsAt m c D) (t : Fin cfg0.N) (k : Fin 6272) (i : Fin 1024) : (iblk m c 7 t : S6272x1024.Idx → EReal) (ix2 k i) = (padded (D.W i) k : EReal) := by
  have e : iblk m c 7 t (ix2 k i) = V m c main_v19 (ix2 k i) := by
    blk_ext [iblk, index_whole t]
  exact e.trans (w H k i)

theorem b_x (H : HoldsAt m c D) (t : Fin cfg0.N) (a : Fin 512) (j : Fin 1024) :
    (iblk m c 8 t : S512x1024.Idx → EReal) (ix2 a j) = (D.x (512 * t.val + a) j : EReal) := by
  have ht : t.val < 16 := t.isLt
  have e : iblk m c 8 t (ix2 a j) = V m c main_arg0 (ix2 (⟨512 * t.val + a, by omega⟩ : Fin 8192) j) := by
    blk_ext [iblk, index_tile t]
  exact e.trans ((congrFun (V_main_arg0 m c) _).trans (H.x _ _))

theorem b_g (H : HoldsAt m c D) (t : Fin cfg0.N) (z : Fin 1) (i : Fin 1024) : (iblk m c 9 t : S1x1024.Idx → EReal) (ix2 z i) = (D.g i : EReal) := by
  have e : iblk m c 9 t (ix2 z i) = V m c main_v38 (ix2 z i) := by
    blk_ext [iblk, index_whole t]
  exact e.trans (gainrow H z i)

/-- The gradient that reaches the rows otherwise, and the block of it that a point reads. -/
abbrev other (m : (ℓ : Loc nD τ sig) → Buf (Elt Ideal) ℓ) (c : Dev nD) : S8192x1024.Idx → EReal := m ((c : Thread nD τ).loc main_arg4)
abbrev blkOther (m : (ℓ : Loc nD τ sig) → Buf (Elt Ideal) ℓ) (c : Dev nD) (t : Fin cfg0.N) : S512x1024.Idx → EReal := iblk m c 10 t

theorem b_other (t : Fin cfg0.N) (a : Fin 512) (j : Fin 1024) (h : 512 * t.val + a < 8192) :
    blkOther m c t (ix2 a j) = other m c (ix2 (⟨512 * t.val + a, h⟩ : Fin 8192) j) := by
  have e : iblk m c 10 t (ix2 a j) = V m c main_arg4 (ix2 (⟨512 * t.val + a, h⟩ : Fin 8192) j) := by
    blk_ext [iblk, index_tile t]
  exact e.trans (congrFun (V_main_arg4 m c) _)

theorem blocks (H : HoldsAt m c D) (t : Fin cfg0.N) :
    Blocks D t.val (iblk m c 0 t) (iblk m c 1 t) (iblk m c 2 t) (iblk m c 3 t) (iblk m c 4 t) (iblk m c 5 t) (iblk m c 6 t) (iblk m c 7 t) (iblk m c 8 t) (iblk m c 9 t) :=
  ⟨b_d0 H t, b_d1 H t, b_d2 H t, b_d3 H t, b_d4 H t, b_d5 H t, b_d6 H t, b_w H t, b_x H t, b_g H t⟩

theorem point_row (H : HoldsAt m c D) (t : Fin cfg0.N) (a : Fin 512) (j : Fin 1024) :
    (outsAt0 m c t.val t.isLt).1 (ix2 a j) = blkOther m c t (ix2 a j) + (dx D.x D.g D.acc (512 * t.val + a) j : EReal) := by
  by_cases h0 : t.val % 16 = 0
  · have h := A11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t) (iblk m c 9 t) (iblk m c 10 t) ((hcond0_0 t).mpr h0) (blocks H t) a j
    rw [outsAt0_A m c t h0]
    dsimp only
    exact h
  · have h := B11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2 (fun hc => h0 ((hcond0_0 t).mp hc)) (blocks H t) a j
    rw [outsAt0_B m c t h0]
    dsimp only
    exact h

theorem out_row (H : HoldsAt m c D) (r : Fin 8192) (j : Fin 1024) :
    ((dats m 0 c).arrAt 11 cfg0.N : S8192x1024.Idx → EReal) (ix2 r j) = other m c (ix2 r j) + (dx D.x D.g D.acc r.val j.val : EReal) := by
  have e : (dats m 0 c).arrAt 11 cfg0.N = (fun x => other m c x + (dx D.x D.g D.acc (x 0).val (x 1).val : EReal) : S8192x1024.Idx → EReal) := by
    refine (dats m 0 c).arrAt_eq_of_covers 11 _ (by decide +kernel) fun t hf y => ?_
    blk_simp
    rw [after0_11]
    have ht : t.val < 16 := t.isLt
    obtain ⟨a, j, rfl⟩ : ∃ (a : Fin 512) (j : Fin 1024), y = ix2 a j := ⟨y 0, y 1, ValueIdx.eq_ix2 y⟩
    refine (point_row H t a j).trans ?_
    have h : 512 * t.val + (a : ℕ) < 8192 := by omega
    have e0 : win0_11.index t 0 = t.val := by rw [(index_tile t).2.2.2.2.2.2.2.2.2]; rfl
    have e1 : win0_11.index t 1 = 0 := by rw [(index_tile t).2.2.2.2.2.2.2.2.2]; rfl
    have hr : (512 * t.val + (a : ℕ)) = win0_11.index t 0 * 512 + 1 * (a : ℕ) := by rw [e0]; omega
    have hj : (j : ℕ) = win0_11.index t 1 * 1024 + 1 * (j : ℕ) := by rw [e1]; omega
    refine congrArg₂ (fun x y : EReal => x + y) ((b_other t a j h).trans ?_) ?_
    · refine congrArg (other m c) ?_
      funext d
      refine Fin.ext ?_
      match d with
      | ⟨0, _⟩ => exact hr
      | ⟨1, _⟩ => exact hj
    · exact congrArg₂ (fun p q : ℕ => ((dx D.x D.g D.acc p q : ℝ) : EReal)) (hr.trans (by rw [one_mul]; rfl)) (hj.trans (by rw [one_mul]; rfl))
  exact congrFun e (ix2 r j)

theorem point_first (H : HoldsAt m c D) (t : Fin cfg0.N) (h0 : t.val % 16 = 0) (z : Fin 1) (i : Fin 1024) :
    (outsAt0 m c t.val t.isLt).2 (ix2 z i) = (part D t.val i : EReal) := by
  have h := A12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t) (iblk m c 9 t) (iblk m c 10 t) ((hcond0_0 t).mpr h0) (blocks H t) z i
  rw [outsAt0_A m c t h0]
  dsimp only
  exact h

theorem point_next (H : HoldsAt m c D) (t : Fin cfg0.N) (h0 : ¬t.val % 16 = 0) (z : Fin 1) (i : Fin 1024) :
    (outsAt0 m c t.val t.isLt).2 (ix2 z i) = (outsAt0 m c (t.val - 1) (Nat.lt_of_le_of_lt (Nat.sub_le _ _) t.isLt)).2 (ix2 z i) + (part D t.val i : EReal) := by
  have h := B12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2 (fun hc => h0 ((hcond0_0 t).mp hc)) (blocks H t) z i
  rw [outsAt0_B m c t h0]
  dsimp only
  exact h

/-- After point `t`, the gain's gradient holds the sum over the tiles up to `t`'s. -/
theorem sum_gain (H : HoldsAt m c D) (t : Fin cfg0.N) (j : S1x1024.Idx) :
    (outsAt0 m c t.val t.isLt).2 j = ((∑ n ∈ Finset.range (t.val + 1), part D n (j 1).val : ℝ) : EReal) := by
  refine (Pipeline.eq_sum_of_reset_step_apply_single (fun n h => ((outsAt0 m c n h).2 : S1x1024.Idx → EReal)) 16 (fun _ => 0)
    (fun n j => ((part D n (j 1).val : ℝ) : EReal)) (fun t h0 j => ?_) (fun t h0 j => ?_) (by decide) t j).trans ?_
  · rw [ValueIdx.eq_ix2 j]
    exact (point_first H t h0 (j 0) (j 1)).trans (zero_add _).symm
  · rw [ValueIdx.eq_ix2 j]
    exact point_next H t h0 (j 0) (j 1)
  · rw [zero_add, coe_sum_range]

/-- The last point. -/
def last : Fin cfg0.N := ⟨15, by decide⟩

theorem out_gain (H : HoldsAt m c D) (z : Fin 1) (i : Fin 1024) :
    ((dats m 0 c).arrAt 12 cfg0.N : S1x1024.Idx → EReal) (ix2 z i) = (gg D.x D.acc i : EReal) := by
  have e : (dats m 0 c).arrAt 12 cfg0.N = (outsAt0 m c last.val last.isLt).2 := by
    refine (dats m 0 c).arrAt_eq_of_after_last 12 last (by decide +kernel) _ fun j => ?_
    blk_simp
    rw [after0_12]
  rw [e]
  refine (sum_gain H last (ix2 z i)).trans (congrArg _ ?_)
  refine (sum_tiles (fun r => D.acc r i * (D.x r i * rs D.x r)) 16).trans ?_
  exact Finset.sum_range (fun r => D.acc r i * (D.x r i * rs D.x r))

/-- The precondition read back: the arguments hold tables of real numbers. -/
theorem holds {X0 : FVec Ideal S8192x1024 .f32} {X1 : FVec Ideal S1024 .f32} {X2 : FVec Ideal S1024x6160 .f32} {X3 : FVec Ideal S8192x6160 .f32}
    (X4 : FVec Ideal S8192x1024 .f32) (e : Cert.Pre_in_grad_finite.fn (F := Ideal) X0 X1 X2 X3 X4 = fun _ => 1#1) :
    Holds ⟨Finite.tab2 X0, Finite.tab1 X1, Finite.tab2 X2, Finite.tab2 X3⟩ X0 X1 X2 X3 := by
  have e0 := congrFun e ix0
  obtain ⟨e1, h3⟩ := IntOp.andi_eq_one.1 e0
  obtain ⟨e2, h2⟩ := IntOp.andi_eq_one.1 e1
  obtain ⟨h0, h1⟩ := IntOp.andi_eq_one.1 e2
  exact
    { x := Finite.tab2_eq (Finite.real_of_all _ _ _ _ _ h0)
      g := Finite.tab1_eq (Finite.real_of_all _ _ _ _ _ h1)
      W := Finite.tab2_eq (Finite.real_of_all _ _ _ _ _ h2)
      d := Finite.tab2_eq (Finite.real_of_all _ _ _ _ _ h3) }

theorem reference : Cert.quiescent_Reference9Ideal (hReference9Ideal := Cert.Reference9Ideal.Gen.facts) := fun m ρ _ =>
  (θ_run Cert.Reference9Ideal.defs _ _).mono (fun r h => ⟨fun c => (h c).2.2, Idealize.ShloMosaic.sem_eq_zero_of_no_sems (by decide) r.2⟩)
    (Cert.Reference9Ideal.Value.run (F := Ideal) m ρ)

/-- The kernel and the reference compute the same two arrays of real arguments. -/
theorem algebraic : Cert.algebraic_Kernel9Ideal_Reference9Ideal_pre_in_grad_finite (hKernel9Ideal := Cert.Kernel9Ideal.Gen.facts) (hReference9Ideal := Cert.Reference9Ideal.Gen.facts)
    (hPre_in_grad_finite := Cert.Pre_in_grad_finite.Gen.facts) := by
  pair_intro
  · run_from Cert.Kernel9Ideal.Value.run_blocks m g
  · refine (θ_run Cert.Reference9Ideal.defs _ _).mono (fun r h c => ?_) (Cert.Reference9Ideal.Value.run (F := Ideal) m' g')
    obtain ⟨h0, h1, hk⟩ := h c
    obtain ⟨e0, e1, e2, e3, e4⟩ := hagree c
    obtain ⟨D, H⟩ := (⟨_, holds _ (hpre c)⟩ : ∃ D, Holds D _ _ _ _)
    have H' := H
    rw [← e0, ← e1, ← e2, ← e3] at H'
    refine ⟨(h0.trans (val_main_v38_eq ..)).trans ?_, (h1.trans (val_main_v39_eq ..)).trans ?_, hk⟩
    · funext j
      obtain ⟨r', i, rfl⟩ : ∃ (r' : Fin 8192) (i : Fin 1024), j = ix2 r' i := ⟨j 0, j 1, ValueIdx.eq_ix2 j⟩
      exact (v38 H' _ r' i).trans ((congrArg (fun x : EReal => x + (dx D.x D.g D.acc r'.val i.val : EReal)) (congrFun e4 (ix2 r' i))).trans (out_row H r' i).symm)
    · funext j
      obtain ⟨z, i, rfl⟩ : ∃ (z : Fin 1) (i : Fin 1024), j = ix2 z i := ⟨j 0, j 1, ValueIdx.eq_ix2 j⟩
      exact (v39 H' z i).trans (out_gain H z i).symm

end Cert.InGrad
-- ==== Proof.OutSpec.lean ====
/- The backward pass of the block's end over the real numbers: of the gated per-layer embedding with its norm, and of the
   feed-forward output with its own. -/
module

public import proofs.«01_k».proof.Proof.RmsSpec

@[expose] public section

noncomputable section

namespace Cert.Out

open Idealize.ShloMosaic Cert.Spec Cert.Rms

/-- The arrays, as tables of real numbers: `a`, `h`, `p` and `d` are indexed by the position of the sequence. `a` is the
    feed-forward block's gated product, `h` the stream that its output is added to, `p` the embedding, `d` the incoming
    gradient; `A`, `P` and `G` are the projections and `u`, `v` the gains of the two norms. -/
structure Tab where
  a : ℕ → ℕ → ℝ
  h : ℕ → ℕ → ℝ
  p : ℕ → ℕ → ℝ
  A : ℕ → ℕ → ℝ
  u : ℕ → ℝ
  P : ℕ → ℕ → ℝ
  G : ℕ → ℕ → ℝ
  v : ℕ → ℝ
  d : ℕ → ℕ → ℝ

/-- The logistic function. -/
def sig (x : ℝ) : ℝ := 1 / (1 + Real.exp (-x))

theorem sig_pos (x : ℝ) : (1 : ℝ) + Real.exp (-x) ≠ 0 := by have := Real.exp_pos (-x); positivity

namespace Tab
variable (D : Tab)

/-- The feed-forward output, the stream with its norm added, and the two projections of the gate. -/
def f (r i : ℕ) : ℝ := ∑ k : Fin 2816, D.a r k * D.A k i
def h2 (r i : ℕ) : ℝ := D.h r i + D.f r i * rs D.f r * D.u i
def pg (r i : ℕ) : ℝ := ∑ k : Fin 1024, D.h2 r k * D.G k i
def pe (r i : ℕ) : ℝ := ∑ k : Fin 256, D.p r k * D.P k i
/-- The gate, and the gated embedding. -/
def s (r i : ℕ) : ℝ := sig (D.pg r i)
def y (r i : ℕ) : ℝ := D.s r i * D.pe r i
/-- The gradients of the gated embedding, of the embedding's projection and of the gate's. -/
def dy (r i : ℕ) : ℝ := dx D.y D.v D.d r i
def dpe (r i : ℕ) : ℝ := D.dy r i * D.s r i
def dpg (r i : ℕ) : ℝ := D.dy r i * D.pe r i * D.s r i * (1 - D.s r i)
/-- The gradients of the stream, of the feed-forward output and of the gated product. -/
def dh (r i : ℕ) : ℝ := D.d r i + ∑ j : Fin 1024, D.dpg r j * D.G i j
def df (r i : ℕ) : ℝ := dx D.f D.u D.dh r i
def da (r k : ℕ) : ℝ := ∑ i : Fin 1024, D.df r i * D.A k i

end Tab

/-- The logistic function in the extended reals. -/
theorem sig_real (x : ℝ) : Ideal.div ((1 : ℝ) : EReal) (((1 : ℝ) : EReal) + Ideal.exp (-(x : EReal))) = (sig x : EReal) := by
  rw [← EReal.coe_neg, Ideal.exp_coe, ← EReal.coe_add, div_real _ _ (sig_pos x)]
  rfl

end Cert.Out
-- ==== Proof.OutRef.lean ====
/- What the reference computes of the block's end, read at an index: each expression holds the table of the
   specification. -/
module

public import proofs.«01_k».proof.Proof.OutSpec
public import proofs.«01_k».proof.Proof.Consts
public import proofs.«01_k».proof.Proof.Gen.Reference10Ideal.Read
public import Idealize.ShloMosaic.Lib.Pointwise

@[expose] public section

set_option maxRecDepth 16384

noncomputable section

namespace Cert.OutRef

open Cert.Reference10Ideal Cert.Reference10Ideal.Read Idealize.ShloMosaic Cert.Rms Cert.Out
open Cert.Spec hiding Tab

/-- Arrays that hold the tables' real numbers. -/
structure Holds (D : Tab) (X0 : FVec Ideal S8192x2816 .f32) (X1 : FVec Ideal S8192x1024 .f32) (X2 : FVec Ideal S8192x256 .f32) (X3 : FVec Ideal S2816x1024 .f32) (X4 : FVec Ideal S1024 .f32) (X5 : FVec Ideal S256x1024 .f32) (X6 : FVec Ideal S1024x1024 .f32) (X7 : FVec Ideal S1024 .f32) (X8 : FVec Ideal S8192x1024 .f32) : Prop where
  a : ∀ (r : Fin 8192) (k : Fin 2816), X0 (ix2 r k) = (D.a r k : EReal)
  h : ∀ (r : Fin 8192) (i : Fin 1024), X1 (ix2 r i) = (D.h r i : EReal)
  p : ∀ (r : Fin 8192) (k : Fin 256), X2 (ix2 r k) = (D.p r k : EReal)
  A : ∀ (k : Fin 2816) (i : Fin 1024), X3 (ix2 k i) = (D.A k i : EReal)
  u : ∀ i : Fin 1024, X4 (ix1 i) = (D.u i : EReal)
  P : ∀ (k : Fin 256) (i : Fin 1024), X5 (ix2 k i) = (D.P k i : EReal)
  G : ∀ k i : Fin 1024, X6 (ix2 k i) = (D.G k i : EReal)
  v : ∀ i : Fin 1024, X7 (ix1 i) = (D.v i : EReal)
  d : ∀ (r : Fin 8192) (i : Fin 1024), X8 (ix2 r i) = (D.d r i : EReal)

variable {D : Tab} {X0 : FVec Ideal S8192x2816 .f32} {X1 : FVec Ideal S8192x1024 .f32} {X2 : FVec Ideal S8192x256 .f32} {X3 : FVec Ideal S2816x1024 .f32} {X4 : FVec Ideal S1024 .f32} {X5 : FVec Ideal S256x1024 .f32} {X6 : FVec Ideal S1024x1024 .f32} {X7 : FVec Ideal S1024 .f32} {X8 : FVec Ideal S8192x1024 .f32}

theorem v0 (H : Holds D X0 X1 X2 X3 X4 X5 X6 X7 X8) (r : Fin 8192) (i : Fin 1024) : val_main_v0 (F := Ideal) X0 X3 (ix2 r i) = (D.f r i : EReal) := by
  pointwise [val_main_v0]
  simp only [H.a, H.A, ← EReal.coe_mul, ← coe_sum]
  rfl

theorem v7 (H : Holds D X0 X1 X2 X3 X4 X5 X6 X7 X8) (r : Fin 8192) (z : Fin 1) : val_main_v7 (F := Ideal) X0 X3 (ix2 r z) = (ms D.f r : EReal) := by
  pointwise [val_main_v7, val_main_v6, val_main_v5, val_main_v4, val_main_v3, val_main_v2, val_main_v1, val_main_cst, val_main_cst_0, val_main_cst_1]
  rw [Consts.c_1024, Consts.c_eps]
  simp only [v0 H, ← EReal.coe_mul, ← coe_sum]
  rw [div_real _ _ (by norm_num), ← EReal.coe_add]
  rfl

theorem v8 (H : Holds D X0 X1 X2 X3 X4 X5 X6 X7 X8) (r : Fin 8192) (z : Fin 1) : val_main_v8 (F := Ideal) X0 X3 (ix2 r z) = (rs D.f r : EReal) := by
  pointwise [val_main_v8]
  rw [v7 H, rsqrt_real _ (ms_pos D.f r)]
  rfl

theorem v14 (H : Holds D X0 X1 X2 X3 X4 X5 X6 X7 X8) (r : Fin 8192) (i : Fin 1024) : val_main_v14 (F := Ideal) X0 X1 X3 X4 (ix2 r i) = (D.h2 r i : EReal) := by
  pointwise [val_main_v14, val_main_v13, val_main_v12, val_main_v11, val_main_v10, val_main_v9]
  rw [v0 H, v8 H, H.h, H.u]
  simp only [← EReal.coe_mul, ← EReal.coe_add]
  rfl

theorem v15 (H : Holds D X0 X1 X2 X3 X4 X5 X6 X7 X8) (r : Fin 8192) (i : Fin 1024) : val_main_v15 (F := Ideal) X0 X1 X3 X4 X6 (ix2 r i) = (D.pg r i : EReal) := by
  pointwise [val_main_v15]
  simp only [v14 H, H.G, ← EReal.coe_mul, ← coe_sum]
  rfl

theorem v16 (H : Holds D X0 X1 X2 X3 X4 X5 X6 X7 X8) (r : Fin 8192) (i : Fin 1024) : val_main_v16 (F := Ideal) X2 X5 (ix2 r i) = (D.pe r i : EReal) := by
  pointwise [val_main_v16]
  simp only [H.p, H.P, ← EReal.coe_mul, ← coe_sum]
  rfl

theorem v22 (H : Holds D X0 X1 X2 X3 X4 X5 X6 X7 X8) (r : Fin 8192) (i : Fin 1024) : val_main_v22 (F := Ideal) X0 X1 X3 X4 X6 (ix2 r i) = (D.s r i : EReal) := by
  pointwise [val_main_v22, val_main_v21, val_main_v20, val_main_v19, val_main_v18, val_main_v17, val_main_cst_2, val_main_cst_3]
  rw [v15 H]
  exact sig_real _

theorem v25 (H : Holds D X0 X1 X2 X3 X4 X5 X6 X7 X8) (r : Fin 8192) (i : Fin 1024) : val_main_v25 (F := Ideal) X0 X1 X3 X4 X6 (ix2 r i) = ((D.s r i * (1 - D.s r i) : ℝ) : EReal) := by
  pointwise [val_main_v25, val_main_v24, val_main_v23, val_main_cst_4]
  rw [v22 H, Consts.c_one, ← EReal.coe_sub, ← EReal.coe_mul]

theorem v26 (H : Holds D X0 X1 X2 X3 X4 X5 X6 X7 X8) (r : Fin 8192) (i : Fin 1024) : val_main_v26 (F := Ideal) X0 X1 X2 X3 X4 X5 X6 (ix2 r i) = (D.y r i : EReal) := by
  pointwise [val_main_v26]
  rw [v22 H, v16 H, ← EReal.coe_mul]
  rfl

theorem v33 (H : Holds D X0 X1 X2 X3 X4 X5 X6 X7 X8) (r : Fin 8192) (z : Fin 1) : val_main_v33 (F := Ideal) X0 X1 X2 X3 X4 X5 X6 (ix2 r z) = (ms D.y r : EReal) := by
  pointwise [val_main_v33, val_main_v32, val_main_v31, val_main_v30, val_main_v29, val_main_v28, val_main_v27, val_main_cst_5, val_main_cst_6, val_main_cst_7]
  rw [Consts.c_1024, Consts.c_eps]
  simp only [v26 H, ← EReal.coe_mul, ← coe_sum]
  rw [div_real _ _ (by norm_num), ← EReal.coe_add]
  rfl

theorem v34 (H : Holds D X0 X1 X2 X3 X4 X5 X6 X7 X8) (r : Fin 8192) (z : Fin 1) : val_main_v34 (F := Ideal) X0 X1 X2 X3 X4 X5 X6 (ix2 r z) = (rs D.y r : EReal) := by
  pointwise [val_main_v34]
  rw [v33 H, rsqrt_real _ (ms_pos D.y r)]
  rfl

theorem v37 (H : Holds D X0 X1 X2 X3 X4 X5 X6 X7 X8) (r : Fin 8192) (z : Fin 1) :
    val_main_v37 (F := Ideal) X0 X1 X2 X3 X4 X5 X6 (ix2 r z) = ((-(1 / 2) * (rs D.y r / ms D.y r) : ℝ) : EReal) := by
  pointwise [val_main_v37, val_main_v36, val_main_cst_8, val_main_v35]
  rw [v33 H, v34 H, Consts.c_neg_half, div_real _ _ (ms_pos D.y r).ne', ← EReal.coe_mul]

theorem v39 (H : Holds D X0 X1 X2 X3 X4 X5 X6 X7 X8) (r : Fin 8192) (i : Fin 1024) : val_main_v39 (F := Ideal) X0 X1 X2 X3 X4 X5 X6 (ix2 r i) = ((D.y r i * rs D.y r : ℝ) : EReal) := by
  pointwise [val_main_v39, val_main_v38]
  rw [v34 H, v26 H, ← EReal.coe_mul]

/-- The gradient of the gate's norm's gain. -/
theorem v111 (H : Holds D X0 X1 X2 X3 X4 X5 X6 X7 X8) (z : Fin 1) (i : Fin 1024) : val_main_v111 (F := Ideal) X0 X1 X2 X3 X4 X5 X6 X8 (ix2 z i) = (gg D.y D.d i : EReal) := by
  pointwise [val_main_v111, val_main_v48, val_main_v45, val_main_v44, val_main_v43, val_main_cst_9, val_main_cst_10]
  simp only [Finset.univ_unique, Finset.sum_singleton]
  simp only [v39 H, H.d, ← EReal.coe_mul, ← coe_sum]
  exact congrArg (fun q : ℝ => (q : EReal)) (Finset.sum_congr rfl fun _ _ => mul_comm _ _)

theorem v47 (H : Holds D X0 X1 X2 X3 X4 X5 X6 X7 X8) (r : Fin 8192) (i : Fin 1024) : val_main_v47 (F := Ideal) X7 X8 (ix2 r i) = ((D.d r i * D.v i : ℝ) : EReal) := by
  pointwise [val_main_v47, val_main_v46, val_main_v40]
  rw [H.d, H.v, ← EReal.coe_mul]

theorem v58 (H : Holds D X0 X1 X2 X3 X4 X5 X6 X7 X8) (r : Fin 8192) (i : Fin 1024) : val_main_v58 (F := Ideal) X0 X1 X2 X3 X4 X5 X6 X7 X8 (ix2 r i)
      = (((∑ j : Fin 1024, D.y r j * (D.d r j * D.v j)) * (-(1 / 2) * (rs D.y r / ms D.y r)) / 1024 : ℝ) : EReal) := by
  pointwise [val_main_v58, val_main_v57, val_main_v56, val_main_v55, val_main_v54, val_main_v51, val_main_v50, val_main_v49,
    val_main_cst_11, val_main_cst_12, val_main_cst_13]
  simp only [Finset.univ_unique, Finset.sum_singleton]
  rw [v37 H, Consts.c_1024]
  simp only [v47 H, v26 H, ← EReal.coe_mul, ← coe_sum]
  rw [div_real _ _ (by norm_num)]

theorem v62 (H : Holds D X0 X1 X2 X3 X4 X5 X6 X7 X8) (r : Fin 8192) (i : Fin 1024) : val_main_v62 (F := Ideal) X0 X1 X2 X3 X4 X5 X6 X7 X8 (ix2 r i) = (D.dy r i : EReal) := by
  pointwise [val_main_v62, val_main_v61, val_main_v60, val_main_v59, val_main_v53, val_main_v52]
  rw [v58 H, v47 H, v34 H, v26 H]
  simp only [← EReal.coe_mul, ← EReal.coe_add]
  refine congrArg (fun q : ℝ => (q : EReal)) ?_
  rw [Tab.dy, ← dx_eq]
  ring

/-- The gradient of the embedding's projection, and of the gate's. -/
theorem v107 (H : Holds D X0 X1 X2 X3 X4 X5 X6 X7 X8) (r : Fin 8192) (i : Fin 1024) : val_main_v107 (F := Ideal) X0 X1 X2 X3 X4 X5 X6 X7 X8 (ix2 r i) = (D.dpe r i : EReal) := by
  pointwise [val_main_v107, val_main_v63]
  rw [v62 H, v22 H, ← EReal.coe_mul, mul_comm]
  rfl

theorem v65 (H : Holds D X0 X1 X2 X3 X4 X5 X6 X7 X8) (r : Fin 8192) (i : Fin 1024) : val_main_v65 (F := Ideal) X0 X1 X2 X3 X4 X5 X6 X7 X8 (ix2 r i) = (D.dpg r i : EReal) := by
  pointwise [val_main_v65, val_main_v64]
  rw [v62 H, v16 H, v25 H]
  simp only [← EReal.coe_mul]
  refine congrArg (fun q : ℝ => (q : EReal)) ?_
  rw [Tab.dpg]
  ring

theorem v108 (H : Holds D X0 X1 X2 X3 X4 X5 X6 X7 X8) (r : Fin 8192) (i : Fin 1024) : val_main_v108 (F := Ideal) X0 X1 X2 X3 X4 X5 X6 X7 X8 (ix2 r i) = (D.dpg r i : EReal) := by
  pointwise [val_main_v108]
  exact v65 H r i

/-- The gradient of the stream. -/
theorem v68 (H : Holds D X0 X1 X2 X3 X4 X5 X6 X7 X8) (r : Fin 8192) (i : Fin 1024) : val_main_v68 (F := Ideal) X0 X1 X2 X3 X4 X5 X6 X7 X8 (ix2 r i) = (D.dh r i : EReal) := by
  pointwise [val_main_v68, val_main_v67, val_main_v66]
  simp only [v65 H, H.G, H.d, ← EReal.coe_mul, ← coe_sum, ← EReal.coe_add]
  rfl

theorem v75 (H : Holds D X0 X1 X2 X3 X4 X5 X6 X7 X8) (r : Fin 8192) (z : Fin 1) : val_main_v75 (F := Ideal) X0 X3 (ix2 r z) = (ms D.f r : EReal) := v7 H r z
theorem v76 (H : Holds D X0 X1 X2 X3 X4 X5 X6 X7 X8) (r : Fin 8192) (z : Fin 1) : val_main_v76 (F := Ideal) X0 X3 (ix2 r z) = (rs D.f r : EReal) := v8 H r z

theorem v79 (H : Holds D X0 X1 X2 X3 X4 X5 X6 X7 X8) (r : Fin 8192) (z : Fin 1) :
    val_main_v79 (F := Ideal) X0 X3 (ix2 r z) = ((-(1 / 2) * (rs D.f r / ms D.f r) : ℝ) : EReal) := by
  pointwise [val_main_v79, val_main_v78, val_main_cst_17, val_main_v77]
  rw [v75 H, v76 H, Consts.c_neg_half, div_real _ _ (ms_pos D.f r).ne', ← EReal.coe_mul]

theorem v81 (H : Holds D X0 X1 X2 X3 X4 X5 X6 X7 X8) (r : Fin 8192) (i : Fin 1024) : val_main_v81 (F := Ideal) X0 X3 (ix2 r i) = ((D.f r i * rs D.f r : ℝ) : EReal) := by
  pointwise [val_main_v81, val_main_v80]
  rw [v76 H, v0 H, ← EReal.coe_mul]

/-- The gradient of the feed-forward norm's gain. -/
theorem v112 (H : Holds D X0 X1 X2 X3 X4 X5 X6 X7 X8) (z : Fin 1) (i : Fin 1024) : val_main_v112 (F := Ideal) X0 X1 X2 X3 X4 X5 X6 X7 X8 (ix2 z i) = (gg D.f D.dh i : EReal) := by
  pointwise [val_main_v112, val_main_v90, val_main_v87, val_main_v86, val_main_v85, val_main_cst_18, val_main_cst_19]
  simp only [Finset.univ_unique, Finset.sum_singleton]
  simp only [v81 H, v68 H, ← EReal.coe_mul, ← coe_sum]
  exact congrArg (fun q : ℝ => (q : EReal)) (Finset.sum_congr rfl fun _ _ => mul_comm _ _)

theorem v89 (H : Holds D X0 X1 X2 X3 X4 X5 X6 X7 X8) (r : Fin 8192) (i : Fin 1024) : val_main_v89 (F := Ideal) X0 X1 X2 X3 X4 X5 X6 X7 X8 (ix2 r i) = ((D.dh r i * D.u i : ℝ) : EReal) := by
  pointwise [val_main_v89, val_main_v88, val_main_v82]
  rw [v68 H, H.u, ← EReal.coe_mul]

theorem v100 (H : Holds D X0 X1 X2 X3 X4 X5 X6 X7 X8) (r : Fin 8192) (i : Fin 1024) : val_main_v100 (F := Ideal) X0 X1 X2 X3 X4 X5 X6 X7 X8 (ix2 r i)
      = (((∑ j : Fin 1024, D.f r j * (D.dh r j * D.u j)) * (-(1 / 2) * (rs D.f r / ms D.f r)) / 1024 : ℝ) : EReal) := by
  pointwise [val_main_v100, val_main_v99, val_main_v98, val_main_v97, val_main_v96, val_main_v93, val_main_v92, val_main_v91,
    val_main_cst_20, val_main_cst_21, val_main_cst_22]
  simp only [Finset.univ_unique, Finset.sum_singleton]
  rw [v79 H, Consts.c_1024]
  simp only [v89 H, v0 H, ← EReal.coe_mul, ← coe_sum]
  rw [div_real _ _ (by norm_num)]

theorem v104 (H : Holds D X0 X1 X2 X3 X4 X5 X6 X7 X8) (r : Fin 8192) (i : Fin 1024) : val_main_v104 (F := Ideal) X0 X1 X2 X3 X4 X5 X6 X7 X8 (ix2 r i) = (D.df r i : EReal) := by
  pointwise [val_main_v104, val_main_v103, val_main_v102, val_main_v101, val_main_v95, val_main_v94]
  rw [v100 H, v89 H, v76 H, v0 H]
  simp only [← EReal.coe_mul, ← EReal.coe_add]
  refine congrArg (fun q : ℝ => (q : EReal)) ?_
  rw [Tab.df, ← dx_eq]
  ring

/-- The gradients of the feed-forward output, and of the gated product. -/
theorem v109 (H : Holds D X0 X1 X2 X3 X4 X5 X6 X7 X8) (r : Fin 8192) (i : Fin 1024) : val_main_v109 (F := Ideal) X0 X1 X2 X3 X4 X5 X6 X7 X8 (ix2 r i) = (D.df r i : EReal) := by
  pointwise [val_main_v109]
  exact v104 H r i

theorem v110 (H : Holds D X0 X1 X2 X3 X4 X5 X6 X7 X8) (r : Fin 8192) (k : Fin 2816) : val_main_v110 (F := Ideal) X0 X1 X2 X3 X4 X5 X6 X7 X8 (ix2 r k) = (D.da r k : EReal) := by
  pointwise [val_main_v110, val_main_v106, val_main_v105]
  simp only [v104 H, H.A, ← EReal.coe_mul, ← coe_sum]
  rfl

end Cert.OutRef
-- ==== Proof.OutGrad.lean ====
/- The backward pass of the block's end: at each tile of 512 rows the kernel takes the gradient through the gate and
   its norm, through the gate's projection, and through the feed-forward norm and projection. -/
module

public import proofs.«01_k».proof.Proof.OutRef
public import proofs.«01_k».proof.Proof.Finite
public import Idealize.ShloMosaic.Lib.Pipeline.ValueKit
public import Idealize.ShloMosaic.Lib.Pipeline.ReadBack
public import Idealize.ShloMosaic.Lib.StableHlo.RunRead
public import Idealize.ShloMosaic.Adequacy
public import Idealize.ShloMosaic.Init
public import proofs.«01_k».proof.Defs
public import proofs.«01_k».proof.Proof.Gen.Kernel10Ideal
public import proofs.«01_k».proof.Proof.Gen.Kernel10Ideal.Value
public import proofs.«01_k».proof.Proof.Gen.Reference10Ideal
public import proofs.«01_k».proof.Proof.Gen.Pre_out_grad_finite

@[expose] public section

set_option maxRecDepth 16384

noncomputable section

namespace Cert.OutGrad

open Cert.Kernel10Ideal Cert.Kernel10Ideal.Gen Idealize.ShloMosaic Idealize.ShloMosaic.TcCoe Idealize.SL.Sem Cert.Rms Cert.Out
open Cert.Reference10Ideal.Read Cert.OutRef
open Cert.Spec hiding Tab

section Body

variable {D : Tab} {T : ℕ} {x0 : Vec Ideal S512x1024 .f32} {x1 : Vec Ideal S512x1024 .bf16} {x2 : Vec Ideal S512x1024 .bf16} {x3 : Vec Ideal S512x1024 .bf16} {x4 : Vec Ideal S1x1024 .f32} {x5 : Vec Ideal S1x1024 .f32} {x6 : Vec Ideal S1024x1024 .bf16} {x7 : Vec Ideal S2816x1024 .bf16} {o : Vec Ideal S1x1024 .f32}

/-- The blocks that point `T` reads. -/
structure Blocks (D : Tab) (T : ℕ) (x0 : Vec Ideal S512x1024 .f32) (x1 : Vec Ideal S512x1024 .bf16) (x2 : Vec Ideal S512x1024 .bf16) (x3 : Vec Ideal S512x1024 .bf16) (x4 : Vec Ideal S1x1024 .f32) (x5 : Vec Ideal S1x1024 .f32) (x6 : Vec Ideal S1024x1024 .bf16) (x7 : Vec Ideal S2816x1024 .bf16) : Prop where
  d : ∀ (a : Fin 512) (i : Fin 1024), x0 (ix2 a i) = (D.d (512 * T + a) i : EReal)
  pg : ∀ (a : Fin 512) (i : Fin 1024), x1 (ix2 a i) = (D.pg (512 * T + a) i : EReal)
  pe : ∀ (a : Fin 512) (i : Fin 1024), x2 (ix2 a i) = (D.pe (512 * T + a) i : EReal)
  f : ∀ (a : Fin 512) (i : Fin 1024), x3 (ix2 a i) = (D.f (512 * T + a) i : EReal)
  v : ∀ (z : Fin 1) (i : Fin 1024), x4 (ix2 z i) = (D.v i : EReal)
  u : ∀ (z : Fin 1) (i : Fin 1024), x5 (ix2 z i) = (D.u i : EReal)
  G : ∀ k i : Fin 1024, x6 (ix2 k i) = (D.G k i : EReal)
  A : ∀ (k : Fin 2816) (i : Fin 1024), x7 (ix2 k i) = (D.A k i : EReal)

theorem gate (H : Blocks D T x0 x1 x2 x3 x4 x5 x6 x7) (a : Fin 512) (i : Fin 1024) : k0_pay7 (F := Ideal) x1 (ix2 a i) = (D.s (512 * T + a) i : EReal) := by
  pointwise [k0_pay7]
  rw [H.pg]
  exact sig_real _

theorem gated (H : Blocks D T x0 x1 x2 x3 x4 x5 x6 x7) (a : Fin 512) (i : Fin 1024) : k0_pay8 (F := Ideal) x1 x2 (ix2 a i) = (D.y (512 * T + a) i : EReal) := by
  pointwise [k0_pay8, k0_pay6]
  rw [gate H, H.pe, ← EReal.coe_mul]
  rfl

theorem root_gate (H : Blocks D T x0 x1 x2 x3 x4 x5 x6 x7) (a : Fin 512) (z : Fin 1) : k0_pay9 (F := Ideal) x1 x2 (ix2 a z) = (rs D.y (512 * T + a) : EReal) := by
  pointwise [k0_pay9]
  rw [Consts.c_1024, Consts.c_eps]
  simp only [gated H, ← EReal.coe_mul, ← coe_sum]
  exact root_real D.y (512 * T + a)

theorem normed_gate (H : Blocks D T x0 x1 x2 x3 x4 x5 x6 x7) (a : Fin 512) (i : Fin 1024) :
    k0_pay10 (F := Ideal) x1 x2 (ix2 a i) = ((D.y (512 * T + a) i * rs D.y (512 * T + a) : ℝ) : EReal) := by
  pointwise [k0_pay10]
  rw [root_gate H, gated H, ← EReal.coe_mul]

theorem dgated (H : Blocks D T x0 x1 x2 x3 x4 x5 x6 x7) (a : Fin 512) (i : Fin 1024) : k0_pay11 (F := Ideal) x0 x1 x2 x4 (ix2 a i) = (D.dy (512 * T + a) i : EReal) := by
  pointwise [k0_pay11]
  simp only [root_gate H, normed_gate H, H.d, H.v, Consts.c_1024, ← EReal.coe_mul, ← coe_sum]
  rw [div_real _ _ (by norm_num), ← EReal.coe_mul, ← EReal.coe_sub, ← EReal.coe_mul]
  rfl

theorem dpe (H : Blocks D T x0 x1 x2 x3 x4 x5 x6 x7) (a : Fin 512) (i : Fin 1024) : k0_pay14 (F := Ideal) (k0_pay7 x1) (k0_pay11 x0 x1 x2 x4) (ix2 a i) = (D.dpe (512 * T + a) i : EReal) := by
  pointwise [k0_pay14]
  rw [dgated H, gate H, ← EReal.coe_mul]
  rfl

theorem dpg (H : Blocks D T x0 x1 x2 x3 x4 x5 x6 x7) (a : Fin 512) (i : Fin 1024) : k0_pay15 (F := Ideal) (k0_pay6 x2) (k0_pay7 x1) (k0_pay11 x0 x1 x2 x4) (ix2 a i) = (D.dpg (512 * T + a) i : EReal) := by
  pointwise [k0_pay15, k0_pay6]
  rw [dgated H, gate H, H.pe, Consts.c_one, ← EReal.coe_mul, ← EReal.coe_mul, ← EReal.coe_sub, ← EReal.coe_mul]
  rfl

theorem dh (H : Blocks D T x0 x1 x2 x3 x4 x5 x6 x7) (a : Fin 512) (i : Fin 1024) : k0_pay16 (F := Ideal) x0 (k0_pay6 x2) (k0_pay7 x1) (k0_pay11 x0 x1 x2 x4) x6 (ix2 a i) = (D.dh (512 * T + a) i : EReal) := by
  pointwise [k0_pay16]
  simp only [dpg H, H.G, H.d, ← EReal.coe_mul, ← coe_sum, ← EReal.coe_add]
  rfl

theorem root_out (H : Blocks D T x0 x1 x2 x3 x4 x5 x6 x7) (a : Fin 512) (z : Fin 1) : k0_pay18 (F := Ideal) x3 (ix2 a z) = (rs D.f (512 * T + a) : EReal) := by
  pointwise [k0_pay18, k0_pay17]
  rw [Consts.c_1024, Consts.c_eps]
  simp only [H.f, ← EReal.coe_mul, ← coe_sum]
  exact root_real D.f (512 * T + a)

theorem normed_out (H : Blocks D T x0 x1 x2 x3 x4 x5 x6 x7) (a : Fin 512) (i : Fin 1024) :
    k0_pay19 (F := Ideal) x3 (ix2 a i) = ((D.f (512 * T + a) i * rs D.f (512 * T + a) : ℝ) : EReal) := by
  pointwise [k0_pay19, k0_pay17]
  rw [root_out H, H.f, ← EReal.coe_mul]

theorem scaled (H : Blocks D T x0 x1 x2 x3 x4 x5 x6 x7) (a : Fin 512) (i : Fin 1024) : k0_pay20 (F := Ideal) x0 (k0_pay6 x2) (k0_pay7 x1) (k0_pay11 x0 x1 x2 x4) x6 x5 (ix2 a i) = ((D.dh (512 * T + a) i * D.u i : ℝ) : EReal) := by
  pointwise [k0_pay20]
  rw [dh H, H.u, ← EReal.coe_mul]

theorem df (H : Blocks D T x0 x1 x2 x3 x4 x5 x6 x7) (a : Fin 512) (i : Fin 1024) : k0_pay2 (F := Ideal) (k0_pay18 x3) (k0_pay19 x3) (k0_pay20 x0 (k0_pay6 x2) (k0_pay7 x1) (k0_pay11 x0 x1 x2 x4) x6 x5) (k0_pay21 x0 (k0_pay6 x2) (k0_pay7 x1) (k0_pay11 x0 x1 x2 x4) x6 x3 x5) (ix2 a i) = (D.df (512 * T + a) i : EReal) := by
  pointwise [k0_pay2, k0_pay21]
  simp only [root_out H, normed_out H, scaled H, Consts.c_1024, ← EReal.coe_mul, ← coe_sum]
  rw [div_real _ _ (by norm_num), ← EReal.coe_mul, ← EReal.coe_sub, ← EReal.coe_mul]
  rfl

theorem da (H : Blocks D T x0 x1 x2 x3 x4 x5 x6 x7) (a : Fin 512) (k : Fin 2816) :
    k0_pay3 (F := Ideal) (k0_pay18 x3) (k0_pay19 x3) (k0_pay20 x0 (k0_pay6 x2) (k0_pay7 x1) (k0_pay11 x0 x1 x2 x4) x6 x5) (k0_pay21 x0 (k0_pay6 x2) (k0_pay7 x1) (k0_pay11 x0 x1 x2 x4) x6 x3 x5) x7 (ix2 a k) = (D.da (512 * T + a) k : EReal) := by
  pointwise [k0_pay3]
  simp only [df H, H.A, ← EReal.coe_mul, ← coe_sum]
  rfl

/-- Tile `T`'s part of a gain's gradient. -/
def part (x y : ℕ → ℕ → ℝ) (T i : ℕ) : ℝ := ∑ a : Fin 512, y (512 * T + a) i * (x (512 * T + a) i * rs x (512 * T + a))

theorem gain_gate (H : Blocks D T x0 x1 x2 x3 x4 x5 x6 x7) (z : Fin 1) (i : Fin 1024) :
    k0_pay13 (F := Ideal) (k0_pay12 x0 x1 x2) o (ix2 z i) = o (ix2 z i) + (part D.y D.d T i : EReal) := by
  pointwise [k0_pay13, k0_pay12]
  simp only [normed_gate H, H.d, ← EReal.coe_mul, ← coe_sum]
  rfl

theorem gain_out (H : Blocks D T x0 x1 x2 x3 x4 x5 x6 x7) (z : Fin 1) (i : Fin 1024) :
    k0_pay1 (F := Ideal) (k0_pay16 x0 (k0_pay6 x2) (k0_pay7 x1) (k0_pay11 x0 x1 x2 x4) x6) (k0_pay19 x3) o (ix2 z i) = o (ix2 z i) + (part D.f D.dh T i : EReal) := by
  pointwise [k0_pay1]
  simp only [normed_out H, dh H, ← EReal.coe_mul, ← coe_sum]
  rfl

end Body

section Point

variable {D : Tab} {T : ℕ} (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S2816x1024 .bf16) (harg8 : arg8.IsWhole) (arg9 : Memref sig .tc .vmem S512x1024 .f32) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S512x2816 .bf16) (harg13 : arg13.IsWhole) (arg14 : Memref sig .tc .vmem S1x1024 .f32) (harg14 : arg14.IsWhole) (arg15 : Memref sig .tc .vmem S1x1024 .f32) (harg15 : arg15.IsWhole)
  (x0 : Vec Ideal S512x1024 .f32) (x1 : Vec Ideal S512x1024 .bf16) (x2 : Vec Ideal S512x1024 .bf16) (x3 : Vec Ideal S512x1024 .bf16) (x4 : Vec Ideal S1x1024 .f32) (x5 : Vec Ideal S1x1024 .f32) (x6 : Vec Ideal S1024x1024 .bf16) (x7 : Vec Ideal S2816x1024 .bf16) (o o' : Vec Ideal S1x1024 .f32)

theorem A8 (hc0 : cond0_0 i) (H : Blocks D T x0 x1 x2 x3 x4 x5 x6 x7) (a : Fin 512) (j : Fin 1024) :
    out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 (ix2 a j) = (D.dh (512 * T + a) j : EReal) := by
  frame_open
  simp (disch := decide) only [↓ View.readCov_skip, ↓ View.readCov_cons_toLoadRect, ↓ View.readCov_fill]
  frame_out
  exact dh H a j

theorem B8 (hc0 : ¬cond0_0 i) (H : Blocks D T x0 x1 x2 x3 x4 x5 x6 x7) (a : Fin 512) (j : Fin 1024) :
    out0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 o o' (ix2 a j) = (D.dh (512 * T + a) j : EReal) := by
  frame_open
  simp (disch := decide) only [↓ View.readCov_skip, ↓ View.readCov_cons_toLoadRect, ↓ View.readCov_fill]
  frame_out
  exact dh H a j

theorem A9 (hc0 : cond0_0 i) (H : Blocks D T x0 x1 x2 x3 x4 x5 x6 x7) (a : Fin 512) (j : Fin 1024) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 (ix2 a j) = (D.dpe (512 * T + a) j : EReal) := by
  frame_open
  simp (disch := decide) only [↓ View.readCov_skip, ↓ View.readCov_cons_toLoadRect, ↓ View.readCov_fill]
  frame_out
  exact dpe H a j

theorem B9 (hc0 : ¬cond0_0 i) (H : Blocks D T x0 x1 x2 x3 x4 x5 x6 x7) (a : Fin 512) (j : Fin 1024) :
    out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 o o' (ix2 a j) = (D.dpe (512 * T + a) j : EReal) := by
  frame_open
  simp (disch := decide) only [↓ View.readCov_skip, ↓ View.readCov_cons_toLoadRect, ↓ View.readCov_fill]
  frame_out
  exact dpe H a j

theorem A10 (hc0 : cond0_0 i) (H : Blocks D T x0 x1 x2 x3 x4 x5 x6 x7) (a : Fin 512) (j : Fin 1024) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 (ix2 a j) = (D.dpg (512 * T + a) j : EReal) := by
  frame_open
  simp (disch := decide) only [↓ View.readCov_skip, ↓ View.readCov_cons_toLoadRect, ↓ View.readCov_fill]
  frame_out
  exact dpg H a j

theorem B10 (hc0 : ¬cond0_0 i) (H : Blocks D T x0 x1 x2 x3 x4 x5 x6 x7) (a : Fin 512) (j : Fin 1024) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 o o' (ix2 a j) = (D.dpg (512 * T + a) j : EReal) := by
  frame_open
  simp (disch := decide) only [↓ View.readCov_skip, ↓ View.readCov_cons_toLoadRect, ↓ View.readCov_fill]
  frame_out
  exact dpg H a j

theorem A11 (hc0 : cond0_0 i) (H : Blocks D T x0 x1 x2 x3 x4 x5 x6 x7) (a : Fin 512) (j : Fin 1024) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 (ix2 a j) = (D.df (512 * T + a) j : EReal) := by
  frame_open
  simp (disch := decide) only [↓ View.readCov_skip, ↓ View.readCov_cons_toLoadRect, ↓ View.readCov_fill]
  frame_out
  exact df H a j

theorem B11 (hc0 : ¬cond0_0 i) (H : Blocks D T x0 x1 x2 x3 x4 x5 x6 x7) (a : Fin 512) (j : Fin 1024) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 o o' (ix2 a j) = (D.df (512 * T + a) j : EReal) := by
  frame_open
  simp (disch := decide) only [↓ View.readCov_skip, ↓ View.readCov_cons_toLoadRect, ↓ View.readCov_fill]
  frame_out
  exact df H a j

theorem A12 (hc0 : cond0_0 i) (H : Blocks D T x0 x1 x2 x3 x4 x5 x6 x7) (a : Fin 512) (j : Fin 2816) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 (ix2 a j) = (D.da (512 * T + a) j : EReal) := by
  frame_open
  simp (disch := decide) only [↓ View.readCov_skip, ↓ View.readCov_cons_toLoadRect, ↓ View.readCov_fill]
  frame_out
  exact da H a j

theorem B12 (hc0 : ¬cond0_0 i) (H : Blocks D T x0 x1 x2 x3 x4 x5 x6 x7) (a : Fin 512) (j : Fin 2816) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 o o' (ix2 a j) = (D.da (512 * T + a) j : EReal) := by
  frame_open
  simp (disch := decide) only [↓ View.readCov_skip, ↓ View.readCov_cons_toLoadRect, ↓ View.readCov_fill]
  frame_out
  exact da H a j

theorem A13 (hc0 : cond0_0 i) (H : Blocks D T x0 x1 x2 x3 x4 x5 x6 x7) (z : Fin 1) (j : Fin 1024) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 (ix2 z j) = (part D.y D.d T j : EReal) := by
  frame_open
  simp (disch := decide) only [↓ View.readCov_skip, ↓ View.readCov_cons_toLoadRect, ↓ View.readCov_fill]
  frame_out
  refine (gain_gate H z j).trans ?_
  pointwise [k0_pay4]

theorem B13 (hc0 : ¬cond0_0 i) (H : Blocks D T x0 x1 x2 x3 x4 x5 x6 x7) (z : Fin 1) (j : Fin 1024) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 o o' (ix2 z j) = o (ix2 z j) + (part D.y D.d T j : EReal) := by
  frame_open
  simp (disch := decide) only [↓ View.readCov_skip, ↓ View.readCov_cons_toLoadRect, ↓ View.readCov_fill]
  frame_out
  exact gain_gate H z j

theorem A14 (hc0 : cond0_0 i) (H : Blocks D T x0 x1 x2 x3 x4 x5 x6 x7) (z : Fin 1) (j : Fin 1024) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 (ix2 z j) = (part D.f D.dh T j : EReal) := by
  frame_open
  simp (disch := decide) only [↓ View.readCov_skip, ↓ View.readCov_cons_toLoadRect, ↓ View.readCov_fill]
  frame_out
  refine (gain_out H z j).trans ?_
  pointwise [k0_pay5]

theorem B14 (hc0 : ¬cond0_0 i) (H : Blocks D T x0 x1 x2 x3 x4 x5 x6 x7) (z : Fin 1) (j : Fin 1024) :
    out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 o o' (ix2 z j) = o' (ix2 z j) + (part D.f D.dh T j : EReal) := by
  frame_open
  simp (disch := decide) only [↓ View.readCov_skip, ↓ View.readCov_cons_toLoadRect, ↓ View.readCov_fill]
  frame_out
  exact gain_out H z j

end Point

variable {m : (ℓ : Loc nD τ sig) → Buf (Elt Ideal) ℓ} {c : Dev nD} {D : Tab}

/-- Core `c`'s arguments hold the tables' real numbers. -/
abbrev HoldsAt (m : (ℓ : Loc nD τ sig) → Buf (Elt Ideal) ℓ) (c : Dev nD) (D : Tab) : Prop :=
  Holds D (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

section
variable (m c)

theorem V_v17 : V m c main_v17 = (val_main_v15 (F := Ideal) (m ((c : Thread nD τ).loc main_arg0)) (m ((c : Thread nD τ).loc main_arg1)) (m ((c : Thread nD τ).loc main_arg3)) (m ((c : Thread nD τ).loc main_arg4)) (m ((c : Thread nD τ).loc main_arg6)) : S8192x1024.Idx → EReal) := by
  unfold_abbrev_sides
  after_reads_simp
  rfl
theorem V_v18 : V m c main_v18 = (val_main_v16 (F := Ideal) (m ((c : Thread nD τ).loc main_arg2)) (m ((c : Thread nD τ).loc main_arg5)) : S8192x1024.Idx → EReal) := by
  unfold_abbrev_sides
  after_reads_simp
  rfl
theorem V_v19 : V m c main_v19 = (val_main_v0 (F := Ideal) (m ((c : Thread nD τ).loc main_arg0)) (m ((c : Thread nD τ).loc main_arg3)) : S8192x1024.Idx → EReal) := by
  unfold_abbrev_sides
  after_reads_simp
  rfl
theorem V_v22 : V m c main_v22 = (m ((c : Thread nD τ).loc main_arg6) : S1024x1024.Idx → EReal) := by
  unfold_abbrev_sides
  after_reads_simp
  rfl
theorem V_v23 : V m c main_v23 = (m ((c : Thread nD τ).loc main_arg3) : S2816x1024.Idx → EReal) := by
  unfold_abbrev_sides
  after_reads_simp
  rfl

end

theorem gain5 (H : HoldsAt m c D) (z : Fin 1) (i : Fin 1024) : (V m c main_v20 : S1x1024.Idx → EReal) (ix2 z i) = (D.v i : EReal) := by
  unfold_abbrev_sides
  after_reads_simp
  pointwise
  exact H.v i
theorem gain4 (H : HoldsAt m c D) (z : Fin 1) (i : Fin 1024) : (V m c main_v21 : S1x1024.Idx → EReal) (ix2 z i) = (D.u i : EReal) := by
  unfold_abbrev_sides
  after_reads_simp
  pointwise
  exact H.u i

theorem index_tile : ∀ t : Fin cfg0.N, win0_0.index t = ![t.val, 0] ∧ win0_1.index t = ![t.val, 0] ∧ win0_2.index t = ![t.val, 0]
    ∧ win0_3.index t = ![t.val, 0] := by decide +kernel
theorem index_out : ∀ t : Fin cfg0.N, win0_8.index t = ![t.val, 0] ∧ win0_9.index t = ![t.val, 0] ∧ win0_10.index t = ![t.val, 0]
    ∧ win0_11.index t = ![t.val, 0] ∧ win0_12.index t = ![t.val, 0] := by decide +kernel
theorem index_whole : ∀ t : Fin cfg0.N, win0_4.index t = ![0, 0] ∧ win0_5.index t = ![0, 0] ∧ win0_6.index t = ![0, 0]
    ∧ win0_7.index t = ![0, 0] := by decide +kernel

theorem b_d (H : HoldsAt m c D) (t : Fin cfg0.N) (a : Fin 512) (i : Fin 1024) :
    (iblk m c 0 t : S512x1024.Idx → EReal) (ix2 a i) = (D.d (512 * t.val + a) i : EReal) := by
  have ht : t.val < 16 := t.isLt
  have e : iblk m c 0 t (ix2 a i) = V m c main_arg8 (ix2 (⟨512 * t.val + a, by omega⟩ : Fin 8192) i) := by
    blk_ext [iblk, index_tile t]
  exact e.trans ((congrFun (V_main_arg8 m c) _).trans (H.d _ _))

theorem b_pg (H : HoldsAt m c D) (t : Fin cfg0.N) (a : Fin 512) (i : Fin 1024) :
    (iblk m c 1 t : S512x1024.Idx → EReal) (ix2 a i) = (D.pg (512 * t.val + a) i : EReal) := by
  have ht : t.val < 16 := t.isLt
  have e : iblk m c 1 t (ix2 a i) = V m c main_v17 (ix2 (⟨512 * t.val + a, by omega⟩ : Fin 8192) i) := by
    blk_ext [iblk, index_tile t]
  exact e.trans ((congrFun (V_v17 m c) _).trans (v15 H _ _))

theorem b_pe (H : HoldsAt m c D) (t : Fin cfg0.N) (a : Fin 512) (i : Fin 1024) :
    (iblk m c 2 t : S512x1024.Idx → EReal) (ix2 a i) = (D.pe (512 * t.val + a) i : EReal) := by
  have ht : t.val < 16 := t.isLt
  have e : iblk m c 2 t (ix2 a i) = V m c main_v18 (ix2 (⟨512 * t.val + a, by omega⟩ : Fin 8192) i) := by
    blk_ext [iblk, index_tile t]
  exact e.trans ((congrFun (V_v18 m c) _).trans (v16 H _ _))

theorem b_f (H : HoldsAt m c D) (t : Fin cfg0.N) (a : Fin 512) (i : Fin 1024) :
    (iblk m c 3 t : S512x1024.Idx → EReal) (ix2 a i) = (D.f (512 * t.val + a) i : EReal) := by
  have ht : t.val < 16 := t.isLt
  have e : iblk m c 3 t (ix2 a i) = V m c main_v19 (ix2 (⟨512 * t.val + a, by omega⟩ : Fin 8192) i) := by
    blk_ext [iblk, index_tile t]
  exact e.trans ((congrFun (V_v19 m c) _).trans (v0 H _ _))

theorem b_v (H : HoldsAt m c D) (t : Fin cfg0.N) (z : Fin 1) (i : Fin 1024) :
    (iblk m c 4 t : S1x1024.Idx → EReal) (ix2 z i) = (D.v i : EReal) := by
  have e : iblk m c 4 t (ix2 z i) = V m c main_v20 (ix2 z i) := by
    blk_ext [iblk, index_whole t]
  exact e.trans (gain5 H z i)

theorem b_u (H : HoldsAt m c D) (t : Fin cfg0.N) (z : Fin 1) (i : Fin 1024) :
    (iblk m c 5 t : S1x1024.Idx → EReal) (ix2 z i) = (D.u i : EReal) := by
  have e : iblk m c 5 t (ix2 z i) = V m c main_v21 (ix2 z i) := by
    blk_ext [iblk, index_whole t]
  exact e.trans (gain4 H z i)

theorem b_G (H : HoldsAt m c D) (t : Fin cfg0.N) (z : Fin 1024) (i : Fin 1024) :
    (iblk m c 6 t : S1024x1024.Idx → EReal) (ix2 z i) = (D.G z i : EReal) := by
  have e : iblk m c 6 t (ix2 z i) = V m c main_v22 (ix2 z i) := by
    blk_ext [iblk, index_whole t]
  exact e.trans ((congrFun (V_v22 m c) _).trans (H.G z i))

theorem b_A (H : HoldsAt m c D) (t : Fin cfg0.N) (z : Fin 2816) (i : Fin 1024) :
    (iblk m c 7 t : S2816x1024.Idx → EReal) (ix2 z i) = (D.A z i : EReal) := by
  have e : iblk m c 7 t (ix2 z i) = V m c main_v23 (ix2 z i) := by
    blk_ext [iblk, index_whole t]
  exact e.trans ((congrFun (V_v23 m c) _).trans (H.A z i))

theorem blocks (H : HoldsAt m c D) (t : Fin cfg0.N) : Blocks D t.val (iblk m c 0 t) (iblk m c 1 t) (iblk m c 2 t) (iblk m c 3 t) (iblk m c 4 t) (iblk m c 5 t) (iblk m c 6 t) (iblk m c 7 t) :=
  ⟨b_d H t, b_pg H t, b_pe H t, b_f H t, b_v H t, b_u H t, b_G H t, b_A H t⟩

theorem point8 (H : HoldsAt m c D) (t : Fin cfg0.N) (a : Fin 512) (j : Fin 1024) :
    (outsAt0 m c t.val t.isLt).1 (ix2 a j) = (D.dh (512 * t.val + a) j : EReal) := by
  by_cases h0 : t.val % 16 = 0
  · have h := A8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t) ((hcond0_0 t).mpr h0) (blocks H t) a j
    rw [outsAt0_A m c t h0]
    dsimp only
    exact h
  · have h := B8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (fun hc => h0 ((hcond0_0 t).mp hc)) (blocks H t) a j
    rw [outsAt0_B m c t h0]
    dsimp only
    exact h

theorem out8 (H : HoldsAt m c D) (r : Fin 8192) (j : Fin 1024) :
    ((dats m 0 c).arrAt 8 cfg0.N : S8192x1024.Idx → EReal) (ix2 r j) = (D.dh r.val j.val : EReal) := by
  have e : (dats m 0 c).arrAt 8 cfg0.N = (fun x => (D.dh (x 0).val (x 1).val : EReal) : S8192x1024.Idx → EReal) := by
    refine (dats m 0 c).arrAt_eq_of_covers 8 _ (by decide +kernel) fun t hf y => ?_
    blk_simp
    rw [after0_8]
    obtain ⟨a, j, rfl⟩ : ∃ (a : Fin 512) (j : Fin 1024), y = ix2 a j := ⟨y 0, y 1, ValueIdx.eq_ix2 y⟩
    refine (point8 H t a j).trans ?_
    have e0 : win0_8.index t 0 = t.val := by rw [(index_out t).1]; rfl
    have e1 : win0_8.index t 1 = 0 := by rw [(index_out t).1]; rfl
    have hr : (512 * t.val + (a : ℕ)) = win0_8.index t 0 * 512 + (a : ℕ) := by rw [e0]; omega
    have hj : (j : ℕ) = win0_8.index t 1 * 1024 + (j : ℕ) := by rw [e1]; omega
    exact congrArg₂ (fun p q : ℕ => ((D.dh p q : ℝ) : EReal)) hr hj
  exact congrFun e (ix2 r j)

theorem point9 (H : HoldsAt m c D) (t : Fin cfg0.N) (a : Fin 512) (j : Fin 1024) :
    (outsAt0 m c t.val t.isLt).2.1 (ix2 a j) = (D.dpe (512 * t.val + a) j : EReal) := by
  by_cases h0 : t.val % 16 = 0
  · have h := A9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t) ((hcond0_0 t).mpr h0) (blocks H t) a j
    rw [outsAt0_A m c t h0]
    dsimp only
    exact h
  · have h := B9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (fun hc => h0 ((hcond0_0 t).mp hc)) (blocks H t) a j
    rw [outsAt0_B m c t h0]
    dsimp only
    exact h

theorem out9 (H : HoldsAt m c D) (r : Fin 8192) (j : Fin 1024) :
    ((dats m 0 c).arrAt 9 cfg0.N : S8192x1024.Idx → EReal) (ix2 r j) = (D.dpe r.val j.val : EReal) := by
  have e : (dats m 0 c).arrAt 9 cfg0.N = (fun x => (D.dpe (x 0).val (x 1).val : EReal) : S8192x1024.Idx → EReal) := by
    refine (dats m 0 c).arrAt_eq_of_covers 9 _ (by decide +kernel) fun t hf y => ?_
    blk_simp
    rw [after0_9]
    obtain ⟨a, j, rfl⟩ : ∃ (a : Fin 512) (j : Fin 1024), y = ix2 a j := ⟨y 0, y 1, ValueIdx.eq_ix2 y⟩
    refine (point9 H t a j).trans ?_
    have e0 : win0_9.index t 0 = t.val := by rw [(index_out t).2.1]; rfl
    have e1 : win0_9.index t 1 = 0 := by rw [(index_out t).2.1]; rfl
    have hr : (512 * t.val + (a : ℕ)) = win0_9.index t 0 * 512 + (a : ℕ) := by rw [e0]; omega
    have hj : (j : ℕ) = win0_9.index t 1 * 1024 + (j : ℕ) := by rw [e1]; omega
    exact congrArg₂ (fun p q : ℕ => ((D.dpe p q : ℝ) : EReal)) hr hj
  exact congrFun e (ix2 r j)

theorem point10 (H : HoldsAt m c D) (t : Fin cfg0.N) (a : Fin 512) (j : Fin 1024) :
    (outsAt0 m c t.val t.isLt).2.2.1 (ix2 a j) = (D.dpg (512 * t.val + a) j : EReal) := by
  by_cases h0 : t.val % 16 = 0
  · have h := A10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t) ((hcond0_0 t).mpr h0) (blocks H t) a j
    rw [outsAt0_A m c t h0]
    dsimp only
    exact h
  · have h := B10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (fun hc => h0 ((hcond0_0 t).mp hc)) (blocks H t) a j
    rw [outsAt0_B m c t h0]
    dsimp only
    exact h

theorem out10 (H : HoldsAt m c D) (r : Fin 8192) (j : Fin 1024) :
    ((dats m 0 c).arrAt 10 cfg0.N : S8192x1024.Idx → EReal) (ix2 r j) = (D.dpg r.val j.val : EReal) := by
  have e : (dats m 0 c).arrAt 10 cfg0.N = (fun x => (D.dpg (x 0).val (x 1).val : EReal) : S8192x1024.Idx → EReal) := by
    refine (dats m 0 c).arrAt_eq_of_covers 10 _ (by decide +kernel) fun t hf y => ?_
    blk_simp
    rw [after0_10]
    obtain ⟨a, j, rfl⟩ : ∃ (a : Fin 512) (j : Fin 1024), y = ix2 a j := ⟨y 0, y 1, ValueIdx.eq_ix2 y⟩
    refine (point10 H t a j).trans ?_
    have e0 : win0_10.index t 0 = t.val := by rw [(index_out t).2.2.1]; rfl
    have e1 : win0_10.index t 1 = 0 := by rw [(index_out t).2.2.1]; rfl
    have hr : (512 * t.val + (a : ℕ)) = win0_10.index t 0 * 512 + (a : ℕ) := by rw [e0]; omega
    have hj : (j : ℕ) = win0_10.index t 1 * 1024 + (j : ℕ) := by rw [e1]; omega
    exact congrArg₂ (fun p q : ℕ => ((D.dpg p q : ℝ) : EReal)) hr hj
  exact congrFun e (ix2 r j)

theorem point11 (H : HoldsAt m c D) (t : Fin cfg0.N) (a : Fin 512) (j : Fin 1024) :
    (outsAt0 m c t.val t.isLt).2.2.2.1 (ix2 a j) = (D.df (512 * t.val + a) j : EReal) := by
  by_cases h0 : t.val % 16 = 0
  · have h := A11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t) ((hcond0_0 t).mpr h0) (blocks H t) a j
    rw [outsAt0_A m c t h0]
    dsimp only
    exact h
  · have h := B11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (fun hc => h0 ((hcond0_0 t).mp hc)) (blocks H t) a j
    rw [outsAt0_B m c t h0]
    dsimp only
    exact h

theorem out11 (H : HoldsAt m c D) (r : Fin 8192) (j : Fin 1024) :
    ((dats m 0 c).arrAt 11 cfg0.N : S8192x1024.Idx → EReal) (ix2 r j) = (D.df r.val j.val : EReal) := by
  have e : (dats m 0 c).arrAt 11 cfg0.N = (fun x => (D.df (x 0).val (x 1).val : EReal) : S8192x1024.Idx → EReal) := by
    refine (dats m 0 c).arrAt_eq_of_covers 11 _ (by decide +kernel) fun t hf y => ?_
    blk_simp
    rw [after0_11]
    obtain ⟨a, j, rfl⟩ : ∃ (a : Fin 512) (j : Fin 1024), y = ix2 a j := ⟨y 0, y 1, ValueIdx.eq_ix2 y⟩
    refine (point11 H t a j).trans ?_
    have e0 : win0_11.index t 0 = t.val := by rw [(index_out t).2.2.2.1]; rfl
    have e1 : win0_11.index t 1 = 0 := by rw [(index_out t).2.2.2.1]; rfl
    have hr : (512 * t.val + (a : ℕ)) = win0_11.index t 0 * 512 + (a : ℕ) := by rw [e0]; omega
    have hj : (j : ℕ) = win0_11.index t 1 * 1024 + (j : ℕ) := by rw [e1]; omega
    exact congrArg₂ (fun p q : ℕ => ((D.df p q : ℝ) : EReal)) hr hj
  exact congrFun e (ix2 r j)

theorem point12 (H : HoldsAt m c D) (t : Fin cfg0.N) (a : Fin 512) (j : Fin 2816) :
    (outsAt0 m c t.val t.isLt).2.2.2.2.1 (ix2 a j) = (D.da (512 * t.val + a) j : EReal) := by
  by_cases h0 : t.val % 16 = 0
  · have h := A12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t) ((hcond0_0 t).mpr h0) (blocks H t) a j
    rw [outsAt0_A m c t h0]
    dsimp only
    exact h
  · have h := B12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (fun hc => h0 ((hcond0_0 t).mp hc)) (blocks H t) a j
    rw [outsAt0_B m c t h0]
    dsimp only
    exact h

theorem out12 (H : HoldsAt m c D) (r : Fin 8192) (j : Fin 2816) :
    ((dats m 0 c).arrAt 12 cfg0.N : S8192x2816.Idx → EReal) (ix2 r j) = (D.da r.val j.val : EReal) := by
  have e : (dats m 0 c).arrAt 12 cfg0.N = (fun x => (D.da (x 0).val (x 1).val : EReal) : S8192x2816.Idx → EReal) := by
    refine (dats m 0 c).arrAt_eq_of_covers 12 _ (by decide +kernel) fun t hf y => ?_
    blk_simp
    rw [after0_12]
    obtain ⟨a, j, rfl⟩ : ∃ (a : Fin 512) (j : Fin 2816), y = ix2 a j := ⟨y 0, y 1, ValueIdx.eq_ix2 y⟩
    refine (point12 H t a j).trans ?_
    have e0 : win0_12.index t 0 = t.val := by rw [(index_out t).2.2.2.2]; rfl
    have e1 : win0_12.index t 1 = 0 := by rw [(index_out t).2.2.2.2]; rfl
    have hr : (512 * t.val + (a : ℕ)) = win0_12.index t 0 * 512 + (a : ℕ) := by rw [e0]; omega
    have hj : (j : ℕ) = win0_12.index t 1 * 2816 + (j : ℕ) := by rw [e1]; omega
    exact congrArg₂ (fun p q : ℕ => ((D.da p q : ℝ) : EReal)) hr hj
  exact congrFun e (ix2 r j)

/-- The last point. -/
def last : Fin cfg0.N := ⟨15, by decide⟩

theorem first13 (H : HoldsAt m c D) (t : Fin cfg0.N) (h0 : t.val % 16 = 0) (z : Fin 1) (i : Fin 1024) :
    (outsAt0 m c t.val t.isLt).2.2.2.2.2.1 (ix2 z i) = (part D.y D.d t.val i : EReal) := by
  have h := A13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t) ((hcond0_0 t).mpr h0) (blocks H t) z i
  rw [outsAt0_A m c t h0]
  dsimp only
  exact h

theorem next13 (H : HoldsAt m c D) (t : Fin cfg0.N) (h0 : ¬t.val % 16 = 0) (z : Fin 1) (i : Fin 1024) :
    (outsAt0 m c t.val t.isLt).2.2.2.2.2.1 (ix2 z i) = (outsAt0 m c (t.val - 1) (Nat.lt_of_le_of_lt (Nat.sub_le _ _) t.isLt)).2.2.2.2.2.1 (ix2 z i) + (part D.y D.d t.val i : EReal) := by
  have h := B13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (fun hc => h0 ((hcond0_0 t).mp hc)) (blocks H t) z i
  rw [outsAt0_B m c t h0]
  dsimp only
  exact h

/-- After point `t`, the gain's gradient holds the sum over the tiles up to `t`'s. -/
theorem sum13 (H : HoldsAt m c D) (t : Fin cfg0.N) (j : S1x1024.Idx) :
    (outsAt0 m c t.val t.isLt).2.2.2.2.2.1 j = ((∑ n ∈ Finset.range (t.val + 1), part D.y D.d n (j 1).val : ℝ) : EReal) := by
  refine (Pipeline.eq_sum_of_reset_step_apply_single (fun n h => ((outsAt0 m c n h).2.2.2.2.2.1 : S1x1024.Idx → EReal)) 16 (fun _ => 0)
    (fun n j => ((part D.y D.d n (j 1).val : ℝ) : EReal)) (fun t h0 j => ?_) (fun t h0 j => ?_) (by decide) t j).trans ?_
  · rw [ValueIdx.eq_ix2 j]
    exact (first13 H t h0 (j 0) (j 1)).trans (zero_add _).symm
  · rw [ValueIdx.eq_ix2 j]
    exact next13 H t h0 (j 0) (j 1)
  · rw [zero_add, coe_sum_range]

theorem out13 (H : HoldsAt m c D) (z : Fin 1) (i : Fin 1024) :
    ((dats m 0 c).arrAt 13 cfg0.N : S1x1024.Idx → EReal) (ix2 z i) = (gg D.y D.d i : EReal) := by
  have e : (dats m 0 c).arrAt 13 cfg0.N = (outsAt0 m c last.val last.isLt).2.2.2.2.2.1 := by
    refine (dats m 0 c).arrAt_eq_of_after_last 13 last (by decide +kernel) _ fun j => ?_
    blk_simp
    rw [after0_13]
  rw [e]
  refine (sum13 H last (ix2 z i)).trans (congrArg _ ?_)
  refine (sum_tiles (fun r => D.d r i * (D.y r i * rs D.y r)) 16).trans ?_
  exact Finset.sum_range (fun r => D.d r i * (D.y r i * rs D.y r))

theorem first14 (H : HoldsAt m c D) (t : Fin cfg0.N) (h0 : t.val % 16 = 0) (z : Fin 1) (i : Fin 1024) :
    (outsAt0 m c t.val t.isLt).2.2.2.2.2.2 (ix2 z i) = (part D.f D.dh t.val i : EReal) := by
  have h := A14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t) ((hcond0_0 t).mpr h0) (blocks H t) z i
  rw [outsAt0_A m c t h0]
  dsimp only
  exact h

theorem next14 (H : HoldsAt m c D) (t : Fin cfg0.N) (h0 : ¬t.val % 16 = 0) (z : Fin 1) (i : Fin 1024) :
    (outsAt0 m c t.val t.isLt).2.2.2.2.2.2 (ix2 z i) = (outsAt0 m c (t.val - 1) (Nat.lt_of_le_of_lt (Nat.sub_le _ _) t.isLt)).2.2.2.2.2.2 (ix2 z i) + (part D.f D.dh t.val i : EReal) := by
  have h := B14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (fun hc => h0 ((hcond0_0 t).mp hc)) (blocks H t) z i
  rw [outsAt0_B m c t h0]
  dsimp only
  exact h

/-- After point `t`, the gain's gradient holds the sum over the tiles up to `t`'s. -/
theorem sum14 (H : HoldsAt m c D) (t : Fin cfg0.N) (j : S1x1024.Idx) :
    (outsAt0 m c t.val t.isLt).2.2.2.2.2.2 j = ((∑ n ∈ Finset.range (t.val + 1), part D.f D.dh n (j 1).val : ℝ) : EReal) := by
  refine (Pipeline.eq_sum_of_reset_step_apply_single (fun n h => ((outsAt0 m c n h).2.2.2.2.2.2 : S1x1024.Idx → EReal)) 16 (fun _ => 0)
    (fun n j => ((part D.f D.dh n (j 1).val : ℝ) : EReal)) (fun t h0 j => ?_) (fun t h0 j => ?_) (by decide) t j).trans ?_
  · rw [ValueIdx.eq_ix2 j]
    exact (first14 H t h0 (j 0) (j 1)).trans (zero_add _).symm
  · rw [ValueIdx.eq_ix2 j]
    exact next14 H t h0 (j 0) (j 1)
  · rw [zero_add, coe_sum_range]

theorem out14 (H : HoldsAt m c D) (z : Fin 1) (i : Fin 1024) :
    ((dats m 0 c).arrAt 14 cfg0.N : S1x1024.Idx → EReal) (ix2 z i) = (gg D.f D.dh i : EReal) := by
  have e : (dats m 0 c).arrAt 14 cfg0.N = (outsAt0 m c last.val last.isLt).2.2.2.2.2.2 := by
    refine (dats m 0 c).arrAt_eq_of_after_last 14 last (by decide +kernel) _ fun j => ?_
    blk_simp
    rw [after0_14]
  rw [e]
  refine (sum14 H last (ix2 z i)).trans (congrArg _ ?_)
  refine (sum_tiles (fun r => D.dh r i * (D.f r i * rs D.f r)) 16).trans ?_
  exact Finset.sum_range (fun r => D.dh r i * (D.f r i * rs D.f r))

/-- The precondition read back: the arguments hold tables of real numbers. -/
theorem holds {X0 : FVec Ideal S8192x2816 .f32} {X1 : FVec Ideal S8192x1024 .f32} {X2 : FVec Ideal S8192x256 .f32} {X3 : FVec Ideal S2816x1024 .f32} {X4 : FVec Ideal S1024 .f32} {X5 : FVec Ideal S256x1024 .f32} {X6 : FVec Ideal S1024x1024 .f32} {X7 : FVec Ideal S1024 .f32} {X8 : FVec Ideal S8192x1024 .f32}
    (e : Cert.Pre_out_grad_finite.fn (F := Ideal) X0 X1 X2 X3 X4 X5 X6 X7 X8 = fun _ => 1#1) :
    Holds ⟨Finite.tab2 X0, Finite.tab2 X1, Finite.tab2 X2, Finite.tab2 X3, Finite.tab1 X4, Finite.tab2 X5, Finite.tab2 X6, Finite.tab1 X7, Finite.tab2 X8⟩ X0 X1 X2 X3 X4 X5 X6 X7 X8 := by
  have e0 := congrFun e ix0
  obtain ⟨e1, h8⟩ := IntOp.andi_eq_one.1 e0
  obtain ⟨e2, h7⟩ := IntOp.andi_eq_one.1 e1
  obtain ⟨e3, h6⟩ := IntOp.andi_eq_one.1 e2
  obtain ⟨e4, h5⟩ := IntOp.andi_eq_one.1 e3
  obtain ⟨e5, h4⟩ := IntOp.andi_eq_one.1 e4
  obtain ⟨e6, h3⟩ := IntOp.andi_eq_one.1 e5
  obtain ⟨e7, h2⟩ := IntOp.andi_eq_one.1 e6
  obtain ⟨h0, h1⟩ := IntOp.andi_eq_one.1 e7
  exact
    { a := Finite.tab2_eq (Finite.real_of_all _ _ _ _ _ h0)
      h := Finite.tab2_eq (Finite.real_of_all _ _ _ _ _ h1)
      p := Finite.tab2_eq (Finite.real_of_all _ _ _ _ _ h2)
      A := Finite.tab2_eq (Finite.real_of_all _ _ _ _ _ h3)
      u := Finite.tab1_eq (Finite.real_of_all _ _ _ _ _ h4)
      P := Finite.tab2_eq (Finite.real_of_all _ _ _ _ _ h5)
      G := Finite.tab2_eq (Finite.real_of_all _ _ _ _ _ h6)
      v := Finite.tab1_eq (Finite.real_of_all _ _ _ _ _ h7)
      d := Finite.tab2_eq (Finite.real_of_all _ _ _ _ _ h8) }

theorem reference : Cert.quiescent_Reference10Ideal (hReference10Ideal := Cert.Reference10Ideal.Gen.facts) := fun m ρ _ =>
  (θ_run Cert.Reference10Ideal.defs _ _).mono (fun r h => ⟨fun c => (h c).2.2.2.2.2.2.2, Idealize.ShloMosaic.sem_eq_zero_of_no_sems (by decide) r.2⟩)
    (Cert.Reference10Ideal.Value.run (F := Ideal) m ρ)

/-- The kernel and the reference compute the same seven arrays of real arguments. -/
theorem algebraic : Cert.algebraic_Kernel10Ideal_Reference10Ideal_pre_out_grad_finite (hKernel10Ideal := Cert.Kernel10Ideal.Gen.facts) (hReference10Ideal := Cert.Reference10Ideal.Gen.facts)
    (hPre_out_grad_finite := Cert.Pre_out_grad_finite.Gen.facts) := by
  pair_intro
  · run_from Cert.Kernel10Ideal.Value.run_blocks m g
  · refine (θ_run Cert.Reference10Ideal.defs _ _).mono (fun r h c => ?_) (Cert.Reference10Ideal.Value.run (F := Ideal) m' g')
    obtain ⟨h0, h1, h2, h3, h4, h5, h6, hk⟩ := h c
    obtain ⟨e0, e1, e2, e3, e4, e5, e6, e7, e8⟩ := hagree c
    obtain ⟨D, H⟩ := (⟨_, holds (hpre c)⟩ : ∃ D, Holds D _ _ _ _ _ _ _ _ _)
    have H' := H
    rw [← e0, ← e1, ← e2, ← e3, ← e4, ← e5, ← e6, ← e7, ← e8] at H'
    refine ⟨(h0.trans (val_main_v68_eq ..)).trans ?_, (h1.trans (val_main_v107_eq ..)).trans ?_, (h2.trans (val_main_v108_eq ..)).trans ?_,
      (h3.trans (val_main_v109_eq ..)).trans ?_, (h4.trans (val_main_v110_eq ..)).trans ?_, (h5.trans (val_main_v111_eq ..)).trans ?_,
      (h6.trans (val_main_v112_eq ..)).trans ?_, hk⟩
    · funext j
      rw [ValueIdx.eq_ix2 j]
      exact (v68 H' (j 0) (j 1)).trans (out8 H (j 0) (j 1)).symm
    · funext j
      rw [ValueIdx.eq_ix2 j]
      exact (v107 H' (j 0) (j 1)).trans (out9 H (j 0) (j 1)).symm
    · funext j
      rw [ValueIdx.eq_ix2 j]
      exact (v108 H' (j 0) (j 1)).trans (out10 H (j 0) (j 1)).symm
    · funext j
      rw [ValueIdx.eq_ix2 j]
      exact (v109 H' (j 0) (j 1)).trans (out11 H (j 0) (j 1)).symm
    · funext j
      rw [ValueIdx.eq_ix2 j]
      exact (v110 H' (j 0) (j 1)).trans (out12 H (j 0) (j 1)).symm
    · funext j
      rw [ValueIdx.eq_ix2 j]
      exact (v111 H' (j 0) (j 1)).trans (out13 H (j 0) (j 1)).symm
    · funext j
      rw [ValueIdx.eq_ix2 j]
      exact (v112 H' (j 0) (j 1)).trans (out14 H (j 0) (j 1)).symm

end Cert.OutGrad
-- ==== Proof.MixSpec.lean ====
/- The backward pass of the mixed branches over the real numbers: each branch's output is gated, the gated sum is
   projected, and the projection is normed. -/
module

public import proofs.«01_k».proof.Proof.OutSpec

@[expose] public section

noncomputable section

namespace Cert.Mix

open Idealize.ShloMosaic Cert.Spec Cert.Rms Cert.Out

/-- The arrays, as tables of real numbers: `sa`, `ob`, `ga`, `gb` and `d` are indexed by the position of the sequence.
    `sa` and `ob` are the branches before their projections `A` and `B`, `ga` and `gb` their gates before the logistic
    function, `M` the projection of the gated sum, `g` the norm's gain and `d` the incoming gradient. -/
structure Tab where
  sa : ℕ → ℕ → ℝ
  ob : ℕ → ℕ → ℝ
  ga : ℕ → ℕ → ℝ
  gb : ℕ → ℕ → ℝ
  A : ℕ → ℕ → ℝ
  B : ℕ → ℕ → ℝ
  M : ℕ → ℕ → ℝ
  g : ℕ → ℝ
  d : ℕ → ℕ → ℝ

namespace Tab
variable (D : Tab)

/-- The branches, the gated sum and its projection. -/
def ya (r i : ℕ) : ℝ := ∑ k : Fin 512, D.sa r k * D.A k i
def yb (r i : ℕ) : ℝ := ∑ k : Fin 1024, D.ob r k * D.B k i
def y (r i : ℕ) : ℝ := sig (D.ga r i) * D.ya r i + sig (D.gb r i) * D.yb r i
def x (r i : ℕ) : ℝ := ∑ k : Fin 1024, D.y r k * D.M k i
/-- The gradients of the projection and of the gated sum. -/
def dm (r i : ℕ) : ℝ := dx D.x D.g D.d r i
def dy (r i : ℕ) : ℝ := ∑ k : Fin 1024, D.dm r k * D.M i k
/-- The gradients of the branches, of their gates, and of what the branches' projections take. -/
def dya (r i : ℕ) : ℝ := D.dy r i * sig (D.ga r i)
def dyb (r i : ℕ) : ℝ := D.dy r i * sig (D.gb r i)
def dga (r i : ℕ) : ℝ := D.dya r i * D.ya r i * (1 - sig (D.ga r i))
def dgb (r i : ℕ) : ℝ := D.dyb r i * D.yb r i * (1 - sig (D.gb r i))
def dsa (r k : ℕ) : ℝ := ∑ i : Fin 1024, D.dya r i * D.A k i
def dob (r k : ℕ) : ℝ := ∑ i : Fin 1024, D.dyb r i * D.B k i

end Tab

end Cert.Mix
-- ==== Proof.MixRef.lean ====
/- What the reference computes of the mixed branches, read at an index: each expression holds the table of the
   specification. -/
module

public import proofs.«01_k».proof.Proof.MixSpec
public import proofs.«01_k».proof.Proof.Consts
public import proofs.«01_k».proof.Proof.Gen.Reference11Ideal.Read
public import Idealize.ShloMosaic.Lib.Pointwise

@[expose] public section

set_option maxRecDepth 16384

noncomputable section

namespace Cert.MixRef

open Cert.Reference11Ideal Cert.Reference11Ideal.Read Idealize.ShloMosaic Cert.Rms Cert.Mix
open Cert.Spec hiding Tab
open Cert.Out hiding Tab

/-- Arrays that hold the tables' real numbers. -/
structure Holds (D : Tab) (X0 : FVec Ideal S8192x512 .f32) (X1 : FVec Ideal S8192x1024 .f32) (X2 : FVec Ideal S8192x6144 .f32) (X3 : FVec Ideal S512x1024 .f32) (X4 : FVec Ideal S1024x1024 .f32) (X5 : FVec Ideal S1024x1024 .f32) (X6 : FVec Ideal S1024 .f32) (X7 : FVec Ideal S8192x1024 .f32) : Prop where
  sa : ∀ (r : Fin 8192) (k : Fin 512), X0 (ix2 r k) = (D.sa r k : EReal)
  ob : ∀ (r : Fin 8192) (k : Fin 1024), X1 (ix2 r k) = (D.ob r k : EReal)
  ga : ∀ (r : Fin 8192) (i : Fin 1024), X2 (ix2 r (⟨4096 + i, by omega⟩ : Fin 6144)) = (D.ga r i : EReal)
  gb : ∀ (r : Fin 8192) (i : Fin 1024), X2 (ix2 r (⟨5120 + i, by omega⟩ : Fin 6144)) = (D.gb r i : EReal)
  A : ∀ (k : Fin 512) (i : Fin 1024), X3 (ix2 k i) = (D.A k i : EReal)
  B : ∀ k i : Fin 1024, X4 (ix2 k i) = (D.B k i : EReal)
  M : ∀ k i : Fin 1024, X5 (ix2 k i) = (D.M k i : EReal)
  g : ∀ i : Fin 1024, X6 (ix1 i) = (D.g i : EReal)
  d : ∀ (r : Fin 8192) (i : Fin 1024), X7 (ix2 r i) = (D.d r i : EReal)

variable {D : Tab} {X0 : FVec Ideal S8192x512 .f32} {X1 : FVec Ideal S8192x1024 .f32} {X2 : FVec Ideal S8192x6144 .f32} {X3 : FVec Ideal S512x1024 .f32} {X4 : FVec Ideal S1024x1024 .f32} {X5 : FVec Ideal S1024x1024 .f32} {X6 : FVec Ideal S1024 .f32} {X7 : FVec Ideal S8192x1024 .f32}

theorem v0 (H : Holds D X0 X1 X2 X3 X4 X5 X6 X7) (r : Fin 8192) (i : Fin 1024) : val_main_v0 (F := Ideal) X2 (ix2 r i) = (D.ga r i : EReal) := by
  pointwise [val_main_v0]
  exact H.ga r i

theorem v1 (H : Holds D X0 X1 X2 X3 X4 X5 X6 X7) (r : Fin 8192) (i : Fin 1024) : val_main_v1 (F := Ideal) X2 (ix2 r i) = (D.gb r i : EReal) := by
  pointwise [val_main_v1]
  exact H.gb r i

theorem v2 (H : Holds D X0 X1 X2 X3 X4 X5 X6 X7) (r : Fin 8192) (i : Fin 1024) : val_main_v2 (F := Ideal) X0 X3 (ix2 r i) = (D.ya r i : EReal) := by
  pointwise [val_main_v2]
  simp only [H.sa, H.A, ← EReal.coe_mul, ← coe_sum]
  rfl

theorem v3 (H : Holds D X0 X1 X2 X3 X4 X5 X6 X7) (r : Fin 8192) (i : Fin 1024) : val_main_v3 (F := Ideal) X1 X4 (ix2 r i) = (D.yb r i : EReal) := by
  pointwise [val_main_v3]
  simp only [H.ob, H.B, ← EReal.coe_mul, ← coe_sum]
  rfl

theorem v9 (H : Holds D X0 X1 X2 X3 X4 X5 X6 X7) (r : Fin 8192) (i : Fin 1024) : val_main_v9 (F := Ideal) X2 (ix2 r i) = (sig (D.ga r i) : EReal) := by
  pointwise [val_main_v9, val_main_v8, val_main_v7, val_main_v6, val_main_v5, val_main_v4, val_main_cst, val_main_cst_0]
  rw [v0 H]
  exact sig_real _

theorem v16 (H : Holds D X0 X1 X2 X3 X4 X5 X6 X7) (r : Fin 8192) (i : Fin 1024) : val_main_v16 (F := Ideal) X2 (ix2 r i) = (sig (D.gb r i) : EReal) := by
  pointwise [val_main_v16, val_main_v15, val_main_v14, val_main_v13, val_main_v12, val_main_v11, val_main_cst_1, val_main_cst_2]
  rw [v1 H]
  exact sig_real _

theorem v61 (H : Holds D X0 X1 X2 X3 X4 X5 X6 X7) (r : Fin 8192) (i : Fin 1024) : val_main_v61 (F := Ideal) X2 (ix2 r i) = (sig (D.ga r i) : EReal) := by
  pointwise [val_main_v61, val_main_v60, val_main_v59, val_main_v58, val_main_v57, val_main_v56, val_main_cst_12, val_main_cst_13]
  rw [v0 H]
  exact sig_real _

theorem v71 (H : Holds D X0 X1 X2 X3 X4 X5 X6 X7) (r : Fin 8192) (i : Fin 1024) : val_main_v71 (F := Ideal) X2 (ix2 r i) = (sig (D.gb r i) : EReal) := by
  pointwise [val_main_v71, val_main_v70, val_main_v69, val_main_v68, val_main_v67, val_main_v66, val_main_cst_15, val_main_cst_16]
  rw [v1 H]
  exact sig_real _

theorem v64 (H : Holds D X0 X1 X2 X3 X4 X5 X6 X7) (r : Fin 8192) (i : Fin 1024) :
    val_main_v64 (F := Ideal) X2 (ix2 r i) = ((sig (D.ga r i) * (1 - sig (D.ga r i)) : ℝ) : EReal) := by
  pointwise [val_main_v64, val_main_v63, val_main_v62, val_main_cst_14]
  rw [v61 H, Consts.c_one, ← EReal.coe_sub, ← EReal.coe_mul]

theorem v74 (H : Holds D X0 X1 X2 X3 X4 X5 X6 X7) (r : Fin 8192) (i : Fin 1024) :
    val_main_v74 (F := Ideal) X2 (ix2 r i) = ((sig (D.gb r i) * (1 - sig (D.gb r i)) : ℝ) : EReal) := by
  pointwise [val_main_v74, val_main_v73, val_main_v72, val_main_cst_17]
  rw [v71 H, Consts.c_one, ← EReal.coe_sub, ← EReal.coe_mul]

theorem v19 (H : Holds D X0 X1 X2 X3 X4 X5 X6 X7) (r : Fin 8192) (i : Fin 1024) : val_main_v19 (F := Ideal) X0 X1 X2 X3 X4 X5 (ix2 r i) = (D.x r i : EReal) := by
  pointwise [val_main_v19, val_main_v18, val_main_v17, val_main_v10]
  simp only [v9 H, v16 H, v2 H, v3 H, H.M, ← EReal.coe_mul, ← EReal.coe_add, ← coe_sum]
  rfl

theorem v26 (H : Holds D X0 X1 X2 X3 X4 X5 X6 X7) (r : Fin 8192) (z : Fin 1) : val_main_v26 (F := Ideal) X0 X1 X2 X3 X4 X5 (ix2 r z) = (ms D.x r : EReal) := by
  pointwise [val_main_v26, val_main_v25, val_main_v24, val_main_v23, val_main_v22, val_main_v21, val_main_v20, val_main_cst_3, val_main_cst_4, val_main_cst_5]
  rw [Consts.c_1024, Consts.c_eps]
  simp only [v19 H, ← EReal.coe_mul, ← coe_sum]
  rw [div_real _ _ (by norm_num), ← EReal.coe_add]
  rfl

theorem v27 (H : Holds D X0 X1 X2 X3 X4 X5 X6 X7) (r : Fin 8192) (z : Fin 1) : val_main_v27 (F := Ideal) X0 X1 X2 X3 X4 X5 (ix2 r z) = (rs D.x r : EReal) := by
  pointwise [val_main_v27]
  rw [v26 H, rsqrt_real _ (ms_pos D.x r)]
  rfl

theorem v30 (H : Holds D X0 X1 X2 X3 X4 X5 X6 X7) (r : Fin 8192) (z : Fin 1) :
    val_main_v30 (F := Ideal) X0 X1 X2 X3 X4 X5 (ix2 r z) = ((-(1 / 2) * (rs D.x r / ms D.x r) : ℝ) : EReal) := by
  pointwise [val_main_v30, val_main_v29, val_main_cst_6, val_main_v28]
  rw [v26 H, v27 H, Consts.c_neg_half, div_real _ _ (ms_pos D.x r).ne', ← EReal.coe_mul]

theorem v32 (H : Holds D X0 X1 X2 X3 X4 X5 X6 X7) (r : Fin 8192) (i : Fin 1024) : val_main_v32 (F := Ideal) X0 X1 X2 X3 X4 X5 (ix2 r i) = ((D.x r i * rs D.x r : ℝ) : EReal) := by
  pointwise [val_main_v32, val_main_v31]
  rw [v27 H, v19 H, ← EReal.coe_mul]

/-- The gradient of the norm's gain. -/
theorem v96 (H : Holds D X0 X1 X2 X3 X4 X5 X6 X7) (z : Fin 1) (i : Fin 1024) : val_main_v96 (F := Ideal) X0 X1 X2 X3 X4 X5 X7 (ix2 z i) = (gg D.x D.d i : EReal) := by
  pointwise [val_main_v96, val_main_v41, val_main_v38, val_main_v37, val_main_v36, val_main_cst_7, val_main_cst_8]
  simp only [Finset.univ_unique, Finset.sum_singleton]
  simp only [v32 H, H.d, ← EReal.coe_mul, ← coe_sum]
  exact congrArg (fun q : ℝ => (q : EReal)) (Finset.sum_congr rfl fun _ _ => mul_comm _ _)

theorem v40 (H : Holds D X0 X1 X2 X3 X4 X5 X6 X7) (r : Fin 8192) (i : Fin 1024) : val_main_v40 (F := Ideal) X6 X7 (ix2 r i) = ((D.d r i * D.g i : ℝ) : EReal) := by
  pointwise [val_main_v40, val_main_v39, val_main_v33]
  rw [H.d, H.g, ← EReal.coe_mul]

theorem v51 (H : Holds D X0 X1 X2 X3 X4 X5 X6 X7) (r : Fin 8192) (i : Fin 1024) : val_main_v51 (F := Ideal) X0 X1 X2 X3 X4 X5 X6 X7 (ix2 r i)
      = (((∑ j : Fin 1024, D.x r j * (D.d r j * D.g j)) * (-(1 / 2) * (rs D.x r / ms D.x r)) / 1024 : ℝ) : EReal) := by
  pointwise [val_main_v51, val_main_v50, val_main_v49, val_main_v48, val_main_v47, val_main_v44, val_main_v43, val_main_v42,
    val_main_cst_9, val_main_cst_10, val_main_cst_11]
  simp only [Finset.univ_unique, Finset.sum_singleton]
  rw [v30 H, Consts.c_1024]
  simp only [v40 H, v19 H, ← EReal.coe_mul, ← coe_sum]
  rw [div_real _ _ (by norm_num)]

theorem v55 (H : Holds D X0 X1 X2 X3 X4 X5 X6 X7) (r : Fin 8192) (i : Fin 1024) : val_main_v55 (F := Ideal) X0 X1 X2 X3 X4 X5 X6 X7 (ix2 r i) = (D.dm r i : EReal) := by
  pointwise [val_main_v55, val_main_v54, val_main_v53, val_main_v52, val_main_v46, val_main_v45]
  rw [v51 H, v40 H, v27 H, v19 H]
  simp only [← EReal.coe_mul, ← EReal.coe_add]
  refine congrArg (fun q : ℝ => (q : EReal)) ?_
  rw [Tab.dm, ← dx_eq]
  ring

/-- The gradient of the gated sum. -/
theorem v78 (H : Holds D X0 X1 X2 X3 X4 X5 X6 X7) (r : Fin 8192) (i : Fin 1024) : val_main_v78 (F := Ideal) X0 X1 X2 X3 X4 X5 X6 X7 (ix2 r i) = (D.dy r i : EReal) := by
  pointwise [val_main_v78, val_main_v77]
  simp only [v55 H, H.M, ← EReal.coe_mul, ← coe_sum]
  rfl

/-- The gradients of the branches. -/
theorem v82 (H : Holds D X0 X1 X2 X3 X4 X5 X6 X7) (r : Fin 8192) (i : Fin 1024) : val_main_v82 (F := Ideal) X0 X1 X2 X3 X4 X5 X6 X7 (ix2 r i) = (D.dya r i : EReal) := by
  pointwise [val_main_v82]
  rw [v78 H, v61 H, ← EReal.coe_mul, mul_comm]
  rfl

theorem v79 (H : Holds D X0 X1 X2 X3 X4 X5 X6 X7) (r : Fin 8192) (i : Fin 1024) : val_main_v79 (F := Ideal) X0 X1 X2 X3 X4 X5 X6 X7 (ix2 r i) = (D.dyb r i : EReal) := by
  pointwise [val_main_v79]
  rw [v78 H, v71 H, ← EReal.coe_mul, mul_comm]
  rfl

theorem v85 (H : Holds D X0 X1 X2 X3 X4 X5 X6 X7) (r : Fin 8192) (i : Fin 1024) : val_main_v85 (F := Ideal) X0 X1 X2 X3 X4 X5 X6 X7 (ix2 r i) = (D.dm r i : EReal) := by
  pointwise [val_main_v85]
  exact v55 H r i

theorem v86 (H : Holds D X0 X1 X2 X3 X4 X5 X6 X7) (r : Fin 8192) (i : Fin 1024) : val_main_v86 (F := Ideal) X0 X1 X2 X3 X4 X5 X6 X7 (ix2 r i) = (D.dya r i : EReal) := by
  pointwise [val_main_v86]
  exact v82 H r i

theorem v87 (H : Holds D X0 X1 X2 X3 X4 X5 X6 X7) (r : Fin 8192) (i : Fin 1024) : val_main_v87 (F := Ideal) X0 X1 X2 X3 X4 X5 X6 X7 (ix2 r i) = (D.dyb r i : EReal) := by
  pointwise [val_main_v87]
  exact v79 H r i

/-- The gradients of the gates. -/
theorem v88 (H : Holds D X0 X1 X2 X3 X4 X5 X6 X7) (r : Fin 8192) (i : Fin 1024) : val_main_v88 (F := Ideal) X0 X1 X2 X3 X4 X5 X6 X7 (ix2 r i) = (D.dga r i : EReal) := by
  pointwise [val_main_v88, val_main_v84, val_main_v83]
  rw [v78 H, v2 H, v64 H]
  simp only [← EReal.coe_mul]
  refine congrArg (fun q : ℝ => (q : EReal)) ?_
  rw [Tab.dga, Tab.dya]
  ring

theorem v89 (H : Holds D X0 X1 X2 X3 X4 X5 X6 X7) (r : Fin 8192) (i : Fin 1024) : val_main_v89 (F := Ideal) X0 X1 X2 X3 X4 X5 X6 X7 (ix2 r i) = (D.dgb r i : EReal) := by
  pointwise [val_main_v89, val_main_v81, val_main_v80]
  rw [v78 H, v3 H, v74 H]
  simp only [← EReal.coe_mul]
  refine congrArg (fun q : ℝ => (q : EReal)) ?_
  rw [Tab.dgb, Tab.dyb]
  ring

/-- The gradients of what the branches' projections take. -/
theorem v92 (H : Holds D X0 X1 X2 X3 X4 X5 X6 X7) (r : Fin 8192) (k : Fin 512) : val_main_v92 (F := Ideal) X0 X1 X2 X3 X4 X5 X6 X7 (ix2 r k) = (D.dsa r k : EReal) := by
  pointwise [val_main_v92, val_main_v91, val_main_v90]
  simp only [v82 H, H.A, ← EReal.coe_mul, ← coe_sum]
  rfl

theorem v95 (H : Holds D X0 X1 X2 X3 X4 X5 X6 X7) (r : Fin 8192) (k : Fin 1024) : val_main_v95 (F := Ideal) X0 X1 X2 X3 X4 X5 X6 X7 (ix2 r k) = (D.dob r k : EReal) := by
  pointwise [val_main_v95, val_main_v94, val_main_v93]
  simp only [v79 H, H.B, ← EReal.coe_mul, ← coe_sum]
  rfl

end Cert.MixRef
-- ==== Proof.MixGrad.lean ====
/- The backward pass of the mixed branches: at each tile of 512 rows the kernel takes the gradient through the norm,
   through the projection, through the gates, and through the branches' projections. -/
module

public import proofs.«01_k».proof.Proof.MixRef
public import proofs.«01_k».proof.Proof.Finite
public import Idealize.ShloMosaic.Lib.Pipeline.ValueKit
public import Idealize.ShloMosaic.Lib.Pipeline.ReadBack
public import Idealize.ShloMosaic.Lib.StableHlo.RunRead
public import Idealize.ShloMosaic.Adequacy
public import Idealize.ShloMosaic.Init
public import proofs.«01_k».proof.Defs
public import proofs.«01_k».proof.Proof.Gen.Kernel11Ideal
public import proofs.«01_k».proof.Proof.Gen.Kernel11Ideal.Value
public import proofs.«01_k».proof.Proof.Gen.Reference11Ideal
public import proofs.«01_k».proof.Proof.Gen.Pre_mix_grad_finite

@[expose] public section

set_option maxRecDepth 16384

noncomputable section

namespace Cert.MixGrad

open Cert.Kernel11Ideal Cert.Kernel11Ideal.Gen Idealize.ShloMosaic Idealize.ShloMosaic.TcCoe Idealize.SL.Sem Cert.Rms Cert.Mix
open Cert.Reference11Ideal.Read Cert.MixRef
open Cert.Spec hiding Tab
open Cert.Out hiding Tab

section Body

variable {D : Tab} {T : ℕ} {x0 : Vec Ideal S512x1024 .f32} {x1 : Vec Ideal S512x1024 .bf16} {x2 : Vec Ideal S512x1024 .bf16} {x3 : Vec Ideal S512x1024 .bf16} {x4 : Vec Ideal S512x1024 .bf16} {x5 : Vec Ideal S512x1024 .bf16} {x6 : Vec Ideal S1x1024 .f32} {x7 : Vec Ideal S1024x1024 .bf16} {x8 : Vec Ideal S512x1024 .bf16} {x9 : Vec Ideal S1024x1024 .bf16} {o : Vec Ideal S1x1024 .f32}

/-- The blocks that point `T` reads. -/
structure Blocks (D : Tab) (T : ℕ) (x0 : Vec Ideal S512x1024 .f32) (x1 : Vec Ideal S512x1024 .bf16) (x2 : Vec Ideal S512x1024 .bf16) (x3 : Vec Ideal S512x1024 .bf16) (x4 : Vec Ideal S512x1024 .bf16) (x5 : Vec Ideal S512x1024 .bf16) (x6 : Vec Ideal S1x1024 .f32) (x7 : Vec Ideal S1024x1024 .bf16) (x8 : Vec Ideal S512x1024 .bf16) (x9 : Vec Ideal S1024x1024 .bf16) : Prop where
  d : ∀ (a : Fin 512) (i : Fin 1024), x0 (ix2 a i) = (D.d (512 * T + a) i : EReal)
  x : ∀ (a : Fin 512) (i : Fin 1024), x1 (ix2 a i) = (D.x (512 * T + a) i : EReal)
  ga : ∀ (a : Fin 512) (i : Fin 1024), x2 (ix2 a i) = (D.ga (512 * T + a) i : EReal)
  gb : ∀ (a : Fin 512) (i : Fin 1024), x3 (ix2 a i) = (D.gb (512 * T + a) i : EReal)
  ya : ∀ (a : Fin 512) (i : Fin 1024), x4 (ix2 a i) = (D.ya (512 * T + a) i : EReal)
  yb : ∀ (a : Fin 512) (i : Fin 1024), x5 (ix2 a i) = (D.yb (512 * T + a) i : EReal)
  g : ∀ (z : Fin 1) (i : Fin 1024), x6 (ix2 z i) = (D.g i : EReal)
  M : ∀ k i : Fin 1024, x7 (ix2 k i) = (D.M k i : EReal)
  A : ∀ (k : Fin 512) (i : Fin 1024), x8 (ix2 k i) = (D.A k i : EReal)
  B : ∀ k i : Fin 1024, x9 (ix2 k i) = (D.B k i : EReal)

theorem root (H : Blocks D T x0 x1 x2 x3 x4 x5 x6 x7 x8 x9) (a : Fin 512) (z : Fin 1) : k0_pay5 (F := Ideal) x1 (ix2 a z) = (rs D.x (512 * T + a) : EReal) := by
  pointwise [k0_pay5, k0_pay4]
  rw [Consts.c_1024, Consts.c_eps]
  simp only [H.x, ← EReal.coe_mul, ← coe_sum]
  exact root_real D.x (512 * T + a)

theorem normed (H : Blocks D T x0 x1 x2 x3 x4 x5 x6 x7 x8 x9) (a : Fin 512) (i : Fin 1024) :
    k0_pay6 (F := Ideal) x1 (ix2 a i) = ((D.x (512 * T + a) i * rs D.x (512 * T + a) : ℝ) : EReal) := by
  pointwise [k0_pay6, k0_pay4]
  rw [root H, H.x, ← EReal.coe_mul]

theorem dm (H : Blocks D T x0 x1 x2 x3 x4 x5 x6 x7 x8 x9) (a : Fin 512) (i : Fin 1024) : k0_pay8 (F := Ideal) x0 x1 x6 (ix2 a i) = (D.dm (512 * T + a) i : EReal) := by
  pointwise [k0_pay8]
  simp only [root H, normed H, H.d, H.g, Consts.c_1024, ← EReal.coe_mul, ← coe_sum]
  rw [div_real _ _ (by norm_num), ← EReal.coe_mul, ← EReal.coe_sub, ← EReal.coe_mul]
  rfl

theorem dy (H : Blocks D T x0 x1 x2 x3 x4 x5 x6 x7 x8 x9) (a : Fin 512) (i : Fin 1024) : k0_pay9 (F := Ideal) (k0_pay8 x0 x1 x6) x7 (ix2 a i) = (D.dy (512 * T + a) i : EReal) := by
  pointwise [k0_pay9]
  simp only [dm H, H.M, ← EReal.coe_mul, ← coe_sum]
  rfl

theorem gate_a (H : Blocks D T x0 x1 x2 x3 x4 x5 x6 x7 x8 x9) (a : Fin 512) (i : Fin 1024) : k0_pay10 (F := Ideal) x2 (ix2 a i) = (sig (D.ga (512 * T + a) i) : EReal) := by
  pointwise [k0_pay10]
  rw [H.ga]
  exact sig_real _

theorem gate_b (H : Blocks D T x0 x1 x2 x3 x4 x5 x6 x7 x8 x9) (a : Fin 512) (i : Fin 1024) : k0_pay14 (F := Ideal) x3 (ix2 a i) = (sig (D.gb (512 * T + a) i) : EReal) := by
  pointwise [k0_pay14]
  rw [H.gb]
  exact sig_real _

theorem dya (H : Blocks D T x0 x1 x2 x3 x4 x5 x6 x7 x8 x9) (a : Fin 512) (i : Fin 1024) : k0_pay11 (F := Ideal) (k0_pay8 x0 x1 x6) x7 x2 (ix2 a i) = (D.dya (512 * T + a) i : EReal) := by
  pointwise [k0_pay11]
  rw [dy H, gate_a H, ← EReal.coe_mul]
  rfl

theorem dyb (H : Blocks D T x0 x1 x2 x3 x4 x5 x6 x7 x8 x9) (a : Fin 512) (i : Fin 1024) : k0_pay15 (F := Ideal) (k0_pay8 x0 x1 x6) x7 x3 (ix2 a i) = (D.dyb (512 * T + a) i : EReal) := by
  pointwise [k0_pay15]
  rw [dy H, gate_b H, ← EReal.coe_mul]
  rfl

theorem dga (H : Blocks D T x0 x1 x2 x3 x4 x5 x6 x7 x8 x9) (a : Fin 512) (i : Fin 1024) : k0_pay12 (F := Ideal) (k0_pay8 x0 x1 x6) x7 x2 x4 (ix2 a i) = (D.dga (512 * T + a) i : EReal) := by
  pointwise [k0_pay12]
  rw [dya H, gate_a H, H.ya, Consts.c_one, ← EReal.coe_mul, ← EReal.coe_sub, ← EReal.coe_mul]
  rfl

theorem dgb (H : Blocks D T x0 x1 x2 x3 x4 x5 x6 x7 x8 x9) (a : Fin 512) (i : Fin 1024) : k0_pay1 (F := Ideal) (k0_pay14 x3) (k0_pay16 (k0_pay8 x0 x1 x6) x7 x3 x5) (ix2 a i) = (D.dgb (512 * T + a) i : EReal) := by
  pointwise [k0_pay1, k0_pay16]
  rw [dyb H, gate_b H, H.yb, Consts.c_one, ← EReal.coe_mul, ← EReal.coe_sub, ← EReal.coe_mul]
  rfl

theorem dsa (H : Blocks D T x0 x1 x2 x3 x4 x5 x6 x7 x8 x9) (a k : Fin 512) : k0_pay13 (F := Ideal) (k0_pay8 x0 x1 x6) x7 x2 x8 (ix2 a k) = (D.dsa (512 * T + a) k : EReal) := by
  pointwise [k0_pay13]
  simp only [dya H, H.A, ← EReal.coe_mul, ← coe_sum]
  rfl

theorem dob (H : Blocks D T x0 x1 x2 x3 x4 x5 x6 x7 x8 x9) (a : Fin 512) (k : Fin 1024) : k0_pay2 (F := Ideal) (k0_pay15 (k0_pay8 x0 x1 x6) x7 x3) x9 (ix2 a k) = (D.dob (512 * T + a) k : EReal) := by
  pointwise [k0_pay2]
  simp only [dyb H, H.B, ← EReal.coe_mul, ← coe_sum]
  rfl

/-- Tile `T`'s part of the gain's gradient. -/
def part (x y : ℕ → ℕ → ℝ) (T i : ℕ) : ℝ := ∑ a : Fin 512, y (512 * T + a) i * (x (512 * T + a) i * rs x (512 * T + a))

theorem gain (H : Blocks D T x0 x1 x2 x3 x4 x5 x6 x7 x8 x9) (z : Fin 1) (i : Fin 1024) :
    k0_pay7 (F := Ideal) x0 x1 o (ix2 z i) = o (ix2 z i) + (part D.x D.d T i : EReal) := by
  pointwise [k0_pay7]
  simp only [normed H, H.d, ← EReal.coe_mul, ← coe_sum]
  rfl

end Body

section Point

variable {D : Tab} {T : ℕ} (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S512x1024 .bf16) (harg9 : arg9.IsWhole) (arg10 : Memref sig .tc .vmem S1024x1024 .bf16) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S512x1024 .bf16) (harg15 : arg15.IsWhole) (arg16 : Memref sig .tc .vmem S512x512 .bf16) (harg16 : arg16.IsWhole) (arg17 : Memref sig .tc .vmem S512x1024 .bf16) (harg17 : arg17.IsWhole) (arg18 : Memref sig .tc .vmem S1x1024 .f32) (harg18 : arg18.IsWhole)
  (x0 : Vec Ideal S512x1024 .f32) (x1 : Vec Ideal S512x1024 .bf16) (x2 : Vec Ideal S512x1024 .bf16) (x3 : Vec Ideal S512x1024 .bf16) (x4 : Vec Ideal S512x1024 .bf16) (x5 : Vec Ideal S512x1024 .bf16) (x6 : Vec Ideal S1x1024 .f32) (x7 : Vec Ideal S1024x1024 .bf16) (x8 : Vec Ideal S512x1024 .bf16) (x9 : Vec Ideal S1024x1024 .bf16) (o : Vec Ideal S1x1024 .f32)

theorem A10 (hc0 : cond0_0 i) (H : Blocks D T x0 x1 x2 x3 x4 x5 x6 x7 x8 x9) (a : Fin 512) (j : Fin 1024) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 (ix2 a j) = (D.dm (512 * T + a) j : EReal) := by
  frame_open
  simp (disch := decide) only [↓ View.readCov_skip, ↓ View.readCov_cons_toLoadRect, ↓ View.readCov_fill]
  frame_out
  exact dm H a j

theorem B10 (hc0 : ¬cond0_0 i) (H : Blocks D T x0 x1 x2 x3 x4 x5 x6 x7 x8 x9) (a : Fin 512) (j : Fin 1024) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 o (ix2 a j) = (D.dm (512 * T + a) j : EReal) := by
  frame_open
  simp (disch := decide) only [↓ View.readCov_skip, ↓ View.readCov_cons_toLoadRect, ↓ View.readCov_fill]
  frame_out
  exact dm H a j

theorem A11 (hc0 : cond0_0 i) (H : Blocks D T x0 x1 x2 x3 x4 x5 x6 x7 x8 x9) (a : Fin 512) (j : Fin 1024) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 (ix2 a j) = (D.dya (512 * T + a) j : EReal) := by
  frame_open
  simp (disch := decide) only [↓ View.readCov_skip, ↓ View.readCov_cons_toLoadRect, ↓ View.readCov_fill]
  frame_out
  exact dya H a j

theorem B11 (hc0 : ¬cond0_0 i) (H : Blocks D T x0 x1 x2 x3 x4 x5 x6 x7 x8 x9) (a : Fin 512) (j : Fin 1024) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 o (ix2 a j) = (D.dya (512 * T + a) j : EReal) := by
  frame_open
  simp (disch := decide) only [↓ View.readCov_skip, ↓ View.readCov_cons_toLoadRect, ↓ View.readCov_fill]
  frame_out
  exact dya H a j

theorem A12 (hc0 : cond0_0 i) (H : Blocks D T x0 x1 x2 x3 x4 x5 x6 x7 x8 x9) (a : Fin 512) (j : Fin 1024) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 (ix2 a j) = (D.dyb (512 * T + a) j : EReal) := by
  frame_open
  simp (disch := decide) only [↓ View.readCov_skip, ↓ View.readCov_cons_toLoadRect, ↓ View.readCov_fill]
  frame_out
  exact dyb H a j

theorem B12 (hc0 : ¬cond0_0 i) (H : Blocks D T x0 x1 x2 x3 x4 x5 x6 x7 x8 x9) (a : Fin 512) (j : Fin 1024) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 o (ix2 a j) = (D.dyb (512 * T + a) j : EReal) := by
  frame_open
  simp (disch := decide) only [↓ View.readCov_skip, ↓ View.readCov_cons_toLoadRect, ↓ View.readCov_fill]
  frame_out
  exact dyb H a j

theorem A13 (hc0 : cond0_0 i) (H : Blocks D T x0 x1 x2 x3 x4 x5 x6 x7 x8 x9) (a : Fin 512) (j : Fin 1024) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 (ix2 a j) = (D.dga (512 * T + a) j : EReal) := by
  frame_open
  simp (disch := decide) only [↓ View.readCov_skip, ↓ View.readCov_cons_toLoadRect, ↓ View.readCov_fill]
  frame_out
  exact dga H a j

theorem B13 (hc0 : ¬cond0_0 i) (H : Blocks D T x0 x1 x2 x3 x4 x5 x6 x7 x8 x9) (a : Fin 512) (j : Fin 1024) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 o (ix2 a j) = (D.dga (512 * T + a) j : EReal) := by
  frame_open
  simp (disch := decide) only [↓ View.readCov_skip, ↓ View.readCov_cons_toLoadRect, ↓ View.readCov_fill]
  frame_out
  exact dga H a j

theorem A14 (hc0 : cond0_0 i) (H : Blocks D T x0 x1 x2 x3 x4 x5 x6 x7 x8 x9) (a : Fin 512) (j : Fin 1024) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 (ix2 a j) = (D.dgb (512 * T + a) j : EReal) := by
  frame_open
  simp (disch := decide) only [↓ View.readCov_skip, ↓ View.readCov_cons_toLoadRect, ↓ View.readCov_fill]
  frame_out
  exact dgb H a j

theorem B14 (hc0 : ¬cond0_0 i) (H : Blocks D T x0 x1 x2 x3 x4 x5 x6 x7 x8 x9) (a : Fin 512) (j : Fin 1024) :
    out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 o (ix2 a j) = (D.dgb (512 * T + a) j : EReal) := by
  frame_open
  simp (disch := decide) only [↓ View.readCov_skip, ↓ View.readCov_cons_toLoadRect, ↓ View.readCov_fill]
  frame_out
  exact dgb H a j

theorem A15 (hc0 : cond0_0 i) (H : Blocks D T x0 x1 x2 x3 x4 x5 x6 x7 x8 x9) (a : Fin 512) (j : Fin 512) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 (ix2 a j) = (D.dsa (512 * T + a) j : EReal) := by
  frame_open
  simp (disch := decide) only [↓ View.readCov_skip, ↓ View.readCov_cons_toLoadRect, ↓ View.readCov_fill]
  frame_out
  exact dsa H a j

theorem B15 (hc0 : ¬cond0_0 i) (H : Blocks D T x0 x1 x2 x3 x4 x5 x6 x7 x8 x9) (a : Fin 512) (j : Fin 512) :
    out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 o (ix2 a j) = (D.dsa (512 * T + a) j : EReal) := by
  frame_open
  simp (disch := decide) only [↓ View.readCov_skip, ↓ View.readCov_cons_toLoadRect, ↓ View.readCov_fill]
  frame_out
  exact dsa H a j

theorem A16 (hc0 : cond0_0 i) (H : Blocks D T x0 x1 x2 x3 x4 x5 x6 x7 x8 x9) (a : Fin 512) (j : Fin 1024) :
    out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 (ix2 a j) = (D.dob (512 * T + a) j : EReal) := by
  frame_open
  simp (disch := decide) only [↓ View.readCov_skip, ↓ View.readCov_cons_toLoadRect, ↓ View.readCov_fill]
  frame_out
  exact dob H a j

theorem B16 (hc0 : ¬cond0_0 i) (H : Blocks D T x0 x1 x2 x3 x4 x5 x6 x7 x8 x9) (a : Fin 512) (j : Fin 1024) :
    out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 o (ix2 a j) = (D.dob (512 * T + a) j : EReal) := by
  frame_open
  simp (disch := decide) only [↓ View.readCov_skip, ↓ View.readCov_cons_toLoadRect, ↓ View.readCov_fill]
  frame_out
  exact dob H a j

theorem A17 (hc0 : cond0_0 i) (H : Blocks D T x0 x1 x2 x3 x4 x5 x6 x7 x8 x9) (z : Fin 1) (j : Fin 1024) :
    out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 (ix2 z j) = (part D.x D.d T j : EReal) := by
  frame_open
  simp (disch := decide) only [↓ View.readCov_skip, ↓ View.readCov_cons_toLoadRect, ↓ View.readCov_fill]
  frame_out
  refine (gain H z j).trans ?_
  pointwise [k0_pay3]

theorem B17 (hc0 : ¬cond0_0 i) (H : Blocks D T x0 x1 x2 x3 x4 x5 x6 x7 x8 x9) (z : Fin 1) (j : Fin 1024) :
    out0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 o (ix2 z j) = o (ix2 z j) + (part D.x D.d T j : EReal) := by
  frame_open
  simp (disch := decide) only [↓ View.readCov_skip, ↓ View.readCov_cons_toLoadRect, ↓ View.readCov_fill]
  frame_out
  exact gain H z j

end Point

variable {m : (ℓ : Loc nD τ sig) → Buf (Elt Ideal) ℓ} {c : Dev nD} {D : Tab}

/-- Core `c`'s arguments hold the tables' real numbers. -/
abbrev HoldsAt (m : (ℓ : Loc nD τ sig) → Buf (Elt Ideal) ℓ) (c : Dev nD) (D : Tab) : Prop :=
  Holds D (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

section
variable (m c)

theorem V_v20 : V m c main_v20 = (val_main_v19 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) : S8192x1024.Idx → EReal) := by
  unfold_abbrev_sides
  after_reads_simp
  rfl
theorem V_v21 : V m c main_v21 = (m ((c : Thread nD τ).loc main_arg2) : S8192x6144.Idx → EReal) := by
  unfold_abbrev_sides
  after_reads_simp
  rfl
theorem V_v22 : V m c main_v22 = (val_main_v2 (F := Ideal) (m ((c : Thread nD τ).loc main_arg0)) (m ((c : Thread nD τ).loc main_arg3)) : S8192x1024.Idx → EReal) := by
  unfold_abbrev_sides
  after_reads_simp
  rfl
theorem V_v23 : V m c main_v23 = (val_main_v3 (F := Ideal) (m ((c : Thread nD τ).loc main_arg1)) (m ((c : Thread nD τ).loc main_arg4)) : S8192x1024.Idx → EReal) := by
  unfold_abbrev_sides
  after_reads_simp
  rfl
theorem V_v25 : V m c main_v25 = (m ((c : Thread nD τ).loc main_arg5) : S1024x1024.Idx → EReal) := by
  unfold_abbrev_sides
  after_reads_simp
  rfl
theorem V_v26 : V m c main_v26 = (m ((c : Thread nD τ).loc main_arg3) : S512x1024.Idx → EReal) := by
  unfold_abbrev_sides
  after_reads_simp
  rfl
theorem V_v27 : V m c main_v27 = (m ((c : Thread nD τ).loc main_arg4) : S1024x1024.Idx → EReal) := by
  unfold_abbrev_sides
  after_reads_simp
  rfl

end

theorem gain_row (H : HoldsAt m c D) (z : Fin 1) (i : Fin 1024) : (V m c main_v24 : S1x1024.Idx → EReal) (ix2 z i) = (D.g i : EReal) := by
  unfold_abbrev_sides
  after_reads_simp
  pointwise
  exact H.g i

theorem index_tile : ∀ t : Fin cfg0.N, win0_0.index t = ![t.val, 0]
    ∧ win0_1.index t = ![t.val, 0]
    ∧ win0_2.index t = ![t.val, 4]
    ∧ win0_3.index t = ![t.val, 5]
    ∧ win0_4.index t = ![t.val, 0]
    ∧ win0_5.index t = ![t.val, 0] := by decide +kernel
theorem index_out : ∀ t : Fin cfg0.N, win0_10.index t = ![t.val, 0]
    ∧ win0_11.index t = ![t.val, 0]
    ∧ win0_12.index t = ![t.val, 0]
    ∧ win0_13.index t = ![t.val, 0]
    ∧ win0_14.index t = ![t.val, 0]
    ∧ win0_15.index t = ![t.val, 0]
    ∧ win0_16.index t = ![t.val, 0] := by decide +kernel
theorem index_whole : ∀ t : Fin cfg0.N, win0_6.index t = ![0, 0]
    ∧ win0_7.index t = ![0, 0]
    ∧ win0_8.index t = ![0, 0]
    ∧ win0_9.index t = ![0, 0] := by decide +kernel

theorem b_d (H : HoldsAt m c D) (t : Fin cfg0.N) (a : Fin 512) (i : Fin 1024) :
    (iblk m c 0 t : S512x1024.Idx → EReal) (ix2 a i) = (D.d (512 * t.val + a) i : EReal) := by
  have ht : t.val < 16 := t.isLt
  have e : iblk m c 0 t (ix2 a i) = V m c main_arg7 (ix2 (⟨512 * t.val + a, by omega⟩ : Fin 8192) i) := by
    blk_ext [iblk, index_tile t]
  exact e.trans ((congrFun (V_main_arg7 m c) _).trans (H.d _ _))

theorem b_x (H : HoldsAt m c D) (t : Fin cfg0.N) (a : Fin 512) (i : Fin 1024) :
    (iblk m c 1 t : S512x1024.Idx → EReal) (ix2 a i) = (D.x (512 * t.val + a) i : EReal) := by
  have ht : t.val < 16 := t.isLt
  have e : iblk m c 1 t (ix2 a i) = V m c main_v20 (ix2 (⟨512 * t.val + a, by omega⟩ : Fin 8192) i) := by
    blk_ext [iblk, index_tile t]
  exact e.trans ((congrFun (V_v20 m c) _).trans (v19 H _ _))

theorem b_ga (H : HoldsAt m c D) (t : Fin cfg0.N) (a : Fin 512) (i : Fin 1024) :
    (iblk m c 2 t : S512x1024.Idx → EReal) (ix2 a i) = (D.ga (512 * t.val + a) i : EReal) := by
  have ht : t.val < 16 := t.isLt
  have e : iblk m c 2 t (ix2 a i) = V m c main_v21 (ix2 (⟨512 * t.val + a, by omega⟩ : Fin 8192) (⟨4096 + i, by omega⟩ : Fin 6144)) := by
    blk_ext [iblk, index_tile t]
  exact e.trans ((congrFun (V_v21 m c) _).trans (H.ga _ _))

theorem b_gb (H : HoldsAt m c D) (t : Fin cfg0.N) (a : Fin 512) (i : Fin 1024) :
    (iblk m c 3 t : S512x1024.Idx → EReal) (ix2 a i) = (D.gb (512 * t.val + a) i : EReal) := by
  have ht : t.val < 16 := t.isLt
  have e : iblk m c 3 t (ix2 a i) = V m c main_v21 (ix2 (⟨512 * t.val + a, by omega⟩ : Fin 8192) (⟨5120 + i, by omega⟩ : Fin 6144)) := by
    blk_ext [iblk, index_tile t]
  exact e.trans ((congrFun (V_v21 m c) _).trans (H.gb _ _))

theorem b_ya (H : HoldsAt m c D) (t : Fin cfg0.N) (a : Fin 512) (i : Fin 1024) :
    (iblk m c 4 t : S512x1024.Idx → EReal) (ix2 a i) = (D.ya (512 * t.val + a) i : EReal) := by
  have ht : t.val < 16 := t.isLt
  have e : iblk m c 4 t (ix2 a i) = V m c main_v22 (ix2 (⟨512 * t.val + a, by omega⟩ : Fin 8192) i) := by
    blk_ext [iblk, index_tile t]
  exact e.trans ((congrFun (V_v22 m c) _).trans (v2 H _ _))

theorem b_yb (H : HoldsAt m c D) (t : Fin cfg0.N) (a : Fin 512) (i : Fin 1024) :
    (iblk m c 5 t : S512x1024.Idx → EReal) (ix2 a i) = (D.yb (512 * t.val + a) i : EReal) := by
  have ht : t.val < 16 := t.isLt
  have e : iblk m c 5 t (ix2 a i) = V m c main_v23 (ix2 (⟨512 * t.val + a, by omega⟩ : Fin 8192) i) := by
    blk_ext [iblk, index_tile t]
  exact e.trans ((congrFun (V_v23 m c) _).trans (v3 H _ _))

theorem b_g (H : HoldsAt m c D) (t : Fin cfg0.N) (z : Fin 1) (i : Fin 1024) :
    (iblk m c 6 t : S1x1024.Idx → EReal) (ix2 z i) = (D.g i : EReal) := by
  have e : iblk m c 6 t (ix2 z i) = V m c main_v24 (ix2 z i) := by
    blk_ext [iblk, index_whole t]
  exact e.trans (gain_row H z i)

theorem b_M (H : HoldsAt m c D) (t : Fin cfg0.N) (z : Fin 1024) (i : Fin 1024) :
    (iblk m c 7 t : S1024x1024.Idx → EReal) (ix2 z i) = (D.M z i : EReal) := by
  have e : iblk m c 7 t (ix2 z i) = V m c main_v25 (ix2 z i) := by
    blk_ext [iblk, index_whole t]
  exact e.trans ((congrFun (V_v25 m c) _).trans (H.M z i))

theorem b_A (H : HoldsAt m c D) (t : Fin cfg0.N) (z : Fin 512) (i : Fin 1024) :
    (iblk m c 8 t : S512x1024.Idx → EReal) (ix2 z i) = (D.A z i : EReal) := by
  have e : iblk m c 8 t (ix2 z i) = V m c main_v26 (ix2 z i) := by
    blk_ext [iblk, index_whole t]
  exact e.trans ((congrFun (V_v26 m c) _).trans (H.A z i))

theorem b_B (H : HoldsAt m c D) (t : Fin cfg0.N) (z : Fin 1024) (i : Fin 1024) :
    (iblk m c 9 t : S1024x1024.Idx → EReal) (ix2 z i) = (D.B z i : EReal) := by
  have e : iblk m c 9 t (ix2 z i) = V m c main_v27 (ix2 z i) := by
    blk_ext [iblk, index_whole t]
  exact e.trans ((congrFun (V_v27 m c) _).trans (H.B z i))

theorem blocks (H : HoldsAt m c D) (t : Fin cfg0.N) : Blocks D t.val (iblk m c 0 t) (iblk m c 1 t) (iblk m c 2 t) (iblk m c 3 t) (iblk m c 4 t) (iblk m c 5 t) (iblk m c 6 t) (iblk m c 7 t) (iblk m c 8 t) (iblk m c 9 t) :=
  ⟨b_d H t, b_x H t, b_ga H t, b_gb H t, b_ya H t, b_yb H t, b_g H t, b_M H t, b_A H t, b_B H t⟩

theorem point10 (H : HoldsAt m c D) (t : Fin cfg0.N) (a : Fin 512) (j : Fin 1024) :
    (outsAt0 m c t.val t.isLt).1 (ix2 a j) = (D.dm (512 * t.val + a) j : EReal) := by
  by_cases h0 : t.val % 16 = 0
  · have h := A10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) (iblk m c 8 t) (iblk m c 9 t) ((hcond0_0 t).mpr h0) (blocks H t) a j
    rw [outsAt0_A m c t h0]
    dsimp only
    exact h
  · have h := B10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.2.2.2.2 (fun hc => h0 ((hcond0_0 t).mp hc)) (blocks H t) a j
    rw [outsAt0_B m c t h0]
    dsimp only
    exact h

theorem out10 (H : HoldsAt m c D) (r : Fin 8192) (j : Fin 1024) :
    ((dats m 0 c).arrAt 10 cfg0.N : S8192x1024.Idx → EReal) (ix2 r j) = (D.dm r.val j.val : EReal) := by
  have e : (dats m 0 c).arrAt 10 cfg0.N = (fun x => (D.dm (x 0).val (x 1).val : EReal) : S8192x1024.Idx → EReal) := by
    refine (dats m 0 c).arrAt_eq_of_covers 10 _ (by decide +kernel) fun t hf y => ?_
    blk_simp
    rw [after0_10]
    obtain ⟨a, j, rfl⟩ : ∃ (a : Fin 512) (j : Fin 1024), y = ix2 a j := ⟨y 0, y 1, ValueIdx.eq_ix2 y⟩
    refine (point10 H t a j).trans ?_
    have e0 : win0_10.index t 0 = t.val := by rw [(index_out t).1]; rfl
    have e1 : win0_10.index t 1 = 0 := by rw [(index_out t).1]; rfl
    have hr : (512 * t.val + (a : ℕ)) = win0_10.index t 0 * 512 + (a : ℕ) := by rw [e0]; omega
    have hj : (j : ℕ) = win0_10.index t 1 * 1024 + (j : ℕ) := by rw [e1]; omega
    exact congrArg₂ (fun p q : ℕ => ((D.dm p q : ℝ) : EReal)) hr hj
  exact congrFun e (ix2 r j)

theorem point11 (H : HoldsAt m c D) (t : Fin cfg0.N) (a : Fin 512) (j : Fin 1024) :
    (outsAt0 m c t.val t.isLt).2.1 (ix2 a j) = (D.dya (512 * t.val + a) j : EReal) := by
  by_cases h0 : t.val % 16 = 0
  · have h := A11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) (iblk m c 8 t) (iblk m c 9 t) ((hcond0_0 t).mpr h0) (blocks H t) a j
    rw [outsAt0_A m c t h0]
    dsimp only
    exact h
  · have h := B11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.2.2.2.2 (fun hc => h0 ((hcond0_0 t).mp hc)) (blocks H t) a j
    rw [outsAt0_B m c t h0]
    dsimp only
    exact h

theorem out11 (H : HoldsAt m c D) (r : Fin 8192) (j : Fin 1024) :
    ((dats m 0 c).arrAt 11 cfg0.N : S8192x1024.Idx → EReal) (ix2 r j) = (D.dya r.val j.val : EReal) := by
  have e : (dats m 0 c).arrAt 11 cfg0.N = (fun x => (D.dya (x 0).val (x 1).val : EReal) : S8192x1024.Idx → EReal) := by
    refine (dats m 0 c).arrAt_eq_of_covers 11 _ (by decide +kernel) fun t hf y => ?_
    blk_simp
    rw [after0_11]
    obtain ⟨a, j, rfl⟩ : ∃ (a : Fin 512) (j : Fin 1024), y = ix2 a j := ⟨y 0, y 1, ValueIdx.eq_ix2 y⟩
    refine (point11 H t a j).trans ?_
    have e0 : win0_11.index t 0 = t.val := by rw [(index_out t).2.1]; rfl
    have e1 : win0_11.index t 1 = 0 := by rw [(index_out t).2.1]; rfl
    have hr : (512 * t.val + (a : ℕ)) = win0_11.index t 0 * 512 + (a : ℕ) := by rw [e0]; omega
    have hj : (j : ℕ) = win0_11.index t 1 * 1024 + (j : ℕ) := by rw [e1]; omega
    exact congrArg₂ (fun p q : ℕ => ((D.dya p q : ℝ) : EReal)) hr hj
  exact congrFun e (ix2 r j)

theorem point12 (H : HoldsAt m c D) (t : Fin cfg0.N) (a : Fin 512) (j : Fin 1024) :
    (outsAt0 m c t.val t.isLt).2.2.1 (ix2 a j) = (D.dyb (512 * t.val + a) j : EReal) := by
  by_cases h0 : t.val % 16 = 0
  · have h := A12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) (iblk m c 8 t) (iblk m c 9 t) ((hcond0_0 t).mpr h0) (blocks H t) a j
    rw [outsAt0_A m c t h0]
    dsimp only
    exact h
  · have h := B12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.2.2.2.2 (fun hc => h0 ((hcond0_0 t).mp hc)) (blocks H t) a j
    rw [outsAt0_B m c t h0]
    dsimp only
    exact h

theorem out12 (H : HoldsAt m c D) (r : Fin 8192) (j : Fin 1024) :
    ((dats m 0 c).arrAt 12 cfg0.N : S8192x1024.Idx → EReal) (ix2 r j) = (D.dyb r.val j.val : EReal) := by
  have e : (dats m 0 c).arrAt 12 cfg0.N = (fun x => (D.dyb (x 0).val (x 1).val : EReal) : S8192x1024.Idx → EReal) := by
    refine (dats m 0 c).arrAt_eq_of_covers 12 _ (by decide +kernel) fun t hf y => ?_
    blk_simp
    rw [after0_12]
    obtain ⟨a, j, rfl⟩ : ∃ (a : Fin 512) (j : Fin 1024), y = ix2 a j := ⟨y 0, y 1, ValueIdx.eq_ix2 y⟩
    refine (point12 H t a j).trans ?_
    have e0 : win0_12.index t 0 = t.val := by rw [(index_out t).2.2.1]; rfl
    have e1 : win0_12.index t 1 = 0 := by rw [(index_out t).2.2.1]; rfl
    have hr : (512 * t.val + (a : ℕ)) = win0_12.index t 0 * 512 + (a : ℕ) := by rw [e0]; omega
    have hj : (j : ℕ) = win0_12.index t 1 * 1024 + (j : ℕ) := by rw [e1]; omega
    exact congrArg₂ (fun p q : ℕ => ((D.dyb p q : ℝ) : EReal)) hr hj
  exact congrFun e (ix2 r j)

theorem point13 (H : HoldsAt m c D) (t : Fin cfg0.N) (a : Fin 512) (j : Fin 1024) :
    (outsAt0 m c t.val t.isLt).2.2.2.1 (ix2 a j) = (D.dga (512 * t.val + a) j : EReal) := by
  by_cases h0 : t.val % 16 = 0
  · have h := A13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) (iblk m c 8 t) (iblk m c 9 t) ((hcond0_0 t).mpr h0) (blocks H t) a j
    rw [outsAt0_A m c t h0]
    dsimp only
    exact h
  · have h := B13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.2.2.2.2 (fun hc => h0 ((hcond0_0 t).mp hc)) (blocks H t) a j
    rw [outsAt0_B m c t h0]
    dsimp only
    exact h

theorem out13 (H : HoldsAt m c D) (r : Fin 8192) (j : Fin 1024) :
    ((dats m 0 c).arrAt 13 cfg0.N : S8192x1024.Idx → EReal) (ix2 r j) = (D.dga r.val j.val : EReal) := by
  have e : (dats m 0 c).arrAt 13 cfg0.N = (fun x => (D.dga (x 0).val (x 1).val : EReal) : S8192x1024.Idx → EReal) := by
    refine (dats m 0 c).arrAt_eq_of_covers 13 _ (by decide +kernel) fun t hf y => ?_
    blk_simp
    rw [after0_13]
    obtain ⟨a, j, rfl⟩ : ∃ (a : Fin 512) (j : Fin 1024), y = ix2 a j := ⟨y 0, y 1, ValueIdx.eq_ix2 y⟩
    refine (point13 H t a j).trans ?_
    have e0 : win0_13.index t 0 = t.val := by rw [(index_out t).2.2.2.1]; rfl
    have e1 : win0_13.index t 1 = 0 := by rw [(index_out t).2.2.2.1]; rfl
    have hr : (512 * t.val + (a : ℕ)) = win0_13.index t 0 * 512 + (a : ℕ) := by rw [e0]; omega
    have hj : (j : ℕ) = win0_13.index t 1 * 1024 + (j : ℕ) := by rw [e1]; omega
    exact congrArg₂ (fun p q : ℕ => ((D.dga p q : ℝ) : EReal)) hr hj
  exact congrFun e (ix2 r j)

theorem point14 (H : HoldsAt m c D) (t : Fin cfg0.N) (a : Fin 512) (j : Fin 1024) :
    (outsAt0 m c t.val t.isLt).2.2.2.2.1 (ix2 a j) = (D.dgb (512 * t.val + a) j : EReal) := by
  by_cases h0 : t.val % 16 = 0
  · have h := A14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) (iblk m c 8 t) (iblk m c 9 t) ((hcond0_0 t).mpr h0) (blocks H t) a j
    rw [outsAt0_A m c t h0]
    dsimp only
    exact h
  · have h := B14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.2.2.2.2 (fun hc => h0 ((hcond0_0 t).mp hc)) (blocks H t) a j
    rw [outsAt0_B m c t h0]
    dsimp only
    exact h

theorem out14 (H : HoldsAt m c D) (r : Fin 8192) (j : Fin 1024) :
    ((dats m 0 c).arrAt 14 cfg0.N : S8192x1024.Idx → EReal) (ix2 r j) = (D.dgb r.val j.val : EReal) := by
  have e : (dats m 0 c).arrAt 14 cfg0.N = (fun x => (D.dgb (x 0).val (x 1).val : EReal) : S8192x1024.Idx → EReal) := by
    refine (dats m 0 c).arrAt_eq_of_covers 14 _ (by decide +kernel) fun t hf y => ?_
    blk_simp
    rw [after0_14]
    obtain ⟨a, j, rfl⟩ : ∃ (a : Fin 512) (j : Fin 1024), y = ix2 a j := ⟨y 0, y 1, ValueIdx.eq_ix2 y⟩
    refine (point14 H t a j).trans ?_
    have e0 : win0_14.index t 0 = t.val := by rw [(index_out t).2.2.2.2.1]; rfl
    have e1 : win0_14.index t 1 = 0 := by rw [(index_out t).2.2.2.2.1]; rfl
    have hr : (512 * t.val + (a : ℕ)) = win0_14.index t 0 * 512 + (a : ℕ) := by rw [e0]; omega
    have hj : (j : ℕ) = win0_14.index t 1 * 1024 + (j : ℕ) := by rw [e1]; omega
    exact congrArg₂ (fun p q : ℕ => ((D.dgb p q : ℝ) : EReal)) hr hj
  exact congrFun e (ix2 r j)

theorem point15 (H : HoldsAt m c D) (t : Fin cfg0.N) (a : Fin 512) (j : Fin 512) :
    (outsAt0 m c t.val t.isLt).2.2.2.2.2.1 (ix2 a j) = (D.dsa (512 * t.val + a) j : EReal) := by
  by_cases h0 : t.val % 16 = 0
  · have h := A15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) (iblk m c 8 t) (iblk m c 9 t) ((hcond0_0 t).mpr h0) (blocks H t) a j
    rw [outsAt0_A m c t h0]
    dsimp only
    exact h
  · have h := B15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.2.2.2.2 (fun hc => h0 ((hcond0_0 t).mp hc)) (blocks H t) a j
    rw [outsAt0_B m c t h0]
    dsimp only
    exact h

theorem out15 (H : HoldsAt m c D) (r : Fin 8192) (j : Fin 512) :
    ((dats m 0 c).arrAt 15 cfg0.N : S8192x512.Idx → EReal) (ix2 r j) = (D.dsa r.val j.val : EReal) := by
  have e : (dats m 0 c).arrAt 15 cfg0.N = (fun x => (D.dsa (x 0).val (x 1).val : EReal) : S8192x512.Idx → EReal) := by
    refine (dats m 0 c).arrAt_eq_of_covers 15 _ (by decide +kernel) fun t hf y => ?_
    blk_simp
    rw [after0_15]
    obtain ⟨a, j, rfl⟩ : ∃ (a : Fin 512) (j : Fin 512), y = ix2 a j := ⟨y 0, y 1, ValueIdx.eq_ix2 y⟩
    refine (point15 H t a j).trans ?_
    have e0 : win0_15.index t 0 = t.val := by rw [(index_out t).2.2.2.2.2.1]; rfl
    have e1 : win0_15.index t 1 = 0 := by rw [(index_out t).2.2.2.2.2.1]; rfl
    have hr : (512 * t.val + (a : ℕ)) = win0_15.index t 0 * 512 + (a : ℕ) := by rw [e0]; omega
    have hj : (j : ℕ) = win0_15.index t 1 * 512 + (j : ℕ) := by rw [e1]; omega
    exact congrArg₂ (fun p q : ℕ => ((D.dsa p q : ℝ) : EReal)) hr hj
  exact congrFun e (ix2 r j)

theorem point16 (H : HoldsAt m c D) (t : Fin cfg0.N) (a : Fin 512) (j : Fin 1024) :
    (outsAt0 m c t.val t.isLt).2.2.2.2.2.2.1 (ix2 a j) = (D.dob (512 * t.val + a) j : EReal) := by
  by_cases h0 : t.val % 16 = 0
  · have h := A16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) (iblk m c 8 t) (iblk m c 9 t) ((hcond0_0 t).mpr h0) (blocks H t) a j
    rw [outsAt0_A m c t h0]
    dsimp only
    exact h
  · have h := B16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.2.2.2.2 (fun hc => h0 ((hcond0_0 t).mp hc)) (blocks H t) a j
    rw [outsAt0_B m c t h0]
    dsimp only
    exact h

theorem out16 (H : HoldsAt m c D) (r : Fin 8192) (j : Fin 1024) :
    ((dats m 0 c).arrAt 16 cfg0.N : S8192x1024.Idx → EReal) (ix2 r j) = (D.dob r.val j.val : EReal) := by
  have e : (dats m 0 c).arrAt 16 cfg0.N = (fun x => (D.dob (x 0).val (x 1).val : EReal) : S8192x1024.Idx → EReal) := by
    refine (dats m 0 c).arrAt_eq_of_covers 16 _ (by decide +kernel) fun t hf y => ?_
    blk_simp
    rw [after0_16]
    obtain ⟨a, j, rfl⟩ : ∃ (a : Fin 512) (j : Fin 1024), y = ix2 a j := ⟨y 0, y 1, ValueIdx.eq_ix2 y⟩
    refine (point16 H t a j).trans ?_
    have e0 : win0_16.index t 0 = t.val := by rw [(index_out t).2.2.2.2.2.2]; rfl
    have e1 : win0_16.index t 1 = 0 := by rw [(index_out t).2.2.2.2.2.2]; rfl
    have hr : (512 * t.val + (a : ℕ)) = win0_16.index t 0 * 512 + (a : ℕ) := by rw [e0]; omega
    have hj : (j : ℕ) = win0_16.index t 1 * 1024 + (j : ℕ) := by rw [e1]; omega
    exact congrArg₂ (fun p q : ℕ => ((D.dob p q : ℝ) : EReal)) hr hj
  exact congrFun e (ix2 r j)

/-- The last point. -/
def last : Fin cfg0.N := ⟨15, by decide⟩

theorem first17 (H : HoldsAt m c D) (t : Fin cfg0.N) (h0 : t.val % 16 = 0) (z : Fin 1) (i : Fin 1024) :
    (outsAt0 m c t.val t.isLt).2.2.2.2.2.2.2 (ix2 z i) = (part D.x D.d t.val i : EReal) := by
  have h := A17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) (iblk m c 8 t) (iblk m c 9 t) ((hcond0_0 t).mpr h0) (blocks H t) z i
  rw [outsAt0_A m c t h0]
  dsimp only
  exact h

theorem next17 (H : HoldsAt m c D) (t : Fin cfg0.N) (h0 : ¬t.val % 16 = 0) (z : Fin 1) (i : Fin 1024) :
    (outsAt0 m c t.val t.isLt).2.2.2.2.2.2.2 (ix2 z i) = (outsAt0 m c (t.val - 1) (Nat.lt_of_le_of_lt (Nat.sub_le _ _) t.isLt)).2.2.2.2.2.2.2 (ix2 z i) + (part D.x D.d t.val i : EReal) := by
  have h := B17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.2.2.2.2 (fun hc => h0 ((hcond0_0 t).mp hc)) (blocks H t) z i
  rw [outsAt0_B m c t h0]
  dsimp only
  exact h

/-- After point `t`, the gain's gradient holds the sum over the tiles up to `t`'s. -/
theorem sum17 (H : HoldsAt m c D) (t : Fin cfg0.N) (j : S1x1024.Idx) :
    (outsAt0 m c t.val t.isLt).2.2.2.2.2.2.2 j = ((∑ n ∈ Finset.range (t.val + 1), part D.x D.d n (j 1).val : ℝ) : EReal) := by
  refine (Pipeline.eq_sum_of_reset_step_apply_single (fun n h => ((outsAt0 m c n h).2.2.2.2.2.2.2 : S1x1024.Idx → EReal)) 16 (fun _ => 0)
    (fun n j => ((part D.x D.d n (j 1).val : ℝ) : EReal)) (fun t h0 j => ?_) (fun t h0 j => ?_) (by decide) t j).trans ?_
  · rw [ValueIdx.eq_ix2 j]
    exact (first17 H t h0 (j 0) (j 1)).trans (zero_add _).symm
  · rw [ValueIdx.eq_ix2 j]
    exact next17 H t h0 (j 0) (j 1)
  · rw [zero_add, coe_sum_range]

theorem out17 (H : HoldsAt m c D) (z : Fin 1) (i : Fin 1024) :
    ((dats m 0 c).arrAt 17 cfg0.N : S1x1024.Idx → EReal) (ix2 z i) = (gg D.x D.d i : EReal) := by
  have e : (dats m 0 c).arrAt 17 cfg0.N = (outsAt0 m c last.val last.isLt).2.2.2.2.2.2.2 := by
    refine (dats m 0 c).arrAt_eq_of_after_last 17 last (by decide +kernel) _ fun j => ?_
    blk_simp
    rw [after0_17]
  rw [e]
  refine (sum17 H last (ix2 z i)).trans (congrArg _ ?_)
  refine (sum_tiles (fun r => D.d r i * (D.x r i * rs D.x r)) 16).trans ?_
  exact Finset.sum_range (fun r => D.d r i * (D.x r i * rs D.x r))

/-- A slice of columns that is an array of real numbers holds the table of its numbers. -/
theorem slice_eq {o : ℕ} {hs : S8192x6144.Slices ![0, o] S8192x1024} {X : FVec Ideal S8192x6144 .f32}
    (h : ∀ i, ((EReal.toReal (extractStridedSlice S8192x1024 ![0, o] X hs i) : ℝ) : EReal) = extractStridedSlice S8192x1024 ![0, o] X hs i)
    (ho : o + 1024 ≤ 6144) (r : Fin 8192) (i : Fin 1024) :
    X (ix2 r (⟨o + i, by omega⟩ : Fin 6144)) = (Finite.tab2 X r (o + i) : EReal) := by
  have e : extractStridedSlice S8192x1024 ![0, o] X hs (ix2 r i) = X (ix2 r (⟨o + i, by omega⟩ : Fin 6144)) := by pointwise
  rw [Finite.tab2, dif_pos ⟨r.isLt, by omega⟩, ← e]
  exact (h _).symm

/-- The precondition read back: the arguments, but for the columns that no gate takes, hold tables of real numbers. -/
theorem holds {X0 : FVec Ideal S8192x512 .f32} {X1 : FVec Ideal S8192x1024 .f32} {X2 : FVec Ideal S8192x6144 .f32} {X3 : FVec Ideal S512x1024 .f32} {X4 : FVec Ideal S1024x1024 .f32} {X5 : FVec Ideal S1024x1024 .f32} {X6 : FVec Ideal S1024 .f32} {X7 : FVec Ideal S8192x1024 .f32}
    (e : Cert.Pre_mix_grad_finite.fn (F := Ideal) X0 X1 X2 X3 X4 X5 X6 X7 = fun _ => 1#1) :
    Holds ⟨Finite.tab2 X0, Finite.tab2 X1, fun r i => Finite.tab2 X2 r (4096 + i), fun r i => Finite.tab2 X2 r (5120 + i), Finite.tab2 X3,
      Finite.tab2 X4, Finite.tab2 X5, Finite.tab1 X6, Finite.tab2 X7⟩ X0 X1 X2 X3 X4 X5 X6 X7 := by
  have e0 := congrFun e ix0
  obtain ⟨e1, h8⟩ := IntOp.andi_eq_one.1 e0
  obtain ⟨e2, h7⟩ := IntOp.andi_eq_one.1 e1
  obtain ⟨e3, h6⟩ := IntOp.andi_eq_one.1 e2
  obtain ⟨e4, h5⟩ := IntOp.andi_eq_one.1 e3
  obtain ⟨e5, h4⟩ := IntOp.andi_eq_one.1 e4
  obtain ⟨e6, h3⟩ := IntOp.andi_eq_one.1 e5
  obtain ⟨e7, h2⟩ := IntOp.andi_eq_one.1 e6
  obtain ⟨h0, h1⟩ := IntOp.andi_eq_one.1 e7
  exact
    { sa := Finite.tab2_eq (Finite.real_of_all _ _ _ _ _ h0)
      ob := Finite.tab2_eq (Finite.real_of_all _ _ _ _ _ h1)
      ga := slice_eq (Finite.real_of_all _ _ _ _ _ h2) (by decide)
      gb := slice_eq (Finite.real_of_all _ _ _ _ _ h3) (by decide)
      A := Finite.tab2_eq (Finite.real_of_all _ _ _ _ _ h4)
      B := Finite.tab2_eq (Finite.real_of_all _ _ _ _ _ h5)
      M := Finite.tab2_eq (Finite.real_of_all _ _ _ _ _ h6)
      g := Finite.tab1_eq (Finite.real_of_all _ _ _ _ _ h7)
      d := Finite.tab2_eq (Finite.real_of_all _ _ _ _ _ h8) }

theorem reference : Cert.quiescent_Reference11Ideal (hReference11Ideal := Cert.Reference11Ideal.Gen.facts) := fun m ρ _ =>
  (θ_run Cert.Reference11Ideal.defs _ _).mono (fun r h => ⟨fun c => (h c).2.2.2.2.2.2.2.2, Idealize.ShloMosaic.sem_eq_zero_of_no_sems (by decide) r.2⟩)
    (Cert.Reference11Ideal.Value.run (F := Ideal) m ρ)

set_option maxHeartbeats 800000 in
/-- The kernel and the reference compute the same eight arrays of real arguments. -/
theorem algebraic : Cert.algebraic_Kernel11Ideal_Reference11Ideal_pre_mix_grad_finite (hKernel11Ideal := Cert.Kernel11Ideal.Gen.facts) (hReference11Ideal := Cert.Reference11Ideal.Gen.facts)
    (hPre_mix_grad_finite := Cert.Pre_mix_grad_finite.Gen.facts) := by
  pair_intro
  · run_from Cert.Kernel11Ideal.Value.run_blocks m g
  · refine (θ_run Cert.Reference11Ideal.defs _ _).mono (fun r h c => ?_) (Cert.Reference11Ideal.Value.run (F := Ideal) m' g')
    obtain ⟨h0, h1, h2, h3, h4, h5, h6, h7, hk⟩ := h c
    obtain ⟨e0, e1, e2, e3, e4, e5, e6, e7⟩ := hagree c
    obtain ⟨D, H⟩ := (⟨_, holds (hpre c)⟩ : ∃ D, Holds D _ _ _ _ _ _ _ _)
    have H' := H
    rw [← e0, ← e1, ← e2, ← e3, ← e4, ← e5, ← e6, ← e7] at H'
    refine ⟨(h0.trans (val_main_v85_eq ..)).trans ?_, (h1.trans (val_main_v86_eq ..)).trans ?_, (h2.trans (val_main_v87_eq ..)).trans ?_,
      (h3.trans (val_main_v88_eq ..)).trans ?_, (h4.trans (val_main_v89_eq ..)).trans ?_, (h5.trans (val_main_v92_eq ..)).trans ?_,
      (h6.trans (val_main_v95_eq ..)).trans ?_, (h7.trans (val_main_v96_eq ..)).trans ?_, hk⟩
    · funext j
      rw [ValueIdx.eq_ix2 j]
      exact (v85 H' (j 0) (j 1)).trans (out10 H (j 0) (j 1)).symm
    · funext j
      rw [ValueIdx.eq_ix2 j]
      exact (v86 H' (j 0) (j 1)).trans (out11 H (j 0) (j 1)).symm
    · funext j
      rw [ValueIdx.eq_ix2 j]
      exact (v87 H' (j 0) (j 1)).trans (out12 H (j 0) (j 1)).symm
    · funext j
      rw [ValueIdx.eq_ix2 j]
      exact (v88 H' (j 0) (j 1)).trans (out13 H (j 0) (j 1)).symm
    · funext j
      rw [ValueIdx.eq_ix2 j]
      exact (v89 H' (j 0) (j 1)).trans (out14 H (j 0) (j 1)).symm
    · funext j
      rw [ValueIdx.eq_ix2 j]
      exact (v92 H' (j 0) (j 1)).trans (out15 H (j 0) (j 1)).symm
    · funext j
      rw [ValueIdx.eq_ix2 j]
      exact (v95 H' (j 0) (j 1)).trans (out16 H (j 0) (j 1)).symm
    · funext j
      rw [ValueIdx.eq_ix2 j]
      exact (v96 H' (j 0) (j 1)).trans (out17 H (j 0) (j 1)).symm

end Cert.MixGrad
-- ==== Proof.Tiles.lean ====
/- The 8192 rows as 16 tiles of 512, and sums over them in the extended reals. -/
module

public import proofs.«01_k».proof.Proof.Consts

@[expose] public section

noncomputable section

namespace Cert.Tiles

open Idealize.ShloMosaic

/-- Row `a` of tile `T`. -/
def row (T : Fin 16) (a : Fin 512) : Fin 8192 := ⟨512 * T.val + a.val, by omega⟩

/-- A sum over the rows is the sum over the tiles of the sums over their rows. -/
theorem sum_row (f : Fin 8192 → EReal) : ∑ T : Fin 16, ∑ a : Fin 512, f (row T a) = ∑ r : Fin 8192, f r := by
  rw [← Equiv.sum_comp (finProdFinEquiv (m := 16) (n := 512)) f, Fintype.sum_prod_type]
  refine Finset.sum_congr rfl fun T _ => Finset.sum_congr rfl fun a _ => congrArg f (Fin.ext ?_)
  simp only [row, finProdFinEquiv_apply_val]
  omega

theorem square_nonneg (x : EReal) : 0 ≤ x * x := by
  induction x with
  | bot => simp
  | top => simp
  | coe r => rw [← EReal.coe_mul]; exact EReal.coe_nonneg.2 (mul_self_nonneg r)

/-- A factor comes out of a sum of terms that are not negative. -/
theorem mul_sum {ι : Type} (s : Finset ι) (c : EReal) (f : ι → EReal) (h : ∀ i, 0 ≤ f i) : ∑ i ∈ s, c * f i = c * ∑ i ∈ s, f i := by
  classical
  induction s using Finset.induction_on with
  | empty => simp
  | insert i s hi ih =>
    rw [Finset.sum_insert hi, Finset.sum_insert hi, ih, EReal.left_distrib_of_nonneg (h i) (Finset.sum_nonneg fun j _ => h j)]

theorem div_1024 (x : EReal) : Ideal.div x ((1024 : ℝ) : EReal) = ((1 / 1024 : ℝ) : EReal) * x := by
  have h0 : ((1024 : ℝ) : EReal) ≠ 0 := by exact_mod_cast (by norm_num : (1024 : ℝ) ≠ 0)
  rw [Ideal.div, if_neg h0, ← EReal.coe_inv, mul_comm, one_div]

end Cert.Tiles
-- ==== Proof.MixForward.lean ====
/- The forward pass of the mixed branches: at each tile of 512 rows the kernel makes the two branches' outputs, their
   gated sum, its projection and the residual with the norm. Entry for entry these are the reference's, over any
   extended reals. -/
module

public import proofs.«01_k».proof.Proof.Tiles
public import Idealize.ShloMosaic.Lib.Pipeline.ValueKit
public import Idealize.ShloMosaic.Lib.Pipeline.ReadBack
public import Idealize.ShloMosaic.Lib.StableHlo.RunRead
public import Idealize.ShloMosaic.Lib.Pointwise
public import Idealize.ShloMosaic.Adequacy
public import Idealize.ShloMosaic.Init
public import proofs.«01_k».proof.Defs
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Read

@[expose] public section

set_option maxRecDepth 16384

noncomputable section

namespace Cert.MixForward

open Cert.Kernel12Ideal Cert.Kernel12Ideal.Gen Idealize.ShloMosaic Idealize.ShloMosaic.TcCoe Idealize.SL.Sem Cert.Tiles Cert.Reference12Ideal.Read

/-- The blocks that point `T` reads, of the arguments' arrays. -/
structure Blocks (X0 : FVec Ideal S8192x512 .f32) (X1 : FVec Ideal S8192x1024 .f32) (X2 : FVec Ideal S8192x6144 .f32) (X3 : FVec Ideal S8192x1024 .f32) (X4 : FVec Ideal S512x1024 .f32) (X5 : FVec Ideal S1024x1024 .f32) (X6 : FVec Ideal S1024x1024 .f32) (X7 : FVec Ideal S1024 .f32) (T : Fin 16) (x0 : Vec Ideal S512x512 .bf16) (x1 : Vec Ideal S512x1024 .bf16) (x2 : Vec Ideal S512x1024 .bf16) (x3 : Vec Ideal S512x1024 .bf16) (x4 : Vec Ideal S512x1024 .f32) (x5 : Vec Ideal S512x1024 .bf16) (x6 : Vec Ideal S1024x1024 .bf16) (x7 : Vec Ideal S1024x1024 .bf16) (x8 : Vec Ideal S1x1024 .f32) : Prop where
  sa : ∀ (a : Fin 512) (k : Fin 512), x0 (ix2 a k) = X0 (ix2 (row T a) k)
  ob : ∀ (a : Fin 512) (k : Fin 1024), x1 (ix2 a k) = X1 (ix2 (row T a) k)
  ga : ∀ (a : Fin 512) (i : Fin 1024), x2 (ix2 a i) = X2 (ix2 (row T a) (⟨4096 + i, by omega⟩ : Fin 6144))
  gb : ∀ (a : Fin 512) (i : Fin 1024), x3 (ix2 a i) = X2 (ix2 (row T a) (⟨5120 + i, by omega⟩ : Fin 6144))
  x : ∀ (a : Fin 512) (i : Fin 1024), x4 (ix2 a i) = X3 (ix2 (row T a) i)
  A : ∀ (k : Fin 512) (i : Fin 1024), x5 (ix2 k i) = X4 (ix2 k i)
  B : ∀ (k : Fin 1024) (i : Fin 1024), x6 (ix2 k i) = X5 (ix2 k i)
  M : ∀ (k : Fin 1024) (i : Fin 1024), x7 (ix2 k i) = X6 (ix2 k i)
  g : ∀ (z : Fin 1) (i : Fin 1024), x8 (ix2 z i) = X7 (ix1 i)

section Body

variable {X0 : FVec Ideal S8192x512 .f32} {X1 : FVec Ideal S8192x1024 .f32} {X2 : FVec Ideal S8192x6144 .f32} {X3 : FVec Ideal S8192x1024 .f32} {X4 : FVec Ideal S512x1024 .f32} {X5 : FVec Ideal S1024x1024 .f32} {X6 : FVec Ideal S1024x1024 .f32} {X7 : FVec Ideal S1024 .f32} {T : Fin 16} {x0 : Vec Ideal S512x512 .bf16} {x1 : Vec Ideal S512x1024 .bf16} {x2 : Vec Ideal S512x1024 .bf16} {x3 : Vec Ideal S512x1024 .bf16} {x4 : Vec Ideal S512x1024 .f32} {x5 : Vec Ideal S512x1024 .bf16} {x6 : Vec Ideal S1024x1024 .bf16} {x7 : Vec Ideal S1024x1024 .bf16} {x8 : Vec Ideal S1x1024 .f32}

theorem branch_a (H : Blocks X0 X1 X2 X3 X4 X5 X6 X7 T x0 x1 x2 x3 x4 x5 x6 x7 x8) (a : Fin 512) (i : Fin 1024) :
    k0_pay2 (F := Ideal) x0 x5 (ix2 a i) = val_main_v0 (F := Ideal) X0 X4 (ix2 (row T a) i) := by
  pointwise [k0_pay2, val_main_v0]
  simp only [H.sa, H.A]

theorem branch_b (H : Blocks X0 X1 X2 X3 X4 X5 X6 X7 T x0 x1 x2 x3 x4 x5 x6 x7 x8) (a : Fin 512) (i : Fin 1024) :
    k0_pay3 (F := Ideal) x1 x6 (ix2 a i) = val_main_v1 (F := Ideal) X1 X5 (ix2 (row T a) i) := by
  pointwise [k0_pay3, val_main_v1]
  simp only [H.ob, H.B]

theorem gated (H : Blocks X0 X1 X2 X3 X4 X5 X6 X7 T x0 x1 x2 x3 x4 x5 x6 x7 x8) (a : Fin 512) (i : Fin 1024) :
    k0_pay4 (F := Ideal) x0 x5 x1 x6 x2 x3 (ix2 a i) = val_main_v18 (F := Ideal) X0 X1 X2 X4 X5 (ix2 (row T a) i) := by
  pointwise [k0_pay4, val_main_v18, val_main_v17, val_main_v16, val_main_v15, val_main_v14, val_main_v13, val_main_v12, val_main_v11, val_main_v10, val_main_v9,
    val_main_v8, val_main_v7, val_main_v6, val_main_v5, val_main_v4, val_main_v3, val_main_v2, val_main_cst, val_main_cst_0, val_main_cst_1, val_main_cst_2]
  rw [branch_a H, branch_b H, H.ga, H.gb]
  rfl

theorem mixed (H : Blocks X0 X1 X2 X3 X4 X5 X6 X7 T x0 x1 x2 x3 x4 x5 x6 x7 x8) (a : Fin 512) (i : Fin 1024) :
    k0_pay5 (F := Ideal) x0 x5 x1 x6 x2 x3 x7 (ix2 a i) = val_main_v19 (F := Ideal) X0 X1 X2 X4 X5 X6 (ix2 (row T a) i) := by
  pointwise [k0_pay5, val_main_v19]
  simp only [gated H, H.M]

theorem summed (H : Blocks X0 X1 X2 X3 X4 X5 X6 X7 T x0 x1 x2 x3 x4 x5 x6 x7 x8) (a : Fin 512) (i : Fin 1024) :
    k0_pay1 (F := Ideal) (k0_pay5 x0 x5 x1 x6 x2 x3 x7) x4 x8 (ix2 a i) = val_main_v33 (F := Ideal) X0 X1 X2 X3 X4 X5 X6 X7 (ix2 (row T a) i) := by
  pointwise [k0_pay1, val_main_v33, val_main_v32, val_main_v31, val_main_v30, val_main_v29, val_main_v28, val_main_v27, val_main_v26, val_main_v25, val_main_v24,
    val_main_v23, val_main_v22, val_main_v21, val_main_v20, val_main_cst_3, val_main_cst_4, val_main_cst_5]
  simp only [mixed H, H.x, H.g]

end Body

variable {m : (ℓ : Loc nD τ sig) → Buf (Elt Ideal) ℓ} {c : Dev nD}

section
variable (m c)

theorem V_v0 : V m c main_v0 = (m ((c : Thread nD τ).loc main_arg0) : S8192x512.Idx → EReal) := by
  unfold_abbrev_sides
  after_reads_simp
  rfl

theorem V_v1 : V m c main_v1 = (m ((c : Thread nD τ).loc main_arg1) : S8192x1024.Idx → EReal) := by
  unfold_abbrev_sides
  after_reads_simp
  rfl

theorem V_v2 : V m c main_v2 = (m ((c : Thread nD τ).loc main_arg2) : S8192x6144.Idx → EReal) := by
  unfold_abbrev_sides
  after_reads_simp
  rfl

theorem V_v3 : V m c main_v3 = (m ((c : Thread nD τ).loc main_arg4) : S512x1024.Idx → EReal) := by
  unfold_abbrev_sides
  after_reads_simp
  rfl

theorem V_v4 : V m c main_v4 = (m ((c : Thread nD τ).loc main_arg5) : S1024x1024.Idx → EReal) := by
  unfold_abbrev_sides
  after_reads_simp
  rfl

theorem V_v5 : V m c main_v5 = (m ((c : Thread nD τ).loc main_arg6) : S1024x1024.Idx → EReal) := by
  unfold_abbrev_sides
  after_reads_simp
  rfl

theorem V_v6 (z : Fin 1) (i : Fin 1024) : (V m c main_v6 : S1x1024.Idx → EReal) (ix2 z i) = (m ((c : Thread nD τ).loc main_arg7) : S1024.Idx → EReal) (ix1 i) := by
  unfold_abbrev_sides
  after_reads_simp
  pointwise

end

theorem index_tile : ∀ t : Fin cfg0.N, win0_0.index t = ![t.val, 0]
    ∧ win0_1.index t = ![t.val, 0]
    ∧ win0_2.index t = ![t.val, 4]
    ∧ win0_3.index t = ![t.val, 5]
    ∧ win0_4.index t = ![t.val, 0] := by decide +kernel

theorem index_out : ∀ t : Fin cfg0.N, win0_9.index t = ![t.val, 0]
    ∧ win0_10.index t = ![t.val, 0]
    ∧ win0_11.index t = ![t.val, 0]
    ∧ win0_12.index t = ![t.val, 0]
    ∧ win0_13.index t = ![t.val, 0] := by decide +kernel

theorem index_whole : ∀ t : Fin cfg0.N, win0_5.index t = ![0, 0]
    ∧ win0_6.index t = ![0, 0]
    ∧ win0_7.index t = ![0, 0]
    ∧ win0_8.index t = ![0, 0] := by decide +kernel

theorem blocks (t : Fin cfg0.N) : Blocks (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (⟨t.val, t.isLt⟩ : Fin 16) (iblk m c 0 t) (iblk m c 1 t) (iblk m c 2 t) (iblk m c 3 t) (iblk m c 4 t) (iblk m c 5 t) (iblk m c 6 t) (iblk m c 7 t) (iblk m c 8 t) where
  sa := fun a k => by
    have ht : t.val < 16 := t.isLt
    have e : iblk m c 0 t (ix2 a k) = V m c main_v0 (ix2 (row (⟨t.val, t.isLt⟩ : Fin 16) a) k) := by
      blk_ext [iblk, index_tile t, row]
    exact e.trans (congrFun (V_v0 m c) _)
  ob := fun a k => by
    have ht : t.val < 16 := t.isLt
    have e : iblk m c 1 t (ix2 a k) = V m c main_v1 (ix2 (row (⟨t.val, t.isLt⟩ : Fin 16) a) k) := by
      blk_ext [iblk, index_tile t, row]
    exact e.trans (congrFun (V_v1 m c) _)
  ga := fun a i => by
    have ht : t.val < 16 := t.isLt
    have e : iblk m c 2 t (ix2 a i) = V m c main_v2 (ix2 (row (⟨t.val, t.isLt⟩ : Fin 16) a) (⟨4096 + i, by omega⟩ : Fin 6144)) := by
      blk_ext [iblk, index_tile t, row]
    exact e.trans (congrFun (V_v2 m c) _)
  gb := fun a i => by
    have ht : t.val < 16 := t.isLt
    have e : iblk m c 3 t (ix2 a i) = V m c main_v2 (ix2 (row (⟨t.val, t.isLt⟩ : Fin 16) a) (⟨5120 + i, by omega⟩ : Fin 6144)) := by
      blk_ext [iblk, index_tile t, row]
    exact e.trans (congrFun (V_v2 m c) _)
  x := fun a i => by
    have ht : t.val < 16 := t.isLt
    have e : iblk m c 4 t (ix2 a i) = V m c main_arg3 (ix2 (row (⟨t.val, t.isLt⟩ : Fin 16) a) i) := by
      blk_ext [iblk, index_tile t, row]
    exact e.trans (congrFun (V_main_arg3 m c) _)
  A := fun k i => by
    have ht : t.val < 16 := t.isLt
    have e : iblk m c 5 t (ix2 k i) = V m c main_v3 (ix2 k i) := by
      blk_ext [iblk, index_whole t]
    exact e.trans (congrFun (V_v3 m c) _)
  B := fun k i => by
    have ht : t.val < 16 := t.isLt
    have e : iblk m c 6 t (ix2 k i) = V m c main_v4 (ix2 k i) := by
      blk_ext [iblk, index_whole t]
    exact e.trans (congrFun (V_v4 m c) _)
  M := fun k i => by
    have ht : t.val < 16 := t.isLt
    have e : iblk m c 7 t (ix2 k i) = V m c main_v5 (ix2 k i) := by
      blk_ext [iblk, index_whole t]
    exact e.trans (congrFun (V_v5 m c) _)
  g := fun z i => by
    have ht : t.val < 16 := t.isLt
    have e : iblk m c 8 t (ix2 z i) = V m c main_v6 (ix2 z i) := by
      blk_ext [iblk, index_whole t]
    exact e.trans (V_v6 m c z i)

theorem zero_zero : (![0, 0] : Fin 2 → ℕ) = fun _ => 0 := by
  funext a
  fin_cases a <;> rfl

theorem ld0 {e : EltTy} (X : Vec Ideal S512x512 e) : View.ld X r0_0 = X := View.ld_unit_zero (S := S512x512) zero_zero _ X

theorem ld1 {e : EltTy} (X : Vec Ideal S512x1024 e) : View.ld X r0_1 = X := View.ld_unit_zero (S := S512x1024) zero_zero _ X

theorem ld2 {e : EltTy} (X : Vec Ideal S1024x1024 e) : View.ld X r0_2 = X := View.ld_unit_zero (S := S1024x1024) zero_zero _ X

theorem ld3 {e : EltTy} (X : Vec Ideal S1x1024 e) : View.ld X r0_3 = X := View.ld_unit_zero (S := S1x1024) zero_zero _ X

section
variable (x0 : Vec Ideal S512x512 .bf16) (x1 : Vec Ideal S512x1024 .bf16) (x2 : Vec Ideal S512x1024 .bf16) (x3 : Vec Ideal S512x1024 .bf16) (x4 : Vec Ideal S512x1024 .f32) (x5 : Vec Ideal S512x1024 .bf16) (x6 : Vec Ideal S1024x1024 .bf16) (x7 : Vec Ideal S1024x1024 .bf16) (x8 : Vec Ideal S1x1024 .f32)

theorem opened9 : out0_9 (F := Ideal) x0 x1 x2 x3 x4 x5 x6 x7 x8 = k0_pay2 x0 x5 := by
  unfold_out out0_9
  simp only [ld0, ld1]
  exact View.canon_unit_zero (S := S512x1024) zero_zero _ _

theorem opened10 : out0_10 (F := Ideal) x0 x1 x2 x3 x4 x5 x6 x7 x8 = k0_pay3 x1 x6 := by
  unfold_out out0_10
  simp only [ld1, ld2]
  exact View.canon_unit_zero (S := S512x1024) zero_zero _ _

theorem opened11 : out0_11 (F := Ideal) x0 x1 x2 x3 x4 x5 x6 x7 x8 = k0_pay4 x0 x5 x1 x6 x2 x3 := by
  unfold_out out0_11
  simp only [ld0, ld1, ld2]
  exact View.canon_unit_zero (S := S512x1024) zero_zero _ _

theorem opened12 : out0_12 (F := Ideal) x0 x1 x2 x3 x4 x5 x6 x7 x8 = k0_pay5 x0 x5 x1 x6 x2 x3 x7 := by
  unfold_out out0_12
  simp only [ld0, ld1, ld2]
  exact View.canon_unit_zero (S := S512x1024) zero_zero _ _

theorem opened13 : out0_13 (F := Ideal) x0 x1 x2 x3 x4 x5 x6 x7 x8 = k0_pay1 (k0_pay5 x0 x5 x1 x6 x2 x3 x7) x4 x8 := by
  unfold_out out0_13
  simp only [ld0, ld1, ld2, ld3]
  exact View.canon_unit_zero (S := S512x1024) zero_zero _ _

end

theorem out9 : (dats m 0 c).arrAt 9 cfg0.N = (val_main_v0 (F := Ideal) (m ((c : Thread nD τ).loc main_arg0)) (m ((c : Thread nD τ).loc main_arg4)) : S8192x1024.Idx → EReal) := by
  refine (dats m 0 c).arrAt_eq_of_covers 9 _ (by decide +kernel) fun t hf y => ?_
  blk_simp
  rw [after0_9]
  obtain ⟨a, i, rfl⟩ : ∃ (a : Fin 512) (i : Fin 1024), y = ix2 a i := ⟨y 0, y 1, ValueIdx.eq_ix2 y⟩
  refine (congrFun (opened9 ..) _).trans ((branch_a (blocks t) a i).trans ?_)
  have e0 : win0_9.index t 0 = t.val := by rw [(index_out t).1]; rfl
  have e1 : win0_9.index t 1 = 0 := by rw [(index_out t).1]; rfl
  refine congrArg (val_main_v0 (F := Ideal) (m ((c : Thread nD τ).loc main_arg0)) (m ((c : Thread nD τ).loc main_arg4)) : S8192x1024.Idx → EReal) ?_
  funext d
  match d with
  | ⟨0, _⟩ =>
    refine Fin.ext ?_
    blk_simp
    show 512 * t.val + a.val = win0_9.index t 0 * 512 + a.val
    rw [e0]; omega
  | ⟨1, _⟩ =>
    refine Fin.ext ?_
    blk_simp
    show i.val = win0_9.index t 1 * 1024 + i.val
    rw [e1]; omega

theorem out10 : (dats m 0 c).arrAt 10 cfg0.N = (val_main_v1 (F := Ideal) (m ((c : Thread nD τ).loc main_arg1)) (m ((c : Thread nD τ).loc main_arg5)) : S8192x1024.Idx → EReal) := by
  refine (dats m 0 c).arrAt_eq_of_covers 10 _ (by decide +kernel) fun t hf y => ?_
  blk_simp
  rw [after0_10]
  obtain ⟨a, i, rfl⟩ : ∃ (a : Fin 512) (i : Fin 1024), y = ix2 a i := ⟨y 0, y 1, ValueIdx.eq_ix2 y⟩
  refine (congrFun (opened10 ..) _).trans ((branch_b (blocks t) a i).trans ?_)
  have e0 : win0_10.index t 0 = t.val := by rw [(index_out t).2.1]; rfl
  have e1 : win0_10.index t 1 = 0 := by rw [(index_out t).2.1]; rfl
  refine congrArg (val_main_v1 (F := Ideal) (m ((c : Thread nD τ).loc main_arg1)) (m ((c : Thread nD τ).loc main_arg5)) : S8192x1024.Idx → EReal) ?_
  funext d
  match d with
  | ⟨0, _⟩ =>
    refine Fin.ext ?_
    blk_simp
    show 512 * t.val + a.val = win0_10.index t 0 * 512 + a.val
    rw [e0]; omega
  | ⟨1, _⟩ =>
    refine Fin.ext ?_
    blk_simp
    show i.val = win0_10.index t 1 * 1024 + i.val
    rw [e1]; omega

theorem out11 : (dats m 0 c).arrAt 11 cfg0.N = (val_main_v18 (F := Ideal) (m ((c : Thread nD τ).loc main_arg0)) (m ((c : Thread nD τ).loc main_arg1)) (m ((c : Thread nD τ).loc main_arg2)) (m ((c : Thread nD τ).loc main_arg4)) (m ((c : Thread nD τ).loc main_arg5)) : S8192x1024.Idx → EReal) := by
  refine (dats m 0 c).arrAt_eq_of_covers 11 _ (by decide +kernel) fun t hf y => ?_
  blk_simp
  rw [after0_11]
  obtain ⟨a, i, rfl⟩ : ∃ (a : Fin 512) (i : Fin 1024), y = ix2 a i := ⟨y 0, y 1, ValueIdx.eq_ix2 y⟩
  refine (congrFun (opened11 ..) _).trans ((gated (blocks t) a i).trans ?_)
  have e0 : win0_11.index t 0 = t.val := by rw [(index_out t).2.2.1]; rfl
  have e1 : win0_11.index t 1 = 0 := by rw [(index_out t).2.2.1]; rfl
  refine congrArg (val_main_v18 (F := Ideal) (m ((c : Thread nD τ).loc main_arg0)) (m ((c : Thread nD τ).loc main_arg1)) (m ((c : Thread nD τ).loc main_arg2)) (m ((c : Thread nD τ).loc main_arg4)) (m ((c : Thread nD τ).loc main_arg5)) : S8192x1024.Idx → EReal) ?_
  funext d
  match d with
  | ⟨0, _⟩ =>
    refine Fin.ext ?_
    blk_simp
    show 512 * t.val + a.val = win0_11.index t 0 * 512 + a.val
    rw [e0]; omega
  | ⟨1, _⟩ =>
    refine Fin.ext ?_
    blk_simp
    show i.val = win0_11.index t 1 * 1024 + i.val
    rw [e1]; omega

theorem out12 : (dats m 0 c).arrAt 12 cfg0.N = (val_main_v19 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) : S8192x1024.Idx → EReal) := by
  refine (dats m 0 c).arrAt_eq_of_covers 12 _ (by decide +kernel) fun t hf y => ?_
  blk_simp
  rw [after0_12]
  obtain ⟨a, i, rfl⟩ : ∃ (a : Fin 512) (i : Fin 1024), y = ix2 a i := ⟨y 0, y 1, ValueIdx.eq_ix2 y⟩
  refine (congrFun (opened12 ..) _).trans ((mixed (blocks t) a i).trans ?_)
  have e0 : win0_12.index t 0 = t.val := by rw [(index_out t).2.2.2.1]; rfl
  have e1 : win0_12.index t 1 = 0 := by rw [(index_out t).2.2.2.1]; rfl
  refine congrArg (val_main_v19 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) : S8192x1024.Idx → EReal) ?_
  funext d
  match d with
  | ⟨0, _⟩ =>
    refine Fin.ext ?_
    blk_simp
    show 512 * t.val + a.val = win0_12.index t 0 * 512 + a.val
    rw [e0]; omega
  | ⟨1, _⟩ =>
    refine Fin.ext ?_
    blk_simp
    show i.val = win0_12.index t 1 * 1024 + i.val
    rw [e1]; omega

theorem out13 : (dats m 0 c).arrAt 13 cfg0.N = (val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) : S8192x1024.Idx → EReal) := by
  refine (dats m 0 c).arrAt_eq_of_covers 13 _ (by decide +kernel) fun t hf y => ?_
  blk_simp
  rw [after0_13]
  obtain ⟨a, i, rfl⟩ : ∃ (a : Fin 512) (i : Fin 1024), y = ix2 a i := ⟨y 0, y 1, ValueIdx.eq_ix2 y⟩
  refine (congrFun (opened13 ..) _).trans ((summed (blocks t) a i).trans ?_)
  have e0 : win0_13.index t 0 = t.val := by rw [(index_out t).2.2.2.2]; rfl
  have e1 : win0_13.index t 1 = 0 := by rw [(index_out t).2.2.2.2]; rfl
  refine congrArg (val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) : S8192x1024.Idx → EReal) ?_
  funext d
  match d with
  | ⟨0, _⟩ =>
    refine Fin.ext ?_
    blk_simp
    show 512 * t.val + a.val = win0_13.index t 0 * 512 + a.val
    rw [e0]; omega
  | ⟨1, _⟩ =>
    refine Fin.ext ?_
    blk_simp
    show i.val = win0_13.index t 1 * 1024 + i.val
    rw [e1]; omega

theorem reference : Cert.quiescent_Reference12Ideal (hReference12Ideal := Cert.Reference12Ideal.Gen.facts) := fun m ρ _ =>
  (θ_run Cert.Reference12Ideal.defs _ _).mono (fun r h => ⟨fun c => (h c).2.2.2.2.2, Idealize.ShloMosaic.sem_eq_zero_of_no_sems (by decide) r.2⟩)
    (Cert.Reference12Ideal.Value.run (F := Ideal) m ρ)

set_option maxHeartbeats 800000 in
/-- The kernel and the reference compute the same arrays, of any arguments. -/
theorem algebraic : Cert.algebraic_Kernel12Ideal_Reference12Ideal (hKernel12Ideal := Cert.Kernel12Ideal.Gen.facts) (hReference12Ideal := Cert.Reference12Ideal.Gen.facts) := by
  pair_intro
  · run_from Cert.Kernel12Ideal.Value.run_blocks m g
  · refine (θ_run Cert.Reference12Ideal.defs _ _).mono (fun r h c => ?_) (Cert.Reference12Ideal.Value.run (F := Ideal) m' g')
    obtain ⟨h0, h1, h2, h3, h4, hk⟩ := h c
    obtain ⟨e0, e1, e2, e3, e4, e5, e6, e7⟩ := hagree c
    refine ⟨(h0.trans (val_main_v34_eq ..)).trans ?_, (h1.trans (val_main_v35_eq ..)).trans ?_, (h2.trans (val_main_v36_eq ..)).trans ?_, (h3.trans (val_main_v37_eq ..)).trans ?_, (h4.trans (val_main_v33_eq ..)).trans ?_, hk⟩
    · rw [e0, e4]
      exact (out9 (m := m) (c := c)).symm
    · rw [e1, e5]
      exact (out10 (m := m) (c := c)).symm
    · rw [e0, e1, e2, e4, e5]
      exact (out11 (m := m) (c := c)).symm
    · rw [e0, e1, e2, e4, e5, e6]
      exact (out12 (m := m) (c := c)).symm
    · rw [e0, e1, e2, e3, e4, e5, e6, e7]
      exact (out13 (m := m) (c := c)).symm

end Cert.MixForward
-- ==== Proof.OutForward.lean ====
/- The end of the forward pass: at each tile of 512 rows the kernel makes the down projection, the residual with its norm,
   the per-layer embedding's branch, the loss's gradient and the loss, which it adds up over the tiles. These are the
   reference's, over any extended reals. -/
module

public import proofs.«01_k».proof.Proof.Tiles
public import Idealize.ShloMosaic.Lib.Pipeline.ValueKit
public import Idealize.ShloMosaic.Lib.Pipeline.ReadBack
public import Idealize.ShloMosaic.Lib.StableHlo.RunRead
public import Idealize.ShloMosaic.Lib.Pointwise
public import Idealize.ShloMosaic.Adequacy
public import Idealize.ShloMosaic.Init
public import proofs.«01_k».proof.Defs
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Read

@[expose] public section

set_option maxRecDepth 16384

noncomputable section

namespace Cert.OutForward

open Cert.Kernel13Ideal Cert.Kernel13Ideal.Gen Idealize.ShloMosaic Idealize.ShloMosaic.TcCoe Idealize.SL.Sem Cert.Tiles Cert.Reference13Ideal.Read

/-- The blocks that point `T` reads, of the arguments' arrays. -/
structure Blocks (X0 : FVec Ideal S8192x2816 .f32) (X1 : FVec Ideal S8192x1024 .f32) (X2 : FVec Ideal S8192x256 .f32) (X3 : FVec Ideal S8192x1024 .f32) (X4 : FVec Ideal S2816x1024 .f32) (X5 : FVec Ideal S1024x1024 .f32) (X6 : FVec Ideal S256x1024 .f32) (X7 : FVec Ideal S1024 .f32) (X8 : FVec Ideal S1024 .f32) (T : Fin 16) (x0 : Vec Ideal S512x2816 .bf16) (x1 : Vec Ideal S512x1024 .f32) (x2 : Vec Ideal S512x256 .f32) (x3 : Vec Ideal S512x1024 .f32) (x4 : Vec Ideal S2816x1024 .bf16) (x5 : Vec Ideal S1024x1024 .bf16) (x6 : Vec Ideal S256x1024 .bf16) (x7 : Vec Ideal S1x1024 .f32) (x8 : Vec Ideal S1x1024 .f32) : Prop where
  ff : ∀ (a : Fin 512) (k : Fin 2816), x0 (ix2 a k) = X0 (ix2 (row T a) k)
  h : ∀ (a : Fin 512) (i : Fin 1024), x1 (ix2 a i) = X1 (ix2 (row T a) i)
  p : ∀ (a : Fin 512) (k : Fin 256), x2 (ix2 a k) = X2 (ix2 (row T a) k)
  y : ∀ (a : Fin 512) (i : Fin 1024), x3 (ix2 a i) = X3 (ix2 (row T a) i)
  W : ∀ (k : Fin 2816) (i : Fin 1024), x4 (ix2 k i) = X4 (ix2 k i)
  G : ∀ (k : Fin 1024) (i : Fin 1024), x5 (ix2 k i) = X5 (ix2 k i)
  E : ∀ (k : Fin 256) (i : Fin 1024), x6 (ix2 k i) = X6 (ix2 k i)
  g : ∀ (z : Fin 1) (i : Fin 1024), x7 (ix2 z i) = X7 (ix1 i)
  q : ∀ (z : Fin 1) (i : Fin 1024), x8 (ix2 z i) = X8 (ix1 i)

theorem c_scale : Ideal.ofBits .f32 0x3A800000#32 = ((1 / 1024 : ℝ) : EReal) := by
  simp [Ideal.ofBits, Ideal.ieee, -EReal.coe_mul]; norm_num
theorem c_half_scale : Ideal.ofBits .f32 0x3A000000#32 = ((1 / 2048 : ℝ) : EReal) := by
  simp [Ideal.ofBits, Ideal.ieee, -EReal.coe_mul]; norm_num
theorem c_two : Ideal.ofBits .f32 0x40000000#32 = ((2 : ℝ) : EReal) := by
  simp [Ideal.ofBits, Ideal.ieee, -EReal.coe_mul]; norm_num

/-- Tile `n`'s part of the loss, from the errors. -/
def part (e : S8192x1024.Idx → EReal) (n : ℕ) : EReal :=
  if h : n < 16 then ((1 / 2048 : ℝ) : EReal) * ∑ a : Fin 512, ∑ i : Fin 1024, e (ix2 (row ⟨n, h⟩ a) i) * e (ix2 (row ⟨n, h⟩ a) i) else 0

/-- Half the mean over a row of the squared errors, added up over the rows: the sum of the tiles' parts. -/
theorem sum_part (e : S8192x1024.Idx → EReal) : ∑ n ∈ Finset.range 16, part e n
    = ((1 / 2 : ℝ) : EReal) * ∑ r : Fin 8192, Ideal.div (∑ i : Fin 1024, e (ix2 r i) * e (ix2 r i)) ((1024 : ℝ) : EReal) := by
  have h0 : ∀ r : Fin 8192, 0 ≤ ∑ i : Fin 1024, e (ix2 r i) * e (ix2 r i) := fun r => Finset.sum_nonneg fun i _ => square_nonneg _
  simp only [div_1024]
  rw [mul_sum _ _ _ h0, ← sum_row, ← mul_assoc, ← EReal.coe_mul, Finset.sum_range]
  simp only [part, Fin.is_lt, dif_pos, Fin.eta]
  rw [mul_sum _ _ _ fun T => Finset.sum_nonneg fun a _ => h0 _]
  norm_num

section Body

variable {X0 : FVec Ideal S8192x2816 .f32} {X1 : FVec Ideal S8192x1024 .f32} {X2 : FVec Ideal S8192x256 .f32} {X3 : FVec Ideal S8192x1024 .f32} {X4 : FVec Ideal S2816x1024 .f32} {X5 : FVec Ideal S1024x1024 .f32} {X6 : FVec Ideal S256x1024 .f32} {X7 : FVec Ideal S1024 .f32} {X8 : FVec Ideal S1024 .f32} {T : Fin 16} {x0 : Vec Ideal S512x2816 .bf16} {x1 : Vec Ideal S512x1024 .f32} {x2 : Vec Ideal S512x256 .f32} {x3 : Vec Ideal S512x1024 .f32} {x4 : Vec Ideal S2816x1024 .bf16} {x5 : Vec Ideal S1024x1024 .bf16} {x6 : Vec Ideal S256x1024 .bf16} {x7 : Vec Ideal S1x1024 .f32} {x8 : Vec Ideal S1x1024 .f32} {o : Vec Ideal S1x1 .f32}

theorem down (H : Blocks X0 X1 X2 X3 X4 X5 X6 X7 X8 T x0 x1 x2 x3 x4 x5 x6 x7 x8) (a : Fin 512) (i : Fin 1024) :
    k0_pay3 (F := Ideal) x0 x4 (ix2 a i) = val_main_v0 (F := Ideal) X0 X4 (ix2 (row T a) i) := by
  pointwise [k0_pay3, val_main_v0]
  simp only [H.ff, H.W]

theorem after (H : Blocks X0 X1 X2 X3 X4 X5 X6 X7 X8 T x0 x1 x2 x3 x4 x5 x6 x7 x8) (a : Fin 512) (i : Fin 1024) :
    k0_pay4 (F := Ideal) x0 x4 x1 x7 (ix2 a i) = val_main_v14 (F := Ideal) X0 X1 X4 X7 (ix2 (row T a) i) := by
  pointwise [k0_pay4, val_main_v14, val_main_v13, val_main_v12, val_main_v11, val_main_v10, val_main_v9, val_main_v8, val_main_v7, val_main_v6,
    val_main_v5, val_main_v4, val_main_v3, val_main_v2, val_main_v1, val_main_cst, val_main_cst_0, val_main_cst_1]
  simp only [down H, H.h, H.g]

theorem gate (H : Blocks X0 X1 X2 X3 X4 X5 X6 X7 X8 T x0 x1 x2 x3 x4 x5 x6 x7 x8) (a : Fin 512) (i : Fin 1024) :
    k0_pay6 (F := Ideal) x0 x4 x1 x7 x5 (ix2 a i) = val_main_v15 (F := Ideal) X0 X1 X4 X5 X7 (ix2 (row T a) i) := by
  pointwise [k0_pay6, k0_pay5, val_main_v15]
  simp only [after H, H.G]

theorem embed (H : Blocks X0 X1 X2 X3 X4 X5 X6 X7 X8 T x0 x1 x2 x3 x4 x5 x6 x7 x8) (a : Fin 512) (i : Fin 1024) :
    k0_pay7 (F := Ideal) x2 x6 (ix2 a i) = val_main_v16 (F := Ideal) X2 X6 (ix2 (row T a) i) := by
  pointwise [k0_pay7, val_main_v16]
  simp only [H.p, H.E]

/-- The output less the target. -/
theorem error (H : Blocks X0 X1 X2 X3 X4 X5 X6 X7 X8 T x0 x1 x2 x3 x4 x5 x6 x7 x8) (a : Fin 512) (i : Fin 1024) :
    k0_pay8 (F := Ideal) (k0_pay4 x0 x4 x1 x7) (k0_pay6 x0 x4 x1 x7 x5) x2 x6 x8 x3 (ix2 a i) = val_main_v38 (F := Ideal) X0 X1 X2 X3 X4 X5 X6 X7 X8 (ix2 (row T a) i) := by
  pointwise [k0_pay8, val_main_v38, val_main_v37, val_main_v36, val_main_v35, val_main_v34, val_main_v33, val_main_v32, val_main_v31, val_main_v30,
    val_main_v29, val_main_v28, val_main_v27, val_main_v26, val_main_v25, val_main_v24, val_main_v23, val_main_v22, val_main_v21, val_main_v20,
    val_main_v19, val_main_v18, val_main_v17, val_main_cst_2, val_main_cst_3, val_main_cst_4, val_main_cst_5, val_main_cst_6]
  simp only [after H, gate H, embed H, H.y, H.q]
  rfl

theorem grad (H : Blocks X0 X1 X2 X3 X4 X5 X6 X7 X8 T x0 x1 x2 x3 x4 x5 x6 x7 x8) (a : Fin 512) (i : Fin 1024) :
    k0_pay9 (F := Ideal) (k0_pay4 x0 x4 x1 x7) (k0_pay6 x0 x4 x1 x7 x5) x2 x6 x8 x3 (ix2 a i) = val_main_v52 (F := Ideal) X0 X1 X2 X3 X4 X5 X6 X7 X8 (ix2 (row T a) i) := by
  pointwise [k0_pay9, val_main_v52, val_main_v51, val_main_v50, val_main_v49, val_main_v48, val_main_v47, val_main_v41, val_main_v40, val_main_cst_7,
    val_main_cst_12, val_main_cst_13, val_main_cst_14]
  rw [error H, c_scale, Consts.c_1024, Consts.c_half, c_two, Spec.div_real _ _ (by norm_num), ← mul_assoc, ← EReal.coe_mul, mul_comm]
  norm_num

theorem loss (H : Blocks X0 X1 X2 X3 X4 X5 X6 X7 X8 T x0 x1 x2 x3 x4 x5 x6 x7 x8) (z w : Fin 1) :
    k0_pay1 (F := Ideal) (k0_pay10 o) (k0_pay11 (k0_pay4 x0 x4 x1 x7) (k0_pay6 x0 x4 x1 x7 x5) x2 x6 x8 x3) (ix2 z w) = o (ix2 z w) + part (val_main_v38 (F := Ideal) X0 X1 X2 X3 X4 X5 X6 X7 X8) T.val := by
  pointwise [k0_pay1, k0_pay10, k0_pay11]
  simp only [error H, c_half_scale, part, T.isLt, dif_pos]

end Body

section Point

variable {X0 : FVec Ideal S8192x2816 .f32} {X1 : FVec Ideal S8192x1024 .f32} {X2 : FVec Ideal S8192x256 .f32} {X3 : FVec Ideal S8192x1024 .f32} {X4 : FVec Ideal S2816x1024 .f32} {X5 : FVec Ideal S1024x1024 .f32} {X6 : FVec Ideal S256x1024 .f32} {X7 : FVec Ideal S1024 .f32} {X8 : FVec Ideal S1024 .f32} {T : Fin 16} (c : Dev nD) (i : grid0.Coords) (arg1 : Memref sig .tc .vmem S512x2816 .bf16) (harg1 : arg1.IsWhole) (arg2 : Memref sig .tc .vmem S512x1024 .f32) (harg2 : arg2.IsWhole) (arg3 : Memref sig .tc .vmem S512x256 .f32) (harg3 : arg3.IsWhole) (arg4 : Memref sig .tc .vmem S512x1024 .f32) (harg4 : arg4.IsWhole) (arg5 : Memref sig .tc .vmem S2816x1024 .bf16) (harg5 : arg5.IsWhole) (arg6 : Memref sig .tc .vmem S1024x1024 .bf16) (harg6 : arg6.IsWhole) (arg7 : Memref sig .tc .vmem S256x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S512x1024 .f32) (harg14 : arg14.IsWhole) (arg15 : Memref sig .tc .vmem S1x1 .f32) (harg15 : arg15.IsWhole)
  (x0 : Vec Ideal S512x2816 .bf16) (x1 : Vec Ideal S512x1024 .f32) (x2 : Vec Ideal S512x256 .f32) (x3 : Vec Ideal S512x1024 .f32) (x4 : Vec Ideal S2816x1024 .bf16) (x5 : Vec Ideal S1024x1024 .bf16) (x6 : Vec Ideal S256x1024 .bf16) (x7 : Vec Ideal S1x1024 .f32) (x8 : Vec Ideal S1x1024 .f32) (o : Vec Ideal S1x1 .f32)

theorem A9 (hc0 : cond0_0 i) (H : Blocks X0 X1 X2 X3 X4 X5 X6 X7 X8 T x0 x1 x2 x3 x4 x5 x6 x7 x8) (a : Fin 512) (j : Fin 1024) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 (ix2 a j) = val_main_v0 (F := Ideal) X0 X4 (ix2 (row T a) j) := by
  frame_open
  simp (disch := decide) only [↓ View.readCov_skip, ↓ View.readCov_cons_toLoadRect, ↓ View.readCov_fill]
  frame_out
  exact down H a j

theorem B9 (hc0 : ¬cond0_0 i) (H : Blocks X0 X1 X2 X3 X4 X5 X6 X7 X8 T x0 x1 x2 x3 x4 x5 x6 x7 x8) (a : Fin 512) (j : Fin 1024) :
    out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 o (ix2 a j) = val_main_v0 (F := Ideal) X0 X4 (ix2 (row T a) j) := by
  frame_open
  simp (disch := decide) only [↓ View.readCov_skip, ↓ View.readCov_cons_toLoadRect, ↓ View.readCov_fill]
  frame_out
  exact down H a j

theorem A10 (hc0 : cond0_0 i) (H : Blocks X0 X1 X2 X3 X4 X5 X6 X7 X8 T x0 x1 x2 x3 x4 x5 x6 x7 x8) (a : Fin 512) (j : Fin 1024) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 (ix2 a j) = val_main_v14 (F := Ideal) X0 X1 X4 X7 (ix2 (row T a) j) := by
  frame_open
  simp (disch := decide) only [↓ View.readCov_skip, ↓ View.readCov_cons_toLoadRect, ↓ View.readCov_fill]
  frame_out
  exact after H a j

theorem B10 (hc0 : ¬cond0_0 i) (H : Blocks X0 X1 X2 X3 X4 X5 X6 X7 X8 T x0 x1 x2 x3 x4 x5 x6 x7 x8) (a : Fin 512) (j : Fin 1024) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 o (ix2 a j) = val_main_v14 (F := Ideal) X0 X1 X4 X7 (ix2 (row T a) j) := by
  frame_open
  simp (disch := decide) only [↓ View.readCov_skip, ↓ View.readCov_cons_toLoadRect, ↓ View.readCov_fill]
  frame_out
  exact after H a j

theorem A11 (hc0 : cond0_0 i) (H : Blocks X0 X1 X2 X3 X4 X5 X6 X7 X8 T x0 x1 x2 x3 x4 x5 x6 x7 x8) (a : Fin 512) (j : Fin 1024) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 (ix2 a j) = val_main_v15 (F := Ideal) X0 X1 X4 X5 X7 (ix2 (row T a) j) := by
  frame_open
  simp (disch := decide) only [↓ View.readCov_skip, ↓ View.readCov_cons_toLoadRect, ↓ View.readCov_fill]
  frame_out
  exact gate H a j

theorem B11 (hc0 : ¬cond0_0 i) (H : Blocks X0 X1 X2 X3 X4 X5 X6 X7 X8 T x0 x1 x2 x3 x4 x5 x6 x7 x8) (a : Fin 512) (j : Fin 1024) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 o (ix2 a j) = val_main_v15 (F := Ideal) X0 X1 X4 X5 X7 (ix2 (row T a) j) := by
  frame_open
  simp (disch := decide) only [↓ View.readCov_skip, ↓ View.readCov_cons_toLoadRect, ↓ View.readCov_fill]
  frame_out
  exact gate H a j

theorem A12 (hc0 : cond0_0 i) (H : Blocks X0 X1 X2 X3 X4 X5 X6 X7 X8 T x0 x1 x2 x3 x4 x5 x6 x7 x8) (a : Fin 512) (j : Fin 1024) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 (ix2 a j) = val_main_v16 (F := Ideal) X2 X6 (ix2 (row T a) j) := by
  frame_open
  simp (disch := decide) only [↓ View.readCov_skip, ↓ View.readCov_cons_toLoadRect, ↓ View.readCov_fill]
  frame_out
  exact embed H a j

theorem B12 (hc0 : ¬cond0_0 i) (H : Blocks X0 X1 X2 X3 X4 X5 X6 X7 X8 T x0 x1 x2 x3 x4 x5 x6 x7 x8) (a : Fin 512) (j : Fin 1024) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 o (ix2 a j) = val_main_v16 (F := Ideal) X2 X6 (ix2 (row T a) j) := by
  frame_open
  simp (disch := decide) only [↓ View.readCov_skip, ↓ View.readCov_cons_toLoadRect, ↓ View.readCov_fill]
  frame_out
  exact embed H a j

theorem A13 (hc0 : cond0_0 i) (H : Blocks X0 X1 X2 X3 X4 X5 X6 X7 X8 T x0 x1 x2 x3 x4 x5 x6 x7 x8) (a : Fin 512) (j : Fin 1024) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 (ix2 a j) = val_main_v52 (F := Ideal) X0 X1 X2 X3 X4 X5 X6 X7 X8 (ix2 (row T a) j) := by
  frame_open
  simp (disch := decide) only [↓ View.readCov_skip, ↓ View.readCov_cons_toLoadRect, ↓ View.readCov_fill]
  frame_out
  exact grad H a j

theorem B13 (hc0 : ¬cond0_0 i) (H : Blocks X0 X1 X2 X3 X4 X5 X6 X7 X8 T x0 x1 x2 x3 x4 x5 x6 x7 x8) (a : Fin 512) (j : Fin 1024) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 o (ix2 a j) = val_main_v52 (F := Ideal) X0 X1 X2 X3 X4 X5 X6 X7 X8 (ix2 (row T a) j) := by
  frame_open
  simp (disch := decide) only [↓ View.readCov_skip, ↓ View.readCov_cons_toLoadRect, ↓ View.readCov_fill]
  frame_out
  exact grad H a j

theorem A14 (hc0 : cond0_0 i) (H : Blocks X0 X1 X2 X3 X4 X5 X6 X7 X8 T x0 x1 x2 x3 x4 x5 x6 x7 x8) (z w : Fin 1) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 (ix2 z w) = part (val_main_v38 (F := Ideal) X0 X1 X2 X3 X4 X5 X6 X7 X8) T.val := by
  frame_open
  simp (disch := decide) only [↓ View.readCov_skip, ↓ View.readCov_cons_toLoadRect, ↓ View.readCov_fill]
  frame_out
  refine (loss H z w).trans ?_
  pointwise [k0_pay2]

theorem B14 (hc0 : ¬cond0_0 i) (H : Blocks X0 X1 X2 X3 X4 X5 X6 X7 X8 T x0 x1 x2 x3 x4 x5 x6 x7 x8) (z w : Fin 1) :
    out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 o (ix2 z w) = o (ix2 z w) + part (val_main_v38 (F := Ideal) X0 X1 X2 X3 X4 X5 X6 X7 X8) T.val := by
  frame_open
  simp (disch := decide) only [↓ View.readCov_skip, ↓ View.readCov_cons_toLoadRect, ↓ View.readCov_fill]
  frame_out
  exact loss H z w

end Point

variable {m : (ℓ : Loc nD τ sig) → Buf (Elt Ideal) ℓ} {c : Dev nD}

section
variable (m c)

theorem V_v0 : V m c main_v0 = (m ((c : Thread nD τ).loc main_arg0) : S8192x2816.Idx → EReal) := by
  unfold_abbrev_sides
  after_reads_simp
  rfl

theorem V_v1 : V m c main_v1 = (m ((c : Thread nD τ).loc main_arg4) : S2816x1024.Idx → EReal) := by
  unfold_abbrev_sides
  after_reads_simp
  rfl

theorem V_v2 : V m c main_v2 = (m ((c : Thread nD τ).loc main_arg5) : S1024x1024.Idx → EReal) := by
  unfold_abbrev_sides
  after_reads_simp
  rfl

theorem V_v3 : V m c main_v3 = (m ((c : Thread nD τ).loc main_arg6) : S256x1024.Idx → EReal) := by
  unfold_abbrev_sides
  after_reads_simp
  rfl

theorem V_v4 (z : Fin 1) (i : Fin 1024) : (V m c main_v4 : S1x1024.Idx → EReal) (ix2 z i) = (m ((c : Thread nD τ).loc main_arg7) : S1024.Idx → EReal) (ix1 i) := by
  unfold_abbrev_sides
  after_reads_simp
  pointwise

theorem V_v5 (z : Fin 1) (i : Fin 1024) : (V m c main_v5 : S1x1024.Idx → EReal) (ix2 z i) = (m ((c : Thread nD τ).loc main_arg8) : S1024.Idx → EReal) (ix1 i) := by
  unfold_abbrev_sides
  after_reads_simp
  pointwise

end

theorem index_tile : ∀ t : Fin cfg0.N, win0_0.index t = ![t.val, 0]
    ∧ win0_1.index t = ![t.val, 0]
    ∧ win0_2.index t = ![t.val, 0]
    ∧ win0_3.index t = ![t.val, 0] := by decide +kernel

theorem index_out : ∀ t : Fin cfg0.N, win0_9.index t = ![t.val, 0]
    ∧ win0_10.index t = ![t.val, 0]
    ∧ win0_11.index t = ![t.val, 0]
    ∧ win0_12.index t = ![t.val, 0]
    ∧ win0_13.index t = ![t.val, 0] := by decide +kernel

theorem index_whole : ∀ t : Fin cfg0.N, win0_4.index t = ![0, 0]
    ∧ win0_5.index t = ![0, 0]
    ∧ win0_6.index t = ![0, 0]
    ∧ win0_7.index t = ![0, 0]
    ∧ win0_8.index t = ![0, 0] := by decide +kernel

theorem blocks (t : Fin cfg0.N) : Blocks (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (⟨t.val, t.isLt⟩ : Fin 16) (iblk m c 0 t) (iblk m c 1 t) (iblk m c 2 t) (iblk m c 3 t) (iblk m c 4 t) (iblk m c 5 t) (iblk m c 6 t) (iblk m c 7 t) (iblk m c 8 t) where
  ff := fun a k => by
    have ht : t.val < 16 := t.isLt
    have e : iblk m c 0 t (ix2 a k) = V m c main_v0 (ix2 (row (⟨t.val, t.isLt⟩ : Fin 16) a) k) := by
      blk_ext [iblk, index_tile t, row]
    exact e.trans (congrFun (V_v0 m c) _)
  h := fun a i => by
    have ht : t.val < 16 := t.isLt
    have e : iblk m c 1 t (ix2 a i) = V m c main_arg1 (ix2 (row (⟨t.val, t.isLt⟩ : Fin 16) a) i) := by
      blk_ext [iblk, index_tile t, row]
    exact e.trans (congrFun (V_main_arg1 m c) _)
  p := fun a k => by
    have ht : t.val < 16 := t.isLt
    have e : iblk m c 2 t (ix2 a k) = V m c main_arg2 (ix2 (row (⟨t.val, t.isLt⟩ : Fin 16) a) k) := by
      blk_ext [iblk, index_tile t, row]
    exact e.trans (congrFun (V_main_arg2 m c) _)
  y := fun a i => by
    have ht : t.val < 16 := t.isLt
    have e : iblk m c 3 t (ix2 a i) = V m c main_arg3 (ix2 (row (⟨t.val, t.isLt⟩ : Fin 16) a) i) := by
      blk_ext [iblk, index_tile t, row]
    exact e.trans (congrFun (V_main_arg3 m c) _)
  W := fun k i => by
    have ht : t.val < 16 := t.isLt
    have e : iblk m c 4 t (ix2 k i) = V m c main_v1 (ix2 k i) := by
      blk_ext [iblk, index_whole t]
    exact e.trans (congrFun (V_v1 m c) _)
  G := fun k i => by
    have ht : t.val < 16 := t.isLt
    have e : iblk m c 5 t (ix2 k i) = V m c main_v2 (ix2 k i) := by
      blk_ext [iblk, index_whole t]
    exact e.trans (congrFun (V_v2 m c) _)
  E := fun k i => by
    have ht : t.val < 16 := t.isLt
    have e : iblk m c 6 t (ix2 k i) = V m c main_v3 (ix2 k i) := by
      blk_ext [iblk, index_whole t]
    exact e.trans (congrFun (V_v3 m c) _)
  g := fun z i => by
    have ht : t.val < 16 := t.isLt
    have e : iblk m c 7 t (ix2 z i) = V m c main_v4 (ix2 z i) := by
      blk_ext [iblk, index_whole t]
    exact e.trans (V_v4 m c z i)
  q := fun z i => by
    have ht : t.val < 16 := t.isLt
    have e : iblk m c 8 t (ix2 z i) = V m c main_v5 (ix2 z i) := by
      blk_ext [iblk, index_whole t]
    exact e.trans (V_v5 m c z i)

theorem point9 (t : Fin cfg0.N) (a : Fin 512) (j : Fin 1024) :
    (outsAt0 m c t.val t.isLt).1 (ix2 a j) = val_main_v0 (F := Ideal) (m ((c : Thread nD τ).loc main_arg0)) (m ((c : Thread nD τ).loc main_arg4)) (ix2 (row (⟨t.val, t.isLt⟩ : Fin 16) a) j) := by
  by_cases h0 : t.val % 16 = 0
  · have h := A9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t) (iblk m c 8 t) ((hcond0_0 t).mpr h0) (blocks t) a j
    rw [outsAt0_A m c t h0]
    dsimp only
    exact h
  · have h := B9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.2.2 (fun hc => h0 ((hcond0_0 t).mp hc)) (blocks t) a j
    rw [outsAt0_B m c t h0]
    dsimp only
    exact h

theorem out9 : (dats m 0 c).arrAt 9 cfg0.N = (val_main_v0 (F := Ideal) (m ((c : Thread nD τ).loc main_arg0)) (m ((c : Thread nD τ).loc main_arg4)) : S8192x1024.Idx → EReal) := by
  refine (dats m 0 c).arrAt_eq_of_covers 9 _ (by decide +kernel) fun t hf y => ?_
  blk_simp
  rw [after0_9]
  obtain ⟨a, i, rfl⟩ : ∃ (a : Fin 512) (i : Fin 1024), y = ix2 a i := ⟨y 0, y 1, ValueIdx.eq_ix2 y⟩
  refine (point9 t a i).trans ?_
  have e0 : win0_9.index t 0 = t.val := by rw [(index_out t).1]; rfl
  have e1 : win0_9.index t 1 = 0 := by rw [(index_out t).1]; rfl
  refine congrArg (val_main_v0 (F := Ideal) (m ((c : Thread nD τ).loc main_arg0)) (m ((c : Thread nD τ).loc main_arg4)) : S8192x1024.Idx → EReal) ?_
  funext d
  match d with
  | ⟨0, _⟩ =>
    refine Fin.ext ?_
    blk_simp
    show 512 * t.val + a.val = win0_9.index t 0 * 512 + a.val
    rw [e0]; omega
  | ⟨1, _⟩ =>
    refine Fin.ext ?_
    blk_simp
    show i.val = win0_9.index t 1 * 1024 + i.val
    rw [e1]; omega

theorem point10 (t : Fin cfg0.N) (a : Fin 512) (j : Fin 1024) :
    (outsAt0 m c t.val t.isLt).2.1 (ix2 a j) = val_main_v14 (F := Ideal) (m ((c : Thread nD τ).loc main_arg0)) (m ((c : Thread nD τ).loc main_arg1)) (m ((c : Thread nD τ).loc main_arg4)) (m ((c : Thread nD τ).loc main_arg7)) (ix2 (row (⟨t.val, t.isLt⟩ : Fin 16) a) j) := by
  by_cases h0 : t.val % 16 = 0
  · have h := A10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t) (iblk m c 8 t) ((hcond0_0 t).mpr h0) (blocks t) a j
    rw [outsAt0_A m c t h0]
    dsimp only
    exact h
  · have h := B10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.2.2 (fun hc => h0 ((hcond0_0 t).mp hc)) (blocks t) a j
    rw [outsAt0_B m c t h0]
    dsimp only
    exact h

theorem out10 : (dats m 0 c).arrAt 10 cfg0.N = (val_main_v14 (F := Ideal) (m ((c : Thread nD τ).loc main_arg0)) (m ((c : Thread nD τ).loc main_arg1)) (m ((c : Thread nD τ).loc main_arg4)) (m ((c : Thread nD τ).loc main_arg7)) : S8192x1024.Idx → EReal) := by
  refine (dats m 0 c).arrAt_eq_of_covers 10 _ (by decide +kernel) fun t hf y => ?_
  blk_simp
  rw [after0_10]
  obtain ⟨a, i, rfl⟩ : ∃ (a : Fin 512) (i : Fin 1024), y = ix2 a i := ⟨y 0, y 1, ValueIdx.eq_ix2 y⟩
  refine (point10 t a i).trans ?_
  have e0 : win0_10.index t 0 = t.val := by rw [(index_out t).2.1]; rfl
  have e1 : win0_10.index t 1 = 0 := by rw [(index_out t).2.1]; rfl
  refine congrArg (val_main_v14 (F := Ideal) (m ((c : Thread nD τ).loc main_arg0)) (m ((c : Thread nD τ).loc main_arg1)) (m ((c : Thread nD τ).loc main_arg4)) (m ((c : Thread nD τ).loc main_arg7)) : S8192x1024.Idx → EReal) ?_
  funext d
  match d with
  | ⟨0, _⟩ =>
    refine Fin.ext ?_
    blk_simp
    show 512 * t.val + a.val = win0_10.index t 0 * 512 + a.val
    rw [e0]; omega
  | ⟨1, _⟩ =>
    refine Fin.ext ?_
    blk_simp
    show i.val = win0_10.index t 1 * 1024 + i.val
    rw [e1]; omega

theorem point11 (t : Fin cfg0.N) (a : Fin 512) (j : Fin 1024) :
    (outsAt0 m c t.val t.isLt).2.2.1 (ix2 a j) = val_main_v15 (F := Ideal) (m ((c : Thread nD τ).loc main_arg0)) (m ((c : Thread nD τ).loc main_arg1)) (m ((c : Thread nD τ).loc main_arg4)) (m ((c : Thread nD τ).loc main_arg5)) (m ((c : Thread nD τ).loc main_arg7)) (ix2 (row (⟨t.val, t.isLt⟩ : Fin 16) a) j) := by
  by_cases h0 : t.val % 16 = 0
  · have h := A11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t) (iblk m c 8 t) ((hcond0_0 t).mpr h0) (blocks t) a j
    rw [outsAt0_A m c t h0]
    dsimp only
    exact h
  · have h := B11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.2.2 (fun hc => h0 ((hcond0_0 t).mp hc)) (blocks t) a j
    rw [outsAt0_B m c t h0]
    dsimp only
    exact h

theorem out11 : (dats m 0 c).arrAt 11 cfg0.N = (val_main_v15 (F := Ideal) (m ((c : Thread nD τ).loc main_arg0)) (m ((c : Thread nD τ).loc main_arg1)) (m ((c : Thread nD τ).loc main_arg4)) (m ((c : Thread nD τ).loc main_arg5)) (m ((c : Thread nD τ).loc main_arg7)) : S8192x1024.Idx → EReal) := by
  refine (dats m 0 c).arrAt_eq_of_covers 11 _ (by decide +kernel) fun t hf y => ?_
  blk_simp
  rw [after0_11]
  obtain ⟨a, i, rfl⟩ : ∃ (a : Fin 512) (i : Fin 1024), y = ix2 a i := ⟨y 0, y 1, ValueIdx.eq_ix2 y⟩
  refine (point11 t a i).trans ?_
  have e0 : win0_11.index t 0 = t.val := by rw [(index_out t).2.2.1]; rfl
  have e1 : win0_11.index t 1 = 0 := by rw [(index_out t).2.2.1]; rfl
  refine congrArg (val_main_v15 (F := Ideal) (m ((c : Thread nD τ).loc main_arg0)) (m ((c : Thread nD τ).loc main_arg1)) (m ((c : Thread nD τ).loc main_arg4)) (m ((c : Thread nD τ).loc main_arg5)) (m ((c : Thread nD τ).loc main_arg7)) : S8192x1024.Idx → EReal) ?_
  funext d
  match d with
  | ⟨0, _⟩ =>
    refine Fin.ext ?_
    blk_simp
    show 512 * t.val + a.val = win0_11.index t 0 * 512 + a.val
    rw [e0]; omega
  | ⟨1, _⟩ =>
    refine Fin.ext ?_
    blk_simp
    show i.val = win0_11.index t 1 * 1024 + i.val
    rw [e1]; omega

theorem point12 (t : Fin cfg0.N) (a : Fin 512) (j : Fin 1024) :
    (outsAt0 m c t.val t.isLt).2.2.2.1 (ix2 a j) = val_main_v16 (F := Ideal) (m ((c : Thread nD τ).loc main_arg2)) (m ((c : Thread nD τ).loc main_arg6)) (ix2 (row (⟨t.val, t.isLt⟩ : Fin 16) a) j) := by
  by_cases h0 : t.val % 16 = 0
  · have h := A12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t) (iblk m c 8 t) ((hcond0_0 t).mpr h0) (blocks t) a j
    rw [outsAt0_A m c t h0]
    dsimp only
    exact h
  · have h := B12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.2.2 (fun hc => h0 ((hcond0_0 t).mp hc)) (blocks t) a j
    rw [outsAt0_B m c t h0]
    dsimp only
    exact h

theorem out12 : (dats m 0 c).arrAt 12 cfg0.N = (val_main_v16 (F := Ideal) (m ((c : Thread nD τ).loc main_arg2)) (m ((c : Thread nD τ).loc main_arg6)) : S8192x1024.Idx → EReal) := by
  refine (dats m 0 c).arrAt_eq_of_covers 12 _ (by decide +kernel) fun t hf y => ?_
  blk_simp
  rw [after0_12]
  obtain ⟨a, i, rfl⟩ : ∃ (a : Fin 512) (i : Fin 1024), y = ix2 a i := ⟨y 0, y 1, ValueIdx.eq_ix2 y⟩
  refine (point12 t a i).trans ?_
  have e0 : win0_12.index t 0 = t.val := by rw [(index_out t).2.2.2.1]; rfl
  have e1 : win0_12.index t 1 = 0 := by rw [(index_out t).2.2.2.1]; rfl
  refine congrArg (val_main_v16 (F := Ideal) (m ((c : Thread nD τ).loc main_arg2)) (m ((c : Thread nD τ).loc main_arg6)) : S8192x1024.Idx → EReal) ?_
  funext d
  match d with
  | ⟨0, _⟩ =>
    refine Fin.ext ?_
    blk_simp
    show 512 * t.val + a.val = win0_12.index t 0 * 512 + a.val
    rw [e0]; omega
  | ⟨1, _⟩ =>
    refine Fin.ext ?_
    blk_simp
    show i.val = win0_12.index t 1 * 1024 + i.val
    rw [e1]; omega

theorem point13 (t : Fin cfg0.N) (a : Fin 512) (j : Fin 1024) :
    (outsAt0 m c t.val t.isLt).2.2.2.2.1 (ix2 a j) = val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 (row (⟨t.val, t.isLt⟩ : Fin 16) a) j) := by
  by_cases h0 : t.val % 16 = 0
  · have h := A13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t) (iblk m c 8 t) ((hcond0_0 t).mpr h0) (blocks t) a j
    rw [outsAt0_A m c t h0]
    dsimp only
    exact h
  · have h := B13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.2.2 (fun hc => h0 ((hcond0_0 t).mp hc)) (blocks t) a j
    rw [outsAt0_B m c t h0]
    dsimp only
    exact h

theorem out13 : (dats m 0 c).arrAt 13 cfg0.N = (val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) : S8192x1024.Idx → EReal) := by
  refine (dats m 0 c).arrAt_eq_of_covers 13 _ (by decide +kernel) fun t hf y => ?_
  blk_simp
  rw [after0_13]
  obtain ⟨a, i, rfl⟩ : ∃ (a : Fin 512) (i : Fin 1024), y = ix2 a i := ⟨y 0, y 1, ValueIdx.eq_ix2 y⟩
  refine (point13 t a i).trans ?_
  have e0 : win0_13.index t 0 = t.val := by rw [(index_out t).2.2.2.2]; rfl
  have e1 : win0_13.index t 1 = 0 := by rw [(index_out t).2.2.2.2]; rfl
  refine congrArg (val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) : S8192x1024.Idx → EReal) ?_
  funext d
  match d with
  | ⟨0, _⟩ =>
    refine Fin.ext ?_
    blk_simp
    show 512 * t.val + a.val = win0_13.index t 0 * 512 + a.val
    rw [e0]; omega
  | ⟨1, _⟩ =>
    refine Fin.ext ?_
    blk_simp
    show i.val = win0_13.index t 1 * 1024 + i.val
    rw [e1]; omega

theorem first14 (t : Fin cfg0.N) (h0 : t.val % 16 = 0) (z w : Fin 1) :
    (outsAt0 m c t.val t.isLt).2.2.2.2.2 (ix2 z w) = part (val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) t.val := by
  have h := A14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t) (iblk m c 8 t) ((hcond0_0 t).mpr h0) (blocks t) z w
  rw [outsAt0_A m c t h0]
  dsimp only
  exact h

theorem next14 (t : Fin cfg0.N) (h0 : ¬t.val % 16 = 0) (z w : Fin 1) :
    (outsAt0 m c t.val t.isLt).2.2.2.2.2 (ix2 z w) = (outsAt0 m c (t.val - 1) (Nat.lt_of_le_of_lt (Nat.sub_le _ _) t.isLt)).2.2.2.2.2 (ix2 z w) + part (val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) t.val := by
  have h := B14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.2.2 (fun hc => h0 ((hcond0_0 t).mp hc)) (blocks t) z w
  rw [outsAt0_B m c t h0]
  dsimp only
  exact h

/-- After point `t`, the loss's cell holds the sum of the parts up to `t`'s. -/
theorem sum14 (t : Fin cfg0.N) (j : S1x1.Idx) : (outsAt0 m c t.val t.isLt).2.2.2.2.2 j = ∑ n ∈ Finset.range (t.val + 1), part (val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) n := by
  refine (Pipeline.eq_sum_of_reset_step_apply_single (fun n h => ((outsAt0 m c n h).2.2.2.2.2 : S1x1.Idx → EReal)) 16 (fun _ => 0)
    (fun n j => part (val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) n) (fun t h0 j => ?_) (fun t h0 j => ?_) (by decide) t j).trans ?_
  · rw [ValueIdx.eq_ix2 j]
    exact (first14 t h0 (j 0) (j 1)).trans (zero_add _).symm
  · rw [ValueIdx.eq_ix2 j]
    exact next14 t h0 (j 0) (j 1)
  · rw [zero_add]

/-- The last point. -/
def last : Fin cfg0.N := ⟨15, by decide⟩

theorem out14 : (dats m 0 c).arrAt 14 cfg0.N = (val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) : S1x1.Idx → EReal) := by
  have e : (dats m 0 c).arrAt 14 cfg0.N = (outsAt0 m c last.val last.isLt).2.2.2.2.2 := by
    refine (dats m 0 c).arrAt_eq_of_after_last 14 last (by decide +kernel) _ fun j => ?_
    blk_simp
    rw [after0_14]
  rw [e]
  funext j
  rw [ValueIdx.eq_ix2 j]
  refine (sum14 last _).trans ((sum_part _).trans ?_)
  pointwise [val_main_v57, val_main_v46, val_main_v45, val_main_v44, val_main_v43, val_main_v42, val_main_v39, val_main_cst_8, val_main_cst_9, val_main_cst_10, val_main_cst_11]
  rw [Consts.c_half, Consts.c_1024]

theorem reference : Cert.quiescent_Reference13Ideal (hReference13Ideal := Cert.Reference13Ideal.Gen.facts) := fun m ρ _ =>
  (θ_run Cert.Reference13Ideal.defs _ _).mono (fun r h => ⟨fun c => (h c).2.2.2.2.2.2, Idealize.ShloMosaic.sem_eq_zero_of_no_sems (by decide) r.2⟩)
    (Cert.Reference13Ideal.Value.run (F := Ideal) m ρ)

set_option maxHeartbeats 800000 in
/-- The kernel and the reference compute the same arrays, of any arguments. -/
theorem algebraic : Cert.algebraic_Kernel13Ideal_Reference13Ideal (hKernel13Ideal := Cert.Kernel13Ideal.Gen.facts) (hReference13Ideal := Cert.Reference13Ideal.Gen.facts) := by
  pair_intro
  · run_from Cert.Kernel13Ideal.Value.run_blocks m g
  · refine (θ_run Cert.Reference13Ideal.defs _ _).mono (fun r h c => ?_) (Cert.Reference13Ideal.Value.run (F := Ideal) m' g')
    obtain ⟨h0, h1, h2, h3, h4, h5, hk⟩ := h c
    obtain ⟨e0, e1, e2, e3, e4, e5, e6, e7, e8⟩ := hagree c
    refine ⟨(h0.trans (val_main_v53_eq ..)).trans ?_, (h1.trans (val_main_v54_eq ..)).trans ?_, (h2.trans (val_main_v55_eq ..)).trans ?_, (h3.trans (val_main_v56_eq ..)).trans ?_, (h4.trans (val_main_v52_eq ..)).trans ?_, (h5.trans (val_main_v57_eq ..)).trans ?_, hk⟩
    · rw [e0, e4]
      exact (out9 (m := m) (c := c)).symm
    · rw [e0, e1, e4, e7]
      exact (out10 (m := m) (c := c)).symm
    · rw [e0, e1, e4, e5, e7]
      exact (out11 (m := m) (c := c)).symm
    · rw [e2, e6]
      exact (out12 (m := m) (c := c)).symm
    · rw [e0, e1, e2, e3, e4, e5, e6, e7, e8]
      exact (out13 (m := m) (c := c)).symm
    · rw [e0, e1, e2, e3, e4, e5, e6, e7, e8]
      exact (out14 (m := m) (c := c)).symm

end Cert.OutForward
-- ==== Proof.InRun.lean ====
/- The input projection's forward call: what the body leaves at a grid point. A tile's first point writes the normed
   rows, which the later points find in the kernel's scratch; every point multiplies them by its own block of columns. -/
module

public import proofs.«01_k».proof.Proof.Gen.Kernel14Ideal.Skeleton
public import proofs.«01_k».proof.Proof.Gen.Kernel14Ideal.Frame
public import Idealize.ShloMosaic.Lib.Pipeline.ReadBack
public import Idealize.ShloMosaic.Lib.VecWindow

@[expose] public section

set_option maxRecDepth 16384

noncomputable section

namespace Cert.InRun

open Cert.Kernel14Ideal Cert.Kernel14Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The conditions of the body's two branches, and the points at which they hold. -/
abbrev first (i : grid0.Coords) : Prop := k0_cond1 i = 1#1
abbrev second (i : grid0.Coords) : Prop := k0_cond2 i = 1#1

theorem first_iff : ∀ t : Fin cfg0.N, first (grid0.coords t) ↔ t.val % 6 = 0 := by decide +kernel
theorem second_iff : ∀ t : Fin cfg0.N, second (grid0.coords t) ↔ t.val % 6 = 1 := by decide +kernel

section Run

variable (c : Dev nD) (i : grid0.Coords) (arg2 : Memref sig .tc .vmem S1024x1024 .f32) (harg2 : arg2.IsWhole)
  (arg3 : Memref sig .tc .vmem S1x1024 .f32) (harg3 : arg3.IsWhole) (arg4 : Memref sig .tc .vmem S1024x1024 .bf16) (harg4 : arg4.IsWhole)
  (arg5 : Memref sig .tc .vmem S128x1024 .bf16) (harg5 : arg5.IsWhole) (arg6 : Memref sig .tc .vmem S1024x1024 .bf16) (harg6 : arg6.IsWhole)
  (arg7 : Memref sig .tc .vmem S1024x1024 .bf16) (harg7 : arg7.IsWhole) (arg8 : Memref sig .tc .vmem S1024x1024 .f32) (harg8 : arg8.IsWhole)
  (arg9 : Memref sig .tc .vmem S1024x128 .bf16) (harg9 : arg9.IsWhole) (arg10 : Memref sig .tc .vmem S1024x1024 .bf16) (harg10 : arg10.IsWhole)
  (x0 : Vec F S1024x1024 .f32) (x1 : Vec F S1x1024 .f32) (x2 : Vec F S1024x1024 .bf16) (x3 : Vec F S128x1024 .bf16)

/-- A tile's first point: the normed rows, their product with the point's columns, and their product with the last columns. -/
theorem run_first (hc0 : first i) (hc1 : ¬second i) (x6 : Vec F S1024x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d)
            ∗ (∃ d, owns (c : Thread nD τ) arg7 fullShare d)
            ∗ owns (c : Thread nD τ) arg8 fullShare x6
            ∗ (∃ d, owns (c : Thread nD τ) arg9 fullShare d)
            ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay1 x0 x1)
            ∗ owns (c : Thread nD τ) arg7 fullShare (k0_pay5 (k0_pay2 x0 x1) x2)
            ∗ owns (c : Thread nD τ) arg8 fullShare x6
            ∗ owns (c : Thread nD τ) arg9 fullShare (k0_pay3 x0 x1 x3)
            ∗ owns (c : Thread nD τ) arg10 fullShare (k0_pay2 x0 x1)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10) K := by
  simp only [cc0_in_proj_eq_skeleton]
  unfold cc0_in_proj_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%d7, %f7, -, H7⟩, ⟨%d8, %f8, -, H8⟩, Hk⟩
  obtain rfl := harg2.eq_unread hf0; obtain rfl := harg3.eq_unread hf1; obtain rfl := harg4.eq_unread hf2; obtain rfl := harg5.eq_unread hf3; obtain rfl := harg8.eq_unread hf6
  sl_exec (disch := first | sl_exact hc0 | sl_exact hc1)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro
    rw [View.read_writes_full]
    repeat rw [View.readAt_full]
    repeat rw [View.read_writes_full]
    repeat rw [View.readAt_full]
    simp only [Memref.IsWhole.read_unread]
  isplitl [H5]
  · iexists _; isplitr; swap; · iexact H5
    ipureintro
    try unfold run_first.sl.v3
    try unfold run_first.sl.H8_1
    rw [View.read_writes_full]
    try unfold View.readCov
    repeat rw [View.readAt_full]
    repeat rw [View.read_writes_full]
    repeat rw [View.readAt_full]
    simp only [Memref.IsWhole.read_unread]
  isplitl [H6]
  · iexists _; isplitr; swap; · iexact H6
    ipureintro; exact harg8.read_unread _
  isplitl [H7]
  · iexists _; isplitr; swap; · iexact H7
    ipureintro
    rw [View.read_writes_full]
    repeat rw [View.readAt_full]
    repeat rw [View.read_writes_full]
    repeat rw [View.readAt_full]
    simp only [Memref.IsWhole.read_unread]
  iexists _; isplitr; swap; · iexact H8
  ipureintro
  try unfold run_first.sl.v3
  try unfold run_first.sl.H8_1
  rw [View.read_writes_full]
  try unfold View.readCov
  repeat rw [View.readAt_full]
  repeat rw [View.read_writes_full]
  repeat rw [View.readAt_full]
  simp only [Memref.IsWhole.read_unread]

/-- A tile's second point: the product is kept unrounded too. -/
theorem run_second (hc0 : ¬first i) (hc1 : second i) (x4 : Vec F S1024x1024 .bf16) (x7 : Vec F S1024x128 .bf16) (xs : Vec F S1024x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x4
            ∗ (∃ d, owns (c : Thread nD τ) arg7 fullShare d)
            ∗ (∃ d, owns (c : Thread nD τ) arg8 fullShare d)
            ∗ owns (c : Thread nD τ) arg9 fullShare x7
            ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x4
            ∗ owns (c : Thread nD τ) arg7 fullShare (k0_pay5 xs x2)
            ∗ owns (c : Thread nD τ) arg8 fullShare (k0_pay4 xs x2)
            ∗ owns (c : Thread nD τ) arg9 fullShare x7
            ∗ owns (c : Thread nD τ) arg10 fullShare xs) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10) K := by
  simp only [cc0_in_proj_eq_skeleton]
  unfold cc0_in_proj_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4; obtain rfl := harg9.eq_unread hf7; obtain rfl := harg10.eq_unread hf8
  sl_exec (disch := first | sl_exact hc0 | sl_exact hc1)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro
    rw [View.read_writes_full]
    repeat rw [View.readAt_full]
    repeat rw [View.read_writes_full]
    repeat rw [View.readAt_full]
    simp only [Memref.IsWhole.read_unread]
  isplitl [H6]
  · iexists _; isplitr; swap; · iexact H6
    ipureintro
    rw [View.read_writes_full]
    repeat rw [View.readAt_full]
    repeat rw [View.read_writes_full]
    repeat rw [View.readAt_full]
    simp only [Memref.IsWhole.read_unread]
  isplitl [H7]
  · iexists _; isplitr; swap; · iexact H7
    ipureintro; exact harg9.read_unread _
  iexists _; isplitr; swap; · iexact H8
  ipureintro; exact harg10.read_unread _

/-- The other points: the product of the rows in the scratch with the point's columns. -/
theorem run_later (hc0 : ¬first i) (hc1 : ¬second i) (x4 : Vec F S1024x1024 .bf16) (x6 : Vec F S1024x1024 .f32) (x7 : Vec F S1024x128 .bf16) (xs : Vec F S1024x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x4
            ∗ (∃ d, owns (c : Thread nD τ) arg7 fullShare d)
            ∗ owns (c : Thread nD τ) arg8 fullShare x6
            ∗ owns (c : Thread nD τ) arg9 fullShare x7
            ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x4
            ∗ owns (c : Thread nD τ) arg7 fullShare (k0_pay5 xs x2)
            ∗ owns (c : Thread nD τ) arg8 fullShare x6
            ∗ owns (c : Thread nD τ) arg9 fullShare x7
            ∗ owns (c : Thread nD τ) arg10 fullShare xs) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10) K := by
  simp only [cc0_in_proj_eq_skeleton]
  unfold cc0_in_proj_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hf7; obtain rfl := harg10.eq_unread hf8
  sl_exec (disch := first | sl_exact hc0 | sl_exact hc1)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro
    rw [View.read_writes_full]
    repeat rw [View.readAt_full]
    repeat rw [View.read_writes_full]
    repeat rw [View.readAt_full]
    simp only [Memref.IsWhole.read_unread]
  isplitl [H6]
  · iexists _; isplitr; swap; · iexact H6
    ipureintro; exact harg8.read_unread _
  isplitl [H7]
  · iexists _; isplitr; swap; · iexact H7
    ipureintro; exact harg9.read_unread _
  iexists _; isplitr; swap; · iexact H8
  ipureintro; exact harg10.read_unread _

end Run

end Cert.InRun
-- ==== Proof.InFrame.lean ====
/- The input projection's forward call: its run. Three results are written at one point of a tile and written back at
   the tile's last point, the body leaving them alone between; the scratch holds the tile's normed rows throughout. -/
module

public import proofs.«01_k».proof.Proof.InRun
public import Idealize.ShloMosaic.Lib.Claim

@[expose] public section

set_option maxRecDepth 16384

noncomputable section

namespace Cert.InFrame

open Cert.Kernel14Ideal Cert.Kernel14Ideal.Gen Cert.InRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where the body stores -/

/-- The results stored at a tile's first point, at its second, and at every point. -/
theorem idle_4 : ∀ t : Fin cfg0.N, cfg0.idle 4 (grid0.coords t) = !decide (t.val % 6 = 0) := by decide +kernel
theorem idle_5 : ∀ t : Fin cfg0.N, cfg0.idle 5 (grid0.coords t) = false := by decide +kernel
theorem idle_6 : ∀ t : Fin cfg0.N, cfg0.idle 6 (grid0.coords t) = !decide (t.val % 6 = 1) := by decide +kernel
theorem idle_7 : ∀ t : Fin cfg0.N, cfg0.idle 7 (grid0.coords t) = !decide (t.val % 6 = 0) := by decide +kernel

abbrev stage_0 (t : Fin cfg0.N) : Memref sig .tc .vmem S1024x1024 .f32 := win0_0.stage (cfg0.slots t 0)
abbrev stage_1 (t : Fin cfg0.N) : Memref sig .tc .vmem S1x1024 .f32 := win0_1.stage (cfg0.slots t 1)
abbrev stage_2 (t : Fin cfg0.N) : Memref sig .tc .vmem S1024x1024 .bf16 := win0_2.stage (cfg0.slots t 2)
abbrev stage_3 (t : Fin cfg0.N) : Memref sig .tc .vmem S128x1024 .bf16 := win0_3.stage (cfg0.slots t 3)
abbrev stage_4 (t : Fin cfg0.N) : Memref sig .tc .vmem S1024x1024 .bf16 := win0_4.stage (cfg0.slots t 4)
abbrev stage_5 (t : Fin cfg0.N) : Memref sig .tc .vmem S1024x1024 .bf16 := win0_5.stage (cfg0.slots t 5)
abbrev stage_6 (t : Fin cfg0.N) : Memref sig .tc .vmem S1024x1024 .f32 := win0_6.stage (cfg0.slots t 6)
abbrev stage_7 (t : Fin cfg0.N) : Memref sig .tc .vmem S1024x128 .bf16 := win0_7.stage (cfg0.slots t 7)
/-- The scratch, as the kernel is handed it. -/
abbrev kept : Memref sig .tc .vmem S1024x1024 .bf16 := Memref.whole cc0_scratch0

/-- A tile's first and second points. -/
def base (t : Fin cfg0.N) : Fin cfg0.N := ⟨t.val - t.val % 6, by have := t.isLt; omega⟩
def next (t : Fin cfg0.N) : Fin cfg0.N :=
  ⟨t.val - t.val % 6 + 1, by have h := t.isLt; have e : cfg0.N = 48 := N_0; omega⟩

/-- The rows of a tile, normed, as the scratch holds them. -/
def normed (c : Dev nD) (t : Fin cfg0.N) : Vec F S1024x1024 .bf16 :=
  k0_pay2 (iblk m c 0 (base t)) (iblk m c 1 (base t))

theorem base_congr {t u : Fin cfg0.N} (h : t.val / 6 = u.val / 6) : base t = base u := Fin.ext (by
  show t.val - t.val % 6 = u.val - u.val % 6; omega)

theorem next_congr {t u : Fin cfg0.N} (h : t.val / 6 = u.val / 6) : next t = next u := Fin.ext (by
  show t.val - t.val % 6 + 1 = u.val - u.val % 6 + 1; omega)

/-- What the scratch and the generator register hold before a point. -/
def holds (c : Dev nD) : (n : ℕ) → n ≤ cfg0.N → sProp 𝕄
  | 0, _ => Pipeline.ΦA spec0 c
  | n + 1, hn => iprop(owns (c : Thread nD τ) kept fullShare (normed m c ⟨n, hn⟩) ∗ (∃ r, prngReg c r))

theorem holds_pos (c : Dev nD) (n : ℕ) (h : n ≤ cfg0.N) (hz : n ≠ 0) :
    holds m c n h = iprop(owns (c : Thread nD τ) kept fullShare (normed m c ⟨n - 1, by omega⟩) ∗ (∃ r, prngReg c r)) := by
  cases n with
  | zero => exact absurd rfl hz
  | succ n => rfl

theorem start_eq (c : Dev nD) :
    (Pipeline.ΦA spec0 c : sProp 𝕄)
      = iprop((∃ d, owns (c : Thread nD τ) kept fullShare d) ∗ (∃ r, prngReg c r)) := by
  unfold Pipeline.ΦA; rw [scopedRest0_eq]; simp only [kept, owns_whole]; try rfl

/-- Before any point the scratch holds something. -/
theorem holds_some (c : Dev nD) (n : ℕ) (h : n ≤ cfg0.N) : holds m c n h
    ⊢ iprop((∃ d, owns (c : Thread nD τ) kept fullShare d) ∗ (∃ r, prngReg c r)) := by
  cases n with
  | zero => exact (start_eq (F := F) c) ▸ Idealize.SL.BI.Entails.refl _
  | succ n =>
    unfold holds
    iintro ⟨HS, Hg⟩
    isplitl [HS]
    · iexists _; iexact HS
    iexact Hg

/-- What each window's buffer holds after a point: the inputs their blocks, the results what the tile's first or
    second point stored, or the point itself. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => k0_pay1 (iblk m c 0 (base t)) (iblk m c 1 (base t))
    | ⟨5, _⟩ => k0_pay5 (normed m c t) (X0_2 m c t)
    | ⟨6, _⟩ => k0_pay4 (normed m c t) (X0_2 m c (next t))
    | ⟨7, _⟩ => k0_pay3 (iblk m c 0 (base t)) (iblk m c 1 (base t)) (iblk m c 3 (base t))
  Φ t := holds m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem holds_castSucc (c : Dev nD) (t : Fin cfg0.N) :
    (dats m 0 c).Φ t.castSucc = holds m c t.val (Nat.le_of_lt t.isLt) := by
  dsimp only [dats]; exact Pipeline.Dat.Φ_castSucc (holds m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = X0_2 m c t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = k0_pay1 (iblk m c 0 (base t)) (iblk m c 1 (base t)) := by dsimp only [dats]
theorem after_5 (c : Dev nD) (t : Fin cfg0.N) :
    (dats m 0 c).after 5 t = k0_pay5 (normed m c t) (X0_2 m c t) := by dsimp only [dats]
theorem after_6 (c : Dev nD) (t : Fin cfg0.N) :
    (dats m 0 c).after 6 t = k0_pay4 (normed m c t) (X0_2 m c (next t)) := by dsimp only [dats]
theorem after_7 (c : Dev nD) (t : Fin cfg0.N) : (dats m 0 c).after 7 t
    = k0_pay3 (iblk m c 0 (base t)) (iblk m c 1 (base t)) (iblk m c 3 (base t)) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = X0_2 m c t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- A result stored at the point `s` of a tile is found, at the tile's later points, as that point left it. -/
theorem stays (c : Dev nD) (w : Fin cfg0.W) (s : ℕ) (hout : (cfg0.win w).isOut = true)
    (hflush : ∀ t, (cfg0.win w).flush t = true ↔ t.val % 6 = 5)
    (hidle : ∀ t, cfg0.idle w (grid0.coords t) = !decide (t.val % 6 = s))
    (hkept : ∀ t d, (dats m 0 c).kept w t d = (dats m 0 c).after w t)
    (hsame : ∀ t u : Fin cfg0.N, t.val / 6 = u.val / 6 → (dats m 0 c).after w t = (dats m 0 c).after w u) :
    ∀ (n : ℕ) (hn : n < cfg0.N), s < n % 6 → ∀ d, (dats m 0 c).before w ⟨n, hn⟩ d = (dats m 0 c).after w ⟨n, hn⟩ := by
  intro n
  induction n with
  | zero => intro hn hs; simp at hs
  | succ n ih =>
    intro hn hs d
    have hlt : n < cfg0.N := Nat.lt_of_succ_lt hn
    have hnf : ¬ (cfg0.win w).flush ⟨n, hlt⟩ = true := fun h => by
      have e : n % 6 = 5 := (hflush ⟨n, hlt⟩).mp h
      omega
    have hp := (dats m 0 c).before_of_pos w ⟨n + 1, hn⟩ (Nat.succ_ne_zero n) ((cfg0.win w).fetch_out hout _) d
    have hl : (dats m 0 c).before w ⟨n + 1, hn⟩ d = (dats m 0 c).left w ⟨n, hlt⟩ d := hp.trans (if_neg hnf)
    have hs' : (dats m 0 c).after w ⟨n, hlt⟩ = (dats m 0 c).after w ⟨n + 1, hn⟩ :=
      hsame _ _ (show n / 6 = (n + 1) / 6 by omega)
    rw [hl, ← hs']
    have hi := hidle ⟨n, hlt⟩
    unfold Dat.left
    by_cases hm : n % 6 = s
    · rw [show cfg0.idle w (cfg0.grid.coords ⟨n, hlt⟩) = false from hi.trans (by simp [hm])]
      exact hkept _ d
    · rw [show cfg0.idle w (cfg0.grid.coords ⟨n, hlt⟩) = true from hi.trans (by simp [hm])]
      exact ih hlt (by omega) d

theorem before_4 (c : Dev nD) (t : Fin cfg0.N) (h : 0 < t.val % 6) (d) :
    (dats m 0 c).before 4 t d = (dats m 0 c).after 4 t :=
  stays m c 4 0 rfl flush0_4 idle_4 (fun _ _ => rfl)
    (fun t u e => by rw [after_4, after_4, base_congr e]) t.val t.isLt h d
theorem before_6 (c : Dev nD) (t : Fin cfg0.N) (h : 1 < t.val % 6) (d) :
    (dats m 0 c).before 6 t d = (dats m 0 c).after 6 t :=
  stays m c 6 1 rfl flush0_6 idle_6 (fun _ _ => rfl)
    (fun t u e => by rw [after_6, after_6]; unfold normed; rw [base_congr e, next_congr e]) t.val t.isLt h d
theorem before_7 (c : Dev nD) (t : Fin cfg0.N) (h : 0 < t.val % 6) (d) :
    (dats m 0 c).before 7 t d = (dats m 0 c).after 7 t :=
  stays m c 7 0 rfl flush0_7 idle_7 (fun _ _ => rfl)
    (fun t u e => by rw [after_7, after_7, base_congr e]) t.val t.isLt h d

/-! ## What a point asks of the body -/

/-- A window the point stores into, or writes back, is asked for at what it holds after the point. -/
theorem leaves_after (c : Dev nD) (w : Fin cfg0.W) (t : Fin cfg0.N)
    (h : cfg0.idle w (grid0.coords t) = false ∨ (cfg0.win w).flush t = true) : (dats m 0 c).leavesExact w t
    = owns (c : Thread nD τ) ((cfg0.win w).stage (cfg0.slots t w)) fullShare ((dats m 0 c).after w t) := by
  unfold Dat.leavesExact
  rcases h with h | h
  · rw [show cfg0.idle w (cfg0.grid.coords t) = false from h]
  · rw [h]; cases cfg0.idle w (cfg0.grid.coords t) <;> rfl

/-- A result found as the point is to leave it may be handed back untouched. -/
theorem leaves_found (c : Dev nD) (w : Fin cfg0.W) (t : Fin cfg0.N) (hi : cfg0.idle w (grid0.coords t) = true)
    (hb : (∀ d, (dats m 0 c).before w t d = (dats m 0 c).after w t) ∨ (cfg0.win w).flush t = false) (d) :
    owns (c : Thread nD τ) ((cfg0.win w).stage (cfg0.slots t w)) fullShare ((dats m 0 c).before w t d)
      ⊢ (dats m 0 c).leavesExact w t := by
  by_cases hf : (cfg0.win w).flush t = true
  · rw [leaves_after m c w t (.inr hf), (hb.resolve_right (by simp [hf])) d]
    try exact Idealize.SL.BI.Entails.refl _
  · rw [Dat.leavesExact_idle (dats m 0 c) w t hi (by simpa using hf)]
    iintro H; iexists _; iexact H

def bodyPre (c : Dev nD) (t : Fin cfg0.N) : sProp 𝕄 :=
  iprop((dats m 0 c).Φ t.castSucc ∗ (dats m 0 c).owesAt () t.castSucc
    ∗ (∃ d, owns (c : Thread nD τ) (stage_0 t) fullShare ((dats m 0 c).before 0 t d))
    ∗ (∃ d, owns (c : Thread nD τ) (stage_1 t) fullShare ((dats m 0 c).before 1 t d))
    ∗ (∃ d, owns (c : Thread nD τ) (stage_2 t) fullShare ((dats m 0 c).before 2 t d))
    ∗ (∃ d, owns (c : Thread nD τ) (stage_3 t) fullShare ((dats m 0 c).before 3 t d))
    ∗ (∃ d, owns (c : Thread nD τ) (stage_4 t) fullShare ((dats m 0 c).before 4 t d))
    ∗ (∃ d, owns (c : Thread nD τ) (stage_5 t) fullShare ((dats m 0 c).before 5 t d))
    ∗ (∃ d, owns (c : Thread nD τ) (stage_6 t) fullShare ((dats m 0 c).before 6 t d))
    ∗ (∃ d, owns (c : Thread nD τ) (stage_7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 2000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = iprop(owns (c : Thread nD τ) kept fullShare (normed m c t) ∗ (∃ r, prngReg c r)) from rfl]
  rw [leaves_after m c 0 t (.inl rfl), leaves_after m c 1 t (.inl rfl), leaves_after m c 2 t (.inl rfl),
    leaves_after m c 3 t (.inl rfl), leaves_after m c 5 t (.inl (idle_5 t)), after_0, after_1, after_2, after_3, after_5]
  have hN : t.val < 48 := lt_of_lt_of_eq t.isLt (show cfg0.N = 48 from N_0)
  by_cases h0 : t.val % 6 = 0
  · have hb : base t = t := Fin.ext (by show t.val - t.val % 6 = t.val; omega)
    rw [leaves_after m c 4 t (.inl ((idle_4 t).trans (by simp [h0]))),
      leaves_after m c 7 t (.inl ((idle_7 t).trans (by simp [h0]))), after_4, after_7, holds_castSucc]
    unfold normed
    rw [hb]
    refine (Idealize.SL.BI.BIClass.sep_mono (holds_some m c t.val _) (Idealize.SL.BI.Entails.refl _)).trans ?_
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_first c (grid0.coords t) _ _ _ _ _ _ _ _ _ _ _ _ _ _ _ _ _ _ (iblk m c 0 t) (iblk m c 1 t) (X0_2 m c t) (iblk m c 3 t)
      ((first_iff t).mpr h0) (fun h => by have := (second_iff t).mp h; omega) _ Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexact H6
    isplitl [H7]; · iexists _; iexact H7
    isplitl [HS]; · iexact HS
    iintro ⟨H0, H1, H2, H3, H4, H5, H6, H7, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iapply (leaves_found m c 6 t ((idle_6 t).trans (by simp [h0]))
        (.inr (by have := (flush0_6 t); rw [h0] at this; simpa using this)) d6)
      iexact H6
    iexact H7
  · have hz : t.val ≠ 0 := fun e => h0 (by rw [e])
    rw [holds_castSucc, holds_pos m c _ _ hz]
    rw [show normed m c ⟨t.val - 1, by have := t.isLt; omega⟩ = normed m c t from by
      unfold normed; rw [base_congr (show (t.val - 1) / 6 = t.val / 6 by omega)]]
    by_cases h1 : t.val % 6 = 1
    · have hb : next t = t := Fin.ext (by show t.val - t.val % 6 + 1 = t.val; omega)
      rw [leaves_after m c 6 t (.inl ((idle_6 t).trans (by simp [h1]))), after_6, hb]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_second c (grid0.coords t) _ _ _ _ _ _ _ _ _ _ _ _ _ _ _ _ _ _ (iblk m c 0 t) (iblk m c 1 t) (X0_2 m c t) (iblk m c 3 t)
        (fun h => h0 ((first_iff t).mp h)) ((second_iff t).mpr h1) _ _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexact H7
      isplitl [HS]; · iexact HS
      iintro ⟨H0, H1, H2, H3, H4, H5, H6, H7, HS⟩
      isplitl [HS Hg]
      · isplitl [HS]; · iexact HS
        iexact Hg
      isplitl [Ho]; · iexact Ho
      isplitl [H0]
      · iexact H0
      isplitl [H1]
      · iexact H1
      isplitl [H2]
      · iexact H2
      isplitl [H3]
      · iexact H3
      isplitl [H4]
      · iapply (leaves_found m c 4 t ((idle_4 t).trans (by simp [h0])) (.inl (before_4 m c t (by omega))) d4)
        iexact H4
      isplitl [H5]
      · iexact H5
      isplitl [H6]
      · iexact H6
      iapply (leaves_found m c 7 t ((idle_7 t).trans (by simp [h0])) (.inl (before_7 m c t (by omega))) d7)
      iexact H7
    · iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_later c (grid0.coords t) _ _ _ _ _ _ _ _ _ _ _ _ _ _ _ _ _ _ (iblk m c 0 t) (iblk m c 1 t) (X0_2 m c t) (iblk m c 3 t)
        (fun h => h0 ((first_iff t).mp h)) (fun h => h1 ((second_iff t).mp h)) _ _ _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS]; · iexact HS
      iintro ⟨H0, H1, H2, H3, H4, H5, H6, H7, HS⟩
      isplitl [HS Hg]
      · isplitl [HS]; · iexact HS
        iexact Hg
      isplitl [Ho]; · iexact Ho
      isplitl [H0]
      · iexact H0
      isplitl [H1]
      · iexact H1
      isplitl [H2]
      · iexact H2
      isplitl [H3]
      · iexact H3
      isplitl [H4]
      · iapply (leaves_found m c 4 t ((idle_4 t).trans (by simp [h0])) (.inl (before_4 m c t (by omega))) d4)
        iexact H4
      isplitl [H5]
      · iexact H5
      isplitl [H6]
      · iapply (leaves_found m c 6 t ((idle_6 t).trans (by simp [h1])) (.inl (before_6 m c t (by omega))) d6)
        iexact H6
      iapply (leaves_found m c 7 t ((idle_7 t).trans (by simp [h0])) (.inl (before_7 m c t (by omega))) d7)
      iexact H7

theorem row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]
  try exact Idealize.SL.BI.Entails.refl _

theorem hout (c : Dev nD) : (dats m 0 c).Φ (Fin.last cfg0.N) ⊢ Pipeline.ΦA spec0 c := by
  rw [show (dats m 0 c).Φ (Fin.last cfg0.N) = holds m c cfg0.N (Nat.le_refl _) from rfl, start_eq]
  exact holds_some m c _ _

/-! ## The run -/

set_option backward.isDefEq.respectTransparency.types false in
/-- From any memory with zero counters the program runs to its end, the results written as `dats` says. -/
theorem run_quiescent : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The program changes none of its arguments, and leaves every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

end Cert.InFrame
-- ==== Proof.InForward.lean ====
/- The input projection's forward call: at each tile of 1024 rows the kernel norms the rows and multiplies them by the
   projection's columns, six blocks of 1024 in the order of `Cert.In.src` and a padded one. The results are the
   reference's, over any extended reals. -/
module

public import proofs.«01_k».proof.Proof.InSpec
public import proofs.«01_k».proof.Proof.InFrame
public import Idealize.ShloMosaic.Lib.Pipeline.ValueKit
public import Idealize.ShloMosaic.Lib.Pipeline.ReadBack
public import Idealize.ShloMosaic.Lib.StableHlo.RunRead
public import Idealize.ShloMosaic.Lib.Pointwise
public import Idealize.ShloMosaic.Adequacy
public import Idealize.ShloMosaic.Init
public import proofs.«01_k».proof.Defs
public import proofs.«01_k».proof.Proof.Gen.Kernel14Ideal
public import proofs.«01_k».proof.Proof.Gen.Reference14Ideal
public import proofs.«01_k».proof.Proof.Gen.Reference14Ideal.Read

@[expose] public section

set_option maxRecDepth 16384

noncomputable section

namespace Cert.InForward

open Cert.Kernel14Ideal Cert.Kernel14Ideal.Gen Idealize.ShloMosaic Idealize.ShloMosaic.TcCoe Idealize.SL.Sem Cert.In Cert.InFrame
open Cert.Reference14Ideal.Read

/-- Row `a` of tile `T`. -/
def row (T : Fin 8) (a : Fin 1024) : Fin 8192 := ⟨1024 * T.val + a.val, by omega⟩

/-- Column `k` of the projection as the kernel takes its columns: zeros after the last one. -/
def column (X : S1024x6160.Idx → EReal) (k : ℕ) (i : Fin 1024) : EReal := if h : k < 6160 then X (ix2 i ⟨src k, src_lt k h⟩) else 0

theorem column_eq (X : S1024x6160.Idx → EReal) (k : ℕ) (i : Fin 1024) (J : Fin 6160) (h : k < 6160) (e : src k = J.val) :
    column X k i = X (ix2 i J) := by
  rw [column, dif_pos h]; exact congrArg X (congrArg (ix2 i) (Fin.ext e))

/-- Entry `k` of a row of the reference's product, in that order. -/
def entry (Z : Cert.Reference14Ideal.S8192x6160.Idx → EReal) (r : Fin 8192) (k : ℕ) : EReal := if h : k < 6160 then Z (ix2 r ⟨src k, src_lt k h⟩) else 0

theorem entry_eq (Z : Cert.Reference14Ideal.S8192x6160.Idx → EReal) (r : Fin 8192) (k : ℕ) (J : Fin 6160) (h : k < 6160) (e : src k = J.val) :
    entry Z r k = Z (ix2 r J) := by
  rw [entry, dif_pos h]; exact congrArg Z (congrArg (ix2 r) (Fin.ext e))

section Reference

variable (X0 : FVec Ideal S8192x1024 .f32) (X1 : FVec Ideal S1024 .f32) (X2 : FVec Ideal S1024x6160 .f32)

/-- The product of a normed row and a column, in the kernel's order. -/
theorem product (r : Fin 8192) (k : ℕ) :
    ∑ i : Fin 1024, val_main_v12 (F := Ideal) X0 X1 (ix2 r i) * column X2 k i = entry (val_main_v13 (F := Ideal) X0 X1 X2) r k := by
  unfold entry
  split_ifs with h
  · pointwise [val_main_v13]
    exact Finset.sum_congr rfl fun i _ => by rw [column, dif_pos h]
  · exact Finset.sum_eq_zero fun i _ => by rw [column, dif_neg h, mul_zero]

theorem ref_qk (r : Fin 8192) (j : Fin 1024) :
    val_main_v22 (F := Ideal) X0 X1 X2 (ix2 r j) = entry (val_main_v13 (F := Ideal) X0 X1 X2) r (1024 + j.val) := by
  have hj := j.isLt
  pointwise [val_main_v22, val_main_v14, val_main_v15, val_main_v16, val_main_v17, val_main_v18, val_main_v19, val_main_v20, val_main_v21]
  split_ifs
  any_goals (rename_i hz; exact absurd rfl hz)
  all_goals exact (entry_eq _ _ _ _ (by omega) (by unfold src; (try dsimp only); split_ifs <;> omega)).symm

theorem ref_kept (r : Fin 8192) (k : Fin 6144) :
    val_main_v30 (F := Ideal) X0 X1 X2 (ix2 r k) = entry (val_main_v13 (F := Ideal) X0 X1 X2) r k.val := by
  have hk := k.isLt
  pointwise [val_main_v30, val_main_v26, val_main_v23, val_main_v24, val_main_v25]
  split_ifs
  any_goals (rename_i hz; exact absurd rfl hz)
  · exact (entry_eq _ _ _ _ (by omega) (by unfold src; (try dsimp only); split_ifs <;> omega)).symm
  · refine (ref_qk X0 X1 X2 r ⟨_, by omega⟩).trans (congrArg (entry _ r) ?_)
    first | omega | (dsimp only; omega)
  all_goals exact (entry_eq _ _ _ _ (by omega) (by unfold src; (try dsimp only); split_ifs <;> omega)).symm

theorem pad_value (i : Cert.Reference14Ideal.S_.Idx) : val_main_call0_v0 (F := Ideal) i = 0 := by
  rw [val_main_call0_v0_apply]
  pointwise [val_main_c]
  show (((0#32 : BitVec 32).toInt : ℝ) : EReal) = 0
  simp

theorem ref_low (r : Fin 8192) (j : Fin 128) :
    val_main_v31 (F := Ideal) X0 X1 X2 (ix2 r j) = entry (val_main_v13 (F := Ideal) X0 X1 X2) r (6144 + j.val) := by
  have hj := j.isLt
  pointwise [val_main_v31, val_main_v28, val_main_v27]
  split_ifs
  all_goals first
    | exact (entry_eq _ _ _ _ (by omega) (by unfold src; (try dsimp only); split_ifs <;> omega)).symm
    | (rw [entry, dif_neg (by omega)]; exact pad_value _)

end Reference

section Body

variable {X0 : FVec Ideal S8192x1024 .f32} {X1 : FVec Ideal S1024 .f32} {X2 : FVec Ideal S1024x6160 .f32} {T : Fin 8} {s : ℕ}
  {x0 : Vec Ideal S1024x1024 .f32} {x1 : Vec Ideal S1x1024 .f32}

theorem normed_row (hx : ∀ a i : Fin 1024, x0 (ix2 a i) = X0 (ix2 (row T a) i)) (hg : ∀ (z : Fin 1) (i : Fin 1024), x1 (ix2 z i) = X1 (ix1 i))
    (a i : Fin 1024) : k0_pay1 (F := Ideal) x0 x1 (ix2 a i) = val_main_v12 (F := Ideal) X0 X1 (ix2 (row T a) i) := by
  pointwise [k0_pay1, val_main_v12, val_main_v11, val_main_v10, val_main_v9, val_main_v8, val_main_v7, val_main_v6, val_main_v5, val_main_v4,
    val_main_v3, val_main_v2, val_main_v1, val_main_v0, val_main_cst, val_main_cst_0, val_main_cst_1]
  simp only [hx, hg]

theorem kept_row (hx : ∀ a i : Fin 1024, x0 (ix2 a i) = X0 (ix2 (row T a) i)) (hg : ∀ (z : Fin 1) (i : Fin 1024), x1 (ix2 z i) = X1 (ix1 i))
    (a i : Fin 1024) : k0_pay2 (F := Ideal) x0 x1 (ix2 a i) = val_main_v12 (F := Ideal) X0 X1 (ix2 (row T a) i) := by
  refine Eq.trans ?_ (normed_row hx hg a i)
  pointwise [k0_pay2]

theorem times {n w : Vec Ideal S1024x1024 .bf16} (hn : ∀ a i : Fin 1024, n (ix2 a i) = val_main_v12 (F := Ideal) X0 X1 (ix2 (row T a) i))
    (hw : ∀ j i : Fin 1024, w (ix2 j i) = column X2 (1024 * s + j.val) i) (a j : Fin 1024) :
    k0_pay4 (F := Ideal) n w (ix2 a j) = entry (val_main_v13 (F := Ideal) X0 X1 X2) (row T a) (1024 * s + j.val) := by
  refine Eq.trans ?_ (product X0 X1 X2 (row T a) (1024 * s + j.val))
  pointwise [k0_pay4]
  simp only [hn, hw]

theorem times_rounded {n w : Vec Ideal S1024x1024 .bf16} (hn : ∀ a i : Fin 1024, n (ix2 a i) = val_main_v12 (F := Ideal) X0 X1 (ix2 (row T a) i))
    (hw : ∀ j i : Fin 1024, w (ix2 j i) = column X2 (1024 * s + j.val) i) (a j : Fin 1024) :
    k0_pay5 (F := Ideal) n w (ix2 a j) = entry (val_main_v13 (F := Ideal) X0 X1 X2) (row T a) (1024 * s + j.val) := by
  refine Eq.trans ?_ (times hn hw a j)
  pointwise [k0_pay5]

theorem tail {w : Vec Ideal S128x1024 .bf16} (hx : ∀ a i : Fin 1024, x0 (ix2 a i) = X0 (ix2 (row T a) i)) (hg : ∀ (z : Fin 1) (i : Fin 1024), x1 (ix2 z i) = X1 (ix1 i))
    (hw : ∀ (j : Fin 128) (i : Fin 1024), w (ix2 j i) = column X2 (6144 + j.val) i) (a : Fin 1024) (j : Fin 128) :
    k0_pay3 (F := Ideal) x0 x1 w (ix2 a j) = entry (val_main_v13 (F := Ideal) X0 X1 X2) (row T a) (6144 + j.val) := by
  refine Eq.trans ?_ (product X0 X1 X2 (row T a) (6144 + j.val))
  pointwise [k0_pay3]
  simp only [normed_row hx hg, hw]

end Body

section Blocks

variable {m : (ℓ : Loc nD τ sig) → Buf (Elt Ideal) ℓ} {c : Dev nD}

/-- The arguments' arrays. -/
abbrev arrX (m : (ℓ : Loc nD τ sig) → Buf (Elt Ideal) ℓ) (c : Dev nD) : FVec Ideal S8192x1024 .f32 := m ((c : Thread nD τ).loc main_arg0)
abbrev arrG (m : (ℓ : Loc nD τ sig) → Buf (Elt Ideal) ℓ) (c : Dev nD) : FVec Ideal S1024 .f32 := m ((c : Thread nD τ).loc main_arg1)
abbrev arrW (m : (ℓ : Loc nD τ sig) → Buf (Elt Ideal) ℓ) (c : Dev nD) : FVec Ideal S1024x6160 .f32 := m ((c : Thread nD τ).loc main_arg2)

/-- The arrays on the host before its operation number `n`. -/
abbrev before (m : (ℓ : Loc nD τ sig) → Buf (Elt Ideal) ℓ) (c : Dev nD) (n : ℕ) : Valuation τ sig (Elt Ideal) :=
  StableHlo.upto hostOps0 (fun b => m (c, b)) n

/-- The queries' and the keys' eight heads, one below the other. -/
theorem join_heads {g : ℕ → Fin 1024 → EReal} {a0 : Vec Ideal S128x1024 .bf16} {a1 : Vec Ideal S128x1024 .bf16} {a2 : Vec Ideal S128x1024 .bf16} {a3 : Vec Ideal S128x1024 .bf16} {a4 : Vec Ideal S128x1024 .bf16} {a5 : Vec Ideal S128x1024 .bf16} {a6 : Vec Ideal S128x1024 .bf16} {a7 : Vec Ideal S128x1024 .bf16} (hc : Shape.Concatenates [S128x1024, S128x1024, S128x1024, S128x1024, S128x1024, S128x1024, S128x1024, S128x1024] S1024x1024 0)
    (h0 : ∀ (z : Fin 128) (i : Fin 1024), a0 (ix2 z i) = g (1024 + z.val) i)
    (h1 : ∀ (z : Fin 128) (i : Fin 1024), a1 (ix2 z i) = g (1152 + z.val) i)
    (h2 : ∀ (z : Fin 128) (i : Fin 1024), a2 (ix2 z i) = g (1280 + z.val) i)
    (h3 : ∀ (z : Fin 128) (i : Fin 1024), a3 (ix2 z i) = g (1408 + z.val) i)
    (h4 : ∀ (z : Fin 128) (i : Fin 1024), a4 (ix2 z i) = g (1536 + z.val) i)
    (h5 : ∀ (z : Fin 128) (i : Fin 1024), a5 (ix2 z i) = g (1664 + z.val) i)
    (h6 : ∀ (z : Fin 128) (i : Fin 1024), a6 (ix2 z i) = g (1792 + z.val) i)
    (h7 : ∀ (z : Fin 128) (i : Fin 1024), a7 (ix2 z i) = g (1920 + z.val) i)
    (k : Fin 1024) (i : Fin 1024) : concatenate S1024x1024 0 [⟨S128x1024, a0⟩, ⟨S128x1024, a1⟩, ⟨S128x1024, a2⟩, ⟨S128x1024, a3⟩, ⟨S128x1024, a4⟩, ⟨S128x1024, a5⟩, ⟨S128x1024, a6⟩, ⟨S128x1024, a7⟩] hc (ix2 k i) = g (1024 + k.val) i := by
  have hk := k.isLt
  pointwise
  split_ifs
  any_goals (rename_i hz; exact absurd rfl hz)
  · exact (h0 ⟨_, by omega⟩ i).trans (congrArg (fun q : ℕ => g q i) (by first | omega | (dsimp only; omega) | dsimp only))
  · exact (h1 ⟨_, by omega⟩ i).trans (congrArg (fun q : ℕ => g q i) (by first | omega | (dsimp only; omega) | dsimp only))
  · exact (h2 ⟨_, by omega⟩ i).trans (congrArg (fun q : ℕ => g q i) (by first | omega | (dsimp only; omega) | dsimp only))
  · exact (h3 ⟨_, by omega⟩ i).trans (congrArg (fun q : ℕ => g q i) (by first | omega | (dsimp only; omega) | dsimp only))
  · exact (h4 ⟨_, by omega⟩ i).trans (congrArg (fun q : ℕ => g q i) (by first | omega | (dsimp only; omega) | dsimp only))
  · exact (h5 ⟨_, by omega⟩ i).trans (congrArg (fun q : ℕ => g q i) (by first | omega | (dsimp only; omega) | dsimp only))
  · exact (h6 ⟨_, by omega⟩ i).trans (congrArg (fun q : ℕ => g q i) (by first | omega | (dsimp only; omega) | dsimp only))
  · exact (h7 ⟨_, by omega⟩ i).trans (congrArg (fun q : ℕ => g q i) (by first | omega | (dsimp only; omega) | dsimp only))

/-- The seven pieces of the projection. -/
theorem join_blocks {g : ℕ → Fin 1024 → EReal} {a0 : Vec Ideal S1024x1024 .bf16} {a1 : Vec Ideal S1024x1024 .bf16} {a2 : Vec Ideal S1024x1024 .bf16} {a3 : Vec Ideal S1024x1024 .bf16} {a4 : Vec Ideal S1024x1024 .bf16} {a5 : Vec Ideal S1024x1024 .bf16} {a6 : Vec Ideal S128x1024 .bf16} (hc : Shape.Concatenates [S1024x1024, S1024x1024, S1024x1024, S1024x1024, S1024x1024, S1024x1024, S128x1024] S6272x1024 0)
    (h0 : ∀ (z : Fin 1024) (i : Fin 1024), a0 (ix2 z i) = g (0 + z.val) i)
    (h1 : ∀ (z : Fin 1024) (i : Fin 1024), a1 (ix2 z i) = g (1024 + z.val) i)
    (h2 : ∀ (z : Fin 1024) (i : Fin 1024), a2 (ix2 z i) = g (2048 + z.val) i)
    (h3 : ∀ (z : Fin 1024) (i : Fin 1024), a3 (ix2 z i) = g (3072 + z.val) i)
    (h4 : ∀ (z : Fin 1024) (i : Fin 1024), a4 (ix2 z i) = g (4096 + z.val) i)
    (h5 : ∀ (z : Fin 1024) (i : Fin 1024), a5 (ix2 z i) = g (5120 + z.val) i)
    (h6 : ∀ (z : Fin 128) (i : Fin 1024), a6 (ix2 z i) = g (6144 + z.val) i)
    (k : Fin 6272) (i : Fin 1024) : concatenate S6272x1024 0 [⟨S1024x1024, a0⟩, ⟨S1024x1024, a1⟩, ⟨S1024x1024, a2⟩, ⟨S1024x1024, a3⟩, ⟨S1024x1024, a4⟩, ⟨S1024x1024, a5⟩, ⟨S128x1024, a6⟩] hc (ix2 k i) = g k.val i := by
  have hk := k.isLt
  pointwise
  split_ifs
  any_goals (rename_i hz; exact absurd rfl hz)
  · exact (h0 ⟨_, by omega⟩ i).trans (congrArg (fun q : ℕ => g q i) (by first | omega | (dsimp only; omega) | dsimp only))
  · exact (h1 ⟨_, by omega⟩ i).trans (congrArg (fun q : ℕ => g q i) (by first | omega | (dsimp only; omega) | dsimp only))
  · exact (h2 ⟨_, by omega⟩ i).trans (congrArg (fun q : ℕ => g q i) (by first | omega | (dsimp only; omega) | dsimp only))
  · exact (h3 ⟨_, by omega⟩ i).trans (congrArg (fun q : ℕ => g q i) (by first | omega | (dsimp only; omega) | dsimp only))
  · exact (h4 ⟨_, by omega⟩ i).trans (congrArg (fun q : ℕ => g q i) (by first | omega | (dsimp only; omega) | dsimp only))
  · exact (h5 ⟨_, by omega⟩ i).trans (congrArg (fun q : ℕ => g q i) (by first | omega | (dsimp only; omega) | dsimp only))
  · exact (h6 ⟨_, by omega⟩ i).trans (congrArg (fun q : ℕ => g q i) (by first | omega | (dsimp only; omega) | dsimp only))

/-- The heads, as the host cuts them. -/
theorem heads :
    (∀ (z : Fin 128) (i : Fin 1024), (before m c 11 (Proc.tc.devRef main_v2) : S128x1024.Idx → EReal) (ix2 z i) = column (arrW m c) (1024 + z.val) i)
    ∧ (∀ (z : Fin 128) (i : Fin 1024), (before m c 11 (Proc.tc.devRef main_v3) : S128x1024.Idx → EReal) (ix2 z i) = column (arrW m c) (1152 + z.val) i)
    ∧ (∀ (z : Fin 128) (i : Fin 1024), (before m c 11 (Proc.tc.devRef main_v4) : S128x1024.Idx → EReal) (ix2 z i) = column (arrW m c) (1280 + z.val) i)
    ∧ (∀ (z : Fin 128) (i : Fin 1024), (before m c 11 (Proc.tc.devRef main_v5) : S128x1024.Idx → EReal) (ix2 z i) = column (arrW m c) (1408 + z.val) i)
    ∧ (∀ (z : Fin 128) (i : Fin 1024), (before m c 11 (Proc.tc.devRef main_v6) : S128x1024.Idx → EReal) (ix2 z i) = column (arrW m c) (1536 + z.val) i)
    ∧ (∀ (z : Fin 128) (i : Fin 1024), (before m c 11 (Proc.tc.devRef main_v7) : S128x1024.Idx → EReal) (ix2 z i) = column (arrW m c) (1664 + z.val) i)
    ∧ (∀ (z : Fin 128) (i : Fin 1024), (before m c 11 (Proc.tc.devRef main_v8) : S128x1024.Idx → EReal) (ix2 z i) = column (arrW m c) (1792 + z.val) i)
    ∧ (∀ (z : Fin 128) (i : Fin 1024), (before m c 11 (Proc.tc.devRef main_v9) : S128x1024.Idx → EReal) (ix2 z i) = column (arrW m c) (1920 + z.val) i) := by
  refine ⟨?_, ?_, ?_, ?_, ?_, ?_, ?_, ?_⟩ <;> intro z i <;> unfold_abbrev_sides <;> after_reads_simp <;> pointwise <;> try split_ifs
  all_goals first
    | exact (column_eq _ _ _ _ (by omega) (by unfold src; (try dsimp only); split_ifs <;> omega)).symm
    | (rw [column, dif_neg (by omega)] <;> rfl)

theorem w1 (k i : Fin 1024) : (before m c 20 (Proc.tc.devRef main_v11) : S1024x1024.Idx → EReal) (ix2 k i) = column (arrW m c) (1024 + k.val) i := by
  unfold before
  simp only [StableHlo.readUpto]
  rw [StableHlo.nary_result']
  obtain ⟨h0, h1, h2, h3, h4, h5, h6, h7⟩ := heads (m := m) (c := c)
  exact join_heads _ h0 h1 h2 h3 h4 h5 h6 h7 k i

/-- The other pieces. -/
theorem pieces :
    (∀ (z : Fin 1024) (i : Fin 1024), (before m c 20 (Proc.tc.devRef main_v10) : S1024x1024.Idx → EReal) (ix2 z i) = column (arrW m c) (0 + z.val) i)
    ∧ (∀ (z : Fin 1024) (i : Fin 1024), (before m c 20 (Proc.tc.devRef main_v12) : S1024x1024.Idx → EReal) (ix2 z i) = column (arrW m c) (2048 + z.val) i)
    ∧ (∀ (z : Fin 1024) (i : Fin 1024), (before m c 20 (Proc.tc.devRef main_v13) : S1024x1024.Idx → EReal) (ix2 z i) = column (arrW m c) (3072 + z.val) i)
    ∧ (∀ (z : Fin 1024) (i : Fin 1024), (before m c 20 (Proc.tc.devRef main_v14) : S1024x1024.Idx → EReal) (ix2 z i) = column (arrW m c) (4096 + z.val) i)
    ∧ (∀ (z : Fin 1024) (i : Fin 1024), (before m c 20 (Proc.tc.devRef main_v15) : S1024x1024.Idx → EReal) (ix2 z i) = column (arrW m c) (5120 + z.val) i)
    ∧ (∀ (z : Fin 128) (i : Fin 1024), (before m c 20 (Proc.tc.devRef main_v18) : S128x1024.Idx → EReal) (ix2 z i) = column (arrW m c) (6144 + z.val) i) := by
  refine ⟨?_, ?_, ?_, ?_, ?_, ?_⟩ <;> intro z i <;> unfold_abbrev_sides <;> after_reads_simp <;> pointwise <;> try split_ifs
  all_goals first
    | exact (column_eq _ _ _ _ (by omega) (by unfold src; (try dsimp only); split_ifs <;> omega)).symm
    | (rw [column, dif_neg (by omega)] <;> rfl)

theorem weight (k : Fin 6272) (i : Fin 1024) : (V m c main_v19 : S6272x1024.Idx → EReal) (ix2 k i) = column (arrW m c) k.val i := by
  unfold_abbrev_sides
  simp only [StableHlo.readAfter]
  rw [StableHlo.nary_result']
  obtain ⟨h0, h2, h3, h4, h5, h6⟩ := pieces (m := m) (c := c)
  exact join_blocks _ h0 w1 h2 h3 h4 h5 h6 k i

theorem gain (z : Fin 1) (i : Fin 1024) : (V m c main_v20 : S1x1024.Idx → EReal) (ix2 z i) = arrG m c (ix1 i) := by
  unfold_abbrev_sides
  after_reads_simp
  pointwise

theorem index_in : ∀ t : Fin cfg0.N, win0_0.index t = ![t.val / 6, 0] ∧ win0_1.index t = ![0, 0] ∧ win0_2.index t = ![t.val % 6, 0]
    ∧ win0_3.index t = ![48, 0] := by decide +kernel
theorem index_out : ∀ t : Fin cfg0.N, win0_4.index t = ![t.val / 6, 0] ∧ win0_5.index t = ![t.val / 6, t.val % 6]
    ∧ win0_6.index t = ![t.val / 6, 0] ∧ win0_7.index t = ![t.val / 6, 0] := by decide +kernel

/-- The tile of a point. -/
def tile (t : Fin cfg0.N) : Fin 8 := ⟨t.val / 6, by have h : t.val < 48 := t.isLt; omega⟩

theorem tile_base (t : Fin cfg0.N) : tile (base t) = tile t := Fin.ext (by
  show (t.val - t.val % 6) / 6 = t.val / 6; omega)

theorem b_x (t : Fin cfg0.N) (a i : Fin 1024) : (iblk m c 0 t : S1024x1024.Idx → EReal) (ix2 a i) = arrX m c (ix2 (row (tile t) a) i) := by
  have e : iblk m c 0 t (ix2 a i) = V m c main_arg0 (ix2 (row (tile t) a) i) := by
    blk_ext [iblk, index_in t, row, tile]
  exact e.trans (congrFun (V_main_arg0 m c) _)

theorem b_g (t : Fin cfg0.N) (z : Fin 1) (i : Fin 1024) : (iblk m c 1 t : S1x1024.Idx → EReal) (ix2 z i) = arrG m c (ix1 i) := by
  have e : iblk m c 1 t (ix2 z i) = V m c main_v20 (ix2 z i) := by
    blk_ext [iblk, index_in t]
  exact e.trans (gain z i)

theorem b_w (t : Fin cfg0.N) (j i : Fin 1024) : (X0_2 m c t : S1024x1024.Idx → EReal) (ix2 j i) = column (arrW m c) (1024 * (t.val % 6) + j.val) i := by
  have ht : t.val < 48 := t.isLt
  have e : X0_2 m c t (ix2 j i) = V m c main_v19 (ix2 (⟨1024 * (t.val % 6) + j.val, by omega⟩ : Fin 6272) i) := by
    unfold X0_2 Pipeline.Window.fill
    rw [dif_pos (moved0_2 t _)]
    blk_ext [iblk, index_in t]
  exact e.trans (weight _ i)

theorem b_t (t : Fin cfg0.N) (j : Fin 128) (i : Fin 1024) : (iblk m c 3 t : S128x1024.Idx → EReal) (ix2 j i) = column (arrW m c) (6144 + j.val) i := by
  have e : iblk m c 3 t (ix2 j i) = V m c main_v19 (ix2 (⟨6144 + j.val, by omega⟩ : Fin 6272) i) := by
    blk_ext [iblk, index_in t]
  exact e.trans (weight _ i)

theorem rows (t : Fin cfg0.N) (a i : Fin 1024) :
    normed m c t (ix2 a i) = val_main_v12 (F := Ideal) (arrX m c) (arrG m c) (ix2 (row (tile t) a) i) := by
  unfold normed
  rw [← tile_base t]
  exact kept_row (b_x _) (b_g _) a i

/-! ## The results -/

theorem point4 (t : Fin cfg0.N) (a i : Fin 1024) : k0_pay1 (F := Ideal) (iblk m c 0 (base t)) (iblk m c 1 (base t)) (ix2 a i)
    = val_main_v29 (F := Ideal) (arrX m c) (arrG m c) (ix2 (row (tile t) a) i) := by
  rw [← tile_base t]
  refine (normed_row (b_x (m := m) (c := c) (base t)) (b_g (base t)) a i).trans ?_
  pointwise [val_main_v29]

theorem point5 (t : Fin cfg0.N) (a i : Fin 1024) : k0_pay5 (F := Ideal) (normed m c t) (X0_2 m c t) (ix2 a i)
    = val_main_v30 (F := Ideal) (arrX m c) (arrG m c) (arrW m c) (ix2 (row (tile t) a) ⟨1024 * (t.val % 6) + i.val, by omega⟩) :=
  (times_rounded (rows t) (b_w t) a i).trans (ref_kept _ _ _ _ ⟨1024 * (t.val % 6) + i.val, by omega⟩).symm

theorem next_mod (t : Fin cfg0.N) : (next t).val % 6 = 1 := by
  show (t.val - t.val % 6 + 1) % 6 = 1; omega

theorem point6 (t : Fin cfg0.N) (a i : Fin 1024) : k0_pay4 (F := Ideal) (normed m c t) (X0_2 m c (next t)) (ix2 a i)
    = val_main_v22 (F := Ideal) (arrX m c) (arrG m c) (arrW m c) (ix2 (row (tile t) a) i) := by
  refine (times (X2 := arrW m c) (s := 1) (rows t) (fun j k => ?_) a i).trans (ref_qk _ _ _ _ i).symm
  have h := b_w (m := m) (c := c) (next t) j k
  rw [next_mod] at h
  exact h

theorem point7 (t : Fin cfg0.N) (a : Fin 1024) (i : Fin 128) :
    k0_pay3 (F := Ideal) (iblk m c 0 (base t)) (iblk m c 1 (base t)) (iblk m c 3 (base t)) (ix2 a i)
      = val_main_v31 (F := Ideal) (arrX m c) (arrG m c) (arrW m c) (ix2 (row (tile t) a) i) := by
  rw [← tile_base t]
  exact (tail (b_x (base t)) (b_g (base t)) (b_t (base t)) a i).trans (ref_low _ _ _ _ i).symm

theorem out4 : (dats m 0 c).arrAt 4 cfg0.N = (val_main_v29 (F := Ideal) (arrX m c) (arrG m c) : S8192x1024.Idx → EReal) := by
  refine (dats m 0 c).arrAt_eq_of_covers 4 _ (by decide +kernel) fun t hf y => ?_
  blk_simp
  rw [after_4]
  obtain ⟨a, i, rfl⟩ : ∃ (a : Fin 1024) (i : Fin 1024), y = ix2 a i := ⟨y 0, y 1, ValueIdx.eq_ix2 y⟩
  refine (point4 t a i).trans ?_
  have e0 : win0_4.index t 0 = t.val / 6 := by rw [(index_out t).1]; rfl
  have e1 : win0_4.index t 1 = 0 := by rw [(index_out t).1]; rfl
  refine congrArg (val_main_v29 (F := Ideal) (arrX m c) (arrG m c) : S8192x1024.Idx → EReal) ?_
  funext d
  match d with
  | ⟨0, _⟩ =>
    refine Fin.ext ?_
    blk_simp
    show 1024 * (t.val / 6) + a.val = win0_4.index t 0 * 1024 + a.val
    rw [e0]; omega
  | ⟨1, _⟩ =>
    refine Fin.ext ?_
    blk_simp
    show i.val = win0_4.index t 1 * 1024 + i.val
    rw [e1]; omega

theorem out5 : (dats m 0 c).arrAt 5 cfg0.N = (val_main_v30 (F := Ideal) (arrX m c) (arrG m c) (arrW m c) : S8192x6144.Idx → EReal) := by
  refine (dats m 0 c).arrAt_eq_of_covers 5 _ (by decide +kernel) fun t hf y => ?_
  blk_simp
  rw [after_5]
  obtain ⟨a, i, rfl⟩ : ∃ (a : Fin 1024) (i : Fin 1024), y = ix2 a i := ⟨y 0, y 1, ValueIdx.eq_ix2 y⟩
  refine (point5 t a i).trans ?_
  have e0 : win0_5.index t 0 = t.val / 6 := by rw [(index_out t).2.1]; rfl
  have e1 : win0_5.index t 1 = t.val % 6 := by rw [(index_out t).2.1]; rfl
  refine congrArg (val_main_v30 (F := Ideal) (arrX m c) (arrG m c) (arrW m c) : S8192x6144.Idx → EReal) ?_
  funext d
  match d with
  | ⟨0, _⟩ =>
    refine Fin.ext ?_
    blk_simp
    show 1024 * (t.val / 6) + a.val = win0_5.index t 0 * 1024 + a.val
    rw [e0]; omega
  | ⟨1, _⟩ =>
    refine Fin.ext ?_
    blk_simp
    show 1024 * (t.val % 6) + i.val = win0_5.index t 1 * 1024 + i.val
    rw [e1]; omega

theorem out6 : (dats m 0 c).arrAt 6 cfg0.N = (val_main_v22 (F := Ideal) (arrX m c) (arrG m c) (arrW m c) : S8192x1024.Idx → EReal) := by
  refine (dats m 0 c).arrAt_eq_of_covers 6 _ (by decide +kernel) fun t hf y => ?_
  blk_simp
  rw [after_6]
  obtain ⟨a, i, rfl⟩ : ∃ (a : Fin 1024) (i : Fin 1024), y = ix2 a i := ⟨y 0, y 1, ValueIdx.eq_ix2 y⟩
  refine (point6 t a i).trans ?_
  have e0 : win0_6.index t 0 = t.val / 6 := by rw [(index_out t).2.2.1]; rfl
  have e1 : win0_6.index t 1 = 0 := by rw [(index_out t).2.2.1]; rfl
  refine congrArg (val_main_v22 (F := Ideal) (arrX m c) (arrG m c) (arrW m c) : S8192x1024.Idx → EReal) ?_
  funext d
  match d with
  | ⟨0, _⟩ =>
    refine Fin.ext ?_
    blk_simp
    show 1024 * (t.val / 6) + a.val = win0_6.index t 0 * 1024 + a.val
    rw [e0]; omega
  | ⟨1, _⟩ =>
    refine Fin.ext ?_
    blk_simp
    show i.val = win0_6.index t 1 * 1024 + i.val
    rw [e1]; omega

theorem out7 : (dats m 0 c).arrAt 7 cfg0.N = (val_main_v31 (F := Ideal) (arrX m c) (arrG m c) (arrW m c) : S8192x128.Idx → EReal) := by
  refine (dats m 0 c).arrAt_eq_of_covers 7 _ (by decide +kernel) fun t hf y => ?_
  blk_simp
  rw [after_7]
  obtain ⟨a, i, rfl⟩ : ∃ (a : Fin 1024) (i : Fin 128), y = ix2 a i := ⟨y 0, y 1, ValueIdx.eq_ix2 y⟩
  refine (point7 t a i).trans ?_
  have e0 : win0_7.index t 0 = t.val / 6 := by rw [(index_out t).2.2.2]; rfl
  have e1 : win0_7.index t 1 = 0 := by rw [(index_out t).2.2.2]; rfl
  refine congrArg (val_main_v31 (F := Ideal) (arrX m c) (arrG m c) (arrW m c) : S8192x128.Idx → EReal) ?_
  funext d
  match d with
  | ⟨0, _⟩ =>
    refine Fin.ext ?_
    blk_simp
    show 1024 * (t.val / 6) + a.val = win0_7.index t 0 * 1024 + a.val
    rw [e0]; omega
  | ⟨1, _⟩ =>
    refine Fin.ext ?_
    blk_simp
    show i.val = win0_7.index t 1 * 128 + i.val
    rw [e1]; omega

end Blocks

/-- The results after the run, and the arguments. -/
theorem run_blocks (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v21_0) = (dats m 0 c).arrAt 4 cfg0.N
      ∧ r.2.mem ((c : Thread nD τ).loc main_v21_1) = (dats m 0 c).arrAt 5 cfg0.N
      ∧ r.2.mem ((c : Thread nD τ).loc main_v21_2) = (dats m 0 c).arrAt 6 cfg0.N
      ∧ r.2.mem ((c : Thread nD τ).loc main_v21_3) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 4, (h c).1 5, (h c).1 6, (h c).1 7,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m ρ)

theorem reference : Cert.quiescent_Reference14Ideal (hReference14Ideal := Cert.Reference14Ideal.Gen.facts) := fun m ρ _ =>
  (θ_run Cert.Reference14Ideal.defs _ _).mono (fun r h => ⟨fun c => (h c).2.2.2.2, Idealize.ShloMosaic.sem_eq_zero_of_no_sems (by decide) r.2⟩)
    (Cert.Reference14Ideal.Value.run (F := Ideal) m ρ)

set_option maxHeartbeats 800000 in
/-- The kernel and the reference compute the same arrays, of any arguments. -/
theorem algebraic : Cert.algebraic_Kernel14Ideal_Reference14Ideal (hKernel14Ideal := Cert.Kernel14Ideal.Gen.facts) (hReference14Ideal := Cert.Reference14Ideal.Gen.facts) := by
  pair_intro
  · run_from run_blocks m g
  · refine (θ_run Cert.Reference14Ideal.defs _ _).mono (fun r h c => ?_) (Cert.Reference14Ideal.Value.run (F := Ideal) m' g')
    obtain ⟨h0, h1, h2, h3, hk⟩ := h c
    obtain ⟨e0, e1, e2⟩ := hagree c
    refine ⟨(h0.trans (val_main_v29_eq ..)).trans ?_, (h1.trans (val_main_v30_eq ..)).trans ?_, (h2.trans (val_main_v22_eq ..)).trans ?_, (h3.trans (val_main_v31_eq ..)).trans ?_, hk⟩
    · rw [e0, e1]
      exact (out4 (m := m) (c := c)).symm
    · rw [e0, e1, e2]
      exact (out5 (m := m) (c := c)).symm
    · rw [e0, e1, e2]
      exact (out6 (m := m) (c := c)).symm
    · rw [e0, e1, e2]
      exact (out7 (m := m) (c := c)).symm

end Cert.InForward
-- ==== Proof.SmallUpdate.lean ====
/- The optimiser's step on the small weights, packed into one array: the kernel has no grid and computes entry by entry. Its
   three results are the reference's, of any arguments. -/
module

public import Idealize.ShloMosaic.Lib.Pipeline.ValueKit
public import Idealize.ShloMosaic.Lib.StableHlo.RunRead
public import Idealize.ShloMosaic.Lib.Pointwise
public import Idealize.ShloMosaic.Adequacy
public import Idealize.ShloMosaic.Init
public import proofs.«01_k».proof.Defs
public import proofs.«01_k».proof.Proof.Gen.Kernel15Ideal
public import proofs.«01_k».proof.Proof.Gen.Kernel15Ideal.Value
public import proofs.«01_k».proof.Proof.Gen.Reference15Ideal
public import proofs.«01_k».proof.Proof.Gen.Reference15Ideal.Read

@[expose] public section

set_option maxRecDepth 16384

noncomputable section

namespace Cert.SmallUpdate

open Cert.Kernel15Ideal Cert.Kernel15Ideal.Gen Idealize.ShloMosaic Idealize.ShloMosaic.TcCoe Idealize.SL.Sem Cert.Reference15Ideal.Read

variable (g w a b : FVec Ideal S1184x128 .f32)

theorem step (i : S1184x128.Idx) : Value.G4 (F := Ideal) w g a b i = val_main_v23 (F := Ideal) g w a b i := by
  pointwise [Value.G4, val_main_v23, val_main_v22, val_main_v21, val_main_v20, val_main_v19, val_main_v18, val_main_v17, val_main_v16, val_main_v15,
    val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, val_main_cst_2,
    val_main_cst_3, val_main_cst_4, val_main_cst_5, val_main_cst_6, val_main_cst_7]

theorem first_moment (i : S1184x128.Idx) : Value.G5 (F := Ideal) g a i = val_main_v4 (F := Ideal) g a i := by
  pointwise [Value.G5, val_main_v4, val_main_v3, val_main_v2, val_main_v1, val_main_v0, val_main_cst, val_main_cst_0]

theorem second_moment (i : S1184x128.Idx) : Value.G6 (F := Ideal) g b i = val_main_v10 (F := Ideal) g b i := by
  pointwise [Value.G6, val_main_v10, val_main_v9, val_main_v8, val_main_v7, val_main_v6, val_main_v5, val_main_cst_1, val_main_cst_2]

theorem reference : Cert.quiescent_Reference15Ideal (hReference15Ideal := Cert.Reference15Ideal.Gen.facts) := fun m ρ _ =>
  (θ_run Cert.Reference15Ideal.defs _ _).mono (fun r h => ⟨fun c => (h c).2.2.2, Idealize.ShloMosaic.sem_eq_zero_of_no_sems (by decide) r.2⟩)
    (Cert.Reference15Ideal.Value.run (F := Ideal) m ρ)

set_option maxHeartbeats 800000 in
/-- The kernel and the reference compute the same arrays, of any arguments. -/
theorem algebraic : Cert.algebraic_Kernel15Ideal_Reference15Ideal (hKernel15Ideal := Cert.Kernel15Ideal.Gen.facts) (hReference15Ideal := Cert.Reference15Ideal.Gen.facts) := by
  pair_intro
  · run_from Value.run m g
  · refine (θ_run Cert.Reference15Ideal.defs _ _).mono (fun r h c => ?_) (Cert.Reference15Ideal.Value.run (F := Ideal) m' g')
    obtain ⟨h0, h1, h2, hk⟩ := h c
    obtain ⟨e0, e1, e2, e3⟩ := hagree c
    refine ⟨(h0.trans (val_main_v23_eq ..)).trans ?_, (h1.trans (val_main_v4_eq ..)).trans ?_, (h2.trans (val_main_v10_eq ..)).trans ?_, hk⟩
    · rw [e0, e1, e2, e3]
      exact (funext fun i => step _ _ _ _ i).symm
    · rw [e0, e2]
      exact (funext fun i => first_moment _ _ i).symm
    · rw [e0, e3]
      exact (funext fun i => second_moment _ _ i).symm

end Cert.SmallUpdate
-- ==== Proof.UpRun.lean ====
/- The up projection's forward call: what the body leaves at a grid point. A tile's first point writes the normed rows,
   which its second finds in the kernel's scratch; every point multiplies them by its own columns and convolves the
   products down the rows, the last rows of the tile before kept in a second scratch. -/
module

public import proofs.«01_k».proof.Proof.Gen.Kernel16Ideal.Skeleton
public import proofs.«01_k».proof.Proof.Gen.Kernel16Ideal.Frame
public import Idealize.ShloMosaic.Lib.Pipeline.ReadBack
public import Idealize.ShloMosaic.Lib.VecWindow

@[expose] public section

set_option maxRecDepth 16384

noncomputable section

namespace Cert.UpRun

open Cert.Kernel16Ideal Cert.Kernel16Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.VecWindow
open Idealize.ShloMosaic.Pipeline (Dat Cfg Window BodyObligation cellOf)

variable {F : FTy → Type} [FloatOps F] [Named F]

local notation "𝕄" => MT nD τ sig Unit (Elt F) ℕ (UR sig nD τ) ℕ

/-- The conditions of the body's two branches, and the points at which they hold. -/
abbrev first (i : grid0.Coords) : Prop := k0_cond1 i = 1#1
abbrev start (i : grid0.Coords) : Prop := k0_cond2 i = 1#1

theorem first_iff : ∀ t : Fin cfg0.N, first (grid0.coords t) ↔ t.val % 2 = 0 := by decide +kernel
theorem start_iff : ∀ t : Fin cfg0.N, start (grid0.coords t) ↔ t.val < 2 := by decide +kernel

/-- The kept rows at a point's columns: cleared, then those of the gate's half, then those of the other half. -/
def cleared (i : grid0.Coords) (z : Vec F S2x2x8x1408 .f32) : Vec F S2x2x8x1408 .f32 :=
  put z (k0_off1 i) S1x2x8x1408.size (k0_pay6 (F := F))
def past (i : grid0.Coords) (z : Vec F S2x2x8x1408 .f32) : Vec F S1x1x8x1408 .f32 := window z (k0_off2 i) S1x1x8x1408.size (k0_off2_inb i)
def keep (i : grid0.Coords) (cs : Vec F S512x1024 .bf16) (w : Vec F S1x1024x1408 .bf16) (z : Vec F S2x2x8x1408 .f32) :
    Vec F S2x2x8x1408 .f32 := put z (k0_off2 i) S1x1x8x1408.size (k0_pay10 cs w)
def past' (i : grid0.Coords) (z : Vec F S2x2x8x1408 .f32) : Vec F S1x1x8x1408 .f32 := window z (k0_off3 i) S1x1x8x1408.size (k0_off3_inb i)
def keep' (i : grid0.Coords) (cs : Vec F S512x1024 .bf16) (w : Vec F S1x1024x1408 .bf16) (z : Vec F S2x2x8x1408 .f32) :
    Vec F S2x2x8x1408 .f32 := put z (k0_off3 i) S1x1x8x1408.size (k0_pay1 (k0_pay17 cs w))

/-- No rows: what is kept before the first tile. -/
def noPast : Vec F S1x1x8x1408 .f32 := fun _ => Scalar.ofBits .f32 0x00000000#32

theorem past_cleared (i : grid0.Coords) (z : Vec F S2x2x8x1408 .f32) : past i (cleared i z) = noPast := by
  unfold past cleared
  rw [window_put_of_inside _ _ _ _ _ _ _ (by
    intro a; fin_cases a <;> simp [k0_off1, k0_off2, S1x1x8x1408, S1x2x8x1408])]
  rfl

theorem past'_cleared (i : grid0.Coords) (z : Vec F S2x2x8x1408 .f32) : past' i (cleared i z) = noPast := by
  unfold past' cleared
  rw [window_put_of_inside _ _ _ _ _ _ _ (by
    intro a; fin_cases a <;> simp [k0_off1, k0_off3, S1x1x8x1408, S1x2x8x1408])]
  rfl

theorem past'_keep (i : grid0.Coords) (cs : Vec F S512x1024 .bf16) (w : Vec F S1x1024x1408 .bf16) (z : Vec F S2x2x8x1408 .f32) :
    past' i (keep i cs w z) = past' i z :=
  window_put_of_disjoint _ _ _ _ _ _ _ 1 (.inr (by simp [k0_off2, k0_off3, S1x1x8x1408]))

section Stores

variable (i : grid0.Coords) (v : View sig .tc .vmem S2x2x8x1408 .f32) (f : v.ty.Contents (Elt F)) (L : List (View.Piece (Elt F) S2x2x8x1408 .f32))

theorem load_past (h) : v.readAt (Elt F) (Rect.unit (s := S2x2x8x1408) (k0_off2 i) S1x1x8x1408.size h).toLoadRect f = past i (v.read (Elt F) f) := rfl
theorem load_past' (h) : v.readAt (Elt F) (Rect.unit (s := S2x2x8x1408) (k0_off3 i) S1x1x8x1408.size h).toLoadRect f = past' i (v.read (Elt F) f) := rfl
theorem store_cleared (h) : v.read (Elt F) (v.writes (Elt F) f (⟨Rect.unit (s := S2x2x8x1408) (k0_off1 i) S1x2x8x1408.size h, k0_pay6 (F := F)⟩ :: L))
    = cleared i (v.read (Elt F) (v.writes (Elt F) f L)) := View.read_writes_cons_put v f h _ L rfl
theorem store_keep (h) (cs : Vec F S512x1024 .bf16) (w : Vec F S1x1024x1408 .bf16) :
    v.read (Elt F) (v.writes (Elt F) f (⟨Rect.unit (s := S2x2x8x1408) (k0_off2 i) S1x1x8x1408.size h, k0_pay10 cs w⟩ :: L))
    = keep i cs w (v.read (Elt F) (v.writes (Elt F) f L)) := View.read_writes_cons_put v f h _ L rfl
theorem store_keep' (h) (cs : Vec F S512x1024 .bf16) (w : Vec F S1x1024x1408 .bf16) :
    v.read (Elt F) (v.writes (Elt F) f (⟨Rect.unit (s := S2x2x8x1408) (k0_off3 i) S1x1x8x1408.size h, k0_pay1 (k0_pay17 cs w)⟩ :: L))
    = keep' i cs w (v.read (Elt F) (v.writes (Elt F) f L)) := View.read_writes_cons_put v f h _ L rfl

end Stores

/-- The five results of a point, from the normed rows, the point's columns and taps, and the rows kept. -/
def convG (cs : Vec F S512x1024 .bf16) (w : Vec F S1x1024x1408 .bf16) (k : Vec F S3x1408 .f32) (b : Vec F S1x1408 .f32)
    (p : Vec F S1x1x8x1408 .f32) : Vec F S512x1408 .bf16 := k0_pay12 (k0_pay9 cs w p) k (k0_pay11 cs w p k b)
def convV (cs : Vec F S512x1024 .bf16) (w : Vec F S1x1024x1408 .bf16) (k : Vec F S3x1408 .f32) (b : Vec F S1x1408 .f32)
    (p : Vec F S1x1x8x1408 .f32) : Vec F S512x1408 .bf16 := k0_pay2 (k0_pay16 cs w p) k b
def gated (cs : Vec F S512x1024 .bf16) (w w' : Vec F S1x1024x1408 .bf16) (k k' : Vec F S3x1408 .f32) (b b' : Vec F S1x1408 .f32)
    (p p' : Vec F S1x1x8x1408 .f32) : Vec F S512x1408 .bf16 :=
  k0_pay3 (k0_pay13 (k0_pay9 cs w p) k (k0_pay11 cs w p k b)) (k0_pay16 cs w' p') k' b'

/-- What the scratches hold after a point, and the kept rows it finds. -/
def rows (i : grid0.Coords) (x0 : Vec F S512x1024 .f32) (x1 : Vec F S1x1024 .f32) (cs : Vec F S512x1024 .bf16) : Vec F S512x1024 .bf16 :=
  if first i then k0_pay5 x0 x1 else cs
def found (i : grid0.Coords) (z : Vec F S2x2x8x1408 .f32) : Vec F S1x1x8x1408 .f32 := if start i then noPast else past i z
def found' (i : grid0.Coords) (z : Vec F S2x2x8x1408 .f32) : Vec F S1x1x8x1408 .f32 := if start i then noPast else past' i z
def kept (i : grid0.Coords) (cs : Vec F S512x1024 .bf16) (w w' : Vec F S1x1024x1408 .bf16) (z : Vec F S2x2x8x1408 .f32) :
    Vec F S2x2x8x1408 .f32 := keep' i cs w' (keep i cs w (if start i then cleared i z else z))

section Run

variable (c : Dev nD) (i : grid0.Coords)
  (arg2 : Memref sig .tc .vmem S512x1024 .f32) (harg2 : arg2.IsWhole)
  (arg3 : Memref sig .tc .vmem S1x1024 .f32) (harg3 : arg3.IsWhole)
  (arg4 : Memref sig .tc .vmem S1x1024x1408 .bf16) (harg4 : arg4.IsWhole)
  (arg5 : Memref sig .tc .vmem S1x1024x1408 .bf16) (harg5 : arg5.IsWhole)
  (arg6 : Memref sig .tc .vmem S3x1408 .f32) (harg6 : arg6.IsWhole)
  (arg7 : Memref sig .tc .vmem S3x1408 .f32) (harg7 : arg7.IsWhole)
  (arg8 : Memref sig .tc .vmem S1x1408 .f32) (harg8 : arg8.IsWhole)
  (arg9 : Memref sig .tc .vmem S1x1408 .f32) (harg9 : arg9.IsWhole)
  (arg10 : Memref sig .tc .vmem S512x1024 .bf16) (harg10 : arg10.IsWhole)
  (arg11 : Memref sig .tc .vmem S512x1408 .bf16) (harg11 : arg11.IsWhole)
  (arg12 : Memref sig .tc .vmem S512x1408 .bf16) (harg12 : arg12.IsWhole)
  (arg13 : Memref sig .tc .vmem S512x1408 .bf16) (harg13 : arg13.IsWhole)
  (arg14 : Memref sig .tc .vmem S512x1408 .bf16) (harg14 : arg14.IsWhole)
  (arg15 : Memref sig .tc .vmem S512x1408 .bf16) (harg15 : arg15.IsWhole)
  (arg16 : Memref sig .tc .vmem S512x1024 .bf16) (harg16 : arg16.IsWhole)
  (arg17 : Memref sig .tc .vmem S2x2x8x1408 .f32) (harg17 : arg17.IsWhole)
  (x0 : Vec F S512x1024 .f32)
  (x1 : Vec F S1x1024 .f32)
  (x2 : Vec F S1x1024x1408 .bf16)
  (x3 : Vec F S1x1024x1408 .bf16)
  (x4 : Vec F S3x1408 .f32)
  (x5 : Vec F S3x1408 .f32)
  (x6 : Vec F S1x1408 .f32)
  (x7 : Vec F S1x1408 .f32)
  (x8 : Vec F S512x1024 .bf16)
  (x14 : Vec F S512x1024 .bf16)
  (x15 : Vec F S2x2x8x1408 .f32)

set_option maxHeartbeats 2000000 in
/-- A tile's first point, in the first tile. -/
theorem run_ff (hc0 : first i) (hc1 : start i) (E : Set ℕ) (K : PUnit → sProp 𝕄) :
    iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ (∃ d, owns (c : Thread nD τ) arg11 fullShare d)
            ∗ (∃ d, owns (c : Thread nD τ) arg12 fullShare d)
            ∗ (∃ d, owns (c : Thread nD τ) arg13 fullShare d)
            ∗ (∃ d, owns (c : Thread nD τ) arg14 fullShare d)
            ∗ (∃ d, owns (c : Thread nD τ) arg15 fullShare d)
            ∗ owns (c : Thread nD τ) arg16 fullShare x14
            ∗ owns (c : Thread nD τ) arg17 fullShare x15
            ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare (k0_pay4 x0 x1)
            ∗ owns (c : Thread nD τ) arg11 fullShare (k0_pay7 (k0_pay5 x0 x1) x2)
            ∗ owns (c : Thread nD τ) arg12 fullShare (k0_pay14 (k0_pay5 x0 x1) x3)
            ∗ owns (c : Thread nD τ) arg13 fullShare (convG (k0_pay5 x0 x1) x2 x4 x6 noPast)
            ∗ owns (c : Thread nD τ) arg14 fullShare (convV (k0_pay5 x0 x1) x3 x5 x7 noPast)
            ∗ owns (c : Thread nD τ) arg15 fullShare (gated (k0_pay5 x0 x1) x2 x3 x4 x5 x6 x7 noPast noPast)
            ∗ owns (c : Thread nD τ) arg16 fullShare (k0_pay5 x0 x1)
            ∗ owns (c : Thread nD τ) arg17 fullShare (keep' i (k0_pay5 x0 x1) x3 (keep i (k0_pay5 x0 x1) x2 (cleared i x15)))) -∗ K ⟨⟩))
      ⊢ wp frame (wpE (defs₀ (F := F)) Variants.none c none) E (cc0_ffn_up_fwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_ffn_up_fwd_eq_skeleton]
  unfold cc0_ffn_up_fwd_skel
  simp only [k0_part1_eq_skeleton, k0_part2_eq_skeleton]
  unfold k0_part1_skel k0_part2_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%f16, %hf16, H16⟩, ⟨%f17, %hf17, H17⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg16.eq_unread hf16; obtain rfl := harg17.eq_unread hf17
  sl_exec (disch := first | sl_exact hc0 | sl_exact hc1)
  sl_step
  iapply Hk
  isplitl [H2]; rotate_left; isplitl [H3]; rotate_left; isplitl [H4]; rotate_left; isplitl [H5]; rotate_left; isplitl [H6]; rotate_left
  isplitl [H7]; rotate_left; isplitl [H8]; rotate_left; isplitl [H9]; rotate_left; isplitl [H10]; rotate_left; isplitl [H11]; rotate_left
  isplitl [H12]; rotate_left; isplitl [H13]; rotate_left; isplitl [H14]; rotate_left; isplitl [H15]; rotate_left; isplitl [H16]; rotate_left
  all_goals iexists _; isplitr; swap; first | iexact H2 | iexact H3 | iexact H4 | iexact H5 | iexact H6 | iexact H7 | iexact H8 | iexact H9 | iexact H10 | iexact H11 | iexact H12 | iexact H13 | iexact H14 | iexact H15 | iexact H16 | iexact H17
  all_goals
    ipureintro
    try unfold run_ff.sl.v64
    try unfold run_ff.sl.v14
    try unfold run_ff.sl.H17_2
    try unfold run_ff.sl.v6
    try unfold run_ff.sl.H17_1
    try unfold run_ff.sl.H16_1
    try unfold View.readCov
    first | rw [View.read_writes_full] | (rw [store_keep']; try rw [store_keep]; try rw [store_cleared]; rw [View.writes_nil]) | skip
    repeat first | rw [View.readAt_full] | rw [View.read_writes_full] | rw [load_past] | rw [load_past'] | rw [store_keep] | rw [store_cleared]
    try simp only [Memref.IsWhole.read_unread, View.writes_nil, past_cleared, past'_cleared, past'_keep, convG, convV, gated]

set_option maxHeartbeats 2000000 in
/-- A tile's first point, in a later tile. -/
theorem run_fl (hc0 : first i) (hc1 : ¬start i) (E : Set ℕ) (K : PUnit → sProp 𝕄) :
    iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ (∃ d, owns (c : Thread nD τ) arg11 fullShare d)
            ∗ (∃ d, owns (c : Thread nD τ) arg12 fullShare d)
            ∗ (∃ d, owns (c : Thread nD τ) arg13 fullShare d)
            ∗ (∃ d, owns (c : Thread nD τ) arg14 fullShare d)
            ∗ (∃ d, owns (c : Thread nD τ) arg15 fullShare d)
            ∗ owns (c : Thread nD τ) arg16 fullShare x14
            ∗ owns (c : Thread nD τ) arg17 fullShare x15
            ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare (k0_pay4 x0 x1)
            ∗ owns (c : Thread nD τ) arg11 fullShare (k0_pay7 (k0_pay5 x0 x1) x2)
            ∗ owns (c : Thread nD τ) arg12 fullShare (k0_pay14 (k0_pay5 x0 x1) x3)
            ∗ owns (c : Thread nD τ) arg13 fullShare (convG (k0_pay5 x0 x1) x2 x4 x6 (past i x15))
            ∗ owns (c : Thread nD τ) arg14 fullShare (convV (k0_pay5 x0 x1) x3 x5 x7 (past' i x15))
            ∗ owns (c : Thread nD τ) arg15 fullShare (gated (k0_pay5 x0 x1) x2 x3 x4 x5 x6 x7 (past i x15) (past' i x15))
            ∗ owns (c : Thread nD τ) arg16 fullShare (k0_pay5 x0 x1)
            ∗ owns (c : Thread nD τ) arg17 fullShare (keep' i (k0_pay5 x0 x1) x3 (keep i (k0_pay5 x0 x1) x2 x15))) -∗ K ⟨⟩))
      ⊢ wp frame (wpE (defs₀ (F := F)) Variants.none c none) E (cc0_ffn_up_fwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_ffn_up_fwd_eq_skeleton]
  unfold cc0_ffn_up_fwd_skel
  simp only [k0_part1_eq_skeleton, k0_part2_eq_skeleton]
  unfold k0_part1_skel k0_part2_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%f16, %hf16, H16⟩, ⟨%f17, %hf17, H17⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg16.eq_unread hf16; obtain rfl := harg17.eq_unread hf17
  sl_exec (disch := first | sl_exact hc0 | sl_exact hc1)
  sl_step
  iapply Hk
  isplitl [H2]; rotate_left; isplitl [H3]; rotate_left; isplitl [H4]; rotate_left; isplitl [H5]; rotate_left; isplitl [H6]; rotate_left
  isplitl [H7]; rotate_left; isplitl [H8]; rotate_left; isplitl [H9]; rotate_left; isplitl [H10]; rotate_left; isplitl [H11]; rotate_left
  isplitl [H12]; rotate_left; isplitl [H13]; rotate_left; isplitl [H14]; rotate_left; isplitl [H15]; rotate_left; isplitl [H16]; rotate_left
  all_goals iexists _; isplitr; swap; first | iexact H2 | iexact H3 | iexact H4 | iexact H5 | iexact H6 | iexact H7 | iexact H8 | iexact H9 | iexact H10 | iexact H11 | iexact H12 | iexact H13 | iexact H14 | iexact H15 | iexact H16 | iexact H17
  all_goals
    ipureintro
    try unfold run_fl.sl.v64
    try unfold run_fl.sl.v14
    try unfold run_fl.sl.H17_2
    try unfold run_fl.sl.v6
    try unfold run_fl.sl.H17_1
    try unfold run_fl.sl.H16_1
    try unfold View.readCov
    first | rw [View.read_writes_full] | (rw [store_keep']; try rw [store_keep]; try rw [store_cleared]; rw [View.writes_nil]) | skip
    repeat first | rw [View.readAt_full] | rw [View.read_writes_full] | rw [load_past] | rw [load_past'] | rw [store_keep] | rw [store_cleared]
    try simp only [Memref.IsWhole.read_unread, View.writes_nil, past_cleared, past'_cleared, past'_keep, convG, convV, gated]

set_option maxHeartbeats 2000000 in
/-- A tile's second point, in the first tile. -/
theorem run_lf (hc0 : ¬first i) (hc1 : start i) (E : Set ℕ) (K : PUnit → sProp 𝕄) :
    iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ (∃ d, owns (c : Thread nD τ) arg11 fullShare d)
            ∗ (∃ d, owns (c : Thread nD τ) arg12 fullShare d)
            ∗ (∃ d, owns (c : Thread nD τ) arg13 fullShare d)
            ∗ (∃ d, owns (c : Thread nD τ) arg14 fullShare d)
            ∗ (∃ d, owns (c : Thread nD τ) arg15 fullShare d)
            ∗ owns (c : Thread nD τ) arg16 fullShare x14
            ∗ owns (c : Thread nD τ) arg17 fullShare x15
            ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ owns (c : Thread nD τ) arg11 fullShare (k0_pay7 x14 x2)
            ∗ owns (c : Thread nD τ) arg12 fullShare (k0_pay14 x14 x3)
            ∗ owns (c : Thread nD τ) arg13 fullShare (convG x14 x2 x4 x6 noPast)
            ∗ owns (c : Thread nD τ) arg14 fullShare (convV x14 x3 x5 x7 noPast)
            ∗ owns (c : Thread nD τ) arg15 fullShare (gated x14 x2 x3 x4 x5 x6 x7 noPast noPast)
            ∗ owns (c : Thread nD τ) arg16 fullShare x14
            ∗ owns (c : Thread nD τ) arg17 fullShare (keep' i x14 x3 (keep i x14 x2 (cleared i x15)))) -∗ K ⟨⟩))
      ⊢ wp frame (wpE (defs₀ (F := F)) Variants.none c none) E (cc0_ffn_up_fwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_ffn_up_fwd_eq_skeleton]
  unfold cc0_ffn_up_fwd_skel
  simp only [k0_part1_eq_skeleton, k0_part2_eq_skeleton]
  unfold k0_part1_skel k0_part2_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%f16, %hf16, H16⟩, ⟨%f17, %hf17, H17⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg16.eq_unread hf16; obtain rfl := harg17.eq_unread hf17
  sl_exec (disch := first | sl_exact hc0 | sl_exact hc1)
  sl_step
  iapply Hk
  isplitl [H2]; rotate_left; isplitl [H3]; rotate_left; isplitl [H4]; rotate_left; isplitl [H5]; rotate_left; isplitl [H6]; rotate_left
  isplitl [H7]; rotate_left; isplitl [H8]; rotate_left; isplitl [H9]; rotate_left; isplitl [H10]; rotate_left; isplitl [H11]; rotate_left
  isplitl [H12]; rotate_left; isplitl [H13]; rotate_left; isplitl [H14]; rotate_left; isplitl [H15]; rotate_left; isplitl [H16]; rotate_left
  all_goals iexists _; isplitr; swap; first | iexact H2 | iexact H3 | iexact H4 | iexact H5 | iexact H6 | iexact H7 | iexact H8 | iexact H9 | iexact H10 | iexact H11 | iexact H12 | iexact H13 | iexact H14 | iexact H15 | iexact H16 | iexact H17
  all_goals
    ipureintro
    try unfold run_lf.sl.v64
    try unfold run_lf.sl.v14
    try unfold run_lf.sl.H17_2
    try unfold run_lf.sl.v6
    try unfold run_lf.sl.H17_1
    try unfold run_lf.sl.H16_1
    try unfold View.readCov
    first | rw [View.read_writes_full] | (rw [store_keep']; try rw [store_keep]; try rw [store_cleared]; rw [View.writes_nil]) | skip
    repeat first | rw [View.readAt_full] | rw [View.read_writes_full] | rw [load_past] | rw [load_past'] | rw [store_keep] | rw [store_cleared]
    try simp only [Memref.IsWhole.read_unread, View.writes_nil, past_cleared, past'_cleared, past'_keep, convG, convV, gated]

set_option maxHeartbeats 2000000 in
/-- A tile's second point, in a later tile. -/
theorem run_ll (hc0 : ¬first i) (hc1 : ¬start i) (E : Set ℕ) (K : PUnit → sProp 𝕄) :
    iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ (∃ d, owns (c : Thread nD τ) arg11 fullShare d)
            ∗ (∃ d, owns (c : Thread nD τ) arg12 fullShare d)
            ∗ (∃ d, owns (c : Thread nD τ) arg13 fullShare d)
            ∗ (∃ d, owns (c : Thread nD τ) arg14 fullShare d)
            ∗ (∃ d, owns (c : Thread nD τ) arg15 fullShare d)
            ∗ owns (c : Thread nD τ) arg16 fullShare x14
            ∗ owns (c : Thread nD τ) arg17 fullShare x15
            ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ owns (c : Thread nD τ) arg11 fullShare (k0_pay7 x14 x2)
            ∗ owns (c : Thread nD τ) arg12 fullShare (k0_pay14 x14 x3)
            ∗ owns (c : Thread nD τ) arg13 fullShare (convG x14 x2 x4 x6 (past i x15))
            ∗ owns (c : Thread nD τ) arg14 fullShare (convV x14 x3 x5 x7 (past' i x15))
            ∗ owns (c : Thread nD τ) arg15 fullShare (gated x14 x2 x3 x4 x5 x6 x7 (past i x15) (past' i x15))
            ∗ owns (c : Thread nD τ) arg16 fullShare x14
            ∗ owns (c : Thread nD τ) arg17 fullShare (keep' i x14 x3 (keep i x14 x2 x15))) -∗ K ⟨⟩))
      ⊢ wp frame (wpE (defs₀ (F := F)) Variants.none c none) E (cc0_ffn_up_fwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_ffn_up_fwd_eq_skeleton]
  unfold cc0_ffn_up_fwd_skel
  simp only [k0_part1_eq_skeleton, k0_part2_eq_skeleton]
  unfold k0_part1_skel k0_part2_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%f16, %hf16, H16⟩, ⟨%f17, %hf17, H17⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg16.eq_unread hf16; obtain rfl := harg17.eq_unread hf17
  sl_exec (disch := first | sl_exact hc0 | sl_exact hc1)
  sl_step
  iapply Hk
  isplitl [H2]; rotate_left; isplitl [H3]; rotate_left; isplitl [H4]; rotate_left; isplitl [H5]; rotate_left; isplitl [H6]; rotate_left
  isplitl [H7]; rotate_left; isplitl [H8]; rotate_left; isplitl [H9]; rotate_left; isplitl [H10]; rotate_left; isplitl [H11]; rotate_left
  isplitl [H12]; rotate_left; isplitl [H13]; rotate_left; isplitl [H14]; rotate_left; isplitl [H15]; rotate_left; isplitl [H16]; rotate_left
  all_goals iexists _; isplitr; swap; first | iexact H2 | iexact H3 | iexact H4 | iexact H5 | iexact H6 | iexact H7 | iexact H8 | iexact H9 | iexact H10 | iexact H11 | iexact H12 | iexact H13 | iexact H14 | iexact H15 | iexact H16 | iexact H17
  all_goals
    ipureintro
    try unfold run_ll.sl.v64
    try unfold run_ll.sl.v14
    try unfold run_ll.sl.H17_2
    try unfold run_ll.sl.v6
    try unfold run_ll.sl.H17_1
    try unfold run_ll.sl.H16_1
    try unfold View.readCov
    first | rw [View.read_writes_full] | (rw [store_keep']; try rw [store_keep]; try rw [store_cleared]; rw [View.writes_nil]) | skip
    repeat first | rw [View.readAt_full] | rw [View.read_writes_full] | rw [load_past] | rw [load_past'] | rw [store_keep] | rw [store_cleared]
    try simp only [Memref.IsWhole.read_unread, View.writes_nil, past_cleared, past'_cleared, past'_keep, convG, convV, gated]

/-- Any point. -/
theorem run (E : Set ℕ) (K : PUnit → sProp 𝕄) :
    iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ (∃ d, owns (c : Thread nD τ) arg11 fullShare d)
            ∗ (∃ d, owns (c : Thread nD τ) arg12 fullShare d)
            ∗ (∃ d, owns (c : Thread nD τ) arg13 fullShare d)
            ∗ (∃ d, owns (c : Thread nD τ) arg14 fullShare d)
            ∗ (∃ d, owns (c : Thread nD τ) arg15 fullShare d)
            ∗ owns (c : Thread nD τ) arg16 fullShare x14
            ∗ owns (c : Thread nD τ) arg17 fullShare x15
            ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare (if first i then k0_pay4 x0 x1 else x8)
            ∗ owns (c : Thread nD τ) arg11 fullShare (k0_pay7 (rows i x0 x1 x14) x2)
            ∗ owns (c : Thread nD τ) arg12 fullShare (k0_pay14 (rows i x0 x1 x14) x3)
            ∗ owns (c : Thread nD τ) arg13 fullShare (convG (rows i x0 x1 x14) x2 x4 x6 (found i x15))
            ∗ owns (c : Thread nD τ) arg14 fullShare (convV (rows i x0 x1 x14) x3 x5 x7 (found' i x15))
            ∗ owns (c : Thread nD τ) arg15 fullShare (gated (rows i x0 x1 x14) x2 x3 x4 x5 x6 x7 (found i x15) (found' i x15))
            ∗ owns (c : Thread nD τ) arg16 fullShare (rows i x0 x1 x14)
            ∗ owns (c : Thread nD τ) arg17 fullShare (kept i (rows i x0 x1 x14) x2 x3 x15)) -∗ K ⟨⟩))
      ⊢ wp frame (wpE (defs₀ (F := F)) Variants.none c none) E (cc0_ffn_up_fwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  unfold rows found found' kept
  by_cases hc0 : first i <;> by_cases hc1 : start i
  · simp only [if_pos hc0, if_pos hc1]
    exact run_ff c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x14 x15 hc0 hc1 E K
  · simp only [if_pos hc0, if_neg hc1]
    exact run_fl c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x14 x15 hc0 hc1 E K
  · simp only [if_neg hc0, if_pos hc1]
    exact run_lf c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x14 x15 hc0 hc1 E K
  · simp only [if_neg hc0, if_neg hc1]
    exact run_ll c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x14 x15 hc0 hc1 E K

end Run

end Cert.UpRun
-- ==== Proof.UpFrame.lean ====
/- The up projection's forward call: its run. The scratch of normed rows is written at a tile's first point; the rows kept
   for the convolution are, at each point, those the tile before left at the same columns. -/
module

public import proofs.«01_k».proof.Proof.UpRun
public import Idealize.ShloMosaic.Lib.Claim

@[expose] public section

set_option maxRecDepth 16384

noncomputable section

namespace Cert.UpFrame

open Cert.Kernel16Ideal Cert.Kernel16Ideal.Gen Cert.UpRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.VecWindow
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The kept rows -/

theorem off1_eq : ∀ t : Fin cfg0.N, k0_off1 (grid0.coords t) = ![t.val % 2, 0, 0, 0] := by decide +kernel
theorem off2_eq : ∀ t : Fin cfg0.N, k0_off2 (grid0.coords t) = ![t.val % 2, 0, 0, 0] := by decide +kernel
theorem off3_eq : ∀ t : Fin cfg0.N, k0_off3 (grid0.coords t) = ![t.val % 2, 1, 0, 0] := by decide +kernel

section Apart

variable {t u : Fin cfg0.N} (cs : Vec F S512x1024 .bf16) (w w' : Vec F S1x1024x1408 .bf16) (z : Vec F S2x2x8x1408 .f32)

theorem window_congr {o o' : Fin 4 → ℕ} (e : o = o') {size : Fin 4 → ℕ} (h) (h') :
    window (s := S2x2x8x1408) z o size h = window z o' size h' := by subst e; rfl

theorem past_congr (h : t.val % 2 = u.val % 2) : past (grid0.coords t) z = past (grid0.coords u) z :=
  window_congr z (by rw [off2_eq, off2_eq, h]) _ _
theorem past'_congr (h : t.val % 2 = u.val % 2) : past' (grid0.coords t) z = past' (grid0.coords u) z :=
  window_congr z (by rw [off3_eq, off3_eq, h]) _ _

/-- A point at the other columns leaves the rows kept at these. -/
theorem past_apart (h : t.val % 2 ≠ u.val % 2) :
    past (grid0.coords t) (kept (grid0.coords u) cs w w' z) = past (grid0.coords t) z := by
  have h1 : k0_off2 (grid0.coords t) 0 = t.val % 2 := by rw [off2_eq]; rfl
  have h2 : k0_off2 (grid0.coords u) 0 = u.val % 2 := by rw [off2_eq]; rfl
  have h3 : k0_off3 (grid0.coords u) 0 = u.val % 2 := by rw [off3_eq]; rfl
  have h4 : k0_off1 (grid0.coords u) 0 = u.val % 2 := by rw [off1_eq]; rfl
  unfold past kept keep keep' cleared
  rw [window_put_of_disjoint _ _ _ _ _ _ _ 0 (by rw [h1, h3]; simp [S1x1x8x1408]; omega),
    window_put_of_disjoint _ _ _ _ _ _ _ 0 (by rw [h1, h2]; simp [S1x1x8x1408]; omega)]
  split
  · rw [window_put_of_disjoint _ _ _ _ _ _ _ 0 (by rw [h1, h4]; simp [S1x1x8x1408, S1x2x8x1408]; omega)]
  · rfl
theorem past'_apart (h : t.val % 2 ≠ u.val % 2) :
    past' (grid0.coords t) (kept (grid0.coords u) cs w w' z) = past' (grid0.coords t) z := by
  have h1 : k0_off3 (grid0.coords t) 0 = t.val % 2 := by rw [off3_eq]; rfl
  have h2 : k0_off2 (grid0.coords u) 0 = u.val % 2 := by rw [off2_eq]; rfl
  have h3 : k0_off3 (grid0.coords u) 0 = u.val % 2 := by rw [off3_eq]; rfl
  have h4 : k0_off1 (grid0.coords u) 0 = u.val % 2 := by rw [off1_eq]; rfl
  unfold past' kept keep keep' cleared
  rw [window_put_of_disjoint _ _ _ _ _ _ _ 0 (by rw [h1, h3]; simp [S1x1x8x1408]; omega),
    window_put_of_disjoint _ _ _ _ _ _ _ 0 (by rw [h1, h2]; simp [S1x1x8x1408]; omega)]
  split
  · rw [window_put_of_disjoint _ _ _ _ _ _ _ 0 (by rw [h1, h4]; simp [S1x1x8x1408, S1x2x8x1408]; omega)]
  · rfl

/-- A point keeps the last rows of its own products. -/
theorem past_kept (i : grid0.Coords) : past i (kept i cs w w' z) = k0_pay10 cs w := by
  unfold past kept keep' keep
  rw [window_put_of_disjoint _ _ _ _ _ _ _ 1 (.inl (by simp [k0_off2, k0_off3, S1x1x8x1408]))]
  exact window_put_same _ _ _ _ _
theorem past'_kept (i : grid0.Coords) : past' i (kept i cs w w' z) = k0_pay1 (k0_pay17 cs w') :=
  window_put_same _ _ _ _ _

end Apart

/-- A tile's first point, and the point of the tile before at the same columns. -/
def base (t : Fin cfg0.N) : Fin cfg0.N := ⟨t.val - t.val % 2, by have := t.isLt; omega⟩
def prev (t : Fin cfg0.N) : Fin cfg0.N := ⟨t.val - 2, by have := t.isLt; omega⟩

/-- The rows of a tile, normed, as the scratch holds them, and the rows a point finds kept. -/
def normed (c : Dev nD) (t : Fin cfg0.N) : Vec F S512x1024 .bf16 := k0_pay5 (iblk m c 0 (base t)) (iblk m c 1 (base t))
def before (c : Dev nD) (t : Fin cfg0.N) : Vec F S1x1x8x1408 .f32 :=
  if t.val < 2 then noPast else k0_pay10 (normed m c (prev t)) (iblk m c 2 (prev t))
def before' (c : Dev nD) (t : Fin cfg0.N) : Vec F S1x1x8x1408 .f32 :=
  if t.val < 2 then noPast else k0_pay1 (k0_pay17 (normed m c (prev t)) (iblk m c 3 (prev t)))

/-- The second scratch before a point, from what it held at the start. -/
def state (c : Dev nD) (z : Vec F S2x2x8x1408 .f32) : (n : ℕ) → n ≤ cfg0.N → Vec F S2x2x8x1408 .f32
  | 0, _ => z
  | n + 1, h => kept (grid0.coords ⟨n, h⟩) (normed m c ⟨n, h⟩) (iblk m c 2 ⟨n, h⟩) (iblk m c 3 ⟨n, h⟩) (state c z n (Nat.le_of_lt h))

theorem found_state (c : Dev nD) (z) (n : ℕ) (hn : n < cfg0.N) :
    found (grid0.coords ⟨n, hn⟩) (state m c z n (Nat.le_of_lt hn)) = before m c ⟨n, hn⟩ := by
  unfold found before
  by_cases h : n < 2
  · rw [if_pos ((start_iff ⟨n, hn⟩).mpr h), if_pos h]
  · rw [if_neg (fun e => h ((start_iff ⟨n, hn⟩).mp e)), if_neg h]
    obtain ⟨n, rfl⟩ : ∃ k, n = k + 2 := ⟨n - 2, by omega⟩
    unfold state
    rw [past_apart (u := ⟨n + 1, by omega⟩) _ _ _ _ (show (n + 2) % 2 ≠ (n + 1) % 2 by omega)]
    unfold state
    rw [past_congr (u := ⟨n, by omega⟩) _ (show (n + 2) % 2 = n % 2 by omega), past_kept]
    rfl

theorem found'_state (c : Dev nD) (z) (n : ℕ) (hn : n < cfg0.N) :
    found' (grid0.coords ⟨n, hn⟩) (state m c z n (Nat.le_of_lt hn)) = before' m c ⟨n, hn⟩ := by
  unfold found' before'
  by_cases h : n < 2
  · rw [if_pos ((start_iff ⟨n, hn⟩).mpr h), if_pos h]
  · rw [if_neg (fun e => h ((start_iff ⟨n, hn⟩).mp e)), if_neg h]
    obtain ⟨n, rfl⟩ : ∃ k, n = k + 2 := ⟨n - 2, by omega⟩
    unfold state
    rw [past'_apart (u := ⟨n + 1, by omega⟩) _ _ _ _ (show (n + 2) % 2 ≠ (n + 1) % 2 by omega)]
    unfold state
    rw [past'_congr (u := ⟨n, by omega⟩) _ (show (n + 2) % 2 = n % 2 by omega), past'_kept]
    rfl

/-! ## Where the body stores -/

theorem idle_8 : ∀ t : Fin cfg0.N, cfg0.idle 8 (grid0.coords t) = !decide (t.val % 2 = 0) := by decide +kernel

abbrev stage_0 (t : Fin cfg0.N) : Memref sig .tc .vmem S512x1024 .f32 := win0_0.stage (cfg0.slots t 0)
abbrev stage_1 (t : Fin cfg0.N) : Memref sig .tc .vmem S1x1024 .f32 := win0_1.stage (cfg0.slots t 1)
abbrev stage_2 (t : Fin cfg0.N) : Memref sig .tc .vmem S1x1024x1408 .bf16 := win0_2.stage (cfg0.slots t 2)
abbrev stage_3 (t : Fin cfg0.N) : Memref sig .tc .vmem S1x1024x1408 .bf16 := win0_3.stage (cfg0.slots t 3)
abbrev stage_4 (t : Fin cfg0.N) : Memref sig .tc .vmem S3x1408 .f32 := win0_4.stage (cfg0.slots t 4)
abbrev stage_5 (t : Fin cfg0.N) : Memref sig .tc .vmem S3x1408 .f32 := win0_5.stage (cfg0.slots t 5)
abbrev stage_6 (t : Fin cfg0.N) : Memref sig .tc .vmem S1x1408 .f32 := win0_6.stage (cfg0.slots t 6)
abbrev stage_7 (t : Fin cfg0.N) : Memref sig .tc .vmem S1x1408 .f32 := win0_7.stage (cfg0.slots t 7)
abbrev stage_8 (t : Fin cfg0.N) : Memref sig .tc .vmem S512x1024 .bf16 := win0_8.stage (cfg0.slots t 8)
abbrev stage_9 (t : Fin cfg0.N) : Memref sig .tc .vmem S512x1408 .bf16 := win0_9.stage (cfg0.slots t 9)
abbrev stage_10 (t : Fin cfg0.N) : Memref sig .tc .vmem S512x1408 .bf16 := win0_10.stage (cfg0.slots t 10)
abbrev stage_11 (t : Fin cfg0.N) : Memref sig .tc .vmem S512x1408 .bf16 := win0_11.stage (cfg0.slots t 11)
abbrev stage_12 (t : Fin cfg0.N) : Memref sig .tc .vmem S512x1408 .bf16 := win0_12.stage (cfg0.slots t 12)
abbrev stage_13 (t : Fin cfg0.N) : Memref sig .tc .vmem S512x1408 .bf16 := win0_13.stage (cfg0.slots t 13)
/-- The scratches, as the kernel is handed them. -/
abbrev rowsRef : Memref sig .tc .vmem S512x1024 .bf16 := Memref.whole cc0_scratch0
abbrev keptRef : Memref sig .tc .vmem S2x2x8x1408 .f32 := Memref.whole cc0_scratch1

theorem base_congr {t u : Fin cfg0.N} (h : t.val / 2 = u.val / 2) : base t = base u := Fin.ext (by
  show t.val - t.val % 2 = u.val - u.val % 2; omega)
theorem base_first {t : Fin cfg0.N} (h : t.val % 2 = 0) : base t = t := Fin.ext (by show t.val - t.val % 2 = t.val; omega)

/-- What the scratches and the generator register hold before a point. -/
def holds (c : Dev nD) : (n : ℕ) → n ≤ cfg0.N → sProp 𝕄
  | 0, _ => Pipeline.ΦA spec0 c
  | n + 1, hn => iprop((owns (c : Thread nD τ) rowsRef fullShare (normed m c ⟨n, hn⟩)
      ∗ (∃ z, owns (c : Thread nD τ) keptRef fullShare (state m c z (n + 1) hn))) ∗ (∃ r, prngReg c r))

theorem start_eq (c : Dev nD) :
    (Pipeline.ΦA spec0 c : sProp 𝕄)
      = iprop(((∃ d, owns (c : Thread nD τ) rowsRef fullShare d) ∗ (∃ d, owns (c : Thread nD τ) keptRef fullShare d)) ∗ (∃ r, prngReg c r)) := by
  unfold Pipeline.ΦA; rw [scopedRest0_eq]; simp only [rowsRef, keptRef, owns_whole]; try rfl

/-- Before a point the first scratch holds the tile's rows, or anything if the tile has not begun. -/
theorem holds_entry (c : Dev nD) (t : Fin cfg0.N) : holds m c t.val (Nat.le_of_lt t.isLt)
    ⊢ iprop(((∃ d, owns (c : Thread nD τ) rowsRef fullShare (if t.val % 2 = 0 then d else normed m c t))
      ∗ (∃ z, owns (c : Thread nD τ) keptRef fullShare (state m c z t.val (Nat.le_of_lt t.isLt)))) ∗ (∃ r, prngReg c r)) := by
  obtain ⟨n, hn⟩ := t
  cases n with
  | zero => exact (start_eq (F := F) c) ▸ Idealize.SL.BI.Entails.refl _
  | succ n =>
    have e : (if (n + 1) % 2 = 0 then normed m c ⟨n, Nat.lt_of_succ_lt hn⟩ else normed m c ⟨n + 1, hn⟩) = normed m c ⟨n, Nat.lt_of_succ_lt hn⟩ := by
      split
      · rfl
      · unfold normed; rw [base_congr (t := ⟨n + 1, hn⟩) (u := ⟨n, Nat.lt_of_succ_lt hn⟩) (show (n + 1) / 2 = n / 2 by omega)]
    unfold holds
    iintro ⟨⟨HS, HZ⟩, Hg⟩
    isplitl [HS HZ]
    · isplitl [HS]
      · iexists (normed m c ⟨n, Nat.lt_of_succ_lt hn⟩)
        dsimp only
        rw [e]
        iexact HS
      iexact HZ
    iexact Hg

theorem holds_some (c : Dev nD) (n : ℕ) (h : n ≤ cfg0.N) : holds m c n h
    ⊢ iprop(((∃ d, owns (c : Thread nD τ) rowsRef fullShare d) ∗ (∃ d, owns (c : Thread nD τ) keptRef fullShare d)) ∗ (∃ r, prngReg c r)) := by
  cases n with
  | zero => exact (start_eq (F := F) c) ▸ Idealize.SL.BI.Entails.refl _
  | succ n =>
    unfold holds
    iintro ⟨⟨HS, ⟨%z, HZ⟩⟩, Hg⟩
    isplitl [HS HZ]
    · isplitl [HS]
      · iexists _; iexact HS
      iexists _; iexact HZ
    iexact Hg

/-- What each window's buffer holds after a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => k0_pay4 (iblk m c 0 (base t)) (iblk m c 1 (base t))
    | ⟨9, _⟩ => k0_pay7 (normed m c t) (iblk m c 2 t)
    | ⟨10, _⟩ => k0_pay14 (normed m c t) (iblk m c 3 t)
    | ⟨11, _⟩ => convG (normed m c t) (iblk m c 2 t) (iblk m c 4 t) (iblk m c 6 t) (before m c t)
    | ⟨12, _⟩ => convV (normed m c t) (iblk m c 3 t) (iblk m c 5 t) (iblk m c 7 t) (before' m c t)
    | ⟨13, _⟩ => gated (normed m c t) (iblk m c 2 t) (iblk m c 3 t) (iblk m c 4 t) (iblk m c 5 t) (iblk m c 6 t) (iblk m c 7 t) (before m c t) (before' m c t)
  Φ t := holds m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem holds_castSucc (c : Dev nD) (t : Fin cfg0.N) :
    (dats m 0 c).Φ t.castSucc = holds m c t.val (Nat.le_of_lt t.isLt) := by
  dsimp only [dats]; exact Pipeline.Dat.Φ_castSucc (holds m c) t

section After

variable (c : Dev nD) (t : Fin cfg0.N)

theorem after_0 : (dats m 0 c).after 0 t = iblk m c 0 t := by dsimp only [dats]
theorem after_1 : (dats m 0 c).after 1 t = iblk m c 1 t := by dsimp only [dats]
theorem after_2 : (dats m 0 c).after 2 t = iblk m c 2 t := by dsimp only [dats]
theorem after_3 : (dats m 0 c).after 3 t = iblk m c 3 t := by dsimp only [dats]
theorem after_4 : (dats m 0 c).after 4 t = iblk m c 4 t := by dsimp only [dats]
theorem after_5 : (dats m 0 c).after 5 t = iblk m c 5 t := by dsimp only [dats]
theorem after_6 : (dats m 0 c).after 6 t = iblk m c 6 t := by dsimp only [dats]
theorem after_7 : (dats m 0 c).after 7 t = iblk m c 7 t := by dsimp only [dats]
theorem after_8 : (dats m 0 c).after 8 t = k0_pay4 (iblk m c 0 (base t)) (iblk m c 1 (base t)) := by dsimp only [dats]
theorem after_9 : (dats m 0 c).after 9 t = k0_pay7 (normed m c t) (iblk m c 2 t) := by dsimp only [dats]
theorem after_10 : (dats m 0 c).after 10 t = k0_pay14 (normed m c t) (iblk m c 3 t) := by dsimp only [dats]
theorem after_11 : (dats m 0 c).after 11 t = convG (normed m c t) (iblk m c 2 t) (iblk m c 4 t) (iblk m c 6 t) (before m c t) := by dsimp only [dats]
theorem after_12 : (dats m 0 c).after 12 t = convV (normed m c t) (iblk m c 3 t) (iblk m c 5 t) (iblk m c 7 t) (before' m c t) := by dsimp only [dats]
theorem after_13 : (dats m 0 c).after 13 t = gated (normed m c t) (iblk m c 2 t) (iblk m c 3 t) (iblk m c 4 t) (iblk m c 5 t) (iblk m c 6 t) (iblk m c 7 t) (before m c t) (before' m c t) := by dsimp only [dats]
theorem before_0 (d) : (dats m 0 c).before 0 t d = iblk m c 0 t := before0_0_of m (dats m 0 c) (A_eq m c 0) (after_0 m c) t d
theorem before_1 (d) : (dats m 0 c).before 1 t d = iblk m c 1 t := before0_1_of m (dats m 0 c) (A_eq m c 1) (after_1 m c) t d
theorem before_2 (d) : (dats m 0 c).before 2 t d = iblk m c 2 t := before0_2_of m (dats m 0 c) (A_eq m c 2) (after_2 m c) t d
theorem before_3 (d) : (dats m 0 c).before 3 t d = iblk m c 3 t := before0_3_of m (dats m 0 c) (A_eq m c 3) (after_3 m c) t d
theorem before_4 (d) : (dats m 0 c).before 4 t d = iblk m c 4 t := before0_4_of m (dats m 0 c) (A_eq m c 4) (after_4 m c) t d
theorem before_5 (d) : (dats m 0 c).before 5 t d = iblk m c 5 t := before0_5_of m (dats m 0 c) (A_eq m c 5) (after_5 m c) t d
theorem before_6 (d) : (dats m 0 c).before 6 t d = iblk m c 6 t := before0_6_of m (dats m 0 c) (A_eq m c 6) (after_6 m c) t d
theorem before_7 (d) : (dats m 0 c).before 7 t d = iblk m c 7 t := before0_7_of m (dats m 0 c) (A_eq m c 7) (after_7 m c) t d

end After

/-- The normed rows a tile's first point stored are found at its second. -/
theorem before_8 (c : Dev nD) (t : Fin cfg0.N) (h : t.val % 2 ≠ 0) (d) : (dats m 0 c).before 8 t d = (dats m 0 c).after 8 t := by
  obtain ⟨n, hn⟩ := t
  cases n with
  | zero => exact absurd rfl h
  | succ n =>
    have h' : (n + 1) % 2 ≠ 0 := h
    have hlt : n < cfg0.N := Nat.lt_of_succ_lt hn
    have hnf : ¬ (cfg0.win 8).flush ⟨n, hlt⟩ = true := fun e => by
      have e' : n % 2 = 1 := (flush0_8 ⟨n, hlt⟩).mp e
      omega
    have hp := (dats m 0 c).before_of_pos 8 ⟨n + 1, hn⟩ (Nat.succ_ne_zero n) ((cfg0.win 8).fetch_out rfl _) d
    have hl : (dats m 0 c).before 8 ⟨n + 1, hn⟩ d = (dats m 0 c).left 8 ⟨n, hlt⟩ d := hp.trans (if_neg hnf)
    have hs : (dats m 0 c).after 8 ⟨n, hlt⟩ = (dats m 0 c).after 8 ⟨n + 1, hn⟩ := by
      rw [after_8, after_8, base_congr (t := ⟨n, hlt⟩) (u := ⟨n + 1, hn⟩) (show n / 2 = (n + 1) / 2 by omega)]
    rw [hl, ← hs]
    have hi := idle_8 ⟨n, hlt⟩
    unfold Dat.left
    rw [show cfg0.idle 8 (cfg0.grid.coords ⟨n, hlt⟩) = false from hi.trans (by simp; omega)]
    rfl

/-! ## What a point asks of the body -/

/-- A window the point stores into, or writes back, is asked for at what it holds after the point. -/
theorem leaves_after (c : Dev nD) (w : Fin cfg0.W) (t : Fin cfg0.N)
    (h : cfg0.idle w (grid0.coords t) = false ∨ (cfg0.win w).flush t = true) : (dats m 0 c).leavesExact w t
    = owns (c : Thread nD τ) ((cfg0.win w).stage (cfg0.slots t w)) fullShare ((dats m 0 c).after w t) := by
  unfold Dat.leavesExact
  rcases h with h | h
  · rw [show cfg0.idle w (cfg0.grid.coords t) = false from h]
  · rw [h]; cases cfg0.idle w (cfg0.grid.coords t) <;> rfl

theorem leaves_8 (c : Dev nD) (t : Fin cfg0.N) : (dats m 0 c).leavesExact 8 t
    = owns (c : Thread nD τ) ((cfg0.win 8).stage (cfg0.slots t 8)) fullShare ((dats m 0 c).after 8 t) := by
  refine leaves_after m c 8 t ?_
  by_cases h : t.val % 2 = 0
  · exact .inl ((idle_8 t).trans (by simp [h]))
  · exact .inr ((flush0_8 t).mpr (by omega))

def bodyPre (c : Dev nD) (t : Fin cfg0.N) : sProp 𝕄 :=
  iprop((dats m 0 c).Φ t.castSucc ∗ (dats m 0 c).owesAt () t.castSucc
    ∗ (∃ d, owns (c : Thread nD τ) (stage_0 t) fullShare ((dats m 0 c).before 0 t d))
    ∗ (∃ d, owns (c : Thread nD τ) (stage_1 t) fullShare ((dats m 0 c).before 1 t d))
    ∗ (∃ d, owns (c : Thread nD τ) (stage_2 t) fullShare ((dats m 0 c).before 2 t d))
    ∗ (∃ d, owns (c : Thread nD τ) (stage_3 t) fullShare ((dats m 0 c).before 3 t d))
    ∗ (∃ d, owns (c : Thread nD τ) (stage_4 t) fullShare ((dats m 0 c).before 4 t d))
    ∗ (∃ d, owns (c : Thread nD τ) (stage_5 t) fullShare ((dats m 0 c).before 5 t d))
    ∗ (∃ d, owns (c : Thread nD τ) (stage_6 t) fullShare ((dats m 0 c).before 6 t d))
    ∗ (∃ d, owns (c : Thread nD τ) (stage_7 t) fullShare ((dats m 0 c).before 7 t d))
    ∗ (∃ d, owns (c : Thread nD τ) (stage_8 t) fullShare ((dats m 0 c).before 8 t d))
    ∗ (∃ d, owns (c : Thread nD τ) (stage_9 t) fullShare ((dats m 0 c).before 9 t d))
    ∗ (∃ d, owns (c : Thread nD τ) (stage_10 t) fullShare ((dats m 0 c).before 10 t d))
    ∗ (∃ d, owns (c : Thread nD τ) (stage_11 t) fullShare ((dats m 0 c).before 11 t d))
    ∗ (∃ d, owns (c : Thread nD τ) (stage_12 t) fullShare ((dats m 0 c).before 12 t d))
    ∗ (∃ d, owns (c : Thread nD τ) (stage_13 t) fullShare ((dats m 0 c).before 13 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

set_option maxHeartbeats 2000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl]
  rw [show (dats m 0 c).Φ t.succ = iprop((owns (c : Thread nD τ) rowsRef fullShare (normed m c t)
      ∗ (∃ z, owns (c : Thread nD τ) keptRef fullShare (state m c z (t.val + 1) t.isLt))) ∗ (∃ r, prngReg c r)) from rfl]
  rw [leaves_after m c 0 t (.inl rfl), leaves_after m c 1 t (.inl rfl), leaves_after m c 2 t (.inl rfl), leaves_after m c 3 t (.inl rfl), leaves_after m c 4 t (.inl rfl), leaves_after m c 5 t (.inl rfl), leaves_after m c 6 t (.inl rfl), leaves_after m c 7 t (.inl rfl), leaves_8, leaves_after m c 9 t (.inr (flush0_9 t)), leaves_after m c 10 t (.inr (flush0_10 t)), leaves_after m c 11 t (.inr (flush0_11 t)), leaves_after m c 12 t (.inr (flush0_12 t)), leaves_after m c 13 t (.inr (flush0_13 t)),
    after_0, after_1, after_2, after_3, after_4, after_5, after_6, after_7, after_9, after_10, after_11, after_12, after_13, holds_castSucc]
  refine (Idealize.SL.BI.BIClass.sep_mono (holds_entry m c t) (Idealize.SL.BI.Entails.refl _)).trans ?_
  iintro ⟨⟨⟨⟨%cs, HS⟩, ⟨%z, HZ⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  have e8 : (if first (grid0.coords t) then k0_pay4 (iblk m c 0 t) (iblk m c 1 t) else (dats m 0 c).before 8 t d8) = (dats m 0 c).after 8 t := by
    by_cases h : t.val % 2 = 0
    · rw [if_pos ((first_iff t).mpr h), after_8, base_first h]
    · rw [if_neg (fun e => h ((first_iff t).mp e)), before_8 m c t h]
  have eR : rows (grid0.coords t) (iblk m c 0 t) (iblk m c 1 t) (if t.val % 2 = 0 then cs else normed m c t) = normed m c t := by
    unfold rows
    by_cases h : t.val % 2 = 0
    · rw [if_pos ((first_iff t).mpr h)]; unfold normed; rw [base_first h]
    · rw [if_neg (fun e => h ((first_iff t).mp e)), if_neg h]
  have hrun := run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) rowsRef (Memref.isWhole_whole cc0_scratch0) keptRef (Memref.isWhole_whole cc0_scratch1)
    (iblk m c 0 t) (iblk m c 1 t) (iblk m c 2 t) (iblk m c 3 t) (iblk m c 4 t) (iblk m c 5 t) (iblk m c 6 t) (iblk m c 7 t) ((dats m 0 c).before 8 t d8)
    (if t.val % 2 = 0 then cs else normed m c t) (state m c z t.val (Nat.le_of_lt t.isLt)) Set.univ (fun _ => iprop(iprop((owns (c : Thread nD τ) rowsRef fullShare (normed m c t) ∗ (∃ z, owns (c : Thread nD τ) keptRef fullShare (state m c z (t.val + 1) t.isLt))) ∗ (∃ r, prngReg c r))
      ∗ (dats m 0 c).owesAt () t.castSucc
      ∗ owns (c : Thread nD τ) (stage_0 t) fullShare (iblk m c 0 t)
      ∗ owns (c : Thread nD τ) (stage_1 t) fullShare (iblk m c 1 t)
      ∗ owns (c : Thread nD τ) (stage_2 t) fullShare (iblk m c 2 t)
      ∗ owns (c : Thread nD τ) (stage_3 t) fullShare (iblk m c 3 t)
      ∗ owns (c : Thread nD τ) (stage_4 t) fullShare (iblk m c 4 t)
      ∗ owns (c : Thread nD τ) (stage_5 t) fullShare (iblk m c 5 t)
      ∗ owns (c : Thread nD τ) (stage_6 t) fullShare (iblk m c 6 t)
      ∗ owns (c : Thread nD τ) (stage_7 t) fullShare (iblk m c 7 t)
      ∗ owns (c : Thread nD τ) (stage_8 t) fullShare ((dats m 0 c).after 8 t)
      ∗ owns (c : Thread nD τ) (stage_9 t) fullShare (k0_pay7 (normed m c t) (iblk m c 2 t))
      ∗ owns (c : Thread nD τ) (stage_10 t) fullShare (k0_pay14 (normed m c t) (iblk m c 3 t))
      ∗ owns (c : Thread nD τ) (stage_11 t) fullShare (convG (normed m c t) (iblk m c 2 t) (iblk m c 4 t) (iblk m c 6 t) (before m c t))
      ∗ owns (c : Thread nD τ) (stage_12 t) fullShare (convV (normed m c t) (iblk m c 3 t) (iblk m c 5 t) (iblk m c 7 t) (before' m c t))
      ∗ owns (c : Thread nD τ) (stage_13 t) fullShare (gated (normed m c t) (iblk m c 2 t) (iblk m c 3 t) (iblk m c 4 t) (iblk m c 5 t) (iblk m c 6 t) (iblk m c 7 t) (before m c t) (before' m c t))))
  rw [e8, eR, show found (grid0.coords t) (state m c z t.val (Nat.le_of_lt t.isLt)) = before m c t from found_state m c z t.val t.isLt,
    show found' (grid0.coords t) (state m c z t.val (Nat.le_of_lt t.isLt)) = before' m c t from found'_state m c z t.val t.isLt] at hrun
  iapply hrun
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [HS]; · iexact HS
  isplitl [HZ]; · iexact HZ
  iintro ⟨H0, H1, H2, H3, H4, H5, H6, H7, H8, H9, H10, H11, H12, H13, HS, HZ⟩
  isplitl [HS HZ Hg]
  · isplitl [HS HZ]
    · isplitl [HS]; · iexact HS
      iexists z; iexact HZ
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]
  try exact Idealize.SL.BI.Entails.refl _

theorem hout (c : Dev nD) : (dats m 0 c).Φ (Fin.last cfg0.N) ⊢ Pipeline.ΦA spec0 c := by
  rw [show (dats m 0 c).Φ (Fin.last cfg0.N) = holds m c cfg0.N (Nat.le_refl _) from rfl, start_eq]
  exact holds_some m c _ _

/-! ## The run -/

set_option backward.isDefEq.respectTransparency.types false in
/-- From any memory with zero counters the program runs to its end, the results written as `dats` says. -/
theorem run_quiescent : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The program changes none of its arguments, and leaves every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiescent m ρ))

end Cert.UpFrame
-- ==== Proof.UpForward.lean ====
/- The up projection's forward call: at each tile of 512 rows the kernel norms the rows, multiplies them by 1408 columns of
   each half of the projection, convolves each half along the rows with the eight rows kept from the tile before, and
   gates one half by the other. The results are the reference's, over any extended reals. -/
module

public import proofs.«01_k».proof.Proof.UpFrame
public import proofs.«01_k».proof.Proof.Consts
public import Idealize.ShloMosaic.Lib.KernelVsHost
public import Idealize.ShloMosaic.Lib.Pipeline.ValueKit
public import Idealize.ShloMosaic.Lib.Pipeline.ReadBack
public import Idealize.ShloMosaic.Lib.StableHlo.RunRead
public import Idealize.ShloMosaic.Lib.Pointwise
public import Idealize.ShloMosaic.Adequacy
public import Idealize.ShloMosaic.Init
public import proofs.«01_k».proof.Defs
public import proofs.«01_k».proof.Proof.Gen.Kernel16Ideal
public import proofs.«01_k».proof.Proof.Gen.Reference16Ideal
public import proofs.«01_k».proof.Proof.Gen.Reference16Ideal.Read

@[expose] public section

set_option maxRecDepth 16384

noncomputable section

namespace Cert.UpForward

open Cert.Kernel16Ideal Cert.Kernel16Ideal.Gen Idealize.ShloMosaic Idealize.ShloMosaic.TcCoe Idealize.SL.Sem Cert.UpRun Cert.UpFrame
open Cert.Reference16Ideal.Read

/-- Row `a` of tile `T`. -/
def row (T : Fin 16) (a : Fin 512) : Fin 8192 := ⟨512 * T.val + a.val, by omega⟩

/-- Row `R` of the projection's rows below two rows of zeros. -/
def padded (U : Cert.Reference16Ideal.S8192x5632.Idx → EReal) (R : ℕ) (k : Fin 5632) : EReal :=
  if h : 2 ≤ R ∧ R < 8194 then U (ix2 ⟨R - 2, by omega⟩ k) else 0

theorem padded_eq (U : Cert.Reference16Ideal.S8192x5632.Idx → EReal) (R : ℕ) (k : Fin 5632) (r : Fin 8192) (e : R = r.val + 2) :
    padded U R k = U (ix2 r k) := by
  have hr := r.isLt
  rw [padded, dif_pos (by omega)]; exact congrArg (fun q => U (ix2 q k)) (Fin.ext (by show R - 2 = r.val; omega))

/-- The sum of one column's taps and its bias. -/
def conv (U : Cert.Reference16Ideal.S8192x5632.Idx → EReal) (X3 : S3x5632.Idx → EReal) (X4 : S5632.Idx → EReal) (r : ℕ) (k : Fin 5632) : EReal :=
  X4 (ix1 k) + X3 (ix2 0 k) * padded U r k + X3 (ix2 1 k) * padded U (r + 1) k + X3 (ix2 2 k) * padded U (r + 2) k

/-- The activation, with its constants' values. -/
def gate (g : EReal) : EReal :=
  (((1 / 2 : ℝ) : EReal) * g) * (1 + Ideal.tanh (((Spec.gC : ℝ) : EReal) * (g + ((Spec.gA : ℝ) : EReal) * g * g * g)))

section Reference

variable (X0 : FVec Ideal S8192x1024 .f32) (X1 : FVec Ideal S1024 .f32) (X2 : FVec Ideal S1024x5632 .f32) (X3 : FVec Ideal S3x5632 .f32)
  (X4 : FVec Ideal S5632 .f32)

theorem ref_padded (r : Fin 8194) (k : Fin 5632) :
    val_main_v15 (F := Ideal) X0 X1 X2 (ix2 r k) = padded (val_main_v13 (F := Ideal) X0 X1 X2) r.val k := by
  have hr := r.isLt
  pointwise [val_main_v15, val_main_v14, val_main_cst_2]
  split_ifs
  any_goals (rename_i hz; exact absurd rfl hz)
  · rw [padded, dif_neg (by omega)]
  · exact (padded_eq _ _ _ _ (by first | omega | (dsimp only; omega))).symm

theorem ref_conv (r : Fin 8192) (k : Fin 5632) : val_main_v38 (F := Ideal) X0 X1 X2 X3 X4 (ix2 r k)
    = conv (val_main_v13 (F := Ideal) X0 X1 X2) X3 X4 r.val k := by
  have hr := r.isLt
  pointwise [val_main_v38, val_main_v37, val_main_v36, val_main_v35, val_main_v34, val_main_v33, val_main_v32, val_main_v31, val_main_v30, val_main_v29,
    val_main_v28, val_main_v27, val_main_v26, val_main_v25, val_main_v24, val_main_v23, val_main_v22, val_main_v21, val_main_v20, val_main_v19,
    val_main_v18, val_main_v17, val_main_v16]
  rw [ref_padded, ref_padded, ref_padded, conv, mul_comm (X3 (ix2 0 k)), mul_comm (X3 (ix2 1 k)), mul_comm (X3 (ix2 2 k))]
  simp only [Nat.add_comm, Nat.zero_add, Nat.add_zero]

theorem ref_gate (r : Fin 8192) (k : Fin 2816) : val_main_v53 (F := Ideal) X0 X1 X2 X3 X4 (ix2 r k)
    = gate (conv (val_main_v13 (F := Ideal) X0 X1 X2) X3 X4 r.val ⟨k.val, by omega⟩) := by
  have e : val_main_v39 (F := Ideal) X0 X1 X2 X3 X4 (ix2 r k) = conv (val_main_v13 (F := Ideal) X0 X1 X2) X3 X4 r.val ⟨k.val, by omega⟩ := by
    pointwise [val_main_v39]
    exact ref_conv X0 X1 X2 X3 X4 r ⟨k.val, by omega⟩
  pointwise [val_main_v53, val_main_v52, val_main_v51, val_main_v50, val_main_v49, val_main_v48, val_main_v47, val_main_v46, val_main_v45, val_main_v44,
    val_main_v43, val_main_v42, val_main_v41, val_main_cst_3, val_main_cst_4, val_main_cst_5, val_main_cst_6]
  rw [e]
  generalize conv (val_main_v13 (F := Ideal) X0 X1 X2) X3 X4 r.val ⟨k.val, by omega⟩ = g
  simp only [Consts.c_gA, Consts.c_gC, Consts.c_half, gate]
  rw [mul_comm ((1 / 2 : ℝ) : EReal) g, mul_assoc g ((1 / 2 : ℝ) : EReal), mul_assoc ((Spec.gA : ℝ) : EReal) g g, mul_assoc ((Spec.gA : ℝ) : EReal) (g * g) g]

end Reference

section Body

variable {X0 : FVec Ideal S8192x1024 .f32} {X1 : FVec Ideal S1024 .f32} {X2 : FVec Ideal S1024x5632 .f32} {X3 : FVec Ideal S3x5632 .f32}
  {X4 : FVec Ideal S5632 .f32} {T : Fin 16} {K : Fin 1408 → Fin 5632}
  {x0 : Vec Ideal S512x1024 .f32} {x1 : Vec Ideal S1x1024 .f32} {n : Vec Ideal S512x1024 .bf16} {w : Vec Ideal S1x1024x1408 .bf16}
  {p : Vec Ideal S1x1x8x1408 .f32} {t : Vec Ideal S3x1408 .f32} {b : Vec Ideal S1x1408 .f32}

theorem normed_row (hx : ∀ (a : Fin 512) (i : Fin 1024), x0 (ix2 a i) = X0 (ix2 (row T a) i)) (hg : ∀ (z : Fin 1) (i : Fin 1024), x1 (ix2 z i) = X1 (ix1 i))
    (a : Fin 512) (i : Fin 1024) : k0_pay4 (F := Ideal) x0 x1 (ix2 a i) = val_main_v12 (F := Ideal) X0 X1 (ix2 (row T a) i) := by
  pointwise [k0_pay4, val_main_v12, val_main_v11, val_main_v10, val_main_v9, val_main_v8, val_main_v7, val_main_v6, val_main_v5, val_main_v4,
    val_main_v3, val_main_v2, val_main_v1, val_main_v0, val_main_cst, val_main_cst_0, val_main_cst_1]
  simp only [hx, hg]

theorem kept_row (hx : ∀ (a : Fin 512) (i : Fin 1024), x0 (ix2 a i) = X0 (ix2 (row T a) i)) (hg : ∀ (z : Fin 1) (i : Fin 1024), x1 (ix2 z i) = X1 (ix1 i))
    (a : Fin 512) (i : Fin 1024) : k0_pay5 (F := Ideal) x0 x1 (ix2 a i) = val_main_v12 (F := Ideal) X0 X1 (ix2 (row T a) i) := by
  refine Eq.trans ?_ (normed_row hx hg a i)
  pointwise [k0_pay5]

/-- What a point is given: normed rows, columns of the projection, the rows before the tile, taps and biases. -/
structure Given (X0 : FVec Ideal S8192x1024 .f32) (X1 : FVec Ideal S1024 .f32) (X2 : FVec Ideal S1024x5632 .f32) (X3 : FVec Ideal S3x5632 .f32)
    (X4 : FVec Ideal S5632 .f32) (T : Fin 16) (K : Fin 1408 → Fin 5632) (n : Vec Ideal S512x1024 .bf16) (w : Vec Ideal S1x1024x1408 .bf16)
    (p : Vec Ideal S1x1x8x1408 .f32) (t : Vec Ideal S3x1408 .f32) (b : Vec Ideal S1x1408 .f32) : Prop where
  normed : ∀ (a : Fin 512) (i : Fin 1024), n (ix2 a i) = val_main_v12 (F := Ideal) X0 X1 (ix2 (row T a) i)
  columns : ∀ (z : Fin 1) (i : Fin 1024) (j : Fin 1408), w (ix3 z i j) = X2 (ix2 i (K j))
  before : ∀ (z z' : Fin 1) (y : Fin 8) (j : Fin 1408),
    p (ix4 z z' y j) = padded (val_main_v13 (F := Ideal) X0 X1 X2) (512 * T.val + y.val - 6) (K j)
  taps : ∀ (i : Fin 3) (j : Fin 1408), t (ix2 i j) = X3 (ix2 i (K j))
  bias : ∀ (z : Fin 1) (j : Fin 1408), b (ix2 z j) = X4 (ix1 (K j))

theorem times (hn : ∀ (a : Fin 512) (i : Fin 1024), n (ix2 a i) = val_main_v12 (F := Ideal) X0 X1 (ix2 (row T a) i))
    (hw : ∀ (z : Fin 1) (i : Fin 1024) (j : Fin 1408), w (ix3 z i j) = X2 (ix2 i (K j))) (a : Fin 512) (j : Fin 1408) :
    k0_pay7 (F := Ideal) n w (ix2 a j) = val_main_v13 (F := Ideal) X0 X1 X2 (ix2 (row T a) (K j)) := by
  pointwise [k0_pay7, val_main_v13]
  simp only [hn, hw]

theorem same_product : k0_pay14 (F := Ideal) n w = k0_pay7 (F := Ideal) n w := rfl
theorem same_joined : k0_pay16 (F := Ideal) n w p = k0_pay9 (F := Ideal) n w p := rfl
theorem same_last : k0_pay1 (F := Ideal) (k0_pay17 (F := Ideal) n w) = k0_pay10 (F := Ideal) n w := rfl
theorem same_conv : convV (F := Ideal) n w t b p = convG (F := Ideal) n w t b p := rfl

/-- The last eight rows of a tile. -/
theorem last_rows (hn : ∀ (a : Fin 512) (i : Fin 1024), n (ix2 a i) = val_main_v12 (F := Ideal) X0 X1 (ix2 (row T a) i))
    (hw : ∀ (z : Fin 1) (i : Fin 1024) (j : Fin 1408), w (ix3 z i j) = X2 (ix2 i (K j))) (z z' : Fin 1) (y : Fin 8) (j : Fin 1408) :
    k0_pay10 (F := Ideal) n w (ix4 z z' y j) = padded (val_main_v13 (F := Ideal) X0 X1 X2) (512 * (T.val + 1) + y.val - 6) (K j) := by
  have hy := y.isLt
  have hT := T.isLt
  pointwise [k0_pay10, k0_pay8]
  refine (times hn hw _ j).trans (padded_eq _ _ _ _ ?_).symm
  simp only [row]
  omega

variable (h : Given X0 X1 X2 X3 X4 T K n w p t b)
include h

theorem joined (q : Fin 520) (j : Fin 1408) :
    k0_pay9 (F := Ideal) n w p (ix2 q j) = padded (val_main_v13 (F := Ideal) X0 X1 X2) (512 * T.val + q.val - 6) (K j) := by
  have hq := q.isLt
  have hT := T.isLt
  pointwise [k0_pay9, k0_pay8]
  split_ifs
  any_goals (rename_i hz; exact absurd rfl hz)
  · exact h.before _ _ _ j
  · refine (times h.normed h.columns _ j).trans (padded_eq _ _ _ _ ?_).symm
    simp only [row]
    omega

theorem convolved (a : Fin 512) (j : Fin 1408) : convG (F := Ideal) n w t b p (ix2 a j)
    = conv (val_main_v13 (F := Ideal) X0 X1 X2) X3 X4 (row T a).val (K j) := by
  have ha := a.isLt
  unfold convG
  pointwise [k0_pay12, k0_pay11]
  rw [joined h, joined h, joined h, h.bias, h.taps, h.taps, h.taps, conv]
  simp only [row]
  rw [show 512 * T.val + (8 + a.val + 520 - 2) % 520 - 6 = 512 * T.val + a.val by omega,
    show 512 * T.val + (8 + a.val + 520 - 1) % 520 - 6 = 512 * T.val + a.val + 1 by omega,
    show 512 * T.val + (8 + a.val) - 6 = 512 * T.val + a.val + 2 by omega]

theorem activated (a : Fin 512) (j : Fin 1408) : k0_pay13 (F := Ideal) (k0_pay9 n w p) t (k0_pay11 n w p t b) (ix2 a j)
    = gate (conv (val_main_v13 (F := Ideal) X0 X1 X2) X3 X4 (row T a).val (K j)) := by
  have e : k0_pay12 (F := Ideal) (k0_pay9 n w p) t (k0_pay11 n w p t b) (ix2 a j) = _ := convolved h a j
  pointwise [k0_pay13]
  rw [e]
  generalize conv (val_main_v13 (F := Ideal) X0 X1 X2) X3 X4 (row T a).val (K j) = g
  rw [IdealRules.named_const.ideal_named_scalar κ "gelu_a" _ ((12003091 / 268435456 : ℝ) : EReal) rfl,
    IdealRules.named_const.ideal_named_scalar κ "gelu_c" _ ((6693141 / 8388608 : ℝ) : EReal) rfl]
  simp only [Consts.c_half_bf16, gate, Spec.gA, Spec.gC]

end Body

section Blocks

variable {m : (ℓ : Loc nD τ sig) → Buf (Elt Ideal) ℓ} {c : Dev nD}

/-- The arguments' arrays. -/
abbrev arrX (m : (ℓ : Loc nD τ sig) → Buf (Elt Ideal) ℓ) (c : Dev nD) : FVec Ideal S8192x1024 .f32 := m ((c : Thread nD τ).loc main_arg0)
abbrev arrG (m : (ℓ : Loc nD τ sig) → Buf (Elt Ideal) ℓ) (c : Dev nD) : FVec Ideal S1024 .f32 := m ((c : Thread nD τ).loc main_arg1)
abbrev arrW (m : (ℓ : Loc nD τ sig) → Buf (Elt Ideal) ℓ) (c : Dev nD) : FVec Ideal S1024x5632 .f32 := m ((c : Thread nD τ).loc main_arg2)
abbrev arrT (m : (ℓ : Loc nD τ sig) → Buf (Elt Ideal) ℓ) (c : Dev nD) : FVec Ideal S3x5632 .f32 := m ((c : Thread nD τ).loc main_arg3)
abbrev arrB (m : (ℓ : Loc nD τ sig) → Buf (Elt Ideal) ℓ) (c : Dev nD) : FVec Ideal S5632 .f32 := m ((c : Thread nD τ).loc main_arg4)

/-- Column `j` of the quarter `s` of the projection. -/
def column (s : Fin 4) (j : Fin 1408) : Fin 5632 := ⟨1408 * s.val + j.val, by omega⟩

theorem weight (s : Fin 4) (i : Fin 1024) (j : Fin 1408) : (V m c main_v2 : S4x1024x1408.Idx → EReal) (ix3 s i j) = arrW m c (ix2 i (column s j)) := by
  unfold_abbrev_sides
  after_reads_simp
  pointwise
  exact congrArg (fun q => arrW m c (ix2 i q)) (Fin.ext (by show s.val * 1408 + j.val = 1408 * s.val + j.val; omega))

theorem gain (z : Fin 1) (i : Fin 1024) : (V m c main_v3 : S1x1024.Idx → EReal) (ix2 z i) = arrG m c (ix1 i) := by
  unfold_abbrev_sides
  after_reads_simp
  pointwise

theorem biases (z : Fin 1) (i : Fin 5632) : (V m c main_v4 : S1x5632.Idx → EReal) (ix2 z i) = arrB m c (ix1 i) := by
  unfold_abbrev_sides
  after_reads_simp
  pointwise

theorem index_in : ∀ t : Fin cfg0.N, win0_0.index t = ![t.val / 2, 0] ∧ win0_1.index t = ![0, 0] ∧ win0_2.index t = ![t.val % 2, 0, 0]
    ∧ win0_3.index t = ![t.val % 2 + 2, 0, 0] ∧ win0_4.index t = ![0, t.val % 2] ∧ win0_5.index t = ![0, t.val % 2 + 2]
    ∧ win0_6.index t = ![0, t.val % 2] ∧ win0_7.index t = ![0, t.val % 2 + 2] := by decide +kernel
theorem index_rows : ∀ t : Fin cfg0.N, win0_8.index t = ![t.val / 2, 0] := by decide +kernel
theorem index_out : ∀ t : Fin cfg0.N, win0_9.index t = ![t.val / 2, t.val % 2] ∧ win0_10.index t = ![t.val / 2, t.val % 2]
    ∧ win0_11.index t = ![t.val / 2, t.val % 2] ∧ win0_12.index t = ![t.val / 2, t.val % 2] ∧ win0_13.index t = ![t.val / 2, t.val % 2] := by decide +kernel

/-- The tile of a point, and the quarters of the projection it takes. -/
def tile (t : Fin cfg0.N) : Fin 16 := ⟨t.val / 2, by have h : t.val < 32 := t.isLt; omega⟩
def quarter (t : Fin cfg0.N) : Fin 4 := ⟨t.val % 2, by omega⟩
def quarter' (t : Fin cfg0.N) : Fin 4 := ⟨t.val % 2 + 2, by omega⟩

theorem tile_base (t : Fin cfg0.N) : tile (base t) = tile t := Fin.ext (by
  show (t.val - t.val % 2) / 2 = t.val / 2; omega)

theorem b_x (t : Fin cfg0.N) (a : Fin 512) (i : Fin 1024) : (iblk m c 0 t : S512x1024.Idx → EReal) (ix2 a i) = arrX m c (ix2 (row (tile t) a) i) := by
  have e : iblk m c 0 t (ix2 a i) = V m c main_arg0 (ix2 (row (tile t) a) i) := by
    blk_ext [iblk, index_in t, row, tile]
  exact e.trans (congrFun (V_main_arg0 m c) _)

theorem b_g (t : Fin cfg0.N) (z : Fin 1) (i : Fin 1024) : (iblk m c 1 t : S1x1024.Idx → EReal) (ix2 z i) = arrG m c (ix1 i) := by
  have e : iblk m c 1 t (ix2 z i) = V m c main_v3 (ix2 z i) := by
    blk_ext [iblk, index_in t]
  exact e.trans (gain z i)

theorem b_w2 (t : Fin cfg0.N) (z : Fin 1) (i : Fin 1024) (j : Fin 1408) :
    (iblk m c 2 t : S1x1024x1408.Idx → EReal) (ix3 z i j) = arrW m c (ix2 i (column (quarter t) j)) := by
  have e : iblk m c 2 t (ix3 z i j) = V m c main_v2 (ix3 (quarter t) i j) := by
    blk_ext [iblk, index_in t, quarter]
  exact e.trans (weight _ i j)

theorem b_w3 (t : Fin cfg0.N) (z : Fin 1) (i : Fin 1024) (j : Fin 1408) :
    (iblk m c 3 t : S1x1024x1408.Idx → EReal) (ix3 z i j) = arrW m c (ix2 i (column (quarter' t) j)) := by
  have e : iblk m c 3 t (ix3 z i j) = V m c main_v2 (ix3 (quarter' t) i j) := by
    blk_ext [iblk, index_in t, quarter']
  exact e.trans (weight _ i j)

theorem b_t4 (t : Fin cfg0.N) (i : Fin 3) (j : Fin 1408) :
    (iblk m c 4 t : S3x1408.Idx → EReal) (ix2 i j) = arrT m c (ix2 i (column (quarter t) j)) := by
  have e : iblk m c 4 t (ix2 i j) = V m c main_arg3 (ix2 i (column (quarter t) j)) := by
    blk_ext [iblk, index_in t, quarter, column]
  exact e.trans (congrFun (V_main_arg3 m c) _)

theorem b_t5 (t : Fin cfg0.N) (i : Fin 3) (j : Fin 1408) :
    (iblk m c 5 t : S3x1408.Idx → EReal) (ix2 i j) = arrT m c (ix2 i (column (quarter' t) j)) := by
  have e : iblk m c 5 t (ix2 i j) = V m c main_arg3 (ix2 i (column (quarter' t) j)) := by
    blk_ext [iblk, index_in t, quarter', column]
  exact e.trans (congrFun (V_main_arg3 m c) _)

theorem b_b6 (t : Fin cfg0.N) (z : Fin 1) (j : Fin 1408) :
    (iblk m c 6 t : S1x1408.Idx → EReal) (ix2 z j) = arrB m c (ix1 (column (quarter t) j)) := by
  have e : iblk m c 6 t (ix2 z j) = V m c main_v4 (ix2 z (column (quarter t) j)) := by
    blk_ext [iblk, index_in t, quarter, column]
  exact e.trans (biases z _)

theorem b_b7 (t : Fin cfg0.N) (z : Fin 1) (j : Fin 1408) :
    (iblk m c 7 t : S1x1408.Idx → EReal) (ix2 z j) = arrB m c (ix1 (column (quarter' t) j)) := by
  have e : iblk m c 7 t (ix2 z j) = V m c main_v4 (ix2 z (column (quarter' t) j)) := by
    blk_ext [iblk, index_in t, quarter', column]
  exact e.trans (biases z _)

theorem rows (t : Fin cfg0.N) (a : Fin 512) (i : Fin 1024) :
    normed m c t (ix2 a i) = val_main_v12 (F := Ideal) (arrX m c) (arrG m c) (ix2 (row (tile t) a) i) := by
  unfold normed
  rw [← tile_base t]
  exact kept_row (b_x _) (b_g _) a i

/-- The rows of the projection, at a column of it. -/
abbrev up (m : (ℓ : Loc nD τ sig) → Buf (Elt Ideal) ℓ) (c : Dev nD) : Cert.Reference16Ideal.S8192x5632.Idx → EReal :=
  val_main_v13 (F := Ideal) (arrX m c) (arrG m c) (arrW m c)

theorem no_past (z z' : Fin 1) (y : Fin 8) (j : Fin 1408) : (noPast : Vec Ideal S1x1x8x1408 .f32) (ix4 z z' y j) = 0 := by
  pointwise [noPast]

theorem before_rows (t : Fin cfg0.N) (z z' : Fin 1) (y : Fin 8) (j : Fin 1408) :
    UpFrame.before m c t (ix4 z z' y j) = padded (up m c) (512 * (tile t).val + y.val - 6) (column (quarter t) j) := by
  have hy := y.isLt
  have ht : t.val < 32 := t.isLt
  unfold UpFrame.before
  by_cases hs : t.val < 2
  · rw [if_pos hs, no_past, padded, dif_neg (by simp only [tile]; omega)]
  · rw [if_neg hs]
    refine (last_rows (T := tile (prev t)) (K := column (quarter (prev t))) (rows (prev t)) (b_w2 (prev t)) z z' y j).trans ?_
    have e : quarter (prev t) = quarter t := Fin.ext (by simp only [quarter, prev]; omega)
    have e' : (tile (prev t)).val + 1 = (tile t).val := by simp only [tile, prev]; omega
    rw [e, e']

theorem before'_rows (t : Fin cfg0.N) (z z' : Fin 1) (y : Fin 8) (j : Fin 1408) :
    UpFrame.before' m c t (ix4 z z' y j) = padded (up m c) (512 * (tile t).val + y.val - 6) (column (quarter' t) j) := by
  have hy := y.isLt
  have ht : t.val < 32 := t.isLt
  unfold UpFrame.before'
  by_cases hs : t.val < 2
  · rw [if_pos hs, no_past, padded, dif_neg (by simp only [tile]; omega)]
  · rw [if_neg hs]
    rw [same_last]
    refine (last_rows (T := tile (prev t)) (K := column (quarter' (prev t))) (rows (prev t)) (b_w3 (prev t)) z z' y j).trans ?_
    have e : quarter' (prev t) = quarter' t := Fin.ext (by simp only [quarter', prev]; omega)
    have e' : (tile (prev t)).val + 1 = (tile t).val := by simp only [tile, prev]; omega
    rw [e, e']

theorem given (t : Fin cfg0.N) : Given (arrX m c) (arrG m c) (arrW m c) (arrT m c) (arrB m c) (tile t) (column (quarter t))
    (normed m c t) (iblk m c 2 t) (UpFrame.before m c t) (iblk m c 4 t) (iblk m c 6 t) :=
  ⟨rows t, b_w2 t, before_rows t, b_t4 t, b_b6 t⟩
theorem given' (t : Fin cfg0.N) : Given (arrX m c) (arrG m c) (arrW m c) (arrT m c) (arrB m c) (tile t) (column (quarter' t))
    (normed m c t) (iblk m c 3 t) (UpFrame.before' m c t) (iblk m c 5 t) (iblk m c 7 t) :=
  ⟨rows t, b_w3 t, before'_rows t, b_t5 t, b_b7 t⟩

/-! ## The results -/

/-- Column `j` of a result, at a point. -/
def place (t : Fin cfg0.N) (j : Fin 1408) : Fin 2816 := ⟨1408 * (t.val % 2) + j.val, by omega⟩

theorem place_left (t : Fin cfg0.N) (j : Fin 1408) (h : (place t j).val < 5632) : (⟨(place t j).val, h⟩ : Fin 5632) = column (quarter t) j := rfl
theorem place_right (t : Fin cfg0.N) (j : Fin 1408) (h : 2816 + (place t j).val < 5632) :
    (⟨2816 + (place t j).val, h⟩ : Fin 5632) = column (quarter' t) j :=
  Fin.ext (by simp only [place, column, quarter']; omega)

theorem point8 (t : Fin cfg0.N) (a : Fin 512) (i : Fin 1024) : k0_pay4 (F := Ideal) (iblk m c 0 (base t)) (iblk m c 1 (base t)) (ix2 a i)
    = val_main_v57 (F := Ideal) (arrX m c) (arrG m c) (ix2 (row (tile t) a) i) := by
  rw [← tile_base t]
  refine (normed_row (b_x (m := m) (c := c) (base t)) (b_g (base t)) a i).trans ?_
  pointwise [val_main_v57]

theorem point9 (t : Fin cfg0.N) (a : Fin 512) (j : Fin 1408) : k0_pay7 (F := Ideal) (normed m c t) (iblk m c 2 t) (ix2 a j)
    = val_main_v58 (F := Ideal) (arrX m c) (arrG m c) (arrW m c) (ix2 (row (tile t) a) (place t j)) := by
  refine (times (rows t) (b_w2 t) a j).trans ?_
  pointwise [val_main_v58, val_main_v55]
  exact congrArg (fun q => up m c (ix2 (row (tile t) a) q)) (place_left t j (by have := (place t j).isLt; omega)).symm

theorem point10 (t : Fin cfg0.N) (a : Fin 512) (j : Fin 1408) : k0_pay14 (F := Ideal) (normed m c t) (iblk m c 3 t) (ix2 a j)
    = val_main_v59 (F := Ideal) (arrX m c) (arrG m c) (arrW m c) (ix2 (row (tile t) a) (place t j)) := by
  rw [same_product]
  refine (times (rows t) (b_w3 t) a j).trans ?_
  pointwise [val_main_v59, val_main_v56]
  exact congrArg (fun q => up m c (ix2 (row (tile t) a) q)) (place_right t j (by have := (place t j).isLt; omega)).symm

theorem point11 (t : Fin cfg0.N) (a : Fin 512) (j : Fin 1408) :
    convG (F := Ideal) (normed m c t) (iblk m c 2 t) (iblk m c 4 t) (iblk m c 6 t) (UpFrame.before m c t) (ix2 a j)
      = val_main_v60 (F := Ideal) (arrX m c) (arrG m c) (arrW m c) (arrT m c) (arrB m c) (ix2 (row (tile t) a) (place t j)) := by
  refine (convolved (given t) a j).trans ?_
  pointwise [val_main_v60, val_main_v39]
  rw [ref_conv]
  exact congrArg (conv (up m c) (arrT m c) (arrB m c) (row (tile t) a).val) (place_left t j (by have := (place t j).isLt; omega)).symm

theorem ref_right (r : Fin 8192) (t : Fin cfg0.N) (j : Fin 1408) :
    val_main_v40 (F := Ideal) (arrX m c) (arrG m c) (arrW m c) (arrT m c) (arrB m c) (ix2 r (place t j))
      = conv (up m c) (arrT m c) (arrB m c) r.val (column (quarter' t) j) := by
  pointwise [val_main_v40]
  rw [ref_conv]
  exact congrArg (conv (up m c) (arrT m c) (arrB m c) r.val) (place_right t j (by have := (place t j).isLt; omega))

theorem point12 (t : Fin cfg0.N) (a : Fin 512) (j : Fin 1408) :
    convV (F := Ideal) (normed m c t) (iblk m c 3 t) (iblk m c 5 t) (iblk m c 7 t) (UpFrame.before' m c t) (ix2 a j)
      = val_main_v61 (F := Ideal) (arrX m c) (arrG m c) (arrW m c) (arrT m c) (arrB m c) (ix2 (row (tile t) a) (place t j)) := by
  rw [same_conv]
  refine (convolved (given' t) a j).trans ?_
  pointwise [val_main_v61]
  exact (ref_right _ t j).symm

theorem point13 (t : Fin cfg0.N) (a : Fin 512) (j : Fin 1408) :
    gated (F := Ideal) (normed m c t) (iblk m c 2 t) (iblk m c 3 t) (iblk m c 4 t) (iblk m c 5 t) (iblk m c 6 t) (iblk m c 7 t)
        (UpFrame.before m c t) (UpFrame.before' m c t) (ix2 a j)
      = val_main_v62 (F := Ideal) (arrX m c) (arrG m c) (arrW m c) (arrT m c) (arrB m c) (ix2 (row (tile t) a) (place t j)) := by
  have e := point12 (m := m) (c := c) t a j
  unfold convV at e
  unfold gated
  pointwise [k0_pay3, val_main_v62, val_main_v54]
  rw [activated (given t) a j, e, ref_gate]
  pointwise [val_main_v61]
  exact congrArg (fun q => gate (conv (up m c) (arrT m c) (arrB m c) (row (tile t) a).val q) * _)
    (place_left t j (by have := (place t j).isLt; omega)).symm

theorem out8 : (dats m 0 c).arrAt 8 cfg0.N = (val_main_v57 (F := Ideal) (arrX m c) (arrG m c) : S8192x1024.Idx → EReal) := by
  refine (dats m 0 c).arrAt_eq_of_covers 8 _ (by decide +kernel) fun t hf y => ?_
  blk_simp
  rw [after_8]
  obtain ⟨a, i, rfl⟩ : ∃ (a : Fin 512) (i : Fin 1024), y = ix2 a i := ⟨y 0, y 1, ValueIdx.eq_ix2 y⟩
  refine (point8 t a i).trans ?_
  have e0 : win0_8.index t 0 = t.val / 2 := by rw [index_rows t]; rfl
  have e1 : win0_8.index t 1 = 0 := by rw [index_rows t]; rfl
  refine congrArg (val_main_v57 (F := Ideal) (arrX m c) (arrG m c) : S8192x1024.Idx → EReal) ?_
  funext d
  match d with
  | ⟨0, _⟩ =>
    refine Fin.ext ?_
    blk_simp
    show 512 * (t.val / 2) + a.val = win0_8.index t 0 * 512 + a.val
    rw [e0]; omega
  | ⟨1, _⟩ =>
    refine Fin.ext ?_
    blk_simp
    show i.val = win0_8.index t 1 * 1024 + i.val
    rw [e1]; omega

theorem outs : (dats m 0 c).arrAt 9 cfg0.N = (val_main_v58 (F := Ideal) (arrX m c) (arrG m c) (arrW m c) : S8192x2816.Idx → EReal)
    ∧ (dats m 0 c).arrAt 10 cfg0.N = (val_main_v59 (F := Ideal) (arrX m c) (arrG m c) (arrW m c) : S8192x2816.Idx → EReal)
    ∧ (dats m 0 c).arrAt 11 cfg0.N = (val_main_v60 (F := Ideal) (arrX m c) (arrG m c) (arrW m c) (arrT m c) (arrB m c) : S8192x2816.Idx → EReal)
    ∧ (dats m 0 c).arrAt 12 cfg0.N = (val_main_v61 (F := Ideal) (arrX m c) (arrG m c) (arrW m c) (arrT m c) (arrB m c) : S8192x2816.Idx → EReal)
    ∧ (dats m 0 c).arrAt 13 cfg0.N = (val_main_v62 (F := Ideal) (arrX m c) (arrG m c) (arrW m c) (arrT m c) (arrB m c) : S8192x2816.Idx → EReal) := by
  refine ⟨?_, ?_, ?_, ?_, ?_⟩
  all_goals
    refine (dats m 0 c).arrAt_eq_of_covers _ _ (by decide +kernel) fun t hf y => ?_
    blk_simp
    obtain ⟨a, i, rfl⟩ : ∃ (a : Fin 512) (i : Fin 1408), y = ix2 a i := ⟨y 0, y 1, ValueIdx.eq_ix2 y⟩
    obtain ⟨e9, e10, e11, e12, e13⟩ := index_out t
    first
      | (rw [after_9]; refine (point9 t a i).trans ?_)
      | (rw [after_10]; refine (point10 t a i).trans ?_)
      | (rw [after_11]; refine (point11 t a i).trans ?_)
      | (rw [after_12]; refine (point12 t a i).trans ?_)
      | (rw [after_13]; refine (point13 t a i).trans ?_)
    refine congrArg _ ?_
    funext d
    match d with
    | ⟨0, _⟩ =>
      refine Fin.ext ?_
      blk_simp
      show 512 * (t.val / 2) + a.val = _ * 512 + a.val
      first | rw [e9] | rw [e10] | rw [e11] | rw [e12] | rw [e13]
      exact congrArg (· + a.val) (Nat.mul_comm _ _)
    | ⟨1, _⟩ =>
      refine Fin.ext ?_
      blk_simp
      show 1408 * (t.val % 2) + i.val = _ * 1408 + i.val
      first | rw [e9] | rw [e10] | rw [e11] | rw [e12] | rw [e13]
      exact congrArg (· + i.val) (Nat.mul_comm _ _)

end Blocks

/-- The results after the run, and the arguments. -/
theorem run_blocks (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v5_0) = (dats m 0 c).arrAt 8 cfg0.N
      ∧ r.2.mem ((c : Thread nD τ).loc main_v5_1) = (dats m 0 c).arrAt 9 cfg0.N
      ∧ r.2.mem ((c : Thread nD τ).loc main_v5_2) = (dats m 0 c).arrAt 10 cfg0.N
      ∧ r.2.mem ((c : Thread nD τ).loc main_v5_3) = (dats m 0 c).arrAt 11 cfg0.N
      ∧ r.2.mem ((c : Thread nD τ).loc main_v5_4) = (dats m 0 c).arrAt 12 cfg0.N
      ∧ r.2.mem ((c : Thread nD τ).loc main_v5_5) = (dats m 0 c).arrAt 13 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 8, (h c).1 9, (h c).1 10, (h c).1 11, (h c).1 12, (h c).1 13,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 5).trans (((dats m 0 c).arrAt_in 5 rfl _).trans ((A_eq m c 5).trans (V_main_arg3 m c))),
      ((h c).2 main_arg4 (Pipeline.mem_restRefs_of main_arg4 (by decide) (by decide))).trans (V_main_arg4 m c)⟩) (run_main m ρ)

theorem reference : Cert.quiescent_Reference16Ideal (hReference16Ideal := Cert.Reference16Ideal.Gen.facts) := fun m ρ _ =>
  (θ_run Cert.Reference16Ideal.defs _ _).mono (fun r h => ⟨fun c => (h c).2.2.2.2.2.2, Idealize.ShloMosaic.sem_eq_zero_of_no_sems (by decide) r.2⟩)
    (Cert.Reference16Ideal.Value.run (F := Ideal) m ρ)

set_option maxHeartbeats 800000 in
/-- The kernel and the reference compute the same arrays, of any arguments. -/
theorem algebraic : Cert.algebraic_Kernel16Ideal_Reference16Ideal (hKernel16Ideal := Cert.Kernel16Ideal.Gen.facts) (hReference16Ideal := Cert.Reference16Ideal.Gen.facts) := by
  pair_intro
  · run_from run_blocks m g
  · refine (θ_run Cert.Reference16Ideal.defs _ _).mono (fun r h c => ?_) (Cert.Reference16Ideal.Value.run (F := Ideal) m' g')
    obtain ⟨h0, h1, h2, h3, h4, h5, hk⟩ := h c
    obtain ⟨e0, e1, e2, e3, e4⟩ := hagree c
    refine ⟨(h0.trans (val_main_v57_eq ..)).trans ?_, (h1.trans (val_main_v58_eq ..)).trans ?_, (h2.trans (val_main_v59_eq ..)).trans ?_, (h3.trans (val_main_v60_eq ..)).trans ?_, (h4.trans (val_main_v61_eq ..)).trans ?_, (h5.trans (val_main_v62_eq ..)).trans ?_, hk⟩
    · rw [e0, e1]
      exact (out8 (m := m) (c := c)).symm
    · rw [e0, e1, e2]
      exact (outs (m := m) (c := c)).1.symm
    · rw [e0, e1, e2]
      exact (outs (m := m) (c := c)).2.1.symm
    · rw [e0, e1, e2, e3, e4]
      exact (outs (m := m) (c := c)).2.2.1.symm
    · rw [e0, e1, e2, e3, e4]
      exact (outs (m := m) (c := c)).2.2.2.1.symm
    · rw [e0, e1, e2, e3, e4]
      exact (outs (m := m) (c := c)).2.2.2.2.symm

end Cert.UpForward
-- ==== Proof.InWords.lean ====
/- The input projection's program on machine words has the text of its ideal reading: the two tables of bodies are the same,
   so the run proved in `Cert.InFrame` for any floats is a run of it too. -/
module

public import proofs.«01_k».proof.Proof.InFrame
public import proofs.«01_k».proof.Defs
public import proofs.«01_k».proof.Proof.Gen.Kernel14
public import proofs.«01_k».proof.Proof.Gen.Kernel14Ideal

@[expose] public section

set_option maxRecDepth 16384

noncomputable section

namespace Cert.InWords

open Idealize.ShloMosaic Idealize.ShloMosaic.TcCoe

/-- The two programs' bodies are the same. -/
theorem tables : @Kernel14.defs₀ Bits _ Kernel14.Gen.facts = @Kernel14Ideal.defs₀ Bits _ Kernel14Ideal.Gen.facts := by
  unfold Kernel14.defs₀ Kernel14Ideal.defs₀
  refine congrArg Defs.onTc (funext fun l => funext fun x => ?_)
  match l, x with
  | ⟨0, _⟩, (t, s) => rfl

/-- The program on machine words ends, with its arguments as they were. -/
theorem quiescent : Cert.quiescent_Kernel14 (hKernel14 := Cert.Kernel14.Gen.facts) := fun m ρ _ => by
  unfold Kernel14.defs
  rw [tables]
  exact @Cert.InFrame.frame Bits _ m ρ

end Cert.InWords
-- ==== Proof.UpWords.lean ====
/- The up projection's program on machine words has the text of its ideal reading: the two tables of bodies are the same,
   so the run proved in `Cert.UpFrame` for any floats is a run of it too. -/
module

public import proofs.«01_k».proof.Proof.UpFrame
public import proofs.«01_k».proof.Defs
public import proofs.«01_k».proof.Proof.Gen.Kernel16
public import proofs.«01_k».proof.Proof.Gen.Kernel16Ideal

@[expose] public section

set_option maxRecDepth 16384

noncomputable section

namespace Cert.UpWords

open Idealize.ShloMosaic Idealize.ShloMosaic.TcCoe

/-- On machine words a named constant is the word it is printed with. -/
instance : Named Bits where
  named _ _ {φ} b := Scalar.ofBits φ b

/-- The two programs' bodies are the same. -/
theorem tables : @Kernel16.defs₀ Bits _ Kernel16.Gen.facts = @Kernel16Ideal.defs₀ Bits _ _ Kernel16Ideal.Gen.facts := by
  unfold Kernel16.defs₀ Kernel16Ideal.defs₀
  refine congrArg Defs.onTc (funext fun l => funext fun x => ?_)
  match l, x with
  | ⟨0, _⟩, (t, s) => rfl

/-- The program on machine words ends, with its arguments as they were. -/
theorem quiescent : Cert.quiescent_Kernel16 (hKernel16 := Cert.Kernel16.Gen.facts) := fun m ρ _ => by
  unfold Kernel16.defs
  rw [tables]
  exact @Cert.UpFrame.frame Bits _ _ m ρ

end Cert.UpWords
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Reference16Ideal.Run
public import proofs.«01_k».proof.Proof.Gen.Reference16Ideal.Read
public import proofs.«01_k».proof.Proof.Gen.Pre_in_grad_finite
public import proofs.«01_k».proof.Proof.Gen.Pre_out_grad_finite
public import proofs.«01_k».proof.Proof.Gen.Pre_mix_grad_finite
public import proofs.«01_k».proof.Proof.Finite
public import proofs.«01_k».proof.Proof.KernelValue
public import proofs.«01_k».proof.Proof.UpWeight
public import proofs.«01_k».proof.Proof.DownWeight
public import proofs.«01_k».proof.Proof.MixWeight
public import proofs.«01_k».proof.Proof.AOutWeight
public import proofs.«01_k».proof.Proof.PleWeight
public import proofs.«01_k».proof.Proof.GkWeight
public import proofs.«01_k».proof.Proof.LrWeight
public import proofs.«01_k».proof.Proof.InGrad
public import proofs.«01_k».proof.Proof.OutGrad
public import proofs.«01_k».proof.Proof.MixGrad
public import proofs.«01_k».proof.Proof.MixForward
public import proofs.«01_k».proof.Proof.OutForward
public import proofs.«01_k».proof.Proof.InForward
public import proofs.«01_k».proof.Proof.SmallUpdate
public import proofs.«01_k».proof.Proof.UpForward
public import proofs.«01_k».proof.Proof.InFrame
public import proofs.«01_k».proof.Proof.InWords
public import proofs.«01_k».proof.Proof.UpFrame
public import proofs.«01_k».proof.Proof.UpWords
public import Idealize.ShloMosaic.Adequacy
public import Idealize.ShloMosaic.Init

@[expose] public section

noncomputable section

namespace Cert.Proof

open Idealize.ShloMosaic Idealize.SL.Sem Cert.Kernel

/-- The four constants the kernel rounds to bf16 are the values the certificate names. -/
theorem preserves : Cert.preserves_Kernel_KernelIdeal :=
  ⟨IdealRules.named_const.statement Cert.KernelIdeal.κ "gelu_c" .bf16 0x3F4C#16 ((6693141 / 8388608 : ℝ) : EReal) rfl,
    IdealRules.named_const.statement Cert.KernelIdeal.κ "gelu_a" .bf16 0x3D37#16 ((12003091 / 268435456 : ℝ) : EReal) rfl,
    IdealRules.named_const.statement Cert.KernelIdeal.κ "six_gelu_ca" .bf16 0x3E5B#16 ((241015141496493 / 1125899906842624 : ℝ) : EReal) rfl,
    IdealRules.named_const.statement Cert.KernelIdeal.κ "two_gelu_c" .bf16 0x3FCC#16 ((6693141 / 4194304 : ℝ) : EReal) rfl⟩

/-- The two of them that the up projection's forward call rounds are the same values. -/
theorem preserves_up : Cert.preserves_Kernel16_Kernel16Ideal :=
  ⟨IdealRules.named_const.statement Cert.Kernel16Ideal.κ "gelu_a" .bf16 0x3D37#16 ((12003091 / 268435456 : ℝ) : EReal) rfl,
    IdealRules.named_const.statement Cert.Kernel16Ideal.κ "gelu_c" .bf16 0x3F4C#16 ((6693141 / 8388608 : ℝ) : EReal) rfl⟩

theorem reference : Cert.quiescent_ReferenceIdeal (hReferenceIdeal := Cert.ReferenceIdeal.Gen.facts) := fun m ρ _ =>
  (θ_run Cert.ReferenceIdeal.defs _ _).mono (fun r h => ⟨fun c => (h c).2.2.2.2.2, Idealize.ShloMosaic.sem_eq_zero_of_no_sems (by decide) r.2⟩)
    (Cert.ReferenceIdeal.Value.run (F := Ideal) m ρ)

/-- The kernel and the reference compute the same five arrays of real arguments: both are the tables of `Spec`. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  pair_intro
  · run_from Cert.KernelIdeal.Value.run_blocks m g
  · refine (θ_run Cert.ReferenceIdeal.defs _ _).mono (fun r h c => ?_) (Cert.ReferenceIdeal.Value.run (F := Ideal) m' g')
    obtain ⟨h0, h1, h2, h3, h4, hk⟩ := h c
    obtain ⟨e0, e1, e2, e3, e4, e5, e6⟩ := hagree c
    obtain ⟨D, H⟩ := (⟨_, Cert.Finite.holds _ (hpre c)⟩ : ∃ D, Cert.RefValue.Holds D _ _ _ _ _ _)
    have H' := H
    rw [← e0, ← e1, ← e2, ← e3, ← e4, ← e6] at H'
    refine ⟨(h0.trans (Cert.ReferenceIdeal.Read.val_main_v141_eq _)).trans ?_, (h1.trans (Cert.ReferenceIdeal.Read.val_main_v115_eq _)).trans ?_,
      (h2.trans (Cert.ReferenceIdeal.Read.val_main_v142_eq _)).trans ?_, (h3.trans (Cert.ReferenceIdeal.Read.val_main_v143_eq _)).trans ?_,
      (h4.trans (Cert.ReferenceIdeal.Read.val_main_v144_eq _)).trans ?_, hk⟩
    · funext j
      obtain ⟨r', J, rfl⟩ : ∃ (r' : Fin 8192) (J : Fin 5632), j = ix2 r' J := ⟨j 0, j 1, ValueIdx.eq_ix2 j⟩
      exact (Cert.RefValue.v141 H' r' J).trans (Cert.KernelValue.out13 H r' J).symm
    · funext j
      obtain ⟨k, J, rfl⟩ : ∃ (k : Fin 3) (J : Fin 5632), j = ix2 k J := ⟨j 0, j 1, ValueIdx.eq_ix2 j⟩
      exact (Cert.RefValue.v115 H' k J).trans (Cert.KernelValue.out14 H k J).symm
    · funext j
      obtain ⟨z, J, rfl⟩ : ∃ (z : Fin 1) (J : Fin 5632), j = ix2 z J := ⟨j 0, j 1, ValueIdx.eq_ix2 j⟩
      exact (Cert.RefValue.v142 H' z J).trans (Cert.KernelValue.out15 H z J).symm
    · funext j
      obtain ⟨r', i, rfl⟩ : ∃ (r' : Fin 8192) (i : Fin 1024), j = ix2 r' i := ⟨j 0, j 1, ValueIdx.eq_ix2 j⟩
      exact (Cert.RefValue.v143 H' _ r' i).trans ((congrArg (fun x : EReal => x + (D.dx r'.val i.val : EReal)) (congrFun e5 (ix2 r' i))).trans (Cert.KernelValue.out16 H r' i).symm)
    · funext j
      obtain ⟨z, i, rfl⟩ : ∃ (z : Fin 1) (i : Fin 1024), j = ix2 z i := ⟨j 0, j 1, ValueIdx.eq_ix2 j⟩
      exact (Cert.RefValue.v144 H' z i).trans (Cert.KernelValue.out17 H z i).symm

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts,
    Cert.Kernel4Ideal.Gen.facts, Cert.Reference4Ideal.Gen.facts, Cert.Kernel5.Gen.facts, Cert.Kernel5Ideal.Gen.facts, Cert.Reference5Ideal.Gen.facts,
    Cert.Kernel6.Gen.facts, Cert.Kernel6Ideal.Gen.facts, Cert.Reference6Ideal.Gen.facts, Cert.Kernel7.Gen.facts, Cert.Kernel7Ideal.Gen.facts,
    Cert.Reference7Ideal.Gen.facts, Cert.Kernel8.Gen.facts, Cert.Kernel8Ideal.Gen.facts, Cert.Reference8Ideal.Gen.facts, Cert.Kernel9.Gen.facts,
    Cert.Kernel9Ideal.Gen.facts, Cert.Reference9Ideal.Gen.facts, Cert.Kernel10.Gen.facts, Cert.Kernel10Ideal.Gen.facts,
    Cert.Reference10Ideal.Gen.facts, Cert.Kernel11.Gen.facts, Cert.Kernel11Ideal.Gen.facts, Cert.Reference11Ideal.Gen.facts, Cert.Kernel12.Gen.facts,
    Cert.Kernel12Ideal.Gen.facts, Cert.Reference12Ideal.Gen.facts, Cert.Kernel13.Gen.facts, Cert.Kernel13Ideal.Gen.facts,
    Cert.Reference13Ideal.Gen.facts, Cert.Kernel14.Gen.facts, Cert.Kernel14Ideal.Gen.facts, Cert.Reference14Ideal.Gen.facts, Cert.Kernel15.Gen.facts,
    Cert.Kernel15Ideal.Gen.facts, Cert.Reference15Ideal.Gen.facts, Cert.Kernel16.Gen.facts, Cert.Kernel16Ideal.Gen.facts,
    Cert.Reference16Ideal.Gen.facts, Cert.Pre_finite.Gen.facts, Cert.Pre_in_grad_finite.Gen.facts, Cert.Pre_out_grad_finite.Gen.facts,
    Cert.Pre_mix_grad_finite.Gen.facts, by
  exact ⟨fun m ρ _ => Cert.Kernel.Gen.frame m ρ, fun m ρ _ => Cert.KernelIdeal.Gen.frame m ρ, fun m ρ _ => Cert.KernelIdeal.Gen.frame m ρ, reference,
    fun m ρ _ => reference m ρ trivial, fun m ρ _ => Cert.Kernel2.Gen.frame m ρ, fun m ρ _ => Cert.Kernel2Ideal.Gen.frame m ρ,
    Cert.UpWeight.reference, fun m ρ _ => Cert.Kernel3.Gen.frame m ρ, fun m ρ _ => Cert.Kernel3Ideal.Gen.frame m ρ, Cert.DownWeight.reference,
    fun m ρ _ => Cert.Kernel4.Gen.frame m ρ, fun m ρ _ => Cert.Kernel4Ideal.Gen.frame m ρ, Cert.MixWeight.reference,
    fun m ρ _ => Cert.Kernel5.Gen.frame m ρ, fun m ρ _ => Cert.Kernel5Ideal.Gen.frame m ρ, Cert.AOutWeight.reference,
    fun m ρ _ => Cert.Kernel6.Gen.frame m ρ, fun m ρ _ => Cert.Kernel6Ideal.Gen.frame m ρ, Cert.PleWeight.reference,
    fun m ρ _ => Cert.Kernel7.Gen.frame m ρ, fun m ρ _ => Cert.Kernel7Ideal.Gen.frame m ρ, Cert.GkWeight.reference,
    fun m ρ _ => Cert.Kernel8.Gen.frame m ρ, fun m ρ _ => Cert.Kernel8Ideal.Gen.frame m ρ, Cert.LrWeight.reference,
    fun m ρ _ => Cert.Kernel9.Gen.frame m ρ, fun m ρ _ => Cert.Kernel9Ideal.Gen.frame m ρ, fun m ρ _ => Cert.Kernel9Ideal.Gen.frame m ρ,
    Cert.InGrad.reference, fun m ρ _ => Cert.InGrad.reference m ρ trivial, fun m ρ _ => Cert.Kernel10.Gen.frame m ρ,
    fun m ρ _ => Cert.Kernel10Ideal.Gen.frame m ρ, fun m ρ _ => Cert.Kernel10Ideal.Gen.frame m ρ, Cert.OutGrad.reference,
    fun m ρ _ => Cert.OutGrad.reference m ρ trivial, fun m ρ _ => Cert.Kernel11.Gen.frame m ρ, fun m ρ _ => Cert.Kernel11Ideal.Gen.frame m ρ,
    fun m ρ _ => Cert.Kernel11Ideal.Gen.frame m ρ, Cert.MixGrad.reference, fun m ρ _ => Cert.MixGrad.reference m ρ trivial,
    fun m ρ _ => Cert.Kernel12.Gen.frame m ρ, fun m ρ _ => Cert.Kernel12Ideal.Gen.frame m ρ, Cert.MixForward.reference,
    fun m ρ _ => Cert.Kernel13.Gen.frame m ρ, fun m ρ _ => Cert.Kernel13Ideal.Gen.frame m ρ, Cert.OutForward.reference, Cert.InWords.quiescent,
    fun m ρ _ => Cert.InFrame.frame m ρ, Cert.InForward.reference, fun m ρ _ => Cert.Kernel15.Gen.frame m ρ,
    fun m ρ _ => Cert.Kernel15Ideal.Gen.frame m ρ, Cert.SmallUpdate.reference, Cert.UpWords.quiescent, fun m ρ _ => Cert.UpFrame.frame m ρ,
    Cert.UpForward.reference, preserves, algebraic, trivial, Cert.UpWeight.algebraic, trivial, Cert.DownWeight.algebraic, trivial,
    Cert.MixWeight.algebraic, trivial, Cert.AOutWeight.algebraic, trivial, Cert.PleWeight.algebraic, trivial, Cert.GkWeight.algebraic, trivial,
    Cert.LrWeight.algebraic, trivial, Cert.InGrad.algebraic, trivial, Cert.OutGrad.algebraic, trivial, Cert.MixGrad.algebraic, trivial,
    Cert.MixForward.algebraic, trivial, Cert.OutForward.algebraic, trivial, Cert.InForward.algebraic, trivial, Cert.SmallUpdate.algebraic,
    preserves_up, Cert.UpForward.algebraic⟩⟩

end Cert.Proof

end
